-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WgradGateUp (m : (ℓ : Loc Cert.WgradGateUp.nD Cert.WgradGateUp.τ Cert.WgradGateUp.sig) → Buf (Elt Bits) ℓ) : Prop :=
  True

def Pre_WgradGateUpIdeal (m : (ℓ : Loc Cert.WgradGateUpIdeal.nD Cert.WgradGateUpIdeal.τ Cert.WgradGateUpIdeal.sig) → Buf (Elt Ideal) ℓ) : Prop :=
  True

def Pre_WgradGateUpRefIdeal (m : (ℓ : Loc Cert.WgradGateUpRefIdeal.nD Cert.WgradGateUpRefIdeal.τ Cert.WgradGateUpRefIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownRefIdeal (m : (ℓ : Loc Cert.WgradDownRefIdeal.nD Cert.WgradDownRefIdeal.τ Cert.WgradDownRefIdeal.sig) → Buf (Elt Ideal) ℓ) : Prop :=
  True

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdRefIdeal (m : (ℓ : Loc Cert.OutProjBwdRefIdeal.nD Cert.OutProjBwdRefIdeal.τ Cert.OutProjBwdRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInRefIdeal (m : (ℓ : Loc Cert.WgradInRefIdeal.nD Cert.WgradInRefIdeal.τ Cert.WgradInRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_finite_in_proj [hPre_finite_in_proj : Cert.Pre_finite_in_proj.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.2.1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.2.2.1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.2.2.2.1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.2.2.2.2.1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.2.2.2.2.2.1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.2.2.2.2.2.2.1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.2.2.2.2.2.2.2.1 = (fun _ => 1#1)
    ∧ (Cert.Pre_finite_in_proj.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))).2.2.2.2.2.2.2.2.2 = (fun _ => 1#1)

def Pre_InProjBwdRefIdeal (m : (ℓ : Loc Cert.InProjBwdRefIdeal.nD Cert.InProjBwdRefIdeal.τ Cert.InProjBwdRefIdeal.sig) → Buf (Elt Ideal) ℓ) : Prop :=
  True

def Pre_InProjBwdRefIdeal_finite_in_proj [hPre_finite_in_proj : Cert.Pre_finite_in_proj.Facts] (m : (ℓ : Loc Cert.InProjBwdRefIdeal.nD Cert.InProjBwdRefIdeal.τ Cert.InProjBwdRefIdeal.sig) → Buf (Elt Ideal) ℓ) : Prop :=
  ∀ c : Dev Cert.InProjBwdRefIdeal.nD,
    (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.2.1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.2.2.1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.2.2.2.1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.2.2.2.2.1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.2.2.2.2.2.1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.2.2.2.2.2.2.1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.2.2.2.2.2.2.2.1 = (fun _ => 1#1)
    ∧ (Cert.Pre_finite_in_proj.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))).2.2.2.2.2.2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2.2 = (fun _ => 1#1)

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwGate (m : (ℓ : Loc Cert.AdamwGate.nD Cert.AdamwGate.τ Cert.AdamwGate.sig) → Buf (Elt Bits) ℓ) : Prop :=
  True

def Pre_AdamwGateIdeal (m : (ℓ : Loc Cert.AdamwGateIdeal.nD Cert.AdamwGateIdeal.τ Cert.AdamwGateIdeal.sig) → Buf (Elt Ideal) ℓ) : Prop :=
  True

def Pre_AdamwGateRefIdeal (m : (ℓ : Loc Cert.AdamwGateRefIdeal.nD Cert.AdamwGateRefIdeal.τ Cert.AdamwGateRefIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownRefIdeal (m : (ℓ : Loc Cert.AdamwDownRefIdeal.nD Cert.AdamwDownRefIdeal.τ Cert.AdamwDownRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WgradGateUp [hWgradGateUp : Cert.WgradGateUp.Facts] : Prop :=
  ∀ (m : (ℓ : Loc Cert.WgradGateUp.nD Cert.WgradGateUp.τ Cert.WgradGateUp.sig) → Buf (Elt Bits) ℓ) (g : Dev Cert.WgradGateUp.nD → PrngReg), Pre_WgradGateUp m →
    θ_run (Cert.WgradGateUp.defs (F := Bits)) (onTc (τ := Cert.WgradGateUp.τ) (Cert.WgradGateUp.main (F := Bits))) ⟨m, fun _ => 0, g⟩ (fun r => (∀ c : Dev Cert.WgradGateUp.nD,
      r.2.mem ((c.tc : Thread Cert.WgradGateUp.nD Cert.WgradGateUp.τ).loc Cert.WgradGateUp.main_arg0) = m ((c.tc : Thread Cert.WgradGateUp.nD Cert.WgradGateUp.τ).loc Cert.WgradGateUp.main_arg0)
      ∧ r.2.mem ((c.tc : Thread Cert.WgradGateUp.nD Cert.WgradGateUp.τ).loc Cert.WgradGateUp.main_arg1) = m ((c.tc : Thread Cert.WgradGateUp.nD Cert.WgradGateUp.τ).loc Cert.WgradGateUp.main_arg1)
      ∧ r.2.mem ((c.tc : Thread Cert.WgradGateUp.nD Cert.WgradGateUp.τ).loc Cert.WgradGateUp.main_arg2) = m ((c.tc : Thread Cert.WgradGateUp.nD Cert.WgradGateUp.τ).loc Cert.WgradGateUp.main_arg2))
      ∧ r.2.sem = fun _ => 0)

def quiescent_WgradGateUpIdeal [hWgradGateUpIdeal : Cert.WgradGateUpIdeal.Facts] : Prop :=
  ∀ (m : (ℓ : Loc Cert.WgradGateUpIdeal.nD Cert.WgradGateUpIdeal.τ Cert.WgradGateUpIdeal.sig) → Buf (Elt Ideal) ℓ) (g : Dev Cert.WgradGateUpIdeal.nD → PrngReg), Pre_WgradGateUpIdeal m →
    θ_run (Cert.WgradGateUpIdeal.defs (F := Ideal)) (onTc (τ := Cert.WgradGateUpIdeal.τ) (Cert.WgradGateUpIdeal.main (F := Ideal))) ⟨m, fun _ => 0, g⟩ (fun r => (∀ c : Dev Cert.WgradGateUpIdeal.nD,
      r.2.mem ((c.tc : Thread Cert.WgradGateUpIdeal.nD Cert.WgradGateUpIdeal.τ).loc Cert.WgradGateUpIdeal.main_arg0) = m ((c.tc : Thread Cert.WgradGateUpIdeal.nD Cert.WgradGateUpIdeal.τ).loc Cert.WgradGateUpIdeal.main_arg0)
      ∧ r.2.mem ((c.tc : Thread Cert.WgradGateUpIdeal.nD Cert.WgradGateUpIdeal.τ).loc Cert.WgradGateUpIdeal.main_arg1) = m ((c.tc : Thread Cert.WgradGateUpIdeal.nD Cert.WgradGateUpIdeal.τ).loc Cert.WgradGateUpIdeal.main_arg1)
      ∧ r.2.mem ((c.tc : Thread Cert.WgradGateUpIdeal.nD Cert.WgradGateUpIdeal.τ).loc Cert.WgradGateUpIdeal.main_arg2) = m ((c.tc : Thread Cert.WgradGateUpIdeal.nD Cert.WgradGateUpIdeal.τ).loc Cert.WgradGateUpIdeal.main_arg2))
      ∧ r.2.sem = fun _ => 0)

def quiescent_WgradGateUpRefIdeal [hWgradGateUpRefIdeal : Cert.WgradGateUpRefIdeal.Facts] : Prop :=
  ∀ (m : (ℓ : Loc Cert.WgradGateUpRefIdeal.nD Cert.WgradGateUpRefIdeal.τ Cert.WgradGateUpRefIdeal.sig) → Buf (Elt Ideal) ℓ) (g : Dev Cert.WgradGateUpRefIdeal.nD → PrngReg), Pre_WgradGateUpRefIdeal m →
    θ_run (Cert.WgradGateUpRefIdeal.defs (F := Ideal)) (onTc (τ := Cert.WgradGateUpRefIdeal.τ) (Cert.WgradGateUpRefIdeal.main (F := Ideal))) ⟨m, fun _ => 0, g⟩ (fun r => (∀ c : Dev Cert.WgradGateUpRefIdeal.nD,
      r.2.mem ((c.tc : Thread Cert.WgradGateUpRefIdeal.nD Cert.WgradGateUpRefIdeal.τ).loc Cert.WgradGateUpRefIdeal.main_arg0) = m ((c.tc : Thread Cert.WgradGateUpRefIdeal.nD Cert.WgradGateUpRefIdeal.τ).loc Cert.WgradGateUpRefIdeal.main_arg0)
      ∧ r.2.mem ((c.tc : Thread Cert.WgradGateUpRefIdeal.nD Cert.WgradGateUpRefIdeal.τ).loc Cert.WgradGateUpRefIdeal.main_arg1) = m ((c.tc : Thread Cert.WgradGateUpRefIdeal.nD Cert.WgradGateUpRefIdeal.τ).loc Cert.WgradGateUpRefIdeal.main_arg1)
      ∧ r.2.mem ((c.tc : Thread Cert.WgradGateUpRefIdeal.nD Cert.WgradGateUpRefIdeal.τ).loc Cert.WgradGateUpRefIdeal.main_arg2) = m ((c.tc : Thread Cert.WgradGateUpRefIdeal.nD Cert.WgradGateUpRefIdeal.τ).loc Cert.WgradGateUpRefIdeal.main_arg2))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownRefIdeal [hWgradDownRefIdeal : Cert.WgradDownRefIdeal.Facts] : Prop :=
  ∀ (m : (ℓ : Loc Cert.WgradDownRefIdeal.nD Cert.WgradDownRefIdeal.τ Cert.WgradDownRefIdeal.sig) → Buf (Elt Ideal) ℓ) (g : Dev Cert.WgradDownRefIdeal.nD → PrngReg), Pre_WgradDownRefIdeal m →
    θ_run (Cert.WgradDownRefIdeal.defs (F := Ideal)) (onTc (τ := Cert.WgradDownRefIdeal.τ) (Cert.WgradDownRefIdeal.main (F := Ideal))) ⟨m, fun _ => 0, g⟩ (fun r => (∀ c : Dev Cert.WgradDownRefIdeal.nD,
      r.2.mem ((c.tc : Thread Cert.WgradDownRefIdeal.nD Cert.WgradDownRefIdeal.τ).loc Cert.WgradDownRefIdeal.main_arg0) = m ((c.tc : Thread Cert.WgradDownRefIdeal.nD Cert.WgradDownRefIdeal.τ).loc Cert.WgradDownRefIdeal.main_arg0)
      ∧ r.2.mem ((c.tc : Thread Cert.WgradDownRefIdeal.nD Cert.WgradDownRefIdeal.τ).loc Cert.WgradDownRefIdeal.main_arg1) = m ((c.tc : Thread Cert.WgradDownRefIdeal.nD Cert.WgradDownRefIdeal.τ).loc Cert.WgradDownRefIdeal.main_arg1))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1))
      ∧ r.2.sem = fun _ => 0)

def quiescent_OutProjBwdRefIdeal [hOutProjBwdRefIdeal : Cert.OutProjBwdRefIdeal.Facts] : Prop :=
  ∀ (m : (ℓ : Loc Cert.OutProjBwdRefIdeal.nD Cert.OutProjBwdRefIdeal.τ Cert.OutProjBwdRefIdeal.sig) → Buf (Elt Ideal) ℓ) (g : Dev Cert.OutProjBwdRefIdeal.nD → PrngReg), Pre_OutProjBwdRefIdeal m →
    θ_run (Cert.OutProjBwdRefIdeal.defs (F := Ideal)) (onTc (τ := Cert.OutProjBwdRefIdeal.τ) (Cert.OutProjBwdRefIdeal.main (F := Ideal))) ⟨m, fun _ => 0, g⟩ (fun r => (∀ c : Dev Cert.OutProjBwdRefIdeal.nD,
      r.2.mem ((c.tc : Thread Cert.OutProjBwdRefIdeal.nD Cert.OutProjBwdRefIdeal.τ).loc Cert.OutProjBwdRefIdeal.main_arg0) = m ((c.tc : Thread Cert.OutProjBwdRefIdeal.nD Cert.OutProjBwdRefIdeal.τ).loc Cert.OutProjBwdRefIdeal.main_arg0)
      ∧ r.2.mem ((c.tc : Thread Cert.OutProjBwdRefIdeal.nD Cert.OutProjBwdRefIdeal.τ).loc Cert.OutProjBwdRefIdeal.main_arg1) = m ((c.tc : Thread Cert.OutProjBwdRefIdeal.nD Cert.OutProjBwdRefIdeal.τ).loc Cert.OutProjBwdRefIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1)
      ∧ r.2.mem ((c.tc : Thread Cert.WgradOut.nD Cert.WgradOut.τ).loc Cert.WgradOut.main_arg2) = m ((c.tc : Thread Cert.WgradOut.nD Cert.WgradOut.τ).loc Cert.WgradOut.main_arg2))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
      ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1)
      ∧ r.2.mem ((c.tc : Thread Cert.WgradOutRefIdeal.nD Cert.WgradOutRefIdeal.τ).loc Cert.WgradOutRefIdeal.main_arg2) = m ((c.tc : Thread Cert.WgradOutRefIdeal.nD Cert.WgradOutRefIdeal.τ).loc Cert.WgradOutRefIdeal.main_arg2))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ r.2.sem = fun _ => 0)

def quiescent_WgradInRefIdeal [hWgradInRefIdeal : Cert.WgradInRefIdeal.Facts] : Prop :=
  ∀ (m : (ℓ : Loc Cert.WgradInRefIdeal.nD Cert.WgradInRefIdeal.τ Cert.WgradInRefIdeal.sig) → Buf (Elt Ideal) ℓ) (g : Dev Cert.WgradInRefIdeal.nD → PrngReg), Pre_WgradInRefIdeal m →
    θ_run (Cert.WgradInRefIdeal.defs (F := Ideal)) (onTc (τ := Cert.WgradInRefIdeal.τ) (Cert.WgradInRefIdeal.main (F := Ideal))) ⟨m, fun _ => 0, g⟩ (fun r => (∀ c : Dev Cert.WgradInRefIdeal.nD,
      r.2.mem ((c.tc : Thread Cert.WgradInRefIdeal.nD Cert.WgradInRefIdeal.τ).loc Cert.WgradInRefIdeal.main_arg0) = m ((c.tc : Thread Cert.WgradInRefIdeal.nD Cert.WgradInRefIdeal.τ).loc Cert.WgradInRefIdeal.main_arg0)
      ∧ r.2.mem ((c.tc : Thread Cert.WgradInRefIdeal.nD Cert.WgradInRefIdeal.τ).loc Cert.WgradInRefIdeal.main_arg1) = m ((c.tc : Thread Cert.WgradInRefIdeal.nD Cert.WgradInRefIdeal.τ).loc Cert.WgradInRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8)
      ∧ r.2.mem ((c.tc : Thread Cert.InProjBwd.nD Cert.InProjBwd.τ).loc Cert.InProjBwd.main_arg9) = m ((c.tc : Thread Cert.InProjBwd.nD Cert.InProjBwd.τ).loc Cert.InProjBwd.main_arg9))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ r.2.sem = fun _ => 0)

def quiescent_InProjBwdIdeal_pre_finite_in_proj [hInProjBwdIdeal : Cert.InProjBwdIdeal.Facts] [hPre_finite_in_proj : Cert.Pre_finite_in_proj.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_finite_in_proj m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9))
      ∧ r.2.sem = fun _ => 0)

def quiescent_InProjBwdRefIdeal_pre_finite_in_proj [hInProjBwdRefIdeal : Cert.InProjBwdRefIdeal.Facts] [hPre_finite_in_proj : Cert.Pre_finite_in_proj.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal_finite_in_proj m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwGate [hAdamwGate : Cert.AdamwGate.Facts] : Prop :=
  ∀ (m : (ℓ : Loc Cert.AdamwGate.nD Cert.AdamwGate.τ Cert.AdamwGate.sig) → Buf (Elt Bits) ℓ) (g : Dev Cert.AdamwGate.nD → PrngReg), Pre_AdamwGate m →
    θ_run (Cert.AdamwGate.defs (F := Bits)) (onTc (τ := Cert.AdamwGate.τ) (Cert.AdamwGate.main (F := Bits))) ⟨m, fun _ => 0, g⟩ (fun r => (∀ c : Dev Cert.AdamwGate.nD,
      r.2.mem ((c.tc : Thread Cert.AdamwGate.nD Cert.AdamwGate.τ).loc Cert.AdamwGate.main_arg0) = m ((c.tc : Thread Cert.AdamwGate.nD Cert.AdamwGate.τ).loc Cert.AdamwGate.main_arg0)
      ∧ r.2.mem ((c.tc : Thread Cert.AdamwGate.nD Cert.AdamwGate.τ).loc Cert.AdamwGate.main_arg1) = m ((c.tc : Thread Cert.AdamwGate.nD Cert.AdamwGate.τ).loc Cert.AdamwGate.main_arg1)
      ∧ r.2.mem ((c.tc : Thread Cert.AdamwGate.nD Cert.AdamwGate.τ).loc Cert.AdamwGate.main_arg2) = m ((c.tc : Thread Cert.AdamwGate.nD Cert.AdamwGate.τ).loc Cert.AdamwGate.main_arg2)
      ∧ r.2.mem ((c.tc : Thread Cert.AdamwGate.nD Cert.AdamwGate.τ).loc Cert.AdamwGate.main_arg3) = m ((c.tc : Thread Cert.AdamwGate.nD Cert.AdamwGate.τ).loc Cert.AdamwGate.main_arg3))
      ∧ r.2.sem = fun _ => 0)

def quiescent_AdamwGateIdeal [hAdamwGateIdeal : Cert.AdamwGateIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg), Pre_AdamwGateIdeal m →
    θ_run (Cert.AdamwGateIdeal.defs (F := Ideal)) (onTc (τ := Cert.AdamwGateIdeal.τ) (Cert.AdamwGateIdeal.main (F := Ideal))) ⟨m, fun _ => 0, g⟩ (fun r => (∀ c : Dev Cert.AdamwGateIdeal.nD,
      r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
      ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
      ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
      ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3))
      ∧ r.2.sem = fun _ => 0)

def quiescent_AdamwGateRefIdeal [hAdamwGateRefIdeal : Cert.AdamwGateRefIdeal.Facts] : Prop :=
  ∀ (m : (ℓ : Loc Cert.AdamwGateRefIdeal.nD Cert.AdamwGateRefIdeal.τ Cert.AdamwGateRefIdeal.sig) → Buf (Elt Ideal) ℓ) (g : Dev Cert.AdamwGateRefIdeal.nD → PrngReg), Pre_AdamwGateRefIdeal m →
    θ_run (Cert.AdamwGateRefIdeal.defs (F := Ideal)) (onTc (τ := Cert.AdamwGateRefIdeal.τ) (Cert.AdamwGateRefIdeal.main (F := Ideal))) ⟨m, fun _ => 0, g⟩ (fun r => (∀ c : Dev Cert.AdamwGateRefIdeal.nD,
      r.2.mem ((c.tc : Thread Cert.AdamwGateRefIdeal.nD Cert.AdamwGateRefIdeal.τ).loc Cert.AdamwGateRefIdeal.main_arg0) = m ((c.tc : Thread Cert.AdamwGateRefIdeal.nD Cert.AdamwGateRefIdeal.τ).loc Cert.AdamwGateRefIdeal.main_arg0)
      ∧ r.2.mem ((c.tc : Thread Cert.AdamwGateRefIdeal.nD Cert.AdamwGateRefIdeal.τ).loc Cert.AdamwGateRefIdeal.main_arg1) = m ((c.tc : Thread Cert.AdamwGateRefIdeal.nD Cert.AdamwGateRefIdeal.τ).loc Cert.AdamwGateRefIdeal.main_arg1)
      ∧ r.2.mem ((c.tc : Thread Cert.AdamwGateRefIdeal.nD Cert.AdamwGateRefIdeal.τ).loc Cert.AdamwGateRefIdeal.main_arg2) = m ((c.tc : Thread Cert.AdamwGateRefIdeal.nD Cert.AdamwGateRefIdeal.τ).loc Cert.AdamwGateRefIdeal.main_arg2)
      ∧ r.2.mem ((c.tc : Thread Cert.AdamwGateRefIdeal.nD Cert.AdamwGateRefIdeal.τ).loc Cert.AdamwGateRefIdeal.main_arg3) = m ((c.tc : Thread Cert.AdamwGateRefIdeal.nD Cert.AdamwGateRefIdeal.τ).loc Cert.AdamwGateRefIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownRefIdeal [hAdamwDownRefIdeal : Cert.AdamwDownRefIdeal.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  True

def algebraic_KernelIdeal_ReferenceIdeal_on_conv_columns [hKernelIdeal : Cert.KernelIdeal.Facts] [hReferenceIdeal : Cert.ReferenceIdeal.Facts] [hOn_conv_columns : Cert.On_conv_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 3072]⟩ : Shape).Idx, (Cert.On_conv_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v7_0) i = v0 c i)
          ∧ (∀ i : (⟨2, ![8, 512]⟩ : Shape).Idx, (Cert.On_conv_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v7_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 3072]⟩ : Shape).Idx, (Cert.On_conv_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v72) i = v0 c i)
          ∧ (∀ i : (⟨2, ![8, 512]⟩ : Shape).Idx, (Cert.On_conv_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v73) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_WgradGateUp_WgradGateUpIdeal : Prop :=
  True

def algebraic_WgradGateUpIdeal_WgradGateUpRefIdeal [hWgradGateUpIdeal : Cert.WgradGateUpIdeal.Facts] [hWgradGateUpRefIdeal : Cert.WgradGateUpRefIdeal.Facts] : Prop :=
  ∀ (m : (ℓ : Loc Cert.WgradGateUpIdeal.nD Cert.WgradGateUpIdeal.τ Cert.WgradGateUpIdeal.sig) → Buf (Elt Ideal) ℓ) (g : Dev Cert.WgradGateUpIdeal.nD → PrngReg)
    (m' : (ℓ : Loc Cert.WgradGateUpRefIdeal.nD Cert.WgradGateUpRefIdeal.τ Cert.WgradGateUpRefIdeal.sig) → Buf (Elt Ideal) ℓ) (g' : Dev Cert.WgradGateUpRefIdeal.nD → PrngReg), Pre_WgradGateUpIdeal m →
    (∀ c : Dev Cert.WgradGateUpIdeal.nD,
      m' ((c.tc : Thread Cert.WgradGateUpRefIdeal.nD Cert.WgradGateUpRefIdeal.τ).loc Cert.WgradGateUpRefIdeal.main_arg0) = m ((c.tc : Thread Cert.WgradGateUpIdeal.nD Cert.WgradGateUpIdeal.τ).loc Cert.WgradGateUpIdeal.main_arg0)
      ∧ m' ((c.tc : Thread Cert.WgradGateUpRefIdeal.nD Cert.WgradGateUpRefIdeal.τ).loc Cert.WgradGateUpRefIdeal.main_arg1) = m ((c.tc : Thread Cert.WgradGateUpIdeal.nD Cert.WgradGateUpIdeal.τ).loc Cert.WgradGateUpIdeal.main_arg1)
      ∧ m' ((c.tc : Thread Cert.WgradGateUpRefIdeal.nD Cert.WgradGateUpRefIdeal.τ).loc Cert.WgradGateUpRefIdeal.main_arg2) = m ((c.tc : Thread Cert.WgradGateUpIdeal.nD Cert.WgradGateUpIdeal.τ).loc Cert.WgradGateUpIdeal.main_arg2)) →
    ∃ (v0 : (c : Dev Cert.WgradGateUpIdeal.nD) → Buf (Elt Ideal) ((c.tc : Thread Cert.WgradGateUpIdeal.nD Cert.WgradGateUpIdeal.τ).loc Cert.WgradGateUpIdeal.main_v7_0)) (v1 : (c : Dev Cert.WgradGateUpIdeal.nD) → Buf (Elt Ideal) ((c.tc : Thread Cert.WgradGateUpIdeal.nD Cert.WgradGateUpIdeal.τ).loc Cert.WgradGateUpIdeal.main_v7_1)),
      θ_run (Cert.WgradGateUpIdeal.defs (F := Ideal)) (onTc (τ := Cert.WgradGateUpIdeal.τ) (Cert.WgradGateUpIdeal.main (F := Ideal))) ⟨m, fun _ => 0, g⟩ (fun r => ∀ c : Dev Cert.WgradGateUpIdeal.nD,
          r.2.mem ((c.tc : Thread Cert.WgradGateUpIdeal.nD Cert.WgradGateUpIdeal.τ).loc Cert.WgradGateUpIdeal.main_v7_0) = v0 c
          ∧ r.2.mem ((c.tc : Thread Cert.WgradGateUpIdeal.nD Cert.WgradGateUpIdeal.τ).loc Cert.WgradGateUpIdeal.main_v7_1) = v1 c
          ∧ r.2.mem ((c.tc : Thread Cert.WgradGateUpIdeal.nD Cert.WgradGateUpIdeal.τ).loc Cert.WgradGateUpIdeal.main_arg0) = m ((c.tc : Thread Cert.WgradGateUpIdeal.nD Cert.WgradGateUpIdeal.τ).loc Cert.WgradGateUpIdeal.main_arg0)
          ∧ r.2.mem ((c.tc : Thread Cert.WgradGateUpIdeal.nD Cert.WgradGateUpIdeal.τ).loc Cert.WgradGateUpIdeal.main_arg1) = m ((c.tc : Thread Cert.WgradGateUpIdeal.nD Cert.WgradGateUpIdeal.τ).loc Cert.WgradGateUpIdeal.main_arg1)
          ∧ r.2.mem ((c.tc : Thread Cert.WgradGateUpIdeal.nD Cert.WgradGateUpIdeal.τ).loc Cert.WgradGateUpIdeal.main_arg2) = m ((c.tc : Thread Cert.WgradGateUpIdeal.nD Cert.WgradGateUpIdeal.τ).loc Cert.WgradGateUpIdeal.main_arg2))
      ∧ θ_run (Cert.WgradGateUpRefIdeal.defs (F := Ideal)) (onTc (τ := Cert.WgradGateUpRefIdeal.τ) (Cert.WgradGateUpRefIdeal.main (F := Ideal))) ⟨m', fun _ => 0, g'⟩ (fun r => ∀ c : Dev Cert.WgradGateUpRefIdeal.nD,
          r.2.mem ((c.tc : Thread Cert.WgradGateUpRefIdeal.nD Cert.WgradGateUpRefIdeal.τ).loc Cert.WgradGateUpRefIdeal.main_v8) = v0 c
          ∧ r.2.mem ((c.tc : Thread Cert.WgradGateUpRefIdeal.nD Cert.WgradGateUpRefIdeal.τ).loc Cert.WgradGateUpRefIdeal.main_v10) = v1 c
          ∧ r.2.mem ((c.tc : Thread Cert.WgradGateUpRefIdeal.nD Cert.WgradGateUpRefIdeal.τ).loc Cert.WgradGateUpRefIdeal.main_arg0) = m' ((c.tc : Thread Cert.WgradGateUpRefIdeal.nD Cert.WgradGateUpRefIdeal.τ).loc Cert.WgradGateUpRefIdeal.main_arg0)
          ∧ r.2.mem ((c.tc : Thread Cert.WgradGateUpRefIdeal.nD Cert.WgradGateUpRefIdeal.τ).loc Cert.WgradGateUpRefIdeal.main_arg1) = m' ((c.tc : Thread Cert.WgradGateUpRefIdeal.nD Cert.WgradGateUpRefIdeal.τ).loc Cert.WgradGateUpRefIdeal.main_arg1)
          ∧ r.2.mem ((c.tc : Thread Cert.WgradGateUpRefIdeal.nD Cert.WgradGateUpRefIdeal.τ).loc Cert.WgradGateUpRefIdeal.main_arg2) = m' ((c.tc : Thread Cert.WgradGateUpRefIdeal.nD Cert.WgradGateUpRefIdeal.τ).loc Cert.WgradGateUpRefIdeal.main_arg2))

def preserves_WgradDown_WgradDownIdeal : Prop :=
  True

def algebraic_WgradDownIdeal_WgradDownRefIdeal [hWgradDownIdeal : Cert.WgradDownIdeal.Facts] [hWgradDownRefIdeal : Cert.WgradDownRefIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownRefIdeal.nD Cert.WgradDownRefIdeal.τ Cert.WgradDownRefIdeal.sig) → Buf (Elt Ideal) ℓ) (g' : Dev Cert.WgradDownRefIdeal.nD → PrngReg), Pre_WgradDownIdeal m →
    (∀ c : Dev Cert.WgradDownIdeal.nD,
      m' ((c.tc : Thread Cert.WgradDownRefIdeal.nD Cert.WgradDownRefIdeal.τ).loc Cert.WgradDownRefIdeal.main_arg0) = m ((c.tc : Thread Cert.WgradDownIdeal.nD Cert.WgradDownIdeal.τ).loc Cert.WgradDownIdeal.main_arg0)
      ∧ m' ((c.tc : Thread Cert.WgradDownRefIdeal.nD Cert.WgradDownRefIdeal.τ).loc Cert.WgradDownRefIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v4)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v4) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownRefIdeal.defs (F := Ideal)) (onTc (τ := Cert.WgradDownRefIdeal.τ) (Cert.WgradDownRefIdeal.main (F := Ideal))) ⟨m', fun _ => 0, g'⟩ (fun r => ∀ c : Dev Cert.WgradDownRefIdeal.nD,
          r.2.mem ((c.tc : Thread Cert.WgradDownRefIdeal.nD Cert.WgradDownRefIdeal.τ).loc Cert.WgradDownRefIdeal.main_v4) = v0 c
          ∧ r.2.mem ((c.tc : Thread Cert.WgradDownRefIdeal.nD Cert.WgradDownRefIdeal.τ).loc Cert.WgradDownRefIdeal.main_arg0) = m' ((c.tc : Thread Cert.WgradDownRefIdeal.nD Cert.WgradDownRefIdeal.τ).loc Cert.WgradDownRefIdeal.main_arg0)
          ∧ r.2.mem ((c.tc : Thread Cert.WgradDownRefIdeal.nD Cert.WgradDownRefIdeal.τ).loc Cert.WgradDownRefIdeal.main_arg1) = m' ((c.tc : Thread Cert.WgradDownRefIdeal.nD Cert.WgradDownRefIdeal.τ).loc Cert.WgradDownRefIdeal.main_arg1))

def preserves_OutProjBwd_OutProjBwdIdeal : Prop :=
  True

def algebraic_OutProjBwdIdeal_OutProjBwdRefIdeal [hOutProjBwdIdeal : Cert.OutProjBwdIdeal.Facts] [hOutProjBwdRefIdeal : Cert.OutProjBwdRefIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjBwdRefIdeal.nD Cert.OutProjBwdRefIdeal.τ Cert.OutProjBwdRefIdeal.sig) → Buf (Elt Ideal) ℓ) (g' : Dev Cert.OutProjBwdRefIdeal.nD → PrngReg), Pre_OutProjBwdIdeal m →
    (∀ c : Dev Cert.OutProjBwdIdeal.nD,
      m' ((c.tc : Thread Cert.OutProjBwdRefIdeal.nD Cert.OutProjBwdRefIdeal.τ).loc Cert.OutProjBwdRefIdeal.main_arg0) = m ((c.tc : Thread Cert.OutProjBwdIdeal.nD Cert.OutProjBwdIdeal.τ).loc Cert.OutProjBwdIdeal.main_arg0)
      ∧ m' ((c.tc : Thread Cert.OutProjBwdRefIdeal.nD Cert.OutProjBwdRefIdeal.τ).loc Cert.OutProjBwdRefIdeal.main_arg1) = m ((c.tc : Thread Cert.OutProjBwdIdeal.nD Cert.OutProjBwdIdeal.τ).loc Cert.OutProjBwdIdeal.main_arg1)) →
    ∃ (v0 : (c : Dev Cert.OutProjBwdIdeal.nD) → Buf (Elt Ideal) ((c.tc : Thread Cert.OutProjBwdIdeal.nD Cert.OutProjBwdIdeal.τ).loc Cert.OutProjBwdIdeal.main_v2_0)) (v1 : (c : Dev Cert.OutProjBwdIdeal.nD) → Buf (Elt Ideal) ((c.tc : Thread Cert.OutProjBwdIdeal.nD Cert.OutProjBwdIdeal.τ).loc Cert.OutProjBwdIdeal.main_v2_1)) (v2 : (c : Dev Cert.OutProjBwdIdeal.nD) → Buf (Elt Ideal) ((c.tc : Thread Cert.OutProjBwdIdeal.nD Cert.OutProjBwdIdeal.τ).loc Cert.OutProjBwdIdeal.main_v2_2)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v2_0) = v0 c
          ∧ r.2.mem ((c.tc : Thread Cert.OutProjBwdIdeal.nD Cert.OutProjBwdIdeal.τ).loc Cert.OutProjBwdIdeal.main_v2_1) = v1 c
          ∧ r.2.mem ((c.tc : Thread Cert.OutProjBwdIdeal.nD Cert.OutProjBwdIdeal.τ).loc Cert.OutProjBwdIdeal.main_v2_2) = v2 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1))
      ∧ θ_run (Cert.OutProjBwdRefIdeal.defs (F := Ideal)) (onTc (τ := Cert.OutProjBwdRefIdeal.τ) (Cert.OutProjBwdRefIdeal.main (F := Ideal))) ⟨m', fun _ => 0, g'⟩ (fun r => ∀ c : Dev Cert.OutProjBwdRefIdeal.nD,
          r.2.mem ((c.tc : Thread Cert.OutProjBwdRefIdeal.nD Cert.OutProjBwdRefIdeal.τ).loc Cert.OutProjBwdRefIdeal.main_v6) = v0 c
          ∧ r.2.mem ((c.tc : Thread Cert.OutProjBwdRefIdeal.nD Cert.OutProjBwdRefIdeal.τ).loc Cert.OutProjBwdRefIdeal.main_v5) = v1 c
          ∧ r.2.mem ((c.tc : Thread Cert.OutProjBwdRefIdeal.nD Cert.OutProjBwdRefIdeal.τ).loc Cert.OutProjBwdRefIdeal.main_v7) = v2 c
          ∧ r.2.mem ((c.tc : Thread Cert.OutProjBwdRefIdeal.nD Cert.OutProjBwdRefIdeal.τ).loc Cert.OutProjBwdRefIdeal.main_arg0) = m' ((c.tc : Thread Cert.OutProjBwdRefIdeal.nD Cert.OutProjBwdRefIdeal.τ).loc Cert.OutProjBwdRefIdeal.main_arg0)
          ∧ r.2.mem ((c.tc : Thread Cert.OutProjBwdRefIdeal.nD Cert.OutProjBwdRefIdeal.τ).loc Cert.OutProjBwdRefIdeal.main_arg1) = m' ((c.tc : Thread Cert.OutProjBwdRefIdeal.nD Cert.OutProjBwdRefIdeal.τ).loc Cert.OutProjBwdRefIdeal.main_arg1))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)
      ∧ m' ((c.tc : Thread Cert.WgradOutRefIdeal.nD Cert.WgradOutRefIdeal.τ).loc Cert.WgradOutRefIdeal.main_arg2) = m ((c.tc : Thread Cert.WgradOutIdeal.nD Cert.WgradOutIdeal.τ).loc Cert.WgradOutIdeal.main_arg2)) →
    ∃ (v0 : (c : Dev Cert.WgradOutIdeal.nD) → Buf (Elt Ideal) ((c.tc : Thread Cert.WgradOutIdeal.nD Cert.WgradOutIdeal.τ).loc Cert.WgradOutIdeal.main_v3)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v3) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1)
          ∧ r.2.mem ((c.tc : Thread Cert.WgradOutIdeal.nD Cert.WgradOutIdeal.τ).loc Cert.WgradOutIdeal.main_arg2) = m ((c.tc : Thread Cert.WgradOutIdeal.nD Cert.WgradOutIdeal.τ).loc Cert.WgradOutIdeal.main_arg2))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v5) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1)
          ∧ r.2.mem ((c.tc : Thread Cert.WgradOutRefIdeal.nD Cert.WgradOutRefIdeal.τ).loc Cert.WgradOutRefIdeal.main_arg2) = m' ((c.tc : Thread Cert.WgradOutRefIdeal.nD Cert.WgradOutRefIdeal.τ).loc Cert.WgradOutRefIdeal.main_arg2))

def preserves_WgradIn_WgradInIdeal : Prop :=
  True

def algebraic_WgradInIdeal_WgradInRefIdeal [hWgradInIdeal : Cert.WgradInIdeal.Facts] [hWgradInRefIdeal : Cert.WgradInRefIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInRefIdeal.nD Cert.WgradInRefIdeal.τ Cert.WgradInRefIdeal.sig) → Buf (Elt Ideal) ℓ) (g' : Dev Cert.WgradInRefIdeal.nD → PrngReg), Pre_WgradInIdeal m →
    (∀ c : Dev Cert.WgradInIdeal.nD,
      m' ((c.tc : Thread Cert.WgradInRefIdeal.nD Cert.WgradInRefIdeal.τ).loc Cert.WgradInRefIdeal.main_arg0) = m ((c.tc : Thread Cert.WgradInIdeal.nD Cert.WgradInIdeal.τ).loc Cert.WgradInIdeal.main_arg0)
      ∧ m' ((c.tc : Thread Cert.WgradInRefIdeal.nD Cert.WgradInRefIdeal.τ).loc Cert.WgradInRefIdeal.main_arg1) = m ((c.tc : Thread Cert.WgradInIdeal.nD Cert.WgradInIdeal.τ).loc Cert.WgradInIdeal.main_arg1)) →
    ∃ (v0 : (c : Dev Cert.WgradInIdeal.nD) → Buf (Elt Ideal) ((c.tc : Thread Cert.WgradInIdeal.nD Cert.WgradInIdeal.τ).loc Cert.WgradInIdeal.main_v2)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v2) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ θ_run (Cert.WgradInRefIdeal.defs (F := Ideal)) (onTc (τ := Cert.WgradInRefIdeal.τ) (Cert.WgradInRefIdeal.main (F := Ideal))) ⟨m', fun _ => 0, g'⟩ (fun r => ∀ c : Dev Cert.WgradInRefIdeal.nD,
          r.2.mem ((c.tc : Thread Cert.WgradInRefIdeal.nD Cert.WgradInRefIdeal.τ).loc Cert.WgradInRefIdeal.main_v5) = v0 c
          ∧ r.2.mem ((c.tc : Thread Cert.WgradInRefIdeal.nD Cert.WgradInRefIdeal.τ).loc Cert.WgradInRefIdeal.main_arg0) = m' ((c.tc : Thread Cert.WgradInRefIdeal.nD Cert.WgradInRefIdeal.τ).loc Cert.WgradInRefIdeal.main_arg0)
          ∧ r.2.mem ((c.tc : Thread Cert.WgradInRefIdeal.nD Cert.WgradInRefIdeal.τ).loc Cert.WgradInRefIdeal.main_arg1) = m' ((c.tc : Thread Cert.WgradInRefIdeal.nD Cert.WgradInRefIdeal.τ).loc Cert.WgradInRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)) (v2 : (c : Dev Cert.InProjIdeal.nD) → Buf (Elt Ideal) ((c.tc : Thread Cert.InProjIdeal.nD Cert.InProjIdeal.τ).loc Cert.InProjIdeal.main_v13_2)) (v3 : (c : Dev Cert.InProjIdeal.nD) → Buf (Elt Ideal) ((c.tc : Thread Cert.InProjIdeal.nD Cert.InProjIdeal.τ).loc Cert.InProjIdeal.main_v13_3)) (v4 : (c : Dev Cert.InProjIdeal.nD) → Buf (Elt Ideal) ((c.tc : Thread Cert.InProjIdeal.nD Cert.InProjIdeal.τ).loc Cert.InProjIdeal.main_v13_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_v13_2) = v2 c
          ∧ r.2.mem ((c.tc : Thread Cert.InProjIdeal.nD Cert.InProjIdeal.τ).loc Cert.InProjIdeal.main_v13_3) = v3 c
          ∧ r.2.mem ((c.tc : Thread Cert.InProjIdeal.nD Cert.InProjIdeal.τ).loc Cert.InProjIdeal.main_v13_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v48) = v0 c
          ∧ r.2.mem ((c.tc : Thread Cert.InProjRefIdeal.nD Cert.InProjRefIdeal.τ).loc Cert.InProjRefIdeal.main_v13) = v1 c
          ∧ r.2.mem ((c.tc : Thread Cert.InProjRefIdeal.nD Cert.InProjRefIdeal.τ).loc Cert.InProjRefIdeal.main_v51) = v2 c
          ∧ r.2.mem ((c.tc : Thread Cert.InProjRefIdeal.nD Cert.InProjRefIdeal.τ).loc Cert.InProjRefIdeal.main_v52) = v3 c
          ∧ r.2.mem ((c.tc : Thread Cert.InProjRefIdeal.nD Cert.InProjRefIdeal.τ).loc Cert.InProjRefIdeal.main_v53) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v10_0)) (v1 : (c : Dev Cert.OutProjIdeal.nD) → Buf (Elt Ideal) ((c.tc : Thread Cert.OutProjIdeal.nD Cert.OutProjIdeal.τ).loc Cert.OutProjIdeal.main_v10_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10_0) = v0 c
          ∧ r.2.mem ((c.tc : Thread Cert.OutProjIdeal.nD Cert.OutProjIdeal.τ).loc Cert.OutProjIdeal.main_v10_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v32) = v0 c
          ∧ r.2.mem ((c.tc : Thread Cert.OutProjRefIdeal.nD Cert.OutProjRefIdeal.τ).loc Cert.OutProjRefIdeal.main_v33) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v11_0)) (v1 : (c : Dev Cert.FfnFwdIdeal.nD) → Buf (Elt Ideal) ((c.tc : Thread Cert.FfnFwdIdeal.nD Cert.FfnFwdIdeal.τ).loc Cert.FfnFwdIdeal.main_v11_1)) (v2 : (c : Dev Cert.FfnFwdIdeal.nD) → Buf (Elt Ideal) ((c.tc : Thread Cert.FfnFwdIdeal.nD Cert.FfnFwdIdeal.τ).loc Cert.FfnFwdIdeal.main_v11_2)) (v3 : (c : Dev Cert.FfnFwdIdeal.nD) → Buf (Elt Ideal) ((c.tc : Thread Cert.FfnFwdIdeal.nD Cert.FfnFwdIdeal.τ).loc Cert.FfnFwdIdeal.main_v11_3)) (v4 : (c : Dev Cert.FfnFwdIdeal.nD) → Buf (Elt Ideal) ((c.tc : Thread Cert.FfnFwdIdeal.nD Cert.FfnFwdIdeal.τ).loc Cert.FfnFwdIdeal.main_v11_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v11_0) = v0 c
          ∧ r.2.mem ((c.tc : Thread Cert.FfnFwdIdeal.nD Cert.FfnFwdIdeal.τ).loc Cert.FfnFwdIdeal.main_v11_1) = v1 c
          ∧ r.2.mem ((c.tc : Thread Cert.FfnFwdIdeal.nD Cert.FfnFwdIdeal.τ).loc Cert.FfnFwdIdeal.main_v11_2) = v2 c
          ∧ r.2.mem ((c.tc : Thread Cert.FfnFwdIdeal.nD Cert.FfnFwdIdeal.τ).loc Cert.FfnFwdIdeal.main_v11_3) = v3 c
          ∧ r.2.mem ((c.tc : Thread Cert.FfnFwdIdeal.nD Cert.FfnFwdIdeal.τ).loc Cert.FfnFwdIdeal.main_v11_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v18) = v0 c
          ∧ r.2.mem ((c.tc : Thread Cert.FfnFwdRefIdeal.nD Cert.FfnFwdRefIdeal.τ).loc Cert.FfnFwdRefIdeal.main_v37) = v1 c
          ∧ r.2.mem ((c.tc : Thread Cert.FfnFwdRefIdeal.nD Cert.FfnFwdRefIdeal.τ).loc Cert.FfnFwdRefIdeal.main_v40) = v2 c
          ∧ r.2.mem ((c.tc : Thread Cert.FfnFwdRefIdeal.nD Cert.FfnFwdRefIdeal.τ).loc Cert.FfnFwdRefIdeal.main_v34) = v3 c
          ∧ r.2.mem ((c.tc : Thread Cert.FfnFwdRefIdeal.nD Cert.FfnFwdRefIdeal.τ).loc Cert.FfnFwdRefIdeal.main_v48) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_InProjBwd_InProjBwdIdeal : Prop :=
  True

def algebraic_InProjBwdIdeal_InProjBwdRefIdeal_pre_finite_in_proj [hInProjBwdIdeal : Cert.InProjBwdIdeal.Facts] [hInProjBwdRefIdeal : Cert.InProjBwdRefIdeal.Facts] [hPre_finite_in_proj : Cert.Pre_finite_in_proj.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal_finite_in_proj m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)
      ∧ m' ((c.tc : Thread Cert.InProjBwdRefIdeal.nD Cert.InProjBwdRefIdeal.τ).loc Cert.InProjBwdRefIdeal.main_arg8) = m ((c.tc : Thread Cert.InProjBwdIdeal.nD Cert.InProjBwdIdeal.τ).loc Cert.InProjBwdIdeal.main_arg8)
      ∧ m' ((c.tc : Thread Cert.InProjBwdRefIdeal.nD Cert.InProjBwdRefIdeal.τ).loc Cert.InProjBwdRefIdeal.main_arg9) = m ((c.tc : Thread Cert.InProjBwdIdeal.nD Cert.InProjBwdIdeal.τ).loc Cert.InProjBwdIdeal.main_arg9)) →
    ∃ (v0 : (c : Dev Cert.InProjBwdIdeal.nD) → Buf (Elt Ideal) ((c.tc : Thread Cert.InProjBwdIdeal.nD Cert.InProjBwdIdeal.τ).loc Cert.InProjBwdIdeal.main_v27_0)) (v1 : (c : Dev Cert.InProjBwdIdeal.nD) → Buf (Elt Ideal) ((c.tc : Thread Cert.InProjBwdIdeal.nD Cert.InProjBwdIdeal.τ).loc Cert.InProjBwdIdeal.main_v27_1)) (v2 : (c : Dev Cert.InProjBwdIdeal.nD) → Buf (Elt Ideal) ((c.tc : Thread Cert.InProjBwdIdeal.nD Cert.InProjBwdIdeal.τ).loc Cert.InProjBwdIdeal.main_v27_2)) (v3 : (c : Dev Cert.InProjBwdIdeal.nD) → Buf (Elt Ideal) ((c.tc : Thread Cert.InProjBwdIdeal.nD Cert.InProjBwdIdeal.τ).loc Cert.InProjBwdIdeal.main_v27_3)) (v4 : (c : Dev Cert.InProjBwdIdeal.nD) → Buf (Elt Ideal) ((c.tc : Thread Cert.InProjBwdIdeal.nD Cert.InProjBwdIdeal.τ).loc Cert.InProjBwdIdeal.main_v27_4)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v27_0) = v0 c
          ∧ r.2.mem ((c.tc : Thread Cert.InProjBwdIdeal.nD Cert.InProjBwdIdeal.τ).loc Cert.InProjBwdIdeal.main_v27_1) = v1 c
          ∧ r.2.mem ((c.tc : Thread Cert.InProjBwdIdeal.nD Cert.InProjBwdIdeal.τ).loc Cert.InProjBwdIdeal.main_v27_2) = v2 c
          ∧ r.2.mem ((c.tc : Thread Cert.InProjBwdIdeal.nD Cert.InProjBwdIdeal.τ).loc Cert.InProjBwdIdeal.main_v27_3) = v3 c
          ∧ r.2.mem ((c.tc : Thread Cert.InProjBwdIdeal.nD Cert.InProjBwdIdeal.τ).loc Cert.InProjBwdIdeal.main_v27_4) = v4 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
          ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v135) = v0 c
          ∧ r.2.mem ((c.tc : Thread Cert.InProjBwdRefIdeal.nD Cert.InProjBwdRefIdeal.τ).loc Cert.InProjBwdRefIdeal.main_v136) = v1 c
          ∧ r.2.mem ((c.tc : Thread Cert.InProjBwdRefIdeal.nD Cert.InProjBwdRefIdeal.τ).loc Cert.InProjBwdRefIdeal.main_v137) = v2 c
          ∧ r.2.mem ((c.tc : Thread Cert.InProjBwdRefIdeal.nD Cert.InProjBwdRefIdeal.τ).loc Cert.InProjBwdRefIdeal.main_v138) = v3 c
          ∧ r.2.mem ((c.tc : Thread Cert.InProjBwdRefIdeal.nD Cert.InProjBwdRefIdeal.τ).loc Cert.InProjBwdRefIdeal.main_v139) = v4 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7)
          ∧ r.2.mem ((c.tc : Thread Cert.InProjBwdRefIdeal.nD Cert.InProjBwdRefIdeal.τ).loc Cert.InProjBwdRefIdeal.main_arg8) = m' ((c.tc : Thread Cert.InProjBwdRefIdeal.nD Cert.InProjBwdRefIdeal.τ).loc Cert.InProjBwdRefIdeal.main_arg8)
          ∧ r.2.mem ((c.tc : Thread Cert.InProjBwdRefIdeal.nD Cert.InProjBwdRefIdeal.τ).loc Cert.InProjBwdRefIdeal.main_arg9) = m' ((c.tc : Thread Cert.InProjBwdRefIdeal.nD Cert.InProjBwdRefIdeal.τ).loc Cert.InProjBwdRefIdeal.main_arg9))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v32_0)) (v1 : (c : Dev Cert.FfnBwdIdeal.nD) → Buf (Elt Ideal) ((c.tc : Thread Cert.FfnBwdIdeal.nD Cert.FfnBwdIdeal.τ).loc Cert.FfnBwdIdeal.main_v32_1)) (v2 : (c : Dev Cert.FfnBwdIdeal.nD) → Buf (Elt Ideal) ((c.tc : Thread Cert.FfnBwdIdeal.nD Cert.FfnBwdIdeal.τ).loc Cert.FfnBwdIdeal.main_v32_2)) (v3 : (c : Dev Cert.FfnBwdIdeal.nD) → Buf (Elt Ideal) ((c.tc : Thread Cert.FfnBwdIdeal.nD Cert.FfnBwdIdeal.τ).loc Cert.FfnBwdIdeal.main_v32_3)) (v4 : (c : Dev Cert.FfnBwdIdeal.nD) → Buf (Elt Ideal) ((c.tc : Thread Cert.FfnBwdIdeal.nD Cert.FfnBwdIdeal.τ).loc Cert.FfnBwdIdeal.main_v32_4)) (v5 : (c : Dev Cert.FfnBwdIdeal.nD) → Buf (Elt Ideal) ((c.tc : Thread Cert.FfnBwdIdeal.nD Cert.FfnBwdIdeal.τ).loc Cert.FfnBwdIdeal.main_v32_5)) (v6 : (c : Dev Cert.FfnBwdIdeal.nD) → Buf (Elt Ideal) ((c.tc : Thread Cert.FfnBwdIdeal.nD Cert.FfnBwdIdeal.τ).loc Cert.FfnBwdIdeal.main_v32_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v32_0) = v0 c
          ∧ r.2.mem ((c.tc : Thread Cert.FfnBwdIdeal.nD Cert.FfnBwdIdeal.τ).loc Cert.FfnBwdIdeal.main_v32_1) = v1 c
          ∧ r.2.mem ((c.tc : Thread Cert.FfnBwdIdeal.nD Cert.FfnBwdIdeal.τ).loc Cert.FfnBwdIdeal.main_v32_2) = v2 c
          ∧ r.2.mem ((c.tc : Thread Cert.FfnBwdIdeal.nD Cert.FfnBwdIdeal.τ).loc Cert.FfnBwdIdeal.main_v32_3) = v3 c
          ∧ r.2.mem ((c.tc : Thread Cert.FfnBwdIdeal.nD Cert.FfnBwdIdeal.τ).loc Cert.FfnBwdIdeal.main_v32_4) = v4 c
          ∧ r.2.mem ((c.tc : Thread Cert.FfnBwdIdeal.nD Cert.FfnBwdIdeal.τ).loc Cert.FfnBwdIdeal.main_v32_5) = v5 c
          ∧ r.2.mem ((c.tc : Thread Cert.FfnBwdIdeal.nD Cert.FfnBwdIdeal.τ).loc Cert.FfnBwdIdeal.main_v32_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v48) = v0 c
          ∧ r.2.mem ((c.tc : Thread Cert.FfnBwdRefIdeal.nD Cert.FfnBwdRefIdeal.τ).loc Cert.FfnBwdRefIdeal.main_v49) = v1 c
          ∧ r.2.mem ((c.tc : Thread Cert.FfnBwdRefIdeal.nD Cert.FfnBwdRefIdeal.τ).loc Cert.FfnBwdRefIdeal.main_v50) = v2 c
          ∧ r.2.mem ((c.tc : Thread Cert.FfnBwdRefIdeal.nD Cert.FfnBwdRefIdeal.τ).loc Cert.FfnBwdRefIdeal.main_v51) = v3 c
          ∧ r.2.mem ((c.tc : Thread Cert.FfnBwdRefIdeal.nD Cert.FfnBwdRefIdeal.τ).loc Cert.FfnBwdRefIdeal.main_v54) = v4 c
          ∧ r.2.mem ((c.tc : Thread Cert.FfnBwdRefIdeal.nD Cert.FfnBwdRefIdeal.τ).loc Cert.FfnBwdRefIdeal.main_v57) = v5 c
          ∧ r.2.mem ((c.tc : Thread Cert.FfnBwdRefIdeal.nD Cert.FfnBwdRefIdeal.τ).loc Cert.FfnBwdRefIdeal.main_v60) = v6 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v4_0)) (v1 : (c : Dev Cert.AdamwInIdeal.nD) → Buf (Elt Ideal) ((c.tc : Thread Cert.AdamwInIdeal.nD Cert.AdamwInIdeal.τ).loc Cert.AdamwInIdeal.main_v4_1)) (v2 : (c : Dev Cert.AdamwInIdeal.nD) → Buf (Elt Ideal) ((c.tc : Thread Cert.AdamwInIdeal.nD Cert.AdamwInIdeal.τ).loc Cert.AdamwInIdeal.main_v4_2)) (v3 : (c : Dev Cert.AdamwInIdeal.nD) → Buf (Elt Ideal) ((c.tc : Thread Cert.AdamwInIdeal.nD Cert.AdamwInIdeal.τ).loc Cert.AdamwInIdeal.main_v4_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v4_0) = v0 c
          ∧ r.2.mem ((c.tc : Thread Cert.AdamwInIdeal.nD Cert.AdamwInIdeal.τ).loc Cert.AdamwInIdeal.main_v4_1) = v1 c
          ∧ r.2.mem ((c.tc : Thread Cert.AdamwInIdeal.nD Cert.AdamwInIdeal.τ).loc Cert.AdamwInIdeal.main_v4_2) = v2 c
          ∧ r.2.mem ((c.tc : Thread Cert.AdamwInIdeal.nD Cert.AdamwInIdeal.τ).loc Cert.AdamwInIdeal.main_v4_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v24) = v0 c
          ∧ r.2.mem ((c.tc : Thread Cert.AdamwInRefIdeal.nD Cert.AdamwInRefIdeal.τ).loc Cert.AdamwInRefIdeal.main_v25) = v1 c
          ∧ r.2.mem ((c.tc : Thread Cert.AdamwInRefIdeal.nD Cert.AdamwInRefIdeal.τ).loc Cert.AdamwInRefIdeal.main_v26) = v2 c
          ∧ r.2.mem ((c.tc : Thread Cert.AdamwInRefIdeal.nD Cert.AdamwInRefIdeal.τ).loc Cert.AdamwInRefIdeal.main_v27) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v4_0)) (v1 : (c : Dev Cert.AdamwOutIdeal.nD) → Buf (Elt Ideal) ((c.tc : Thread Cert.AdamwOutIdeal.nD Cert.AdamwOutIdeal.τ).loc Cert.AdamwOutIdeal.main_v4_1)) (v2 : (c : Dev Cert.AdamwOutIdeal.nD) → Buf (Elt Ideal) ((c.tc : Thread Cert.AdamwOutIdeal.nD Cert.AdamwOutIdeal.τ).loc Cert.AdamwOutIdeal.main_v4_2)) (v3 : (c : Dev Cert.AdamwOutIdeal.nD) → Buf (Elt Ideal) ((c.tc : Thread Cert.AdamwOutIdeal.nD Cert.AdamwOutIdeal.τ).loc Cert.AdamwOutIdeal.main_v4_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v4_0) = v0 c
          ∧ r.2.mem ((c.tc : Thread Cert.AdamwOutIdeal.nD Cert.AdamwOutIdeal.τ).loc Cert.AdamwOutIdeal.main_v4_1) = v1 c
          ∧ r.2.mem ((c.tc : Thread Cert.AdamwOutIdeal.nD Cert.AdamwOutIdeal.τ).loc Cert.AdamwOutIdeal.main_v4_2) = v2 c
          ∧ r.2.mem ((c.tc : Thread Cert.AdamwOutIdeal.nD Cert.AdamwOutIdeal.τ).loc Cert.AdamwOutIdeal.main_v4_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v24) = v0 c
          ∧ r.2.mem ((c.tc : Thread Cert.AdamwOutRefIdeal.nD Cert.AdamwOutRefIdeal.τ).loc Cert.AdamwOutRefIdeal.main_v25) = v1 c
          ∧ r.2.mem ((c.tc : Thread Cert.AdamwOutRefIdeal.nD Cert.AdamwOutRefIdeal.τ).loc Cert.AdamwOutRefIdeal.main_v26) = v2 c
          ∧ r.2.mem ((c.tc : Thread Cert.AdamwOutRefIdeal.nD Cert.AdamwOutRefIdeal.τ).loc Cert.AdamwOutRefIdeal.main_v27) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwGate_AdamwGateIdeal : Prop :=
  True

def algebraic_AdamwGateIdeal_AdamwGateRefIdeal [hAdamwGateIdeal : Cert.AdamwGateIdeal.Facts] [hAdamwGateRefIdeal : Cert.AdamwGateRefIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg)
    (m' : (ℓ : Loc Cert.AdamwGateRefIdeal.nD Cert.AdamwGateRefIdeal.τ Cert.AdamwGateRefIdeal.sig) → Buf (Elt Ideal) ℓ) (g' : Dev Cert.AdamwGateRefIdeal.nD → PrngReg), Pre_AdamwGateIdeal m →
    (∀ c : Dev Cert.AdamwGateIdeal.nD,
      m' ((c.tc : Thread Cert.AdamwGateRefIdeal.nD Cert.AdamwGateRefIdeal.τ).loc Cert.AdamwGateRefIdeal.main_arg0) = m ((c.tc : Thread Cert.AdamwGateIdeal.nD Cert.AdamwGateIdeal.τ).loc Cert.AdamwGateIdeal.main_arg0)
      ∧ m' ((c.tc : Thread Cert.AdamwGateRefIdeal.nD Cert.AdamwGateRefIdeal.τ).loc Cert.AdamwGateRefIdeal.main_arg1) = m ((c.tc : Thread Cert.AdamwGateIdeal.nD Cert.AdamwGateIdeal.τ).loc Cert.AdamwGateIdeal.main_arg1)
      ∧ m' ((c.tc : Thread Cert.AdamwGateRefIdeal.nD Cert.AdamwGateRefIdeal.τ).loc Cert.AdamwGateRefIdeal.main_arg2) = m ((c.tc : Thread Cert.AdamwGateIdeal.nD Cert.AdamwGateIdeal.τ).loc Cert.AdamwGateIdeal.main_arg2)
      ∧ m' ((c.tc : Thread Cert.AdamwGateRefIdeal.nD Cert.AdamwGateRefIdeal.τ).loc Cert.AdamwGateRefIdeal.main_arg3) = m ((c.tc : Thread Cert.AdamwGateIdeal.nD Cert.AdamwGateIdeal.τ).loc Cert.AdamwGateIdeal.main_arg3)) →
    ∃ (v0 : (c : Dev Cert.AdamwGateIdeal.nD) → Buf (Elt Ideal) ((c.tc : Thread Cert.AdamwGateIdeal.nD Cert.AdamwGateIdeal.τ).loc Cert.AdamwGateIdeal.main_v4_0)) (v1 : (c : Dev Cert.AdamwGateIdeal.nD) → Buf (Elt Ideal) ((c.tc : Thread Cert.AdamwGateIdeal.nD Cert.AdamwGateIdeal.τ).loc Cert.AdamwGateIdeal.main_v4_1)) (v2 : (c : Dev Cert.AdamwGateIdeal.nD) → Buf (Elt Ideal) ((c.tc : Thread Cert.AdamwGateIdeal.nD Cert.AdamwGateIdeal.τ).loc Cert.AdamwGateIdeal.main_v4_2)) (v3 : (c : Dev Cert.AdamwGateIdeal.nD) → Buf (Elt Ideal) ((c.tc : Thread Cert.AdamwGateIdeal.nD Cert.AdamwGateIdeal.τ).loc Cert.AdamwGateIdeal.main_v4_3)),
      θ_run (Cert.AdamwGateIdeal.defs (F := Ideal)) (onTc (τ := Cert.AdamwGateIdeal.τ) (Cert.AdamwGateIdeal.main (F := Ideal))) ⟨m, fun _ => 0, g⟩ (fun r => ∀ c : Dev Cert.AdamwGateIdeal.nD,
          r.2.mem ((c.tc : Thread Cert.AdamwGateIdeal.nD Cert.AdamwGateIdeal.τ).loc Cert.AdamwGateIdeal.main_v4_0) = v0 c
          ∧ r.2.mem ((c.tc : Thread Cert.AdamwGateIdeal.nD Cert.AdamwGateIdeal.τ).loc Cert.AdamwGateIdeal.main_v4_1) = v1 c
          ∧ r.2.mem ((c.tc : Thread Cert.AdamwGateIdeal.nD Cert.AdamwGateIdeal.τ).loc Cert.AdamwGateIdeal.main_v4_2) = v2 c
          ∧ r.2.mem ((c.tc : Thread Cert.AdamwGateIdeal.nD Cert.AdamwGateIdeal.τ).loc Cert.AdamwGateIdeal.main_v4_3) = v3 c
          ∧ r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
          ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
          ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
          ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3))
      ∧ θ_run (Cert.AdamwGateRefIdeal.defs (F := Ideal)) (onTc (τ := Cert.AdamwGateRefIdeal.τ) (Cert.AdamwGateRefIdeal.main (F := Ideal))) ⟨m', fun _ => 0, g'⟩ (fun r => ∀ c : Dev Cert.AdamwGateRefIdeal.nD,
          r.2.mem ((c.tc : Thread Cert.AdamwGateRefIdeal.nD Cert.AdamwGateRefIdeal.τ).loc Cert.AdamwGateRefIdeal.main_v24) = v0 c
          ∧ r.2.mem ((c.tc : Thread Cert.AdamwGateRefIdeal.nD Cert.AdamwGateRefIdeal.τ).loc Cert.AdamwGateRefIdeal.main_v25) = v1 c
          ∧ r.2.mem ((c.tc : Thread Cert.AdamwGateRefIdeal.nD Cert.AdamwGateRefIdeal.τ).loc Cert.AdamwGateRefIdeal.main_v26) = v2 c
          ∧ r.2.mem ((c.tc : Thread Cert.AdamwGateRefIdeal.nD Cert.AdamwGateRefIdeal.τ).loc Cert.AdamwGateRefIdeal.main_v27) = v3 c
          ∧ r.2.mem ((c.tc : Thread Cert.AdamwGateRefIdeal.nD Cert.AdamwGateRefIdeal.τ).loc Cert.AdamwGateRefIdeal.main_arg0) = m' ((c.tc : Thread Cert.AdamwGateRefIdeal.nD Cert.AdamwGateRefIdeal.τ).loc Cert.AdamwGateRefIdeal.main_arg0)
          ∧ r.2.mem ((c.tc : Thread Cert.AdamwGateRefIdeal.nD Cert.AdamwGateRefIdeal.τ).loc Cert.AdamwGateRefIdeal.main_arg1) = m' ((c.tc : Thread Cert.AdamwGateRefIdeal.nD Cert.AdamwGateRefIdeal.τ).loc Cert.AdamwGateRefIdeal.main_arg1)
          ∧ r.2.mem ((c.tc : Thread Cert.AdamwGateRefIdeal.nD Cert.AdamwGateRefIdeal.τ).loc Cert.AdamwGateRefIdeal.main_arg2) = m' ((c.tc : Thread Cert.AdamwGateRefIdeal.nD Cert.AdamwGateRefIdeal.τ).loc Cert.AdamwGateRefIdeal.main_arg2)
          ∧ r.2.mem ((c.tc : Thread Cert.AdamwGateRefIdeal.nD Cert.AdamwGateRefIdeal.τ).loc Cert.AdamwGateRefIdeal.main_arg3) = m' ((c.tc : Thread Cert.AdamwGateRefIdeal.nD Cert.AdamwGateRefIdeal.τ).loc Cert.AdamwGateRefIdeal.main_arg3))

def preserves_AdamwDown_AdamwDownIdeal : Prop :=
  True

def algebraic_AdamwDownIdeal_AdamwDownRefIdeal [hAdamwDownIdeal : Cert.AdamwDownIdeal.Facts] [hAdamwDownRefIdeal : Cert.AdamwDownRefIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v4_0)) (v1 : (c : Dev Cert.AdamwDownIdeal.nD) → Buf (Elt Ideal) ((c.tc : Thread Cert.AdamwDownIdeal.nD Cert.AdamwDownIdeal.τ).loc Cert.AdamwDownIdeal.main_v4_1)) (v2 : (c : Dev Cert.AdamwDownIdeal.nD) → Buf (Elt Ideal) ((c.tc : Thread Cert.AdamwDownIdeal.nD Cert.AdamwDownIdeal.τ).loc Cert.AdamwDownIdeal.main_v4_2)) (v3 : (c : Dev Cert.AdamwDownIdeal.nD) → Buf (Elt Ideal) ((c.tc : Thread Cert.AdamwDownIdeal.nD Cert.AdamwDownIdeal.τ).loc Cert.AdamwDownIdeal.main_v4_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v4_0) = v0 c
          ∧ r.2.mem ((c.tc : Thread Cert.AdamwDownIdeal.nD Cert.AdamwDownIdeal.τ).loc Cert.AdamwDownIdeal.main_v4_1) = v1 c
          ∧ r.2.mem ((c.tc : Thread Cert.AdamwDownIdeal.nD Cert.AdamwDownIdeal.τ).loc Cert.AdamwDownIdeal.main_v4_2) = v2 c
          ∧ r.2.mem ((c.tc : Thread Cert.AdamwDownIdeal.nD Cert.AdamwDownIdeal.τ).loc Cert.AdamwDownIdeal.main_v4_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v24) = v0 c
          ∧ r.2.mem ((c.tc : Thread Cert.AdamwDownRefIdeal.nD Cert.AdamwDownRefIdeal.τ).loc Cert.AdamwDownRefIdeal.main_v25) = v1 c
          ∧ r.2.mem ((c.tc : Thread Cert.AdamwDownRefIdeal.nD Cert.AdamwDownRefIdeal.τ).loc Cert.AdamwDownRefIdeal.main_v26) = v2 c
          ∧ r.2.mem ((c.tc : Thread Cert.AdamwDownRefIdeal.nD Cert.AdamwDownRefIdeal.τ).loc Cert.AdamwDownRefIdeal.main_v27) = v3 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0_0)) (v1 : (c : Dev Cert.SumSmallIdeal.nD) → Buf (Elt Ideal) ((c.tc : Thread Cert.SumSmallIdeal.nD Cert.SumSmallIdeal.τ).loc Cert.SumSmallIdeal.main_v0_1)) (v2 : (c : Dev Cert.SumSmallIdeal.nD) → Buf (Elt Ideal) ((c.tc : Thread Cert.SumSmallIdeal.nD Cert.SumSmallIdeal.τ).loc Cert.SumSmallIdeal.main_v0_2)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0_0) = v0 c
          ∧ r.2.mem ((c.tc : Thread Cert.SumSmallIdeal.nD Cert.SumSmallIdeal.τ).loc Cert.SumSmallIdeal.main_v0_1) = v1 c
          ∧ r.2.mem ((c.tc : Thread Cert.SumSmallIdeal.nD Cert.SumSmallIdeal.τ).loc Cert.SumSmallIdeal.main_v0_2) = v2 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_v7) = v1 c
          ∧ r.2.mem ((c.tc : Thread Cert.SumSmallRefIdeal.nD Cert.SumSmallRefIdeal.τ).loc Cert.SumSmallRefIdeal.main_v8) = v2 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hWgradGateUp : Cert.WgradGateUp.Facts) (hWgradGateUpIdeal : Cert.WgradGateUpIdeal.Facts) (hWgradGateUpRefIdeal : Cert.WgradGateUpRefIdeal.Facts) (hWgradDown : Cert.WgradDown.Facts) (hWgradDownIdeal : Cert.WgradDownIdeal.Facts) (hWgradDownRefIdeal : Cert.WgradDownRefIdeal.Facts) (hOutProjBwd : Cert.OutProjBwd.Facts) (hOutProjBwdIdeal : Cert.OutProjBwdIdeal.Facts) (hOutProjBwdRefIdeal : Cert.OutProjBwdRefIdeal.Facts) (hWgradOut : Cert.WgradOut.Facts) (hWgradOutIdeal : Cert.WgradOutIdeal.Facts) (hWgradOutRefIdeal : Cert.WgradOutRefIdeal.Facts) (hWgradIn : Cert.WgradIn.Facts) (hWgradInIdeal : Cert.WgradInIdeal.Facts) (hWgradInRefIdeal : Cert.WgradInRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfnFwd : Cert.FfnFwd.Facts) (hFfnFwdIdeal : Cert.FfnFwdIdeal.Facts) (hFfnFwdRefIdeal : Cert.FfnFwdRefIdeal.Facts) (hInProjBwd : Cert.InProjBwd.Facts) (hInProjBwdIdeal : Cert.InProjBwdIdeal.Facts) (hInProjBwdRefIdeal : Cert.InProjBwdRefIdeal.Facts) (hFfnBwd : Cert.FfnBwd.Facts) (hFfnBwdIdeal : Cert.FfnBwdIdeal.Facts) (hFfnBwdRefIdeal : Cert.FfnBwdRefIdeal.Facts) (hAdamwIn : Cert.AdamwIn.Facts) (hAdamwInIdeal : Cert.AdamwInIdeal.Facts) (hAdamwInRefIdeal : Cert.AdamwInRefIdeal.Facts) (hAdamwOut : Cert.AdamwOut.Facts) (hAdamwOutIdeal : Cert.AdamwOutIdeal.Facts) (hAdamwOutRefIdeal : Cert.AdamwOutRefIdeal.Facts) (hAdamwGate : Cert.AdamwGate.Facts) (hAdamwGateIdeal : Cert.AdamwGateIdeal.Facts) (hAdamwGateRefIdeal : Cert.AdamwGateRefIdeal.Facts) (hAdamwDown : Cert.AdamwDown.Facts) (hAdamwDownIdeal : Cert.AdamwDownIdeal.Facts) (hAdamwDownRefIdeal : Cert.AdamwDownRefIdeal.Facts) (hAdamwSmall : Cert.AdamwSmall.Facts) (hAdamwSmallIdeal : Cert.AdamwSmallIdeal.Facts) (hAdamwSmallRefIdeal : Cert.AdamwSmallRefIdeal.Facts) (hSumSmall : Cert.SumSmall.Facts) (hSumSmallIdeal : Cert.SumSmallIdeal.Facts) (hSumSmallRefIdeal : Cert.SumSmallRefIdeal.Facts) (hPre_finite_in_proj : Cert.Pre_finite_in_proj.Facts) (hPre_finite_ffn : Cert.Pre_finite_ffn.Facts) (hOn_conv_columns : Cert.On_conv_columns.Facts),
    quiescent_Kernel (hKernel := hKernel)
    ∧ quiescent_KernelIdeal (hKernelIdeal := hKernelIdeal)
    ∧ quiescent_ReferenceIdeal (hReferenceIdeal := hReferenceIdeal)
    ∧ quiescent_WgradGateUp (hWgradGateUp := hWgradGateUp)
    ∧ quiescent_WgradGateUpIdeal (hWgradGateUpIdeal := hWgradGateUpIdeal)
    ∧ quiescent_WgradGateUpRefIdeal (hWgradGateUpRefIdeal := hWgradGateUpRefIdeal)
    ∧ quiescent_WgradDown (hWgradDown := hWgradDown)
    ∧ quiescent_WgradDownIdeal (hWgradDownIdeal := hWgradDownIdeal)
    ∧ quiescent_WgradDownRefIdeal (hWgradDownRefIdeal := hWgradDownRefIdeal)
    ∧ quiescent_OutProjBwd (hOutProjBwd := hOutProjBwd)
    ∧ quiescent_OutProjBwdIdeal (hOutProjBwdIdeal := hOutProjBwdIdeal)
    ∧ quiescent_OutProjBwdRefIdeal (hOutProjBwdRefIdeal := hOutProjBwdRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_WgradIn (hWgradIn := hWgradIn)
    ∧ quiescent_WgradInIdeal (hWgradInIdeal := hWgradInIdeal)
    ∧ quiescent_WgradInRefIdeal (hWgradInRefIdeal := hWgradInRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_InProjBwd (hInProjBwd := hInProjBwd)
    ∧ quiescent_InProjBwdIdeal (hInProjBwdIdeal := hInProjBwdIdeal)
    ∧ quiescent_InProjBwdIdeal_pre_finite_in_proj (hInProjBwdIdeal := hInProjBwdIdeal) (hPre_finite_in_proj := hPre_finite_in_proj)
    ∧ quiescent_InProjBwdRefIdeal (hInProjBwdRefIdeal := hInProjBwdRefIdeal)
    ∧ quiescent_InProjBwdRefIdeal_pre_finite_in_proj (hInProjBwdRefIdeal := hInProjBwdRefIdeal) (hPre_finite_in_proj := hPre_finite_in_proj)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwGate (hAdamwGate := hAdamwGate)
    ∧ quiescent_AdamwGateIdeal (hAdamwGateIdeal := hAdamwGateIdeal)
    ∧ quiescent_AdamwGateRefIdeal (hAdamwGateRefIdeal := hAdamwGateRefIdeal)
    ∧ quiescent_AdamwDown (hAdamwDown := hAdamwDown)
    ∧ quiescent_AdamwDownIdeal (hAdamwDownIdeal := hAdamwDownIdeal)
    ∧ quiescent_AdamwDownRefIdeal (hAdamwDownRefIdeal := hAdamwDownRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_on_conv_columns (hKernelIdeal := hKernelIdeal) (hReferenceIdeal := hReferenceIdeal) (hOn_conv_columns := hOn_conv_columns)
    ∧ preserves_WgradGateUp_WgradGateUpIdeal
    ∧ algebraic_WgradGateUpIdeal_WgradGateUpRefIdeal (hWgradGateUpIdeal := hWgradGateUpIdeal) (hWgradGateUpRefIdeal := hWgradGateUpRefIdeal)
    ∧ preserves_WgradDown_WgradDownIdeal
    ∧ algebraic_WgradDownIdeal_WgradDownRefIdeal (hWgradDownIdeal := hWgradDownIdeal) (hWgradDownRefIdeal := hWgradDownRefIdeal)
    ∧ preserves_OutProjBwd_OutProjBwdIdeal
    ∧ algebraic_OutProjBwdIdeal_OutProjBwdRefIdeal (hOutProjBwdIdeal := hOutProjBwdIdeal) (hOutProjBwdRefIdeal := hOutProjBwdRefIdeal)
    ∧ preserves_WgradOut_WgradOutIdeal
    ∧ algebraic_WgradOutIdeal_WgradOutRefIdeal (hWgradOutIdeal := hWgradOutIdeal) (hWgradOutRefIdeal := hWgradOutRefIdeal)
    ∧ preserves_WgradIn_WgradInIdeal
    ∧ algebraic_WgradInIdeal_WgradInRefIdeal (hWgradInIdeal := hWgradInIdeal) (hWgradInRefIdeal := hWgradInRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_InProjBwd_InProjBwdIdeal
    ∧ algebraic_InProjBwdIdeal_InProjBwdRefIdeal_pre_finite_in_proj (hInProjBwdIdeal := hInProjBwdIdeal) (hInProjBwdRefIdeal := hInProjBwdRefIdeal) (hPre_finite_in_proj := hPre_finite_in_proj)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_AdamwIn_AdamwInIdeal
    ∧ algebraic_AdamwInIdeal_AdamwInRefIdeal (hAdamwInIdeal := hAdamwInIdeal) (hAdamwInRefIdeal := hAdamwInRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwGate_AdamwGateIdeal
    ∧ algebraic_AdamwGateIdeal_AdamwGateRefIdeal (hAdamwGateIdeal := hAdamwGateIdeal) (hAdamwGateRefIdeal := hAdamwGateRefIdeal)
    ∧ preserves_AdamwDown_AdamwDownIdeal
    ∧ algebraic_AdamwDownIdeal_AdamwDownRefIdeal (hAdamwDownIdeal := hAdamwDownIdeal) (hAdamwDownRefIdeal := hAdamwDownRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_SumSmall_SumSmallIdeal
    ∧ algebraic_SumSmallIdeal_SumSmallRefIdeal (hSumSmallIdeal := hSumSmallIdeal) (hSumSmallRefIdeal := hSumSmallRefIdeal)
-- ==== On_conv_columns.lean ====
abbrev S8192x3072 : Shape := ⟨2, ![8192, 3072]⟩
abbrev S3x512 : Shape := ⟨2, ![3, 512]⟩
abbrev S8192x512 : Shape := ⟨2, ![8192, 512]⟩
abbrev S_ : Shape := ⟨0, ![]⟩
abbrev S8x512 : Shape := ⟨2, ![8, 512]⟩

class Facts : Prop where
  bcast_S_S8192x3072 : S_.BroadcastsInDim S8192x3072 (![] : Fin 0 → Fin S8192x3072.rank)
  bcast_S_S8x512 : S_.BroadcastsInDim S8x512 (![] : Fin 0 → Fin S8x512.rank)

variable [Facts]

def fn {F : FTy → Type} [FloatOps F] (main_arg0 : FVec F S8192x3072 .f32) (main_arg1 : FVec F S3x512 .f32) (main_arg2 : FVec F S8192x512 .f32) : IVec S8192x3072 1 × IVec S8x512 1 :=
  let main_v0 : IVec S8192x3072 32 := iotaInDim S8192x3072 32 1
  let main_c : IVec S_ 32 := constantI S_ 32 1536#32
  let main_v1 : IVec S8192x3072 32 := broadcastInDim S8192x3072 ![] bcast_S_S8192x3072 main_c
  let main_v2 : IVec S8192x3072 1 := cmpi .sge main_v0 main_v1
  let main_c_0 : IVec S_ 1 := constantI S_ 1 1#1
  let main_v3 : IVec S8x512 1 := broadcastInDim S8x512 ![] bcast_S_S8x512 main_c_0
  (main_v2, main_v3)
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S8192x1024 1 × IVec S8192x1024 1 × IVec S1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite_in_proj.lean ====
abbrev S8192x1024 : Shape := ⟨2, ![8192, 1024]⟩
abbrev S1024 : Shape := ⟨1, ![1024]⟩
abbrev S1024x3072 : Shape := ⟨2, ![1024, 3072]⟩
abbrev S64 : Shape := ⟨1, ![64]⟩
abbrev S8192x512 : Shape := ⟨2, ![8192, 512]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3072 : S_.BroadcastsInDim S1024x3072 (![] : Fin 0 → Fin S1024x3072.rank)
  bcast_S_S64 : S_.BroadcastsInDim S64 (![] : Fin 0 → Fin S64.rank)
  bcast_S_S8192x512 : S_.BroadcastsInDim S8192x512 (![] : Fin 0 → Fin S8192x512.rank)
  bitsLt_bf16_f32 : FTy.bits .bf16 < FTy.bits .f32
  bcast_S_S8192x3072 : S_.BroadcastsInDim S8192x3072 (![] : Fin 0 → Fin S8192x3072.rank)

variable [Facts]

def fn_part1 {F : FTy → Type} [FloatOps F] (main_arg6 : FVec F S8192x512 .f32) (main_arg7 : FVec F S8192x512 .f32) (main_arg8 : FVec F S8192x512 .f32) (main_arg9 : FVec F S8192x3072 .bf16) (main_v2 : IVec S8192x1024 1) (main_v5 : IVec S8192x1024 1) (main_v8 : IVec S1024 1) (main_v11 : IVec S1024x3072 1) (main_v14 : IVec S64 1) (main_v17 : IVec S64 1) : IVec S8192x1024 1 × IVec S8192x1024 1 × IVec S1024 1 × IVec S1024x3072 1 × IVec S64 1 × IVec S64 1 × IVec S8192x512 1 × IVec S8192x512 1 × IVec S8192x512 1 × IVec S8192x3072 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  let main_v21 : FVec F S8192x512 .f32 := Host.absf main_arg7
  let main_cst_6 : FVec F S_ .f32 := constant S_ .f32 0x7F800000#32
  let main_v22 : FVec F S8192x512 .f32 := broadcastInDim S8192x512 ![] bcast_S_S8192x512 main_cst_6
  let main_v23 : IVec S8192x512 1 := cmpf .olt main_v21 main_v22
  let main_v24 : FVec F S8192x512 .f32 := Host.absf main_arg8
  let main_cst_7 : FVec F S_ .f32 := constant S_ .f32 0x7F800000#32
  let main_v25 : FVec F S8192x512 .f32 := broadcastInDim S8192x512 ![] bcast_S_S8192x512 main_cst_7
  let main_v26 : IVec S8192x512 1 := cmpf .olt main_v24 main_v25
  let main_v27 : FVec F S8192x3072 .f32 := (extf .f32 · bitsLt_bf16_f32) main_arg9
  let main_v28 : FVec F S8192x3072 .f32 := Host.absf main_v27
  let main_cst_8 : FVec F S_ .f32 := constant S_ .f32 0x7F800000#32
  let main_v29 : FVec F S8192x3072 .f32 := broadcastInDim S8192x3072 ![] bcast_S_S8192x3072 main_cst_8
  let main_v30 : IVec S8192x3072 1 := cmpf .olt main_v28 main_v29
  (main_v2, main_v5, main_v8, main_v11, main_v14, main_v17, main_v20, main_v23, main_v26, main_v30)

def fn {F : FTy → Type} [FloatOps F] (main_arg0 : FVec F S8192x1024 .f32) (main_arg1 : FVec F S8192x1024 .f32) (main_arg2 : FVec F S1024 .f32) (main_arg3 : FVec F S1024x3072 .f32) (main_arg4 : FVec F S64 .f32) (main_arg5 : FVec F S64 .f32) (main_arg6 : FVec F S8192x512 .f32) (main_arg7 : FVec F S8192x512 .f32) (main_arg8 : FVec F S8192x512 .f32) (main_arg9 : FVec F S8192x3072 .bf16) : IVec S8192x1024 1 × IVec S8192x1024 1 × IVec S1024 1 × IVec S1024x3072 1 × IVec S64 1 × IVec S64 1 × IVec S8192x512 1 × IVec S8192x512 1 × IVec S8192x512 1 × IVec S8192x3072 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x3072 .f32 := Host.absf main_arg3
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_arg9 main_v2 main_v5 main_v8 main_v11 main_v14 main_v17
-- ==== Kernel.lean ====
abbrev S8192x3072 : Shape := ⟨2, ![8192, 3072]⟩
abbrev S3x512 : Shape := ⟨2, ![3, 512]⟩
abbrev S8192x512 : Shape := ⟨2, ![8192, 512]⟩
abbrev S_ : Shape := ⟨0, ![]⟩
abbrev S16x512 : Shape := ⟨2, ![16, 512]⟩
abbrev S16x4x1x128 : Shape := ⟨4, ![16, 4, 1, 128]⟩
abbrev S4x1x16x128 : Shape := ⟨4, ![4, 1, 16, 128]⟩
abbrev S4x1x8x128 : Shape := ⟨4, ![4, 1, 8, 128]⟩
abbrev S4x8x128 : Shape := ⟨3, ![4, 8, 128]⟩
abbrev S8x4x128 : Shape := ⟨3, ![8, 4, 128]⟩
abbrev S8x512 : Shape := ⟨2, ![8, 512]⟩
abbrev S512x512 : Shape := ⟨2, ![512, 512]⟩
abbrev S512x1536 : Shape := ⟨2, ![512, 1536]⟩
abbrev S1x512 : Shape := ⟨2, ![1, 512]⟩
abbrev S512 : Shape := ⟨1, ![512]⟩

abbrev nBuf : Space → Nat
  | .hbm => 14
  | .vmem => 20
  | .smem => 0
  | _ => 0

abbrev bufTy : (tb : Table) → Fin (tcTables nBuf tb) → BufTy
  | .hbm, ⟨0, _⟩ => ⟨S8192x3072, .f32⟩
  | .hbm, ⟨1, _⟩ => ⟨S3x512, .f32⟩
  | .hbm, ⟨2, _⟩ => ⟨S8192x512, .f32⟩
  | .hbm, ⟨3, _⟩ => ⟨S_, .i32⟩
  | .hbm, ⟨4, _⟩ => ⟨S_, .f32⟩
  | .hbm, ⟨5, _⟩ => ⟨S16x512, .f32⟩
  | .hbm, ⟨6, _⟩ => ⟨S16x4x1x128, .f32⟩
  | .hbm, ⟨7, _⟩ => ⟨S4x1x16x128, .f32⟩
  | .hbm, ⟨8, _⟩ => ⟨S4x1x8x128, .f32⟩
  | .hbm, ⟨9, _⟩ => ⟨S4x8x128, .f32⟩
  | .hbm, ⟨10, _⟩ => ⟨S8x4x128, .f32⟩
  | .hbm, ⟨11, _⟩ => ⟨S8x512, .f32⟩
  | .hbm, ⟨12, _⟩ => ⟨S8192x3072, .bf16⟩
  | .hbm, ⟨13, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S512x1536, .bf16⟩
  | .local _ .vmem, ⟨18, _⟩ => ⟨S512x1536, .bf16⟩
  | .local _ .vmem, ⟨19, _⟩ => ⟨S8x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c3_i32 : BitVec 32 := 3#32
  let c0_i32 : BitVec 32 := 0#32
  ![v2.toNat, c3_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x3072 : Shape := ⟨2, ![8192, 3072]⟩
abbrev S3x512 : Shape := ⟨2, ![3, 512]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S8x512 : Shape := ⟨2, ![8, 512]⟩

abbrev nBuf : Space → Nat
  | .hbm => 96
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S2x512, .f32⟩
  | .hbm, ⟨11, _⟩ => ⟨S8192x512, .f32⟩
  | .hbm, ⟨12, _⟩ => ⟨S8194x512, .f32⟩
  | .hbm, ⟨13, _⟩ => ⟨S_, .f32⟩
  | .hbm, ⟨14, _⟩ => ⟨S2x512, .f32⟩
  | .hbm, ⟨15, _⟩ => ⟨S1x512, .f32⟩
  | .hbm, ⟨16, _⟩ => ⟨S512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S512, .f32⟩
  | .hbm, ⟨30, _⟩ => ⟨S8192x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S8194x512, .f32⟩
  | .hbm, ⟨48, _⟩ => ⟨S1x512, .f32⟩
  | .hbm, ⟨49, _⟩ => ⟨S_, .f32⟩
  | .hbm, ⟨50, _⟩ => ⟨S3x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S512, .f32⟩
  | .hbm, ⟨59, _⟩ => ⟨S_, .f32⟩
  | .hbm, ⟨60, _⟩ => ⟨S8194x512, .f32⟩
  | .hbm, ⟨61, _⟩ => ⟨S8194x512, .f32⟩
  | .hbm, ⟨62, _⟩ => ⟨S1x512, .f32⟩
  | .hbm, ⟨63, _⟩ => ⟨S_, .f32⟩
  | .hbm, ⟨64, _⟩ => ⟨S3x512, .f32⟩
  | .hbm, ⟨65, _⟩ => ⟨S3x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S1x512, .f32⟩
  | .hbm, ⟨72, _⟩ => ⟨S_, .f32⟩
  | .hbm, ⟨73, _⟩ => ⟨S512, .f32⟩
  | .hbm, ⟨74, _⟩ => ⟨S_, .f32⟩
  | .hbm, ⟨75, _⟩ => ⟨S8194x512, .f32⟩
  | .hbm, ⟨76, _⟩ => ⟨S8194x512, .f32⟩
  | .hbm, ⟨77, _⟩ => ⟨S1x512, .f32⟩
  | .hbm, ⟨78, _⟩ => ⟨S_, .f32⟩
  | .hbm, ⟨79, _⟩ => ⟨S3x512, .f32⟩
  | .hbm, ⟨80, _⟩ => ⟨S3x512, .f32⟩
  | .hbm, ⟨81, _⟩ => ⟨S2x512, .f32⟩
  | .hbm, ⟨82, _⟩ => ⟨S8192x512, .f32⟩
  | .hbm, ⟨83, _⟩ => ⟨S8192x512, .f32⟩
  | .hbm, ⟨84, _⟩ => ⟨S8192x512, .f32⟩
  | .hbm, ⟨85, _⟩ => ⟨S_, .f32⟩
  | .hbm, ⟨86, _⟩ => ⟨S8192x512, .f32⟩
  | .hbm, ⟨87, _⟩ => ⟨S_, .f32⟩
  | .hbm, ⟨88, _⟩ => ⟨S8192x512, .f32⟩
  | .hbm, ⟨89, _⟩ => ⟨S_, .f32⟩
  | .hbm, ⟨90, _⟩ => ⟨S8192x512, .f32⟩
  | .hbm, ⟨91, _⟩ => ⟨S8192x3072, .f32⟩
  | .hbm, ⟨92, _⟩ => ⟨S8192x3072, .bf16⟩
  | .hbm, ⟨93, _⟩ => ⟨S_, .i32⟩
  | .hbm, ⟨94, _⟩ => ⟨S_, .f32⟩
  | .hbm, ⟨95, _⟩ => ⟨S8x512, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c : Ref sig .tc := ⟨.hbm, 93, rfl⟩
abbrev main_call0_v0 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== WgradGateUp.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x1024, .bf16⟩
  | .hbm, ⟨4, _⟩ => ⟨S8192x2816, .bf16⟩
  | .hbm, ⟨5, _⟩ => ⟨S8192x4x704, .bf16⟩
  | .hbm, ⟨6, _⟩ => ⟨S4x8192x704, .bf16⟩
  | .hbm, ⟨7, _⟩ => ⟨S8192x2816, .bf16⟩
  | .hbm, ⟨8, _⟩ => ⟨S8192x4x704, .bf16⟩
  | .hbm, ⟨9, _⟩ => ⟨S4x8192x704, .bf16⟩
  | .hbm, ⟨10, _⟩ => ⟨S4x1024x704, .f32⟩
  | .hbm, ⟨11, _⟩ => ⟨S4x1024x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WgradGateUpRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S1024x4x704, .f32⟩
  | .hbm, ⟨14, _⟩ => ⟨S4x1024x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== WgradDown.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S1x1024x704 : Shape := ⟨3, ![1, 1024, 704]⟩
abbrev S1024x704 : Shape := ⟨2, ![1024, 704]⟩
abbrev S1024x1024 : Shape := ⟨2, ![1024, 1024]⟩
abbrev S704x1024 : Shape := ⟨2, ![704, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x4x704, .bf16⟩
  | .hbm, ⟨4, _⟩ => ⟨S4x8192x704, .bf16⟩
  | .hbm, ⟨5, _⟩ => ⟨S8192x1024, .bf16⟩
  | .hbm, ⟨6, _⟩ => ⟨S4x704x1024, .f32⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .f32⟩
  | .local _ .vmem, ⟨5, _⟩ => ⟨S1x704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjBwd.lean ====
abbrev S8192x1024 : Shape := ⟨2, ![8192, 1024]⟩
abbrev S1024x1024 : Shape := ⟨2, ![1024, 1024]⟩
abbrev S4x1x256x1024 : Shape := ⟨4, ![4, 1, 256, 1024]⟩
abbrev S8192x512 : Shape := ⟨2, ![8192, 512]⟩
abbrev S512x1024 : Shape := ⟨2, ![512, 1024]⟩
abbrev S512x512 : Shape := ⟨2, ![512, 512]⟩
abbrev S1x1x256x1024 : Shape := ⟨4, ![1, 1, 256, 1024]⟩
abbrev S256x1024 : Shape := ⟨2, ![256, 1024]⟩
abbrev S512x256 : Shape := ⟨2, ![512, 256]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S4x1x256x1024, .bf16⟩
  | .hbm, ⟨4, _⟩ => ⟨S8192x512, .bf16⟩
  | .hbm, ⟨5, _⟩ => ⟨S8192x512, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4x1x256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjBwdRefIdeal.lean ====
abbrev S8192x1024 : Shape := ⟨2, ![8192, 1024]⟩
abbrev S1024x1024 : Shape := ⟨2, ![1024, 1024]⟩
abbrev S_ : Shape := ⟨0, ![]⟩
abbrev S8192x512 : Shape := ⟨2, ![8192, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgradOut.lean ====
abbrev S8192x512 : Shape := ⟨2, ![8192, 512]⟩
abbrev S8192x1024 : Shape := ⟨2, ![8192, 1024]⟩
abbrev S4x256x1024 : Shape := ⟨3, ![4, 256, 1024]⟩
abbrev S2048x512 : Shape := ⟨2, ![2048, 512]⟩
abbrev S2048x1024 : Shape := ⟨2, ![2048, 1024]⟩
abbrev S1x256x1024 : Shape := ⟨3, ![1, 256, 1024]⟩
abbrev S256x1024 : Shape := ⟨2, ![256, 1024]⟩
abbrev S2048x256 : Shape := ⟨2, ![2048, 256]⟩

abbrev nBuf : Space → Nat
  | .hbm => 7
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x512, .bf16⟩
  | .hbm, ⟨4, _⟩ => ⟨S8192x512, .bf16⟩
  | .hbm, ⟨5, _⟩ => ⟨S8192x1024, .bf16⟩
  | .hbm, ⟨6, _⟩ => ⟨S4x256x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S4x256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WgradOutRefIdeal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== WgradIn.lean ====
abbrev S8192x1024 : Shape := ⟨2, ![8192, 1024]⟩
abbrev S8192x3072 : Shape := ⟨2, ![8192, 3072]⟩
abbrev S4x1024x768 : Shape := ⟨3, ![4, 1024, 768]⟩
abbrev S4096x1024 : Shape := ⟨2, ![4096, 1024]⟩
abbrev S4096x768 : Shape := ⟨2, ![4096, 768]⟩
abbrev S1x1024x768 : Shape := ⟨3, ![1, 1024, 768]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S4x1024x768, .f32⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .f32⟩
  | .local _ .vmem, ⟨5, _⟩ => ⟨S1x1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradInRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | .hbm, ⟨7, _⟩ => ⟨S1024x4x768, .f32⟩
  | .hbm, ⟨8, _⟩ => ⟨S4x1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x3072 : Shape := ⟨2, ![1024, 3072]⟩
abbrev S64 : Shape := ⟨1, ![64]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x1024 : Shape := ⟨2, ![1, 1024]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S8192x3072 : Shape := ⟨2, ![8192, 3072]⟩
abbrev S8192x512 : Shape := ⟨2, ![8192, 512]⟩
abbrev S512x1024 : Shape := ⟨2, ![512, 1024]⟩
abbrev S512x3072 : Shape := ⟨2, ![512, 3072]⟩
abbrev S512x512 : Shape := ⟨2, ![512, 512]⟩
abbrev S512 : Shape := ⟨1, ![512]⟩
abbrev S512x1 : Shape := ⟨2, ![512, 1]⟩
abbrev S1x1x1024x768 : Shape := ⟨4, ![1, 1, 1024, 768]⟩
abbrev S1024x768 : Shape := ⟨2, ![1024, 768]⟩
abbrev S512x768 : Shape := ⟨2, ![512, 768]⟩
abbrev S512x128 : Shape := ⟨2, ![512, 128]⟩

abbrev nBuf : Space → Nat
  | .hbm => 23
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S1x1x1x64, .f32⟩
  | .hbm, ⟨7, _⟩ => ⟨S1x1x2x64, .f32⟩
  | .hbm, ⟨8, _⟩ => ⟨S1x128, .f32⟩
  | .hbm, ⟨9, _⟩ => ⟨S1x64, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S1x1024, .f32⟩
  | .hbm, ⟨14, _⟩ => ⟨S1024x3072, .bf16⟩
  | .hbm, ⟨15, _⟩ => ⟨S1024x4x768, .bf16⟩
  | .hbm, ⟨16, _⟩ => ⟨S4x1024x768, .bf16⟩
  | .hbm, ⟨17, _⟩ => ⟨S4x1x1024x768, .bf16⟩
  | .hbm, ⟨18, _⟩ => ⟨S8192x1024, .bf16⟩
  | .hbm, ⟨19, _⟩ => ⟨S8192x3072, .f32⟩
  | .hbm, ⟨20, _⟩ => ⟨S8192x512, .bf16⟩
  | .hbm, ⟨21, _⟩ => ⟨S8192x512, .bf16⟩
  | .hbm, ⟨22, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x768, .bf16⟩
  | .local _ .vmem, ⟨4, _⟩ => ⟨S1x128, .f32⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x3072, .f32⟩
  | .local _ .vmem, ⟨9, _⟩ => ⟨S512x3072, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S8192x1024 : Shape := ⟨2, ![8192, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S8192x512 : Shape := ⟨2, ![8192, 512]⟩
abbrev S8192x1536 : Shape := ⟨2, ![8192, 1536]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x3072, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x1536, .f32⟩
  | .hbm, ⟨26, _⟩ => ⟨S8192x8x64, .f32⟩
  | .hbm, ⟨27, _⟩ => ⟨S8192x8x64, .f32⟩
  | .hbm, ⟨28, _⟩ => ⟨S_, .f32⟩
  | .hbm, ⟨29, _⟩ => ⟨S8192x8, .f32⟩
  | .hbm, ⟨30, _⟩ => ⟨S8192x8x1, .f32⟩
  | .hbm, ⟨31, _⟩ => ⟨S_, .f32⟩
  | .hbm, ⟨32, _⟩ => ⟨S8192x8x1, .f32⟩
  | .hbm, ⟨33, _⟩ => ⟨S8192x8x1, .f32⟩
  | .hbm, ⟨34, _⟩ => ⟨S_, .f32⟩
  | .hbm, ⟨35, _⟩ => ⟨S8192x8x1, .f32⟩
  | .hbm, ⟨36, _⟩ => ⟨S8192x8x1, .f32⟩
  | .hbm, ⟨37, _⟩ => ⟨S8192x8x1, .f32⟩
  | .hbm, ⟨38, _⟩ => ⟨S8192x8x64, .f32⟩
  | .hbm, ⟨39, _⟩ => ⟨S8192x8x64, .f32⟩
  | .hbm, ⟨40, _⟩ => ⟨S1x1x64, .f32⟩
  | .hbm, ⟨41, _⟩ => ⟨S8192x8x64, .f32⟩
  | .hbm, ⟨42, _⟩ => ⟨S8192x8x64, .f32⟩
  | .hbm, ⟨43, _⟩ => ⟨S8192x512, .f32⟩
  | .hbm, ⟨44, _⟩ => ⟨S8192x8x64, .f32⟩
  | .hbm, ⟨45, _⟩ => ⟨S8192x8x64, .f32⟩
  | .hbm, ⟨46, _⟩ => ⟨S_, .f32⟩
  | .hbm, ⟨47, _⟩ => ⟨S8192x8, .f32⟩
  | .hbm, ⟨48, _⟩ => ⟨S8192x8x1, .f32⟩
  | .hbm, ⟨49, _⟩ => ⟨S_, .f32⟩
  | .hbm, ⟨50, _⟩ => ⟨S8192x8x1, .f32⟩
  | .hbm, ⟨51, _⟩ => ⟨S8192x8x1, .f32⟩
  | .hbm, ⟨52, _⟩ => ⟨S_, .f32⟩
  | .hbm, ⟨53, _⟩ => ⟨S8192x8x1, .f32⟩
  | .hbm, ⟨54, _⟩ => ⟨S8192x8x1, .f32⟩
  | .hbm, ⟨55, _⟩ => ⟨S8192x8x1, .f32⟩
  | .hbm, ⟨56, _⟩ => ⟨S8192x8x64, .f32⟩
  | .hbm, ⟨57, _⟩ => ⟨S8192x8x64, .f32⟩
  | .hbm, ⟨58, _⟩ => ⟨S1x1x64, .f32⟩
  | .hbm, ⟨59, _⟩ => ⟨S8192x8x64, .f32⟩
  | .hbm, ⟨60, _⟩ => ⟨S8192x8x64, .f32⟩
  | .hbm, ⟨61, _⟩ => ⟨S8192x512, .f32⟩
  | .hbm, ⟨62, _⟩ => ⟨S8192x1024, .bf16⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S8192x512, .bf16⟩
  | .hbm, ⟨67, _⟩ => ⟨S8192x512, .bf16⟩
  | .hbm, ⟨68, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== OutProj.lean ====
abbrev S8192x1024 : Shape := ⟨2, ![8192, 1024]⟩
abbrev S8192x512 : Shape := ⟨2, ![8192, 512]⟩
abbrev S8192x3072 : Shape := ⟨2, ![8192, 3072]⟩
abbrev S3x512 : Shape := ⟨2, ![3, 512]⟩
abbrev S1024x1024 : Shape := ⟨2, ![1024, 1024]⟩
abbrev S_ : Shape := ⟨0, ![]⟩
abbrev S16x512 : Shape := ⟨2, ![16, 512]⟩
abbrev S16x4x1x128 : Shape := ⟨4, ![16, 4, 1, 128]⟩
abbrev S4x1x16x128 : Shape := ⟨4, ![4, 1, 16, 128]⟩
abbrev S4x1x8x128 : Shape := ⟨4, ![4, 1, 8, 128]⟩
abbrev S4x8x128 : Shape := ⟨3, ![4, 8, 128]⟩
abbrev S8x4x128 : Shape := ⟨3, ![8, 4, 128]⟩
abbrev S8x512 : Shape := ⟨2, ![8, 512]⟩
abbrev S4x1x256x1024 : Shape := ⟨4, ![4, 1, 256, 1024]⟩
abbrev S512x1024 : Shape := ⟨2, ![512, 1024]⟩
abbrev S512x512 : Shape := ⟨2, ![512, 512]⟩
abbrev S1x512 : Shape := ⟨2, ![1, 512]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x3072, .f32⟩
  | .hbm, ⟨3, _⟩ => ⟨S3x512, .f32⟩
  | .hbm, ⟨4, _⟩ => ⟨S1024x1024, .f32⟩
  | .hbm, ⟨5, _⟩ => ⟨S8192x512, .bf16⟩
  | .hbm, ⟨6, _⟩ => ⟨S_, .i32⟩
  | .hbm, ⟨7, _⟩ => ⟨S_, .f32⟩
  | .hbm, ⟨8, _⟩ => ⟨S16x512, .f32⟩
  | .hbm, ⟨9, _⟩ => ⟨S16x4x1x128, .f32⟩
  | .hbm, ⟨10, _⟩ => ⟨S4x1x16x128, .f32⟩
  | .hbm, ⟨11, _⟩ => ⟨S4x1x8x128, .f32⟩
  | .hbm, ⟨12, _⟩ => ⟨S4x8x128, .f32⟩
  | .hbm, ⟨13, _⟩ => ⟨S8x4x128, .f32⟩
  | .hbm, ⟨14, _⟩ => ⟨S8x512, .f32⟩
  | .hbm, ⟨15, _⟩ => ⟨S1024x1024, .bf16⟩
  | .hbm, ⟨16, _⟩ => ⟨S4x1x256x1024, .bf16⟩
  | .hbm, ⟨17, _⟩ => ⟨S8192x1024, .f32⟩
  | .hbm, ⟨18, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S4x1x256x1024, .bf16⟩
  | .local _ .vmem, ⟨16, _⟩ => ⟨S512x1024, .f32⟩
  | .local _ .vmem, ⟨17, _⟩ => ⟨S512x1024, .f32⟩
  | .local _ .vmem, ⟨18, _⟩ => ⟨S512x512, .bf16⟩
  | .local _ .vmem, ⟨19, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S8192x1024 : Shape := ⟨2, ![8192, 1024]⟩
abbrev S8192x512 : Shape := ⟨2, ![8192, 512]⟩
abbrev S8192x3072 : Shape := ⟨2, ![8192, 3072]⟩
abbrev S3x512 : Shape := ⟨2, ![3, 512]⟩
abbrev S1024x1024 : Shape := ⟨2, ![1024, 1024]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x3072, .f32⟩
  | .hbm, ⟨3, _⟩ => ⟨S3x512, .f32⟩
  | .hbm, ⟨4, _⟩ => ⟨S1024x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S2x512, .f32⟩
  | .hbm, ⟨13, _⟩ => ⟨S8192x512, .f32⟩
  | .hbm, ⟨14, _⟩ => ⟨S8194x512, .f32⟩
  | .hbm, ⟨15, _⟩ => ⟨S1x512, .f32⟩
  | .hbm, ⟨16, _⟩ => ⟨S512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S1x512, .f32⟩
  | .hbm, ⟨22, _⟩ => ⟨S512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S512, .f32⟩
  | .hbm, ⟨30, _⟩ => ⟨S8192x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x4x704 : Shape := ⟨3, ![1024, 4, 704]⟩
abbrev S4x1024x704 : Shape := ⟨3, ![4, 1024, 704]⟩
abbrev S4x1x1024x704 : Shape := ⟨4, ![4, 1, 1024, 704]⟩
abbrev S4x1x704x1024 : Shape := ⟨4, ![4, 1, 704, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024x1 : Shape := ⟨2, ![1024, 1]⟩
abbrev S256x1024 : Shape := ⟨2, ![256, 1024]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 22
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S1024x2816, .bf16⟩
  | .hbm, ⟨8, _⟩ => ⟨S1024x4x704, .bf16⟩
  | .hbm, ⟨9, _⟩ => ⟨S4x1024x704, .bf16⟩
  | .hbm, ⟨10, _⟩ => ⟨S4x1x1024x704, .bf16⟩
  | .hbm, ⟨11, _⟩ => ⟨S1024x2816, .bf16⟩
  | .hbm, ⟨12, _⟩ => ⟨S1024x4x704, .bf16⟩
  | .hbm, ⟨13, _⟩ => ⟨S4x1024x704, .bf16⟩
  | .hbm, ⟨14, _⟩ => ⟨S4x1x1024x704, .bf16⟩
  | .hbm, ⟨15, _⟩ => ⟨S2816x1024, .bf16⟩
  | .hbm, ⟨16, _⟩ => ⟨S4x1x704x1024, .bf16⟩
  | .hbm, ⟨17, _⟩ => ⟨S8192x1024, .f32⟩
  | .hbm, ⟨18, _⟩ => ⟨S4x8192x704, .bf16⟩
  | .hbm, ⟨19, _⟩ => ⟨S4x8192x704, .bf16⟩
  | .hbm, ⟨20, _⟩ => ⟨S8192x1024, .f32⟩
  | .hbm, ⟨21, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v132 : BitVec 1 := Scalar.cmpi .eq arg1 c3_i32
  let v133 : BitVec 32 := Scalar.extui v132
  let c0_i32_123 : BitVec 32 := 0#32
  let v134 : BitVec 1 := Scalar.cmpi .ne v133 c0_i32_123
  v134

def k0_cond2 (i : grid0.Coords) : BitVec 1 :=
  let arg0 : BitVec 32 := BitVec.ofNat 32 (i 0).val
  let c0_i32_120 : BitVec 32 := 0#32
  let v127 : BitVec 1 := Scalar.cmpi .eq arg0 c0_i32_120
  let arg1 : BitVec 32 := BitVec.ofNat 32 (i 1).val
  let c0_i32_121 : BitVec 32 := 0#32
  let v128 : BitVec 1 := Scalar.cmpi .eq arg1 c0_i32_121
  let v129 : BitVec 1 := Scalar.andi v127 v128
  let v130 : BitVec 32 := Scalar.extui v129
  let c0_i32_122 : BitVec 32 := 0#32
  let v131 : BitVec 1 := Scalar.cmpi .ne v130 c0_i32_122
  v131

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x2816, .bf16⟩
  | .hbm, ⟨60, _⟩ => ⟨S8192x4x704, .bf16⟩
  | .hbm, ⟨61, _⟩ => ⟨S4x8192x704, .bf16⟩
  | .hbm, ⟨62, _⟩ => ⟨S8192x2816, .bf16⟩
  | .hbm, ⟨63, _⟩ => ⟨S8192x4x704, .bf16⟩
  | .hbm, ⟨64, _⟩ => ⟨S4x8192x704, .bf16⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩

abbrev nD : Nat := 1
abbrev τ : Topo := Topo.v7x

variable {F : FTy → Type} [FloatOps F]
-- ==== InProjBwd.lean ====
abbrev S8192x1024 : Shape := ⟨2, ![8192, 1024]⟩
abbrev S1024 : Shape := ⟨1, ![1024]⟩
abbrev S1024x3072 : Shape := ⟨2, ![1024, 3072]⟩
abbrev S64 : Shape := ⟨1, ![64]⟩
abbrev S8192x512 : Shape := ⟨2, ![8192, 512]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S1x512 : Shape := ⟨2, ![1, 512]⟩
abbrev S512x1024 : Shape := ⟨2, ![512, 1024]⟩
abbrev S512x1536 : Shape := ⟨2, ![512, 1536]⟩
abbrev S512x512 : Shape := ⟨2, ![512, 512]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S128 : Shape := ⟨1, ![128]⟩
abbrev S512x768 : Shape := ⟨2, ![512, 768]⟩
abbrev S1x1x1024x768 : Shape := ⟨4, ![1, 1, 1024, 768]⟩
abbrev S1024x768 : Shape := ⟨2, ![1024, 768]⟩

abbrev nBuf : Space → Nat
  | .hbm => 45
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x3072, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S1x64, .f32⟩
  | .hbm, ⟨28, _⟩ => ⟨S1x1x1x64, .f32⟩
  | .hbm, ⟨29, _⟩ => ⟨S1x1x2x64, .f32⟩
  | .hbm, ⟨30, _⟩ => ⟨S1x128, .f32⟩
  | .hbm, ⟨31, _⟩ => ⟨S1x64, .f32⟩
  | .hbm, ⟨32, _⟩ => ⟨S1x1x1x64, .f32⟩
  | .hbm, ⟨33, _⟩ => ⟨S1x1x2x64, .f32⟩
  | .hbm, ⟨34, _⟩ => ⟨S1x128, .f32⟩
  | .hbm, ⟨35, _⟩ => ⟨S1x1024, .f32⟩
  | .hbm, ⟨36, _⟩ => ⟨S1024x3072, .bf16⟩
  | .hbm, ⟨37, _⟩ => ⟨S1024x4x768, .bf16⟩
  | .hbm, ⟨38, _⟩ => ⟨S4x1024x768, .bf16⟩
  | .hbm, ⟨39, _⟩ => ⟨S4x1x1024x768, .bf16⟩
  | .hbm, ⟨40, _⟩ => ⟨S8192x1024, .f32⟩
  | .hbm, ⟨41, _⟩ => ⟨S1x1024, .f32⟩
  | .hbm, ⟨42, _⟩ => ⟨S8192x3072, .bf16⟩
  | .hbm, ⟨43, _⟩ => ⟨S1x512, .f32⟩
  | .hbm, ⟨44, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x1x1024x768, .bf16⟩
  | .local _ .vmem, ⟨6, _⟩ => ⟨S512x1536, .f32⟩
  | .local _ .vmem, ⟨7, _⟩ => ⟨S512x1536, .f32⟩
  | .local _ .vmem, ⟨8, _⟩ => ⟨S1x128, .f32⟩
  | .local _ .vmem, ⟨9, _⟩ => ⟨S1x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1536, .bf16⟩
  | .local _ .vmem, ⟨17, _⟩ => ⟨S512x1536, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S512x3072, .bf16⟩
  | .local _ .vmem, ⟨22, _⟩ => ⟨S512x3072, .bf16⟩
  | .local _ .vmem, ⟨23, _⟩ => ⟨S1x512, .f32⟩
  | .local _ .vmem, ⟨24, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev main_v27_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== InProjBwdRefIdeal.lean ====
abbrev S8192x1024 : Shape := ⟨2, ![8192, 1024]⟩
abbrev S1024 : Shape := ⟨1, ![1024]⟩
abbrev S1024x3072 : Shape := ⟨2, ![1024, 3072]⟩
abbrev S64 : Shape := ⟨1, ![64]⟩
abbrev S8192x512 : Shape := ⟨2, ![8192, 512]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x64 : Shape := ⟨2, ![1, 64]⟩
abbrev S1x1x1x64 : Shape := ⟨4, ![1, 1, 1, 64]⟩
abbrev S8x1x1x64 : Shape := ⟨4, ![8, 1, 1, 64]⟩
abbrev S8x64 : Shape := ⟨2, ![8, 64]⟩
abbrev S8192x8x64 : Shape := ⟨3, ![8192, 8, 64]⟩
abbrev S8192x8 : Shape := ⟨2, ![8192, 8]⟩
abbrev S8192x8x1 : Shape := ⟨3, ![8192, 8, 1]⟩
abbrev S1x8x64 : Shape := ⟨3, ![1, 8, 64]⟩
abbrev S8192x1536 : Shape := ⟨2, ![8192, 1536]⟩
abbrev S1x512 : Shape := ⟨2, ![1, 512]⟩

abbrev nBuf : Space → Nat
  | .hbm => 179
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x3072, .f32⟩
  | 4 => ⟨S64, .f32⟩
  | 5 => ⟨S64, .f32⟩
  | 6 => ⟨S8192x512, .f32⟩
  | 7 => ⟨S8192x512, .f32⟩
  | 8 => ⟨S8192x512, .f32⟩
  | 9 => ⟨S8192x3072, .bf16⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x3072, .f32⟩
  | 31 => ⟨S8192x512, .f32⟩
  | 32 => ⟨S8192x512, .f32⟩
  | 33 => ⟨S1x64, .f32⟩
  | 34 => ⟨S1x1x1x64, .f32⟩
  | 35 => ⟨S8x1x1x64, .f32⟩
  | 36 => ⟨S8x64, .f32⟩
  | 37 => ⟨S8192x8x64, .f32⟩
  | 38 => ⟨S8192x8x64, .f32⟩
  | 39 => ⟨S_, .f32⟩
  | 40 => ⟨S8192x8, .f32⟩
  | 41 => ⟨S8192x8x1, .f32⟩
  | 42 => ⟨S_, .f32⟩
  | 43 => ⟨S8192x8x1, .f32⟩
  | 44 => ⟨S8192x8x1, .f32⟩
  | 45 => ⟨S_, .f32⟩
  | 46 => ⟨S8192x8x1, .f32⟩
  | 47 => ⟨S8192x8x1, .f32⟩
  | 48 => ⟨S8192x8x1, .f32⟩
  | 49 => ⟨S8192x8x1, .f32⟩
  | 50 => ⟨S_, .f32⟩
  | 51 => ⟨S8192x8x1, .f32⟩
  | 52 => ⟨S8192x8x1, .f32⟩
  | 53 => ⟨S8192x8x64, .f32⟩
  | 54 => ⟨S8192x8x64, .f32⟩
  | 55 => ⟨S1x8x64, .f32⟩
  | 56 => ⟨S8192x8x64, .f32⟩
  | 57 => ⟨S8192x8x64, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x8x64, .f32⟩
  | 66 => ⟨S8192x8x64, .f32⟩
  | 67 => ⟨S_, .f32⟩
  | 68 => ⟨S8x64, .f32⟩
  | 69 => ⟨S1x8x64, .f32⟩
  | 70 => ⟨S8192x8x64, .f32⟩
  | 71 => ⟨S8192x8x64, .f32⟩
  | 72 => ⟨S_, .f32⟩
  | 73 => ⟨S8x64, .f32⟩
  | 74 => ⟨S8192x8x64, .f32⟩
  | 75 => ⟨S_, .f32⟩
  | 76 => ⟨S8192x8, .f32⟩
  | 77 => ⟨S8192x8x1, .f32⟩
  | 78 => ⟨S8192x8x64, .f32⟩
  | 79 => ⟨S8192x8x64, .f32⟩
  | 80 => ⟨S8192x8x1, .f32⟩
  | 81 => ⟨S_, .f32⟩
  | 82 => ⟨S8192x8x1, .f32⟩
  | 83 => ⟨S8192x8x1, .f32⟩
  | 84 => ⟨S_, .f32⟩
  | 85 => ⟨S8192x8, .f32⟩
  | 86 => ⟨S8192x8x64, .f32⟩
  | 87 => ⟨S8192x8x64, .f32⟩
  | 88 => ⟨S8192x8x64, .f32⟩
  | 89 => ⟨S8192x8x64, .f32⟩
  | 90 => ⟨S8192x8x64, .f32⟩
  | 91 => ⟨S8192x512, .f32⟩
  | 92 => ⟨S1x64, .f32⟩
  | 93 => ⟨S1x1x1x64, .f32⟩
  | 94 => ⟨S8x1x1x64, .f32⟩
  | 95 => ⟨S8x64, .f32⟩
  | 96 => ⟨S8192x8x64, .f32⟩
  | 97 => ⟨S8192x8x64, .f32⟩
  | 98 => ⟨S_, .f32⟩
  | 99 => ⟨S8192x8, .f32⟩
  | 100 => ⟨S8192x8x1, .f32⟩
  | 101 => ⟨S_, .f32⟩
  | 102 => ⟨S8192x8x1, .f32⟩
  | 103 => ⟨S8192x8x1, .f32⟩
  | 104 => ⟨S_, .f32⟩
  | 105 => ⟨S8192x8x1, .f32⟩
  | 106 => ⟨S8192x8x1, .f32⟩
  | 107 => ⟨S8192x8x1, .f32⟩
  | 108 => ⟨S8192x8x1, .f32⟩
  | 109 => ⟨S_, .f32⟩
  | 110 => ⟨S8192x8x1, .f32⟩
  | 111 => ⟨S8192x8x1, .f32⟩
  | 112 => ⟨S8192x8x64, .f32⟩
  | 113 => ⟨S8192x8x64, .f32⟩
  | 114 => ⟨S1x8x64, .f32⟩
  | 115 => ⟨S8192x8x64, .f32⟩
  | 116 => ⟨S8192x8x64, .f32⟩
  | 117 => ⟨S8192x512, .f32⟩
  | 118 => ⟨S8192x8x64, .f32⟩
  | 119 => ⟨S8192x8x64, .f32⟩
  | 120 => ⟨S_, .f32⟩
  | 121 => ⟨S8x64, .f32⟩
  | 122 => ⟨S1x8x64, .f32⟩
  | 123 => ⟨S8192x8x64, .f32⟩
  | 124 => ⟨S8192x8x64, .f32⟩
  | 125 => ⟨S_, .f32⟩
  | 126 => ⟨S8x64, .f32⟩
  | 127 => ⟨S8192x8x64, .f32⟩
  | _ => ⟨S8192x1024, .f32⟩

abbrev hbmTy0_1 (i : Nat) : BufTy := match i % 128 with
  | 0 => ⟨S_, .f32⟩
  | 1 => ⟨S8192x8, .f32⟩
  | 2 => ⟨S8192x8x1, .f32⟩
  | 3 => ⟨S8192x8x64, .f32⟩
  | 4 => ⟨S8192x8x64, .f32⟩
  | 5 => ⟨S8192x8x1, .f32⟩
  | 6 => ⟨S_, .f32⟩
  | 7 => ⟨S8192x8x1, .f32⟩
  | 8 => ⟨S8192x8x1, .f32⟩
  | 9 => ⟨S_, .f32⟩
  | 10 => ⟨S8192x8, .f32⟩
  | 11 => ⟨S8192x8x64, .f32⟩
  | 12 => ⟨S8192x8x64, .f32⟩
  | 13 => ⟨S8192x8x64, .f32⟩
  | 14 => ⟨S8192x8x64, .f32⟩
  | 15 => ⟨S8192x8x64, .f32⟩
  | 16 => ⟨S8192x512, .f32⟩
  | 17 => ⟨S8192x1536, .bf16⟩
  | 18 => ⟨S8192x1536, .f32⟩
  | 19 => ⟨S8192x3072, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S_, .f32⟩
  | 28 => ⟨S1024, .f32⟩
  | 29 => ⟨S8192x1024, .f32⟩
  | 30 => ⟨S_, .f32⟩
  | 31 => ⟨S8192, .f32⟩
  | 32 => ⟨S8192x1, .f32⟩
  | 33 => ⟨S8192x1024, .f32⟩
  | 34 => ⟨S8192x1024, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S1x1024, .f32⟩
  | 48 => ⟨S8192x3072, .bf16⟩
  | 49 => ⟨S1x512, .f32⟩
  | 50 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_18 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_19 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_21 : Ref sig .tc := ⟨.hbm, 134, rfl⟩
abbrev main_v102 : Ref sig .tc := ⟨.hbm, 135, rfl⟩
abbrev main_v103 : Ref sig .tc := ⟨.hbm, 136, rfl⟩
abbrev main_cst_22 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_23 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_24 : Ref sig .tc := ⟨.hbm, 155, rfl⟩
abbrev main_v120 : Ref sig .tc := ⟨.hbm, 156, rfl⟩
abbrev main_v121 : Ref sig .tc := ⟨.hbm, 157, rfl⟩
abbrev main_cst_25 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_26 : Ref sig .tc := ⟨.hbm, 164, rfl⟩
abbrev main_v127 : Ref sig .tc := ⟨.hbm, 165, rfl⟩
abbrev main_v128 : Ref sig .tc := ⟨.hbm, 166, rfl⟩
abbrev main_cst_27 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩

abbrev nD : Nat := 1
abbrev τ : Topo := Topo.v7x

variable {F : FTy → Type} [FloatOps F]
-- ==== FfnBwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S4x1x1024x704 : Shape := ⟨4, ![4, 1, 1024, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512 : Shape := ⟨1, ![512]⟩
abbrev S512x1 : Shape := ⟨2, ![512, 1]⟩
abbrev S1x256x704 : Shape := ⟨3, ![1, 256, 704]⟩
abbrev S256x704 : Shape := ⟨2, ![256, 704]⟩
abbrev S256x1024 : Shape := ⟨2, ![256, 1024]⟩
abbrev S1x1x704x1024 : Shape := ⟨4, ![1, 1, 704, 1024]⟩
abbrev S704x1024 : Shape := ⟨2, ![704, 1024]⟩
abbrev S1x1x1024x704 : Shape := ⟨4, ![1, 1, 1024, 704]⟩
abbrev S1024x704 : Shape := ⟨2, ![1024, 704]⟩

abbrev nBuf : Space → Nat
  | .hbm => 48
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x4x704, .bf16⟩
  | .hbm, ⟨25, _⟩ => ⟨S4x8192x704, .bf16⟩
  | .hbm, ⟨26, _⟩ => ⟨S8192x2816, .f32⟩
  | .hbm, ⟨27, _⟩ => ⟨S8192x2816, .bf16⟩
  | .hbm, ⟨28, _⟩ => ⟨S8192x4x704, .bf16⟩
  | .hbm, ⟨29, _⟩ => ⟨S4x8192x704, .bf16⟩
  | .hbm, ⟨30, _⟩ => ⟨S1x1024, .f32⟩
  | .hbm, ⟨31, _⟩ => ⟨S1024x2816, .bf16⟩
  | .hbm, ⟨32, _⟩ => ⟨S1024x4x704, .bf16⟩
  | .hbm, ⟨33, _⟩ => ⟨S4x1024x704, .bf16⟩
  | .hbm, ⟨34, _⟩ => ⟨S4x1x1024x704, .bf16⟩
  | .hbm, ⟨35, _⟩ => ⟨S1024x2816, .bf16⟩
  | .hbm, ⟨36, _⟩ => ⟨S1024x4x704, .bf16⟩
  | .hbm, ⟨37, _⟩ => ⟨S4x1024x704, .bf16⟩
  | .hbm, ⟨38, _⟩ => ⟨S4x1x1024x704, .bf16⟩
  | .hbm, ⟨39, _⟩ => ⟨S2816x1024, .bf16⟩
  | .hbm, ⟨40, _⟩ => ⟨S4x1x704x1024, .bf16⟩
  | .hbm, ⟨41, _⟩ => ⟨S8192x1024, .f32⟩
  | .hbm, ⟨42, _⟩ => ⟨S1x1024, .f32⟩
  | .hbm, ⟨43, _⟩ => ⟨S8192x1024, .bf16⟩
  | .hbm, ⟨44, _⟩ => ⟨S8192x1024, .bf16⟩
  | .hbm, ⟨45, _⟩ => ⟨S4x8192x704, .bf16⟩
  | .hbm, ⟨46, _⟩ => ⟨S4x8192x704, .bf16⟩
  | .hbm, ⟨47, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S4x1x1024x704, .bf16⟩
  | .local _ .vmem, ⟨10, _⟩ => ⟨S4x1x1024x704, .bf16⟩
  | .local _ .vmem, ⟨11, _⟩ => ⟨S4x1x704x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev main_v32_5 : Ref sig .tc := ⟨.hbm, 46, rfl⟩
abbrev main_v32_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![16, 4], ![false, false]⟩

def k0_off1 (i : grid0.Coords) : Fin 4 → Nat :=
  let arg1 : BitVec 32 := BitVec.ofNat 32 (i 1).val
  let v16 : Index := Scalar.indexCast arg1
  let c0_11 : Index := 0#32
  let c0_12 : Index := 0#32
  let c0_13 : Index := 0#32
  ![v16.toNat, 0, 0, 0]
def k0_off2 (i : grid0.Coords) : Fin 4 → Nat :=
  let arg1 : BitVec 32 := BitVec.ofNat 32 (i 1).val
  let v93 : Index := Scalar.indexCast arg1
  let c0_55 : Index := 0#32
  let c0_56 : Index := 0#32
  let c0_57 : Index := 0#32
  ![v93.toNat, 0, 0, 0]
def k0_cond3 (i : grid0.Coords) : BitVec 1 :=
  let arg1 : BitVec 32 := BitVec.ofNat 32 (i 1).val
  let c3_i32 : BitVec 32 := 3#32
  let v120 : BitVec 1 := Scalar.cmpi .eq arg1 c3_i32
  let v121 : BitVec 32 := Scalar.extui v120
  let c0_i32_77 : BitVec 32 := 0#32
  let v122 : BitVec 1 := Scalar.cmpi .ne v121 c0_i32_77
  v122

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1x1024x704 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== FfnBwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1x1024, .f32⟩
  | .hbm, ⟨80, _⟩ => ⟨S8192x1024, .bf16⟩
  | .hbm, ⟨81, _⟩ => ⟨S8192x1024, .bf16⟩
  | .hbm, ⟨82, _⟩ => ⟨S8192x2816, .bf16⟩
  | .hbm, ⟨83, _⟩ => ⟨S8192x4x704, .bf16⟩
  | .hbm, ⟨84, _⟩ => ⟨S4x8192x704, .bf16⟩
  | .hbm, ⟨85, _⟩ => ⟨S8192x2816, .bf16⟩
  | .hbm, ⟨86, _⟩ => ⟨S8192x4x704, .bf16⟩
  | .hbm, ⟨87, _⟩ => ⟨S4x8192x704, .bf16⟩
  | .hbm, ⟨88, _⟩ => ⟨S8192x2816, .bf16⟩
  | .hbm, ⟨89, _⟩ => ⟨S8192x4x704, .bf16⟩
  | .hbm, ⟨90, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== AdamwIn.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInIdeal.lean ====
abbrev S2x1024x768 : Shape := ⟨3, ![2, 1024, 768]⟩
abbrev S2048x768 : Shape := ⟨2, ![2048, 768]⟩
abbrev S512x768 : Shape := ⟨2, ![512, 768]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInRefIdeal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | .hbm, ⟨40, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwOut.lean ====
abbrev S2x256x1024 : Shape := ⟨3, ![2, 256, 1024]⟩
abbrev S512x1024 : Shape := ⟨2, ![512, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwOutIdeal.lean ====
abbrev S2x256x1024 : Shape := ⟨3, ![2, 256, 1024]⟩
abbrev S512x1024 : Shape := ⟨2, ![512, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwGate.lean ====
abbrev S2x1024x704 : Shape := ⟨3, ![2, 1024, 704]⟩
abbrev S2048x704 : Shape := ⟨2, ![2048, 704]⟩
abbrev S512x704 : Shape := ⟨2, ![512, 704]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwGateIdeal.lean ====
abbrev S2x1024x704 : Shape := ⟨3, ![2, 1024, 704]⟩
abbrev S2048x704 : Shape := ⟨2, ![2048, 704]⟩
abbrev S512x704 : Shape := ⟨2, ![512, 704]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwGateRefIdeal.lean ====
abbrev S2x1024x704 : Shape := ⟨3, ![2, 1024, 704]⟩
abbrev S_ : Shape := ⟨0, ![]⟩
abbrev S2048x704 : Shape := ⟨2, ![2048, 704]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2048x704, .f32⟩
  | .hbm, ⟨38, _⟩ => ⟨S2048x704, .f32⟩
  | .hbm, ⟨39, _⟩ => ⟨S2048x704, .f32⟩
  | .hbm, ⟨40, _⟩ => ⟨S2048x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwDown.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | .hbm, ⟨40, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdamwSmall.lean ====
abbrev S24x1024 : Shape := ⟨2, ![24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSmallRefIdeal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x24x1024 : Shape := ⟨3, ![8, 24, 1024]⟩
abbrev S24x1024 : Shape := ⟨2, ![24, 1024]⟩
abbrev S8x128 : Shape := ⟨2, ![8, 128]⟩
abbrev S1x24x1024 : Shape := ⟨3, ![1, 24, 1024]⟩
abbrev S8x1024 : Shape := ⟨2, ![8, 1024]⟩
abbrev S8 : Shape := ⟨1, ![8]⟩
abbrev S8x1 : Shape := ⟨2, ![8, 1]⟩

abbrev nBuf : Space → Nat
  | .hbm => 4
  | .vmem => 4
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S8x128, .f32⟩
  | .hbm, ⟨3, _⟩ => ⟨S8x128, .f32⟩
  | .local _ .vmem, ⟨0, _⟩ => ⟨S8x24x1024, .f32⟩
  | .local _ .vmem, ⟨1, _⟩ => ⟨S24x1024, .f32⟩
  | .local _ .vmem, ⟨2, _⟩ => ⟨S8x128, .f32⟩
  | .local _ .vmem, ⟨3, _⟩ => ⟨S8x128, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SumSmallRefIdeal.lean ====
abbrev S8x24x1024 : Shape := ⟨3, ![8, 24, 1024]⟩
abbrev S_ : Shape := ⟨0, ![]⟩
abbrev S24x1024 : Shape := ⟨2, ![24, 1024]⟩
abbrev S8x512 : Shape := ⟨2, ![8, 512]⟩
abbrev S8x8x64 : Shape := ⟨3, ![8, 8, 64]⟩
abbrev S8x64 : Shape := ⟨2, ![8, 64]⟩
abbrev S8x1024 : Shape := ⟨2, ![8, 1024]⟩
abbrev S8 : Shape := ⟨1, ![8]⟩
abbrev S8x1 : Shape := ⟨2, ![8, 1]⟩
abbrev S8x128 : Shape := ⟨2, ![8, 128]⟩

abbrev nBuf : Space → Nat
  | .hbm => 13
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | .hbm, ⟨3, _⟩ => ⟨S8x512, .f32⟩
  | .hbm, ⟨4, _⟩ => ⟨S8x8x64, .f32⟩
  | .hbm, ⟨5, _⟩ => ⟨S_, .f32⟩
  | .hbm, ⟨6, _⟩ => ⟨S8x64, .f32⟩
  | .hbm, ⟨7, _⟩ => ⟨S8x1024, .f32⟩
  | .hbm, ⟨8, _⟩ => ⟨S_, .f32⟩
  | .hbm, ⟨9, _⟩ => ⟨S8, .f32⟩
  | .hbm, ⟨10, _⟩ => ⟨S8x1, .f32⟩
  | .hbm, ⟨11, _⟩ => ⟨S8x128, .f32⟩
  | .hbm, ⟨12, _⟩ => ⟨S8x128, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Conv.lean ====
module

public import proofs.«01_k».proof.Proof.Gen.KernelIdeal.Value
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

namespace Cert.KernelIdeal.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem idx_val : ∀ t : Fin cfg0.N, win0_0.index t = ![t.val, 3] ∧ win0_1.index t = ![t.val, 4] ∧ win0_2.index t = ![t.val, 5] ∧ win0_3.index t = ![t.val, 0]
    ∧ win0_4.index t = ![t.val * 64 - 1, 4] ∧ win0_5.index t = ![t.val * 64 - 1, 5] ∧ win0_6.index t = ![min ((t.val + 1) * 64) 1023, 3]
    ∧ win0_7.index t = ![min ((t.val + 1) * 64) 1023, 0] ∧ win0_8.index t = ![0, 0] ∧ win0_9.index t = ![t.val, 1] ∧ win0_10.index t = ![0, 0] :=
  (by decide +kernel : ∀ t : Fin grid0.N, _)

theorem crd : ∀ t : Fin cfg0.N, (grid0.coords t 0).val = t.val := (by decide +kernel : ∀ t : Fin grid0.N, _)

def R {p q : ℕ} (X : (⟨2, ![p, q]⟩ : Shape).Idx → EReal) (n k : ℕ) : EReal :=
  if h : n < p ∧ k < q then X (ix2 (⟨n, h.1⟩ : Fin p) (⟨k, h.2⟩ : Fin q)) else 0

theorem cmp_eq (a k : ℕ) (ha : a < 2 ^ 32) (hk : k < 2 ^ 32) : IntOp.cmpi CmpIPredicate.eq (BitVec.ofNat 32 a) (BitVec.ofNat 32 k) = if a = k then 1#1 else 0#1 := by
  have e : (BitVec.ofNat 32 a = BitVec.ofNat 32 k) ↔ a = k := by
    rw [← BitVec.toNat_inj, BitVec.toNat_ofNat, BitVec.toNat_ofNat, Nat.mod_eq_of_lt ha, Nat.mod_eq_of_lt hk]
  by_cases h : a = k
  · subst h; simp [IntOp.cmpi]
  · rw [if_neg h]
    have h2 : ¬ BitVec.ofNat 32 a = BitVec.ofNat 32 k := fun x => h (e.mp x)
    simp only [IntOp.cmpi, beq_eq_false_iff_ne.mpr h2]
    rfl

theorem sel_eq {α : Type} (a k : ℕ) (ha : a < 2 ^ 32) (hk : k < 2 ^ 32) (x y : α) :
    Scalar.select (IntOp.cmpi CmpIPredicate.eq (BitVec.ofNat 32 a) (BitVec.ofNat 32 k)) x y = if a = k then x else y := by
  rw [cmp_eq a k ha hk]
  unfold Scalar.select
  split <;> simp_all

abbrev TAPS (W : FVec Ideal S3x512 .f32) : FVec Ideal S8x512 .f32 :=
  shapeCast S8x512 (transpose S8x4x128 [1, 0, 2] (shapeCast S4x8x128 (extractStridedSlice S4x1x8x128 ![0, 0, 0, 0]
    (transpose S4x1x16x128 [1, 2, 0, 3] (shapeCast S16x4x1x128 (pad S16x512 ![0, 0] ![13, 0] ![0, 0] W (sitofp .f32 (constantI S_ 32 0#32)) pads_S3x512_S16x512_0130_000 h_S_)
    shapeCasts_S16x512_S16x4x1x128) transposes_S16x4x1x128_S4x1x16x128_1_2_0_3) slices_S4x1x16x128_S4x1x8x128_0_0_0_0) shapeCasts_S4x1x8x128_S4x8x128) transposes_S4x8x128_S8x4x128_1_0_2) shapeCasts_S8x4x128_S8x512

theorem taps_eq (c : Dev nD) : V m c main_v6 = TAPS (m ((c : Thread nD τ).loc main_arg1)) := by
  unfold V
  simp only [hostOps0, hostOps0_1, hostOps0_2, List.flatten_cons, List.flatten_nil, List.append_nil, List.cons_append,
      List.nil_append]
  after_results
  rfl

theorem taps_at (W : FVec Ideal S3x512 .f32) (k : ℕ) (hk : k < 3) (b : Fin 512) : TAPS W (ix2 (⟨k, by omega⟩ : Fin 8) b) = W (ix2 (⟨k, hk⟩ : Fin 3) b) := by
  pointwise [TAPS]
  rw [dif_pos hk]

theorem blk8 (c : Dev nD) (t : Fin cfg0.N) (k : ℕ) (hk : k < 3) (b : Fin 512) :
    iblk m c 8 t (ix2 (⟨k, by omega⟩ : Fin 8) b) = R (m ((c : Thread nD τ).loc main_arg1)) k b.val := by
  rw [R, dif_pos (by omega)]
  refine Eq.trans ?_ (taps_at _ k hk b)
  rw [← taps_eq]
  blk_ext [iblk, idx_val t]

theorem blk0 (c : Dev nD) (t : Fin cfg0.N) (a b : Fin 512) :
    iblk m c 0 t (ix2 a b) = R (m ((c : Thread nD τ).loc main_arg0)) (512 * t.val + a.val) (1536 + b.val) := by
  have ht : t.val < 16 := Nat.lt_of_lt_of_eq t.isLt N_0
  rw [R, dif_pos (by omega)]
  blk_ext [iblk, V, V_main_arg0, idx_val t]

theorem blk1 (c : Dev nD) (t : Fin cfg0.N) (a b : Fin 512) :
    iblk m c 1 t (ix2 a b) = R (m ((c : Thread nD τ).loc main_arg0)) (512 * t.val + a.val) (2048 + b.val) := by
  have ht : t.val < 16 := Nat.lt_of_lt_of_eq t.isLt N_0
  rw [R, dif_pos (by omega)]
  blk_ext [iblk, V, V_main_arg0, idx_val t]

theorem blk2 (c : Dev nD) (t : Fin cfg0.N) (a b : Fin 512) :
    iblk m c 2 t (ix2 a b) = R (m ((c : Thread nD τ).loc main_arg0)) (512 * t.val + a.val) (2560 + b.val) := by
  have ht : t.val < 16 := Nat.lt_of_lt_of_eq t.isLt N_0
  rw [R, dif_pos (by omega)]
  blk_ext [iblk, V, V_main_arg0, idx_val t]

theorem blk3 (c : Dev nD) (t : Fin cfg0.N) (a b : Fin 512) :
    iblk m c 3 t (ix2 a b) = R (m ((c : Thread nD τ).loc main_arg2)) (512 * t.val + a.val) b.val := by
  have ht : t.val < 16 := Nat.lt_of_lt_of_eq t.isLt N_0
  rw [R, dif_pos (by omega)]
  blk_ext [iblk, V, V_main_arg2, idx_val t]

theorem blk4 (c : Dev nD) (t : Fin cfg0.N) (h : t.val ≠ 0) (a : Fin 8) (b : Fin 512) :
    iblk m c 4 t (ix2 a b) = R (m ((c : Thread nD τ).loc main_arg0)) (512 * t.val + a.val - 8) (2048 + b.val) := by
  have ht : t.val < 16 := Nat.lt_of_lt_of_eq t.isLt N_0
  rw [R, dif_pos (by omega)]
  blk_ext [iblk, V, V_main_arg0, idx_val t]

theorem blk5 (c : Dev nD) (t : Fin cfg0.N) (h : t.val ≠ 0) (a : Fin 8) (b : Fin 512) :
    iblk m c 5 t (ix2 a b) = R (m ((c : Thread nD τ).loc main_arg0)) (512 * t.val + a.val - 8) (2560 + b.val) := by
  have ht : t.val < 16 := Nat.lt_of_lt_of_eq t.isLt N_0
  rw [R, dif_pos (by omega)]
  blk_ext [iblk, V, V_main_arg0, idx_val t]

theorem blk6 (c : Dev nD) (t : Fin cfg0.N) (h : t.val ≠ 15) (a : Fin 8) (b : Fin 512) :
    iblk m c 6 t (ix2 a b) = R (m ((c : Thread nD τ).loc main_arg0)) (512 * t.val + 512 + a.val) (1536 + b.val) := by
  have ht : t.val < 16 := Nat.lt_of_lt_of_eq t.isLt N_0
  rw [R, dif_pos (by omega)]
  blk_ext [iblk, V, V_main_arg0, idx_val t]

theorem blk7 (c : Dev nD) (t : Fin cfg0.N) (h : t.val ≠ 15) (a : Fin 8) (b : Fin 512) :
    iblk m c 7 t (ix2 a b) = R (m ((c : Thread nD τ).loc main_arg2)) (512 * t.val + 512 + a.val) b.val := by
  have ht : t.val < 16 := Nat.lt_of_lt_of_eq t.isLt N_0
  rw [R, dif_pos (by omega)]
  blk_ext [iblk, V, V_main_arg2, idx_val t]

/-- The row `n - k` of the convolution's input, zero above the first row. -/
def hh (X : FVec Ideal S8192x3072 .f32) (k n q : ℕ) : EReal := if k ≤ n then R X (n - k) (2048 + q) * R X (n - k) (2560 + q) else 0
/-- The row `n + k` of the convolution's cotangent, zero below the last row. -/
def dd (X : FVec Ideal S8192x3072 .f32) (D : FVec Ideal S8192x512 .f32) (k n q : ℕ) : EReal := R D (n + k) q * R X (n + k) (1536 + q)
def yy (X : FVec Ideal S8192x3072 .f32) (W : FVec Ideal S3x512 .f32) (n q : ℕ) : EReal := R W 0 q * hh X 2 n q + R W 1 q * hh X 1 n q + R W 2 q * hh X 0 n q
def dh (X : FVec Ideal S8192x3072 .f32) (W : FVec Ideal S3x512 .f32) (D : FVec Ideal S8192x512 .f32) (n q : ℕ) : EReal :=
  R W 2 q * dd X D 0 n q + R W 1 q * dd X D 1 n q + R W 0 q * dd X D 2 n q

theorem hh_of (X : FVec Ideal S8192x3072 .f32) {k n q r : ℕ} (h : n = r + k) : hh X k n q = R X r (2048 + q) * R X r (2560 + q) := by
  subst h; rw [hh, if_pos (by omega), Nat.add_sub_cancel]
theorem hh_zero (X : FVec Ideal S8192x3072 .f32) {k n q : ℕ} (h : n < k) : hh X k n q = 0 := by rw [hh, if_neg (by omega)]
theorem dd_of (X : FVec Ideal S8192x3072 .f32) (D : FVec Ideal S8192x512 .f32) {k n q r : ℕ} (h : r = n + k) : dd X D k n q = R D r q * R X r (1536 + q) := by subst h; rfl
theorem R_out {p q : ℕ} (X : (⟨2, ![p, q]⟩ : Shape).Idx → EReal) {n k : ℕ} (h : p ≤ n) : R X n k = 0 := by rw [R, dif_neg (by omega)]
theorem dd_zero (X : FVec Ideal S8192x3072 .f32) (D : FVec Ideal S8192x512 .f32) {k n q : ℕ} (h : 8192 ≤ n + k) : dd X D k n q = 0 := by
  rw [dd, R_out D h, zero_mul]

abbrev X0 (c : Dev nD) : FVec Ideal S8192x3072 .f32 := m ((c : Thread nD τ).loc main_arg0)
abbrev W0 (c : Dev nD) : FVec Ideal S3x512 .f32 := m ((c : Thread nD τ).loc main_arg1)
abbrev D0 (c : Dev nD) : FVec Ideal S8192x512 .f32 := m ((c : Thread nD τ).loc main_arg2)

theorem h0K (c : Dev nD) (t : Fin cfg0.N) (a b : Fin 512) : k0_pay4 (F := Ideal) (iblk m c 1 t) (iblk m c 2 t) (ix2 a b) = hh (X0 m c) 0 (512 * t.val + a.val) b.val := by
  pointwise [k0_pay4]
  rw [blk1, blk2, hh, if_pos (by omega)]; rfl

theorem h1K (c : Dev nD) (t : Fin cfg0.N) (a b : Fin 512) : (k0_pay6 (F := Ideal) (grid0.coords t) (iblk m c 1 t) (iblk m c 2 t)
                (View.ld (iblk m c 4 t) (Rect.unit ![7, 0] ![1, 512] inb_S8x512_S1x512_7_0))
                (View.ld (iblk m c 5 t) (Rect.unit ![7, 0] ![1, 512] inb_S8x512_S1x512_7_0))) (ix2 a b) = hh (X0 m c) 1 (512 * t.val + a.val) b.val := by
  have ht : t.val < 16 := Nat.lt_of_lt_of_eq t.isLt N_0
  pointwise [k0_pay5, k0_pay6, k0_pay4]
  simp only [Scalar.cmpi, crd]
  rw [sel_eq _ _ (by omega) (by omega), sel_eq _ _ (by omega) (by omega)]
  split_ifs with h1 h2
  · rw [hh_zero _ (by omega)]
  · rw [blk4 _ _ _ h2, blk5 _ _ _ h2, hh_of _ (r := 512 * t.val + 7 - 8) (by omega)]; rfl
  · rw [blk1, blk2, hh_of _ (r := 512 * t.val + (a.val + 512 - 1) % 512) (by omega)]

theorem h2K (c : Dev nD) (t : Fin cfg0.N) (a b : Fin 512) : (k0_pay10 (F := Ideal) (k0_pay5 (grid0.coords t) (View.ld (iblk m c 4 t) (Rect.unit ![7, 0] ![1, 512] inb_S8x512_S1x512_7_0))
                (View.ld (iblk m c 5 t) (Rect.unit ![7, 0] ![1, 512] inb_S8x512_S1x512_7_0)))
              (iota Kind.tc S512x512 32 [0] iota_S512x512_d0_w32) (k0_pay7 (iblk m c 1 t) (iblk m c 2 t)) k0_pay8
              (k0_pay9 (grid0.coords t) (View.ld (iblk m c 4 t) (Rect.unit ![6, 0] ![1, 512] inb_S8x512_S1x512_6_0))
                (View.ld (iblk m c 5 t) (Rect.unit ![6, 0] ![1, 512] inb_S8x512_S1x512_6_0)))) (ix2 a b) = hh (X0 m c) 2 (512 * t.val + a.val) b.val := by
  have ht : t.val < 16 := Nat.lt_of_lt_of_eq t.isLt N_0
  pointwise [k0_pay10, k0_pay5, k0_pay7, k0_pay8, k0_pay9, k0_pay4]
  simp only [Scalar.cmpi, crd]
  rw [sel_eq _ _ (by omega) (by omega), sel_eq _ _ (by omega) (by omega), sel_eq _ _ (by omega) (by omega), sel_eq _ _ (by omega) (by omega)]
  split_ifs with h1 h2 h3 h4
  · rw [hh_zero _ (by omega)]
  · rw [blk4 _ _ _ h2, blk5 _ _ _ h2, hh_of _ (r := 512 * t.val + 7 - 8) (by omega)]; rfl
  · rw [hh_zero _ (by omega)]
  · rw [blk4 _ _ _ h4, blk5 _ _ _ h4, hh_of _ (r := 512 * t.val + 6 - 8) (by omega)]; rfl
  · rw [blk1, blk2, hh_of _ (r := 512 * t.val + (a.val + 512 - 2) % 512) (by omega)]

theorem d0K (c : Dev nD) (t : Fin cfg0.N) (a b : Fin 512) : k0_pay12 (F := Ideal) (iblk m c 0 t) (iblk m c 3 t) (ix2 a b) = dd (X0 m c) (D0 m c) 0 (512 * t.val + a.val) b.val := by
  pointwise [k0_pay12]
  rw [blk0, blk3, dd_of _ _ (r := 512 * t.val + a.val) (by omega)]

theorem dhK (c : Dev nD) (t : Fin cfg0.N) (a b : Fin 512) : (k0_pay17 (F := Ideal) (k0_pay12 (iblk m c 0 t) (iblk m c 3 t))
            (k0_pay13 (Scalar.cmpi CmpIPredicate.eq (BitVec.ofNat 32 ↑(grid0.coords t 0)) 15#32)
              (View.ld (iblk m c 7 t) (Rect.unit ![0, 0] ![1, 512] inb_S8x512_S1x512_0_0))
              (View.ld (iblk m c 6 t) (Rect.unit ![0, 0] ![1, 512] inb_S8x512_S1x512_0_0)))
            (k0_pay14 (Scalar.cmpi CmpIPredicate.eq (BitVec.ofNat 32 ↑(grid0.coords t 0)) 15#32)
              (View.ld (iblk m c 7 t) (Rect.unit ![1, 0] ![1, 512] inb_S8x512_S1x512_1_0))
              (View.ld (iblk m c 6 t) (Rect.unit ![1, 0] ![1, 512] inb_S8x512_S1x512_1_0)))
            (k0_pay15 (iblk m c 0 t) (iblk m c 3 t)
              (View.ld (iblk m c 8 t) (Rect.unit ![2, 0] ![1, 512] inb_S8x512_S1x512_2_0)))
            (k0_pay16 (View.ld (iblk m c 8 t) (Rect.unit ![1, 0] ![1, 512] inb_S8x512_S1x512_1_0)))
            (iota Kind.tc S512x512 32 [0] iota_S512x512_d0_w32)
            (View.ld (iblk m c 8 t) (Rect.unit ![0, 0] ![1, 512] inb_S8x512_S1x512_0_0))) (ix2 a b) = dh (X0 m c) (W0 m c) (D0 m c) (512 * t.val + a.val) b.val := by
  have ht : t.val < 16 := Nat.lt_of_lt_of_eq t.isLt N_0
  pointwise [k0_pay17, k0_pay16, k0_pay15, k0_pay14, k0_pay13, k0_pay12]
  simp only [Scalar.cmpi, crd]
  rw [sel_eq _ _ (by omega) (by omega), sel_eq _ _ (by omega) (by omega), sel_eq _ _ (by omega) (by omega), sel_eq _ _ (by omega) (by omega), sel_eq _ _ (by omega) (by omega)]
  have e0 : iblk m c 8 t (ix2 0 b) = R (W0 m c) 0 b.val := blk8 m c t 0 (by omega) b
  have e1 : iblk m c 8 t (ix2 1 b) = R (W0 m c) 1 b.val := blk8 m c t 1 (by omega) b
  have e2 : iblk m c 8 t (ix2 2 b) = R (W0 m c) 2 b.val := blk8 m c t 2 (by omega) b
  rw [dh]
  refine Ideal.add_congr (Ideal.add_congr (Ideal.mul_congr e2 ?_) (Ideal.mul_congr e1 ?_)) (Ideal.mul_congr e0 ?_)
  · rw [blk0, blk3, dd_of _ _ (r := 512 * t.val + a.val) (by omega)]
  · split_ifs with h1 h2
    · rw [dd_zero _ _ (by omega)]
    · rw [blk7 _ _ _ h2, blk6 _ _ _ h2, dd_of _ _ (r := 512 * t.val + 512 + 0) (by omega)]; rfl
    · rw [blk0, blk3, dd_of _ _ (r := 512 * t.val + (a.val + 512 - 511) % 512) (by omega)]
  · split_ifs with h1 h2 h3 h4
    · rw [dd_zero _ _ (by omega)]
    · rw [blk7 _ _ _ h2, blk6 _ _ _ h2, dd_of _ _ (r := 512 * t.val + 512 + 1) (by omega)]; rfl
    · rw [dd_zero _ _ (by omega)]
    · rw [blk7 _ _ _ h4, blk6 _ _ _ h4, dd_of _ _ (r := 512 * t.val + 512 + 0) (by omega)]; rfl
    · rw [blk0, blk3, dd_of _ _ (r := 512 * t.val + (a.val + 512 - 510) % 512) (by omega)]

def GP (X : FVec Ideal S8192x3072 .f32) (W : FVec Ideal S3x512 .f32) (D : FVec Ideal S8192x512 .f32) (n q : ℕ) : EReal :=
  if q < 512 then R D n q * yy X W n q else if q < 1024 then dh X W D n (q - 512) * R X n (2560 + (q - 512)) else dh X W D n (q - 1024) * R X n (2048 + (q - 1024))

theorem out9 (c : Dev nD) (t : Fin cfg0.N) (y : S512x1536.Idx) :
    (outsAt0 m c t.val t.isLt).1 y = GP (X0 m c) (W0 m c) (D0 m c) (512 * t.val + (y 0).val) (y 1).val := by
  by_cases hA : t.val % 16 = 0
  · rw [outsAt0_A m c t hA]
    frame_out
    canon_tiles x h
    case piece0 =>
      obtain ⟨x0, x1, rfl⟩ : ∃ (x0 x1 : Fin 512), x = ix2 x0 x1 := ⟨x 0, x 1, eq_ix2 x⟩
      pointwise [k0_pay20]
      refine (Ideal.mul_congr (dhK m c t x0 x1) (blk1 m c t x0 x1)).trans ?_
      rw [GP, if_neg (by rw [h1]; omega), if_neg (by rw [h1]; omega), h0, h1, Nat.add_sub_cancel_left]; rfl
    case piece1 =>
      obtain ⟨x0, x1, rfl⟩ : ∃ (x0 x1 : Fin 512), x = ix2 x0 x1 := ⟨x 0, x 1, eq_ix2 x⟩
      pointwise [k0_pay19]
      refine (Ideal.mul_congr (dhK m c t x0 x1) (blk2 m c t x0 x1)).trans ?_
      have l : (ix2 x0 x1 : S512x512.Idx) 1 = x1 := rfl
      rw [GP, if_neg (by rw [h1]; omega), if_pos (by rw [h1]; omega), h0, h1, Nat.add_sub_cancel_left]; rfl
    case piece2 =>
      obtain ⟨x0, x1, rfl⟩ : ∃ (x0 x1 : Fin 512), x = ix2 x0 x1 := ⟨x 0, x 1, eq_ix2 x⟩
      pointwise [k0_pay18, k0_pay11]
      have e0 : iblk m c 8 t (ix2 0 x1) = R (W0 m c) 0 x1.val := blk8 m c t 0 (by omega) x1
      have e1 : iblk m c 8 t (ix2 1 x1) = R (W0 m c) 1 x1.val := blk8 m c t 1 (by omega) x1
      have e2 : iblk m c 8 t (ix2 2 x1) = R (W0 m c) 2 x1.val := blk8 m c t 2 (by omega) x1
      refine (Ideal.mul_congr (blk3 m c t x0 x1) (Ideal.add_congr (Ideal.add_congr (Ideal.mul_congr e0 (h2K m c t x0 x1)) (Ideal.mul_congr e1 (h1K m c t x0 x1))) (Ideal.mul_congr e2 (h0K m c t x0 x1)))).trans ?_
      rw [GP, if_pos (by rw [h1]; omega), h0, h1]; simp only [Nat.zero_add]; rfl
  · rw [outsAt0_B m c t hA]
    frame_out
    canon_tiles x h
    case piece0 =>
      obtain ⟨x0, x1, rfl⟩ : ∃ (x0 x1 : Fin 512), x = ix2 x0 x1 := ⟨x 0, x 1, eq_ix2 x⟩
      pointwise [k0_pay20]
      refine (Ideal.mul_congr (dhK m c t x0 x1) (blk1 m c t x0 x1)).trans ?_
      rw [GP, if_neg (by rw [h1]; omega), if_neg (by rw [h1]; omega), h0, h1, Nat.add_sub_cancel_left]; rfl
    case piece1 =>
      obtain ⟨x0, x1, rfl⟩ : ∃ (x0 x1 : Fin 512), x = ix2 x0 x1 := ⟨x 0, x 1, eq_ix2 x⟩
      pointwise [k0_pay19]
      refine (Ideal.mul_congr (dhK m c t x0 x1) (blk2 m c t x0 x1)).trans ?_
      have l : (ix2 x0 x1 : S512x512.Idx) 1 = x1 := rfl
      rw [GP, if_neg (by rw [h1]; omega), if_pos (by rw [h1]; omega), h0, h1, Nat.add_sub_cancel_left]; rfl
    case piece2 =>
      obtain ⟨x0, x1, rfl⟩ : ∃ (x0 x1 : Fin 512), x = ix2 x0 x1 := ⟨x 0, x 1, eq_ix2 x⟩
      pointwise [k0_pay18, k0_pay11]
      have e0 : iblk m c 8 t (ix2 0 x1) = R (W0 m c) 0 x1.val := blk8 m c t 0 (by omega) x1
      have e1 : iblk m c 8 t (ix2 1 x1) = R (W0 m c) 1 x1.val := blk8 m c t 1 (by omega) x1
      have e2 : iblk m c 8 t (ix2 2 x1) = R (W0 m c) 2 x1.val := blk8 m c t 2 (by omega) x1
      refine (Ideal.mul_congr (blk3 m c t x0 x1) (Ideal.add_congr (Ideal.add_congr (Ideal.mul_congr e0 (h2K m c t x0 x1)) (Ideal.mul_congr e1 (h1K m c t x0 x1))) (Ideal.mul_congr e2 (h0K m c t x0 x1)))).trans ?_
      rw [GP, if_pos (by rw [h1]; omega), h0, h1]; simp only [Nat.zero_add]; rfl

theorem rw_row {κ : Kind} {sp : Space} (v : View sig κ sp S8x512 .f32) (f : v.ty.Contents (Elt Ideal)) (o : ℕ) (inb : ∀ a : Fin 2, (![o, 0] : Fin 2 → ℕ) a + (![1, 512] : Fin 2 → ℕ) a ≤ S8x512.size a)
    (w : (Rect.unit (s := S8x512) ![o, 0] ![1, 512] inb).shape.Idx → Elt Ideal .f32) (L : List (View.Piece (Elt Ideal) S8x512 .f32)) (a : Fin 8) (b : Fin 512) :
    v.read (Elt Ideal) (v.writes (Elt Ideal) f ((⟨Rect.unit (s := S8x512) ![o, 0] ![1, 512] inb, w⟩ : View.Piece (Elt Ideal) S8x512 .f32) :: L)) (ix2 a b)
      = if a.val = o then w (ix2 (0 : Fin 1) b) else v.read (Elt Ideal) (v.writes (Elt Ideal) f L) (ix2 a b) := by
  split_ifs with h
  · refine View.read_writes_cons_unit_of_mem v f inb w L (ix2 a b) (ix2 (0 : Fin 1) b) rfl ?_
    refine Fin.forall_fin_two.mpr ⟨?_, ?_⟩
    · show a.val = o + 0; omega
    · show b.val = 0 + b.val; omega
  · refine View.read_writes_cons_unit_of_not_mem v f inb w L (ix2 a b) rfl (0 : Fin 2) ?_
    show a.val < o ∨ o + 1 ≤ a.val; omega

/-- What one block of rows adds to row `k` of the gradient of the taps. -/
def part (X : FVec Ideal S8192x3072 .f32) (D : FVec Ideal S8192x512 .f32) (k t q : ℕ) : EReal :=
  if k < 3 then ∑ n : Fin 512, dd X D 0 (512 * t + n.val) q * hh X (2 - k) (512 * t + n.val) q else 0

theorem covRow {κ : Kind} {sp : Space} (v : View sig κ sp S8x512 .f32) (o : ℕ) (ho : o < 8) (inb : ∀ a : Fin 2, (![o, 0] : Fin 2 → ℕ) a + (![1, 512] : Fin 2 → ℕ) a ≤ S8x512.size a)
    (L : List (View.Piece (Elt Ideal) S8x512 .f32)) (b : Fin 512) :
    v.readCov L (Rect.unit (s := S8x512) ![o, 0] ![1, 512] inb).toLoadRect (ix2 (0 : Fin 1) b) = v.read (Elt Ideal) (v.writes (Elt Ideal) v.junk L) (ix2 (⟨o, ho⟩ : Fin 8) b) := by
  rw [View.readCov_eq_canon', View.read_writes_junk_apply_eq_canon]
  refine congrArg _ (funext (Fin.forall_fin_two.mpr ⟨?_, ?_⟩)) <;> refine Fin.ext ?_
  · show o + 1 * 0 = o; omega
  · show 0 + 1 * b.val = b.val; omega

theorem fill {κ : Kind} {sp : Space} (v : View sig κ sp S8x512 .f32) (f : v.ty.Contents (Elt Ideal)) (inb : ∀ a : Fin 2, (![0, 0] : Fin 2 → ℕ) a + (![8, 512] : Fin 2 → ℕ) a ≤ S8x512.size a)
    (w : (Rect.unit (s := S8x512) ![0, 0] ![8, 512] inb).shape.Idx → Elt Ideal .f32) (L : List (View.Piece (Elt Ideal) S8x512 .f32)) (a : Fin 8) (b : Fin 512) :
    v.read (Elt Ideal) (v.writes (Elt Ideal) f ((⟨Rect.unit (s := S8x512) ![0, 0] ![8, 512] inb, w⟩ : View.Piece (Elt Ideal) S8x512 .f32) :: L)) (ix2 a b) = w (ix2 a b) := by
  refine View.read_writes_cons_unit_of_mem v f inb w L (ix2 a b) (ix2 a b) rfl ?_
  refine Fin.forall_fin_two.mpr ⟨?_, ?_⟩
  · show a.val = 0 + a.val; omega
  · show b.val = 0 + b.val; omega

theorem out10B (c : Dev nD) (t : Fin cfg0.N) (h0 : ¬ t.val % 16 = 0) (a : Fin 8) (b : Fin 512) :
    (outsAt0 m c t.val t.isLt).2 (ix2 a b) = ((outsAt0 m c (t.val - 1) (Nat.lt_of_le_of_lt (Nat.sub_le _ _) t.isLt)).2 : FVec Ideal S8x512 .f32) (ix2 a b) + part (X0 m c) (D0 m c) a.val t.val b.val := by
  rw [outsAt0_B m c t h0]
  frame_out
  rw [rw_row, rw_row, rw_row]
  split_ifs with h2 h1 h0
  · obtain rfl : a = 2 := Fin.ext h2
    pointwise [k0_pay2]
    exact Ideal.add_congr rfl (Fin.sum_fin_congr fun n => Ideal.mul_congr (d0K m c t n b) (h0K m c t n b))
  · obtain rfl : a = 1 := Fin.ext h1
    pointwise [k0_pay1]
    exact Ideal.add_congr rfl (Fin.sum_fin_congr fun n => Ideal.mul_congr (d0K m c t n b) (h1K m c t n b))
  · obtain rfl : a = 0 := Fin.ext h0
    pointwise [k0_pay21]
    exact Ideal.add_congr rfl (Fin.sum_fin_congr fun n => Ideal.mul_congr (d0K m c t n b) (h2K m c t n b))
  · rw [part, if_neg (by omega), View.writes_nil, Memref.IsWhole.read_unread, add_zero]

theorem out10A (c : Dev nD) (t : Fin cfg0.N) (h0 : t.val % 16 = 0) (a : Fin 8) (b : Fin 512) :
    (outsAt0 m c t.val t.isLt).2 (ix2 a b) = part (X0 m c) (D0 m c) a.val t.val b.val := by
  rw [outsAt0_A m c t h0]
  frame_out
  rw [← View.read_writes_junk_apply_eq_canon (ms0_10 t).view]
  have hz : ∀ j, (k0_pay3 (F := Ideal)) j = 0 := fun j => by pointwise [k0_pay3]
  rw [rw_row, rw_row, rw_row]
  split_ifs with h2 h1 h0
  · obtain rfl : a = 2 := Fin.ext h2
    pointwise [k0_pay2]
    rw [covRow _ 2 (by omega), rw_row, if_neg (by simp), rw_row, if_neg (by simp), fill, hz, zero_add]
    exact Fin.sum_fin_congr fun n => Ideal.mul_congr (d0K m c t n b) (h0K m c t n b)
  · obtain rfl : a = 1 := Fin.ext h1
    pointwise [k0_pay1]
    rw [covRow _ 1 (by omega), rw_row, if_neg (by simp), fill, hz, zero_add]
    exact Fin.sum_fin_congr fun n => Ideal.mul_congr (d0K m c t n b) (h1K m c t n b)
  · obtain rfl : a = 0 := Fin.ext h0
    pointwise [k0_pay21]
    rw [covRow _ 0 (by omega), fill, hz, zero_add]
    exact Fin.sum_fin_congr fun n => Ideal.mul_congr (d0K m c t n b) (h2K m c t n b)
  · rw [part, if_neg (by omega), fill, hz]

theorem final9 (c : Dev nD) : (dats m 0 c).arrAt 9 cfg0.N = fun i : S8192x3072.Idx => if 1536 ≤ (i 1).val then GP (X0 m c) (W0 m c) (D0 m c) (i 0).val ((i 1).val - 1536) else (dats m 0 c).A 9 i := by
  refine (dats m 0 c).arrAt_eq_of_coversWhere 9 (fun i : S8192x3072.Idx => GP (X0 m c) (W0 m c) (D0 m c) (i 0).val ((i 1).val - 1536)) (P := fun i : S8192x3072.Idx => 1536 ≤ (i 1).val) (fun β => 1 ≤ β 1) (by decide +kernel) (fun t hf y => ?_) (fun j => by blk_simp [Pipeline.Window.cell_apply]; omega)
  blk_simp
  rw [after0_9]
  refine (out9 m c t _).trans ?_
  have h1 := congrFun (idx_val t).2.2.2.2.2.2.2.2.2.1 0
  have h2 := congrFun (idx_val t).2.2.2.2.2.2.2.2.2.1 1
  change win0_9.index t 0 = t.val at h1
  change win0_9.index t 1 = 1 at h2
  rw [h1, h2, Nat.mul_comm 512]
  refine congrArg (GP _ _ _ _) ?_
  show (y 1).val = _
  omega

/-- Row `k` of the gradient of the taps: the sum over every row of the array. -/
def GW (X : FVec Ideal S8192x3072 .f32) (D : FVec Ideal S8192x512 .f32) (k q : ℕ) : EReal :=
  if k < 3 then ∑ n : Fin 8192, dd X D 0 n.val q * hh X (2 - k) n.val q else 0

def tl : Fin cfg0.N := ⟨15, (by decide : 15 < grid0.N)⟩

theorem final10 (c : Dev nD) : (dats m 0 c).arrAt 10 cfg0.N = fun i : S8x512.Idx => GW (X0 m c) (D0 m c) (i 0).val (i 1).val := by
  refine (dats m 0 c).arrAt_eq_of_after_last 10 tl (by decide +kernel) _ fun j => ?_
  blk_simp
  rw [after0_10, Pipeline.eq_sum_fin_of_reset_step_apply_last (fun n h => (outsAt0 m c n h).2) 16 (fun _ => 0) (fun (t : Fin cfg0.N) (j : S8x512.Idx) => part (X0 m c) (D0 m c) (j 0).val t.val (j 1).val)
      (fun t h j => by
        refine Eq.trans ?_ (zero_add _).symm
        refine Eq.trans ?_ (out10A m c t h (j 0) (j 1))
        exact congrArg (outsAt0 m c t.val t.isLt).2 (eq_ix2 (n0 := 8) (n1 := 512) j))
      (fun t h j => by
        refine Eq.trans ?_ ((out10B m c t h (j 0) (j 1)).trans ?_)
        · exact congrArg (outsAt0 m c t.val t.isLt).2 (eq_ix2 (n0 := 8) (n1 := 512) j)
        · refine congrArg₂ (· + ·) ?_ rfl
          exact congrArg (outsAt0 m c (t.val - 1) _).2 (eq_ix2 (n0 := 8) (n1 := 512) j).symm)
      (le_of_eq N_0) tl rfl, zero_add]
  by_cases hk : (j 0).val < 3
  · rw [GW, if_pos hk]
    rw [Fin.sum_univ_tiles 16 512 rfl (fun n : Fin 8192 => dd (X0 m c) (D0 m c) 0 n.val (j 1).val * hh (X0 m c) (2 - (j 0).val) n.val (j 1).val)]
    show (∑ p : Fin 16, part (X0 m c) (D0 m c) (j 0).val p.val (j 1).val) = _
    refine Finset.sum_congr rfl fun p _ => ?_
    rw [part, if_pos hk]
    refine Finset.sum_congr rfl fun q _ => ?_
    simp only [Nat.mul_comm]
  · rw [GW, if_neg hk]
    exact Finset.sum_eq_zero (M := EReal) fun p _ => by rw [part, if_neg hk]

end Cert.KernelIdeal.Conv
end
-- ==== Proof.Ref.lean ====
module

public import proofs.«01_k».proof.Proof.Conv
public import proofs.«01_k».proof.Proof.Gen.ReferenceIdeal.Run
public import proofs.«01_k».proof.Proof.Gen.ReferenceIdeal.Read

@[expose] public section

set_option maxRecDepth 16384

noncomputable section

namespace Cert.ReferenceIdeal.Conv

open Idealize.ShloMosaic Idealize.ShloMosaic.TcCoe Idealize.SL.Sem
open Cert.ReferenceIdeal Cert.ReferenceIdeal.Gen Cert.ReferenceIdeal.Value Cert.ReferenceIdeal.Read
open Cert.KernelIdeal.Conv (R hh dd yy dh GP GW dd_of dd_zero)

variable (X : FVec Ideal S8192x3072 .f32) (W : FVec Ideal S3x512 .f32) (D : FVec Ideal S8192x512 .f32)

theorem R_of {p q : ℕ} (Y : (⟨2, ![p, q]⟩ : Shape).Idx → EReal) (a : Fin p) (b : Fin q) : R Y a.val b.val = Y (ix2 a b) := by
  rw [R, dif_pos ⟨a.isLt, b.isLt⟩]

theorem ref_h (a : Fin 8194) (b : Fin 512) : val_main_v8 (F := Ideal) X (ix2 a b) = if 2 ≤ a.val then R X (a.val - 2) (2048 + b.val) * R X (a.val - 2) (2560 + b.val) else 0 := by
  pointwise [val_main_v8, fn_main_v8, val_main_v6, val_main_v7, val_main_v4, val_main_v5, val_main_cst]
  by_cases h : a.val < 2
  · rw [dif_pos h, if_neg (by omega)]
  · refine Eq.trans ?_ (if_pos (by omega)).symm
    exact (dif_neg h).trans (Ideal.mul_congr (R_of X (⟨a.val - 2, by omega⟩ : Fin 8192) (⟨2048 + b.val, by omega⟩ : Fin 3072)).symm (R_of X (⟨a.val - 2, by omega⟩ : Fin 8192) (⟨2560 + b.val, by omega⟩ : Fin 3072)).symm)

theorem ref_hk (k : ℕ) (hk : k ≤ 2) (x : Fin 8192) (y : Fin 8194) (b : Fin 512) (hy : y.val = 2 - k + x.val) :
    val_main_v8 (F := Ideal) X (ix2 y b) = hh X k x.val b.val := by
  rw [ref_h, hh, hy]
  by_cases h : k ≤ x.val
  · rw [if_pos h, if_pos (by omega), show 2 - k + x.val - 2 = x.val - k by omega]
  · rw [if_neg h, if_neg (by omega)]

theorem ref_dy (a : Fin 8192) (b : Fin 512) : val_main_v31 (F := Ideal) X D (ix2 a b) = dd X D 0 a.val b.val := by
  pointwise [val_main_v31, val_main_v3]
  rw [dd_of X D (r := a.val) rfl, R, dif_pos (by omega), R, dif_pos (by omega)]
  exact mul_comm _ _

theorem ref_y (a : Fin 8192) (b : Fin 512) : val_main_v29 (F := Ideal) X W (ix2 a b) = yy X W a.val b.val := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10]
  exact Ideal.add_congr (Ideal.add_congr (Ideal.mul_congr (R_of W 0 b).symm (ref_hk X 2 (by omega) a _ b (by show a.val = _; omega)))
    (Ideal.mul_congr (R_of W 1 b).symm (ref_hk X 1 (by omega) a _ b (by show 1 + a.val = _; omega)))) (Ideal.mul_congr (R_of W 2 b).symm (ref_hk X 0 (by omega) a _ b (by show 2 + a.val = _; omega)))

theorem ref_dh (a : Fin 8194) (b : Fin 512) (h : 2 ≤ a.val) : val_main_v60 (F := Ideal) X W D (ix2 a b) = dh X W D (a.val - 2) b.val := by
  pointwise [val_main_v60, val_main_v59, val_main_v54, val_main_v53, val_main_v49, val_main_v48, val_main_v43, val_main_v42, val_main_v39, val_main_v34, val_main_v33, val_main_v26, val_main_v24, val_main_v23, val_main_v19, val_main_v17, val_main_v16, val_main_v13, val_main_v11, val_main_v10, val_main_cst_3, val_main_cst_7, val_main_cst_11]
  have e (k : ℕ) (hk : k ≤ 2) (y : Fin 8192) (hy : y.val = a.val - 2 + k) : val_main_v31 (F := Ideal) X D (ix2 y b) = dd X D k (a.val - 2) b.val := by
    rw [ref_dy, dd_of X D (r := y.val) rfl, dd_of X D hy]
  refine Ideal.add_congr (Ideal.add_congr ((dif_pos (by omega)).trans (Ideal.mul_congr (R_of W 2 b).symm (e 0 (by omega) _ rfl))) ?_) ?_
  · by_cases h1 : a.val - 1 < 8192
    · exact (dif_pos ⟨by omega, h1⟩).trans (Ideal.mul_congr (R_of W 1 b).symm (e 1 (by omega) _ (by show a.val - 1 = _; omega)))
    · exact (dif_neg (by omega)).trans (by rw [dd_zero X D (by omega), mul_zero])
  · by_cases h1 : a.val < 8192
    · exact (dif_pos h1).trans (Ideal.mul_congr (R_of W 0 b).symm (e 2 (by omega) _ (by show a.val = _; omega)))
    · exact (dif_neg (by omega)).trans (by rw [dd_zero X D (by omega), mul_zero])

theorem cat6 (u0 u1 u2 u3 u4 u5 : FVec Ideal S8192x512 .f32) (a : Fin 8192) (b : Fin 3072) (h : 1536 ≤ b.val) :
    fn_main_v71 (F := Ideal) u0 u1 u2 u3 u4 u5 (ix2 a b)
      = if h1 : b.val - 1536 < 512 then u3 (ix2 a (⟨b.val - 1536, h1⟩ : Fin 512)) else if h2 : b.val - 1536 < 1024 then u4 (ix2 a (⟨b.val - 1536 - 512, by omega⟩ : Fin 512))
        else u5 (ix2 a (⟨b.val - 1536 - 1024, by omega⟩ : Fin 512)) := by
  have e1 : b.val - 512 - 512 - 512 = b.val - 1536 := by omega
  have e2 : b.val - 512 - 512 - 512 - 512 = b.val - 1536 - 512 := by omega
  have e3 : b.val - 512 - 512 - 512 - 512 - 512 = b.val - 1536 - 1024 := by omega
  pointwise [fn_main_v71]
  refine (dif_neg (by omega)).trans ((dif_neg (by omega)).trans ((dif_neg (by omega)).trans ?_))
  by_cases h1 : b.val - 1536 < 512
  · rw [dif_pos h1]
    exact (dif_pos (by omega)).trans (congrArg (fun x => u3 (ix2 a x)) (Fin.ext e1))
  · rw [dif_neg h1]
    refine (dif_neg (by omega)).trans ?_
    by_cases h2 : b.val - 1536 < 1024
    · rw [dif_pos h2]
      exact (dif_pos (by omega)).trans (congrArg (fun x => u4 (ix2 a x)) (Fin.ext e2))
    · rw [dif_neg h2]
      exact (dif_neg (by omega)).trans (congrArg (fun x => u5 (ix2 a x)) (Fin.ext e3))

theorem ref_9 (a : Fin 8192) (b : Fin 3072) (h : 1536 ≤ b.val) : val_main_v72 (F := Ideal) X W D (ix2 a b) = GP X W D a.val (b.val - 1536) := by
  refine (show val_main_v72 (F := Ideal) X W D (ix2 a b) = _ from cat6 _ _ _ (val_main_v32 (F := Ideal) X W D) (val_main_v67 (F := Ideal) X W D) (val_main_v66 (F := Ideal) X W D) a b h).trans ?_
  rw [GP]
  split_ifs with h1 h2
  · pointwise [val_main_v32]
    exact Ideal.mul_congr (R_of D a _).symm (ref_y X W a _)
  · pointwise [val_main_v67, val_main_v65, val_main_v5]
    refine Ideal.mul_congr ((ref_dh X W D _ _ (by show 2 ≤ 2 + a.val; omega)).trans ?_) (R_of X a _).symm
    show dh X W D (2 + a.val - 2) _ = _
    rw [show 2 + a.val - 2 = a.val by omega]
  · pointwise [val_main_v66, val_main_v65, val_main_v4]
    rw [mul_comm]
    refine Ideal.mul_congr ((ref_dh X W D _ _ (by show 2 ≤ 2 + a.val; omega)).trans ?_) (R_of X a _).symm
    show dh X W D (2 + a.val - 2) _ = _
    rw [show 2 + a.val - 2 = a.val by omega]

theorem ref_10 (a : Fin 8) (b : Fin 512) : val_main_v73 (F := Ideal) X D (ix2 a b) = GW X D a.val b.val := by
  pointwise [val_main_v73, val_main_v63, val_main_v62, val_main_v61, val_main_v58, val_main_v57, val_main_v56, val_main_v55, val_main_v52, val_main_v51, val_main_v50, val_main_v47, val_main_v46, val_main_v45, val_main_v44, val_main_v41, val_main_v40, val_main_v38, val_main_v37, val_main_v36, val_main_v35, val_main_v12, val_main_v18, val_main_v25, val_main_cst_1, val_main_cst_2, val_main_cst_3, val_main_cst_4, val_main_cst_5, val_main_cst_6, val_main_cst_7,  val_main_cst_8, val_main_cst_9, val_main_cst_10, val_main_cst_12]
  have e (k : ℕ) (hk : k ≤ 2) (x : Fin 8192) (y : Fin 8194) (hy : y.val = 2 - k + x.val) :
      val_main_v31 (F := Ideal) X D (ix2 x b) * val_main_v8 (F := Ideal) X (ix2 y b) = dd X D 0 x.val b.val * hh X k x.val b.val := by
    rw [ref_dy, ref_hk X k hk x y b hy]
  rw [GW]
  by_cases h : a.val < 3
  · rw [dif_pos h, if_pos h]
    obtain h0 | h0 | h0 : a.val = 0 ∨ a.val = 1 ∨ a.val = 2 := by omega
    · rw [dif_neg (by omega), dif_neg (by omega), dif_pos (by omega), zero_add, zero_add, h0]
      refine Eq.trans (Fin.sum_univ_one _) (Finset.sum_congr rfl fun x _ => e 2 (by omega) x _ (by show x.val = _; omega))
    · rw [dif_neg (by omega), dif_pos (by omega), dif_neg (by omega), zero_add, add_zero, h0]
      refine Eq.trans (Fin.sum_univ_one _) (Finset.sum_congr rfl fun x _ => e 1 (by omega) x _ (by show 1 + x.val = _; omega))
    · rw [dif_pos (by omega), dif_neg (by omega), dif_neg (by omega), add_zero, add_zero, h0]
      refine Eq.trans (Fin.sum_univ_one _) (Finset.sum_congr rfl fun x _ => e 0 (by omega) x _ (by show 2 + x.val = _; omega))
  · rw [dif_neg h, if_neg h]
    pointwise [val_main_call0_v0, val_main_c]
    simp [FloatOps.sitofp]

end Cert.ReferenceIdeal.Conv
end
-- ==== Proof.Base.lean ====
module

public import Idealize.ShloMosaic.Lib.Pipeline.ValueKit
public import Idealize.ShloMosaic.Lib.Pointwise
public import Idealize.ShloMosaic.Lib.WritesUnit
public import Idealize.ShloMosaic.Lib.Claim

@[expose] public section

noncomputable section

namespace Cert.Base

open Idealize.ShloMosaic Idealize.ShloMosaic.TcCoe

/-- A matrix read at a row and a column given as numbers, zero outside. -/
def R {p q : ℕ} (X : (⟨2, ![p, q]⟩ : Shape).Idx → EReal) (n k : ℕ) : EReal :=
  if h : n < p ∧ k < q then X (ix2 (⟨n, h.1⟩ : Fin p) (⟨k, h.2⟩ : Fin q)) else 0

theorem R_of {p q : ℕ} (X : (⟨2, ![p, q]⟩ : Shape).Idx → EReal) {n k : ℕ} (hn : n < p) (hk : k < q) : R X n k = X (ix2 (⟨n, hn⟩ : Fin p) (⟨k, hk⟩ : Fin q)) := by
  rw [R, dif_pos ⟨hn, hk⟩]

theorem R_ix {p q : ℕ} (X : (⟨2, ![p, q]⟩ : Shape).Idx → EReal) (n : Fin p) (k : Fin q) : X (ix2 n k) = R X n.val k.val := by
  rw [R, dif_pos ⟨n.isLt, k.isLt⟩]

/-- A vector read at a place given as a number, zero outside. -/
def R1 {p : ℕ} (X : (⟨1, ![p]⟩ : Shape).Idx → EReal) (n : ℕ) : EReal := if h : n < p then X (ix1 (⟨n, h⟩ : Fin p)) else 0

theorem R1_ix {p : ℕ} (X : (⟨1, ![p]⟩ : Shape).Idx → EReal) (n : Fin p) : X (ix1 n) = R1 X n.val := by
  rw [R1, dif_pos n.isLt]

/-- An entry of the product of the transpose of `X` with `Y`: a weight's gradient, summed over every row. -/
def T {n p q : ℕ} (X : (⟨2, ![n, p]⟩ : Shape).Idx → EReal) (Y : (⟨2, ![n, q]⟩ : Shape).Idx → EReal) (a b : ℕ) : EReal := ∑ j : Fin n, R X j.val a * R Y j.val b

/-- The part of `T` from `len` rows beginning at row `r`. -/
def TP {n p q : ℕ} (X : (⟨2, ![n, p]⟩ : Shape).Idx → EReal) (Y : (⟨2, ![n, q]⟩ : Shape).Idx → EReal) (len r a b : ℕ) : EReal := ∑ j : Fin len, R X (r + j.val) a * R Y (r + j.val) b

/-- The parts of equal length make up the whole. -/
theorem T_parts {n p q : ℕ} (X : (⟨2, ![n, p]⟩ : Shape).Idx → EReal) (Y : (⟨2, ![n, q]⟩ : Shape).Idx → EReal) (J len : ℕ) (h : J * len = n) (a b : ℕ) : ∑ s : Fin J, TP X Y len (len * s.val) a b = T X Y a b := by
  rw [T, Fin.sum_univ_tiles J len h (fun j : Fin n => R X j.val a * R Y j.val b)]
  refine Finset.sum_congr rfl fun s _ => Finset.sum_congr rfl fun q _ => ?_
  simp only [Nat.mul_comm]

/-- Four runs of rows, one after another, added up. -/
theorem TP_four {n p q : ℕ} (X : (⟨2, ![n, p]⟩ : Shape).Idx → EReal) (Y : (⟨2, ![n, q]⟩ : Shape).Idx → EReal) (r a b : ℕ) :
    TP X Y 1024 r a b + TP X Y 1024 (r + 1024) a b + TP X Y 1024 (r + 2048) a b + TP X Y 1024 (r + 3072) a b = TP X Y 4096 r a b := by
  rw [TP.eq_def X Y 4096, Fin.sum_univ_tiles 4 1024 rfl (fun j : Fin 4096 => R X (r + j.val) a * R Y (r + j.val) b), Fin.sum_univ_four]
  refine Ideal.add_congr (Ideal.add_congr (Ideal.add_congr ?_ ?_) ?_) ?_
  · exact Fin.sum_fin_congr fun n => by simp
  · exact Fin.sum_fin_congr fun n => by simp [Nat.add_assoc]
  · exact Fin.sum_fin_congr fun n => by simp [Nat.add_assoc]
  · exact Fin.sum_fin_congr fun n => by simp [Nat.add_assoc]

theorem chunks {n p q : ℕ} (X : (⟨2, ![n, p]⟩ : Shape).Idx → EReal) (Y : (⟨2, ![n, q]⟩ : Shape).Idx → EReal) (r a b : ℕ) (f0 f1 f2 f3 : Fin 1024 → EReal)
    (h0 : ∀ j, f0 j = R X (r + j.val) a * R Y (r + j.val) b) (h1 : ∀ j, f1 j = R X (r + 1024 + j.val) a * R Y (r + 1024 + j.val) b)
    (h2 : ∀ j, f2 j = R X (r + 2048 + j.val) a * R Y (r + 2048 + j.val) b) (h3 : ∀ j, f3 j = R X (r + 3072 + j.val) a * R Y (r + 3072 + j.val) b) :
    (∑ j, f0 j) + (∑ j, f1 j) + (∑ j, f2 j) + (∑ j, f3 j) = TP X Y 4096 r a b := by
  rw [← TP_four]
  exact Ideal.add_congr (Ideal.add_congr (Ideal.add_congr (Fin.sum_fin_congr h0) (Fin.sum_fin_congr h1)) (Fin.sum_fin_congr h2)) (Fin.sum_fin_congr h3)

end Cert.Base
end
-- ==== Proof.GateUp.lean ====
module

public import proofs.«01_k».proof.Proof.Gen.WgradGateUpIdeal.Value
public import proofs.«01_k».proof.Proof.Gen.WgradGateUpRefIdeal.Read
public import proofs.«01_k».proof.Proof.Base

@[expose] public section

set_option maxRecDepth 16384

noncomputable section

namespace Cert.WgradGateUpIdeal.Calc

open Idealize.ShloMosaic Idealize.ShloMosaic.TcCoe Idealize.SL.Sem
open Idealize.ShloMosaic.Pipeline (Dat)
open Cert.WgradGateUpIdeal Cert.WgradGateUpIdeal.Gen Cert.Base

variable (m : (ℓ : Loc nD τ sig) → Buf (Elt Ideal) ℓ)

abbrev H0 (c : Dev nD) : FVec Ideal S8192x1024 .f32 := m ((c : Thread nD τ).loc main_arg0)
abbrev G0 (c : Dev nD) : FVec Ideal S8192x2816 .f32 := m ((c : Thread nD τ).loc main_arg1)
abbrev U0 (c : Dev nD) : FVec Ideal S8192x2816 .f32 := m ((c : Thread nD τ).loc main_arg2)

theorem idx_val : ∀ t : Fin cfg0.N, win0_0.index t = ![t.val % 4, 0] ∧ win0_1.index t = ![t.val / 4, t.val % 4, 0] ∧ win0_2.index t = ![t.val / 4, t.val % 4, 0] ∧ win0_3.index t = ![t.val / 4, 0, 0] ∧ win0_4.index t = ![t.val / 4, 0, 0] :=
  (by decide +kernel : ∀ t : Fin grid0.N, _)

/-- The hidden columns as four shards. -/
abbrev SH (X : FVec Ideal S8192x2816 .f32) : FVec Ideal S4x8192x704 .bf16 :=
  transpose S4x8192x704 [1, 0, 2] (shapeCast S8192x4x704 (truncf .bf16 X bitsLt_bf16_f32) shapeCasts_S8192x2816_S8192x4x704) transposes_S8192x4x704_S4x8192x704_1_0_2

theorem v0_eq (c : Dev nD) : V m c main_v0 = truncf .bf16 (H0 m c) bitsLt_bf16_f32 := by
  unfold V
  simp only [hostOps0, List.flatten_cons, List.flatten_nil, List.append_nil, List.cons_append, List.nil_append]
  after_results

theorem v3_eq (c : Dev nD) : V m c main_v3 = SH (G0 m c) := by
  unfold V
  simp only [hostOps0, List.flatten_cons, List.flatten_nil, List.append_nil, List.cons_append, List.nil_append]
  after_results
  rfl

theorem v6_eq (c : Dev nD) : V m c main_v6 = SH (U0 m c) := by
  unfold V
  simp only [hostOps0, List.flatten_cons, List.flatten_nil, List.append_nil, List.cons_append, List.nil_append]
  after_results
  rfl

theorem sh_at (X : FVec Ideal S8192x2816 .f32) (j : Fin 4) (a : Fin 8192) (b : Fin 704) : SH X (ix3 j a b) = R X a.val (704 * j.val + b.val) := by
  rw [R_of X a.isLt (by omega)]
  pointwise [SH]
  exact congrArg (fun r => X (ix2 a r)) (Fin.ext (by show j.val * 704 + b.val = 704 * j.val + b.val; omega))

theorem blk0 (c : Dev nD) (t : Fin cfg0.N) (a : Fin 2048) (b : Fin 1024) : iblk m c 0 t (ix2 a b) = R (H0 m c) (2048 * (t.val % 4) + a.val) b.val := by
  have ht : t.val < 16 := Nat.lt_of_lt_of_eq t.isLt N_0
  rw [R_of _ (by omega) b.isLt]
  refine Eq.trans ?_ (show truncf .bf16 (H0 m c) bitsLt_bf16_f32 (ix2 (⟨2048 * (t.val % 4) + a.val, by omega⟩ : Fin 8192) b) = _ by pointwise [])
  rw [← v0_eq]
  blk_ext [iblk, idx_val t]

theorem blk1 (c : Dev nD) (t : Fin cfg0.N) (z : Fin 1) (a : Fin 2048) (b : Fin 704) : iblk m c 1 t (ix3 z a b) = R (G0 m c) (2048 * (t.val % 4) + a.val) (704 * (t.val / 4) + b.val) := by
  have ht : t.val < 16 := Nat.lt_of_lt_of_eq t.isLt N_0
  refine Eq.trans ?_ (sh_at (G0 m c) ⟨t.val / 4, by omega⟩ ⟨2048 * (t.val % 4) + a.val, by omega⟩ b)
  rw [← v3_eq]
  blk_ext [iblk, idx_val t]

theorem blk2 (c : Dev nD) (t : Fin cfg0.N) (z : Fin 1) (a : Fin 2048) (b : Fin 704) : iblk m c 2 t (ix3 z a b) = R (U0 m c) (2048 * (t.val % 4) + a.val) (704 * (t.val / 4) + b.val) := by
  have ht : t.val < 16 := Nat.lt_of_lt_of_eq t.isLt N_0
  refine Eq.trans ?_ (sh_at (U0 m c) ⟨t.val / 4, by omega⟩ ⟨2048 * (t.val % 4) + a.val, by omega⟩ b)
  rw [← v6_eq]
  blk_ext [iblk, idx_val t]

theorem outA3 (c : Dev nD) (t : Fin cfg0.N) (h0 : t.val % 4 = 0) (z : Fin 1) (a : Fin 1024) (b : Fin 704) :
    (outsAt0 m c t.val t.isLt).1 (ix3 z a b) = TP (H0 m c) (G0 m c) 2048 (2048 * (t.val % 4)) a.val (704 * (t.val / 4) + b.val) := by
  rw [outsAt0_A m c t h0]
  frame_out
  pointwise [k0_pay1, k0_pay2, k0_pay3, k0_pay4, k0_pay5]
  exact Fin.sum_fin_congr fun n => Ideal.mul_congr (blk0 m c t n a) (blk1 m c t 0 n b)

theorem outB3 (c : Dev nD) (t : Fin cfg0.N) (h0 : ¬t.val % 4 = 0) (z : Fin 1) (a : Fin 1024) (b : Fin 704) :
    (outsAt0 m c t.val t.isLt).1 (ix3 z a b) = (outsAt0 m c (t.val - 1) (Nat.lt_of_le_of_lt (Nat.sub_le _ _) t.isLt)).1 (ix3 z a b) + TP (H0 m c) (G0 m c) 2048 (2048 * (t.val % 4)) a.val (704 * (t.val / 4) + b.val) := by
  rw [outsAt0_B m c t h0]
  frame_out
  pointwise [k0_pay1, k0_pay2, k0_pay3, k0_pay4, k0_pay5]
  obtain rfl : z = 0 := Subsingleton.elim _ _
  exact Ideal.add_congr rfl (Fin.sum_fin_congr fun n => Ideal.mul_congr (blk0 m c t n a) (blk1 m c t 0 n b))

theorem final3 (c : Dev nD) : (dats m 0 c).arrAt 3 cfg0.N = fun i : S4x1024x704.Idx => T (H0 m c) (G0 m c) (i 1).val (704 * (i 0).val + (i 2).val) := by
  refine (dats m 0 c).arrAt_eq_of_covers 3 _ (by decide +kernel) fun t hf y => ?_
  have ht : t.val < 16 := Nat.lt_of_lt_of_eq t.isLt N_0
  blk_simp
  rw [after0_3]
  rw [Pipeline.eq_sum_fin_of_reset_step_apply_of_flush (fun n h => (outsAt0 m c n h).1) 4 (fun _ => 0) (fun (t : Fin cfg0.N) (j : S1x1024x704.Idx) => TP (H0 m c) (G0 m c) 2048 (2048 * (t.val % 4)) (j 1).val (704 * (t.val / 4) + (j 2).val))
      (fun t h j => by
        refine Eq.trans ?_ (zero_add _).symm
        refine Eq.trans ?_ (outA3 m c t h (j 0) (j 1) (j 2))
        exact congrArg (outsAt0 m c t.val t.isLt).1 (eq_ix3 (n0 := 1) (n1 := 1024) (n2 := 704) j))
      (fun t h j => by
        refine Eq.trans ?_ ((outB3 m c t h (j 0) (j 1) (j 2)).trans ?_)
        · exact congrArg (outsAt0 m c t.val t.isLt).1 (eq_ix3 (n0 := 1) (n1 := 1024) (n2 := 704) j)
        · refine congrArg₂ (· + ·) ?_ rfl
          exact congrArg (outsAt0 m c (t.val - 1) _).1 (eq_ix3 (n0 := 1) (n1 := 1024) (n2 := 704) j).symm)
      t ((flush0_3 t).mp hf), zero_add]
  refine Eq.trans (Finset.sum_congr (M := EReal) (s₁ := Finset.univ) (g := fun s : Fin 4 => TP _ _ 2048 (2048 * s.val) _ _) rfl fun s _ => ?_) ((T_parts (H0 m c) (G0 m c) 4 2048 rfl (y 1).val (704 * (t.val / 4) + (y 2).val)).trans ?_)
  · show TP (H0 m c) (G0 m c) 2048 (2048 * ((4 * (t.val / 4) + s.val) % 4)) (y 1).val (704 * ((4 * (t.val / 4) + s.val) / 4) + (y 2).val) = _
    rw [show (4 * (t.val / 4) + s.val) % 4 = s.val by omega, show (4 * (t.val / 4) + s.val) / 4 = t.val / 4 by omega]
  · have e := idx_val t
    simp only [e]
    simp

theorem outA4 (c : Dev nD) (t : Fin cfg0.N) (h0 : t.val % 4 = 0) (z : Fin 1) (a : Fin 1024) (b : Fin 704) :
    (outsAt0 m c t.val t.isLt).2 (ix3 z a b) = TP (H0 m c) (U0 m c) 2048 (2048 * (t.val % 4)) a.val (704 * (t.val / 4) + b.val) := by
  rw [outsAt0_A m c t h0]
  frame_out
  pointwise [k0_pay1, k0_pay2, k0_pay3, k0_pay4, k0_pay5]
  exact Fin.sum_fin_congr fun n => Ideal.mul_congr (blk0 m c t n a) (blk2 m c t 0 n b)

theorem outB4 (c : Dev nD) (t : Fin cfg0.N) (h0 : ¬t.val % 4 = 0) (z : Fin 1) (a : Fin 1024) (b : Fin 704) :
    (outsAt0 m c t.val t.isLt).2 (ix3 z a b) = (outsAt0 m c (t.val - 1) (Nat.lt_of_le_of_lt (Nat.sub_le _ _) t.isLt)).2 (ix3 z a b) + TP (H0 m c) (U0 m c) 2048 (2048 * (t.val % 4)) a.val (704 * (t.val / 4) + b.val) := by
  rw [outsAt0_B m c t h0]
  frame_out
  pointwise [k0_pay1, k0_pay2, k0_pay3, k0_pay4, k0_pay5]
  obtain rfl : z = 0 := Subsingleton.elim _ _
  exact Ideal.add_congr rfl (Fin.sum_fin_congr fun n => Ideal.mul_congr (blk0 m c t n a) (blk2 m c t 0 n b))

theorem final4 (c : Dev nD) : (dats m 0 c).arrAt 4 cfg0.N = fun i : S4x1024x704.Idx => T (H0 m c) (U0 m c) (i 1).val (704 * (i 0).val + (i 2).val) := by
  refine (dats m 0 c).arrAt_eq_of_covers 4 _ (by decide +kernel) fun t hf y => ?_
  have ht : t.val < 16 := Nat.lt_of_lt_of_eq t.isLt N_0
  blk_simp
  rw [after0_4]
  rw [Pipeline.eq_sum_fin_of_reset_step_apply_of_flush (fun n h => (outsAt0 m c n h).2) 4 (fun _ => 0) (fun (t : Fin cfg0.N) (j : S1x1024x704.Idx) => TP (H0 m c) (U0 m c) 2048 (2048 * (t.val % 4)) (j 1).val (704 * (t.val / 4) + (j 2).val))
      (fun t h j => by
        refine Eq.trans ?_ (zero_add _).symm
        refine Eq.trans ?_ (outA4 m c t h (j 0) (j 1) (j 2))
        exact congrArg (outsAt0 m c t.val t.isLt).2 (eq_ix3 (n0 := 1) (n1 := 1024) (n2 := 704) j))
      (fun t h j => by
        refine Eq.trans ?_ ((outB4 m c t h (j 0) (j 1) (j 2)).trans ?_)
        · exact congrArg (outsAt0 m c t.val t.isLt).2 (eq_ix3 (n0 := 1) (n1 := 1024) (n2 := 704) j)
        · refine congrArg₂ (· + ·) ?_ rfl
          exact congrArg (outsAt0 m c (t.val - 1) _).2 (eq_ix3 (n0 := 1) (n1 := 1024) (n2 := 704) j).symm)
      t ((flush0_4 t).mp hf), zero_add]
  refine Eq.trans (Finset.sum_congr (M := EReal) (s₁ := Finset.univ) (g := fun s : Fin 4 => TP _ _ 2048 (2048 * s.val) _ _) rfl fun s _ => ?_) ((T_parts (H0 m c) (U0 m c) 4 2048 rfl (y 1).val (704 * (t.val / 4) + (y 2).val)).trans ?_)
  · show TP (H0 m c) (U0 m c) 2048 (2048 * ((4 * (t.val / 4) + s.val) % 4)) (y 1).val (704 * ((4 * (t.val / 4) + s.val) / 4) + (y 2).val) = _
    rw [show (4 * (t.val / 4) + s.val) % 4 = s.val by omega, show (4 * (t.val / 4) + s.val) / 4 = t.val / 4 by omega]
  · have e := idx_val t
    simp only [e]
    simp

end Cert.WgradGateUpIdeal.Calc

namespace Cert.WgradGateUpRefIdeal.Calc

open Idealize.ShloMosaic Idealize.ShloMosaic.TcCoe Idealize.SL.Sem
open Cert.WgradGateUpRefIdeal Cert.WgradGateUpRefIdeal.Gen Cert.WgradGateUpRefIdeal.Read Cert.Base

variable (H : FVec Ideal S8192x1024 .f32) (G : FVec Ideal S8192x2816 .f32)

theorem ref8 (j : Fin 4) (a : Fin 1024) (b : Fin 704) : val_main_v8 (F := Ideal) H G (ix3 j a b) = T H G a.val (704 * j.val + b.val) := by
  pointwise [val_main_v8, val_main_v7, val_main_v6, val_main_v5]
  refine Fin.sum_fin_congr fun n => ?_
  rw [R_of H n.isLt a.isLt, R_of G n.isLt (by omega), mul_comm]
  exact Ideal.mul_congr rfl (congrArg (fun r => G (ix2 n r)) (Fin.ext (by show j.val * 704 + b.val = 704 * j.val + b.val; omega)))

theorem ref10 (j : Fin 4) (a : Fin 1024) (b : Fin 704) : val_main_v10 (F := Ideal) H G (ix3 j a b) = T H G a.val (704 * j.val + b.val) := by
  pointwise [val_main_v10, val_main_v9, val_main_v4, val_main_v3]
  refine Fin.sum_fin_congr fun n => ?_
  rw [R_of H n.isLt a.isLt, R_of G n.isLt (by omega), mul_comm]
  exact Ideal.mul_congr rfl (congrArg (fun r => G (ix2 n r)) (Fin.ext (by show j.val * 704 + b.val = 704 * j.val + b.val; omega)))

end Cert.WgradGateUpRefIdeal.Calc
end
-- ==== Proof.Down.lean ====
module

public import proofs.«01_k».proof.Proof.Gen.WgradDownIdeal.Value
public import proofs.«01_k».proof.Proof.Gen.WgradDownRefIdeal.Read
public import proofs.«01_k».proof.Proof.Base

@[expose] public section

set_option maxRecDepth 16384

noncomputable section

namespace Cert.WgradDownIdeal.Calc

open Idealize.ShloMosaic Idealize.ShloMosaic.TcCoe Idealize.SL.Sem
open Idealize.ShloMosaic.Pipeline (Dat)
open Cert.WgradDownIdeal Cert.WgradDownIdeal.Gen Cert.Base

variable (m : (ℓ : Loc nD τ sig) → Buf (Elt Ideal) ℓ)

abbrev A0 (c : Dev nD) : FVec Ideal S8192x2816 .f32 := m ((c : Thread nD τ).loc main_arg0)
abbrev B0 (c : Dev nD) : FVec Ideal S8192x1024 .f32 := m ((c : Thread nD τ).loc main_arg1)

theorem idx_val : ∀ t : Fin cfg0.N, win0_0.index t = ![t.val / 2, t.val % 2, 0] ∧ win0_1.index t = ![t.val % 2, 0] ∧ win0_2.index t = ![t.val / 2, 0, 0] :=
  (by decide +kernel : ∀ t : Fin grid0.N, _)

/-- The hidden columns as four shards. -/
abbrev SH (X : FVec Ideal S8192x2816 .f32) : FVec Ideal S4x8192x704 .bf16 :=
  transpose S4x8192x704 [1, 0, 2] (shapeCast S8192x4x704 (truncf .bf16 X bitsLt_bf16_f32) shapeCasts_S8192x2816_S8192x4x704) transposes_S8192x4x704_S4x8192x704_1_0_2

theorem v2_eq (c : Dev nD) : V m c main_v2 = SH (A0 m c) := by
  unfold V
  simp only [hostOps0, List.flatten_cons, List.flatten_nil, List.append_nil, List.cons_append, List.nil_append]
  after_results
  rfl

theorem v3_eq (c : Dev nD) : V m c main_v3 = truncf .bf16 (B0 m c) bitsLt_bf16_f32 := by
  unfold V
  simp only [hostOps0, List.flatten_cons, List.flatten_nil, List.append_nil, List.cons_append, List.nil_append]
  after_results

theorem sh_at (X : FVec Ideal S8192x2816 .f32) (j : Fin 4) (a : Fin 8192) (b : Fin 704) : SH X (ix3 j a b) = R X a.val (704 * j.val + b.val) := by
  rw [R_of X a.isLt (by omega)]
  pointwise [SH]
  exact congrArg (fun r => X (ix2 a r)) (Fin.ext (by show j.val * 704 + b.val = 704 * j.val + b.val; omega))

theorem blk0 (c : Dev nD) (t : Fin cfg0.N) (z : Fin 1) (a : Fin 4096) (b : Fin 704) : iblk m c 0 t (ix3 z a b) = R (A0 m c) (4096 * (t.val % 2) + a.val) (704 * (t.val / 2) + b.val) := by
  have ht : t.val < 8 := Nat.lt_of_lt_of_eq t.isLt N_0
  refine Eq.trans ?_ (sh_at (A0 m c) ⟨t.val / 2, by omega⟩ ⟨4096 * (t.val % 2) + a.val, by omega⟩ b)
  rw [← v2_eq]
  blk_ext [iblk, idx_val t]

theorem blk1 (c : Dev nD) (t : Fin cfg0.N) (a : Fin 4096) (b : Fin 1024) : iblk m c 1 t (ix2 a b) = R (B0 m c) (4096 * (t.val % 2) + a.val) b.val := by
  have ht : t.val < 8 := Nat.lt_of_lt_of_eq t.isLt N_0
  rw [R_of _ (by omega) b.isLt]
  refine Eq.trans ?_ (show truncf .bf16 (B0 m c) bitsLt_bf16_f32 (ix2 (⟨4096 * (t.val % 2) + a.val, by omega⟩ : Fin 8192) b) = _ by pointwise [])
  rw [← v3_eq]
  blk_ext [iblk, idx_val t]

theorem lhs (c : Dev nD) (t : Fin cfg0.N) (r : ℕ) (hr : r ≤ 3072) (n : Fin 1024) (x : Fin 4096) (hx : x.val = r + n.val) (a : Fin 704) : iblk m c 0 t (ix3 0 x a) = R (A0 m c) (4096 * (t.val % 2) + r + n.val) (704 * (t.val / 2) + a.val) := by
  rw [blk0, hx, Nat.add_assoc]

theorem rhs (c : Dev nD) (t : Fin cfg0.N) (r : ℕ) (hr : r ≤ 3072) (n : Fin 1024) (x : Fin 4096) (hx : x.val = r + n.val) (b : Fin 1024) : iblk m c 1 t (ix2 x b) = R (B0 m c) (4096 * (t.val % 2) + r + n.val) b.val := by
  rw [blk1, hx, Nat.add_assoc]

theorem outA (c : Dev nD) (t : Fin cfg0.N) (h0 : t.val % 2 = 0) (z : Fin 1) (a : Fin 704) (b : Fin 1024) :
    outsAt0 m c t.val t.isLt (ix3 z a b) = TP (A0 m c) (B0 m c) 4096 (4096 * (t.val % 2)) (704 * (t.val / 2) + a.val) b.val := by
  rw [outsAt0_A m c t h0]
  frame_out
  pointwise [k0_pay1, k0_pay2, k0_pay3, k0_pay4]
  exact chunks (A0 m c) (B0 m c) _ _ _ _ _ _ _ (fun n => Ideal.mul_congr (lhs m c t 0 (by omega) n _ (by simp) a) (rhs m c t 0 (by omega) n _ (by simp) b))
    (fun n => Ideal.mul_congr (lhs m c t 1024 (by omega) n _ rfl a) (rhs m c t 1024 (by omega) n _ rfl b))
    (fun n => Ideal.mul_congr (lhs m c t 2048 (by omega) n _ rfl a) (rhs m c t 2048 (by omega) n _ rfl b))
    (fun n => Ideal.mul_congr (lhs m c t 3072 (by omega) n _ rfl a) (rhs m c t 3072 (by omega) n _ rfl b))

theorem outB (c : Dev nD) (t : Fin cfg0.N) (h0 : ¬t.val % 2 = 0) (z : Fin 1) (a : Fin 704) (b : Fin 1024) :
    outsAt0 m c t.val t.isLt (ix3 z a b) = outsAt0 m c (t.val - 1) (Nat.lt_of_le_of_lt (Nat.sub_le _ _) t.isLt) (ix3 z a b) + TP (A0 m c) (B0 m c) 4096 (4096 * (t.val % 2)) (704 * (t.val / 2) + a.val) b.val := by
  rw [outsAt0_B m c t h0]
  frame_out
  pointwise [k0_pay1, k0_pay2, k0_pay3, k0_pay4]
  obtain rfl : z = 0 := Subsingleton.elim _ _
  exact Ideal.add_congr rfl (chunks (A0 m c) (B0 m c) _ _ _ _ _ _ _ (fun n => Ideal.mul_congr (lhs m c t 0 (by omega) n _ (by simp) a) (rhs m c t 0 (by omega) n _ (by simp) b))
    (fun n => Ideal.mul_congr (lhs m c t 1024 (by omega) n _ rfl a) (rhs m c t 1024 (by omega) n _ rfl b))
    (fun n => Ideal.mul_congr (lhs m c t 2048 (by omega) n _ rfl a) (rhs m c t 2048 (by omega) n _ rfl b))
    (fun n => Ideal.mul_congr (lhs m c t 3072 (by omega) n _ rfl a) (rhs m c t 3072 (by omega) n _ rfl b)))

theorem final (c : Dev nD) : (dats m 0 c).arrAt 2 cfg0.N = fun i : S4x704x1024.Idx => T (A0 m c) (B0 m c) (704 * (i 0).val + (i 1).val) (i 2).val := by
  refine (dats m 0 c).arrAt_eq_of_covers 2 _ (by decide +kernel) fun t hf y => ?_
  have ht : t.val < 8 := Nat.lt_of_lt_of_eq t.isLt N_0
  blk_simp
  rw [after0_2]
  rw [Pipeline.eq_sum_fin_of_reset_step_apply_of_flush (fun n h => outsAt0 m c n h) 2 (fun _ => 0) (fun (t : Fin cfg0.N) (j : S1x704x1024.Idx) => TP (A0 m c) (B0 m c) 4096 (4096 * (t.val % 2)) (704 * (t.val / 2) + (j 1).val) (j 2).val)
      (fun t h j => by
        refine Eq.trans ?_ (zero_add _).symm
        refine Eq.trans ?_ (outA m c t h (j 0) (j 1) (j 2))
        exact congrArg (outsAt0 m c t.val t.isLt) (eq_ix3 (n0 := 1) (n1 := 704) (n2 := 1024) j))
      (fun t h j => by
        refine Eq.trans ?_ ((outB m c t h (j 0) (j 1) (j 2)).trans ?_)
        · exact congrArg (outsAt0 m c t.val t.isLt) (eq_ix3 (n0 := 1) (n1 := 704) (n2 := 1024) j)
        · refine congrArg₂ (· + ·) ?_ rfl
          exact congrArg (outsAt0 m c (t.val - 1) _) (eq_ix3 (n0 := 1) (n1 := 704) (n2 := 1024) j).symm)
      t ((flush0_2 t).mp hf), zero_add]
  refine Eq.trans (Finset.sum_congr (M := EReal) (s₁ := Finset.univ) (g := fun s : Fin 2 => TP _ _ 4096 (4096 * s.val) _ _) rfl fun s _ => ?_) ((T_parts (A0 m c) (B0 m c) 2 4096 rfl (704 * (t.val / 2) + (y 1).val) (y 2).val).trans ?_)
  · show TP (A0 m c) (B0 m c) 4096 (4096 * ((2 * (t.val / 2) + s.val) % 2)) (704 * ((2 * (t.val / 2) + s.val) / 2) + (y 1).val) (y 2).val = _
    rw [show (2 * (t.val / 2) + s.val) % 2 = s.val by omega, show (2 * (t.val / 2) + s.val) / 2 = t.val / 2 by omega]
  · have e := idx_val t
    simp only [e]
    simp

end Cert.WgradDownIdeal.Calc

namespace Cert.WgradDownRefIdeal.Calc

open Idealize.ShloMosaic Idealize.ShloMosaic.TcCoe Idealize.SL.Sem
open Cert.WgradDownRefIdeal Cert.WgradDownRefIdeal.Gen Cert.WgradDownRefIdeal.Read Cert.Base

variable (X : FVec Ideal S8192x2816 .f32) (Y : FVec Ideal S8192x1024 .f32)

theorem ref (j : Fin 4) (a : Fin 704) (b : Fin 1024) : val_main_v4 (F := Ideal) X Y (ix3 j a b) = T X Y (704 * j.val + a.val) b.val := by
  pointwise [val_main_v4, val_main_v3, val_main_v2]
  refine Fin.sum_fin_congr fun n => ?_
  rw [R_of Y n.isLt b.isLt, R_of X n.isLt (by omega), mul_comm]
  exact Ideal.mul_congr (congrArg (fun r => X (ix2 n r)) (Fin.ext (by show j.val * 704 + a.val = 704 * j.val + a.val; omega))) rfl

end Cert.WgradDownRefIdeal.Calc
end
-- ==== Proof.OutB.lean ====
module

public import proofs.«01_k».proof.Proof.Gen.OutProjBwdIdeal.Value
public import proofs.«01_k».proof.Proof.Gen.OutProjBwdRefIdeal.Read
public import proofs.«01_k».proof.Proof.Base

@[expose] public section

set_option maxRecDepth 16384

noncomputable section

namespace Cert.OutProjBwdIdeal.Calc

open Idealize.ShloMosaic Idealize.ShloMosaic.TcCoe Idealize.SL.Sem
open Idealize.ShloMosaic.Pipeline (Dat)
open Cert.OutProjBwdIdeal Cert.OutProjBwdIdeal.Gen Cert.Base

variable (m : (ℓ : Loc nD τ sig) → Buf (Elt Ideal) ℓ)

abbrev X0 (c : Dev nD) : FVec Ideal S8192x1024 .f32 := m ((c : Thread nD τ).loc main_arg0)
abbrev W0 (c : Dev nD) : FVec Ideal S1024x1024 .f32 := m ((c : Thread nD τ).loc main_arg1)

theorem idx_val : ∀ t : Fin cfg0.N, win0_0.index t = ![t.val, 0] ∧ win0_1.index t = ![0, 0, 0, 0] ∧ win0_2.index t = ![t.val, 0] ∧ win0_3.index t = ![t.val, 0] ∧ win0_4.index t = ![t.val, 0] :=
  (by decide +kernel : ∀ t : Fin grid0.N, _)

theorem shards_eq (c : Dev nD) : V m c main_v1 = shapeCast S4x1x256x1024 (truncf .bf16 (W0 m c) bitsLt_bf16_f32) shapeCasts_S1024x1024_S4x1x256x1024 := by
  unfold V
  simp only [hostOps0, List.flatten_cons, List.flatten_nil, List.append_nil, List.cons_append, List.nil_append]
  after_results
  rfl

theorem shards_at (W : FVec Ideal S1024x1024 .f32) (j : Fin 4) (z : Fin 1) (a : Fin 256) (b : Fin 1024) :
    shapeCast S4x1x256x1024 (truncf .bf16 W bitsLt_bf16_f32) shapeCasts_S1024x1024_S4x1x256x1024 (ix4 j z a b) = R W (256 * j.val + a.val) b.val := by
  rw [R_of W (by omega) b.isLt]
  pointwise []
  exact congrArg (fun r => W (ix2 r b)) (Fin.ext (by show j.val * 256 + a.val = 256 * j.val + a.val; omega))

theorem blk0 (c : Dev nD) (t : Fin cfg0.N) (a : Fin 512) (b : Fin 1024) : iblk m c 0 t (ix2 a b) = R (X0 m c) (512 * t.val + a.val) b.val := by
  have ht : t.val < 16 := Nat.lt_of_lt_of_eq t.isLt N_0
  rw [R, dif_pos (by omega)]
  blk_ext [iblk, V, V_main_arg0, idx_val t]

theorem blk1 (c : Dev nD) (t : Fin cfg0.N) (j : Fin 4) (z : Fin 1) (a : Fin 256) (b : Fin 1024) : iblk m c 1 t (ix4 j z a b) = R (W0 m c) (256 * j.val + a.val) b.val := by
  refine Eq.trans ?_ (shards_at (W0 m c) j z a b)
  rw [← shards_eq]
  blk_ext [iblk, idx_val t]

/-- An entry of the product of `X` with the transpose of `W`. -/
def P (X : FVec Ideal S8192x1024 .f32) (W : FVec Ideal S1024x1024 .f32) (n k : ℕ) : EReal := ∑ j : Fin 1024, R X n j.val * R W k j.val

theorem out2 (c : Dev nD) (t : Fin cfg0.N) (a : Fin 512) (b : Fin 512) :
    out0_2 (iblk m c 0 t) (iblk m c 1 t) (ix2 a b) = P (X0 m c) (W0 m c) (512 * t.val + a.val) (b.val) := by
  frame_out
  canon_tiles x h
  all_goals
    obtain ⟨x0, x1, rfl⟩ : ∃ (x0 : Fin 512) (x1 : Fin 256), x = ix2 x0 x1 := ⟨x 0, x 1, eq_ix2 x⟩
    pointwise [k0_pay3, k0_pay2, k0_pay1]
    obtain rfl : a = x0 := Fin.ext (by first | exact h0 | exact h0.trans (Nat.zero_add _))
    simp only [blk0, blk1]
    refine Finset.sum_congr rfl fun k _ => congrArg (fun n => R (X0 m c) (512 * t.val + a.val) k.val * R (W0 m c) n k.val) ?_
    first
      | (have hb : b.val = 256 + x1.val := h1; simp; omega)
      | (have hb : b.val = 0 + x1.val := h1; simp; omega)
      | (have hb : b.val = x1.val := h1; simp; omega)

theorem out3 (c : Dev nD) (t : Fin cfg0.N) (a : Fin 512) (b : Fin 512) :
    out0_3 (iblk m c 0 t) (iblk m c 1 t) (ix2 a b) = P (X0 m c) (W0 m c) (512 * t.val + a.val) (512 + b.val) := by
  frame_out
  canon_tiles x h
  all_goals
    obtain ⟨x0, x1, rfl⟩ : ∃ (x0 : Fin 512) (x1 : Fin 256), x = ix2 x0 x1 := ⟨x 0, x 1, eq_ix2 x⟩
    pointwise [k0_pay5, k0_pay4, k0_pay1]
    obtain rfl : a = x0 := Fin.ext (by first | exact h0 | exact h0.trans (Nat.zero_add _))
    simp only [blk0, blk1]
    refine Finset.sum_congr rfl fun k _ => congrArg (fun n => R (X0 m c) (512 * t.val + a.val) k.val * R (W0 m c) n k.val) ?_
    first
      | (have hb : b.val = 256 + x1.val := h1; simp; omega)
      | (have hb : b.val = 0 + x1.val := h1; simp; omega)
      | (have hb : b.val = x1.val := h1; simp; omega)

theorem out4 (c : Dev nD) (t : Fin cfg0.N) (a : Fin 512) (b : Fin 1024) :
    out0_4 (iblk m c 0 t) (iblk m c 1 t) (ix2 a b) = R (X0 m c) (512 * t.val + a.val) b.val := by
  rw [← blk0 m c t a b]
  frame_out
  pointwise [k0_pay1]

theorem final2 (c : Dev nD) : (dats m 0 c).arrAt 2 cfg0.N = fun i : S8192x512.Idx => P (X0 m c) (W0 m c) (i 0).val (i 1).val := by
  refine (dats m 0 c).arrAt_eq_of_covers 2 _ (by decide +kernel) fun t hf y => ?_
  blk_simp
  rw [after0_2]
  refine (congrArg _ (eq_ix2 (n0 := 512) (n1 := 512) y)).trans ((out2 m c t (y 0) (y 1)).trans ?_)
  have e := idx_val t
  simp only [e]
  simp [Nat.mul_comm]

theorem final3 (c : Dev nD) : (dats m 0 c).arrAt 3 cfg0.N = fun i : S8192x512.Idx => P (X0 m c) (W0 m c) (i 0).val (512 + (i 1).val) := by
  refine (dats m 0 c).arrAt_eq_of_covers 3 _ (by decide +kernel) fun t hf y => ?_
  blk_simp
  rw [after0_3]
  refine (congrArg _ (eq_ix2 (n0 := 512) (n1 := 512) y)).trans ((out3 m c t (y 0) (y 1)).trans ?_)
  have e := idx_val t
  simp only [e]
  simp [Nat.mul_comm]

theorem final4 (c : Dev nD) : (dats m 0 c).arrAt 4 cfg0.N = fun i : S8192x1024.Idx => R (X0 m c) (i 0).val (i 1).val := by
  refine (dats m 0 c).arrAt_eq_of_covers 4 _ (by decide +kernel) fun t hf y => ?_
  blk_simp
  rw [after0_4]
  refine (congrArg _ (eq_ix2 (n0 := 512) (n1 := 1024) y)).trans ((out4 m c t (y 0) (y 1)).trans ?_)
  have e := idx_val t
  simp only [e]
  simp [Nat.mul_comm]

end Cert.OutProjBwdIdeal.Calc

namespace Cert.OutProjBwdRefIdeal.Calc

open Idealize.ShloMosaic Idealize.ShloMosaic.TcCoe Idealize.SL.Sem
open Cert.OutProjBwdRefIdeal Cert.OutProjBwdRefIdeal.Gen Cert.OutProjBwdRefIdeal.Read Cert.Base
open Cert.OutProjBwdIdeal.Calc (P)

variable (X : FVec Ideal S8192x1024 .f32) (W : FVec Ideal S1024x1024 .f32)

theorem ref3 (a : Fin 8192) (b : Fin 1024) : val_main_v3 (F := Ideal) X W (ix2 a b) = P X W a.val b.val := by
  pointwise [val_main_v3]
  rw [P]
  simp only [R_ix]

theorem ref6 (a : Fin 8192) (b : Fin 512) : val_main_v6 (F := Ideal) X W (ix2 a b) = P X W a.val b.val := by
  pointwise [val_main_v6, val_main_v4]
  exact ref3 X W a _

theorem ref5 (a : Fin 8192) (b : Fin 512) : val_main_v5 (F := Ideal) X W (ix2 a b) = P X W a.val (512 + b.val) := by
  pointwise [val_main_v5]
  exact ref3 X W a _

theorem ref7 (a : Fin 8192) (b : Fin 1024) : val_main_v7 (F := Ideal) X (ix2 a b) = R X a.val b.val := by
  pointwise [val_main_v7]
  exact R_ix X a b

end Cert.OutProjBwdRefIdeal.Calc
end
-- ==== Proof.WOut.lean ====
module

public import proofs.«01_k».proof.Proof.Gen.WgradOutIdeal.Value
public import proofs.«01_k».proof.Proof.Gen.WgradOutRefIdeal.Read
public import proofs.«01_k».proof.Proof.Base

@[expose] public section

set_option maxRecDepth 16384

noncomputable section

namespace Cert.WgradOutIdeal.Calc

open Idealize.ShloMosaic Idealize.ShloMosaic.TcCoe Idealize.SL.Sem
open Idealize.ShloMosaic.Pipeline (Dat)
open Cert.WgradOutIdeal Cert.WgradOutIdeal.Gen Cert.Base

variable (m : (ℓ : Loc nD τ sig) → Buf (Elt Ideal) ℓ)

abbrev A0 (c : Dev nD) : FVec Ideal S8192x512 .f32 := m ((c : Thread nD τ).loc main_arg0)
abbrev B0 (c : Dev nD) : FVec Ideal S8192x512 .f32 := m ((c : Thread nD τ).loc main_arg1)
abbrev D0 (c : Dev nD) : FVec Ideal S8192x1024 .f32 := m ((c : Thread nD τ).loc main_arg2)

theorem idx_val : ∀ t : Fin cfg0.N, win0_0.index t = ![t.val, 0] ∧ win0_1.index t = ![t.val, 0] ∧ win0_2.index t = ![t.val, 0] ∧ win0_3.index t = ![0, 0, 0] :=
  (by decide +kernel : ∀ t : Fin grid0.N, _)

theorem v0_eq (c : Dev nD) : V m c main_v0 = truncf .bf16 (A0 m c) bitsLt_bf16_f32 := by
  unfold V
  simp only [hostOps0, List.flatten_cons, List.flatten_nil, List.append_nil, List.cons_append, List.nil_append]
  after_results

theorem blk0 (c : Dev nD) (t : Fin cfg0.N) (a : Fin 2048) (b : Fin 512) : iblk m c 0 t (ix2 a b) = R (A0 m c) (2048 * t.val + a.val) b.val := by
  have ht : t.val < 4 := Nat.lt_of_lt_of_eq t.isLt N_0
  rw [R_of _ (by omega) b.isLt]
  refine Eq.trans ?_ (show truncf .bf16 (A0 m c) bitsLt_bf16_f32 (ix2 (⟨2048 * t.val + a.val, by omega⟩ : Fin 8192) b) = _ by pointwise [])
  rw [← v0_eq]
  blk_ext [iblk, idx_val t]

theorem v1_eq (c : Dev nD) : V m c main_v1 = truncf .bf16 (B0 m c) bitsLt_bf16_f32 := by
  unfold V
  simp only [hostOps0, List.flatten_cons, List.flatten_nil, List.append_nil, List.cons_append, List.nil_append]
  after_results

theorem blk1 (c : Dev nD) (t : Fin cfg0.N) (a : Fin 2048) (b : Fin 512) : iblk m c 1 t (ix2 a b) = R (B0 m c) (2048 * t.val + a.val) b.val := by
  have ht : t.val < 4 := Nat.lt_of_lt_of_eq t.isLt N_0
  rw [R_of _ (by omega) b.isLt]
  refine Eq.trans ?_ (show truncf .bf16 (B0 m c) bitsLt_bf16_f32 (ix2 (⟨2048 * t.val + a.val, by omega⟩ : Fin 8192) b) = _ by pointwise [])
  rw [← v1_eq]
  blk_ext [iblk, idx_val t]

theorem v2_eq (c : Dev nD) : V m c main_v2 = truncf .bf16 (D0 m c) bitsLt_bf16_f32 := by
  unfold V
  simp only [hostOps0, List.flatten_cons, List.flatten_nil, List.append_nil, List.cons_append, List.nil_append]
  after_results

theorem blk2 (c : Dev nD) (t : Fin cfg0.N) (a : Fin 2048) (b : Fin 1024) : iblk m c 2 t (ix2 a b) = R (D0 m c) (2048 * t.val + a.val) b.val := by
  have ht : t.val < 4 := Nat.lt_of_lt_of_eq t.isLt N_0
  rw [R_of _ (by omega) b.isLt]
  refine Eq.trans ?_ (show truncf .bf16 (D0 m c) bitsLt_bf16_f32 (ix2 (⟨2048 * t.val + a.val, by omega⟩ : Fin 8192) b) = _ by pointwise [])
  rw [← v2_eq]
  blk_ext [iblk, idx_val t]

/-- The rows of the gradient that tile `t` adds to block `j`, row `a`, column `b`. -/
def part (A B : FVec Ideal S8192x512 .f32) (D : FVec Ideal S8192x1024 .f32) (t j a b : ℕ) : EReal :=
  if j < 2 then TP A D 2048 (2048 * t) (256 * j + a) b else TP B D 2048 (2048 * t) (256 * (j - 2) + a) b

theorem rw_blk {κ : Kind} {sp : Space} (v : View sig κ sp S4x256x1024 .f32) (f : v.ty.Contents (Elt Ideal)) (o : ℕ) (inb : ∀ a : Fin 3, (![o, 0, 0] : Fin 3 → ℕ) a + (![1, 256, 1024] : Fin 3 → ℕ) a ≤ S4x256x1024.size a)
    (w : (Rect.unit (s := S4x256x1024) ![o, 0, 0] ![1, 256, 1024] inb).shape.Idx → Elt Ideal .f32) (L : List (View.Piece (Elt Ideal) S4x256x1024 .f32)) (j : Fin 4) (a : Fin 256) (b : Fin 1024) :
    v.read (Elt Ideal) (v.writes (Elt Ideal) f ((⟨Rect.unit (s := S4x256x1024) ![o, 0, 0] ![1, 256, 1024] inb, w⟩ : View.Piece (Elt Ideal) S4x256x1024 .f32) :: L)) (ix3 j a b)
      = if j.val = o then w (ix3 (0 : Fin 1) a b) else v.read (Elt Ideal) (v.writes (Elt Ideal) f L) (ix3 j a b) := by
  split_ifs with h
  · refine View.read_writes_cons_unit_of_mem v f inb w L (ix3 j a b) (ix3 (0 : Fin 1) a b) rfl ?_
    refine Fin.forall_fin_succ.mpr ⟨?_, Fin.forall_fin_two.mpr ⟨?_, ?_⟩⟩
    · show j.val = o + 0; omega
    · show a.val = 0 + a.val; omega
    · show b.val = 0 + b.val; omega
  · refine View.read_writes_cons_unit_of_not_mem v f inb w L (ix3 j a b) rfl (0 : Fin 3) ?_
    show j.val < o ∨ o + 1 ≤ j.val; omega

theorem covBlk {κ : Kind} {sp : Space} (v : View sig κ sp S4x256x1024 .f32) (o : ℕ) (ho : o < 4) (inb : ∀ a : Fin 3, (![o, 0, 0] : Fin 3 → ℕ) a + (![1, 256, 1024] : Fin 3 → ℕ) a ≤ S4x256x1024.size a)
    (L : List (View.Piece (Elt Ideal) S4x256x1024 .f32)) (a : Fin 256) (b : Fin 1024) :
    v.readCov L (Rect.unit (s := S4x256x1024) ![o, 0, 0] ![1, 256, 1024] inb).toLoadRect (ix3 (0 : Fin 1) a b) = v.read (Elt Ideal) (v.writes (Elt Ideal) v.junk L) (ix3 (⟨o, ho⟩ : Fin 4) a b) := by
  rw [View.readCov_eq_canon', View.read_writes_junk_apply_eq_canon]
  refine congrArg _ (funext (Fin.forall_fin_succ.mpr ⟨?_, Fin.forall_fin_two.mpr ⟨?_, ?_⟩⟩)) <;> refine Fin.ext ?_
  · show o + 1 * 0 = o; omega
  · show 0 + 1 * a.val = a.val; omega
  · show 0 + 1 * b.val = b.val; omega

theorem fill {κ : Kind} {sp : Space} (v : View sig κ sp S4x256x1024 .f32) (f : v.ty.Contents (Elt Ideal)) (inb : ∀ a : Fin 3, (![0, 0, 0] : Fin 3 → ℕ) a + (![4, 256, 1024] : Fin 3 → ℕ) a ≤ S4x256x1024.size a)
    (w : (Rect.unit (s := S4x256x1024) ![0, 0, 0] ![4, 256, 1024] inb).shape.Idx → Elt Ideal .f32) (L : List (View.Piece (Elt Ideal) S4x256x1024 .f32)) (j : Fin 4) (a : Fin 256) (b : Fin 1024) :
    v.read (Elt Ideal) (v.writes (Elt Ideal) f ((⟨Rect.unit (s := S4x256x1024) ![0, 0, 0] ![4, 256, 1024] inb, w⟩ : View.Piece (Elt Ideal) S4x256x1024 .f32) :: L)) (ix3 j a b) = w (ix3 j a b) := by
  refine View.read_writes_cons_unit_of_mem v f inb w L (ix3 j a b) (ix3 j a b) rfl ?_
  refine Fin.forall_fin_succ.mpr ⟨?_, Fin.forall_fin_two.mpr ⟨?_, ?_⟩⟩
  · show j.val = 0 + j.val; omega
  · show a.val = 0 + a.val; omega
  · show b.val = 0 + b.val; omega

theorem partA (c : Dev nD) (t : Fin cfg0.N) (a : Fin 256) (b : Fin 1024) (j : ℕ) (x : Fin 512) (hj : j < 2) (hx : x.val = 256 * j + a.val) (f : Fin 2048 → EReal)
    (hf : ∀ n, f n = @HMul.hMul EReal EReal EReal _ (iblk m c 0 t (ix2 n x)) (iblk m c 2 t (ix2 n b))) : ∑ n, f n = part (A0 m c) (B0 m c) (D0 m c) t.val j a.val b.val := by
  rw [part, if_pos hj, TP, ← hx]
  exact Fin.sum_fin_congr fun n => (hf n).trans (Ideal.mul_congr (blk0 m c t n x) (blk2 m c t n b))

theorem partB (c : Dev nD) (t : Fin cfg0.N) (a : Fin 256) (b : Fin 1024) (j : ℕ) (x : Fin 512) (hj : ¬j < 2) (hx : x.val = 256 * (j - 2) + a.val) (f : Fin 2048 → EReal)
    (hf : ∀ n, f n = @HMul.hMul EReal EReal EReal _ (iblk m c 1 t (ix2 n x)) (iblk m c 2 t (ix2 n b))) : ∑ n, f n = part (A0 m c) (B0 m c) (D0 m c) t.val j a.val b.val := by
  rw [part, if_neg hj, TP, ← hx]
  exact Fin.sum_fin_congr fun n => (hf n).trans (Ideal.mul_congr (blk1 m c t n x) (blk2 m c t n b))

theorem outA (c : Dev nD) (t : Fin cfg0.N) (h0 : t.val % 4 = 0) (j : Fin 4) (a : Fin 256) (b : Fin 1024) :
    outsAt0 m c t.val t.isLt (ix3 j a b) = part (A0 m c) (B0 m c) (D0 m c) t.val j.val a.val b.val := by
  rw [outsAt0_A m c t h0]
  frame_out
  rw [← View.read_writes_junk_apply_eq_canon (ms0_3 t).view]
  have hz : ∀ j, (k0_pay3 (F := Ideal)) j = 0 := fun j => by pointwise [k0_pay3]
  rw [rw_blk, rw_blk, rw_blk, rw_blk]
  split_ifs with h3 h2 h1 h0
  · obtain rfl : j = 3 := Fin.ext h3
    pointwise [k0_pay2, k0_pay4]
    rw [covBlk _ 3 (by omega), rw_blk, if_neg (by simp), rw_blk, if_neg (by simp), rw_blk, if_neg (by simp), fill, hz, zero_add]
    exact partB m c t a b 3 ⟨256 + a.val, by omega⟩ (by omega) rfl _ fun n => rfl
  · obtain rfl : j = 2 := Fin.ext h2
    pointwise [k0_pay1, k0_pay7, k0_pay8, k0_pay4]
    rw [covBlk _ 2 (by omega), rw_blk, if_neg (by simp), rw_blk, if_neg (by simp), fill, hz, zero_add]
    exact partB m c t a b 2 ⟨a.val, by omega⟩ (by omega) (by simp) _ fun n => rfl
  · obtain rfl : j = 1 := Fin.ext h1
    pointwise [k0_pay6, k0_pay4]
    rw [covBlk _ 1 (by omega), rw_blk, if_neg (by simp), fill, hz, zero_add]
    exact partA m c t a b 1 ⟨256 + a.val, by omega⟩ (by omega) rfl _ fun n => rfl
  · obtain rfl : j = 0 := Fin.ext h0
    pointwise [k0_pay5, k0_pay4]
    rw [covBlk _ 0 (by omega), fill, hz, zero_add]
    exact partA m c t a b 0 ⟨a.val, by omega⟩ (by omega) (by simp) _ fun n => rfl
  · omega

theorem outB (c : Dev nD) (t : Fin cfg0.N) (h0 : ¬t.val % 4 = 0) (j : Fin 4) (a : Fin 256) (b : Fin 1024) :
    outsAt0 m c t.val t.isLt (ix3 j a b) = outsAt0 m c (t.val - 1) (Nat.lt_of_le_of_lt (Nat.sub_le _ _) t.isLt) (ix3 j a b) + part (A0 m c) (B0 m c) (D0 m c) t.val j.val a.val b.val := by
  rw [outsAt0_B m c t h0]
  frame_out
  rw [← View.read_writes_junk_apply_eq_canon (ms0_3 t).view]
  rw [rw_blk, rw_blk, rw_blk, rw_blk]
  split_ifs with h3 h2 h1 h0
  · obtain rfl : j = 3 := Fin.ext h3
    pointwise [k0_pay2, k0_pay4]
    exact Ideal.add_congr rfl (partB m c t a b 3 ⟨256 + a.val, by omega⟩ (by omega) rfl _ fun n => rfl)
  · obtain rfl : j = 2 := Fin.ext h2
    pointwise [k0_pay1, k0_pay7, k0_pay8, k0_pay4]
    exact Ideal.add_congr rfl (partB m c t a b 2 ⟨a.val, by omega⟩ (by omega) (by simp) _ fun n => rfl)
  · obtain rfl : j = 1 := Fin.ext h1
    pointwise [k0_pay6, k0_pay4]
    exact Ideal.add_congr rfl (partA m c t a b 1 ⟨256 + a.val, by omega⟩ (by omega) rfl _ fun n => rfl)
  · obtain rfl : j = 0 := Fin.ext h0
    pointwise [k0_pay5, k0_pay4]
    exact Ideal.add_congr rfl (partA m c t a b 0 ⟨a.val, by omega⟩ (by omega) (by simp) _ fun n => rfl)
  · omega

/-- The gradient of the output projection: the upper half from the attention's rows, the lower from the convolution's. -/
def G (A B : FVec Ideal S8192x512 .f32) (D : FVec Ideal S8192x1024 .f32) (j a b : ℕ) : EReal :=
  if j < 2 then T A D (256 * j + a) b else T B D (256 * (j - 2) + a) b

def tl : Fin cfg0.N := ⟨3, by decide +kernel⟩

theorem final (c : Dev nD) : (dats m 0 c).arrAt 3 cfg0.N = fun i : S4x256x1024.Idx => G (A0 m c) (B0 m c) (D0 m c) (i 0).val (i 1).val (i 2).val := by
  refine (dats m 0 c).arrAt_eq_of_after_last 3 tl (by decide +kernel) _ fun j => ?_
  blk_simp
  rw [after0_3, Pipeline.eq_sum_fin_of_reset_step_apply_last (fun n h => outsAt0 m c n h) 4 (fun _ => 0) (fun (t : Fin cfg0.N) (j : S4x256x1024.Idx) => part (A0 m c) (B0 m c) (D0 m c) t.val (j 0).val (j 1).val (j 2).val)
      (fun t h j => by
        refine Eq.trans ?_ (zero_add _).symm
        refine Eq.trans ?_ (outA m c t h (j 0) (j 1) (j 2))
        exact congrArg (outsAt0 m c t.val t.isLt) (eq_ix3 (n0 := 4) (n1 := 256) (n2 := 1024) j))
      (fun t h j => by
        refine Eq.trans ?_ ((outB m c t h (j 0) (j 1) (j 2)).trans ?_)
        · exact congrArg (outsAt0 m c t.val t.isLt) (eq_ix3 (n0 := 4) (n1 := 256) (n2 := 1024) j)
        · refine congrArg₂ (· + ·) ?_ rfl
          exact congrArg (outsAt0 m c (t.val - 1) _) (eq_ix3 (n0 := 4) (n1 := 256) (n2 := 1024) j).symm)
      (le_of_eq N_0) tl rfl, zero_add]
  by_cases hk : (j 0).val < 2
  · rw [G, if_pos hk, ← T_parts (A0 m c) (D0 m c) 4 2048 rfl]
    exact Finset.sum_congr (M := EReal) rfl fun p _ => by rw [part, if_pos hk]
  · rw [G, if_neg hk, ← T_parts (B0 m c) (D0 m c) 4 2048 rfl]
    exact Finset.sum_congr (M := EReal) rfl fun p _ => by rw [part, if_neg hk]

end Cert.WgradOutIdeal.Calc

namespace Cert.WgradOutRefIdeal.Calc

open Idealize.ShloMosaic Idealize.ShloMosaic.TcCoe Idealize.SL.Sem
open Cert.WgradOutRefIdeal Cert.WgradOutRefIdeal.Gen Cert.WgradOutRefIdeal.Read Cert.Base
open Cert.WgradOutIdeal.Calc (G)

variable (A B : FVec Ideal S8192x512 .f32) (D : FVec Ideal S8192x1024 .f32)

theorem ref (j : Fin 4) (a : Fin 256) (b : Fin 1024) : val_main_v5 (F := Ideal) A B D (ix3 j a b) = G A B D j.val a.val b.val := by
  pointwise [val_main_v5, val_main_v4, val_main_v3, val_main_v1]
  by_cases h : j.val < 2
  · rw [G, if_pos h]
    refine Fin.sum_fin_congr fun n => ?_
    rw [dif_pos (by omega), R_of D n.isLt b.isLt, R_of A n.isLt (by omega), mul_comm]
    exact Ideal.mul_congr (congrArg (fun r => A (ix2 n r)) (Fin.ext (by show j.val * 256 + a.val = 256 * j.val + a.val; omega))) rfl
  · rw [G, if_neg h]
    refine Fin.sum_fin_congr fun n => ?_
    rw [dif_neg (by omega), R_of D n.isLt b.isLt, R_of B n.isLt (by omega), mul_comm]
    exact Ideal.mul_congr (congrArg (fun r => B (ix2 n r)) (Fin.ext (by show j.val * 256 + a.val - 512 = 256 * (j.val - 2) + a.val; omega))) rfl

end Cert.WgradOutRefIdeal.Calc
end
-- ==== Proof.WIn.lean ====
module

public import proofs.«01_k».proof.Proof.Gen.WgradInIdeal.Value
public import proofs.«01_k».proof.Proof.Gen.WgradInRefIdeal.Read
public import proofs.«01_k».proof.Proof.Base

@[expose] public section

set_option maxRecDepth 16384

noncomputable section

namespace Cert.WgradInIdeal.Calc

open Idealize.ShloMosaic Idealize.ShloMosaic.TcCoe Idealize.SL.Sem
open Idealize.ShloMosaic.Pipeline (Dat)
open Cert.WgradInIdeal Cert.WgradInIdeal.Gen Cert.Base

variable (m : (ℓ : Loc nD τ sig) → Buf (Elt Ideal) ℓ)

abbrev A0 (c : Dev nD) : FVec Ideal S8192x1024 .f32 := m ((c : Thread nD τ).loc main_arg0)
abbrev B0 (c : Dev nD) : FVec Ideal S8192x3072 .f32 := m ((c : Thread nD τ).loc main_arg1)

theorem idx_val : ∀ t : Fin cfg0.N, win0_0.index t = ![t.val % 2, 0] ∧ win0_1.index t = ![t.val % 2, t.val / 2] ∧ win0_2.index t = ![t.val / 2, 0, 0] :=
  (by decide +kernel : ∀ t : Fin grid0.N, _)

theorem v0_eq (c : Dev nD) : V m c main_v0 = truncf .bf16 (A0 m c) bitsLt_bf16_f32 := by
  unfold V
  simp only [hostOps0, List.flatten_cons, List.flatten_nil, List.append_nil, List.cons_append, List.nil_append]
  after_results

theorem v1_eq (c : Dev nD) : V m c main_v1 = truncf .bf16 (B0 m c) bitsLt_bf16_f32 := by
  unfold V
  simp only [hostOps0, List.flatten_cons, List.flatten_nil, List.append_nil, List.cons_append, List.nil_append]
  after_results

theorem blk0 (c : Dev nD) (t : Fin cfg0.N) (a : Fin 4096) (b : Fin 1024) : iblk m c 0 t (ix2 a b) = R (A0 m c) (4096 * (t.val % 2) + a.val) b.val := by
  have ht : t.val < 8 := Nat.lt_of_lt_of_eq t.isLt N_0
  rw [R_of _ (by omega) b.isLt]
  refine Eq.trans ?_ (show truncf .bf16 (A0 m c) bitsLt_bf16_f32 (ix2 (⟨4096 * (t.val % 2) + a.val, by omega⟩ : Fin 8192) b) = _ by pointwise [])
  rw [← v0_eq]
  blk_ext [iblk, idx_val t]

theorem blk1 (c : Dev nD) (t : Fin cfg0.N) (a : Fin 4096) (b : Fin 768) : iblk m c 1 t (ix2 a b) = R (B0 m c) (4096 * (t.val % 2) + a.val) (768 * (t.val / 2) + b.val) := by
  have ht : t.val < 8 := Nat.lt_of_lt_of_eq t.isLt N_0
  rw [R_of _ (by omega) (by omega)]
  refine Eq.trans ?_ (show truncf .bf16 (B0 m c) bitsLt_bf16_f32 (ix2 (⟨4096 * (t.val % 2) + a.val, by omega⟩ : Fin 8192) (⟨768 * (t.val / 2) + b.val, by omega⟩ : Fin 3072)) = _ by pointwise [])
  rw [← v1_eq]
  blk_ext [iblk, idx_val t]

theorem lhs (c : Dev nD) (t : Fin cfg0.N) (r : ℕ) (hr : r ≤ 3072) (n : Fin 1024) (x : Fin 4096) (hx : x.val = r + n.val) (a : Fin 1024) : iblk m c 0 t (ix2 x a) = R (A0 m c) (4096 * (t.val % 2) + r + n.val) a.val := by
  rw [blk0, hx, Nat.add_assoc]

theorem rhs (c : Dev nD) (t : Fin cfg0.N) (r : ℕ) (hr : r ≤ 3072) (n : Fin 1024) (x : Fin 4096) (hx : x.val = r + n.val) (b : Fin 768) : iblk m c 1 t (ix2 x b) = R (B0 m c) (4096 * (t.val % 2) + r + n.val) (768 * (t.val / 2) + b.val) := by
  rw [blk1, hx, Nat.add_assoc]

theorem outA (c : Dev nD) (t : Fin cfg0.N) (h0 : t.val % 2 = 0) (z : Fin 1) (a : Fin 1024) (b : Fin 768) :
    outsAt0 m c t.val t.isLt (ix3 z a b) = TP (A0 m c) (B0 m c) 4096 (4096 * (t.val % 2)) a.val (768 * (t.val / 2) + b.val) := by
  rw [outsAt0_A m c t h0]
  frame_out
  pointwise [k0_pay1, k0_pay2, k0_pay3]
  exact chunks (A0 m c) (B0 m c) _ _ _ _ _ _ _ (fun n => Ideal.mul_congr (lhs m c t 0 (by omega) n _ (by simp) a) (rhs m c t 0 (by omega) n _ (by simp) b))
    (fun n => Ideal.mul_congr (lhs m c t 1024 (by omega) n _ rfl a) (rhs m c t 1024 (by omega) n _ rfl b))
    (fun n => Ideal.mul_congr (lhs m c t 2048 (by omega) n _ rfl a) (rhs m c t 2048 (by omega) n _ rfl b))
    (fun n => Ideal.mul_congr (lhs m c t 3072 (by omega) n _ rfl a) (rhs m c t 3072 (by omega) n _ rfl b))

theorem outB (c : Dev nD) (t : Fin cfg0.N) (h0 : ¬t.val % 2 = 0) (z : Fin 1) (a : Fin 1024) (b : Fin 768) :
    outsAt0 m c t.val t.isLt (ix3 z a b) = outsAt0 m c (t.val - 1) (Nat.lt_of_le_of_lt (Nat.sub_le _ _) t.isLt) (ix3 z a b) + TP (A0 m c) (B0 m c) 4096 (4096 * (t.val % 2)) a.val (768 * (t.val / 2) + b.val) := by
  rw [outsAt0_B m c t h0]
  frame_out
  pointwise [k0_pay1, k0_pay2, k0_pay3]
  obtain rfl : z = 0 := Subsingleton.elim _ _
  exact Ideal.add_congr rfl (chunks (A0 m c) (B0 m c) _ _ _ _ _ _ _ (fun n => Ideal.mul_congr (lhs m c t 0 (by omega) n _ (by simp) a) (rhs m c t 0 (by omega) n _ (by simp) b))
    (fun n => Ideal.mul_congr (lhs m c t 1024 (by omega) n _ rfl a) (rhs m c t 1024 (by omega) n _ rfl b))
    (fun n => Ideal.mul_congr (lhs m c t 2048 (by omega) n _ rfl a) (rhs m c t 2048 (by omega) n _ rfl b))
    (fun n => Ideal.mul_congr (lhs m c t 3072 (by omega) n _ rfl a) (rhs m c t 3072 (by omega) n _ rfl b)))

theorem final (c : Dev nD) : (dats m 0 c).arrAt 2 cfg0.N = fun i : S4x1024x768.Idx => T (A0 m c) (B0 m c) (i 1).val (768 * (i 0).val + (i 2).val) := by
  refine (dats m 0 c).arrAt_eq_of_covers 2 _ (by decide +kernel) fun t hf y => ?_
  have ht : t.val < 8 := Nat.lt_of_lt_of_eq t.isLt N_0
  blk_simp
  rw [after0_2]
  rw [Pipeline.eq_sum_fin_of_reset_step_apply_of_flush (fun n h => outsAt0 m c n h) 2 (fun _ => 0) (fun (t : Fin cfg0.N) (j : S1x1024x768.Idx) => TP (A0 m c) (B0 m c) 4096 (4096 * (t.val % 2)) (j 1).val (768 * (t.val / 2) + (j 2).val))
      (fun t h j => by
        refine Eq.trans ?_ (zero_add _).symm
        refine Eq.trans ?_ (outA m c t h (j 0) (j 1) (j 2))
        exact congrArg (outsAt0 m c t.val t.isLt) (eq_ix3 (n0 := 1) (n1 := 1024) (n2 := 768) j))
      (fun t h j => by
        refine Eq.trans ?_ ((outB m c t h (j 0) (j 1) (j 2)).trans ?_)
        · exact congrArg (outsAt0 m c t.val t.isLt) (eq_ix3 (n0 := 1) (n1 := 1024) (n2 := 768) j)
        · refine congrArg₂ (· + ·) ?_ rfl
          exact congrArg (outsAt0 m c (t.val - 1) _) (eq_ix3 (n0 := 1) (n1 := 1024) (n2 := 768) j).symm)
      t ((flush0_2 t).mp hf), zero_add]
  refine Eq.trans (Finset.sum_congr (M := EReal) (s₁ := Finset.univ) (g := fun s : Fin 2 => TP _ _ 4096 (4096 * s.val) _ _) rfl fun s _ => ?_) ((T_parts (A0 m c) (B0 m c) 2 4096 rfl (y 1).val (768 * (t.val / 2) + (y 2).val)).trans ?_)
  · show TP (A0 m c) (B0 m c) 4096 (4096 * ((2 * (t.val / 2) + s.val) % 2)) (y 1).val (768 * ((2 * (t.val / 2) + s.val) / 2) + (y 2).val) = _
    rw [show (2 * (t.val / 2) + s.val) % 2 = s.val by omega, show (2 * (t.val / 2) + s.val) / 2 = t.val / 2 by omega]
  · have e := idx_val t
    simp only [e]
    simp

end Cert.WgradInIdeal.Calc

namespace Cert.WgradInRefIdeal.Calc

open Idealize.ShloMosaic Idealize.ShloMosaic.TcCoe Idealize.SL.Sem
open Cert.WgradInRefIdeal Cert.WgradInRefIdeal.Gen Cert.WgradInRefIdeal.Read Cert.Base

variable (X : FVec Ideal S8192x1024 .f32) (Y : FVec Ideal S8192x3072 .f32)

theorem ref (j : Fin 4) (a : Fin 1024) (b : Fin 768) : val_main_v5 (F := Ideal) X Y (ix3 j a b) = T X Y a.val (768 * j.val + b.val) := by
  pointwise [val_main_v5, val_main_v4, val_main_v3, val_main_v2]
  refine Fin.sum_fin_congr fun n => ?_
  rw [R_of X n.isLt a.isLt, R_of Y n.isLt (by omega), mul_comm]
  exact Ideal.mul_congr rfl (congrArg (fun r => Y (ix2 n r)) (Fin.ext (by show j.val * 768 + b.val = 768 * j.val + b.val; omega)))

end Cert.WgradInRefIdeal.Calc
end
-- ==== Proof.InP.lean ====
module

public import proofs.«01_k».proof.Proof.Gen.InProjIdeal.Value
public import proofs.«01_k».proof.Proof.Gen.InProjRefIdeal.Read
public import proofs.«01_k».proof.Proof.Base

@[expose] public section

set_option maxRecDepth 16384

noncomputable section

namespace Cert.InProjIdeal.Calc

open Idealize.ShloMosaic Idealize.ShloMosaic.TcCoe Idealize.SL.Sem
open Idealize.ShloMosaic.Pipeline (Dat)
open Cert.InProjIdeal Cert.InProjIdeal.Gen Cert.Base

variable (m : (ℓ : Loc nD τ sig) → Buf (Elt Ideal) ℓ)

abbrev X0 (c : Dev nD) : FVec Ideal S8192x1024 .f32 := m ((c : Thread nD τ).loc main_arg0)
abbrev G0 (c : Dev nD) : FVec Ideal S1024 .f32 := m ((c : Thread nD τ).loc main_arg1)
abbrev W0 (c : Dev nD) : FVec Ideal S1024x3072 .f32 := m ((c : Thread nD τ).loc main_arg2)
abbrev Q0 (c : Dev nD) : FVec Ideal S64 .f32 := m ((c : Thread nD τ).loc main_arg3)
abbrev K0 (c : Dev nD) : FVec Ideal S64 .f32 := m ((c : Thread nD τ).loc main_arg4)

theorem idx_val : ∀ t : Fin cfg0.N, win0_0.index t = ![t.val, 0] ∧ win0_1.index t = ![0, 0] ∧ win0_2.index t = ![0, 0, 0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- The gain of a head, repeated for the two heads of a lane group. -/
abbrev GT (G : FVec Ideal S64 .f32) : FVec Ideal S1x128 .f32 :=
  shapeCast S1x128 (broadcastInDim S1x1x2x64 ![0, 1, 2, 3] bcast_S1x1x1x64_S1x1x2x64_0_1_2_3 (shapeCast S1x1x1x64 (broadcastInDim S1x64 ![1] bcast_S64_S1x64_1 G) shapeCasts_S1x64_S1x1x1x64)) shapeCasts_S1x1x2x64_S1x128

theorem v3_eq (c : Dev nD) : V m c main_v3 = GT (Q0 m c) := by
  unfold V
  simp only [hostOps0, List.flatten_cons, List.flatten_nil, List.append_nil, List.cons_append, List.nil_append]
  after_results
  rfl

theorem v7_eq (c : Dev nD) : V m c main_v7 = GT (K0 m c) := by
  unfold V
  simp only [hostOps0, List.flatten_cons, List.flatten_nil, List.append_nil, List.cons_append, List.nil_append]
  after_results
  rfl

theorem v8_eq (c : Dev nD) : V m c main_v8 = broadcastInDim S1x1024 ![1] bcast_S1024_S1x1024_1 (G0 m c) := by
  unfold V
  simp only [hostOps0, List.flatten_cons, List.flatten_nil, List.append_nil, List.cons_append, List.nil_append]
  after_results

abbrev SH (W : FVec Ideal S1024x3072 .f32) : FVec Ideal S4x1x1024x768 .bf16 :=
  broadcastInDim S4x1x1024x768 ![0, 2, 3] bcast_S4x1024x768_S4x1x1024x768_0_2_3 (transpose S4x1024x768 [1, 0, 2] (shapeCast S1024x4x768 (truncf .bf16 W bitsLt_bf16_f32) shapeCasts_S1024x3072_S1024x4x768) transposes_S1024x4x768_S4x1024x768_1_0_2)

theorem v12_eq (c : Dev nD) : V m c main_v12 = SH (W0 m c) := by
  unfold V
  simp only [hostOps0, List.flatten_cons, List.flatten_nil, List.append_nil, List.cons_append, List.nil_append]
  after_results
  rfl

theorem gt_at (G : FVec Ideal S64 .f32) (z : Fin 1) (b : Fin 128) : GT G (ix2 z b) = R1 G (b.val % 64) := by
  refine Eq.trans ?_ (R1_ix G (⟨b.val % 64, by omega⟩ : Fin 64))
  pointwise [GT]

theorem sh_at (W : FVec Ideal S1024x3072 .f32) (j : Fin 4) (z : Fin 1) (a : Fin 1024) (b : Fin 768) : SH W (ix4 j z a b) = R W a.val (768 * j.val + b.val) := by
  rw [R_of W a.isLt (by omega)]
  pointwise [SH]
  exact congrArg (fun r => W (ix2 a r)) (Fin.ext (by show j.val * 768 + b.val = 768 * j.val + b.val; omega))

theorem blk0 (c : Dev nD) (t : Fin cfg0.N) (a : Fin 512) (b : Fin 1024) : iblk m c 0 t (ix2 a b) = R (X0 m c) (512 * t.val + a.val) b.val := by
  have ht : t.val < 16 := Nat.lt_of_lt_of_eq t.isLt N_0
  rw [R, dif_pos (by omega)]
  blk_ext [iblk, V, V_main_arg0, idx_val t]

theorem blk1 (c : Dev nD) (t : Fin cfg0.N) (a : Fin 1) (b : Fin 1024) : iblk m c 1 t (ix2 a b) = R1 (G0 m c) b.val := by
  refine Eq.trans ?_ ((show broadcastInDim S1x1024 ![1] bcast_S1024_S1x1024_1 (G0 m c) (ix2 a b) = _ by pointwise []).trans (R1_ix (G0 m c) b))
  rw [← v8_eq]
  blk_ext [iblk, idx_val t]

theorem blk2 (c : Dev nD) (t : Fin cfg0.N) (j : Fin 4) (z : Fin 1) (a : Fin 1024) (b : Fin 768) : iblk m c 2 t (ix4 j z a b) = R (W0 m c) a.val (768 * j.val + b.val) := by
  refine Eq.trans ?_ (sh_at (W0 m c) j z a b)
  rw [← v12_eq]
  blk_ext [iblk, idx_val t]

theorem blk3 (c : Dev nD) (t : Fin cfg0.N) (z : Fin 1) (b : Fin 128) : iblk m c 3 t (ix2 z b) = R1 (Q0 m c) (b.val % 64) := by
  refine Eq.trans ?_ (gt_at (Q0 m c) z b)
  rw [← v3_eq]
  blk_ext [iblk, idx_val t]

theorem blk4 (c : Dev nD) (t : Fin cfg0.N) (z : Fin 1) (b : Fin 128) : iblk m c 4 t (ix2 z b) = R1 (K0 m c) (b.val % 64) := by
  refine Eq.trans ?_ (gt_at (K0 m c) z b)
  rw [← v7_eq]
  blk_ext [iblk, idx_val t]

/-- The normalised row: each entry times the inverse root of the row's mean square, times the gain. -/
def hn (X : FVec Ideal S8192x1024 .f32) (G : FVec Ideal S1024 .f32) (n k : ℕ) : EReal :=
  R X n k * Ideal.rsqrt (Ideal.div (∑ x : Fin 1024, R X n x.val * R X n x.val) (Ideal.ofBits .f32 1149239296#32) + Ideal.ofBits .f32 897988541#32) * R1 G k

/-- The projected row. -/
def pj (X : FVec Ideal S8192x1024 .f32) (G : FVec Ideal S1024 .f32) (W : FVec Ideal S1024x3072 .f32) (n b : ℕ) : EReal :=
  ∑ k : Fin 1024, hn X G n k.val * R W k.val b

/-- A head's row of a projection, normalised over the head's lanes and scaled by the gain. -/
def qk (P : ℕ → ℕ → EReal) (g : FVec Ideal S64 .f32) (o n b : ℕ) : EReal :=
  P n (o + b) * Ideal.rsqrt (Ideal.div (∑ x : Fin 64, P n (o + (b / 64 * 64 + x.val)) * P n (o + (b / 64 * 64 + x.val))) (Ideal.ofBits .f32 1115684864#32) + Ideal.ofBits .f32 897988541#32) * R1 g (b % 64)

theorem h_at (c : Dev nD) (t : Fin cfg0.N) (a : Fin 512) (b : Fin 1024) : k0_pay4 (F := Ideal) (iblk m c 0 t) (iblk m c 1 t) (ix2 a b) = hn (X0 m c) (G0 m c) (512 * t.val + a.val) b.val := by
  pointwise [k0_pay4]
  simp only [blk0, blk1, hn]

theorem out5 (c : Dev nD) (t : Fin cfg0.N) (a : Fin 512) (b : Fin 1024) : (outsAt0 m c t).1 (ix2 a b) = hn (X0 m c) (G0 m c) (512 * t.val + a.val) b.val := by
  rw [← h_at]
  unfold outsAt0
  frame_out

abbrev H (c : Dev nD) (t : Fin cfg0.N) : FVec Ideal S512x1024 .bf16 := k0_pay4 (F := Ideal) (iblk m c 0 t) (iblk m c 1 t)

theorem sum_at (c : Dev nD) (t : Fin cfg0.N) (a : Fin 512) (b : Fin 768) (j : Fin 4) (k : ℕ) (hk : k = 768 * j.val + b.val) (f : Fin 1024 → EReal)
    (hf : ∀ n, f n = @HMul.hMul EReal EReal EReal _ (H m c t (ix2 a n)) (iblk m c 2 t (ix4 j (0 : Fin 1) n b))) :
    ∑ n, f n = pj (X0 m c) (G0 m c) (W0 m c) (512 * t.val + a.val) k := by
  subst hk
  exact Fin.sum_fin_congr fun n => (hf n).trans (Ideal.mul_congr (h_at m c t a n) (blk2 m c t j 0 n b))

/-- The projection's block as the body stores it, four ranges of columns. -/
abbrev PL (c : Dev nD) (t : Fin cfg0.N) : List (View.Piece (Elt Ideal) S512x3072 .f32) :=
  [⟨Rect.unit ![0, 2304] ![512, 768] inb_S512x3072_S512x768_0_2304, k0_pay8 (k0_pay4 (iblk m c 0 t) (iblk m c 1 t)) (View.ld (iblk m c 2 t) (Rect.unit ![3, 0, 0, 0] ![1, 1, 1024, 768] inb_S4x1x1024x768_S1x1x1024x768_3_0_0_0))⟩,
   ⟨Rect.unit ![0, 1536] ![512, 768] inb_S512x3072_S512x768_0_1536, k0_pay7 (iblk m c 0 t) (iblk m c 1 t) (View.ld (iblk m c 2 t) (Rect.unit ![2, 0, 0, 0] ![1, 1, 1024, 768] inb_S4x1x1024x768_S1x1x1024x768_2_0_0_0))⟩,
   ⟨Rect.unit ![0, 768] ![512, 768] inb_S512x3072_S512x768_0_768, k0_pay6 (iblk m c 0 t) (iblk m c 1 t) (View.ld (iblk m c 2 t) (Rect.unit ![1, 0, 0, 0] ![1, 1, 1024, 768] inb_S4x1x1024x768_S1x1x1024x768_1_0_0_0))⟩,
   ⟨Rect.unit ![0, 0] ![512, 768] inb_S512x3072_S512x768_0_0, k0_pay5 (iblk m c 0 t) (iblk m c 1 t) (View.ld (iblk m c 2 t) (Rect.unit ![0, 0, 0, 0] ![1, 1, 1024, 768] inb_S4x1x1024x768_S1x1x1024x768_0_0_0_0))⟩]

theorem pl_at (c : Dev nD) (t : Fin cfg0.N) (a : Fin 512) (b : Fin 3072) : View.canon (PL m c t) (ix2 a b) = pj (X0 m c) (G0 m c) (W0 m c) (512 * t.val + a.val) b.val := by
  unfold PL
  canon_tiles x h
  all_goals
    obtain ⟨a', b', rfl⟩ : ∃ (a' : Fin 512) (b' : Fin 768), x = ix2 a' b' := ⟨x 0, x 1, eq_ix2 (n0 := 512) (n1 := 768) x⟩
    obtain rfl : a = a' := Fin.ext (by first | exact h0 | simpa using h0)
  · pointwise [k0_pay8]
    exact sum_at m c t a b' 3 _ h1 _ fun n => rfl
  · pointwise [k0_pay7]
    exact sum_at m c t a b' 2 _ h1 _ fun n => rfl
  · pointwise [k0_pay6]
    exact sum_at m c t a b' 1 _ h1 _ fun n => rfl
  · pointwise [k0_pay5]
    exact sum_at m c t a b' 0 _ (h1.trans (by simp)) _ fun n => rfl

theorem out6 (c : Dev nD) (t : Fin cfg0.N) (a : Fin 512) (b : Fin 3072) : (outsAt0 m c t).2.1 (ix2 a b) = pj (X0 m c) (G0 m c) (W0 m c) (512 * t.val + a.val) b.val := by
  rw [← pl_at]
  unfold outsAt0
  frame_out
  rfl

/-- A lane group of the projection just stored, read back. -/
theorem back (c : Dev nD) (t : Fin cfg0.N) (o : ℕ) (inb : ∀ a : Fin 2, (![0, o] : Fin 2 → ℕ) a + (![512, 128] : Fin 2 → ℕ) a ≤ S512x3072.size a) (ho : o + 128 ≤ 3072) (a : Fin 512) (x : Fin 128) :
    (ms0_6 t).view.readCov (PL m c t) (Rect.unit (s := S512x3072) ![0, o] ![512, 128] inb).toLoadRect (ix2 a x) = pj (X0 m c) (G0 m c) (W0 m c) (512 * t.val + a.val) (o + x.val) := by
  refine Eq.trans ?_ (pl_at m c t a (⟨o + x.val, by omega⟩ : Fin 3072))
  rw [View.readCov_eq_canon']
  refine congrArg _ (funext (Fin.forall_fin_two.mpr ⟨?_, ?_⟩)) <;> refine Fin.ext ?_
  · show 0 + 1 * a.val = a.val; omega
  · show o + 1 * x.val = o + x.val; omega

theorem slt64 : ∀ b : Fin 128, IntOp.cmpi CmpIPredicate.slt (BitVec.ofNat 32 b.val) 64#32 = if b.val < 64 then 1#1 else 0#1 := by decide +kernel

theorem sel_slt {α : Type} (b : Fin 128) (x y : α) : Scalar.select (IntOp.cmpi CmpIPredicate.slt (BitVec.ofNat 32 b.val) 64#32) x y = if b.val < 64 then x else y := by
  rw [slt64]
  unfold Scalar.select
  split <;> simp_all

theorem low_sum (f : Fin 128 → EReal) : (∑ x : Fin 128, Scalar.select (IntOp.cmpi CmpIPredicate.slt (BitVec.ofNat 32 x.val) 64#32) (f x) 0) = ∑ x : Fin 64, f ⟨x.val, by omega⟩ := by
  simp only [sel_slt]
  rw [Fin.sum_univ_tiles 2 64 rfl, Fin.sum_univ_two]
  rw [show (∑ x : Fin 64, f ⟨x.val, by omega⟩) = (∑ x : Fin 64, f ⟨x.val, by omega⟩) + 0 from (add_zero _).symm]
  refine Ideal.add_congr (Fin.sum_fin_congr fun x => ?_) (Finset.sum_eq_zero fun x _ => ?_)
  · simp
  · simp

theorem high_sum (f : Fin 128 → EReal) : (∑ x : Fin 128, Scalar.select (IntOp.cmpi CmpIPredicate.slt (BitVec.ofNat 32 x.val) 64#32) 0 (f x)) = ∑ x : Fin 64, f ⟨64 + x.val, by omega⟩ := by
  simp only [sel_slt]
  rw [Fin.sum_univ_tiles 2 64 rfl, Fin.sum_univ_two]
  rw [show (∑ x : Fin 64, f ⟨64 + x.val, by omega⟩) = 0 + (∑ x : Fin 64, f ⟨64 + x.val, by omega⟩) from (zero_add _).symm]
  refine Ideal.add_congr (Finset.sum_eq_zero fun x _ => ?_) (Fin.sum_fin_congr fun x => ?_)
  · simp
  · simp

/-- The two heads of a lane group, normalised side by side. -/
theorem norm_at (P : ℕ → ℕ → EReal) (g : FVec Ideal S64 .f32) (o n k : ℕ) (b : Fin 128) (hk : k % 128 = b.val) (v : Fin 128 → EReal) (w : EReal)
    (hv : ∀ x, v x = P n (o + (k / 128 * 128) + x.val)) (hw : w = R1 g (b.val % 64)) :
    v b * Scalar.select (IntOp.cmpi CmpIPredicate.slt (BitVec.ofNat 32 b.val) 64#32)
      (Ideal.rsqrt (Ideal.div (∑ x : Fin 128, Scalar.select (IntOp.cmpi CmpIPredicate.slt (BitVec.ofNat 32 x.val) 64#32) (v x * v x) 0) (Ideal.ofBits .f32 1115684864#32) + Ideal.ofBits .f32 897988541#32))
      (Ideal.rsqrt (Ideal.div (∑ x : Fin 128, Scalar.select (IntOp.cmpi CmpIPredicate.slt (BitVec.ofNat 32 x.val) 64#32) 0 (v x * v x)) (Ideal.ofBits .f32 1115684864#32) + Ideal.ofBits .f32 897988541#32)) * w
      = qk P g o n k := by
  rw [low_sum (fun x => v x * v x), high_sum (fun x => v x * v x), sel_slt, qk, hw, show k % 64 = b.val % 64 by omega, hv b, show o + k / 128 * 128 + b.val = o + k by omega]
  refine Ideal.mul_congr (Ideal.mul_congr rfl ?_) rfl
  split_ifs with h
  · refine congrArg (fun s => Ideal.rsqrt (Ideal.div s _ + _)) (Fin.sum_fin_congr fun x => ?_)
    rw [hv, show o + k / 128 * 128 + x.val = o + (k / 64 * 64 + x.val) by omega]
  · refine congrArg (fun s => Ideal.rsqrt (Ideal.div s _ + _)) (Fin.sum_fin_congr fun x => ?_)
    rw [hv, show o + k / 128 * 128 + (64 + x.val) = o + (k / 64 * 64 + x.val) by omega]

theorem out7 (c : Dev nD) (t : Fin cfg0.N) (a b : Fin 512) : (outsAt0 m c t).2.2.1 (ix2 a b) = qk (pj (X0 m c) (G0 m c) (W0 m c)) (Q0 m c) 0 (512 * t.val + a.val) b.val * Ideal.ofBits .f32 1040187392#32 := by
  unfold outsAt0
  frame_out
  generalize hL : ([⟨Rect.unit ![0, 2304] ![512, 768] inb_S512x3072_S512x768_0_2304, k0_pay8 (k0_pay4 (iblk m c 0 t) (iblk m c 1 t)) (View.ld (iblk m c 2 t) (Rect.unit ![3, 0, 0, 0] ![1, 1, 1024, 768] inb_S4x1x1024x768_S1x1x1024x768_3_0_0_0))⟩,
   ⟨Rect.unit ![0, 1536] ![512, 768] inb_S512x3072_S512x768_0_1536, k0_pay7 (iblk m c 0 t) (iblk m c 1 t) (View.ld (iblk m c 2 t) (Rect.unit ![2, 0, 0, 0] ![1, 1, 1024, 768] inb_S4x1x1024x768_S1x1x1024x768_2_0_0_0))⟩,
   ⟨Rect.unit ![0, 768] ![512, 768] inb_S512x3072_S512x768_0_768, k0_pay6 (iblk m c 0 t) (iblk m c 1 t) (View.ld (iblk m c 2 t) (Rect.unit ![1, 0, 0, 0] ![1, 1, 1024, 768] inb_S4x1x1024x768_S1x1x1024x768_1_0_0_0))⟩,
   ⟨Rect.unit ![0, 0] ![512, 768] inb_S512x3072_S512x768_0_0, k0_pay5 (iblk m c 0 t) (iblk m c 1 t) (View.ld (iblk m c 2 t) (Rect.unit ![0, 0, 0, 0] ![1, 1, 1024, 768] inb_S4x1x1024x768_S1x1x1024x768_0_0_0_0))⟩] : List (View.Piece (Elt Ideal) S512x3072 .f32)) = L
  canon_tiles x h
  all_goals
    obtain ⟨a', b', rfl⟩ : ∃ (a' : Fin 512) (b' : Fin 128), x = ix2 a' b' := ⟨x 0, x 1, eq_ix2 (n0 := 512) (n1 := 128) x⟩
    obtain rfl : a = a' := Fin.ext (by first | exact h0 | simpa using h0)
  · have hb : ∀ x : Fin 128, (ms0_6 t).view.readCov L (Rect.unit (s := S512x3072) ![0, 384] ![512, 128] inb_S512x3072_S512x128_0_384).toLoadRect (ix2 a x) = pj (X0 m c) (G0 m c) (W0 m c) (512 * t.val + a.val) (384 + x.val) := fun x => by
      subst hL; exact back m c t 384 inb_S512x3072_S512x128_0_384 (by omega) a x
    clear hL
    generalize (ms0_6 t).view.readCov L (Rect.unit (s := S512x3072) ![0, 384] ![512, 128] inb_S512x3072_S512x128_0_384).toLoadRect = v at hb ⊢
    have hw := blk3 m c t 0 b'
    generalize iblk m c 3 t = w at hw ⊢
    have e : b.val = 384 + b'.val := h1
    pointwise [k0_pay1, k0_pay37, k0_pay33, k0_pay34, k0_pay35, k0_pay36, k0_pay9]
    exact Ideal.mul_congr (norm_at (pj (X0 m c) (G0 m c) (W0 m c)) (Q0 m c) 0 (512 * t.val + a.val) b.val b' (by omega) (fun x => v (ix2 a x)) _ (fun x => (hb x).trans (by rw [show 0 + b.val / 128 * 128 = 384 by omega])) hw) rfl
  · have hb : ∀ x : Fin 128, (ms0_6 t).view.readCov L (Rect.unit (s := S512x3072) ![0, 256] ![512, 128] inb_S512x3072_S512x128_0_256).toLoadRect (ix2 a x) = pj (X0 m c) (G0 m c) (W0 m c) (512 * t.val + a.val) (256 + x.val) := fun x => by
      subst hL; exact back m c t 256 inb_S512x3072_S512x128_0_256 (by omega) a x
    clear hL
    generalize (ms0_6 t).view.readCov L (Rect.unit (s := S512x3072) ![0, 256] ![512, 128] inb_S512x3072_S512x128_0_256).toLoadRect = v at hb ⊢
    have hw := blk3 m c t 0 b'
    generalize iblk m c 3 t = w at hw ⊢
    have e : b.val = 256 + b'.val := h1
    pointwise [k0_pay30, k0_pay24, k0_pay9, k0_pay23]
    exact Ideal.mul_congr (norm_at (pj (X0 m c) (G0 m c) (W0 m c)) (Q0 m c) 0 (512 * t.val + a.val) b.val b' (by omega) (fun x => v (ix2 a x)) _ (fun x => (hb x).trans (by rw [show 0 + b.val / 128 * 128 = 256 by omega])) hw) rfl
  · have hb : ∀ x : Fin 128, (ms0_6 t).view.readCov L (Rect.unit (s := S512x3072) ![0, 128] ![512, 128] inb_S512x3072_S512x128_0_128).toLoadRect (ix2 a x) = pj (X0 m c) (G0 m c) (W0 m c) (512 * t.val + a.val) (128 + x.val) := fun x => by
      subst hL; exact back m c t 128 inb_S512x3072_S512x128_0_128 (by omega) a x
    clear hL
    generalize (ms0_6 t).view.readCov L (Rect.unit (s := S512x3072) ![0, 128] ![512, 128] inb_S512x3072_S512x128_0_128).toLoadRect = v at hb ⊢
    have hw := blk3 m c t 0 b'
    generalize iblk m c 3 t = w at hw ⊢
    have e : b.val = 128 + b'.val := h1
    pointwise [k0_pay20, k0_pay16, k0_pay9]
    exact Ideal.mul_congr (norm_at (pj (X0 m c) (G0 m c) (W0 m c)) (Q0 m c) 0 (512 * t.val + a.val) b.val b' (by omega) (fun x => v (ix2 a x)) _ (fun x => (hb x).trans (by rw [show 0 + b.val / 128 * 128 = 128 by omega])) hw) rfl
  · have hb : ∀ x : Fin 128, (ms0_6 t).view.readCov L (Rect.unit (s := S512x3072) ![0, 0] ![512, 128] inb_S512x3072_S512x128_0_0).toLoadRect (ix2 a x) = pj (X0 m c) (G0 m c) (W0 m c) (512 * t.val + a.val) (0 + x.val) := fun x => by
      subst hL; exact back m c t 0 inb_S512x3072_S512x128_0_0 (by omega) a x
    clear hL
    generalize (ms0_6 t).view.readCov L (Rect.unit (s := S512x3072) ![0, 0] ![512, 128] inb_S512x3072_S512x128_0_0).toLoadRect = v at hb ⊢
    have hw := blk3 m c t 0 b'
    generalize iblk m c 3 t = w at hw ⊢
    have e : b.val = 0 + b'.val := by first | exact h1 | (rw [Nat.zero_add]; exact h1)
    pointwise [k0_pay13, k0_pay10, k0_pay11, k0_pay12, k0_pay9]
    exact Ideal.mul_congr (norm_at (pj (X0 m c) (G0 m c) (W0 m c)) (Q0 m c) 0 (512 * t.val + a.val) b.val b' (by omega) (fun x => v (ix2 a x)) _ (fun x => (hb x).trans (by rw [show 0 + b.val / 128 * 128 = 0 by omega])) hw) rfl

theorem out8 (c : Dev nD) (t : Fin cfg0.N) (a b : Fin 512) : (outsAt0 m c t).2.2.2.1 (ix2 a b) = qk (pj (X0 m c) (G0 m c) (W0 m c)) (K0 m c) 512 (512 * t.val + a.val) b.val := by
  unfold outsAt0
  frame_out
  generalize hL : ([⟨Rect.unit ![0, 2304] ![512, 768] inb_S512x3072_S512x768_0_2304, k0_pay8 (k0_pay4 (iblk m c 0 t) (iblk m c 1 t)) (View.ld (iblk m c 2 t) (Rect.unit ![3, 0, 0, 0] ![1, 1, 1024, 768] inb_S4x1x1024x768_S1x1x1024x768_3_0_0_0))⟩,
   ⟨Rect.unit ![0, 1536] ![512, 768] inb_S512x3072_S512x768_0_1536, k0_pay7 (iblk m c 0 t) (iblk m c 1 t) (View.ld (iblk m c 2 t) (Rect.unit ![2, 0, 0, 0] ![1, 1, 1024, 768] inb_S4x1x1024x768_S1x1x1024x768_2_0_0_0))⟩,
   ⟨Rect.unit ![0, 768] ![512, 768] inb_S512x3072_S512x768_0_768, k0_pay6 (iblk m c 0 t) (iblk m c 1 t) (View.ld (iblk m c 2 t) (Rect.unit ![1, 0, 0, 0] ![1, 1, 1024, 768] inb_S4x1x1024x768_S1x1x1024x768_1_0_0_0))⟩,
   ⟨Rect.unit ![0, 0] ![512, 768] inb_S512x3072_S512x768_0_0, k0_pay5 (iblk m c 0 t) (iblk m c 1 t) (View.ld (iblk m c 2 t) (Rect.unit ![0, 0, 0, 0] ![1, 1, 1024, 768] inb_S4x1x1024x768_S1x1x1024x768_0_0_0_0))⟩] : List (View.Piece (Elt Ideal) S512x3072 .f32)) = L
  canon_tiles x h
  all_goals
    obtain ⟨a', b', rfl⟩ : ∃ (a' : Fin 512) (b' : Fin 128), x = ix2 a' b' := ⟨x 0, x 1, eq_ix2 (n0 := 512) (n1 := 128) x⟩
    obtain rfl : a = a' := Fin.ext (by first | exact h0 | simpa using h0)
  · have hb : ∀ x : Fin 128, (ms0_6 t).view.readCov L (Rect.unit (s := S512x3072) ![0, 896] ![512, 128] inb_S512x3072_S512x128_0_896).toLoadRect (ix2 a x) = pj (X0 m c) (G0 m c) (W0 m c) (512 * t.val + a.val) (896 + x.val) := fun x => by
      subst hL; exact back m c t 896 inb_S512x3072_S512x128_0_896 (by omega) a x
    clear hL
    generalize (ms0_6 t).view.readCov L (Rect.unit (s := S512x3072) ![0, 896] ![512, 128] inb_S512x3072_S512x128_0_896).toLoadRect = v at hb ⊢
    have hw := blk4 m c t 0 b'
    generalize iblk m c 4 t = w at hw ⊢
    have e : b.val = 384 + b'.val := h1
    pointwise [k0_pay2, k0_pay9, k0_pay38, k0_pay39, k0_pay40, k0_pay41, k0_pay42, k0_pay43]
    exact norm_at (pj (X0 m c) (G0 m c) (W0 m c)) (K0 m c) 512 (512 * t.val + a.val) b.val b' (by omega) (fun x => v (ix2 a x)) _ (fun x => (hb x).trans (by rw [show 512 + b.val / 128 * 128 = 896 by omega])) hw
  · have hb : ∀ x : Fin 128, (ms0_6 t).view.readCov L (Rect.unit (s := S512x3072) ![0, 768] ![512, 128] inb_S512x3072_S512x128_0_768).toLoadRect (ix2 a x) = pj (X0 m c) (G0 m c) (W0 m c) (512 * t.val + a.val) (768 + x.val) := fun x => by
      subst hL; exact back m c t 768 inb_S512x3072_S512x128_0_768 (by omega) a x
    clear hL
    generalize (ms0_6 t).view.readCov L (Rect.unit (s := S512x3072) ![0, 768] ![512, 128] inb_S512x3072_S512x128_0_768).toLoadRect = v at hb ⊢
    have hw := blk4 m c t 0 b'
    generalize iblk m c 4 t = w at hw ⊢
    have e : b.val = 256 + b'.val := h1
    pointwise [k0_pay31, k0_pay9, k0_pay25, k0_pay26, k0_pay27, k0_pay28, k0_pay29]
    exact norm_at (pj (X0 m c) (G0 m c) (W0 m c)) (K0 m c) 512 (512 * t.val + a.val) b.val b' (by omega) (fun x => v (ix2 a x)) _ (fun x => (hb x).trans (by rw [show 512 + b.val / 128 * 128 = 768 by omega])) hw
  · have hb : ∀ x : Fin 128, (ms0_6 t).view.readCov L (Rect.unit (s := S512x3072) ![0, 640] ![512, 128] inb_S512x3072_S512x128_0_640).toLoadRect (ix2 a x) = pj (X0 m c) (G0 m c) (W0 m c) (512 * t.val + a.val) (640 + x.val) := fun x => by
      subst hL; exact back m c t 640 inb_S512x3072_S512x128_0_640 (by omega) a x
    clear hL
    generalize (ms0_6 t).view.readCov L (Rect.unit (s := S512x3072) ![0, 640] ![512, 128] inb_S512x3072_S512x128_0_640).toLoadRect = v at hb ⊢
    have hw := blk4 m c t 0 b'
    generalize iblk m c 4 t = w at hw ⊢
    have e : b.val = 128 + b'.val := h1
    pointwise [k0_pay21, k0_pay9, k0_pay17, k0_pay18, k0_pay19]
    exact norm_at (pj (X0 m c) (G0 m c) (W0 m c)) (K0 m c) 512 (512 * t.val + a.val) b.val b' (by omega) (fun x => v (ix2 a x)) _ (fun x => (hb x).trans (by rw [show 512 + b.val / 128 * 128 = 640 by omega])) hw
  · have hb : ∀ x : Fin 128, (ms0_6 t).view.readCov L (Rect.unit (s := S512x3072) ![0, 512] ![512, 128] inb_S512x3072_S512x128_0_512).toLoadRect (ix2 a x) = pj (X0 m c) (G0 m c) (W0 m c) (512 * t.val + a.val) (512 + x.val) := fun x => by
      subst hL; exact back m c t 512 inb_S512x3072_S512x128_0_512 (by omega) a x
    clear hL
    generalize (ms0_6 t).view.readCov L (Rect.unit (s := S512x3072) ![0, 512] ![512, 128] inb_S512x3072_S512x128_0_512).toLoadRect = v at hb ⊢
    have hw := blk4 m c t 0 b'
    generalize iblk m c 4 t = w at hw ⊢
    have e : b.val = 0 + b'.val := by first | exact h1 | (rw [Nat.zero_add]; exact h1)
    pointwise [k0_pay14, k0_pay9]
    exact norm_at (pj (X0 m c) (G0 m c) (W0 m c)) (K0 m c) 512 (512 * t.val + a.val) b.val b' (by omega) (fun x => v (ix2 a x)) _ (fun x => (hb x).trans (by rw [show 512 + b.val / 128 * 128 = 512 by omega])) hw

theorem out9 (c : Dev nD) (t : Fin cfg0.N) (a b : Fin 512) : (outsAt0 m c t).2.2.2.2 (ix2 a b) = pj (X0 m c) (G0 m c) (W0 m c) (512 * t.val + a.val) (1024 + b.val) := by
  unfold outsAt0
  frame_out
  generalize hL : ([⟨Rect.unit ![0, 2304] ![512, 768] inb_S512x3072_S512x768_0_2304, k0_pay8 (k0_pay4 (iblk m c 0 t) (iblk m c 1 t)) (View.ld (iblk m c 2 t) (Rect.unit ![3, 0, 0, 0] ![1, 1, 1024, 768] inb_S4x1x1024x768_S1x1x1024x768_3_0_0_0))⟩,
   ⟨Rect.unit ![0, 1536] ![512, 768] inb_S512x3072_S512x768_0_1536, k0_pay7 (iblk m c 0 t) (iblk m c 1 t) (View.ld (iblk m c 2 t) (Rect.unit ![2, 0, 0, 0] ![1, 1, 1024, 768] inb_S4x1x1024x768_S1x1x1024x768_2_0_0_0))⟩,
   ⟨Rect.unit ![0, 768] ![512, 768] inb_S512x3072_S512x768_0_768, k0_pay6 (iblk m c 0 t) (iblk m c 1 t) (View.ld (iblk m c 2 t) (Rect.unit ![1, 0, 0, 0] ![1, 1, 1024, 768] inb_S4x1x1024x768_S1x1x1024x768_1_0_0_0))⟩,
   ⟨Rect.unit ![0, 0] ![512, 768] inb_S512x3072_S512x768_0_0, k0_pay5 (iblk m c 0 t) (iblk m c 1 t) (View.ld (iblk m c 2 t) (Rect.unit ![0, 0, 0, 0] ![1, 1, 1024, 768] inb_S4x1x1024x768_S1x1x1024x768_0_0_0_0))⟩] : List (View.Piece (Elt Ideal) S512x3072 .f32)) = L
  canon_tiles x h
  all_goals
    obtain ⟨a', b', rfl⟩ : ∃ (a' : Fin 512) (b' : Fin 128), x = ix2 a' b' := ⟨x 0, x 1, eq_ix2 (n0 := 512) (n1 := 128) x⟩
    obtain rfl : a = a' := Fin.ext (by first | exact h0 | simpa using h0)
  · pointwise [k0_pay3]
    subst hL
    have e : b.val = 384 + b'.val := h1
    exact (back m c t 1408 inb_S512x3072_S512x128_0_1408 (by omega) a b').trans (by rw [show 1408 + b'.val = 1024 + b.val by omega])
  · pointwise [k0_pay32]
    subst hL
    have e : b.val = 256 + b'.val := h1
    exact (back m c t 1280 inb_S512x3072_S512x128_0_1280 (by omega) a b').trans (by rw [show 1280 + b'.val = 1024 + b.val by omega])
  · pointwise [k0_pay22]
    subst hL
    have e : b.val = 128 + b'.val := h1
    exact (back m c t 1152 inb_S512x3072_S512x128_0_1152 (by omega) a b').trans (by rw [show 1152 + b'.val = 1024 + b.val by omega])
  · pointwise [k0_pay15]
    subst hL
    have e : b.val = 0 + b'.val := by first | exact h1 | (rw [Nat.zero_add]; exact h1)
    exact (back m c t 1024 inb_S512x3072_S512x128_0_1024 (by omega) a b').trans (by rw [show 1024 + b'.val = 1024 + b.val by omega])

theorem final5 (c : Dev nD) : (dats m 0 c).arrAt 5 cfg0.N = fun i : S8192x1024.Idx => hn (X0 m c) (G0 m c) (i 0).val (i 1).val := by
  refine (dats m 0 c).arrAt_eq_of_covers 5 _ (by decide +kernel) fun t hf y => ?_
  blk_simp
  rw [after0_5]
  refine (congrArg _ (eq_ix2 (n0 := 512) (n1 := 1024) y)).trans ((out5 m c t (y 0) (y 1)).trans ?_)
  have e := idx_val t
  simp only [e]
  simp [Nat.mul_comm]

theorem final6 (c : Dev nD) : (dats m 0 c).arrAt 6 cfg0.N = fun i : S8192x3072.Idx => pj (X0 m c) (G0 m c) (W0 m c) (i 0).val (i 1).val := by
  refine (dats m 0 c).arrAt_eq_of_covers 6 _ (by decide +kernel) fun t hf y => ?_
  blk_simp
  rw [after0_6]
  refine (congrArg _ (eq_ix2 (n0 := 512) (n1 := 3072) y)).trans ((out6 m c t (y 0) (y 1)).trans ?_)
  have e := idx_val t
  simp only [e]
  simp [Nat.mul_comm]

theorem final7 (c : Dev nD) : (dats m 0 c).arrAt 7 cfg0.N = fun i : S8192x512.Idx => qk (pj (X0 m c) (G0 m c) (W0 m c)) (Q0 m c) 0 (i 0).val (i 1).val * Ideal.ofBits .f32 1040187392#32 := by
  refine (dats m 0 c).arrAt_eq_of_covers 7 _ (by decide +kernel) fun t hf y => ?_
  blk_simp
  rw [after0_7]
  refine (congrArg _ (eq_ix2 (n0 := 512) (n1 := 512) y)).trans ((out7 m c t (y 0) (y 1)).trans ?_)
  have e := idx_val t
  simp only [e]
  simp [Nat.mul_comm]

theorem final8 (c : Dev nD) : (dats m 0 c).arrAt 8 cfg0.N = fun i : S8192x512.Idx => qk (pj (X0 m c) (G0 m c) (W0 m c)) (K0 m c) 512 (i 0).val (i 1).val := by
  refine (dats m 0 c).arrAt_eq_of_covers 8 _ (by decide +kernel) fun t hf y => ?_
  blk_simp
  rw [after0_8]
  refine (congrArg _ (eq_ix2 (n0 := 512) (n1 := 512) y)).trans ((out8 m c t (y 0) (y 1)).trans ?_)
  have e := idx_val t
  simp only [e]
  simp [Nat.mul_comm]

theorem final9 (c : Dev nD) : (dats m 0 c).arrAt 9 cfg0.N = fun i : S8192x512.Idx => pj (X0 m c) (G0 m c) (W0 m c) (i 0).val (1024 + (i 1).val) := by
  refine (dats m 0 c).arrAt_eq_of_covers 9 _ (by decide +kernel) fun t hf y => ?_
  blk_simp
  rw [after0_9]
  refine (congrArg _ (eq_ix2 (n0 := 512) (n1 := 512) y)).trans ((out9 m c t (y 0) (y 1)).trans ?_)
  have e := idx_val t
  simp only [e]
  simp [Nat.mul_comm]

end Cert.InProjIdeal.Calc

namespace Cert.InProjRefIdeal.Calc

open Idealize.ShloMosaic Idealize.ShloMosaic.TcCoe Idealize.SL.Sem
open Cert.InProjRefIdeal Cert.InProjRefIdeal.Gen Cert.InProjRefIdeal.Read Cert.Base
open Cert.InProjIdeal.Calc (hn pj qk)

variable (X : FVec Ideal S8192x1024 .f32) (G : FVec Ideal S1024 .f32) (W : FVec Ideal S1024x3072 .f32) (Q K : FVec Ideal S64 .f32)

theorem ref12 (a : Fin 8192) (b : Fin 1024) : val_main_v12 (F := Ideal) X G (ix2 a b) = hn X G a.val b.val := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [R_ix, R1_ix, hn]

theorem ref48 : val_main_v48 (F := Ideal) X G = fun i : S8192x1024.Idx => hn X G (i 0).val (i 1).val := by
  funext i
  rw [eq_ix2 (n0 := 8192) (n1 := 1024) i]
  refine Eq.trans ?_ (ref12 X G (i 0) (i 1))
  pointwise [val_main_v48]

theorem ref13_at (a : Fin 8192) (b : Fin 3072) : val_main_v13 (F := Ideal) X G W (ix2 a b) = pj X G W a.val b.val := by
  pointwise [val_main_v13]
  exact Fin.sum_fin_congr fun k => Ideal.mul_congr (ref12 X G a k) (R_ix W k b)

theorem ref13 : val_main_v13 (F := Ideal) X G W = fun i : S8192x3072.Idx => pj X G W (i 0).val (i 1).val := by
  funext i
  rw [eq_ix2 (n0 := 8192) (n1 := 3072) i]
  exact ref13_at X G W (i 0) (i 1)

theorem ref32_at (a : Fin 8192) (b : Fin 512) : val_main_v32 (F := Ideal) X G W Q (ix2 a b) = qk (pj X G W) Q 0 a.val b.val := by
  pointwise [val_main_v32, val_main_v31, val_main_v30, val_main_v29, val_main_v28, val_main_v27, val_main_v26, val_main_v25, val_main_v24, val_main_v23, val_main_v22, val_main_v21, val_main_v20, val_main_v19, val_main_v18, val_main_v14, val_main_cst_2, val_main_cst_3, val_main_cst_4]
  simp only [ref13_at, R1_ix, qk, Nat.zero_add]

theorem ref47_at (a : Fin 8192) (b : Fin 512) : val_main_v47 (F := Ideal) X G W K (ix2 a b) = qk (pj X G W) K 512 a.val b.val := by
  pointwise [val_main_v47, val_main_v46, val_main_v45, val_main_v44, val_main_v43, val_main_v42, val_main_v41, val_main_v40, val_main_v39, val_main_v38, val_main_v37, val_main_v36, val_main_v35, val_main_v34, val_main_v33, val_main_v15, val_main_cst_5, val_main_cst_6, val_main_cst_7]
  simp only [ref13_at, R1_ix, qk]

theorem ref51 : val_main_v51 (F := Ideal) X G W Q = fun i : S8192x512.Idx => qk (pj X G W) Q 0 (i 0).val (i 1).val * Ideal.ofBits .f32 1040187392#32 := by
  funext i
  rw [eq_ix2 (n0 := 8192) (n1 := 512) i]
  pointwise [val_main_v51, val_main_v50, val_main_v49, val_main_cst_8]
  exact Ideal.mul_congr (ref32_at X G W Q (i 0) (i 1)) rfl

theorem ref52 : val_main_v52 (F := Ideal) X G W K = fun i : S8192x512.Idx => qk (pj X G W) K 512 (i 0).val (i 1).val := by
  funext i
  rw [eq_ix2 (n0 := 8192) (n1 := 512) i]
  pointwise [val_main_v52]
  exact ref47_at X G W K (i 0) (i 1)

theorem ref53 : val_main_v53 (F := Ideal) X G W = fun i : S8192x512.Idx => pj X G W (i 0).val (1024 + (i 1).val) := by
  funext i
  rw [eq_ix2 (n0 := 8192) (n1 := 512) i]
  pointwise [val_main_v53, val_main_v16]
  exact ref13_at X G W (i 0) _

end Cert.InProjRefIdeal.Calc
end
-- ==== Proof.OutP.lean ====
module

public import proofs.«01_k».proof.Proof.Gen.OutProjIdeal.Value
public import proofs.«01_k».proof.Proof.Gen.OutProjRefIdeal.Read
public import proofs.«01_k».proof.Proof.Base
public import proofs.«01_k».proof.Proof.Conv

@[expose] public section

set_option maxRecDepth 16384

noncomputable section

namespace Cert.OutProjIdeal.Calc

open Idealize.ShloMosaic Idealize.ShloMosaic.TcCoe Idealize.SL.Sem
open Idealize.ShloMosaic.Pipeline (Dat)
open Cert.OutProjIdeal Cert.OutProjIdeal.Gen Cert.Base
open Cert.KernelIdeal.Conv (hh yy hh_of hh_zero sel_eq)

variable (m : (ℓ : Loc nD τ sig) → Buf (Elt Ideal) ℓ)

abbrev X0 (c : Dev nD) : FVec Ideal S8192x1024 .f32 := m ((c : Thread nD τ).loc main_arg0)
abbrev A0 (c : Dev nD) : FVec Ideal S8192x512 .f32 := m ((c : Thread nD τ).loc main_arg1)
abbrev P0 (c : Dev nD) : FVec Ideal S8192x3072 .f32 := m ((c : Thread nD τ).loc main_arg2)
abbrev C0 (c : Dev nD) : FVec Ideal S3x512 .f32 := m ((c : Thread nD τ).loc main_arg3)
abbrev W0 (c : Dev nD) : FVec Ideal S1024x1024 .f32 := m ((c : Thread nD τ).loc main_arg4)

theorem idx_val : ∀ t : Fin cfg0.N, win0_0.index t = ![t.val, 0] ∧ win0_1.index t = ![t.val, 0] ∧ win0_2.index t = ![t.val, 3] ∧ win0_3.index t = ![t.val, 4] ∧ win0_4.index t = ![t.val, 5]
    ∧ win0_5.index t = ![t.val * 64 - 1, 4] ∧ win0_6.index t = ![t.val * 64 - 1, 5] ∧ win0_7.index t = ![0, 0] ∧ win0_8.index t = ![0, 0, 0, 0] ∧ win0_9.index t = ![t.val, 0] ∧ win0_10.index t = ![t.val, 0] :=
  (by decide +kernel : ∀ t : Fin grid0.N, _)

theorem crd : ∀ t : Fin cfg0.N, (grid0.coords t 0).val = t.val := (by decide +kernel : ∀ t : Fin grid0.N, _)

abbrev TAPS (W : FVec Ideal S3x512 .f32) : FVec Ideal S8x512 .f32 :=
  shapeCast S8x512 (transpose S8x4x128 [1, 0, 2] (shapeCast S4x8x128 (extractStridedSlice S4x1x8x128 ![0, 0, 0, 0]
    (transpose S4x1x16x128 [1, 2, 0, 3] (shapeCast S16x4x1x128 (pad S16x512 ![0, 0] ![13, 0] ![0, 0] W (sitofp .f32 (constantI S_ 32 0#32)) pads_S3x512_S16x512_0130_000 h_S_)
    shapeCasts_S16x512_S16x4x1x128) transposes_S16x4x1x128_S4x1x16x128_1_2_0_3) slices_S4x1x16x128_S4x1x8x128_0_0_0_0) shapeCasts_S4x1x8x128_S4x8x128) transposes_S4x8x128_S8x4x128_1_0_2) shapeCasts_S8x4x128_S8x512

theorem taps_eq (c : Dev nD) : V m c main_v7 = TAPS (C0 m c) := by
  unfold V
  simp only [hostOps0, hostOps0_1, hostOps0_2, List.flatten_cons, List.flatten_nil, List.append_nil, List.cons_append, List.nil_append]
  after_results
  rfl

theorem taps_at (W : FVec Ideal S3x512 .f32) (k : ℕ) (hk : k < 3) (b : Fin 512) : TAPS W (ix2 (⟨k, by omega⟩ : Fin 8) b) = W (ix2 (⟨k, hk⟩ : Fin 3) b) := by
  pointwise [TAPS]
  rw [dif_pos hk]

theorem attn_eq (c : Dev nD) : V m c main_v0 = truncf .bf16 (A0 m c) bitsLt_bf16_f32 := by
  unfold V
  simp only [hostOps0, hostOps0_1, hostOps0_2, List.flatten_cons, List.flatten_nil, List.append_nil, List.cons_append, List.nil_append]
  after_results

theorem shards_eq (c : Dev nD) : V m c main_v9 = shapeCast S4x1x256x1024 (truncf .bf16 (W0 m c) bitsLt_bf16_f32) shapeCasts_S1024x1024_S4x1x256x1024 := by
  unfold V
  simp only [hostOps0, hostOps0_1, hostOps0_2, List.flatten_cons, List.flatten_nil, List.append_nil, List.cons_append, List.nil_append]
  after_results
  rfl

theorem shards_at (W : FVec Ideal S1024x1024 .f32) (j : Fin 4) (z : Fin 1) (a : Fin 256) (b : Fin 1024) :
    shapeCast S4x1x256x1024 (truncf .bf16 W bitsLt_bf16_f32) shapeCasts_S1024x1024_S4x1x256x1024 (ix4 j z a b) = R W (256 * j.val + a.val) b.val := by
  rw [R_of W (by omega) b.isLt]
  pointwise []
  exact congrArg (fun r => W (ix2 r b)) (Fin.ext (by show j.val * 256 + a.val = 256 * j.val + a.val; omega))

theorem blk0 (c : Dev nD) (t : Fin cfg0.N) (a : Fin 512) (b : Fin 1024) : iblk m c 0 t (ix2 a b) = R (X0 m c) (512 * t.val + a.val) b.val := by
  have ht : t.val < 16 := Nat.lt_of_lt_of_eq t.isLt N_0
  rw [R, dif_pos (by omega)]
  blk_ext [iblk, V, V_main_arg0, idx_val t]

theorem blk1 (c : Dev nD) (t : Fin cfg0.N) (a : Fin 512) (b : Fin 512) : iblk m c 1 t (ix2 a b) = R (A0 m c) (512 * t.val + a.val) b.val := by
  have ht : t.val < 16 := Nat.lt_of_lt_of_eq t.isLt N_0
  rw [R_of _ (by omega) b.isLt]
  refine Eq.trans ?_ (show truncf .bf16 (A0 m c) bitsLt_bf16_f32 (ix2 (⟨512 * t.val + a.val, by omega⟩ : Fin 8192) b) = _ by pointwise [])
  rw [← attn_eq]
  blk_ext [iblk, idx_val t]

theorem blk2 (c : Dev nD) (t : Fin cfg0.N) (a b : Fin 512) : iblk m c 2 t (ix2 a b) = R (P0 m c) (512 * t.val + a.val) (1536 + b.val) := by
  have ht : t.val < 16 := Nat.lt_of_lt_of_eq t.isLt N_0
  rw [R, dif_pos (by omega)]
  blk_ext [iblk, V, V_main_arg2, idx_val t]

theorem blk3 (c : Dev nD) (t : Fin cfg0.N) (a b : Fin 512) : iblk m c 3 t (ix2 a b) = R (P0 m c) (512 * t.val + a.val) (2048 + b.val) := by
  have ht : t.val < 16 := Nat.lt_of_lt_of_eq t.isLt N_0
  rw [R, dif_pos (by omega)]
  blk_ext [iblk, V, V_main_arg2, idx_val t]

theorem blk4 (c : Dev nD) (t : Fin cfg0.N) (a b : Fin 512) : iblk m c 4 t (ix2 a b) = R (P0 m c) (512 * t.val + a.val) (2560 + b.val) := by
  have ht : t.val < 16 := Nat.lt_of_lt_of_eq t.isLt N_0
  rw [R, dif_pos (by omega)]
  blk_ext [iblk, V, V_main_arg2, idx_val t]

theorem blk5 (c : Dev nD) (t : Fin cfg0.N) (h : t.val ≠ 0) (a : Fin 8) (b : Fin 512) : iblk m c 5 t (ix2 a b) = R (P0 m c) (512 * t.val + a.val - 8) (2048 + b.val) := by
  have ht : t.val < 16 := Nat.lt_of_lt_of_eq t.isLt N_0
  rw [R, dif_pos (by omega)]
  blk_ext [iblk, V, V_main_arg2, idx_val t]

theorem blk6 (c : Dev nD) (t : Fin cfg0.N) (h : t.val ≠ 0) (a : Fin 8) (b : Fin 512) : iblk m c 6 t (ix2 a b) = R (P0 m c) (512 * t.val + a.val - 8) (2560 + b.val) := by
  have ht : t.val < 16 := Nat.lt_of_lt_of_eq t.isLt N_0
  rw [R, dif_pos (by omega)]
  blk_ext [iblk, V, V_main_arg2, idx_val t]

theorem blk7 (c : Dev nD) (t : Fin cfg0.N) (k : ℕ) (hk : k < 3) (b : Fin 512) : iblk m c 7 t (ix2 (⟨k, by omega⟩ : Fin 8) b) = R (C0 m c) k b.val := by
  rw [R, dif_pos (by omega)]
  refine Eq.trans ?_ (taps_at _ k hk b)
  rw [← taps_eq]
  blk_ext [iblk, idx_val t]

theorem blk8 (c : Dev nD) (t : Fin cfg0.N) (j : Fin 4) (z : Fin 1) (a : Fin 256) (b : Fin 1024) : iblk m c 8 t (ix4 j z a b) = R (W0 m c) (256 * j.val + a.val) b.val := by
  refine Eq.trans ?_ (shards_at (W0 m c) j z a b)
  rw [← shards_eq]
  blk_ext [iblk, idx_val t]

/-- The convolution's block as the body stores it. -/
abbrev CV (c : Dev nD) (t : Fin cfg0.N) : FVec Ideal S512x512 .bf16 :=
  k0_pay8 (F := Ideal) (k0_pay2 (iblk m c 3 t) (iblk m c 4 t))
    (k0_pay3 (grid0.coords t) (View.ld (iblk m c 5 t) (Rect.unit ![7, 0] ![1, 512] inb_S8x512_S1x512_7_0)) (View.ld (iblk m c 6 t) (Rect.unit ![7, 0] ![1, 512] inb_S8x512_S1x512_7_0)))
    (k0_pay4 (grid0.coords t) (iblk m c 3 t) (iblk m c 4 t) (View.ld (iblk m c 5 t) (Rect.unit ![6, 0] ![1, 512] inb_S8x512_S1x512_6_0)) (View.ld (iblk m c 6 t) (Rect.unit ![6, 0] ![1, 512] inb_S8x512_S1x512_6_0))
      (View.ld (iblk m c 5 t) (Rect.unit ![7, 0] ![1, 512] inb_S8x512_S1x512_7_0)) (View.ld (iblk m c 6 t) (Rect.unit ![7, 0] ![1, 512] inb_S8x512_S1x512_7_0))
      (View.ld (iblk m c 7 t) (Rect.unit ![0, 0] ![1, 512] inb_S8x512_S1x512_0_0)))
    (k0_pay5 (View.ld (iblk m c 7 t) (Rect.unit ![1, 0] ![1, 512] inb_S8x512_S1x512_1_0)))
    (iota Kind.tc S512x512 32 [0] iota_S512x512_d0_w32) (k0_pay6 (iblk m c 3 t) (iblk m c 4 t)) k0_pay7
    (View.ld (iblk m c 7 t) (Rect.unit ![2, 0] ![1, 512] inb_S8x512_S1x512_2_0)) (iblk m c 2 t)

/-- The convolution's half of the heads. -/
def cv (P : FVec Ideal S8192x3072 .f32) (C : FVec Ideal S3x512 .f32) (n q : ℕ) : EReal := R P n (1536 + q) * yy P C n q

theorem conv_at (c : Dev nD) (t : Fin cfg0.N) (a b : Fin 512) : CV m c t (ix2 a b) = cv (P0 m c) (C0 m c) (512 * t.val + a.val) b.val := by
  have ht : t.val < 16 := Nat.lt_of_lt_of_eq t.isLt N_0
  pointwise [k0_pay8, k0_pay7, k0_pay6, k0_pay5, k0_pay4, k0_pay3, k0_pay2]
  simp only [Scalar.cmpi, crd]
  rw [sel_eq _ _ (by omega) (by omega), sel_eq _ _ (by omega) (by omega), sel_eq _ _ (by omega) (by omega), sel_eq _ _ (by omega) (by omega), sel_eq _ _ (by omega) (by omega)]
  have e0 : iblk m c 7 t (ix2 0 b) = R (C0 m c) 0 b.val := blk7 m c t 0 (by omega) b
  have e1 : iblk m c 7 t (ix2 1 b) = R (C0 m c) 1 b.val := blk7 m c t 1 (by omega) b
  have e2 : iblk m c 7 t (ix2 2 b) = R (C0 m c) 2 b.val := blk7 m c t 2 (by omega) b
  rw [cv, yy]
  refine Ideal.mul_congr (blk2 m c t a b) (Ideal.add_congr (Ideal.add_congr (Ideal.mul_congr e0 ?_) (Ideal.mul_congr e1 ?_)) (Ideal.mul_congr e2 ?_))
  · split_ifs with h1 h2 h3 h4
    · rw [hh_zero _ (by omega)]
    · rw [blk5 _ _ _ h2, blk6 _ _ _ h2, hh_of _ (r := 512 * t.val + 7 - 8) (by omega)]; rfl
    · rw [hh_zero _ (by omega)]
    · rw [blk5 _ _ _ h4, blk6 _ _ _ h4, hh_of _ (r := 512 * t.val + 6 - 8) (by omega)]; rfl
    · rw [blk3, blk4, hh_of _ (r := 512 * t.val + (a.val + 512 - 2) % 512) (by omega)]; rfl
  · split_ifs with h1 h2
    · rw [hh_zero _ (by omega)]
    · rw [blk5 _ _ _ h2, blk6 _ _ _ h2, hh_of _ (r := 512 * t.val + 7 - 8) (by omega)]; rfl
    · rw [blk3, blk4, hh_of _ (r := 512 * t.val + (a.val + 512 - 1) % 512) (by omega)]; rfl
  · rw [blk3, blk4, hh_of _ (r := 512 * t.val + a.val) (by omega)]; rfl

theorem out10 (c : Dev nD) (t : Fin cfg0.N) (a b : Fin 512) : (outsAt0 m c t).2 (ix2 a b) = cv (P0 m c) (C0 m c) (512 * t.val + a.val) b.val := by
  rw [← conv_at]
  unfold outsAt0
  frame_out
  rfl

theorem fill {κ : Kind} {sp : Space} (v : View sig κ sp S512x512 .bf16) (f : v.ty.Contents (Elt Ideal)) (inb : ∀ a : Fin 2, (![0, 0] : Fin 2 → ℕ) a + (![512, 512] : Fin 2 → ℕ) a ≤ S512x512.size a)
    (w : (Rect.unit (s := S512x512) ![0, 0] ![512, 512] inb).shape.Idx → Elt Ideal .bf16) (L : List (View.Piece (Elt Ideal) S512x512 .bf16)) (a b : Fin 512) :
    v.read (Elt Ideal) (v.writes (Elt Ideal) f ((⟨Rect.unit (s := S512x512) ![0, 0] ![512, 512] inb, w⟩ : View.Piece (Elt Ideal) S512x512 .bf16) :: L)) (ix2 a b) = w (ix2 a b) := by
  refine View.read_writes_cons_unit_of_mem v f inb w L (ix2 a b) (ix2 a b) rfl ?_
  refine Fin.forall_fin_two.mpr ⟨?_, ?_⟩
  · show a.val = 0 + a.val; omega
  · show b.val = 0 + b.val; omega

theorem covCols {κ : Kind} {sp : Space} (v : View sig κ sp S512x512 .bf16) (o : ℕ) (L : List (View.Piece (Elt Ideal) S512x512 .bf16))
    (inb' : ∀ a : Fin 2, (![0, o] : Fin 2 → ℕ) a + (![512, 256] : Fin 2 → ℕ) a ≤ S512x512.size a) (ho : o + 256 ≤ 512) (a : Fin 512) (x : Fin 256) :
    v.readCov L (Rect.unit (s := S512x512) ![0, o] ![512, 256] inb').toLoadRect (ix2 a x) = v.read (Elt Ideal) (v.writes (Elt Ideal) v.junk L) (ix2 a (⟨o + x.val, by omega⟩ : Fin 512)) := by
  rw [View.readCov_eq_canon', View.read_writes_junk_apply_eq_canon]
  refine congrArg _ (funext (Fin.forall_fin_two.mpr ⟨?_, ?_⟩)) <;> refine Fin.ext ?_
  · show 0 + 1 * a.val = a.val; omega
  · show o + 1 * x.val = o + x.val; omega

/-- A column range of the block just stored, read back. -/
theorem cov {κ : Kind} {sp : Space} (v : View sig κ sp S512x512 .bf16) (o : ℕ) (inb : ∀ a : Fin 2, (![0, 0] : Fin 2 → ℕ) a + (![512, 512] : Fin 2 → ℕ) a ≤ S512x512.size a)
    (inb' : ∀ a : Fin 2, (![0, o] : Fin 2 → ℕ) a + (![512, 256] : Fin 2 → ℕ) a ≤ S512x512.size a) (ho : o + 256 ≤ 512) (w : FVec Ideal S512x512 .bf16) (a : Fin 512) (x : Fin 256) :
    v.readCov [(⟨Rect.unit (s := S512x512) ![0, 0] ![512, 512] inb, w⟩ : View.Piece (Elt Ideal) S512x512 .bf16)] (Rect.unit (s := S512x512) ![0, o] ![512, 256] inb').toLoadRect (ix2 a x)
      = w (ix2 a (⟨o + x.val, by omega⟩ : Fin 512)) := by
  refine (covCols v o _ inb' ho a x).trans (fill v _ inb w [] a (⟨o + x.val, by omega⟩ : Fin 512))

/-- The heads: the attention's beside the convolution's. -/
def mix (A : FVec Ideal S8192x512 .f32) (P : FVec Ideal S8192x3072 .f32) (C : FVec Ideal S3x512 .f32) (n k : ℕ) : EReal :=
  if k < 512 then R A n k else cv P C n (k - 512)

/-- The residual stream with the projected heads added. -/
def Y (X : FVec Ideal S8192x1024 .f32) (A : FVec Ideal S8192x512 .f32) (P : FVec Ideal S8192x3072 .f32) (C : FVec Ideal S3x512 .f32) (W : FVec Ideal S1024x1024 .f32) (n b : ℕ) : EReal :=
  R X n b + ∑ k : Fin 1024, mix A P C n k.val * R W k.val b

theorem quarters (f : Fin 1024 → EReal) (x : EReal) (f0 f1 f2 f3 : Fin 256 → EReal) (h0 : ∀ j, f0 j = f ⟨j.val, by omega⟩) (h1 : ∀ j, f1 j = f ⟨256 + j.val, by omega⟩)
    (h2 : ∀ j, f2 j = f ⟨512 + j.val, by omega⟩) (h3 : ∀ j, f3 j = f ⟨768 + j.val, by omega⟩) :
    x + (∑ j, f0 j) + (∑ j, f1 j) + (∑ j, f2 j) + (∑ j, f3 j) = x + ∑ k, f k := by
  rw [Fin.sum_univ_tiles 4 256 rfl f, Fin.sum_univ_four, ← add_assoc, ← add_assoc, ← add_assoc]
  refine Ideal.add_congr (Ideal.add_congr (Ideal.add_congr (Ideal.add_congr rfl ?_) ?_) ?_) ?_
  · exact Fin.sum_fin_congr fun n => (h0 n).trans (congrArg f (Fin.ext (by simp)))
  · exact Fin.sum_fin_congr fun n => (h1 n).trans (congrArg f (Fin.ext (by simp)))
  · exact Fin.sum_fin_congr fun n => (h2 n).trans (congrArg f (Fin.ext (by simp)))
  · exact Fin.sum_fin_congr fun n => (h3 n).trans (congrArg f (Fin.ext (by simp)))

theorem out9 (c : Dev nD) (t : Fin cfg0.N) (a : Fin 512) (b : Fin 1024) : (outsAt0 m c t).1 (ix2 a b) = Y (X0 m c) (A0 m c) (P0 m c) (C0 m c) (W0 m c) (512 * t.val + a.val) b.val := by
  unfold outsAt0
  frame_out
  pointwise [k0_pay1, k0_pay9, k0_pay10]
  rw [Y, ← blk0 m c t a b]
  refine quarters (fun k : Fin 1024 => mix (A0 m c) (P0 m c) (C0 m c) (512 * t.val + a.val) k.val * R (W0 m c) k.val b.val) _ _ _ _ _ (fun j => ?_) (fun j => ?_) (fun j => ?_) (fun j => ?_)
  · refine Ideal.mul_congr ((blk1 m c t a _).trans ?_) (blk8 m c t 0 0 j b |>.trans ?_)
    · rw [mix, if_pos (by show j.val < 512; omega)]
    · simp
  · refine Ideal.mul_congr ((blk1 m c t a _).trans ?_) (blk8 m c t 1 0 j b |>.trans ?_)
    · rw [mix, if_pos (by show 256 + j.val < 512; omega)]
    · simp
  · refine Ideal.mul_congr ((cov (ms0_10 t).view 0 inb_S512x512_S512x512_0_0 inb_S512x512_S512x256_0_0 (by omega) (CV m c t) a j).trans ((conv_at m c t a _).trans ?_)) (blk8 m c t 2 0 j b |>.trans ?_)
    · rw [mix, if_neg (by show ¬ 512 + j.val < 512; omega)]
      exact congrArg (cv _ _ _) (by show 0 + j.val = 512 + j.val - 512; omega)
    · simp
  · refine Ideal.mul_congr ((cov (ms0_10 t).view 256 inb_S512x512_S512x512_0_0 inb_S512x512_S512x256_0_256 (by omega) (CV m c t) a j).trans ((conv_at m c t a _).trans ?_)) (blk8 m c t 3 0 j b |>.trans ?_)
    · rw [mix, if_neg (by show ¬ 768 + j.val < 512; omega)]
      exact congrArg (cv _ _ _) (by show 256 + j.val = 768 + j.val - 512; omega)
    · simp

theorem final9 (c : Dev nD) : (dats m 0 c).arrAt 9 cfg0.N = fun i : S8192x1024.Idx => Y (X0 m c) (A0 m c) (P0 m c) (C0 m c) (W0 m c) (i 0).val (i 1).val := by
  refine (dats m 0 c).arrAt_eq_of_covers 9 _ (by decide +kernel) fun t hf y => ?_
  blk_simp
  rw [after0_9]
  refine (congrArg _ (eq_ix2 (n0 := 512) (n1 := 1024) y)).trans ((out9 m c t (y 0) (y 1)).trans ?_)
  have e := idx_val t
  simp only [e]
  simp [Nat.mul_comm]

theorem final10 (c : Dev nD) : (dats m 0 c).arrAt 10 cfg0.N = fun i : S8192x512.Idx => cv (P0 m c) (C0 m c) (i 0).val (i 1).val := by
  refine (dats m 0 c).arrAt_eq_of_covers 10 _ (by decide +kernel) fun t hf y => ?_
  blk_simp
  rw [after0_10]
  refine (congrArg _ (eq_ix2 (n0 := 512) (n1 := 512) y)).trans ((out10 m c t (y 0) (y 1)).trans ?_)
  have e := idx_val t
  simp only [e]
  simp [Nat.mul_comm]

end Cert.OutProjIdeal.Calc

namespace Cert.OutProjRefIdeal.Calc

open Idealize.ShloMosaic Idealize.ShloMosaic.TcCoe Idealize.SL.Sem
open Cert.OutProjRefIdeal Cert.OutProjRefIdeal.Gen Cert.OutProjRefIdeal.Read Cert.Base
open Cert.KernelIdeal.Conv (hh yy)
open Cert.OutProjIdeal.Calc (cv mix Y)

variable (X : FVec Ideal S8192x1024 .f32) (A : FVec Ideal S8192x512 .f32) (P : FVec Ideal S8192x3072 .f32) (C : FVec Ideal S3x512 .f32) (W : FVec Ideal S1024x1024 .f32)

theorem ref_h (k : ℕ) (hk : k ≤ 2) (x : Fin 8192) (y : Fin 8194) (b : Fin 512) (hy : y.val = 2 - k + x.val) :
    val_main_v8 (F := Ideal) P (ix2 y b) = hh P k x.val b.val := by
  pointwise [val_main_v8, val_main_v6, val_main_v7, val_main_v4, val_main_v5, val_main_cst]
  rw [hh]
  by_cases h : y.val < 2
  · rw [dif_pos h, if_neg (by omega)]
  · refine (dif_neg h).trans ((Ideal.mul_congr (R_ix P (⟨y.val - 2, by omega⟩ : Fin 8192) (⟨2048 + b.val, by omega⟩ : Fin 3072)) (R_ix P (⟨y.val - 2, by omega⟩ : Fin 8192) (⟨2560 + b.val, by omega⟩ : Fin 3072))).trans ?_)
    rw [if_pos (by omega)]
    show R P (y.val - 2) _ * R P (y.val - 2) _ = _
    rw [show y.val - 2 = x.val - k by omega]; rfl

theorem ref29 (a : Fin 8192) (b : Fin 512) : val_main_v29 (F := Ideal) P C (ix2 a b) = cv P C a.val b.val := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v3]
  exact Ideal.mul_congr (R_ix P a _) (Ideal.add_congr (Ideal.add_congr (Ideal.mul_congr (R_ix C 0 b) (ref_h P 2 (by omega) a _ b (by show a.val = _; omega)))
    (Ideal.mul_congr (R_ix C 1 b) (ref_h P 1 (by omega) a _ b (by show 1 + a.val = _; omega)))) (Ideal.mul_congr (R_ix C 2 b) (ref_h P 0 (by omega) a _ b (by show 2 + a.val = _; omega))))

theorem ref33 (a : Fin 8192) (b : Fin 512) : val_main_v33 (F := Ideal) P C (ix2 a b) = cv P C a.val b.val := by
  pointwise [val_main_v33]
  exact ref29 P C a b

theorem ref30 (a : Fin 8192) (k : Fin 1024) : val_main_v30 (F := Ideal) A P C (ix2 a k) = mix A P C a.val k.val := by
  pointwise [val_main_v30]
  rw [mix]
  by_cases h : k.val < 512
  · rw [dif_pos h, if_pos h]; exact R_ix A a _
  · rw [dif_neg h, if_neg h]; exact ref29 P C a _

theorem ref32 (a : Fin 8192) (b : Fin 1024) : val_main_v32 (F := Ideal) X A P C W (ix2 a b) = Y X A P C W a.val b.val := by
  pointwise [val_main_v32, val_main_v31]
  rw [Y]
  exact Ideal.add_congr (R_ix X a b) (Fin.sum_fin_congr fun k => Ideal.mul_congr (ref30 A P C a k) (R_ix W k b))

end Cert.OutProjRefIdeal.Calc
end
-- ==== Proof.FfnF.lean ====
module

public import proofs.«01_k».proof.Proof.Gen.FfnFwdIdeal.Value
public import proofs.«01_k».proof.Proof.Gen.FfnFwdRefIdeal.Read
public import proofs.«01_k».proof.Proof.Base
public import Idealize.ShloMosaic.Lib.Pipeline.ReadBack

@[expose] public section

set_option maxRecDepth 16384

noncomputable section

namespace Cert.FfnFwdIdeal.Calc

open Idealize.ShloMosaic Idealize.ShloMosaic.TcCoe Idealize.SL.Sem
open Idealize.ShloMosaic.Pipeline (Dat)
open Cert.FfnFwdIdeal Cert.FfnFwdIdeal.Gen Cert.Base

variable (m : (ℓ : Loc nD τ sig) → Buf (Elt Ideal) ℓ)

abbrev X0 (c : Dev nD) : FVec Ideal S8192x1024 .f32 := m ((c : Thread nD τ).loc main_arg0)
abbrev G0 (c : Dev nD) : FVec Ideal S1024 .f32 := m ((c : Thread nD τ).loc main_arg1)
abbrev WG0 (c : Dev nD) : FVec Ideal S1024x2816 .f32 := m ((c : Thread nD τ).loc main_arg2)
abbrev WU0 (c : Dev nD) : FVec Ideal S1024x2816 .f32 := m ((c : Thread nD τ).loc main_arg3)
abbrev WD0 (c : Dev nD) : FVec Ideal S2816x1024 .f32 := m ((c : Thread nD τ).loc main_arg4)
abbrev T0 (c : Dev nD) : FVec Ideal S8192x1024 .f32 := m ((c : Thread nD τ).loc main_arg5)

theorem idx_val : ∀ t : Fin cfg0.N, win0_0.index t = ![t.val / 4, 0] ∧ win0_1.index t = ![0, 0] ∧ win0_2.index t = ![t.val % 4, 0, 0, 0] ∧ win0_3.index t = ![t.val % 4, 0, 0, 0] ∧ win0_4.index t = ![t.val % 4, 0, 0, 0]
    ∧ win0_5.index t = ![t.val / 4, 0] ∧ win0_6.index t = ![t.val / 4, 0] ∧ win0_7.index t = ![t.val % 4, t.val / 4, 0] ∧ win0_8.index t = ![t.val % 4, t.val / 4, 0] ∧ win0_9.index t = ![t.val / 4, 0] ∧ win0_10.index t = ![0, 0] :=
  (by decide +kernel : ∀ t : Fin grid0.N, _)

/-- The four shards of a weight's columns. -/
abbrev CS (W : FVec Ideal S1024x2816 .f32) : FVec Ideal S4x1x1024x704 .bf16 :=
  broadcastInDim S4x1x1024x704 ![0, 2, 3] bcast_S4x1024x704_S4x1x1024x704_0_2_3 (transpose S4x1024x704 [1, 0, 2] (shapeCast S1024x4x704 (truncf .bf16 W bitsLt_bf16_f32) shapeCasts_S1024x2816_S1024x4x704) transposes_S1024x4x704_S4x1024x704_1_0_2)

abbrev RS (W : FVec Ideal S2816x1024 .f32) : FVec Ideal S4x1x704x1024 .bf16 :=
  shapeCast S4x1x704x1024 (truncf .bf16 W bitsLt_bf16_f32) shapeCasts_S2816x1024_S4x1x704x1024

theorem v0_eq (c : Dev nD) : V m c main_v0 = broadcastInDim S1x1024 ![1] bcast_S1024_S1x1024_1 (G0 m c) := by
  unfold V
  simp only [hostOps0, List.flatten_cons, List.flatten_nil, List.append_nil, List.cons_append, List.nil_append]
  after_results

theorem v4_eq (c : Dev nD) : V m c main_v4 = CS (WG0 m c) := by
  unfold V
  simp only [hostOps0, List.flatten_cons, List.flatten_nil, List.append_nil, List.cons_append, List.nil_append]
  after_results
  rfl

theorem v8_eq (c : Dev nD) : V m c main_v8 = CS (WU0 m c) := by
  unfold V
  simp only [hostOps0, List.flatten_cons, List.flatten_nil, List.append_nil, List.cons_append, List.nil_append]
  after_results
  rfl

theorem v10_eq (c : Dev nD) : V m c main_v10 = RS (WD0 m c) := by
  unfold V
  simp only [hostOps0, List.flatten_cons, List.flatten_nil, List.append_nil, List.cons_append, List.nil_append]
  after_results
  rfl

theorem cs_at (W : FVec Ideal S1024x2816 .f32) (j : Fin 4) (z : Fin 1) (a : Fin 1024) (b : Fin 704) : CS W (ix4 j z a b) = R W a.val (704 * j.val + b.val) := by
  rw [R_of W a.isLt (by omega)]
  pointwise [CS]
  exact congrArg (fun r => W (ix2 a r)) (Fin.ext (by show j.val * 704 + b.val = 704 * j.val + b.val; omega))

theorem rs_at (W : FVec Ideal S2816x1024 .f32) (j : Fin 4) (z : Fin 1) (a : Fin 704) (b : Fin 1024) : RS W (ix4 j z a b) = R W (704 * j.val + a.val) b.val := by
  rw [R_of W (by omega) b.isLt]
  pointwise [RS]
  exact congrArg (fun r => W (ix2 r b)) (Fin.ext (by show j.val * 704 + a.val = 704 * j.val + a.val; omega))

theorem tlt (t : Fin cfg0.N) : t.val < 32 := Nat.lt_of_lt_of_eq t.isLt N_0

theorem blk0 (c : Dev nD) (t : Fin cfg0.N) (a : Fin 1024) (b : Fin 1024) : iblk m c 0 t (ix2 a b) = R (X0 m c) (1024 * (t.val / 4) + a.val) b.val := by
  have ht := tlt t
  rw [R, dif_pos (by omega)]
  blk_ext [iblk, V, V_main_arg0, idx_val t]

theorem blk1 (c : Dev nD) (t : Fin cfg0.N) (a : Fin 1) (b : Fin 1024) : iblk m c 1 t (ix2 a b) = R1 (G0 m c) b.val := by
  refine Eq.trans ?_ ((show broadcastInDim S1x1024 ![1] bcast_S1024_S1x1024_1 (G0 m c) (ix2 a b) = _ by pointwise []).trans (R1_ix (G0 m c) b))
  rw [← v0_eq]
  blk_ext [iblk, idx_val t]

theorem blk2 (c : Dev nD) (t : Fin cfg0.N) (y z : Fin 1) (a : Fin 1024) (b : Fin 704) : iblk m c 2 t (ix4 y z a b) = R (WG0 m c) a.val (704 * (t.val % 4) + b.val) := by
  have ht := tlt t
  refine Eq.trans ?_ (cs_at (WG0 m c) (⟨t.val % 4, by omega⟩ : Fin 4) 0 a b)
  rw [← v4_eq]
  blk_ext [iblk, idx_val t]

theorem blk3 (c : Dev nD) (t : Fin cfg0.N) (y z : Fin 1) (a : Fin 1024) (b : Fin 704) : iblk m c 3 t (ix4 y z a b) = R (WU0 m c) a.val (704 * (t.val % 4) + b.val) := by
  have ht := tlt t
  refine Eq.trans ?_ (cs_at (WU0 m c) (⟨t.val % 4, by omega⟩ : Fin 4) 0 a b)
  rw [← v8_eq]
  blk_ext [iblk, idx_val t]

theorem blk4 (c : Dev nD) (t : Fin cfg0.N) (y z : Fin 1) (a : Fin 704) (b : Fin 1024) : iblk m c 4 t (ix4 y z a b) = R (WD0 m c) (704 * (t.val % 4) + a.val) b.val := by
  have ht := tlt t
  refine Eq.trans ?_ (rs_at (WD0 m c) (⟨t.val % 4, by omega⟩ : Fin 4) 0 a b)
  rw [← v10_eq]
  blk_ext [iblk, idx_val t]

theorem blk5 (c : Dev nD) (t : Fin cfg0.N) (a : Fin 1024) (b : Fin 1024) : iblk m c 5 t (ix2 a b) = R (T0 m c) (1024 * (t.val / 4) + a.val) b.val := by
  have ht := tlt t
  rw [R, dif_pos (by omega)]
  blk_ext [iblk, V, V_main_arg5, idx_val t]

/-- The normalised row: each entry times the inverse root of the row's mean square, times the gain. -/
def hn (X : FVec Ideal S8192x1024 .f32) (G : FVec Ideal S1024 .f32) (n k : ℕ) : EReal :=
  R X n k * Ideal.rsqrt (Ideal.div (∑ x : Fin 1024, R X n x.val * R X n x.val) (Ideal.ofBits .f32 1149239296#32) + Ideal.ofBits .f32 897988541#32) * R1 G k

/-- A hidden column's product with the normalised row. -/
def gt (X : FVec Ideal S8192x1024 .f32) (G : FVec Ideal S1024 .f32) (W : FVec Ideal S1024x2816 .f32) (n f : ℕ) : EReal :=
  ∑ k : Fin 1024, hn X G n k.val * R W k.val f

/-- The gated value: the gate over one plus the exponential of its negative, times the other. -/
def ac (g u : EReal) : EReal := Ideal.div g (Ideal.ofBits .f32 1065353216#32 + Ideal.exp (Ideal.ofBits .f32 0#32 - g)) * u

theorem h_at (c : Dev nD) (t : Fin cfg0.N) (a : Fin 1024) (b : Fin 1024) : k0_pay7 (F := Ideal) (iblk m c 0 t) (iblk m c 1 t) (ix2 a b) = hn (X0 m c) (G0 m c) (1024 * (t.val / 4) + a.val) b.val := by
  pointwise [k0_pay7]
  simp only [blk0, blk1, hn]

section pays
variable (hv : Vec Ideal S256x1024 .bf16) (w : Vec Ideal S1x1x1024x704 .bf16) (a : Fin 256) (f : Fin 704)
theorem p8 : k0_pay8 (F := Ideal) hv w (ix2 a f) = ∑ k : Fin 1024, @HMul.hMul EReal EReal EReal _ (hv (ix2 a k)) (w (ix4 0 0 k f)) := by pointwise [k0_pay8]
theorem p9 : k0_pay9 (F := Ideal) hv w = k0_pay8 hv w := rfl
theorem p10 : k0_pay10 (F := Ideal) hv w = k0_pay8 hv w := rfl
theorem p11 : k0_pay11 (F := Ideal) hv w = k0_pay8 hv w := rfl
theorem p12 : k0_pay12 (F := Ideal) hv w = k0_pay8 hv w := rfl
theorem p13 : k0_pay13 (F := Ideal) hv w = k0_pay8 hv w := rfl
theorem p14 : k0_pay14 (F := Ideal) hv w = k0_pay8 hv w := rfl
theorem p15 : k0_pay15 (F := Ideal) hv w = k0_pay8 hv w := rfl
variable (g u : FVec Ideal S256x704 .f32)
theorem p16 : k0_pay16 (F := Ideal) g u (ix2 a f) = ac (g (ix2 a f)) (u (ix2 a f)) := by pointwise [k0_pay16, ac]
theorem p17 : k0_pay17 (F := Ideal) g u = k0_pay16 g u := rfl
theorem p20 : k0_pay20 (F := Ideal) g u = k0_pay16 g u := rfl
theorem p19 : k0_pay19 (F := Ideal) (k0_pay12 hv w) u (k0_pay18 hv w) = k0_pay16 (k0_pay8 hv w) u := rfl
theorem p21 (z : Fin 1) : k0_pay21 (F := Ideal) g (ix3 z a f) = g (ix2 a f) := by pointwise [k0_pay21]
theorem p22 : k0_pay22 (F := Ideal) g = k0_pay21 g := rfl
theorem p23 : k0_pay23 (F := Ideal) g = k0_pay21 g := rfl
theorem p24 : k0_pay24 (F := Ideal) g = k0_pay21 g := rfl
theorem p25 : k0_pay25 (F := Ideal) g = k0_pay21 g := rfl
theorem p27 : k0_pay27 (F := Ideal) (k0_pay26 g) = k0_pay21 g := rfl
theorem p28 : k0_pay28 (F := Ideal) g = k0_pay21 g := rfl
theorem p29 : k0_pay29 (F := Ideal) g = k0_pay21 g := rfl
variable (A : FVec Ideal S256x704 .bf16) (o : Vec Ideal S256x1024 .f32) (wd : Vec Ideal S1x1x704x1024 .bf16) (b : Fin 1024)
theorem p30 : k0_pay30 (F := Ideal) A o wd (ix2 a b) = o (ix2 a b) + ∑ f : Fin 704, @HMul.hMul EReal EReal EReal _ (A (ix2 a f)) (wd (ix4 0 0 f b)) := by pointwise [k0_pay30]
theorem p31 : k0_pay31 (F := Ideal) A o wd = k0_pay30 A o wd := rfl
theorem p2 : k0_pay2 (F := Ideal) A o wd = k0_pay30 A o wd := rfl
theorem p1 : k0_pay1 (F := Ideal) A (k0_pay32 o) wd = k0_pay30 A o wd := rfl
variable (O T : Vec Ideal S1024x1024 .f32) (l : Vec Ideal S1x1024 .f32) (n : Fin 1024) (z : Fin 1)
theorem p3 : k0_pay3 (F := Ideal) (ix2 z b) = 0 := by pointwise [k0_pay3]
theorem p5 : k0_pay5 (F := Ideal) O T (ix2 n b) = Ideal.div (O (ix2 n b) - T (ix2 n b)) (Ideal.ofBits .f32 0x44800000#32) := by pointwise [k0_pay5, k0_pay4]
theorem p6 : k0_pay6 (F := Ideal) O T l (ix2 z b) = l (ix2 z b) + (∑ n : Fin 1024, @HMul.hMul EReal EReal EReal _ (O (ix2 n b) - T (ix2 n b)) (O (ix2 n b) - T (ix2 n b))) * Ideal.ofBits .f32 0x3A000000#32 := by pointwise [k0_pay6, k0_pay4]
end pays

/-- What a row's gated values give in a column of a shard, over the shard's hidden columns. -/
def dn (X : FVec Ideal S8192x1024 .f32) (G : FVec Ideal S1024 .f32) (WG WU : FVec Ideal S1024x2816 .f32) (WD : FVec Ideal S2816x1024 .f32) (n b j : ℕ) : EReal :=
  ∑ f : Fin 704, ac (gt X G WG n (704 * j + f.val)) (gt X G WU n (704 * j + f.val)) * R WD (704 * j + f.val) b

section rows
variable {κ : Kind} {sp : Space} (v : View sig κ sp S1024x1024 .f32)

theorem rw_rows (f : v.ty.Contents (Elt Ideal)) (o : ℕ) (inb : ∀ a : Fin 2, (![o, 0] : Fin 2 → ℕ) a + (![256, 1024] : Fin 2 → ℕ) a ≤ S1024x1024.size a)
    (w : (Rect.unit (s := S1024x1024) ![o, 0] ![256, 1024] inb).shape.Idx → Elt Ideal .f32) (L : List (View.Piece (Elt Ideal) S1024x1024 .f32)) (n b : Fin 1024) :
    v.read (Elt Ideal) (v.writes (Elt Ideal) f ((⟨Rect.unit (s := S1024x1024) ![o, 0] ![256, 1024] inb, w⟩ : View.Piece (Elt Ideal) S1024x1024 .f32) :: L)) (ix2 n b)
      = if h : o ≤ n.val ∧ n.val < o + 256 then w (ix2 (⟨n.val - o, by omega⟩ : Fin 256) b) else v.read (Elt Ideal) (v.writes (Elt Ideal) f L) (ix2 n b) := by
  split_ifs with h
  · refine View.read_writes_cons_unit_of_mem v f inb w L (ix2 n b) (ix2 (⟨n.val - o, by omega⟩ : Fin 256) b) rfl ?_
    refine Fin.forall_fin_two.mpr ⟨?_, ?_⟩
    · show n.val = o + (n.val - o); omega
    · show b.val = 0 + b.val; omega
  · refine View.read_writes_cons_unit_of_not_mem v f inb w L (ix2 n b) rfl (0 : Fin 2) ?_
    show n.val < o ∨ o + 256 ≤ n.val; omega

theorem fill (f : v.ty.Contents (Elt Ideal)) (inb : ∀ a : Fin 2, (![0, 0] : Fin 2 → ℕ) a + (![1024, 1024] : Fin 2 → ℕ) a ≤ S1024x1024.size a)
    (w : (Rect.unit (s := S1024x1024) ![0, 0] ![1024, 1024] inb).shape.Idx → Elt Ideal .f32) (L : List (View.Piece (Elt Ideal) S1024x1024 .f32)) (a b : Fin 1024) :
    v.read (Elt Ideal) (v.writes (Elt Ideal) f ((⟨Rect.unit (s := S1024x1024) ![0, 0] ![1024, 1024] inb, w⟩ : View.Piece (Elt Ideal) S1024x1024 .f32) :: L)) (ix2 a b) = w (ix2 a b) := by
  refine View.read_writes_cons_unit_of_mem v f inb w L (ix2 a b) (ix2 a b) rfl ?_
  refine Fin.forall_fin_two.mpr ⟨?_, ?_⟩
  · show a.val = 0 + a.val; omega
  · show b.val = 0 + b.val; omega

theorem covRows (o : ℕ) (L : List (View.Piece (Elt Ideal) S1024x1024 .f32))
    (inb : ∀ a : Fin 2, (![o, 0] : Fin 2 → ℕ) a + (![256, 1024] : Fin 2 → ℕ) a ≤ S1024x1024.size a) (ho : o + 256 ≤ 1024) (a : Fin 256) (b : Fin 1024) :
    v.readCov L (Rect.unit (s := S1024x1024) ![o, 0] ![256, 1024] inb).toLoadRect (ix2 a b) = v.read (Elt Ideal) (v.writes (Elt Ideal) v.junk L) (ix2 (⟨o + a.val, by omega⟩ : Fin 1024) b) := by
  rw [View.readCov_eq_canon', View.read_writes_junk_apply_eq_canon]
  refine congrArg _ (funext (Fin.forall_fin_two.mpr ⟨?_, ?_⟩)) <;> refine Fin.ext ?_
  · show o + 1 * a.val = o + a.val; omega
  · show 0 + 1 * b.val = b.val; omega

/-- One range of rows added to: the rows before `o` already are, those from `o` on not yet. -/
theorem step (O D : ℕ → ℕ → EReal) (o o' : ℕ) (ho : o + 256 ≤ 1024) (ho' : o' = o + 256) (L : List (View.Piece (Elt Ideal) S1024x1024 .f32))
    (hL : ∀ n b : Fin 1024, v.read (Elt Ideal) (v.writes (Elt Ideal) v.junk L) (ix2 n b) = if n.val < o then O n.val b.val + D n.val b.val else O n.val b.val)
    (inb inb' : ∀ a : Fin 2, (![o, 0] : Fin 2 → ℕ) a + (![256, 1024] : Fin 2 → ℕ) a ≤ S1024x1024.size a) (A : FVec Ideal S256x704 .bf16) (w : Vec Ideal S1x1x704x1024 .bf16)
    (hA : ∀ (a : Fin 256) (b : Fin 1024), (∑ f : Fin 704, @HMul.hMul EReal EReal EReal _ (A (ix2 a f)) (w (ix4 0 0 f b))) = D (o + a.val) b.val) (n b : Fin 1024) :
    v.read (Elt Ideal) (v.writes (Elt Ideal) v.junk ((⟨Rect.unit (s := S1024x1024) ![o, 0] ![256, 1024] inb, k0_pay30 (F := Ideal) A (v.readCov L (Rect.unit (s := S1024x1024) ![o, 0] ![256, 1024] inb').toLoadRect) w⟩ : View.Piece (Elt Ideal) S1024x1024 .f32) :: L)) (ix2 n b)
      = if n.val < o' then O n.val b.val + D n.val b.val else O n.val b.val := by
  subst ho'
  rw [rw_rows]
  split_ifs with h h' h'
  · rw [p30, covRows v o L inb' ho, hL, hA, if_neg (by show ¬ o + (n.val - o) < o; omega)]
    show O (o + (n.val - o)) b.val + D (o + (n.val - o)) b.val = _
    rw [show o + (n.val - o) = n.val by omega]
  · omega
  · rw [hL, if_pos (by omega)]
  · rw [hL, if_neg (by omega)]
end rows

section whole
variable (hv0 hv1 hv2 hv3 : Vec Ideal S256x1024 .bf16) (H : ℕ → ℕ → EReal) (hH0 : ∀ (a : Fin 256) (k : Fin 1024), hv0 (ix2 a k) = H a.val k.val) (hH1 : ∀ (a : Fin 256) (k : Fin 1024), hv1 (ix2 a k) = H (256 + a.val) k.val)
  (hH2 : ∀ (a : Fin 256) (k : Fin 1024), hv2 (ix2 a k) = H (512 + a.val) k.val) (hH3 : ∀ (a : Fin 256) (k : Fin 1024), hv3 (ix2 a k) = H (768 + a.val) k.val)
  (w : Vec Ideal S1x1x1024x704 .bf16) (W : ℕ → ℕ → EReal) (hW : ∀ (k : Fin 1024) (f : Fin 704), w (ix4 0 0 k f) = W k.val f.val)

theorem prod_at (hv : Vec Ideal S256x1024 .bf16) (o : ℕ) (hH : ∀ (a : Fin 256) (k : Fin 1024), hv (ix2 a k) = H (o + a.val) k.val) (hW : ∀ (k : Fin 1024) (f : Fin 704), w (ix4 0 0 k f) = W k.val f.val) (a : Fin 256) (f : Fin 704) :
    k0_pay8 (F := Ideal) hv w (ix2 a f) = ∑ k : Fin 1024, H (o + a.val) k.val * W k.val f.val := by
  rw [p8]
  exact Fin.sum_fin_congr fun k => Ideal.mul_congr (hH a k) (hW k f)

include hH0 hH1 hH2 hH3 hW in
/-- The four ranges of rows of a hidden product, as stored. -/
theorem hid_at (z : Fin 1) (n : Fin 1024) (f : Fin 704) :
    View.canon ([⟨Rect.unit ![0, 768, 0] ![1, 256, 704] inb_S1x1024x704_S1x256x704_0_768_0, k0_pay21 (F := Ideal) (k0_pay8 hv3 w)⟩, ⟨Rect.unit ![0, 512, 0] ![1, 256, 704] inb_S1x1024x704_S1x256x704_0_512_0, k0_pay21 (F := Ideal) (k0_pay8 hv2 w)⟩,
      ⟨Rect.unit ![0, 256, 0] ![1, 256, 704] inb_S1x1024x704_S1x256x704_0_256_0, k0_pay21 (F := Ideal) (k0_pay8 hv1 w)⟩, ⟨Rect.unit ![0, 0, 0] ![1, 256, 704] inb_S1x1024x704_S1x256x704_0_0_0, k0_pay21 (F := Ideal) (k0_pay8 hv0 w)⟩] : List (View.Piece (Elt Ideal) S1x1024x704 .bf16)) (ix3 z n f)
      = ∑ k : Fin 1024, H n.val k.val * W k.val f.val := by
  canon_tiles x h
  all_goals
    obtain ⟨z', a', f', rfl⟩ : ∃ (z' : Fin 1) (a' : Fin 256) (f' : Fin 704), x = ix3 z' a' f' := ⟨x 0, x 1, x 2, eq_ix3 (n0 := 1) (n1 := 256) (n2 := 704) x⟩
    obtain rfl : f = f' := Fin.ext (by first | exact h2 | simpa using h2)
    rw [p21]
  · exact (prod_at H w W hv3 768 hH3 hW a' f).trans (by rw [show n.val = 768 + a'.val from h1])
  · exact (prod_at H w W hv2 512 hH2 hW a' f).trans (by rw [show n.val = 512 + a'.val from h1])
  · exact (prod_at H w W hv1 256 hH1 hW a' f).trans (by rw [show n.val = 256 + a'.val from h1])
  · exact (prod_at H w W hv0 0 (fun a k => (hH0 a k).trans (by simp)) hW a' f).trans (by rw [show n.val = 0 + a'.val from by simpa using h1])

end whole

/-- A range of rows of the scratch, loaded from what the point before left in it. -/
theorem ldrows (O : Vec Ideal S1024x1024 .bf16) (o : ℕ) (inb : ∀ a : Fin 2, (![o, 0] : Fin 2 → ℕ) a + (![256, 1024] : Fin 2 → ℕ) a ≤ S1024x1024.size a) (ho : o + 256 ≤ 1024) (a : Fin 256) (k : Fin 1024) :
    View.ld O (Rect.unit (s := S1024x1024) ![o, 0] ![256, 1024] inb) (ix2 a k) = O (ix2 (⟨o + a.val, by omega⟩ : Fin 1024) k) := by
  refine View.ld_unit_apply_of O _ _ inb (ix2 a k) _ (Fin.forall_fin_two.mpr ⟨?_, ?_⟩)
  · show o + a.val = o + a.val; rfl
  · show k.val = 0 + k.val; omega

theorem scrA (c : Dev nD) (t : Fin cfg0.N) (h0 : t.val % 4 = 0) (a k : Fin 1024) : (outsAt0 m c t.val t.isLt).2.2.2.2.2 (ix2 a k) = hn (X0 m c) (G0 m c) (1024 * (t.val / 4) + a.val) k.val := by
  by_cases h1 : t.val % 32 = 0
  · rw [outsAt0_A m c t h0 h1 (by omega)]
    frame_out
    exact h_at m c t a k
  · rw [outsAt0_D m c t h0 h1 (by omega)]
    frame_out
    exact h_at m c t a k

theorem scrB (c : Dev nD) (t : Fin cfg0.N) (h0 : ¬t.val % 4 = 0) : (outsAt0 m c t.val t.isLt).2.2.2.2.2 = (outsAt0 m c (t.val - 1) (Nat.lt_of_le_of_lt (Nat.sub_le _ _) t.isLt)).2.2.2.2.2 := by
  by_cases h2 : t.val % 4 = 3
  · rw [outsAt0_C m c t h0 (by omega) h2]
    rfl
  · rw [outsAt0_B m c t h0 (by omega) h2]
    rfl

theorem scr (c : Dev nD) : ∀ (n : ℕ) (hn' : n < cfg0.N) (a k : Fin 1024), (outsAt0 m c n hn').2.2.2.2.2 (ix2 a k) = hn (X0 m c) (G0 m c) (1024 * (n / 4) + a.val) k.val
  | 0, h, a, k => scrA m c ⟨0, h⟩ rfl a k
  | n + 1, h, a, k => by
    by_cases h0 : (n + 1) % 4 = 0
    · exact scrA m c ⟨n + 1, h⟩ h0 a k
    · rw [scrB m c ⟨n + 1, h⟩ h0]
      refine (scr c n (by omega) a k).trans ?_
      rw [show n / 4 = (n + 1) / 4 by omega]

theorem hvB (c : Dev nD) (t : Fin cfg0.N) (h0 : ¬t.val % 4 = 0)
    (o : ℕ) (inb : ∀ a : Fin 2, (![o, 0] : Fin 2 → ℕ) a + (![256, 1024] : Fin 2 → ℕ) a ≤ S1024x1024.size a) (ho : o + 256 ≤ 1024) (a : Fin 256) (k : Fin 1024) :
    View.ld (outsAt0 m c (t.val - 1) (Nat.lt_of_le_of_lt (Nat.sub_le _ _) t.isLt)).2.2.2.2.2 (Rect.unit (s := S1024x1024) ![o, 0] ![256, 1024] inb) (ix2 a k) = hn (X0 m c) (G0 m c) (1024 * (t.val / 4) + (o + a.val)) k.val := by
  refine (ldrows _ o inb ho a k).trans ((scr m c _ _ _ k).trans ?_)
  rw [show (t.val - 1) / 4 = t.val / 4 by omega]

theorem hvA (c : Dev nD) (t : Fin cfg0.N)
    (o : ℕ) (inb : ∀ a : Fin 2, (![o, 0] : Fin 2 → ℕ) a + (![256, 1024] : Fin 2 → ℕ) a ≤ S1024x1024.size a) (ho : o + 256 ≤ 1024) (a : Fin 256) (k : Fin 1024) :
    (View.whole (sig := sig) (κ := .tc) cc0_scratch0).readCov [(⟨Rect.unit ![0, 0] ![1024, 1024] inb_S1024x1024_S1024x1024_0_0, k0_pay7 (F := Ideal) (iblk m c 0 t) (iblk m c 1 t)⟩ : View.Piece (Elt Ideal) S1024x1024 .bf16)]
      (Rect.unit (s := S1024x1024) ![o, 0] ![256, 1024] inb).toLoadRect (ix2 a k) = hn (X0 m c) (G0 m c) (1024 * (t.val / 4) + (o + a.val)) k.val := by
  rw [View.readCov_eq_canon']
  refine (congrFun (View.canon_cons_unit_lit (Val := Elt Ideal) (e := .bf16) (S := S1024x1024) inb_S1024x1024_S1024x1024_0_0 (k0_pay7 (F := Ideal) (iblk m c 0 t) (iblk m c 1 t)) [] (by decide)) _).trans ?_
  refine (congrArg (k0_pay7 (F := Ideal) (iblk m c 0 t) (iblk m c 1 t)) (funext (Fin.forall_fin_two.mpr ⟨?_, ?_⟩))).trans (h_at m c t (⟨o + a.val, by omega⟩ : Fin 1024) k) <;> refine Fin.ext ?_
  · show o + 1 * a.val = o + a.val; omega
  · show 0 + 1 * k.val = k.val; omega

/-- The scratch's four ranges of rows at a point, and what they hold. -/
structure HV (c : Dev nD) (t : Fin cfg0.N) (v0 v1 v2 v3 : Vec Ideal S256x1024 .bf16) : Prop where
  e0 : ∀ (a : Fin 256) (k : Fin 1024), v0 (ix2 a k) = hn (X0 m c) (G0 m c) (1024 * (t.val / 4) + a.val) k.val
  e1 : ∀ (a : Fin 256) (k : Fin 1024), v1 (ix2 a k) = hn (X0 m c) (G0 m c) (1024 * (t.val / 4) + (256 + a.val)) k.val
  e2 : ∀ (a : Fin 256) (k : Fin 1024), v2 (ix2 a k) = hn (X0 m c) (G0 m c) (1024 * (t.val / 4) + (512 + a.val)) k.val
  e3 : ∀ (a : Fin 256) (k : Fin 1024), v3 (ix2 a k) = hn (X0 m c) (G0 m c) (1024 * (t.val / 4) + (768 + a.val)) k.val

theorem HV_B (c : Dev nD) (t : Fin cfg0.N) (h0 : ¬t.val % 4 = 0) : HV m c t
    (View.ld (outsAt0 m c (t.val - 1) (Nat.lt_of_le_of_lt (Nat.sub_le _ _) t.isLt)).2.2.2.2.2 (Rect.unit (s := S1024x1024) ![0, 0] ![256, 1024] inb_S1024x1024_S256x1024_0_0))
    (View.ld (outsAt0 m c (t.val - 1) (Nat.lt_of_le_of_lt (Nat.sub_le _ _) t.isLt)).2.2.2.2.2 (Rect.unit (s := S1024x1024) ![256, 0] ![256, 1024] inb_S1024x1024_S256x1024_256_0))
    (View.ld (outsAt0 m c (t.val - 1) (Nat.lt_of_le_of_lt (Nat.sub_le _ _) t.isLt)).2.2.2.2.2 (Rect.unit (s := S1024x1024) ![512, 0] ![256, 1024] inb_S1024x1024_S256x1024_512_0))
    (View.ld (outsAt0 m c (t.val - 1) (Nat.lt_of_le_of_lt (Nat.sub_le _ _) t.isLt)).2.2.2.2.2 (Rect.unit (s := S1024x1024) ![768, 0] ![256, 1024] inb_S1024x1024_S256x1024_768_0)) :=
  ⟨fun a k => (hvB m c t h0 0 _ (by omega) a k).trans (by simp), hvB m c t h0 256 _ (by omega), hvB m c t h0 512 _ (by omega), hvB m c t h0 768 _ (by omega)⟩

abbrev cv7 (c : Dev nD) (t : Fin cfg0.N) (r : Rect S1024x1024) := (View.whole (sig := sig) (κ := .tc) cc0_scratch0).readCov [(⟨Rect.unit ![0, 0] ![1024, 1024] inb_S1024x1024_S1024x1024_0_0, k0_pay7 (F := Ideal) (iblk m c 0 t) (iblk m c 1 t)⟩ : View.Piece (Elt Ideal) S1024x1024 .bf16)] r.toLoadRect

theorem HV_A (c : Dev nD) (t : Fin cfg0.N) : HV m c t
    (cv7 m c t (Rect.unit (s := S1024x1024) ![0, 0] ![256, 1024] inb_S1024x1024_S256x1024_0_0))
    (cv7 m c t (Rect.unit (s := S1024x1024) ![256, 0] ![256, 1024] inb_S1024x1024_S256x1024_256_0))
    (cv7 m c t (Rect.unit (s := S1024x1024) ![512, 0] ![256, 1024] inb_S1024x1024_S256x1024_512_0))
    (cv7 m c t (Rect.unit (s := S1024x1024) ![768, 0] ![256, 1024] inb_S1024x1024_S256x1024_768_0)) :=
  ⟨fun a k => (hvA m c t 0 _ (by omega) a k).trans (by simp), hvA m c t 256 _ (by omega), hvA m c t 512 _ (by omega), hvA m c t 768 _ (by omega)⟩

section pt
variable (c : Dev nD) (t : Fin cfg0.N) {v0 v1 v2 v3 : Vec Ideal S256x1024 .bf16}

/-- A hidden product's block, four ranges of rows. -/
abbrev HL (v0 v1 v2 v3 : Vec Ideal S256x1024 .bf16) (w : Vec Ideal S1x1x1024x704 .bf16) : List (View.Piece (Elt Ideal) S1x1024x704 .bf16) :=
  [⟨Rect.unit ![0, 768, 0] ![1, 256, 704] inb_S1x1024x704_S1x256x704_0_768_0, k0_pay21 (F := Ideal) (k0_pay8 v3 w)⟩, ⟨Rect.unit ![0, 512, 0] ![1, 256, 704] inb_S1x1024x704_S1x256x704_0_512_0, k0_pay21 (F := Ideal) (k0_pay8 v2 w)⟩,
   ⟨Rect.unit ![0, 256, 0] ![1, 256, 704] inb_S1x1024x704_S1x256x704_0_256_0, k0_pay21 (F := Ideal) (k0_pay8 v1 w)⟩, ⟨Rect.unit ![0, 0, 0] ![1, 256, 704] inb_S1x1024x704_S1x256x704_0_0_0, k0_pay21 (F := Ideal) (k0_pay8 v0 w)⟩]

theorem gate_of (hv : HV m c t v0 v1 v2 v3) (z : Fin 1) (n : Fin 1024) (f : Fin 704) :
    View.canon (HL v0 v1 v2 v3 (iblk m c 2 t)) (ix3 z n f) = gt (X0 m c) (G0 m c) (WG0 m c) (1024 * (t.val / 4) + n.val) (704 * (t.val % 4) + f.val) :=
  hid_at _ _ _ _ (fun n k => hn (X0 m c) (G0 m c) (1024 * (t.val / 4) + n) k) hv.e0 hv.e1 hv.e2 hv.e3 _
   (fun k f => R (WG0 m c) k (704 * (t.val % 4) + f)) (fun k f => blk2 m c t 0 0 k f) z n f

theorem up_of (hv : HV m c t v0 v1 v2 v3) (z : Fin 1) (n : Fin 1024) (f : Fin 704) :
    View.canon (HL v0 v1 v2 v3 (iblk m c 3 t)) (ix3 z n f) = gt (X0 m c) (G0 m c) (WU0 m c) (1024 * (t.val / 4) + n.val) (704 * (t.val % 4) + f.val) :=
  hid_at _ _ _ _ (fun n k => hn (X0 m c) (G0 m c) (1024 * (t.val / 4) + n) k) hv.e0 hv.e1 hv.e2 hv.e3 _
   (fun k f => R (WU0 m c) k (704 * (t.val % 4) + f)) (fun k f => blk3 m c t 0 0 k f) z n f

/-- A range's gated values times the shard of the down projection. -/
theorem dn_of (v : Vec Ideal S256x1024 .bf16) (o : ℕ) (hv : ∀ (a : Fin 256) (k : Fin 1024), v (ix2 a k) = hn (X0 m c) (G0 m c) (1024 * (t.val / 4) + (o + a.val)) k.val) (a : Fin 256) (b : Fin 1024) :
    (∑ f : Fin 704, @HMul.hMul EReal EReal EReal _ (k0_pay16 (F := Ideal) (k0_pay8 v (iblk m c 2 t)) (k0_pay8 v (iblk m c 3 t)) (ix2 a f)) (iblk m c 4 t (ix4 0 0 f b)))
      = dn (X0 m c) (G0 m c) (WG0 m c) (WU0 m c) (WD0 m c) (1024 * (t.val / 4) + (o + a.val)) b.val (t.val % 4) := by
  refine Fin.sum_fin_congr fun f => Ideal.mul_congr ((p16 a f _ _).trans (congrArg₂ ac ?_ ?_)) (blk4 m c t 0 0 f b)
  · exact prod_at (fun n k => hn (X0 m c) (G0 m c) (1024 * (t.val / 4) + n) k) _ (fun k f => R (WG0 m c) k (704 * (t.val % 4) + f)) v o hv (fun k f => blk2 m c t 0 0 k f) a f
  · exact prod_at (fun n k => hn (X0 m c) (G0 m c) (1024 * (t.val / 4) + n) k) _ (fun k f => R (WU0 m c) k (704 * (t.val % 4) + f)) v o hv (fun k f => blk3 m c t 0 0 k f) a f

end pt

theorem out7 (c : Dev nD) (t : Fin cfg0.N) (z : Fin 1) (n : Fin 1024) (f : Fin 704) :
    (outsAt0 m c t.val t.isLt).2.1 (ix3 z n f) = gt (X0 m c) (G0 m c) (WG0 m c) (1024 * (t.val / 4) + n.val) (704 * (t.val % 4) + f.val) := by
  by_cases h0 : t.val % 4 = 0
  · by_cases h1 : t.val % 32 = 0
    · rw [outsAt0_A m c t h0 h1 (by omega)]
      frame_out
      exact gate_of m c t (HV_A m c t) z n f
    · rw [outsAt0_D m c t h0 h1 (by omega)]
      frame_out
      exact gate_of m c t (HV_A m c t) z n f
  · by_cases h2 : t.val % 4 = 3
    · rw [outsAt0_C m c t h0 (by omega) h2]
      frame_out
      simp only [read_unread_whole]
      exact gate_of m c t (HV_B m c t h0) z n f
    · rw [outsAt0_B m c t h0 (by omega) h2]
      frame_out
      simp only [read_unread_whole]
      exact gate_of m c t (HV_B m c t h0) z n f

theorem out8 (c : Dev nD) (t : Fin cfg0.N) (z : Fin 1) (n : Fin 1024) (f : Fin 704) :
    (outsAt0 m c t.val t.isLt).2.2.1 (ix3 z n f) = gt (X0 m c) (G0 m c) (WU0 m c) (1024 * (t.val / 4) + n.val) (704 * (t.val % 4) + f.val) := by
  by_cases h0 : t.val % 4 = 0
  · by_cases h1 : t.val % 32 = 0
    · rw [outsAt0_A m c t h0 h1 (by omega)]
      frame_out
      exact up_of m c t (HV_A m c t) z n f
    · rw [outsAt0_D m c t h0 h1 (by omega)]
      frame_out
      exact up_of m c t (HV_A m c t) z n f
  · by_cases h2 : t.val % 4 = 3
    · rw [outsAt0_C m c t h0 (by omega) h2]
      frame_out
      simp only [read_unread_whole]
      exact up_of m c t (HV_B m c t h0) z n f
    · rw [outsAt0_B m c t h0 (by omega) h2]
      frame_out
      simp only [read_unread_whole]
      exact up_of m c t (HV_B m c t h0) z n f

/-- The block's rows before a point's shard is added, and after. -/
theorem oA (c : Dev nD) (t : Fin cfg0.N) (h0 : t.val % 4 = 0) (n b : Fin 1024) :
    (outsAt0 m c t.val t.isLt).1 (ix2 n b) = R (X0 m c) (1024 * (t.val / 4) + n.val) b.val + dn (X0 m c) (G0 m c) (WG0 m c) (WU0 m c) (WD0 m c) (1024 * (t.val / 4) + n.val) b.val (t.val % 4) := by
  have s0 := step (ms0_6 t).view (fun n b => R (X0 m c) (1024 * (t.val / 4) + n) b) (fun n b => dn (X0 m c) (G0 m c) (WG0 m c) (WU0 m c) (WD0 m c) (1024 * (t.val / 4) + n) b (t.val % 4)) 0 256 (by omega) rfl _ (fun n b => (fill (ms0_6 t).view (ms0_6 t).view.junk inb_S1024x1024_S1024x1024_0_0 (iblk m c 0 t) [] n b).trans ((blk0 m c t n b).trans (if_neg (by omega)).symm))
    inb_S1024x1024_S256x1024_0_0 inb_S1024x1024_S256x1024_0_0 _ _ (fun a b => dn_of m c t _ 0 (fun a k => ((HV_A m c t).e0 a k).trans (by simp)) a b)
  have s1 := step (ms0_6 t).view (fun n b => R (X0 m c) (1024 * (t.val / 4) + n) b) (fun n b => dn (X0 m c) (G0 m c) (WG0 m c) (WU0 m c) (WD0 m c) (1024 * (t.val / 4) + n) b (t.val % 4)) 256 512 (by omega) rfl _ s0 inb_S1024x1024_S256x1024_256_0 inb_S1024x1024_S256x1024_256_0 _ _ (fun a b => dn_of m c t _ 256 (HV_A m c t).e1 a b)
  have s2 := step (ms0_6 t).view (fun n b => R (X0 m c) (1024 * (t.val / 4) + n) b) (fun n b => dn (X0 m c) (G0 m c) (WG0 m c) (WU0 m c) (WD0 m c) (1024 * (t.val / 4) + n) b (t.val % 4)) 512 768 (by omega) rfl _ s1 inb_S1024x1024_S256x1024_512_0 inb_S1024x1024_S256x1024_512_0 _ _ (fun a b => dn_of m c t _ 512 (HV_A m c t).e2 a b)
  have key := step (ms0_6 t).view (fun n b => R (X0 m c) (1024 * (t.val / 4) + n) b) (fun n b => dn (X0 m c) (G0 m c) (WG0 m c) (WU0 m c) (WD0 m c) (1024 * (t.val / 4) + n) b (t.val % 4)) 768 1024 (by omega) rfl _ s2 inb_S1024x1024_S256x1024_768_0 inb_S1024x1024_S256x1024_768_0 _ _ (fun a b => dn_of m c t _ 768 (HV_A m c t).e3 a b)
  refine Eq.trans ?_ ((key n b).trans (if_pos (by omega)))
  rw [View.read_writes_junk_apply_eq_canon]
  by_cases h1 : t.val % 32 = 0
  · rw [outsAt0_A m c t h0 h1 (by omega)]
    frame_out
    rfl
  · rw [outsAt0_D m c t h0 h1 (by omega)]
    frame_out
    rfl

/-- A range of rows of the block, loaded from what the point before left in it. -/
theorem ldrowsO (O : Vec Ideal S1024x1024 .f32) (o : ℕ) (inb : ∀ a : Fin 2, (![o, 0] : Fin 2 → ℕ) a + (![256, 1024] : Fin 2 → ℕ) a ≤ S1024x1024.size a) (n : Fin 1024) (a : Fin 256) (h : n.val = o + a.val) (k : Fin 1024) :
    View.ld O (Rect.unit (s := S1024x1024) ![o, 0] ![256, 1024] inb) (ix2 a k) = O (ix2 n k) := by
  refine View.ld_unit_apply_of O _ _ inb (ix2 a k) _ (Fin.forall_fin_two.mpr ⟨?_, ?_⟩)
  · show n.val = o + a.val; exact h
  · show k.val = 0 + k.val; omega

/-- The four ranges of rows, each added to what the block held. -/
abbrev OL (c : Dev nD) (t : Fin cfg0.N) (O : Vec Ideal S1024x1024 .f32) (v0 v1 v2 v3 : Vec Ideal S256x1024 .bf16) : List (View.Piece (Elt Ideal) S1024x1024 .f32) :=
  [⟨Rect.unit ![768, 0] ![256, 1024] inb_S1024x1024_S256x1024_768_0, k0_pay30 (F := Ideal) (k0_pay16 (k0_pay8 v3 (iblk m c 2 t)) (k0_pay8 v3 (iblk m c 3 t))) (View.ld O (Rect.unit (s := S1024x1024) ![768, 0] ![256, 1024] inb_S1024x1024_S256x1024_768_0)) (iblk m c 4 t)⟩,
   ⟨Rect.unit ![512, 0] ![256, 1024] inb_S1024x1024_S256x1024_512_0, k0_pay30 (F := Ideal) (k0_pay16 (k0_pay8 v2 (iblk m c 2 t)) (k0_pay8 v2 (iblk m c 3 t))) (View.ld O (Rect.unit (s := S1024x1024) ![512, 0] ![256, 1024] inb_S1024x1024_S256x1024_512_0)) (iblk m c 4 t)⟩,
   ⟨Rect.unit ![256, 0] ![256, 1024] inb_S1024x1024_S256x1024_256_0, k0_pay30 (F := Ideal) (k0_pay16 (k0_pay8 v1 (iblk m c 2 t)) (k0_pay8 v1 (iblk m c 3 t))) (View.ld O (Rect.unit (s := S1024x1024) ![256, 0] ![256, 1024] inb_S1024x1024_S256x1024_256_0)) (iblk m c 4 t)⟩,
   ⟨Rect.unit ![0, 0] ![256, 1024] inb_S1024x1024_S256x1024_0_0, k0_pay30 (F := Ideal) (k0_pay16 (k0_pay8 v0 (iblk m c 2 t)) (k0_pay8 v0 (iblk m c 3 t))) (View.ld O (Rect.unit (s := S1024x1024) ![0, 0] ![256, 1024] inb_S1024x1024_S256x1024_0_0)) (iblk m c 4 t)⟩]

theorem ol_at (c : Dev nD) (t : Fin cfg0.N) (O : Vec Ideal S1024x1024 .f32) {v0 v1 v2 v3 : Vec Ideal S256x1024 .bf16} (hv : HV m c t v0 v1 v2 v3) (n b : Fin 1024) :
    View.canon (OL m c t O v0 v1 v2 v3) (ix2 n b) = O (ix2 n b) + dn (X0 m c) (G0 m c) (WG0 m c) (WU0 m c) (WD0 m c) (1024 * (t.val / 4) + n.val) b.val (t.val % 4) := by
  unfold OL
  canon_tiles x h
  all_goals
    obtain ⟨a', b', rfl⟩ : ∃ (a' : Fin 256) (b' : Fin 1024), x = ix2 a' b' := ⟨x 0, x 1, eq_ix2 (n0 := 256) (n1 := 1024) x⟩
    obtain rfl : b = b' := Fin.ext (by first | exact h1 | simpa using h1)
    rw [p30]
  · refine Ideal.add_congr (ldrowsO O 768 _ n a' h0 b) ((dn_of m c t v3 768 hv.e3 a' b).trans ?_)
    rw [show n.val = 768 + a'.val from h0]
  · refine Ideal.add_congr (ldrowsO O 512 _ n a' h0 b) ((dn_of m c t v2 512 hv.e2 a' b).trans ?_)
    rw [show n.val = 512 + a'.val from h0]
  · refine Ideal.add_congr (ldrowsO O 256 _ n a' h0 b) ((dn_of m c t v1 256 hv.e1 a' b).trans ?_)
    rw [show n.val = 256 + a'.val from h0]
  · have h0' : n.val = 0 + a'.val := by simpa using h0
    refine Ideal.add_congr (ldrowsO O 0 _ n a' h0' b) ((dn_of m c t v0 0 (fun a k => (hv.e0 a k).trans (by simp)) a' b).trans ?_)
    rw [h0']

theorem oB (c : Dev nD) (t : Fin cfg0.N) (h0 : ¬t.val % 4 = 0) (n b : Fin 1024) :
    (outsAt0 m c t.val t.isLt).1 (ix2 n b) = (outsAt0 m c (t.val - 1) (Nat.lt_of_le_of_lt (Nat.sub_le _ _) t.isLt)).1 (ix2 n b) + dn (X0 m c) (G0 m c) (WG0 m c) (WU0 m c) (WD0 m c) (1024 * (t.val / 4) + n.val) b.val (t.val % 4) := by
  by_cases h2 : t.val % 4 = 3
  · rw [outsAt0_C m c t h0 (by omega) h2]
    frame_out
    simp only [read_unread_whole]
    exact ol_at m c t _ (HV_B m c t h0) n b
  · rw [outsAt0_B m c t h0 (by omega) h2]
    frame_out
    simp only [read_unread_whole]
    exact ol_at m c t _ (HV_B m c t h0) n b

/-- The stream with the first shards added, down to the point's. -/
def PO (X : FVec Ideal S8192x1024 .f32) (G : FVec Ideal S1024 .f32) (WG WU : FVec Ideal S1024x2816 .f32) (WD : FVec Ideal S2816x1024 .f32) (n b : ℕ) : ℕ → EReal
  | 0 => R X n b + dn X G WG WU WD n b 0
  | j + 1 => PO X G WG WU WD n b j + dn X G WG WU WD n b (j + 1)

theorem oAt (c : Dev nD) : ∀ (k : ℕ) (h : k < cfg0.N) (n b : Fin 1024), (outsAt0 m c k h).1 (ix2 n b) = PO (X0 m c) (G0 m c) (WG0 m c) (WU0 m c) (WD0 m c) (1024 * (k / 4) + n.val) b.val (k % 4)
  | 0, h, n, b => oA m c ⟨0, h⟩ rfl n b
  | k + 1, h, n, b => by
    by_cases h0 : (k + 1) % 4 = 0
    · refine (oA m c ⟨k + 1, h⟩ h0 n b).trans ?_
      show _ = PO _ _ _ _ _ _ _ ((k + 1) % 4)
      rw [show (⟨k + 1, h⟩ : Fin cfg0.N).val % 4 = 0 from h0, PO]
    · refine (oB m c ⟨k + 1, h⟩ h0 n b).trans ?_
      rw [show (⟨k + 1, h⟩ : Fin cfg0.N).val % 4 = k % 4 + 1 from by show (k + 1) % 4 = _; omega, PO, show (k + 1) / 4 = k / 4 by omega]
      exact Ideal.add_congr (oAt c k (by omega) n b) rfl

/-- The stream after the block: the gated values' down projection added. -/
def Y (X : FVec Ideal S8192x1024 .f32) (G : FVec Ideal S1024 .f32) (WG WU : FVec Ideal S1024x2816 .f32) (WD : FVec Ideal S2816x1024 .f32) (n b : ℕ) : EReal :=
  R X n b + ∑ f : Fin 2816, ac (gt X G WG n f.val) (gt X G WU n f.val) * R WD f.val b

theorem PO_last (X : FVec Ideal S8192x1024 .f32) (G : FVec Ideal S1024 .f32) (WG WU : FVec Ideal S1024x2816 .f32) (WD : FVec Ideal S2816x1024 .f32) (n b : ℕ) : PO X G WG WU WD n b 3 = Y X G WG WU WD n b := by
  rw [PO, PO, PO, PO, Y, Fin.sum_univ_tiles 4 704 rfl (fun f : Fin 2816 => ac (gt X G WG n f.val) (gt X G WU n f.val) * R WD f.val b), Fin.sum_univ_four, ← add_assoc, ← add_assoc, ← add_assoc]
  refine Ideal.add_congr (Ideal.add_congr (Ideal.add_congr (Ideal.add_congr rfl ?_) ?_) ?_) ?_
  all_goals exact Fin.sum_fin_congr fun f => by simp [Nat.mul_comm]

/-- At a block's last shard the rows just stored are the stream after the block. -/
theorem ol_last (c : Dev nD) (t : Fin cfg0.N) (h : t.val % 4 = 3) {v0 v1 v2 v3 : Vec Ideal S256x1024 .bf16} (hv : HV m c t v0 v1 v2 v3) (n b : Fin 1024) :
    View.canon (OL m c t (outsAt0 m c (t.val - 1) (Nat.lt_of_le_of_lt (Nat.sub_le _ _) t.isLt)).1 v0 v1 v2 v3) (ix2 n b) = Y (X0 m c) (G0 m c) (WG0 m c) (WU0 m c) (WD0 m c) (1024 * (t.val / 4) + n.val) b.val := by
  refine (ol_at m c t _ hv n b).trans (((oB m c t (by omega) n b).symm.trans (oAt m c t.val t.isLt n b)).trans ?_)
  rw [h, PO_last]

/-- A product's payload at the entries the blocks hold. -/
theorem dy_at (c : Dev nD) (t : Fin cfg0.N) (O : Vec Ideal S1024x1024 .f32) (n b : Fin 1024) (hO : O (ix2 n b) = Y (X0 m c) (G0 m c) (WG0 m c) (WU0 m c) (WD0 m c) (1024 * (t.val / 4) + n.val) b.val) :
    k0_pay5 (F := Ideal) O (iblk m c 5 t) (ix2 n b) = Ideal.div (Y (X0 m c) (G0 m c) (WG0 m c) (WU0 m c) (WD0 m c) (1024 * (t.val / 4) + n.val) b.val - R (T0 m c) (1024 * (t.val / 4) + n.val) b.val) (Ideal.ofBits .f32 0x44800000#32) := by
  refine (p5 b O _ n).trans ?_
  rw [blk5, hO]

/-- The rows just stored, read back. -/
theorem back (c : Dev nD) (t : Fin cfg0.N) (h : t.val % 4 = 3) {v0 v1 v2 v3 : Vec Ideal S256x1024 .bf16} (hv : HV m c t v0 v1 v2 v3) (n b : Fin 1024) :
    (ms0_6 t).view.readCov (OL m c t (outsAt0 m c (t.val - 1) (Nat.lt_of_le_of_lt (Nat.sub_le _ _) t.isLt)).1 v0 v1 v2 v3) (Rect.unit (s := S1024x1024) ![0, 0] ![1024, 1024] inb_S1024x1024_S1024x1024_0_0).toLoadRect (ix2 n b) = Y (X0 m c) (G0 m c) (WG0 m c) (WU0 m c) (WD0 m c) (1024 * (t.val / 4) + n.val) b.val := by
  rw [View.readCov_eq_canon']
  refine (congrArg (View.canon _) (funext (Fin.forall_fin_two.mpr ⟨?_, ?_⟩))).trans (ol_last m c t h hv n b) <;> refine Fin.ext ?_
  · show 0 + 1 * n.val = n.val; omega
  · show 0 + 1 * b.val = b.val; omega

theorem out9 (c : Dev nD) (t : Fin cfg0.N) (h : t.val % 4 = 3) (n b : Fin 1024) :
    (outsAt0 m c t.val t.isLt).2.2.2.1 (ix2 n b) = Ideal.div (Y (X0 m c) (G0 m c) (WG0 m c) (WU0 m c) (WD0 m c) (1024 * (t.val / 4) + n.val) b.val - R (T0 m c) (1024 * (t.val / 4) + n.val) b.val) (Ideal.ofBits .f32 0x44800000#32) := by
  rw [outsAt0_C m c t (by omega) (by omega) h]
  frame_out
  simp only [read_unread_whole]
  exact dy_at m c t _ n b (back m c t h (HV_B m c t (by omega)) n b)

/-- The squared difference from the target at one entry. -/
def sqr (X : FVec Ideal S8192x1024 .f32) (G : FVec Ideal S1024 .f32) (WG WU : FVec Ideal S1024x2816 .f32) (WD : FVec Ideal S2816x1024 .f32) (T : FVec Ideal S8192x1024 .f32) (n b : ℕ) : EReal :=
  (Y X G WG WU WD n b - R T n b) * (Y X G WG WU WD n b - R T n b)

theorem sq_at (c : Dev nD) (t : Fin cfg0.N) (O : Vec Ideal S1024x1024 .f32) (l : Vec Ideal S1x1024 .f32) (z : Fin 1) (b : Fin 1024) (hO : ∀ n, O (ix2 n b) = Y (X0 m c) (G0 m c) (WG0 m c) (WU0 m c) (WD0 m c) (1024 * (t.val / 4) + n.val) b.val) :
    k0_pay6 (F := Ideal) O (iblk m c 5 t) l (ix2 z b) = l (ix2 z b) + (∑ n : Fin 1024, sqr (X0 m c) (G0 m c) (WG0 m c) (WU0 m c) (WD0 m c) (T0 m c) (1024 * (t.val / 4) + n.val) b.val) * Ideal.ofBits .f32 0x3A000000#32 := by
  refine (p6 b O _ l z).trans ?_
  refine Ideal.add_congr rfl (Ideal.mul_congr (Fin.sum_fin_congr fun n => ?_) rfl)
  rw [blk5, hO, sqr]

theorem ls0 (c : Dev nD) (t : Fin cfg0.N) (h : t.val % 32 = 0) (z : Fin 1) (b : Fin 1024) : (outsAt0 m c t.val t.isLt).2.2.2.2.1 (ix2 z b) = 0 := by
  rw [outsAt0_A m c t (by omega) h (by omega)]
  frame_out
  exact p3 b z

theorem lsK (c : Dev nD) (t : Fin cfg0.N) (h : t.val % 4 = 3) (z : Fin 1) (b : Fin 1024) :
    (outsAt0 m c t.val t.isLt).2.2.2.2.1 (ix2 z b) = (outsAt0 m c (t.val - 1) (Nat.lt_of_le_of_lt (Nat.sub_le _ _) t.isLt)).2.2.2.2.1 (ix2 z b) + (∑ n : Fin 1024, sqr (X0 m c) (G0 m c) (WG0 m c) (WU0 m c) (WD0 m c) (T0 m c) (1024 * (t.val / 4) + n.val) b.val) * Ideal.ofBits .f32 0x3A000000#32 := by
  rw [outsAt0_C m c t (by omega) (by omega) h]
  frame_out
  simp only [read_unread_whole]
  exact sq_at m c t _ _ z b (fun n => back m c t h (HV_B m c t (by omega)) n b)

theorem lsS (c : Dev nD) (t : Fin cfg0.N) (h : ¬t.val % 4 = 3) (h1 : ¬t.val % 32 = 0) :
    (outsAt0 m c t.val t.isLt).2.2.2.2.1 = (outsAt0 m c (t.val - 1) (Nat.lt_of_le_of_lt (Nat.sub_le _ _) t.isLt)).2.2.2.2.1 := by
  by_cases h0 : t.val % 4 = 0
  · rw [outsAt0_D m c t h0 h1 h]
    rfl
  · rw [outsAt0_B m c t h0 h1 h]
    rfl

/-- The loss's running sum after a point: the blocks finished. -/
theorem lsAt (c : Dev nD) (z : Fin 1) (b : Fin 1024) : ∀ (k : ℕ) (h : k < cfg0.N), (outsAt0 m c k h).2.2.2.2.1 (ix2 z b)
    = ∑ i ∈ Finset.range ((k + 1) / 4), (∑ n : Fin 1024, sqr (X0 m c) (G0 m c) (WG0 m c) (WU0 m c) (WD0 m c) (T0 m c) (1024 * i + n.val) b.val) * Ideal.ofBits .f32 0x3A000000#32
  | 0, h => (ls0 m c ⟨0, h⟩ rfl z b).trans (by simp)
  | k + 1, h => by
    have hN : k + 1 < 32 := lt_of_lt_of_eq h N_0
    by_cases h3 : (k + 1) % 4 = 3
    · refine (lsK m c ⟨k + 1, h⟩ h3 z b).trans ((Ideal.add_congr (lsAt c z b k (by omega)) rfl).trans ?_)
      rw [show (k + 1 + 1) / 4 = (k + 1) / 4 + 1 by omega, Finset.sum_range_succ]
    · refine (congrFun (lsS m c ⟨k + 1, h⟩ h3 (by show ¬(k + 1) % 32 = 0; omega)) _).trans ((lsAt c z b k (by omega)).trans ?_)
      rw [show (k + 1 + 1) / 4 = (k + 1) / 4 by omega]

/-- The loss by columns: the blocks' sums of squares, each halved and divided by the width. -/
def ls (X : FVec Ideal S8192x1024 .f32) (G : FVec Ideal S1024 .f32) (WG WU : FVec Ideal S1024x2816 .f32) (WD : FVec Ideal S2816x1024 .f32) (T : FVec Ideal S8192x1024 .f32) (b : ℕ) : EReal :=
  ∑ i ∈ Finset.range 8, (∑ n : Fin 1024, sqr X G WG WU WD T (1024 * i + n.val) b) * Ideal.ofBits .f32 0x3A000000#32

theorem idx_out : ∀ t : Fin cfg0.N, win0_6.index t = ![t.val / 4, 0] ∧ win0_7.index t = ![t.val % 4, t.val / 4, 0] ∧ win0_8.index t = ![t.val % 4, t.val / 4, 0] ∧ win0_9.index t = ![t.val / 4, 0] ∧ win0_10.index t = ![0, 0] :=
  (by decide +kernel : ∀ t : Fin grid0.N, _)

theorem final6 (c : Dev nD) : (dats m 0 c).arrAt 6 cfg0.N = fun i : S8192x1024.Idx => Y (X0 m c) (G0 m c) (WG0 m c) (WU0 m c) (WD0 m c) (i 0).val (i 1).val := by
  refine (dats m 0 c).arrAt_eq_of_covers 6 _ (by decide +kernel) fun t hf y => ?_
  have h3 := (flush0_6 t).mp hf
  blk_simp
  rw [after0_6]
  refine (congrArg _ (eq_ix2 (n0 := 1024) (n1 := 1024) y)).trans ((oAt m c t.val t.isLt (y 0) (y 1)).trans ?_)
  rw [h3, PO_last]
  have e := idx_out t
  simp only [e]
  simp [Nat.mul_comm]

theorem final7 (c : Dev nD) : (dats m 0 c).arrAt 7 cfg0.N = fun i : S4x8192x704.Idx => gt (X0 m c) (G0 m c) (WG0 m c) (i 1).val (704 * (i 0).val + (i 2).val) := by
  refine (dats m 0 c).arrAt_eq_of_covers 7 _ (by decide +kernel) fun t hf y => ?_
  blk_simp
  rw [after0_7]
  refine (congrArg _ (eq_ix3 (n0 := 1) (n1 := 1024) (n2 := 704) y)).trans ((out7 m c t (y 0) (y 1) (y 2)).trans ?_)
  have e := idx_out t
  simp only [e]
  simp [Nat.mul_comm]

theorem final8 (c : Dev nD) : (dats m 0 c).arrAt 8 cfg0.N = fun i : S4x8192x704.Idx => gt (X0 m c) (G0 m c) (WU0 m c) (i 1).val (704 * (i 0).val + (i 2).val) := by
  refine (dats m 0 c).arrAt_eq_of_covers 8 _ (by decide +kernel) fun t hf y => ?_
  blk_simp
  rw [after0_8]
  refine (congrArg _ (eq_ix3 (n0 := 1) (n1 := 1024) (n2 := 704) y)).trans ((out8 m c t (y 0) (y 1) (y 2)).trans ?_)
  have e := idx_out t
  simp only [e]
  simp [Nat.mul_comm]

theorem final9 (c : Dev nD) : (dats m 0 c).arrAt 9 cfg0.N = fun i : S8192x1024.Idx => Ideal.div (Y (X0 m c) (G0 m c) (WG0 m c) (WU0 m c) (WD0 m c) (i 0).val (i 1).val - R (T0 m c) (i 0).val (i 1).val) (Ideal.ofBits .f32 0x44800000#32) := by
  refine (dats m 0 c).arrAt_eq_of_covers 9 _ (by decide +kernel) fun t hf y => ?_
  have h3 := (flush0_9 t).mp hf
  blk_simp
  rw [after0_9]
  refine (congrArg _ (eq_ix2 (n0 := 1024) (n1 := 1024) y)).trans ((out9 m c t h3 (y 0) (y 1)).trans ?_)
  have e := idx_out t
  simp only [e]
  simp [Nat.mul_comm]

theorem final10 (c : Dev nD) : (dats m 0 c).arrAt 10 cfg0.N = fun i : S1x1024.Idx => ls (X0 m c) (G0 m c) (WG0 m c) (WU0 m c) (WD0 m c) (T0 m c) (i 1).val := by
  refine (dats m 0 c).arrAt_eq_of_covers 10 _ (by decide +kernel) fun t hf y => ?_
  have h3 := (flush0_10 t).mp hf
  have hN : t.val < 32 := lt_of_lt_of_eq t.isLt N_0
  blk_simp
  rw [after0_10]
  refine (congrArg _ (eq_ix2 (n0 := 1) (n1 := 1024) y)).trans ((lsAt m c (y 0) (y 1) t.val t.isLt).trans ?_)
  rw [show (t.val + 1) / 4 = 8 by omega, ls]
  have e := idx_out t
  simp only [e]
  simp

end Cert.FfnFwdIdeal.Calc

namespace Cert.FfnFwdRefIdeal.Calc

open Idealize.ShloMosaic Idealize.ShloMosaic.TcCoe Idealize.SL.Sem
open Cert.FfnFwdRefIdeal Cert.FfnFwdRefIdeal.Gen Cert.FfnFwdRefIdeal.Read Cert.Base
open Cert.FfnFwdIdeal.Calc (hn gt ac Y sqr ls)

theorem cone : Ideal.ofBits .f32 0x3F800000#32 = 1 := by
  rw [show (1 : EReal) = ((1 : ℝ) : EReal) by norm_cast]
  simp [Ideal.ofBits, Ideal.ieee, -EReal.coe_mul]; norm_num

theorem c1024 : Ideal.ofBits .f32 0x44800000#32 = ((1024 : ℝ) : EReal) := by
  simp [Ideal.ofBits, Ideal.ieee, -EReal.coe_mul]; norm_num

theorem chalf : Ideal.ofBits .f32 0x3F000000#32 = (((1 : ℝ) / 2 : ℝ) : EReal) := by
  simp [Ideal.ofBits, Ideal.ieee, -EReal.coe_mul]; norm_num

theorem ctwo : Ideal.ofBits .f32 0x40000000#32 = ((2 : ℝ) : EReal) := by
  simp [Ideal.ofBits, Ideal.ieee, -EReal.coe_mul]; norm_num

theorem c2048 : Ideal.ofBits .f32 0x3A000000#32 = (((1 : ℝ) / 2048 : ℝ) : EReal) := by
  simp [Ideal.ofBits, Ideal.ieee, -EReal.coe_mul]; norm_num

theorem exp_nonneg (x : EReal) : 0 ≤ Ideal.exp x := by
  induction x using EReal.rec with
  | bot => exact le_refl _
  | top => exact le_top
  | coe r => exact EReal.coe_nonneg.mpr (Real.exp_pos r).le

theorem one_add_ne (x : EReal) : 1 + Ideal.exp x ≠ 0 :=
  ne_of_gt (lt_of_lt_of_le zero_lt_one (le_add_of_nonneg_right (exp_nonneg x)))

/-- The gate times the logistic of it, as the gate over one plus the exponential of its negative. -/
theorem silu (g : EReal) : g * Ideal.div 1 (1 + Ideal.exp (-g)) = Ideal.div g (1 + Ideal.exp (0 - g)) := by
  rw [zero_sub, Ideal.div, Ideal.div, if_neg (one_add_ne _), if_neg (one_add_ne _), one_mul]

theorem mul_self_nonneg' (x : EReal) : 0 ≤ x * x := by
  rcases le_total 0 x with h | h
  · exact mul_nonneg h h
  · rw [← neg_mul_neg]
    have h' : 0 ≤ -x := EReal.neg_nonneg.mpr h
    exact mul_nonneg h' h'

/-- A sum of entries none below zero, times a number, entry by entry. -/
theorem sum_mul' {ι : Type} (s : Finset ι) (f : ι → EReal) (hf : ∀ i, 0 ≤ f i) (x : EReal) : (∑ i ∈ s, f i) * x = ∑ i ∈ s, f i * x := by
  classical
  induction s using Finset.induction_on with
  | empty => simp
  | insert a s ha ih =>
    rw [Finset.sum_insert ha, Finset.sum_insert ha, EReal.right_distrib_of_nonneg (hf a) (Finset.sum_nonneg fun i _ => hf i), ih]

variable (X : FVec Ideal S8192x1024 .f32) (G : FVec Ideal S1024 .f32) (WG WU : FVec Ideal S1024x2816 .f32) (WD : FVec Ideal S2816x1024 .f32) (T : FVec Ideal S8192x1024 .f32)

theorem ref12 (a : Fin 8192) (k : Fin 1024) : val_main_v12 (F := Ideal) X G (ix2 a k) = hn X G a.val k.val := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [R_ix, R1_ix, hn]

theorem ref13 (a : Fin 8192) (f : Fin 2816) : val_main_v13 (F := Ideal) X G WG (ix2 a f) = gt X G WG a.val f.val := by
  pointwise [val_main_v13]
  exact Fin.sum_fin_congr fun k => Ideal.mul_congr (ref12 X G a k) (R_ix WG k f)

theorem ref14 (a : Fin 8192) (f : Fin 2816) : val_main_v14 (F := Ideal) X G WU (ix2 a f) = gt X G WU a.val f.val := by
  pointwise [val_main_v14]
  exact Fin.sum_fin_congr fun k => Ideal.mul_congr (ref12 X G a k) (R_ix WU k f)

theorem ref16 (a : Fin 8192) (f : Fin 2816) : val_main_v16 (F := Ideal) X G WG WU (ix2 a f) = ac (gt X G WG a.val f.val) (gt X G WU a.val f.val) := by
  pointwise [val_main_v16, val_main_v15, val_main_call0_v5, val_main_call0_v4, val_main_call0_v3, val_main_call0_v2, val_main_call0_v1, val_main_call0_v0, val_main_call0_cst, val_main_call0_cst_0]
  rw [ref13, ref14, ac]
  rw [cone, Ideal.ofBits_zero_f32]
  exact Ideal.mul_congr (silu _) rfl

theorem ref18 (a : Fin 8192) (b : Fin 1024) : val_main_v18 (F := Ideal) X G WG WU WD (ix2 a b) = Y X G WG WU WD a.val b.val := by
  pointwise [val_main_v18, val_main_v17]
  exact Ideal.add_congr (R_ix X a b) (Fin.sum_fin_congr fun f => Ideal.mul_congr (ref16 X G WG WU a f) (R_ix WD f b))

theorem ref37 (j : Fin 4) (a : Fin 8192) (f : Fin 704) : val_main_v37 (F := Ideal) X G WG (ix3 j a f) = gt X G WG a.val (704 * j.val + f.val) := by
  pointwise [val_main_v37, val_main_v36, val_main_v35]
  refine (ref13 X G WG a _).trans (congrArg (gt X G WG a.val) ?_)
  show j.val * 704 + f.val = _
  omega

theorem ref40 (j : Fin 4) (a : Fin 8192) (f : Fin 704) : val_main_v40 (F := Ideal) X G WU (ix3 j a f) = gt X G WU a.val (704 * j.val + f.val) := by
  pointwise [val_main_v40, val_main_v39, val_main_v38]
  refine (ref14 X G WU a _).trans (congrArg (gt X G WU a.val) ?_)
  show j.val * 704 + f.val = _
  omega

theorem ref34 (a : Fin 8192) (b : Fin 1024) : val_main_v34 (F := Ideal) X G WG WU WD T (ix2 a b) = Ideal.div (Y X G WG WU WD a.val b.val - R T a.val b.val) (Ideal.ofBits .f32 0x44800000#32) := by
  pointwise [val_main_v34, val_main_v33, val_main_v32, val_main_v31, val_main_v30, val_main_v29, val_main_v28, val_main_v22, val_main_v21, val_main_v19, val_main_cst_2, val_main_cst_6, val_main_cst_7, val_main_cst_8]
  rw [ref18, R_ix T]
  rw [c1024, chalf, ctwo, Ideal.div_coe (by norm_num), Ideal.div_coe (by norm_num)]
  rw [← mul_assoc, ← EReal.coe_mul, ← EReal.coe_mul, mul_comm]
  norm_num

theorem ref48 (z : Fin 1) (b : Fin 1024) : val_main_v48 (F := Ideal) X G WG WU WD T (ix2 z b) = ls X G WG WU WD T b.val := by
  pointwise [val_main_v48, val_main_v47, val_main_v46, val_main_v45, val_main_v44, val_main_v43, val_main_v42, val_main_v41, val_main_cst_9, val_main_cst_10, val_main_cst_11]
  have h : ∀ x : Fin 8192, Ideal.div ((val_main_v18 (F := Ideal) X G WG WU WD (ix2 x b) - T (ix2 x b)) * (val_main_v18 (F := Ideal) X G WG WU WD (ix2 x b) - T (ix2 x b))) (Ideal.ofBits .f32 1149239296#32) = sqr X G WG WU WD T x.val b.val * ((1 / 1024 : ℝ) : EReal) := fun x => by
    rw [ref18, R_ix T, c1024, Ideal.div_coe (by norm_num), sqr]
  refine (congrArg (fun z => Ideal.ofBits .f32 1056964608#32 * z) (Fin.sum_fin_congr h)).trans ?_
  have hs : ∀ n b, 0 ≤ sqr X G WG WU WD T n b := fun n b => mul_self_nonneg' _
  show Ideal.ofBits .f32 1056964608#32 * (∑ x : Fin 8192, sqr X G WG WU WD T x.val b.val * ((1 / 1024 : ℝ) : EReal)) = _
  rw [← sum_mul' Finset.univ (fun x : Fin 8192 => sqr X G WG WU WD T x.val b.val) (fun n => hs n.val b.val), chalf, ls,
    ← sum_mul' (Finset.range 8) (fun i => ∑ n : Fin 1024, sqr X G WG WU WD T (1024 * i + n.val) b.val) (fun i => Finset.sum_nonneg fun n _ => hs _ _), c2048, mul_left_comm, ← EReal.coe_mul, Finset.sum_range,
    Fin.sum_univ_tiles 8 1024 rfl (fun x : Fin 8192 => sqr X G WG WU WD T x.val b.val)]
  refine Ideal.mul_congr (Fin.sum_fin_congr fun i => Fin.sum_fin_congr fun n => ?_) (by norm_num)
  show sqr X G WG WU WD T (i.val * 1024 + n.val) b.val = _
  rw [Nat.mul_comm]

end Cert.FfnFwdRefIdeal.Calc
-- ==== Proof.Rms.lean ====
module

public import proofs.«01_k».proof.Proof.Base

@[expose] public section

noncomputable section

/- Facts about real numbers among the extended reals, and the gradient of a row's normalisation over them. -/
namespace Cert.Rms

open Idealize.ShloMosaic Idealize.ShloMosaic.TcCoe Cert.Base

/-- A value that is a real number. -/
def Re (x : EReal) : Prop := ∃ r : ℝ, x = (r : EReal)

theorem Re.mul {x y : EReal} (hx : Re x) (hy : Re y) : Re (x * y) := by
  obtain ⟨a, rfl⟩ := hx; obtain ⟨b, rfl⟩ := hy; exact ⟨a * b, (EReal.coe_mul a b).symm⟩

theorem Re.add {x y : EReal} (hx : Re x) (hy : Re y) : Re (x + y) := by
  obtain ⟨a, rfl⟩ := hx; obtain ⟨b, rfl⟩ := hy; exact ⟨a + b, (EReal.coe_add a b).symm⟩

theorem Re.sub {x y : EReal} (hx : Re x) (hy : Re y) : Re (x - y) := by
  obtain ⟨a, rfl⟩ := hx; obtain ⟨b, rfl⟩ := hy; exact ⟨a - b, (EReal.coe_sub a b).symm⟩

theorem re_zero : Re 0 := ⟨0, rfl⟩

theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

theorem Re.sum {ι : Type} (s : Finset ι) {f : ι → EReal} (h : ∀ i, Re (f i)) : Re (∑ i ∈ s, f i) := by
  choose g hg using h
  exact ⟨∑ i ∈ s, g i, by rw [← coe_sum]; exact Finset.sum_congr rfl fun i _ => hg i⟩

theorem Re.div {x : EReal} (hx : Re x) {c : ℝ} (hc : c ≠ 0) : Re (Ideal.div x (c : EReal)) := by
  rw [Ideal.div_coe hc]; exact hx.mul ⟨_, rfl⟩

theorem c64 : Ideal.ofBits .f32 1115684864#32 = ((64 : ℝ) : EReal) := by
  simp [Ideal.ofBits, Ideal.ieee, -EReal.coe_mul]; norm_num
theorem c1024 : Ideal.ofBits .f32 1149239296#32 = ((1024 : ℝ) : EReal) := by
  simp [Ideal.ofBits, Ideal.ieee, -EReal.coe_mul]; norm_num
theorem chalf : Ideal.ofBits .f32 0xBF000000#32 = ((-(1 / 2) : ℝ) : EReal) := by
  simp [Ideal.ofBits, Ideal.ieee, -EReal.coe_mul]; norm_num
theorem c8 : Re (Ideal.ofBits .f32 1040187392#32) := by
  refine ⟨1 / 8, ?_⟩
  simp [Ideal.ofBits, Ideal.ieee, -EReal.coe_mul]; norm_num
theorem ceps : ∃ e : ℝ, 0 < e ∧ Ideal.ofBits .f32 897988541#32 = (e : EReal) := by
  refine ⟨8796093 / 8796093022208, by norm_num, ?_⟩
  simp [Ideal.ofBits, Ideal.ieee, -EReal.coe_mul]; norm_num

/-- The mean square of a row of reals with the small constant: its reciprocal root is a real whose square is the inverse. -/
theorem root {N : ℕ} (x : Fin N → ℝ) (M : ℝ) (hM : 0 < M) : ∃ t r : ℝ, 0 < t ∧ r * r * t = 1
    ∧ Ideal.div (∑ k, (x k : EReal) * (x k : EReal)) (M : EReal) + Ideal.ofBits .f32 897988541#32 = (t : EReal) ∧ Ideal.rsqrt (t : EReal) = (r : EReal) ∧ Ideal.div (r : EReal) (t : EReal) = ((r * r * r : ℝ) : EReal) := by
  obtain ⟨e, he, hce⟩ := ceps
  have hs : 0 ≤ (∑ k, x k * x k) * (1 / M) := mul_nonneg (Finset.sum_nonneg fun k _ => mul_self_nonneg (x k)) (by positivity)
  have ht : 0 < (∑ k, x k * x k) * (1 / M) + e := by linarith
  have hd : Ideal.div (∑ k, (x k : EReal) * (x k : EReal)) (M : EReal) + Ideal.ofBits .f32 897988541#32 = (((∑ k, x k * x k) * (1 / M) + e : ℝ) : EReal) := by
    rw [Ideal.div_coe hM.ne', hce, EReal.coe_add, EReal.coe_mul, ← coe_sum]
    simp only [EReal.coe_mul]
  rw [hd]
  generalize (∑ k, x k * x k) * (1 / M) + e = t at ht
  have h2 : Real.sqrt t * Real.sqrt t = t := Real.mul_self_sqrt ht.le
  have h3 : Real.sqrt t ≠ 0 := (Real.sqrt_pos.mpr ht).ne'
  have h4 : (Real.sqrt t)⁻¹ * (Real.sqrt t)⁻¹ = 1 / t := by rw [← mul_inv, h2, one_div]
  refine ⟨t, (Real.sqrt t)⁻¹, ht, ?_, rfl, ?_, ?_⟩
  · rw [h4, one_div, inv_mul_cancel₀ ht.ne']
  · rw [Ideal.rsqrt_coe, if_neg (not_lt.mpr ht.le), if_neg ht.ne']
  · rw [Ideal.div_coe ht.ne', ← EReal.coe_mul, ← h4]
    refine congrArg _ ?_
    ring

/-- The two ways of writing the gradient of a normalised row: the body's, one product off the scaled row, and the one
    that goes through the reciprocal root's own derivative. -/
theorem norm_bwd {N : ℕ} (x u : Fin N → EReal) (hx : ∀ k, Re (x k)) (hu : ∀ k, Re (u k)) (M : ℝ) (hM : 0 < M) (cM : EReal) (hcM : cM = (M : EReal)) (i : Fin N) :
    Ideal.rsqrt (Ideal.div (∑ k, x k * x k) cM + Ideal.ofBits .f32 897988541#32)
      * (u i - x i * Ideal.rsqrt (Ideal.div (∑ k, x k * x k) cM + Ideal.ofBits .f32 897988541#32)
          * Ideal.div (∑ k, u k * (x k * Ideal.rsqrt (Ideal.div (∑ k, x k * x k) cM + Ideal.ofBits .f32 897988541#32))) cM)
    = u i * Ideal.rsqrt (Ideal.div (∑ k, x k * x k) cM + Ideal.ofBits .f32 897988541#32)
      + x i * Ideal.div ((∑ k, x k * u k) * (Ideal.ofBits .f32 0xBF000000#32 * Ideal.div (Ideal.rsqrt (Ideal.div (∑ k, x k * x k) cM + Ideal.ofBits .f32 897988541#32)) (Ideal.div (∑ k, x k * x k) cM + Ideal.ofBits .f32 897988541#32))) cM
      + Ideal.div ((∑ k, x k * u k) * (Ideal.ofBits .f32 0xBF000000#32 * Ideal.div (Ideal.rsqrt (Ideal.div (∑ k, x k * x k) cM + Ideal.ofBits .f32 897988541#32)) (Ideal.div (∑ k, x k * x k) cM + Ideal.ofBits .f32 897988541#32))) cM * x i := by
  choose X hX using hx
  choose U hU using hu
  obtain ⟨t, r, ht, hrt, e1, e2, e3⟩ := root X M hM
  simp only [hX, hU, hcM]
  simp only [e1, e2, e3]
  simp only [chalf, Ideal.div_coe hM.ne']
  simp only [← EReal.coe_mul, coe_sum, ← EReal.coe_sub, ← EReal.coe_add]
  refine congrArg _ ?_
  have h1 : (∑ k, U k * (X k * r)) = (∑ k, X k * U k) * r := by
    rw [Finset.sum_mul]; exact Finset.sum_congr rfl fun k _ => by ring
  rw [h1]
  ring

theorem re_root {N : ℕ} (x : Fin N → EReal) (hx : ∀ k, Re (x k)) (M : ℝ) (hM : 0 < M) (cM : EReal) (hcM : cM = (M : EReal)) : Re (Ideal.rsqrt (Ideal.div (∑ k, x k * x k) cM + Ideal.ofBits .f32 897988541#32)) := by
  choose X hX using hx
  obtain ⟨t, r, ht, hrt, e1, e2, e3⟩ := root X M hM
  simp only [hX, hcM]
  simp only [e1, e2]
  exact ⟨r, rfl⟩

theorem re_R {p q : ℕ} {X : (⟨2, ![p, q]⟩ : Shape).Idx → EReal} (h : ∀ i, Re (X i)) (n k : ℕ) : Re (R X n k) := by
  rw [R]; split_ifs
  · exact h _
  · exact re_zero

theorem re_R1 {p : ℕ} {X : (⟨1, ![p]⟩ : Shape).Idx → EReal} (h : ∀ i, Re (X i)) (n : ℕ) : Re (R1 X n) := by
  rw [R1]; split_ifs
  · exact h _
  · exact re_zero

theorem ctop : Ideal.ofBits .f32 0x7F800000#32 = ⊤ := by simp [Ideal.ofBits, Ideal.ieee]

theorem re_of_lt (x : EReal) (h : (FloatOps.absf (F := Ideal) (φ := .f32) x : EReal) < ⊤) : Re x := by
  change max x (-x) < ⊤ at h
  rw [max_lt_iff] at h
  induction x using EReal.rec with
  | bot => exact absurd h.2 (by simp)
  | top => exact absurd h.1 (by simp)
  | coe r => exact ⟨r, rfl⟩

theorem re_at (s : Shape) (x : FVec Ideal s .f32) (h0 : (⟨0, ![]⟩ : Shape).BroadcastsInDim s (![] : Fin 0 → Fin s.rank)) (h : cmpf .olt (Host.absf x) (broadcastInDim s ![] h0 (constant ⟨0, ![]⟩ .f32 0x7F800000#32)) = fun _ => 1#1) (i : s.Idx) : Re (x i) := by
  have h1 := congrFun h i
  pointwise [] at h1
  rw [ctop] at h1
  refine re_of_lt _ (of_decide_eq_true ?_)
  cases hb : decide ((FloatOps.absf (F := Ideal) (φ := .f32) (x i) : EReal) < ⊤) with
  | true => rfl
  | false => rw [hb] at h1; exact absurd h1 (by decide)

end Cert.Rms
end
-- ==== Proof.InB.lean ====
module

public import proofs.«01_k».proof.Proof.Gen.InProjBwdIdeal.Value
public import proofs.«01_k».proof.Proof.Gen.InProjBwdRefIdeal.Read
public import proofs.«01_k».proof.Proof.Gen.Pre_finite_in_proj
public import proofs.«01_k».proof.Proof.InP
public import proofs.«01_k».proof.Proof.Rms

@[expose] public section

set_option maxRecDepth 16384

noncomputable section

namespace Cert.InProjBwdIdeal.Calc

open Idealize.ShloMosaic Idealize.ShloMosaic.TcCoe Idealize.SL.Sem
open Idealize.ShloMosaic.Pipeline (Dat)
open Cert.InProjBwdIdeal Cert.InProjBwdIdeal.Gen Cert.Base
open Cert.InProjIdeal.Calc (hn pj low_sum high_sum sel_slt)

variable (m : (ℓ : Loc nD τ sig) → Buf (Elt Ideal) ℓ)

abbrev X0 (c : Dev nD) : FVec Ideal S8192x1024 .f32 := m ((c : Thread nD τ).loc main_arg0)
abbrev E0 (c : Dev nD) : FVec Ideal S8192x1024 .f32 := m ((c : Thread nD τ).loc main_arg1)
abbrev G0 (c : Dev nD) : FVec Ideal S1024 .f32 := m ((c : Thread nD τ).loc main_arg2)
abbrev W0 (c : Dev nD) : FVec Ideal S1024x3072 .f32 := m ((c : Thread nD τ).loc main_arg3)
abbrev Q0 (c : Dev nD) : FVec Ideal S64 .f32 := m ((c : Thread nD τ).loc main_arg4)
abbrev K0 (c : Dev nD) : FVec Ideal S64 .f32 := m ((c : Thread nD τ).loc main_arg5)
abbrev DQ (c : Dev nD) : FVec Ideal S8192x512 .f32 := m ((c : Thread nD τ).loc main_arg6)
abbrev DK (c : Dev nD) : FVec Ideal S8192x512 .f32 := m ((c : Thread nD τ).loc main_arg7)
abbrev DV (c : Dev nD) : FVec Ideal S8192x512 .f32 := m ((c : Thread nD τ).loc main_arg8)
abbrev DC (c : Dev nD) : FVec Ideal S8192x3072 .bf16 := m ((c : Thread nD τ).loc main_arg9)

theorem idx_val : ∀ t : Fin cfg0.N, win0_0.index t = ![t.val, 0] ∧ win0_1.index t = ![t.val, 0] ∧ win0_2.index t = ![0, 0] ∧ win0_3.index t = ![0, 0, 0, 0] ∧ win0_4.index t = ![t.val, 0]
    ∧ win0_5.index t = ![0, 0] ∧ win0_6.index t = ![0, 0] ∧ win0_7.index t = ![t.val, 0] ∧ win0_8.index t = ![t.val, 0] ∧ win0_9.index t = ![t.val, 0] ∧ win0_10.index t = ![t.val, 1]
    ∧ win0_11.index t = ![t.val, 0] ∧ win0_12.index t = ![0, 0] ∧ win0_13.index t = ![t.val, 0] ∧ win0_14.index t = ![0, 0] ∧ win0_15.index t = ![0, 0] :=
  (by decide +kernel : ∀ t : Fin grid0.N, _)

/-- The gain of a head, repeated for the two heads of a lane group. -/
abbrev GT (G : FVec Ideal S64 .f32) : FVec Ideal S1x128 .f32 :=
  shapeCast S1x128 (broadcastInDim S1x1x2x64 ![0, 1, 2, 3] bcast_S1x1x1x64_S1x1x2x64_0_1_2_3 (shapeCast S1x1x1x64 (broadcastInDim S1x64 ![1] bcast_S64_S1x64_1 G) shapeCasts_S1x64_S1x1x1x64)) shapeCasts_S1x1x2x64_S1x128

theorem v17_eq (c : Dev nD) : V m c main_v17 = GT (Q0 m c) := by
  unfold V
  simp only [hostOps0, List.flatten_cons, List.flatten_nil, List.append_nil, List.cons_append, List.nil_append]
  after_results
  rfl

theorem v21_eq (c : Dev nD) : V m c main_v21 = GT (K0 m c) := by
  unfold V
  simp only [hostOps0, List.flatten_cons, List.flatten_nil, List.append_nil, List.cons_append, List.nil_append]
  after_results
  rfl

theorem v22_eq (c : Dev nD) : V m c main_v22 = broadcastInDim S1x1024 ![1] bcast_S1024_S1x1024_1 (G0 m c) := by
  unfold V
  simp only [hostOps0, List.flatten_cons, List.flatten_nil, List.append_nil, List.cons_append, List.nil_append]
  after_results

abbrev SH (W : FVec Ideal S1024x3072 .f32) : FVec Ideal S4x1x1024x768 .bf16 :=
  broadcastInDim S4x1x1024x768 ![0, 2, 3] bcast_S4x1024x768_S4x1x1024x768_0_2_3 (transpose S4x1024x768 [1, 0, 2] (shapeCast S1024x4x768 (truncf .bf16 W bitsLt_bf16_f32) shapeCasts_S1024x3072_S1024x4x768) transposes_S1024x4x768_S4x1024x768_1_0_2)

theorem v26_eq (c : Dev nD) : V m c main_v26 = SH (W0 m c) := by
  unfold V
  simp only [hostOps0, List.flatten_cons, List.flatten_nil, List.append_nil, List.cons_append, List.nil_append]
  after_results
  rfl

theorem gt_at (G : FVec Ideal S64 .f32) (z : Fin 1) (b : Fin 128) : GT G (ix2 z b) = R1 G (b.val % 64) := by
  refine Eq.trans ?_ (R1_ix G (⟨b.val % 64, by omega⟩ : Fin 64))
  pointwise [GT]

theorem sh_at (W : FVec Ideal S1024x3072 .f32) (j : Fin 4) (z : Fin 1) (a : Fin 1024) (b : Fin 768) : SH W (ix4 j z a b) = R W a.val (768 * j.val + b.val) := by
  rw [R_of W a.isLt (by omega)]
  pointwise [SH]
  exact congrArg (fun r => W (ix2 a r)) (Fin.ext (by show j.val * 768 + b.val = 768 * j.val + b.val; omega))

/-- The saved projection, as the host computes it. -/
abbrev PJ (X : FVec Ideal S8192x1024 .f32) (G : FVec Ideal S1024 .f32) (W : FVec Ideal S1024x3072 .f32) : FVec Ideal S8192x3072 .f32 := Cert.InProjRefIdeal.Read.val_main_v13 (F := Ideal) X G W

theorem v13_eq (c : Dev nD) : V m c main_v13 = PJ (X0 m c) (G0 m c) (W0 m c) := by
  unfold V
  simp only [hostOps0, List.flatten_cons, List.flatten_nil, List.append_nil, List.cons_append, List.nil_append]
  after_results
  rfl

theorem blk0 (c : Dev nD) (t : Fin cfg0.N) (a : Fin 512) (b : Fin 1024) : iblk m c 0 t (ix2 a b) = R (X0 m c) (512 * t.val + a.val) b.val := by
  have ht : t.val < 16 := Nat.lt_of_lt_of_eq t.isLt N_0
  rw [R, dif_pos (by omega)]
  blk_ext [iblk, V, V_main_arg0, idx_val t]

theorem blk1 (c : Dev nD) (t : Fin cfg0.N) (a : Fin 512) (b : Fin 1024) : iblk m c 1 t (ix2 a b) = R (E0 m c) (512 * t.val + a.val) b.val := by
  have ht : t.val < 16 := Nat.lt_of_lt_of_eq t.isLt N_0
  rw [R, dif_pos (by omega)]
  blk_ext [iblk, V, V_main_arg1, idx_val t]

theorem blk2 (c : Dev nD) (t : Fin cfg0.N) (a : Fin 1) (b : Fin 1024) : iblk m c 2 t (ix2 a b) = R1 (G0 m c) b.val := by
  refine Eq.trans ?_ ((show broadcastInDim S1x1024 ![1] bcast_S1024_S1x1024_1 (G0 m c) (ix2 a b) = _ by pointwise []).trans (R1_ix (G0 m c) b))
  rw [← v22_eq]
  blk_ext [iblk, idx_val t]

theorem blk3 (c : Dev nD) (t : Fin cfg0.N) (j : Fin 4) (z : Fin 1) (a : Fin 1024) (b : Fin 768) : iblk m c 3 t (ix4 j z a b) = R (W0 m c) a.val (768 * j.val + b.val) := by
  refine Eq.trans ?_ (sh_at (W0 m c) j z a b)
  rw [← v26_eq]
  blk_ext [iblk, idx_val t]

theorem blk4 (c : Dev nD) (t : Fin cfg0.N) (a : Fin 512) (b : Fin 1536) : iblk m c 4 t (ix2 a b) = pj (X0 m c) (G0 m c) (W0 m c) (512 * t.val + a.val) b.val := by
  have ht : t.val < 16 := Nat.lt_of_lt_of_eq t.isLt N_0
  refine Eq.trans ?_ (Cert.InProjRefIdeal.Calc.ref13_at (X0 m c) (G0 m c) (W0 m c) (⟨512 * t.val + a.val, by omega⟩ : Fin 8192) (⟨b.val, by omega⟩ : Fin 3072))
  show _ = PJ (X0 m c) (G0 m c) (W0 m c) _
  rw [← v13_eq]
  blk_ext [iblk, idx_val t]

theorem blk5 (c : Dev nD) (t : Fin cfg0.N) (z : Fin 1) (b : Fin 128) : iblk m c 5 t (ix2 z b) = R1 (Q0 m c) (b.val % 64) := by
  refine Eq.trans ?_ (gt_at (Q0 m c) z b)
  rw [← v17_eq]
  blk_ext [iblk, idx_val t]

theorem blk6 (c : Dev nD) (t : Fin cfg0.N) (z : Fin 1) (b : Fin 128) : iblk m c 6 t (ix2 z b) = R1 (K0 m c) (b.val % 64) := by
  refine Eq.trans ?_ (gt_at (K0 m c) z b)
  rw [← v21_eq]
  blk_ext [iblk, idx_val t]

theorem blk7 (c : Dev nD) (t : Fin cfg0.N) (a : Fin 512) (b : Fin 512) : iblk m c 7 t (ix2 a b) = R (DQ m c) (512 * t.val + a.val) b.val := by
  have ht : t.val < 16 := Nat.lt_of_lt_of_eq t.isLt N_0
  rw [R, dif_pos (by omega)]
  blk_ext [iblk, V, V_main_arg6, idx_val t]

theorem blk8 (c : Dev nD) (t : Fin cfg0.N) (a : Fin 512) (b : Fin 512) : iblk m c 8 t (ix2 a b) = R (DK m c) (512 * t.val + a.val) b.val := by
  have ht : t.val < 16 := Nat.lt_of_lt_of_eq t.isLt N_0
  rw [R, dif_pos (by omega)]
  blk_ext [iblk, V, V_main_arg7, idx_val t]

theorem blk9 (c : Dev nD) (t : Fin cfg0.N) (a : Fin 512) (b : Fin 512) : iblk m c 9 t (ix2 a b) = R (DV m c) (512 * t.val + a.val) b.val := by
  have ht : t.val < 16 := Nat.lt_of_lt_of_eq t.isLt N_0
  rw [R, dif_pos (by omega)]
  blk_ext [iblk, V, V_main_arg8, idx_val t]

theorem blk10 (c : Dev nD) (t : Fin cfg0.N) (a : Fin 512) (b : Fin 1536) : iblk m c 10 t (ix2 a b) = R (DC m c) (512 * t.val + a.val) (1536 + b.val) := by
  have ht : t.val < 16 := Nat.lt_of_lt_of_eq t.isLt N_0
  rw [R, dif_pos (by omega)]
  blk_ext [iblk, V, V_main_arg9, idx_val t]

/-- The saved projection's first half, by row and column. -/
abbrev PP (c : Dev nD) : ℕ → ℕ → EReal := pj (X0 m c) (G0 m c) (W0 m c)

/-- The reciprocal root of a head's mean square, the head holding column `k` of the group at `o`. -/
def rr (P : ℕ → ℕ → EReal) (o n k : ℕ) : EReal :=
  Ideal.rsqrt (Ideal.div (∑ x : Fin 64, P n (o + (k / 64 * 64 + x.val)) * P n (o + (k / 64 * 64 + x.val))) (Ideal.ofBits .f32 1115684864#32) + Ideal.ofBits .f32 897988541#32)

/-- The gradient below a head's normalisation. -/
def dqk (P D : ℕ → ℕ → EReal) (g : FVec Ideal S64 .f32) (o n k : ℕ) : EReal :=
  rr P o n k * (D n k * R1 g (k % 64) - P n (o + k) * rr P o n k * Ideal.div (∑ x : Fin 64, D n (k / 64 * 64 + x.val) * R1 g x.val * (P n (o + (k / 64 * 64 + x.val)) * rr P o n k)) (Ideal.ofBits .f32 1115684864#32))

/-- The query gradient with the attention scale. -/
def sq8 (D : FVec Ideal S8192x512 .f32) (n b : ℕ) : EReal := R D n b * Ideal.ofBits .f32 1040187392#32

/-- The gradient at the projection. -/
def dp (P : ℕ → ℕ → EReal) (Q K : FVec Ideal S64 .f32) (dq dk dv : FVec Ideal S8192x512 .f32) (dc : FVec Ideal S8192x3072 .bf16) (n b : ℕ) : EReal :=
  if b < 512 then dqk P (sq8 dq) Q 0 n b else if b < 1024 then dqk P (R dk) K 512 n (b - 512) else if b < 1536 then R dv n (b - 1024) else R dc n b

/-- The gradient below the projection. -/
def dh (A : ℕ → ℕ → EReal) (W : FVec Ideal S1024x3072 .f32) (n a : ℕ) : EReal := ∑ k : Fin 3072, A n k.val * R W a k.val

/-- The reciprocal root of a row's mean square. -/
def rx (X : FVec Ideal S8192x1024 .f32) (n : ℕ) : EReal :=
  Ideal.rsqrt (Ideal.div (∑ x : Fin 1024, R X n x.val * R X n x.val) (Ideal.ofBits .f32 1149239296#32) + Ideal.ofBits .f32 897988541#32)

/-- The gradient at the input row: the one passed along, and what comes through the normalisation. -/
def dx (X E : FVec Ideal S8192x1024 .f32) (G : FVec Ideal S1024 .f32) (H : ℕ → ℕ → EReal) (n a : ℕ) : EReal :=
  R E n a + rx X n * (H n a * R1 G a - R X n a * rx X n * Ideal.div (∑ x : Fin 1024, H n x.val * R1 G x.val * (R X n x.val * rx X n)) (Ideal.ofBits .f32 1149239296#32))

/-- One row's part of the gain's gradient, of the input rows -/
def dgr (X : FVec Ideal S8192x1024 .f32) (H : ℕ → ℕ → EReal) (a n : ℕ) : EReal := H n a * (R X n a * rx X n)

/-- and of the heads. -/
def dhr (P D : ℕ → ℕ → EReal) (o k n : ℕ) : EReal := D n k * (P n (o + k) * rr P o n k)

/-- The first blocks of 512 rows, summed. -/
def acc (f : ℕ → EReal) (k : ℕ) : EReal := ∑ i ∈ Finset.range k, ∑ r : Fin 512, f (512 * i + r.val)

theorem acc_all (f : ℕ → EReal) : acc f 16 = ∑ n : Fin 8192, f n.val := by
  rw [acc, Finset.sum_range, Fin.sum_univ_tiles 16 512 rfl]
  exact Fin.sum_fin_congr fun i => Fin.sum_fin_congr fun r => by show f _ = f _; rw [Nat.mul_comm]

theorem acc_succ (f : ℕ → EReal) (k : ℕ) : acc f (k + 1) = acc f k + ∑ r : Fin 512, f (512 * k + r.val) := by
  rw [acc, Finset.sum_range_succ]; rfl

/-- A head's reciprocal root as the body chooses it, lane by lane. -/
abbrev RS (v : Fin 128 → EReal) (b : Fin 128) : EReal :=
  Scalar.select (IntOp.cmpi CmpIPredicate.slt (BitVec.ofNat 32 b.val) 64#32)
      (Ideal.rsqrt (Ideal.div (∑ x : Fin 128, Scalar.select (IntOp.cmpi CmpIPredicate.slt (BitVec.ofNat 32 x.val) 64#32) (v x * v x) 0) (Ideal.ofBits .f32 1115684864#32) + Ideal.ofBits .f32 897988541#32))
      (Ideal.rsqrt (Ideal.div (∑ x : Fin 128, Scalar.select (IntOp.cmpi CmpIPredicate.slt (BitVec.ofNat 32 x.val) 64#32) 0 (v x * v x)) (Ideal.ofBits .f32 1115684864#32) + Ideal.ofBits .f32 897988541#32))

theorem rs_at (P : ℕ → ℕ → EReal) (o n K : ℕ) (hK : K % 128 = 0) (v : Fin 128 → EReal) (hv : ∀ x, v x = P n (o + K + x.val)) (b : Fin 128) : RS v b = rr P o n (K + b.val) := by
  rw [RS, low_sum (fun x => v x * v x), high_sum (fun x => v x * v x), sel_slt, rr]
  split_ifs with h
  · refine congrArg (fun s => Ideal.rsqrt (Ideal.div s _ + _)) (Fin.sum_fin_congr fun x => ?_)
    rw [hv, show o + K + x.val = o + ((K + b.val) / 64 * 64 + x.val) by omega]
  · refine congrArg (fun s => Ideal.rsqrt (Ideal.div s _ + _)) (Fin.sum_fin_congr fun x => ?_)
    rw [hv, show o + K + (64 + x.val) = o + ((K + b.val) / 64 * 64 + x.val) by omega]

theorem rr_head (P : ℕ → ℕ → EReal) (o n k k' : ℕ) (h : k / 64 = k' / 64) : rr P o n k = rr P o n k' := by rw [rr, rr, h]

/-- The two heads of a lane group, taken back through their normalisation side by side. -/
theorem back_at (P D : ℕ → ℕ → EReal) (g : FVec Ideal S64 .f32) (o n K k : ℕ) (hK : K % 128 = 0) (b : Fin 128) (hk : k = K + b.val) (v u w : Fin 128 → EReal)
    (hv : ∀ x, v x = P n (o + K + x.val)) (hu : ∀ x, u x = D n (K + x.val)) (hw : ∀ x, w x = R1 g (x.val % 64)) :
    RS v b * (u b * w b - v b * RS v b * Ideal.div (Scalar.select (IntOp.cmpi CmpIPredicate.slt (BitVec.ofNat 32 b.val) 64#32)
      (∑ x : Fin 128, Scalar.select (IntOp.cmpi CmpIPredicate.slt (BitVec.ofNat 32 x.val) 64#32) (u x * w x * (v x * RS v x)) 0)
      (∑ x : Fin 128, Scalar.select (IntOp.cmpi CmpIPredicate.slt (BitVec.ofNat 32 x.val) 64#32) 0 (u x * w x * (v x * RS v x)))) (Ideal.ofBits .f32 1115684864#32))
      = dqk P D g o n k := by
  have hr := rs_at P o n K hK v hv
  rw [low_sum (fun x => u x * w x * (v x * RS v x)), high_sum (fun x => u x * w x * (v x * RS v x)), sel_slt (α := EReal) b]
  rw [hr b, dqk, hk, hu b, hw b, hv b, show (K + b.val) % 64 = b.val % 64 by omega, show o + K + b.val = o + (K + b.val) by omega]
  have hs : (if b.val < 64 then ∑ x : Fin 64, u ⟨x.val, by omega⟩ * w ⟨x.val, by omega⟩ * (v ⟨x.val, by omega⟩ * RS v ⟨x.val, by omega⟩)
        else ∑ x : Fin 64, u ⟨64 + x.val, by omega⟩ * w ⟨64 + x.val, by omega⟩ * (v ⟨64 + x.val, by omega⟩ * RS v ⟨64 + x.val, by omega⟩))
      = ∑ x : Fin 64, D n ((K + b.val) / 64 * 64 + x.val) * R1 g x.val * (P n (o + ((K + b.val) / 64 * 64 + x.val)) * rr P o n (K + b.val)) := by
    split_ifs with h
    · refine Fin.sum_fin_congr fun x => ?_
      rw [hr, hu, hv, hw]
      rw [show (K + b.val) / 64 * 64 = K by omega, rr_head P o n (K + x.val) (K + b.val) (by omega), show x.val % 64 = x.val by omega, show o + K + x.val = o + (K + x.val) by omega]
    · refine Fin.sum_fin_congr fun x => ?_
      rw [hr, hu, hv, hw]
      rw [show (K + b.val) / 64 * 64 = K + 64 by omega, rr_head P o n (K + (64 + x.val)) (K + b.val) (by omega), show (64 + x.val) % 64 = x.val by omega, show o + K + (64 + x.val) = o + (K + 64 + x.val) by omega, show K + (64 + x.val) = K + 64 + x.val by omega]
  exact congrArg (fun s => rr P o n (K + b.val) * (D n (K + b.val) * R1 g (b.val % 64) - P n (o + (K + b.val)) * rr P o n (K + b.val) * Ideal.div s (Ideal.ofBits .f32 1115684864#32))) hs

/-- A lane group of a block. -/
theorem ldcols {N : ℕ} (O : Vec Ideal ⟨2, ![512, N]⟩ .f32) (o : ℕ) (inb : ∀ a : Fin 2, (![0, o] : Fin 2 → ℕ) a + (![512, 128] : Fin 2 → ℕ) a ≤ (⟨2, ![512, N]⟩ : Shape).size a) (a : Fin 512) (x : Fin 128) (hx : o + x.val < N) :
    View.ld O (Rect.unit (s := ⟨2, ![512, N]⟩) ![0, o] ![512, 128] inb) (ix2 a x) = O (ix2 a (⟨o + x.val, hx⟩ : Fin N)) := by
  refine View.ld_unit_apply_of O _ _ inb (ix2 a x) _ (Fin.forall_fin_two.mpr ⟨?_, ?_⟩)
  · show a.val = 0 + a.val; omega
  · show o + x.val = o + x.val; rfl

abbrev DP (c : Dev nD) : ℕ → ℕ → EReal := dp (PP m c) (Q0 m c) (K0 m c) (DQ m c) (DK m c) (DV m c) (DC m c)

theorem piece1408 (c : Dev nD) (t : Fin cfg0.N) (a : Fin 512) (b' : Fin 128) : (k0_pay91 (View.ld (iblk m c 9 t) (Rect.unit ![0, 384] ![512, 128] inb_S512x512_S512x128_0_384)) : Vec Ideal S512x128 .bf16) (ix2 a b') = DP m c (512 * t.val + a.val) (1408 + b'.val) := by
  rw [DP, dp, if_neg (by omega), if_neg (by omega), if_pos (by omega)]
  have hx := (ldcols (iblk m c 9 t) 384 inb_S512x512_S512x128_0_384 a b' (by omega)).trans ((blk9 m c t a _).trans (congrArg (R (DV m c) (512 * t.val + a.val)) (by show 384 + b'.val = 1408 + b'.val - 1024; omega)))
  generalize (View.ld (iblk m c 9 t) (Rect.unit ![0, 384] ![512, 128] inb_S512x512_S512x128_0_384)) = u at hx ⊢
  generalize 1408 + b'.val - 1024 = k at hx ⊢
  pointwise [k0_pay91]
  exact hx

theorem piece896 (c : Dev nD) (t : Fin cfg0.N) (a : Fin 512) (b' : Fin 128) : (k0_pay90 (k0_pay87 k0_pay6 (k0_pay83 (View.ld (iblk m c 4 t) (Rect.unit ![0, 896] ![512, 128] inb_S512x1536_S512x128_0_896))) (k0_pay84 (iblk m c 6 t)) (View.ld (iblk m c 8 t) (Rect.unit ![0, 384] ![512, 128] inb_S512x512_S512x128_0_384))) : Vec Ideal S512x128 .bf16) (ix2 a b') = DP m c (512 * t.val + a.val) (896 + b'.val) := by
  rw [DP, dp, if_neg (by omega), if_pos (by omega)]
  generalize hk : (896 + b'.val - 512) = k
  have hv : ∀ (a : Fin 512) (x : Fin 128), (View.ld (iblk m c 4 t) (Rect.unit ![0, 896] ![512, 128] inb_S512x1536_S512x128_0_896)) (ix2 a x) = PP m c (512 * t.val + a.val) (896 + x.val) := fun a x => (ldcols (iblk m c 4 t) 896 inb_S512x1536_S512x128_0_896 a x (by omega)).trans (blk4 m c t a _)
  have hu : ∀ (a : Fin 512) (x : Fin 128), (View.ld (iblk m c 8 t) (Rect.unit ![0, 384] ![512, 128] inb_S512x512_S512x128_0_384)) (ix2 a x) = R (DK m c) (512 * t.val + a.val) (384 + x.val) := fun a x => (ldcols (iblk m c 8 t) 384 inb_S512x512_S512x128_0_384 a x (by omega)).trans (blk8 m c t a _)
  have hw := blk6 m c t 0
  generalize (View.ld (iblk m c 4 t) (Rect.unit ![0, 896] ![512, 128] inb_S512x1536_S512x128_0_896)) = v at hv ⊢
  generalize (View.ld (iblk m c 8 t) (Rect.unit ![0, 384] ![512, 128] inb_S512x512_S512x128_0_384)) = u at hu ⊢
  generalize iblk m c 6 t = w at hw ⊢
  pointwise [k0_pay6, k0_pay83, k0_pay84, k0_pay85, k0_pay86, k0_pay87, k0_pay90]
  exact back_at (PP m c) (R (DK m c)) (K0 m c) 512 (512 * t.val + a.val) 384 k (by omega) b' (by omega) (fun x => v (ix2 a x)) (fun x => u (ix2 a x)) (fun x => w (ix2 (0 : Fin 1) x)) (fun x => (hv a x).trans (congrArg (PP m c (512 * t.val + a.val)) (by omega))) (fun x => hu a x) hw

theorem piece384 (c : Dev nD) (t : Fin cfg0.N) (a : Fin 512) (b' : Fin 128) : (k0_pay89 (k0_pay81 k0_pay6 (k0_pay73 (View.ld (iblk m c 4 t) (Rect.unit ![0, 384] ![512, 128] inb_S512x1536_S512x128_0_384))) (k0_pay74 (iblk m c 5 t)) (k0_pay75 (View.ld (iblk m c 7 t) (Rect.unit ![0, 384] ![512, 128] inb_S512x512_S512x128_0_384))) (k0_pay77 k0_pay6 (View.ld (iblk m c 4 t) (Rect.unit ![0, 384] ![512, 128] inb_S512x1536_S512x128_0_384))) (k0_pay78 k0_pay6 (View.ld (iblk m c 4 t) (Rect.unit ![0, 384] ![512, 128] inb_S512x1536_S512x128_0_384))) (FloatOps.ofBits FTy.f32 1115684864#32)) : Vec Ideal S512x128 .bf16) (ix2 a b') = DP m c (512 * t.val + a.val) (384 + b'.val) := by
  rw [DP, dp, if_pos (by omega)]
  generalize hk : (384 + b'.val) = k
  have hv : ∀ (a : Fin 512) (x : Fin 128), (View.ld (iblk m c 4 t) (Rect.unit ![0, 384] ![512, 128] inb_S512x1536_S512x128_0_384)) (ix2 a x) = PP m c (512 * t.val + a.val) (384 + x.val) := fun a x => (ldcols (iblk m c 4 t) 384 inb_S512x1536_S512x128_0_384 a x (by omega)).trans (blk4 m c t a _)
  have hu : ∀ (a : Fin 512) (x : Fin 128), (View.ld (iblk m c 7 t) (Rect.unit ![0, 384] ![512, 128] inb_S512x512_S512x128_0_384)) (ix2 a x) = R (DQ m c) (512 * t.val + a.val) (384 + x.val) := fun a x => (ldcols (iblk m c 7 t) 384 inb_S512x512_S512x128_0_384 a x (by omega)).trans (blk7 m c t a _)
  have hw := blk5 m c t 0
  generalize (View.ld (iblk m c 4 t) (Rect.unit ![0, 384] ![512, 128] inb_S512x1536_S512x128_0_384)) = v at hv ⊢
  generalize (View.ld (iblk m c 7 t) (Rect.unit ![0, 384] ![512, 128] inb_S512x512_S512x128_0_384)) = u at hu ⊢
  generalize iblk m c 5 t = w at hw ⊢
  pointwise [k0_pay6, k0_pay73, k0_pay74, k0_pay75, k0_pay76, k0_pay77, k0_pay78, k0_pay79, k0_pay80, k0_pay81, k0_pay89]
  exact back_at (PP m c) (sq8 (DQ m c)) (Q0 m c) 0 (512 * t.val + a.val) 384 k (by omega) b' (by omega) (fun x => v (ix2 a x)) (fun x => @HMul.hMul EReal EReal EReal _ (u (ix2 a x)) (Ideal.ofBits .f32 1040187392#32)) (fun x => w (ix2 (0 : Fin 1) x)) (fun x => (hv a x).trans (congrArg (PP m c (512 * t.val + a.val)) (by omega))) (fun x => Ideal.mul_congr (hu a x) rfl) hw

theorem piece1280 (c : Dev nD) (t : Fin cfg0.N) (a : Fin 512) (b' : Fin 128) : (k0_pay70 (View.ld (iblk m c 9 t) (Rect.unit ![0, 256] ![512, 128] inb_S512x512_S512x128_0_256)) : Vec Ideal S512x128 .bf16) (ix2 a b') = DP m c (512 * t.val + a.val) (1280 + b'.val) := by
  rw [DP, dp, if_neg (by omega), if_neg (by omega), if_pos (by omega)]
  have hx := (ldcols (iblk m c 9 t) 256 inb_S512x512_S512x128_0_256 a b' (by omega)).trans ((blk9 m c t a _).trans (congrArg (R (DV m c) (512 * t.val + a.val)) (by show 256 + b'.val = 1280 + b'.val - 1024; omega)))
  generalize (View.ld (iblk m c 9 t) (Rect.unit ![0, 256] ![512, 128] inb_S512x512_S512x128_0_256)) = u at hx ⊢
  generalize 1280 + b'.val - 1024 = k at hx ⊢
  pointwise [k0_pay70]
  exact hx

theorem piece768 (c : Dev nD) (t : Fin cfg0.N) (a : Fin 512) (b' : Fin 128) : (k0_pay69 (k0_pay66 k0_pay6 (k0_pay60 (View.ld (iblk m c 4 t) (Rect.unit ![0, 768] ![512, 128] inb_S512x1536_S512x128_0_768))) (k0_pay61 (iblk m c 6 t)) (View.ld (iblk m c 8 t) (Rect.unit ![0, 256] ![512, 128] inb_S512x512_S512x128_0_256)) (k0_pay62 (View.ld (iblk m c 4 t) (Rect.unit ![0, 768] ![512, 128] inb_S512x1536_S512x128_0_768))) (k0_pay63 k0_pay6 (View.ld (iblk m c 4 t) (Rect.unit ![0, 768] ![512, 128] inb_S512x1536_S512x128_0_768)))) : Vec Ideal S512x128 .bf16) (ix2 a b') = DP m c (512 * t.val + a.val) (768 + b'.val) := by
  rw [DP, dp, if_neg (by omega), if_pos (by omega)]
  generalize hk : (768 + b'.val - 512) = k
  have hv : ∀ (a : Fin 512) (x : Fin 128), (View.ld (iblk m c 4 t) (Rect.unit ![0, 768] ![512, 128] inb_S512x1536_S512x128_0_768)) (ix2 a x) = PP m c (512 * t.val + a.val) (768 + x.val) := fun a x => (ldcols (iblk m c 4 t) 768 inb_S512x1536_S512x128_0_768 a x (by omega)).trans (blk4 m c t a _)
  have hu : ∀ (a : Fin 512) (x : Fin 128), (View.ld (iblk m c 8 t) (Rect.unit ![0, 256] ![512, 128] inb_S512x512_S512x128_0_256)) (ix2 a x) = R (DK m c) (512 * t.val + a.val) (256 + x.val) := fun a x => (ldcols (iblk m c 8 t) 256 inb_S512x512_S512x128_0_256 a x (by omega)).trans (blk8 m c t a _)
  have hw := blk6 m c t 0
  generalize (View.ld (iblk m c 4 t) (Rect.unit ![0, 768] ![512, 128] inb_S512x1536_S512x128_0_768)) = v at hv ⊢
  generalize (View.ld (iblk m c 8 t) (Rect.unit ![0, 256] ![512, 128] inb_S512x512_S512x128_0_256)) = u at hu ⊢
  generalize iblk m c 6 t = w at hw ⊢
  pointwise [k0_pay6, k0_pay60, k0_pay61, k0_pay62, k0_pay63, k0_pay64, k0_pay65, k0_pay66, k0_pay69]
  exact back_at (PP m c) (R (DK m c)) (K0 m c) 512 (512 * t.val + a.val) 256 k (by omega) b' (by omega) (fun x => v (ix2 a x)) (fun x => u (ix2 a x)) (fun x => w (ix2 (0 : Fin 1) x)) (fun x => (hv a x).trans (congrArg (PP m c (512 * t.val + a.val)) (by omega))) (fun x => hu a x) hw

theorem piece256 (c : Dev nD) (t : Fin cfg0.N) (a : Fin 512) (b' : Fin 128) : (k0_pay68 (k0_pay58 k0_pay6 (k0_pay50 (View.ld (iblk m c 4 t) (Rect.unit ![0, 256] ![512, 128] inb_S512x1536_S512x128_0_256))) (k0_pay51 (iblk m c 5 t)) (k0_pay52 (View.ld (iblk m c 7 t) (Rect.unit ![0, 256] ![512, 128] inb_S512x512_S512x128_0_256))) (k0_pay54 k0_pay6 (View.ld (iblk m c 4 t) (Rect.unit ![0, 256] ![512, 128] inb_S512x1536_S512x128_0_256))) (k0_pay55 k0_pay6 (View.ld (iblk m c 4 t) (Rect.unit ![0, 256] ![512, 128] inb_S512x1536_S512x128_0_256))) (FloatOps.ofBits FTy.f32 1115684864#32)) : Vec Ideal S512x128 .bf16) (ix2 a b') = DP m c (512 * t.val + a.val) (256 + b'.val) := by
  rw [DP, dp, if_pos (by omega)]
  generalize hk : (256 + b'.val) = k
  have hv : ∀ (a : Fin 512) (x : Fin 128), (View.ld (iblk m c 4 t) (Rect.unit ![0, 256] ![512, 128] inb_S512x1536_S512x128_0_256)) (ix2 a x) = PP m c (512 * t.val + a.val) (256 + x.val) := fun a x => (ldcols (iblk m c 4 t) 256 inb_S512x1536_S512x128_0_256 a x (by omega)).trans (blk4 m c t a _)
  have hu : ∀ (a : Fin 512) (x : Fin 128), (View.ld (iblk m c 7 t) (Rect.unit ![0, 256] ![512, 128] inb_S512x512_S512x128_0_256)) (ix2 a x) = R (DQ m c) (512 * t.val + a.val) (256 + x.val) := fun a x => (ldcols (iblk m c 7 t) 256 inb_S512x512_S512x128_0_256 a x (by omega)).trans (blk7 m c t a _)
  have hw := blk5 m c t 0
  generalize (View.ld (iblk m c 4 t) (Rect.unit ![0, 256] ![512, 128] inb_S512x1536_S512x128_0_256)) = v at hv ⊢
  generalize (View.ld (iblk m c 7 t) (Rect.unit ![0, 256] ![512, 128] inb_S512x512_S512x128_0_256)) = u at hu ⊢
  generalize iblk m c 5 t = w at hw ⊢
  pointwise [k0_pay6, k0_pay50, k0_pay51, k0_pay52, k0_pay53, k0_pay54, k0_pay55, k0_pay56, k0_pay57, k0_pay58, k0_pay68]
  exact back_at (PP m c) (sq8 (DQ m c)) (Q0 m c) 0 (512 * t.val + a.val) 256 k (by omega) b' (by omega) (fun x => v (ix2 a x)) (fun x => @HMul.hMul EReal EReal EReal _ (u (ix2 a x)) (Ideal.ofBits .f32 1040187392#32)) (fun x => w (ix2 (0 : Fin 1) x)) (fun x => (hv a x).trans (congrArg (PP m c (512 * t.val + a.val)) (by omega))) (fun x => Ideal.mul_congr (hu a x) rfl) hw

theorem piece1152 (c : Dev nD) (t : Fin cfg0.N) (a : Fin 512) (b' : Fin 128) : (k0_pay47 (View.ld (iblk m c 9 t) (Rect.unit ![0, 128] ![512, 128] inb_S512x512_S512x128_0_128)) : Vec Ideal S512x128 .bf16) (ix2 a b') = DP m c (512 * t.val + a.val) (1152 + b'.val) := by
  rw [DP, dp, if_neg (by omega), if_neg (by omega), if_pos (by omega)]
  have hx := (ldcols (iblk m c 9 t) 128 inb_S512x512_S512x128_0_128 a b' (by omega)).trans ((blk9 m c t a _).trans (congrArg (R (DV m c) (512 * t.val + a.val)) (by show 128 + b'.val = 1152 + b'.val - 1024; omega)))
  generalize (View.ld (iblk m c 9 t) (Rect.unit ![0, 128] ![512, 128] inb_S512x512_S512x128_0_128)) = u at hx ⊢
  generalize 1152 + b'.val - 1024 = k at hx ⊢
  pointwise [k0_pay47]
  exact hx

theorem piece640 (c : Dev nD) (t : Fin cfg0.N) (a : Fin 512) (b' : Fin 128) : (k0_pay46 k0_pay6 (k0_pay37 (View.ld (iblk m c 4 t) (Rect.unit ![0, 640] ![512, 128] inb_S512x1536_S512x128_0_640))) (k0_pay38 (iblk m c 6 t)) (View.ld (iblk m c 8 t) (Rect.unit ![0, 128] ![512, 128] inb_S512x512_S512x128_0_128)) (k0_pay40 k0_pay6 (View.ld (iblk m c 4 t) (Rect.unit ![0, 640] ![512, 128] inb_S512x1536_S512x128_0_640))) (k0_pay41 k0_pay6 (View.ld (iblk m c 4 t) (Rect.unit ![0, 640] ![512, 128] inb_S512x1536_S512x128_0_640))) (FloatOps.ofBits FTy.f32 1115684864#32) : Vec Ideal S512x128 .bf16) (ix2 a b') = DP m c (512 * t.val + a.val) (640 + b'.val) := by
  rw [DP, dp, if_neg (by omega), if_pos (by omega)]
  generalize hk : (640 + b'.val - 512) = k
  have hv : ∀ (a : Fin 512) (x : Fin 128), (View.ld (iblk m c 4 t) (Rect.unit ![0, 640] ![512, 128] inb_S512x1536_S512x128_0_640)) (ix2 a x) = PP m c (512 * t.val + a.val) (640 + x.val) := fun a x => (ldcols (iblk m c 4 t) 640 inb_S512x1536_S512x128_0_640 a x (by omega)).trans (blk4 m c t a _)
  have hu : ∀ (a : Fin 512) (x : Fin 128), (View.ld (iblk m c 8 t) (Rect.unit ![0, 128] ![512, 128] inb_S512x512_S512x128_0_128)) (ix2 a x) = R (DK m c) (512 * t.val + a.val) (128 + x.val) := fun a x => (ldcols (iblk m c 8 t) 128 inb_S512x512_S512x128_0_128 a x (by omega)).trans (blk8 m c t a _)
  have hw := blk6 m c t 0
  generalize (View.ld (iblk m c 4 t) (Rect.unit ![0, 640] ![512, 128] inb_S512x1536_S512x128_0_640)) = v at hv ⊢
  generalize (View.ld (iblk m c 8 t) (Rect.unit ![0, 128] ![512, 128] inb_S512x512_S512x128_0_128)) = u at hu ⊢
  generalize iblk m c 6 t = w at hw ⊢
  pointwise [k0_pay6, k0_pay37, k0_pay38, k0_pay39, k0_pay40, k0_pay41, k0_pay42, k0_pay43, k0_pay46]
  exact back_at (PP m c) (R (DK m c)) (K0 m c) 512 (512 * t.val + a.val) 128 k (by omega) b' (by omega) (fun x => v (ix2 a x)) (fun x => u (ix2 a x)) (fun x => w (ix2 (0 : Fin 1) x)) (fun x => (hv a x).trans (congrArg (PP m c (512 * t.val + a.val)) (by omega))) (fun x => hu a x) hw

theorem piece128 (c : Dev nD) (t : Fin cfg0.N) (a : Fin 512) (b' : Fin 128) : (k0_pay45 (k0_pay35 k0_pay6 (k0_pay27 (View.ld (iblk m c 4 t) (Rect.unit ![0, 128] ![512, 128] inb_S512x1536_S512x128_0_128))) (k0_pay28 (iblk m c 5 t)) (k0_pay29 (View.ld (iblk m c 7 t) (Rect.unit ![0, 128] ![512, 128] inb_S512x512_S512x128_0_128))) (k0_pay31 k0_pay6 (View.ld (iblk m c 4 t) (Rect.unit ![0, 128] ![512, 128] inb_S512x1536_S512x128_0_128))) (k0_pay32 k0_pay6 (View.ld (iblk m c 4 t) (Rect.unit ![0, 128] ![512, 128] inb_S512x1536_S512x128_0_128)))) : Vec Ideal S512x128 .bf16) (ix2 a b') = DP m c (512 * t.val + a.val) (128 + b'.val) := by
  rw [DP, dp, if_pos (by omega)]
  generalize hk : (128 + b'.val) = k
  have hv : ∀ (a : Fin 512) (x : Fin 128), (View.ld (iblk m c 4 t) (Rect.unit ![0, 128] ![512, 128] inb_S512x1536_S512x128_0_128)) (ix2 a x) = PP m c (512 * t.val + a.val) (128 + x.val) := fun a x => (ldcols (iblk m c 4 t) 128 inb_S512x1536_S512x128_0_128 a x (by omega)).trans (blk4 m c t a _)
  have hu : ∀ (a : Fin 512) (x : Fin 128), (View.ld (iblk m c 7 t) (Rect.unit ![0, 128] ![512, 128] inb_S512x512_S512x128_0_128)) (ix2 a x) = R (DQ m c) (512 * t.val + a.val) (128 + x.val) := fun a x => (ldcols (iblk m c 7 t) 128 inb_S512x512_S512x128_0_128 a x (by omega)).trans (blk7 m c t a _)
  have hw := blk5 m c t 0
  generalize (View.ld (iblk m c 4 t) (Rect.unit ![0, 128] ![512, 128] inb_S512x1536_S512x128_0_128)) = v at hv ⊢
  generalize (View.ld (iblk m c 7 t) (Rect.unit ![0, 128] ![512, 128] inb_S512x512_S512x128_0_128)) = u at hu ⊢
  generalize iblk m c 5 t = w at hw ⊢
  pointwise [k0_pay6, k0_pay27, k0_pay28, k0_pay29, k0_pay30, k0_pay31, k0_pay32, k0_pay33, k0_pay34, k0_pay35, k0_pay45]
  exact back_at (PP m c) (sq8 (DQ m c)) (Q0 m c) 0 (512 * t.val + a.val) 128 k (by omega) b' (by omega) (fun x => v (ix2 a x)) (fun x => @HMul.hMul EReal EReal EReal _ (u (ix2 a x)) (Ideal.ofBits .f32 1040187392#32)) (fun x => w (ix2 (0 : Fin 1) x)) (fun x => (hv a x).trans (congrArg (PP m c (512 * t.val + a.val)) (by omega))) (fun x => Ideal.mul_congr (hu a x) rfl) hw

theorem piece1024 (c : Dev nD) (t : Fin cfg0.N) (a : Fin 512) (b' : Fin 128) : (k0_pay24 (View.ld (iblk m c 9 t) (Rect.unit ![0, 0] ![512, 128] inb_S512x512_S512x128_0_0)) : Vec Ideal S512x128 .bf16) (ix2 a b') = DP m c (512 * t.val + a.val) (1024 + b'.val) := by
  rw [DP, dp, if_neg (by omega), if_neg (by omega), if_pos (by omega)]
  have hx := (ldcols (iblk m c 9 t) 0 inb_S512x512_S512x128_0_0 a b' (by omega)).trans ((blk9 m c t a _).trans (congrArg (R (DV m c) (512 * t.val + a.val)) (by show 0 + b'.val = 1024 + b'.val - 1024; omega)))
  generalize (View.ld (iblk m c 9 t) (Rect.unit ![0, 0] ![512, 128] inb_S512x512_S512x128_0_0)) = u at hx ⊢
  generalize 1024 + b'.val - 1024 = k at hx ⊢
  pointwise [k0_pay24]
  exact hx

theorem piece512 (c : Dev nD) (t : Fin cfg0.N) (a : Fin 512) (b' : Fin 128) : (k0_pay23 k0_pay6 (k0_pay14 (View.ld (iblk m c 4 t) (Rect.unit ![0, 512] ![512, 128] inb_S512x1536_S512x128_0_512))) (k0_pay15 (iblk m c 6 t)) (View.ld (iblk m c 8 t) (Rect.unit ![0, 0] ![512, 128] inb_S512x512_S512x128_0_0)) (k0_pay17 k0_pay6 (View.ld (iblk m c 4 t) (Rect.unit ![0, 512] ![512, 128] inb_S512x1536_S512x128_0_512))) (k0_pay18 k0_pay6 (View.ld (iblk m c 4 t) (Rect.unit ![0, 512] ![512, 128] inb_S512x1536_S512x128_0_512))) (FloatOps.ofBits FTy.f32 1115684864#32) : Vec Ideal S512x128 .bf16) (ix2 a b') = DP m c (512 * t.val + a.val) (512 + b'.val) := by
  rw [DP, dp, if_neg (by omega), if_pos (by omega)]
  generalize hk : (512 + b'.val - 512) = k
  have hv : ∀ (a : Fin 512) (x : Fin 128), (View.ld (iblk m c 4 t) (Rect.unit ![0, 512] ![512, 128] inb_S512x1536_S512x128_0_512)) (ix2 a x) = PP m c (512 * t.val + a.val) (512 + x.val) := fun a x => (ldcols (iblk m c 4 t) 512 inb_S512x1536_S512x128_0_512 a x (by omega)).trans (blk4 m c t a _)
  have hu : ∀ (a : Fin 512) (x : Fin 128), (View.ld (iblk m c 8 t) (Rect.unit ![0, 0] ![512, 128] inb_S512x512_S512x128_0_0)) (ix2 a x) = R (DK m c) (512 * t.val + a.val) (0 + x.val) := fun a x => (ldcols (iblk m c 8 t) 0 inb_S512x512_S512x128_0_0 a x (by omega)).trans (blk8 m c t a _)
  have hw := blk6 m c t 0
  generalize (View.ld (iblk m c 4 t) (Rect.unit ![0, 512] ![512, 128] inb_S512x1536_S512x128_0_512)) = v at hv ⊢
  generalize (View.ld (iblk m c 8 t) (Rect.unit ![0, 0] ![512, 128] inb_S512x512_S512x128_0_0)) = u at hu ⊢
  generalize iblk m c 6 t = w at hw ⊢
  pointwise [k0_pay6, k0_pay14, k0_pay15, k0_pay16, k0_pay17, k0_pay18, k0_pay19, k0_pay20, k0_pay23]
  exact back_at (PP m c) (R (DK m c)) (K0 m c) 512 (512 * t.val + a.val) 0 k (by omega) b' (by omega) (fun x => v (ix2 a x)) (fun x => u (ix2 a x)) (fun x => w (ix2 (0 : Fin 1) x)) (fun x => (hv a x).trans (congrArg (PP m c (512 * t.val + a.val)) (by omega))) (fun x => hu a x) hw

theorem piece0 (c : Dev nD) (t : Fin cfg0.N) (a : Fin 512) (b' : Fin 128) : (k0_pay22 (k0_pay12 k0_pay6 (k0_pay9 (View.ld (iblk m c 4 t) (Rect.unit ![0, 0] ![512, 128] inb_S512x1536_S512x128_0_0))) (k0_pay10 (View.ld (iblk m c 4 t) (Rect.unit ![0, 0] ![512, 128] inb_S512x1536_S512x128_0_0))) (k0_pay11 (iblk m c 5 t) (View.ld (iblk m c 7 t) (Rect.unit ![0, 0] ![512, 128] inb_S512x512_S512x128_0_0)))) : Vec Ideal S512x128 .bf16) (ix2 a b') = DP m c (512 * t.val + a.val) (0 + b'.val) := by
  rw [DP, dp, if_pos (by omega)]
  generalize hk : (0 + b'.val) = k
  have hv : ∀ (a : Fin 512) (x : Fin 128), (View.ld (iblk m c 4 t) (Rect.unit ![0, 0] ![512, 128] inb_S512x1536_S512x128_0_0)) (ix2 a x) = PP m c (512 * t.val + a.val) (0 + x.val) := fun a x => (ldcols (iblk m c 4 t) 0 inb_S512x1536_S512x128_0_0 a x (by omega)).trans (blk4 m c t a _)
  have hu : ∀ (a : Fin 512) (x : Fin 128), (View.ld (iblk m c 7 t) (Rect.unit ![0, 0] ![512, 128] inb_S512x512_S512x128_0_0)) (ix2 a x) = R (DQ m c) (512 * t.val + a.val) (0 + x.val) := fun a x => (ldcols (iblk m c 7 t) 0 inb_S512x512_S512x128_0_0 a x (by omega)).trans (blk7 m c t a _)
  have hw := blk5 m c t 0
  generalize (View.ld (iblk m c 4 t) (Rect.unit ![0, 0] ![512, 128] inb_S512x1536_S512x128_0_0)) = v at hv ⊢
  generalize (View.ld (iblk m c 7 t) (Rect.unit ![0, 0] ![512, 128] inb_S512x512_S512x128_0_0)) = u at hu ⊢
  generalize iblk m c 5 t = w at hw ⊢
  pointwise [k0_pay6, k0_pay7, k0_pay8, k0_pay9, k0_pay10, k0_pay11, k0_pay12, k0_pay22]
  exact back_at (PP m c) (sq8 (DQ m c)) (Q0 m c) 0 (512 * t.val + a.val) 0 k (by omega) b' (by omega) (fun x => v (ix2 a x)) (fun x => @HMul.hMul EReal EReal EReal _ (u (ix2 a x)) (Ideal.ofBits .f32 1040187392#32)) (fun x => w (ix2 (0 : Fin 1) x)) (fun x => (hv a x).trans (congrArg (PP m c (512 * t.val + a.val)) (by omega))) (fun x => Ideal.mul_congr (hu a x) rfl) hw

/-- The gradient at the projection as the body stores it, by ranges of columns. -/
abbrev PL (c : Dev nD) (t : Fin cfg0.N) : List (View.Piece (Elt Ideal) S512x3072 .bf16) :=
  [⟨Rect.unit ![0, 1536] ![512, 1536] inb_S512x3072_S512x1536_0_1536, iblk m c 10 t⟩,
   ⟨Rect.unit ![0, 1408] ![512, 128] inb_S512x3072_S512x128_0_1408, k0_pay91 (View.ld (iblk m c 9 t) (Rect.unit ![0, 384] ![512, 128] inb_S512x512_S512x128_0_384))⟩,
   ⟨Rect.unit ![0, 896] ![512, 128] inb_S512x3072_S512x128_0_896, k0_pay90 (k0_pay87 k0_pay6 (k0_pay83 (View.ld (iblk m c 4 t) (Rect.unit ![0, 896] ![512, 128] inb_S512x1536_S512x128_0_896))) (k0_pay84 (iblk m c 6 t)) (View.ld (iblk m c 8 t) (Rect.unit ![0, 384] ![512, 128] inb_S512x512_S512x128_0_384)))⟩,
   ⟨Rect.unit ![0, 384] ![512, 128] inb_S512x3072_S512x128_0_384, k0_pay89 (k0_pay81 k0_pay6 (k0_pay73 (View.ld (iblk m c 4 t) (Rect.unit ![0, 384] ![512, 128] inb_S512x1536_S512x128_0_384))) (k0_pay74 (iblk m c 5 t)) (k0_pay75 (View.ld (iblk m c 7 t) (Rect.unit ![0, 384] ![512, 128] inb_S512x512_S512x128_0_384))) (k0_pay77 k0_pay6 (View.ld (iblk m c 4 t) (Rect.unit ![0, 384] ![512, 128] inb_S512x1536_S512x128_0_384))) (k0_pay78 k0_pay6 (View.ld (iblk m c 4 t) (Rect.unit ![0, 384] ![512, 128] inb_S512x1536_S512x128_0_384))) (FloatOps.ofBits FTy.f32 1115684864#32))⟩,
   ⟨Rect.unit ![0, 1280] ![512, 128] inb_S512x3072_S512x128_0_1280, k0_pay70 (View.ld (iblk m c 9 t) (Rect.unit ![0, 256] ![512, 128] inb_S512x512_S512x128_0_256))⟩,
   ⟨Rect.unit ![0, 768] ![512, 128] inb_S512x3072_S512x128_0_768, k0_pay69 (k0_pay66 k0_pay6 (k0_pay60 (View.ld (iblk m c 4 t) (Rect.unit ![0, 768] ![512, 128] inb_S512x1536_S512x128_0_768))) (k0_pay61 (iblk m c 6 t)) (View.ld (iblk m c 8 t) (Rect.unit ![0, 256] ![512, 128] inb_S512x512_S512x128_0_256)) (k0_pay62 (View.ld (iblk m c 4 t) (Rect.unit ![0, 768] ![512, 128] inb_S512x1536_S512x128_0_768))) (k0_pay63 k0_pay6 (View.ld (iblk m c 4 t) (Rect.unit ![0, 768] ![512, 128] inb_S512x1536_S512x128_0_768))))⟩,
   ⟨Rect.unit ![0, 256] ![512, 128] inb_S512x3072_S512x128_0_256, k0_pay68 (k0_pay58 k0_pay6 (k0_pay50 (View.ld (iblk m c 4 t) (Rect.unit ![0, 256] ![512, 128] inb_S512x1536_S512x128_0_256))) (k0_pay51 (iblk m c 5 t)) (k0_pay52 (View.ld (iblk m c 7 t) (Rect.unit ![0, 256] ![512, 128] inb_S512x512_S512x128_0_256))) (k0_pay54 k0_pay6 (View.ld (iblk m c 4 t) (Rect.unit ![0, 256] ![512, 128] inb_S512x1536_S512x128_0_256))) (k0_pay55 k0_pay6 (View.ld (iblk m c 4 t) (Rect.unit ![0, 256] ![512, 128] inb_S512x1536_S512x128_0_256))) (FloatOps.ofBits FTy.f32 1115684864#32))⟩,
   ⟨Rect.unit ![0, 1152] ![512, 128] inb_S512x3072_S512x128_0_1152, k0_pay47 (View.ld (iblk m c 9 t) (Rect.unit ![0, 128] ![512, 128] inb_S512x512_S512x128_0_128))⟩,
   ⟨Rect.unit ![0, 640] ![512, 128] inb_S512x3072_S512x128_0_640, k0_pay46 k0_pay6 (k0_pay37 (View.ld (iblk m c 4 t) (Rect.unit ![0, 640] ![512, 128] inb_S512x1536_S512x128_0_640))) (k0_pay38 (iblk m c 6 t)) (View.ld (iblk m c 8 t) (Rect.unit ![0, 128] ![512, 128] inb_S512x512_S512x128_0_128)) (k0_pay40 k0_pay6 (View.ld (iblk m c 4 t) (Rect.unit ![0, 640] ![512, 128] inb_S512x1536_S512x128_0_640))) (k0_pay41 k0_pay6 (View.ld (iblk m c 4 t) (Rect.unit ![0, 640] ![512, 128] inb_S512x1536_S512x128_0_640))) (FloatOps.ofBits FTy.f32 1115684864#32)⟩,
   ⟨Rect.unit ![0, 128] ![512, 128] inb_S512x3072_S512x128_0_128, k0_pay45 (k0_pay35 k0_pay6 (k0_pay27 (View.ld (iblk m c 4 t) (Rect.unit ![0, 128] ![512, 128] inb_S512x1536_S512x128_0_128))) (k0_pay28 (iblk m c 5 t)) (k0_pay29 (View.ld (iblk m c 7 t) (Rect.unit ![0, 128] ![512, 128] inb_S512x512_S512x128_0_128))) (k0_pay31 k0_pay6 (View.ld (iblk m c 4 t) (Rect.unit ![0, 128] ![512, 128] inb_S512x1536_S512x128_0_128))) (k0_pay32 k0_pay6 (View.ld (iblk m c 4 t) (Rect.unit ![0, 128] ![512, 128] inb_S512x1536_S512x128_0_128))))⟩,
   ⟨Rect.unit ![0, 1024] ![512, 128] inb_S512x3072_S512x128_0_1024, k0_pay24 (View.ld (iblk m c 9 t) (Rect.unit ![0, 0] ![512, 128] inb_S512x512_S512x128_0_0))⟩,
   ⟨Rect.unit ![0, 512] ![512, 128] inb_S512x3072_S512x128_0_512, k0_pay23 k0_pay6 (k0_pay14 (View.ld (iblk m c 4 t) (Rect.unit ![0, 512] ![512, 128] inb_S512x1536_S512x128_0_512))) (k0_pay15 (iblk m c 6 t)) (View.ld (iblk m c 8 t) (Rect.unit ![0, 0] ![512, 128] inb_S512x512_S512x128_0_0)) (k0_pay17 k0_pay6 (View.ld (iblk m c 4 t) (Rect.unit ![0, 512] ![512, 128] inb_S512x1536_S512x128_0_512))) (k0_pay18 k0_pay6 (View.ld (iblk m c 4 t) (Rect.unit ![0, 512] ![512, 128] inb_S512x1536_S512x128_0_512))) (FloatOps.ofBits FTy.f32 1115684864#32)⟩,
   ⟨Rect.unit ![0, 0] ![512, 128] inb_S512x3072_S512x128_0_0, k0_pay22 (k0_pay12 k0_pay6 (k0_pay9 (View.ld (iblk m c 4 t) (Rect.unit ![0, 0] ![512, 128] inb_S512x1536_S512x128_0_0))) (k0_pay10 (View.ld (iblk m c 4 t) (Rect.unit ![0, 0] ![512, 128] inb_S512x1536_S512x128_0_0))) (k0_pay11 (iblk m c 5 t) (View.ld (iblk m c 7 t) (Rect.unit ![0, 0] ![512, 128] inb_S512x512_S512x128_0_0))))⟩]

theorem mem_cols (a : Fin 512) (b : Fin 3072) (o n : ℕ) (inb : ∀ a : Fin 2, (![0, o] : Fin 2 → ℕ) a + (![512, n] : Fin 2 → ℕ) a ≤ S512x3072.size a) (h : o ≤ b.val ∧ b.val < o + n) :
    ix2 a b ∈ (Rect.unit (s := S512x3072) ![0, o] ![512, n] inb).set := by
  refine Rect.mem_set_unit.mpr (Fin.forall_fin_two.mpr ⟨⟨?_, ?_⟩, ?_⟩)
  · exact Nat.zero_le _
  · show a.val < 0 + 512; omega
  · exact h

theorem pl_at (c : Dev nD) (t : Fin cfg0.N) (a : Fin 512) (b : Fin 3072) : View.canon (PL m c t) (ix2 a b) = DP m c (512 * t.val + a.val) b.val := by
  have hcover : ∃ p ∈ PL m c t, ix2 a b ∈ p.1.set := by
    by_cases h1536 : 1536 ≤ b.val ∧ b.val < 1536 + 1536
    · exact ⟨_, List.mem_cons_self, mem_cols a b 1536 1536 inb_S512x3072_S512x1536_0_1536 h1536⟩
    by_cases h1408 : 1408 ≤ b.val ∧ b.val < 1408 + 128
    · exact ⟨_, List.mem_cons_of_mem _ (List.mem_cons_self), mem_cols a b 1408 128 inb_S512x3072_S512x128_0_1408 h1408⟩
    by_cases h896 : 896 ≤ b.val ∧ b.val < 896 + 128
    · exact ⟨_, List.mem_cons_of_mem _ (List.mem_cons_of_mem _ (List.mem_cons_self)), mem_cols a b 896 128 inb_S512x3072_S512x128_0_896 h896⟩
    by_cases h384 : 384 ≤ b.val ∧ b.val < 384 + 128
    · exact ⟨_, List.mem_cons_of_mem _ (List.mem_cons_of_mem _ (List.mem_cons_of_mem _ (List.mem_cons_self))), mem_cols a b 384 128 inb_S512x3072_S512x128_0_384 h384⟩
    by_cases h1280 : 1280 ≤ b.val ∧ b.val < 1280 + 128
    · exact ⟨_, List.mem_cons_of_mem _ (List.mem_cons_of_mem _ (List.mem_cons_of_mem _ (List.mem_cons_of_mem _ (List.mem_cons_self)))), mem_cols a b 1280 128 inb_S512x3072_S512x128_0_1280 h1280⟩
    by_cases h768 : 768 ≤ b.val ∧ b.val < 768 + 128
    · exact ⟨_, List.mem_cons_of_mem _ (List.mem_cons_of_mem _ (List.mem_cons_of_mem _ (List.mem_cons_of_mem _ (List.mem_cons_of_mem _ (List.mem_cons_self))))), mem_cols a b 768 128 inb_S512x3072_S512x128_0_768 h768⟩
    by_cases h256 : 256 ≤ b.val ∧ b.val < 256 + 128
    · exact ⟨_, List.mem_cons_of_mem _ (List.mem_cons_of_mem _ (List.mem_cons_of_mem _ (List.mem_cons_of_mem _ (List.mem_cons_of_mem _ (List.mem_cons_of_mem _ (List.mem_cons_self)))))), mem_cols a b 256 128 inb_S512x3072_S512x128_0_256 h256⟩
    by_cases h1152 : 1152 ≤ b.val ∧ b.val < 1152 + 128
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_cols a b 1152 128 inb_S512x3072_S512x128_0_1152 h1152⟩
    by_cases h640 : 640 ≤ b.val ∧ b.val < 640 + 128
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_cols a b 640 128 inb_S512x3072_S512x128_0_640 h640⟩
    by_cases h128 : 128 ≤ b.val ∧ b.val < 128 + 128
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_cols a b 128 128 inb_S512x3072_S512x128_0_128 h128⟩
    by_cases h1024 : 1024 ≤ b.val ∧ b.val < 1024 + 128
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_cols a b 1024 128 inb_S512x3072_S512x128_0_1024 h1024⟩
    by_cases h512 : 512 ≤ b.val ∧ b.val < 512 + 128
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_cols a b 512 128 inb_S512x3072_S512x128_0_512 h512⟩
    by_cases h0 : 0 ≤ b.val ∧ b.val < 0 + 128
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_cols a b 0 128 inb_S512x3072_S512x128_0_0 h0⟩
    omega
  unfold PL at hcover ⊢
  canon_tiles x h using hcover
  · obtain ⟨a', b', rfl⟩ : ∃ (a' : Fin 512) (b' : Fin 1536), x = ix2 a' b' := ⟨x 0, x 1, eq_ix2 (n0 := 512) (n1 := 1536) x⟩
    obtain rfl : a = a' := Fin.ext (by first | exact h0 | simpa using h0)
    have e : b.val = 1536 + b'.val := h1
    rw [DP, dp, if_neg (by omega), if_neg (by omega), if_neg (by omega), e]
    exact blk10 m c t a b'
  all_goals
    obtain ⟨a', b', rfl⟩ : ∃ (a' : Fin 512) (b' : Fin 128), x = ix2 a' b' := ⟨x 0, x 1, eq_ix2 (n0 := 512) (n1 := 128) x⟩
    obtain rfl : a = a' := Fin.ext (by first | exact h0 | simpa using h0)
  · have e : b.val = 1408 + b'.val := by first | exact h1 | (rw [Nat.zero_add]; exact h1)
    rw [e]; exact piece1408 m c t a b'
  · have e : b.val = 896 + b'.val := by first | exact h1 | (rw [Nat.zero_add]; exact h1)
    rw [e]; exact piece896 m c t a b'
  · have e : b.val = 384 + b'.val := by first | exact h1 | (rw [Nat.zero_add]; exact h1)
    rw [e]; exact piece384 m c t a b'
  · have e : b.val = 1280 + b'.val := by first | exact h1 | (rw [Nat.zero_add]; exact h1)
    rw [e]; exact piece1280 m c t a b'
  · have e : b.val = 768 + b'.val := by first | exact h1 | (rw [Nat.zero_add]; exact h1)
    rw [e]; exact piece768 m c t a b'
  · have e : b.val = 256 + b'.val := by first | exact h1 | (rw [Nat.zero_add]; exact h1)
    rw [e]; exact piece256 m c t a b'
  · have e : b.val = 1152 + b'.val := by first | exact h1 | (rw [Nat.zero_add]; exact h1)
    rw [e]; exact piece1152 m c t a b'
  · have e : b.val = 640 + b'.val := by first | exact h1 | (rw [Nat.zero_add]; exact h1)
    rw [e]; exact piece640 m c t a b'
  · have e : b.val = 128 + b'.val := by first | exact h1 | (rw [Nat.zero_add]; exact h1)
    rw [e]; exact piece128 m c t a b'
  · have e : b.val = 1024 + b'.val := by first | exact h1 | (rw [Nat.zero_add]; exact h1)
    rw [e]; exact piece1024 m c t a b'
  · have e : b.val = 512 + b'.val := by first | exact h1 | (rw [Nat.zero_add]; exact h1)
    rw [e]; exact piece512 m c t a b'
  · have e : b.val = 0 + b'.val := by first | exact h1 | (rw [Nat.zero_add]; exact h1)
    rw [e]; exact piece0 m c t a b'

theorem out13 (c : Dev nD) (t : Fin cfg0.N) (a : Fin 512) (b : Fin 3072) : (outsAt0 m c t.val t.isLt).2.2.1 (ix2 a b) = DP m c (512 * t.val + a.val) b.val := by
  rw [← pl_at]
  by_cases h0 : t.val % 16 = 0
  · rw [outsAt0_A m c t h0]
    frame_out
    rfl
  · rw [outsAt0_B m c t h0]
    frame_out
    rfl

/-- A quarter of the stored gradient, read back. -/
theorem back (c : Dev nD) (t : Fin cfg0.N) (o : ℕ) (inb : ∀ a : Fin 2, (![0, o] : Fin 2 → ℕ) a + (![512, 768] : Fin 2 → ℕ) a ≤ S512x3072.size a) (ho : o + 768 ≤ 3072) (a : Fin 512) (x : Fin 768) :
    (ms0_13 t).view.readCov (PL m c t) (Rect.unit (s := S512x3072) ![0, o] ![512, 768] inb).toLoadRect (ix2 a x) = DP m c (512 * t.val + a.val) (o + x.val) := by
  refine Eq.trans ?_ (pl_at m c t a (⟨o + x.val, by omega⟩ : Fin 3072))
  rw [View.readCov_eq_canon']
  refine congrArg _ (funext (Fin.forall_fin_two.mpr ⟨?_, ?_⟩)) <;> refine Fin.ext ?_
  · show 0 + 1 * a.val = a.val; omega
  · show o + 1 * x.val = o + x.val; omega

theorem ldq (O : Vec Ideal S4x1x1024x768 .bf16) (j : Fin 4) (inb : ∀ a : Fin 4, (![j.val, 0, 0, 0] : Fin 4 → ℕ) a + (![1, 1, 1024, 768] : Fin 4 → ℕ) a ≤ S4x1x1024x768.size a) (a : Fin 1024) (x : Fin 768) :
    View.ld O (Rect.unit (s := S4x1x1024x768) ![j.val, 0, 0, 0] ![1, 1, 1024, 768] inb) (ix4 (0 : Fin 1) (0 : Fin 1) a x) = O (ix4 j (0 : Fin 1) a x) := by
  refine congrArg O (funext fun k => Fin.ext ?_)
  match k with
  | 0 => show j.val + 1 * 0 = j.val; omega
  | 1 => rfl
  | 2 => show 0 + 1 * a.val = a.val; omega
  | 3 => show 0 + 1 * x.val = x.val; omega

theorem ldw (c : Dev nD) (t : Fin cfg0.N) (j : Fin 4) (inb : ∀ a : Fin 4, (![j.val, 0, 0, 0] : Fin 4 → ℕ) a + (![1, 1, 1024, 768] : Fin 4 → ℕ) a ≤ S4x1x1024x768.size a) (a : Fin 1024) (x : Fin 768) :
    View.ld (iblk m c 3 t) (Rect.unit (s := S4x1x1024x768) ![j.val, 0, 0, 0] ![1, 1, 1024, 768] inb) (ix4 (0 : Fin 1) (0 : Fin 1) a x) = R (W0 m c) a.val (768 * j.val + x.val) :=
  (ldq _ j inb a x).trans (blk3 m c t j 0 a x)

/-- The product with the projection's weights, quarter by quarter. -/
theorem dh_sum (A : ℕ → ℕ → EReal) (W : FVec Ideal S1024x3072 .f32) (n a : ℕ) :
    (∑ x : Fin 768, A n (0 + x.val) * R W a (768 * 0 + x.val)) + (∑ x : Fin 768, A n (768 + x.val) * R W a (768 * 1 + x.val)) + (∑ x : Fin 768, A n (1536 + x.val) * R W a (768 * 2 + x.val)) + (∑ x : Fin 768, A n (2304 + x.val) * R W a (768 * 3 + x.val)) = dh A W n a := by
  rw [dh, Fin.sum_univ_tiles 4 768 rfl, Fin.sum_univ_four]
  refine Ideal.add_congr (Ideal.add_congr (Ideal.add_congr ?_ ?_) ?_) ?_ <;> refine Fin.sum_fin_congr fun x => ?_
  · show _ = A n (0 * 768 + x.val) * R W a (0 * 768 + x.val); rw [show 0 * 768 + x.val = 0 + x.val by omega]
  · show _ = A n (1 * 768 + x.val) * R W a (1 * 768 + x.val); rw [show 1 * 768 + x.val = 768 + x.val by omega]
  · show _ = A n (2 * 768 + x.val) * R W a (2 * 768 + x.val); rw [show 2 * 768 + x.val = 1536 + x.val by omega]
  · show _ = A n (3 * 768 + x.val) * R W a (3 * 768 + x.val); rw [show 3 * 768 + x.val = 2304 + x.val by omega]

section variables_
variable (A : ℕ → ℕ → EReal) (X E : FVec Ideal S8192x1024 .f32) (G : FVec Ideal S1024 .f32) (W : FVec Ideal S1024x3072 .f32) (N : ℕ)
  (r0 r1 r2 r3 : FVec Ideal S512x768 .bf16) (w0 w1 w2 w3 : FVec Ideal S1x1x1024x768 .bf16) (x e : FVec Ideal S512x1024 .f32) (g : FVec Ideal S1x1024 .f32)
  (hr0 : ∀ a k, r0 (ix2 a k) = A (N + a.val) (0 + k.val)) (hr1 : ∀ a k, r1 (ix2 a k) = A (N + a.val) (768 + k.val)) (hr2 : ∀ a k, r2 (ix2 a k) = A (N + a.val) (1536 + k.val)) (hr3 : ∀ a k, r3 (ix2 a k) = A (N + a.val) (2304 + k.val))
  (hw0 : ∀ a k, w0 (ix4 (0 : Fin 1) (0 : Fin 1) a k) = R W a.val (768 * 0 + k.val)) (hw1 : ∀ a k, w1 (ix4 (0 : Fin 1) (0 : Fin 1) a k) = R W a.val (768 * 1 + k.val))
  (hw2 : ∀ a k, w2 (ix4 (0 : Fin 1) (0 : Fin 1) a k) = R W a.val (768 * 2 + k.val)) (hw3 : ∀ a k, w3 (ix4 (0 : Fin 1) (0 : Fin 1) a k) = R W a.val (768 * 3 + k.val))
  (hx : ∀ a b, x (ix2 a b) = R X (N + a.val) b.val) (he : ∀ a b, e (ix2 a b) = R E (N + a.val) b.val) (hg : ∀ z b, g (ix2 z b) = R1 G b.val)
include hr0 hr1 hr2 hr3 hw0 hw1 hw2 hw3 hx

theorem dh_var (a : Fin 512) (b : Fin 1024) : (∑ k : Fin 768, r0 (ix2 a k) * w0 (ix4 (0 : Fin 1) (0 : Fin 1) b k)) + (∑ k : Fin 768, r1 (ix2 a k) * w1 (ix4 (0 : Fin 1) (0 : Fin 1) b k))
    + (∑ k : Fin 768, r2 (ix2 a k) * w2 (ix4 (0 : Fin 1) (0 : Fin 1) b k)) + (∑ k : Fin 768, r3 (ix2 a k) * w3 (ix4 (0 : Fin 1) (0 : Fin 1) b k)) = dh A W (N + a.val) b.val := by
  simp only [hr0, hr1, hr2, hr3, hw0, hw1, hw2, hw3]
  exact dh_sum A W (N + a.val) b.val

include he hg in
theorem dx_var (a : Fin 512) (b : Fin 1024) :
    k0_pay1 (F := Ideal) (k0_pay96 x) (k0_pay97 x) (k0_pay98 (k0_pay94 r0 w0) r1 w1 r2 w2 r3 w3 g) (k0_pay99 (k0_pay94 r0 w0) r1 w1 r2 w2 r3 w3 x g) e (ix2 a b) = dx X E G (dh A W) (N + a.val) b.val := by
  have hd := dh_var A X W N r0 r1 r2 r3 w0 w1 w2 w3 x hr0 hr1 hr2 hr3 hw0 hw1 hw2 hw3 hx
  pointwise [k0_pay1, k0_pay94, k0_pay95, k0_pay96, k0_pay97, k0_pay98, k0_pay99]
  simp only [hd, hx, he, hg, dx, rx]

theorem dg_var (z : Fin 1) (b : Fin 1024) :
    k0_pay2 (F := Ideal) (k0_pay95 (k0_pay94 r0 w0) r1 w1 r2 w2 r3 w3) (k0_pay97 x) g (ix2 z b) = g (ix2 z b) + ∑ a : Fin 512, dgr X (dh A W) b.val (N + a.val) := by
  have hd := dh_var A X W N r0 r1 r2 r3 w0 w1 w2 w3 x hr0 hr1 hr2 hr3 hw0 hw1 hw2 hw3 hx
  pointwise [k0_pay2, k0_pay94, k0_pay95, k0_pay96, k0_pay97, k0_pay98, k0_pay99]
  simp only [hd, hx, dgr, rx]
end variables_

theorem out11 (c : Dev nD) (t : Fin cfg0.N) (a : Fin 512) (b : Fin 1024) : (outsAt0 m c t.val t.isLt).1 (ix2 a b) = dx (X0 m c) (E0 m c) (G0 m c) (dh (DP m c) (W0 m c)) (512 * t.val + a.val) b.val := by
  have key := dx_var (DP m c) (X0 m c) (E0 m c) (G0 m c) (W0 m c) (512 * t.val) _ _ _ _ _ _ _ _ _ _ _
    (back m c t 0 inb_S512x3072_S512x768_0_0 (by omega)) (back m c t 768 inb_S512x3072_S512x768_0_768 (by omega)) (back m c t 1536 inb_S512x3072_S512x768_0_1536 (by omega)) (back m c t 2304 inb_S512x3072_S512x768_0_2304 (by omega))
    (ldw m c t 0 inb_S4x1x1024x768_S1x1x1024x768_0_0_0_0) (ldw m c t 1 inb_S4x1x1024x768_S1x1x1024x768_1_0_0_0) (ldw m c t 2 inb_S4x1x1024x768_S1x1x1024x768_2_0_0_0) (ldw m c t 3 inb_S4x1x1024x768_S1x1x1024x768_3_0_0_0)
    (blk0 m c t) (blk1 m c t) (blk2 m c t) a b
  by_cases h0 : t.val % 16 = 0
  · rw [outsAt0_A m c t h0]
    frame_out
    exact key
  · rw [outsAt0_B m c t h0]
    frame_out
    exact key

theorem out12A (c : Dev nD) (t : Fin cfg0.N) (h0 : t.val % 16 = 0) (z : Fin 1) (b : Fin 1024) : (outsAt0 m c t.val t.isLt).2.1 (ix2 z b) = 0 + ∑ a : Fin 512, dgr (X0 m c) (dh (DP m c) (W0 m c)) b.val (512 * t.val + a.val) := by
  rw [outsAt0_A m c t h0]
  frame_out
  refine (dg_var (DP m c) (X0 m c) (W0 m c) (512 * t.val) _ _ _ _ _ _ _ _ _ _
    (back m c t 0 inb_S512x3072_S512x768_0_0 (by omega)) (back m c t 768 inb_S512x3072_S512x768_0_768 (by omega)) (back m c t 1536 inb_S512x3072_S512x768_0_1536 (by omega)) (back m c t 2304 inb_S512x3072_S512x768_0_2304 (by omega))
    (ldw m c t 0 inb_S4x1x1024x768_S1x1x1024x768_0_0_0_0) (ldw m c t 1 inb_S4x1x1024x768_S1x1x1024x768_1_0_0_0) (ldw m c t 2 inb_S4x1x1024x768_S1x1x1024x768_2_0_0_0) (ldw m c t 3 inb_S4x1x1024x768_S1x1x1024x768_3_0_0_0)
    (blk0 m c t) z b).trans ?_
  refine Ideal.add_congr ?_ rfl
  pointwise [k0_pay3]
  first | done | exact Ideal.ofBits_zero_f32

theorem out12B (c : Dev nD) (t : Fin cfg0.N) (h0 : ¬ t.val % 16 = 0) (z : Fin 1) (b : Fin 1024) : (outsAt0 m c t.val t.isLt).2.1 (ix2 z b)
    = (outsAt0 m c (t.val - 1) (Nat.lt_of_le_of_lt (Nat.sub_le _ _) t.isLt)).2.1 (ix2 z b) + ∑ a : Fin 512, dgr (X0 m c) (dh (DP m c) (W0 m c)) b.val (512 * t.val + a.val) := by
  rw [outsAt0_B m c t h0]
  frame_out
  (try simp only [read_unread_whole])
  exact dg_var (DP m c) (X0 m c) (W0 m c) (512 * t.val) _ _ _ _ _ _ _ _ _ _
    (back m c t 0 inb_S512x3072_S512x768_0_0 (by omega)) (back m c t 768 inb_S512x3072_S512x768_0_768 (by omega)) (back m c t 1536 inb_S512x3072_S512x768_0_1536 (by omega)) (back m c t 2304 inb_S512x3072_S512x768_0_2304 (by omega))
    (ldw m c t 0 inb_S4x1x1024x768_S1x1x1024x768_0_0_0_0) (ldw m c t 1 inb_S4x1x1024x768_S1x1x1024x768_1_0_0_0) (ldw m c t 2 inb_S4x1x1024x768_S1x1x1024x768_2_0_0_0) (ldw m c t 3 inb_S4x1x1024x768_S1x1x1024x768_3_0_0_0)
    (blk0 m c t) z b

theorem at12 (c : Dev nD) (z : Fin 1) (b : Fin 1024) : ∀ (k : ℕ) (h : k < cfg0.N), (outsAt0 m c k h).2.1 (ix2 z b) = acc (dgr (X0 m c) (dh (DP m c) (W0 m c)) b.val) (k + 1)
  | 0, h => (out12A m c ⟨0, h⟩ rfl z b).trans (acc_succ _ 0).symm
  | k + 1, h => by
    have hN : k + 1 < 16 := lt_of_lt_of_eq h N_0
    exact (out12B m c ⟨k + 1, h⟩ (by show ¬(k + 1) % 16 = 0; omega) z b).trans ((Ideal.add_congr (at12 c z b k (by omega)) rfl).trans (acc_succ _ (k + 1)).symm)

theorem canon_hit (o : ℕ) (inb : ∀ a : Fin 2, (![0, o] : Fin 2 → ℕ) a + (![1, 128] : Fin 2 → ℕ) a ≤ S1x512.size a) (p : Vec Ideal S1x128 .f32) (L : List (View.Piece (Elt Ideal) S1x512 .f32)) (z : Fin 1) (b : Fin 512) (x : Fin 128) (h : b.val = o + x.val) :
    View.canon (Val := Elt Ideal) (s := S1x512) (e := .f32) (⟨Rect.unit (s := S1x512) ![0, o] ![1, 128] inb, p⟩ :: L) (ix2 z b) = p (ix2 z x) := by
  refine Eq.trans (congrArg _ (funext (Fin.forall_fin_two.mpr ⟨?_, ?_⟩))) (View.canon_cons_emb (Val := Elt Ideal) (e := .f32) (Rect.unit (s := S1x512) ![0, o] ![1, 128] inb) p L (ix2 z x)) <;> refine Fin.ext ?_
  · show z.val = 0 + 1 * z.val; omega
  · show b.val = o + 1 * x.val; omega

theorem canon_miss (o : ℕ) (inb : ∀ a : Fin 2, (![0, o] : Fin 2 → ℕ) a + (![1, 128] : Fin 2 → ℕ) a ≤ S1x512.size a) (p : Vec Ideal S1x128 .f32) (L : List (View.Piece (Elt Ideal) S1x512 .f32)) (z : Fin 1) (b : Fin 512) (h : b.val < o ∨ o + 128 ≤ b.val) :
    View.canon (Val := Elt Ideal) (s := S1x512) (e := .f32) (⟨Rect.unit (s := S1x512) ![0, o] ![1, 128] inb, p⟩ :: L) (ix2 z b) = View.canon (Val := Elt Ideal) (s := S1x512) (e := .f32) L (ix2 z b) := by
  refine View.canon_cons_of_not_mem (Val := Elt Ideal) (e := .f32) _ L fun hm => ?_
  have h1 := (Rect.mem_set_unit (s := S1x512) (off := ![0, o]) (size := ![1, 128]) (inb := inb)).mp hm (1 : Fin 2)
  have h2 : o ≤ b.val ∧ b.val < o + 128 := h1
  omega

theorem canon_all (p : Vec Ideal S1x512 .f32) (z : Fin 1) (b : Fin 512) :
    View.canon (Val := Elt Ideal) (s := S1x512) (e := .f32) [⟨Rect.unit (s := S1x512) ![0, 0] ![1, 512] inb_S1x512_S1x512_0_0, p⟩] (ix2 z b) = p (ix2 z b) := by
  refine Eq.trans (congrArg _ (funext (Fin.forall_fin_two.mpr ⟨?_, ?_⟩))) (View.canon_cons_emb (Val := Elt Ideal) (e := .f32) (Rect.unit (s := S1x512) ![0, 0] ![1, 512] inb_S1x512_S1x512_0_0) p [] (ix2 z b)) <;> refine Fin.ext ?_
  · show z.val = 0 + 1 * z.val; omega
  · show b.val = 0 + 1 * b.val; omega

theorem zero4 (z : Fin 1) (b : Fin 512) : k0_pay4 (F := Ideal) (ix2 z b) = 0 := by
  pointwise [k0_pay4]
  first | done | exact Ideal.ofBits_zero_f32

theorem zero5 (z : Fin 1) (b : Fin 512) : k0_pay5 (F := Ideal) (ix2 z b) = 0 := by
  pointwise [k0_pay5]
  first | done | exact Ideal.ofBits_zero_f32

/-- A lane group of the gain's gradient, read back from what was stored before, -/
theorem backz {sp} (v : View sig .tc sp S1x512 .f32) (L : List (View.Piece (Elt Ideal) S1x512 .f32)) (o : ℕ) (inb : ∀ a : Fin 2, (![0, o] : Fin 2 → ℕ) a + (![1, 128] : Fin 2 → ℕ) a ≤ S1x512.size a) (z : Fin 1) (x : Fin 128) (hx : o + x.val < 512) :
    v.readCov L (Rect.unit (s := S1x512) ![0, o] ![1, 128] inb).toLoadRect (ix2 z x) = View.canon (Val := Elt Ideal) (s := S1x512) (e := .f32) L (ix2 z (⟨o + x.val, hx⟩ : Fin 512)) := by
  rw [View.readCov_eq_canon']
  refine congrArg _ (funext (Fin.forall_fin_two.mpr ⟨?_, ?_⟩)) <;> refine Fin.ext ?_
  · show 0 + 1 * z.val = z.val; omega
  · show o + 1 * x.val = o + x.val; omega

/-- and from what the point before left. -/
theorem ldrow (O : Vec Ideal S1x512 .f32) (o : ℕ) (inb : ∀ a : Fin 2, (![0, o] : Fin 2 → ℕ) a + (![1, 128] : Fin 2 → ℕ) a ≤ S1x512.size a) (z : Fin 1) (b : Fin 512) (x : Fin 128) (h : b.val = o + x.val) :
    View.ld O (Rect.unit (s := S1x512) ![0, o] ![1, 128] inb) (ix2 z x) = O (ix2 z b) := by
  refine View.ld_unit_apply_of O _ _ inb (ix2 z x) _ (Fin.forall_fin_two.mpr ⟨?_, ?_⟩)
  · show z.val = 0 + z.val; omega
  · show b.val = o + x.val; exact h

theorem gq0 (c : Dev nD) (t : Fin cfg0.N) (w : Vec Ideal S1x128 .f32) (z : Fin 1) (x : Fin 128) (b : Fin 512) (hb : b.val = 0 + x.val) :
    (k0_pay25 (k0_pay13 (k0_pay8 (View.ld (iblk m c 7 t) (Rect.unit ![0, 0] ![512, 128] inb_S512x512_S512x128_0_0))) (k0_pay10 (View.ld (iblk m c 4 t) (Rect.unit ![0, 0] ![512, 128] inb_S512x1536_S512x128_0_0)))) w : Vec Ideal S1x128 .f32) (ix2 z x) = w (ix2 z x) + ∑ r : Fin 512, dhr (PP m c) (sq8 (DQ m c)) 0 b.val (512 * t.val + r.val) := by
  have hv : ∀ (a : Fin 512) (x : Fin 128), (View.ld (iblk m c 4 t) (Rect.unit ![0, 0] ![512, 128] inb_S512x1536_S512x128_0_0)) (ix2 a x) = PP m c (512 * t.val + a.val) (0 + x.val) := fun a x => (ldcols (iblk m c 4 t) 0 inb_S512x1536_S512x128_0_0 a x (by omega)).trans (blk4 m c t a _)
  have hu : ∀ (a : Fin 512) (x : Fin 128), (View.ld (iblk m c 7 t) (Rect.unit ![0, 0] ![512, 128] inb_S512x512_S512x128_0_0)) (ix2 a x) = R (DQ m c) (512 * t.val + a.val) (0 + x.val) := fun a x => (ldcols (iblk m c 7 t) 0 inb_S512x512_S512x128_0_0 a x (by omega)).trans (blk7 m c t a _)
  generalize (View.ld (iblk m c 4 t) (Rect.unit ![0, 0] ![512, 128] inb_S512x1536_S512x128_0_0)) = v at hv ⊢
  generalize (View.ld (iblk m c 7 t) (Rect.unit ![0, 0] ![512, 128] inb_S512x512_S512x128_0_0)) = u at hu ⊢
  generalize hk : b.val = k at hb ⊢
  pointwise [k0_pay6, k0_pay7, k0_pay8, k0_pay9, k0_pay10, k0_pay13, k0_pay25]
  refine Ideal.add_congr rfl (Fin.sum_fin_congr fun r => ?_)
  have hr := rs_at (PP m c) 0 (512 * t.val + r.val) 0 (by omega) (fun x => v (ix2 r x)) (fun x => (hv r x).trans (congrArg (PP m c (512 * t.val + r.val)) (by omega))) x
  rw [dhr, hb]
  exact Ideal.mul_congr (Ideal.mul_congr (hu r x) rfl) (Ideal.mul_congr ((hv r x).trans (congrArg (PP m c (512 * t.val + r.val)) (by omega))) hr)

theorem gq1 (c : Dev nD) (t : Fin cfg0.N) (w : Vec Ideal S1x128 .f32) (z : Fin 1) (x : Fin 128) (b : Fin 512) (hb : b.val = 128 + x.val) :
    (k0_pay48 (k0_pay36 k0_pay6 (k0_pay27 (View.ld (iblk m c 4 t) (Rect.unit ![0, 128] ![512, 128] inb_S512x1536_S512x128_0_128))) (k0_pay29 (View.ld (iblk m c 7 t) (Rect.unit ![0, 128] ![512, 128] inb_S512x512_S512x128_0_128))) (k0_pay31 k0_pay6 (View.ld (iblk m c 4 t) (Rect.unit ![0, 128] ![512, 128] inb_S512x1536_S512x128_0_128))) (k0_pay32 k0_pay6 (View.ld (iblk m c 4 t) (Rect.unit ![0, 128] ![512, 128] inb_S512x1536_S512x128_0_128)))) w : Vec Ideal S1x128 .f32) (ix2 z x) = w (ix2 z x) + ∑ r : Fin 512, dhr (PP m c) (sq8 (DQ m c)) 0 b.val (512 * t.val + r.val) := by
  have hv : ∀ (a : Fin 512) (x : Fin 128), (View.ld (iblk m c 4 t) (Rect.unit ![0, 128] ![512, 128] inb_S512x1536_S512x128_0_128)) (ix2 a x) = PP m c (512 * t.val + a.val) (128 + x.val) := fun a x => (ldcols (iblk m c 4 t) 128 inb_S512x1536_S512x128_0_128 a x (by omega)).trans (blk4 m c t a _)
  have hu : ∀ (a : Fin 512) (x : Fin 128), (View.ld (iblk m c 7 t) (Rect.unit ![0, 128] ![512, 128] inb_S512x512_S512x128_0_128)) (ix2 a x) = R (DQ m c) (512 * t.val + a.val) (128 + x.val) := fun a x => (ldcols (iblk m c 7 t) 128 inb_S512x512_S512x128_0_128 a x (by omega)).trans (blk7 m c t a _)
  generalize (View.ld (iblk m c 4 t) (Rect.unit ![0, 128] ![512, 128] inb_S512x1536_S512x128_0_128)) = v at hv ⊢
  generalize (View.ld (iblk m c 7 t) (Rect.unit ![0, 128] ![512, 128] inb_S512x512_S512x128_0_128)) = u at hu ⊢
  generalize hk : b.val = k at hb ⊢
  pointwise [k0_pay6, k0_pay27, k0_pay29, k0_pay30, k0_pay31, k0_pay32, k0_pay33, k0_pay34, k0_pay36, k0_pay48]
  refine Ideal.add_congr rfl (Fin.sum_fin_congr fun r => ?_)
  have hr := rs_at (PP m c) 0 (512 * t.val + r.val) 128 (by omega) (fun x => v (ix2 r x)) (fun x => (hv r x).trans (congrArg (PP m c (512 * t.val + r.val)) (by omega))) x
  rw [dhr, hb]
  exact Ideal.mul_congr (Ideal.mul_congr (hu r x) rfl) (Ideal.mul_congr ((hv r x).trans (congrArg (PP m c (512 * t.val + r.val)) (by omega))) hr)

theorem gq2 (c : Dev nD) (t : Fin cfg0.N) (w : Vec Ideal S1x128 .f32) (z : Fin 1) (x : Fin 128) (b : Fin 512) (hb : b.val = 256 + x.val) :
    (k0_pay71 (k0_pay59 k0_pay6 (k0_pay50 (View.ld (iblk m c 4 t) (Rect.unit ![0, 256] ![512, 128] inb_S512x1536_S512x128_0_256))) (k0_pay52 (View.ld (iblk m c 7 t) (Rect.unit ![0, 256] ![512, 128] inb_S512x512_S512x128_0_256))) (k0_pay54 k0_pay6 (View.ld (iblk m c 4 t) (Rect.unit ![0, 256] ![512, 128] inb_S512x1536_S512x128_0_256))) (k0_pay55 k0_pay6 (View.ld (iblk m c 4 t) (Rect.unit ![0, 256] ![512, 128] inb_S512x1536_S512x128_0_256))) (FloatOps.ofBits FTy.f32 1115684864#32)) w : Vec Ideal S1x128 .f32) (ix2 z x) = w (ix2 z x) + ∑ r : Fin 512, dhr (PP m c) (sq8 (DQ m c)) 0 b.val (512 * t.val + r.val) := by
  have hv : ∀ (a : Fin 512) (x : Fin 128), (View.ld (iblk m c 4 t) (Rect.unit ![0, 256] ![512, 128] inb_S512x1536_S512x128_0_256)) (ix2 a x) = PP m c (512 * t.val + a.val) (256 + x.val) := fun a x => (ldcols (iblk m c 4 t) 256 inb_S512x1536_S512x128_0_256 a x (by omega)).trans (blk4 m c t a _)
  have hu : ∀ (a : Fin 512) (x : Fin 128), (View.ld (iblk m c 7 t) (Rect.unit ![0, 256] ![512, 128] inb_S512x512_S512x128_0_256)) (ix2 a x) = R (DQ m c) (512 * t.val + a.val) (256 + x.val) := fun a x => (ldcols (iblk m c 7 t) 256 inb_S512x512_S512x128_0_256 a x (by omega)).trans (blk7 m c t a _)
  generalize (View.ld (iblk m c 4 t) (Rect.unit ![0, 256] ![512, 128] inb_S512x1536_S512x128_0_256)) = v at hv ⊢
  generalize (View.ld (iblk m c 7 t) (Rect.unit ![0, 256] ![512, 128] inb_S512x512_S512x128_0_256)) = u at hu ⊢
  generalize hk : b.val = k at hb ⊢
  pointwise [k0_pay6, k0_pay50, k0_pay52, k0_pay53, k0_pay54, k0_pay55, k0_pay56, k0_pay57, k0_pay59, k0_pay71]
  refine Ideal.add_congr rfl (Fin.sum_fin_congr fun r => ?_)
  have hr := rs_at (PP m c) 0 (512 * t.val + r.val) 256 (by omega) (fun x => v (ix2 r x)) (fun x => (hv r x).trans (congrArg (PP m c (512 * t.val + r.val)) (by omega))) x
  rw [dhr, hb]
  exact Ideal.mul_congr (Ideal.mul_congr (hu r x) rfl) (Ideal.mul_congr ((hv r x).trans (congrArg (PP m c (512 * t.val + r.val)) (by omega))) hr)

theorem gq3 (c : Dev nD) (t : Fin cfg0.N) (w : Vec Ideal S1x128 .f32) (z : Fin 1) (x : Fin 128) (b : Fin 512) (hb : b.val = 384 + x.val) :
    (k0_pay92 (k0_pay82 k0_pay6 (k0_pay73 (View.ld (iblk m c 4 t) (Rect.unit ![0, 384] ![512, 128] inb_S512x1536_S512x128_0_384))) (k0_pay75 (View.ld (iblk m c 7 t) (Rect.unit ![0, 384] ![512, 128] inb_S512x512_S512x128_0_384))) (k0_pay77 k0_pay6 (View.ld (iblk m c 4 t) (Rect.unit ![0, 384] ![512, 128] inb_S512x1536_S512x128_0_384))) (k0_pay78 k0_pay6 (View.ld (iblk m c 4 t) (Rect.unit ![0, 384] ![512, 128] inb_S512x1536_S512x128_0_384))) (FloatOps.ofBits FTy.f32 1115684864#32)) w : Vec Ideal S1x128 .f32) (ix2 z x) = w (ix2 z x) + ∑ r : Fin 512, dhr (PP m c) (sq8 (DQ m c)) 0 b.val (512 * t.val + r.val) := by
  have hv : ∀ (a : Fin 512) (x : Fin 128), (View.ld (iblk m c 4 t) (Rect.unit ![0, 384] ![512, 128] inb_S512x1536_S512x128_0_384)) (ix2 a x) = PP m c (512 * t.val + a.val) (384 + x.val) := fun a x => (ldcols (iblk m c 4 t) 384 inb_S512x1536_S512x128_0_384 a x (by omega)).trans (blk4 m c t a _)
  have hu : ∀ (a : Fin 512) (x : Fin 128), (View.ld (iblk m c 7 t) (Rect.unit ![0, 384] ![512, 128] inb_S512x512_S512x128_0_384)) (ix2 a x) = R (DQ m c) (512 * t.val + a.val) (384 + x.val) := fun a x => (ldcols (iblk m c 7 t) 384 inb_S512x512_S512x128_0_384 a x (by omega)).trans (blk7 m c t a _)
  generalize (View.ld (iblk m c 4 t) (Rect.unit ![0, 384] ![512, 128] inb_S512x1536_S512x128_0_384)) = v at hv ⊢
  generalize (View.ld (iblk m c 7 t) (Rect.unit ![0, 384] ![512, 128] inb_S512x512_S512x128_0_384)) = u at hu ⊢
  generalize hk : b.val = k at hb ⊢
  pointwise [k0_pay6, k0_pay73, k0_pay75, k0_pay76, k0_pay77, k0_pay78, k0_pay79, k0_pay80, k0_pay82, k0_pay92]
  refine Ideal.add_congr rfl (Fin.sum_fin_congr fun r => ?_)
  have hr := rs_at (PP m c) 0 (512 * t.val + r.val) 384 (by omega) (fun x => v (ix2 r x)) (fun x => (hv r x).trans (congrArg (PP m c (512 * t.val + r.val)) (by omega))) x
  rw [dhr, hb]
  exact Ideal.mul_congr (Ideal.mul_congr (hu r x) rfl) (Ideal.mul_congr ((hv r x).trans (congrArg (PP m c (512 * t.val + r.val)) (by omega))) hr)

theorem out14A (c : Dev nD) (t : Fin cfg0.N) (h0 : t.val % 16 = 0) (z : Fin 1) (b : Fin 512) : (outsAt0 m c t.val t.isLt).2.2.2.1 (ix2 z b)
    = 0 + ∑ r : Fin 512, dhr (PP m c) (sq8 (DQ m c)) 0 b.val (512 * t.val + r.val) := by
  rw [outsAt0_A m c t h0]
  frame_out
  by_cases g3 : 384 ≤ b.val
  · exact (canon_hit 384 inb_S1x512_S1x128_0_384 _ _ z b ⟨b.val - 384, by omega⟩ (by show b.val = 384 + (b.val - 384); omega)).trans ((gq3 m c t _ z ⟨b.val - 384, by omega⟩ b (by show b.val = 384 + (b.val - 384); omega)).trans (Ideal.add_congr ((backz _ _ 384 inb_S1x512_S1x128_0_384 z ⟨b.val - 384, by omega⟩ (by show 384 + (b.val - 384) < 512; omega)).trans ((canon_miss 256 inb_S1x512_S1x128_0_256 _ _ z _ (by right; show 256 + 128 ≤ 384 + (b.val - 384); omega)).trans ((canon_miss 128 inb_S1x512_S1x128_0_128 _ _ z _ (by right; show 128 + 128 ≤ 384 + (b.val - 384); omega)).trans ((canon_miss 0 inb_S1x512_S1x128_0_0 _ _ z _ (by right; show 0 + 128 ≤ 384 + (b.val - 384); omega)).trans ((canon_all _ z _).trans (zero4 z _)))))) rfl))
  by_cases g2 : 256 ≤ b.val
  · exact (canon_miss 384 inb_S1x512_S1x128_0_384 _ _ z b (by omega)).trans ((canon_hit 256 inb_S1x512_S1x128_0_256 _ _ z b ⟨b.val - 256, by omega⟩ (by show b.val = 256 + (b.val - 256); omega)).trans ((gq2 m c t _ z ⟨b.val - 256, by omega⟩ b (by show b.val = 256 + (b.val - 256); omega)).trans (Ideal.add_congr ((backz _ _ 256 inb_S1x512_S1x128_0_256 z ⟨b.val - 256, by omega⟩ (by show 256 + (b.val - 256) < 512; omega)).trans ((canon_miss 128 inb_S1x512_S1x128_0_128 _ _ z _ (by right; show 128 + 128 ≤ 256 + (b.val - 256); omega)).trans ((canon_miss 0 inb_S1x512_S1x128_0_0 _ _ z _ (by right; show 0 + 128 ≤ 256 + (b.val - 256); omega)).trans ((canon_all _ z _).trans (zero4 z _))))) rfl)))
  by_cases g1 : 128 ≤ b.val
  · exact (canon_miss 384 inb_S1x512_S1x128_0_384 _ _ z b (by omega)).trans ((canon_miss 256 inb_S1x512_S1x128_0_256 _ _ z b (by omega)).trans ((canon_hit 128 inb_S1x512_S1x128_0_128 _ _ z b ⟨b.val - 128, by omega⟩ (by show b.val = 128 + (b.val - 128); omega)).trans ((gq1 m c t _ z ⟨b.val - 128, by omega⟩ b (by show b.val = 128 + (b.val - 128); omega)).trans (Ideal.add_congr ((backz _ _ 128 inb_S1x512_S1x128_0_128 z ⟨b.val - 128, by omega⟩ (by show 128 + (b.val - 128) < 512; omega)).trans ((canon_miss 0 inb_S1x512_S1x128_0_0 _ _ z _ (by right; show 0 + 128 ≤ 128 + (b.val - 128); omega)).trans ((canon_all _ z _).trans (zero4 z _)))) rfl))))
  exact (canon_miss 384 inb_S1x512_S1x128_0_384 _ _ z b (by omega)).trans ((canon_miss 256 inb_S1x512_S1x128_0_256 _ _ z b (by omega)).trans ((canon_miss 128 inb_S1x512_S1x128_0_128 _ _ z b (by omega)).trans ((canon_hit 0 inb_S1x512_S1x128_0_0 _ _ z b ⟨b.val - 0, by omega⟩ (by show b.val = 0 + (b.val - 0); omega)).trans ((gq0 m c t _ z ⟨b.val - 0, by omega⟩ b (by show b.val = 0 + (b.val - 0); omega)).trans (Ideal.add_congr ((backz _ _ 0 inb_S1x512_S1x128_0_0 z ⟨b.val - 0, by omega⟩ (by show 0 + (b.val - 0) < 512; omega)).trans ((canon_all _ z _).trans (zero4 z _))) rfl)))))

theorem out14B (c : Dev nD) (t : Fin cfg0.N) (h0 : ¬ t.val % 16 = 0) (z : Fin 1) (b : Fin 512) : (outsAt0 m c t.val t.isLt).2.2.2.1 (ix2 z b)
    = (outsAt0 m c (t.val - 1) (Nat.lt_of_le_of_lt (Nat.sub_le _ _) t.isLt)).2.2.2.1 (ix2 z b) + ∑ r : Fin 512, dhr (PP m c) (sq8 (DQ m c)) 0 b.val (512 * t.val + r.val) := by
  rw [outsAt0_B m c t h0]
  frame_out
  by_cases g3 : 384 ≤ b.val
  · exact (canon_hit 384 inb_S1x512_S1x128_0_384 _ _ z b ⟨b.val - 384, by omega⟩ (by show b.val = 384 + (b.val - 384); omega)).trans ((gq3 m c t _ z ⟨b.val - 384, by omega⟩ b (by show b.val = 384 + (b.val - 384); omega)).trans (Ideal.add_congr (ldrow _ 384 inb_S1x512_S1x128_0_384 z b ⟨b.val - 384, by omega⟩ (by show b.val = 384 + (b.val - 384); omega)) rfl))
  by_cases g2 : 256 ≤ b.val
  · exact (canon_miss 384 inb_S1x512_S1x128_0_384 _ _ z b (by omega)).trans ((canon_hit 256 inb_S1x512_S1x128_0_256 _ _ z b ⟨b.val - 256, by omega⟩ (by show b.val = 256 + (b.val - 256); omega)).trans ((gq2 m c t _ z ⟨b.val - 256, by omega⟩ b (by show b.val = 256 + (b.val - 256); omega)).trans (Ideal.add_congr (ldrow _ 256 inb_S1x512_S1x128_0_256 z b ⟨b.val - 256, by omega⟩ (by show b.val = 256 + (b.val - 256); omega)) rfl)))
  by_cases g1 : 128 ≤ b.val
  · exact (canon_miss 384 inb_S1x512_S1x128_0_384 _ _ z b (by omega)).trans ((canon_miss 256 inb_S1x512_S1x128_0_256 _ _ z b (by omega)).trans ((canon_hit 128 inb_S1x512_S1x128_0_128 _ _ z b ⟨b.val - 128, by omega⟩ (by show b.val = 128 + (b.val - 128); omega)).trans ((gq1 m c t _ z ⟨b.val - 128, by omega⟩ b (by show b.val = 128 + (b.val - 128); omega)).trans (Ideal.add_congr (ldrow _ 128 inb_S1x512_S1x128_0_128 z b ⟨b.val - 128, by omega⟩ (by show b.val = 128 + (b.val - 128); omega)) rfl))))
  exact (canon_miss 384 inb_S1x512_S1x128_0_384 _ _ z b (by omega)).trans ((canon_miss 256 inb_S1x512_S1x128_0_256 _ _ z b (by omega)).trans ((canon_miss 128 inb_S1x512_S1x128_0_128 _ _ z b (by omega)).trans ((canon_hit 0 inb_S1x512_S1x128_0_0 _ _ z b ⟨b.val - 0, by omega⟩ (by show b.val = 0 + (b.val - 0); omega)).trans ((gq0 m c t _ z ⟨b.val - 0, by omega⟩ b (by show b.val = 0 + (b.val - 0); omega)).trans (Ideal.add_congr (ldrow _ 0 inb_S1x512_S1x128_0_0 z b ⟨b.val - 0, by omega⟩ (by show b.val = 0 + (b.val - 0); omega)) rfl)))))

theorem at14 (c : Dev nD) (z : Fin 1) (b : Fin 512) : ∀ (k : ℕ) (h : k < cfg0.N), (outsAt0 m c k h).2.2.2.1 (ix2 z b) = acc (dhr (PP m c) (sq8 (DQ m c)) 0 b.val) (k + 1)
  | 0, h => (out14A m c ⟨0, h⟩ rfl z b).trans (acc_succ _ 0).symm
  | k + 1, h => by
    have hN : k + 1 < 16 := lt_of_lt_of_eq h N_0
    exact (out14B m c ⟨k + 1, h⟩ (by show ¬(k + 1) % 16 = 0; omega) z b).trans ((Ideal.add_congr (at14 c z b k (by omega)) rfl).trans (acc_succ _ (k + 1)).symm)

theorem gk0 (c : Dev nD) (t : Fin cfg0.N) (w : Vec Ideal S1x128 .f32) (z : Fin 1) (x : Fin 128) (b : Fin 512) (hb : b.val = 0 + x.val) :
    (k0_pay26 (k0_pay21 k0_pay6 (k0_pay14 (View.ld (iblk m c 4 t) (Rect.unit ![0, 512] ![512, 128] inb_S512x1536_S512x128_0_512))) (View.ld (iblk m c 8 t) (Rect.unit ![0, 0] ![512, 128] inb_S512x512_S512x128_0_0)) (k0_pay17 k0_pay6 (View.ld (iblk m c 4 t) (Rect.unit ![0, 512] ![512, 128] inb_S512x1536_S512x128_0_512))) (k0_pay18 k0_pay6 (View.ld (iblk m c 4 t) (Rect.unit ![0, 512] ![512, 128] inb_S512x1536_S512x128_0_512))) (FloatOps.ofBits FTy.f32 1115684864#32)) w : Vec Ideal S1x128 .f32) (ix2 z x) = w (ix2 z x) + ∑ r : Fin 512, dhr (PP m c) (R (DK m c)) 512 b.val (512 * t.val + r.val) := by
  have hv : ∀ (a : Fin 512) (x : Fin 128), (View.ld (iblk m c 4 t) (Rect.unit ![0, 512] ![512, 128] inb_S512x1536_S512x128_0_512)) (ix2 a x) = PP m c (512 * t.val + a.val) (512 + x.val) := fun a x => (ldcols (iblk m c 4 t) 512 inb_S512x1536_S512x128_0_512 a x (by omega)).trans (blk4 m c t a _)
  have hu : ∀ (a : Fin 512) (x : Fin 128), (View.ld (iblk m c 8 t) (Rect.unit ![0, 0] ![512, 128] inb_S512x512_S512x128_0_0)) (ix2 a x) = R (DK m c) (512 * t.val + a.val) (0 + x.val) := fun a x => (ldcols (iblk m c 8 t) 0 inb_S512x512_S512x128_0_0 a x (by omega)).trans (blk8 m c t a _)
  generalize (View.ld (iblk m c 4 t) (Rect.unit ![0, 512] ![512, 128] inb_S512x1536_S512x128_0_512)) = v at hv ⊢
  generalize (View.ld (iblk m c 8 t) (Rect.unit ![0, 0] ![512, 128] inb_S512x512_S512x128_0_0)) = u at hu ⊢
  generalize hk : b.val = k at hb ⊢
  pointwise [k0_pay6, k0_pay14, k0_pay16, k0_pay17, k0_pay18, k0_pay19, k0_pay20, k0_pay21, k0_pay26]
  refine Ideal.add_congr rfl (Fin.sum_fin_congr fun r => ?_)
  have hr := rs_at (PP m c) 512 (512 * t.val + r.val) 0 (by omega) (fun x => v (ix2 r x)) (fun x => (hv r x).trans (congrArg (PP m c (512 * t.val + r.val)) (by omega))) x
  rw [dhr, hb]
  exact Ideal.mul_congr (hu r x) (Ideal.mul_congr ((hv r x).trans (congrArg (PP m c (512 * t.val + r.val)) (by omega))) hr)

theorem gk1 (c : Dev nD) (t : Fin cfg0.N) (w : Vec Ideal S1x128 .f32) (z : Fin 1) (x : Fin 128) (b : Fin 512) (hb : b.val = 128 + x.val) :
    (k0_pay49 (k0_pay44 k0_pay6 (k0_pay37 (View.ld (iblk m c 4 t) (Rect.unit ![0, 640] ![512, 128] inb_S512x1536_S512x128_0_640))) (View.ld (iblk m c 8 t) (Rect.unit ![0, 128] ![512, 128] inb_S512x512_S512x128_0_128)) (k0_pay40 k0_pay6 (View.ld (iblk m c 4 t) (Rect.unit ![0, 640] ![512, 128] inb_S512x1536_S512x128_0_640))) (k0_pay41 k0_pay6 (View.ld (iblk m c 4 t) (Rect.unit ![0, 640] ![512, 128] inb_S512x1536_S512x128_0_640))) (FloatOps.ofBits FTy.f32 1115684864#32)) w : Vec Ideal S1x128 .f32) (ix2 z x) = w (ix2 z x) + ∑ r : Fin 512, dhr (PP m c) (R (DK m c)) 512 b.val (512 * t.val + r.val) := by
  have hv : ∀ (a : Fin 512) (x : Fin 128), (View.ld (iblk m c 4 t) (Rect.unit ![0, 640] ![512, 128] inb_S512x1536_S512x128_0_640)) (ix2 a x) = PP m c (512 * t.val + a.val) (640 + x.val) := fun a x => (ldcols (iblk m c 4 t) 640 inb_S512x1536_S512x128_0_640 a x (by omega)).trans (blk4 m c t a _)
  have hu : ∀ (a : Fin 512) (x : Fin 128), (View.ld (iblk m c 8 t) (Rect.unit ![0, 128] ![512, 128] inb_S512x512_S512x128_0_128)) (ix2 a x) = R (DK m c) (512 * t.val + a.val) (128 + x.val) := fun a x => (ldcols (iblk m c 8 t) 128 inb_S512x512_S512x128_0_128 a x (by omega)).trans (blk8 m c t a _)
  generalize (View.ld (iblk m c 4 t) (Rect.unit ![0, 640] ![512, 128] inb_S512x1536_S512x128_0_640)) = v at hv ⊢
  generalize (View.ld (iblk m c 8 t) (Rect.unit ![0, 128] ![512, 128] inb_S512x512_S512x128_0_128)) = u at hu ⊢
  generalize hk : b.val = k at hb ⊢
  pointwise [k0_pay6, k0_pay37, k0_pay39, k0_pay40, k0_pay41, k0_pay42, k0_pay43, k0_pay44, k0_pay49]
  refine Ideal.add_congr rfl (Fin.sum_fin_congr fun r => ?_)
  have hr := rs_at (PP m c) 512 (512 * t.val + r.val) 128 (by omega) (fun x => v (ix2 r x)) (fun x => (hv r x).trans (congrArg (PP m c (512 * t.val + r.val)) (by omega))) x
  rw [dhr, hb]
  exact Ideal.mul_congr (hu r x) (Ideal.mul_congr ((hv r x).trans (congrArg (PP m c (512 * t.val + r.val)) (by omega))) hr)

theorem gk2 (c : Dev nD) (t : Fin cfg0.N) (w : Vec Ideal S1x128 .f32) (z : Fin 1) (x : Fin 128) (b : Fin 512) (hb : b.val = 256 + x.val) :
    (k0_pay72 (k0_pay67 k0_pay6 (k0_pay60 (View.ld (iblk m c 4 t) (Rect.unit ![0, 768] ![512, 128] inb_S512x1536_S512x128_0_768))) (View.ld (iblk m c 8 t) (Rect.unit ![0, 256] ![512, 128] inb_S512x512_S512x128_0_256)) (k0_pay62 (View.ld (iblk m c 4 t) (Rect.unit ![0, 768] ![512, 128] inb_S512x1536_S512x128_0_768))) (k0_pay63 k0_pay6 (View.ld (iblk m c 4 t) (Rect.unit ![0, 768] ![512, 128] inb_S512x1536_S512x128_0_768)))) w : Vec Ideal S1x128 .f32) (ix2 z x) = w (ix2 z x) + ∑ r : Fin 512, dhr (PP m c) (R (DK m c)) 512 b.val (512 * t.val + r.val) := by
  have hv : ∀ (a : Fin 512) (x : Fin 128), (View.ld (iblk m c 4 t) (Rect.unit ![0, 768] ![512, 128] inb_S512x1536_S512x128_0_768)) (ix2 a x) = PP m c (512 * t.val + a.val) (768 + x.val) := fun a x => (ldcols (iblk m c 4 t) 768 inb_S512x1536_S512x128_0_768 a x (by omega)).trans (blk4 m c t a _)
  have hu : ∀ (a : Fin 512) (x : Fin 128), (View.ld (iblk m c 8 t) (Rect.unit ![0, 256] ![512, 128] inb_S512x512_S512x128_0_256)) (ix2 a x) = R (DK m c) (512 * t.val + a.val) (256 + x.val) := fun a x => (ldcols (iblk m c 8 t) 256 inb_S512x512_S512x128_0_256 a x (by omega)).trans (blk8 m c t a _)
  generalize (View.ld (iblk m c 4 t) (Rect.unit ![0, 768] ![512, 128] inb_S512x1536_S512x128_0_768)) = v at hv ⊢
  generalize (View.ld (iblk m c 8 t) (Rect.unit ![0, 256] ![512, 128] inb_S512x512_S512x128_0_256)) = u at hu ⊢
  generalize hk : b.val = k at hb ⊢
  pointwise [k0_pay6, k0_pay60, k0_pay62, k0_pay63, k0_pay64, k0_pay65, k0_pay67, k0_pay72]
  refine Ideal.add_congr rfl (Fin.sum_fin_congr fun r => ?_)
  have hr := rs_at (PP m c) 512 (512 * t.val + r.val) 256 (by omega) (fun x => v (ix2 r x)) (fun x => (hv r x).trans (congrArg (PP m c (512 * t.val + r.val)) (by omega))) x
  rw [dhr, hb]
  exact Ideal.mul_congr (hu r x) (Ideal.mul_congr ((hv r x).trans (congrArg (PP m c (512 * t.val + r.val)) (by omega))) hr)

theorem gk3 (c : Dev nD) (t : Fin cfg0.N) (w : Vec Ideal S1x128 .f32) (z : Fin 1) (x : Fin 128) (b : Fin 512) (hb : b.val = 384 + x.val) :
    (k0_pay93 (k0_pay88 k0_pay6 (k0_pay83 (View.ld (iblk m c 4 t) (Rect.unit ![0, 896] ![512, 128] inb_S512x1536_S512x128_0_896))) (View.ld (iblk m c 8 t) (Rect.unit ![0, 384] ![512, 128] inb_S512x512_S512x128_0_384))) w : Vec Ideal S1x128 .f32) (ix2 z x) = w (ix2 z x) + ∑ r : Fin 512, dhr (PP m c) (R (DK m c)) 512 b.val (512 * t.val + r.val) := by
  have hv : ∀ (a : Fin 512) (x : Fin 128), (View.ld (iblk m c 4 t) (Rect.unit ![0, 896] ![512, 128] inb_S512x1536_S512x128_0_896)) (ix2 a x) = PP m c (512 * t.val + a.val) (896 + x.val) := fun a x => (ldcols (iblk m c 4 t) 896 inb_S512x1536_S512x128_0_896 a x (by omega)).trans (blk4 m c t a _)
  have hu : ∀ (a : Fin 512) (x : Fin 128), (View.ld (iblk m c 8 t) (Rect.unit ![0, 384] ![512, 128] inb_S512x512_S512x128_0_384)) (ix2 a x) = R (DK m c) (512 * t.val + a.val) (384 + x.val) := fun a x => (ldcols (iblk m c 8 t) 384 inb_S512x512_S512x128_0_384 a x (by omega)).trans (blk8 m c t a _)
  generalize (View.ld (iblk m c 4 t) (Rect.unit ![0, 896] ![512, 128] inb_S512x1536_S512x128_0_896)) = v at hv ⊢
  generalize (View.ld (iblk m c 8 t) (Rect.unit ![0, 384] ![512, 128] inb_S512x512_S512x128_0_384)) = u at hu ⊢
  generalize hk : b.val = k at hb ⊢
  pointwise [k0_pay6, k0_pay83, k0_pay85, k0_pay86, k0_pay88, k0_pay93]
  refine Ideal.add_congr rfl (Fin.sum_fin_congr fun r => ?_)
  have hr := rs_at (PP m c) 512 (512 * t.val + r.val) 384 (by omega) (fun x => v (ix2 r x)) (fun x => (hv r x).trans (congrArg (PP m c (512 * t.val + r.val)) (by omega))) x
  rw [dhr, hb]
  exact Ideal.mul_congr (hu r x) (Ideal.mul_congr ((hv r x).trans (congrArg (PP m c (512 * t.val + r.val)) (by omega))) hr)

theorem out15A (c : Dev nD) (t : Fin cfg0.N) (h0 : t.val % 16 = 0) (z : Fin 1) (b : Fin 512) : (outsAt0 m c t.val t.isLt).2.2.2.2 (ix2 z b)
    = 0 + ∑ r : Fin 512, dhr (PP m c) (R (DK m c)) 512 b.val (512 * t.val + r.val) := by
  rw [outsAt0_A m c t h0]
  frame_out
  by_cases g3 : 384 ≤ b.val
  · exact (canon_hit 384 inb_S1x512_S1x128_0_384 _ _ z b ⟨b.val - 384, by omega⟩ (by show b.val = 384 + (b.val - 384); omega)).trans ((gk3 m c t _ z ⟨b.val - 384, by omega⟩ b (by show b.val = 384 + (b.val - 384); omega)).trans (Ideal.add_congr ((backz _ _ 384 inb_S1x512_S1x128_0_384 z ⟨b.val - 384, by omega⟩ (by show 384 + (b.val - 384) < 512; omega)).trans ((canon_miss 256 inb_S1x512_S1x128_0_256 _ _ z _ (by right; show 256 + 128 ≤ 384 + (b.val - 384); omega)).trans ((canon_miss 128 inb_S1x512_S1x128_0_128 _ _ z _ (by right; show 128 + 128 ≤ 384 + (b.val - 384); omega)).trans ((canon_miss 0 inb_S1x512_S1x128_0_0 _ _ z _ (by right; show 0 + 128 ≤ 384 + (b.val - 384); omega)).trans ((canon_all _ z _).trans (zero5 z _)))))) rfl))
  by_cases g2 : 256 ≤ b.val
  · exact (canon_miss 384 inb_S1x512_S1x128_0_384 _ _ z b (by omega)).trans ((canon_hit 256 inb_S1x512_S1x128_0_256 _ _ z b ⟨b.val - 256, by omega⟩ (by show b.val = 256 + (b.val - 256); omega)).trans ((gk2 m c t _ z ⟨b.val - 256, by omega⟩ b (by show b.val = 256 + (b.val - 256); omega)).trans (Ideal.add_congr ((backz _ _ 256 inb_S1x512_S1x128_0_256 z ⟨b.val - 256, by omega⟩ (by show 256 + (b.val - 256) < 512; omega)).trans ((canon_miss 128 inb_S1x512_S1x128_0_128 _ _ z _ (by right; show 128 + 128 ≤ 256 + (b.val - 256); omega)).trans ((canon_miss 0 inb_S1x512_S1x128_0_0 _ _ z _ (by right; show 0 + 128 ≤ 256 + (b.val - 256); omega)).trans ((canon_all _ z _).trans (zero5 z _))))) rfl)))
  by_cases g1 : 128 ≤ b.val
  · exact (canon_miss 384 inb_S1x512_S1x128_0_384 _ _ z b (by omega)).trans ((canon_miss 256 inb_S1x512_S1x128_0_256 _ _ z b (by omega)).trans ((canon_hit 128 inb_S1x512_S1x128_0_128 _ _ z b ⟨b.val - 128, by omega⟩ (by show b.val = 128 + (b.val - 128); omega)).trans ((gk1 m c t _ z ⟨b.val - 128, by omega⟩ b (by show b.val = 128 + (b.val - 128); omega)).trans (Ideal.add_congr ((backz _ _ 128 inb_S1x512_S1x128_0_128 z ⟨b.val - 128, by omega⟩ (by show 128 + (b.val - 128) < 512; omega)).trans ((canon_miss 0 inb_S1x512_S1x128_0_0 _ _ z _ (by right; show 0 + 128 ≤ 128 + (b.val - 128); omega)).trans ((canon_all _ z _).trans (zero5 z _)))) rfl))))
  exact (canon_miss 384 inb_S1x512_S1x128_0_384 _ _ z b (by omega)).trans ((canon_miss 256 inb_S1x512_S1x128_0_256 _ _ z b (by omega)).trans ((canon_miss 128 inb_S1x512_S1x128_0_128 _ _ z b (by omega)).trans ((canon_hit 0 inb_S1x512_S1x128_0_0 _ _ z b ⟨b.val - 0, by omega⟩ (by show b.val = 0 + (b.val - 0); omega)).trans ((gk0 m c t _ z ⟨b.val - 0, by omega⟩ b (by show b.val = 0 + (b.val - 0); omega)).trans (Ideal.add_congr ((backz _ _ 0 inb_S1x512_S1x128_0_0 z ⟨b.val - 0, by omega⟩ (by show 0 + (b.val - 0) < 512; omega)).trans ((canon_all _ z _).trans (zero5 z _))) rfl)))))

theorem out15B (c : Dev nD) (t : Fin cfg0.N) (h0 : ¬ t.val % 16 = 0) (z : Fin 1) (b : Fin 512) : (outsAt0 m c t.val t.isLt).2.2.2.2 (ix2 z b)
    = (outsAt0 m c (t.val - 1) (Nat.lt_of_le_of_lt (Nat.sub_le _ _) t.isLt)).2.2.2.2 (ix2 z b) + ∑ r : Fin 512, dhr (PP m c) (R (DK m c)) 512 b.val (512 * t.val + r.val) := by
  rw [outsAt0_B m c t h0]
  frame_out
  by_cases g3 : 384 ≤ b.val
  · exact (canon_hit 384 inb_S1x512_S1x128_0_384 _ _ z b ⟨b.val - 384, by omega⟩ (by show b.val = 384 + (b.val - 384); omega)).trans ((gk3 m c t _ z ⟨b.val - 384, by omega⟩ b (by show b.val = 384 + (b.val - 384); omega)).trans (Ideal.add_congr (ldrow _ 384 inb_S1x512_S1x128_0_384 z b ⟨b.val - 384, by omega⟩ (by show b.val = 384 + (b.val - 384); omega)) rfl))
  by_cases g2 : 256 ≤ b.val
  · exact (canon_miss 384 inb_S1x512_S1x128_0_384 _ _ z b (by omega)).trans ((canon_hit 256 inb_S1x512_S1x128_0_256 _ _ z b ⟨b.val - 256, by omega⟩ (by show b.val = 256 + (b.val - 256); omega)).trans ((gk2 m c t _ z ⟨b.val - 256, by omega⟩ b (by show b.val = 256 + (b.val - 256); omega)).trans (Ideal.add_congr (ldrow _ 256 inb_S1x512_S1x128_0_256 z b ⟨b.val - 256, by omega⟩ (by show b.val = 256 + (b.val - 256); omega)) rfl)))
  by_cases g1 : 128 ≤ b.val
  · exact (canon_miss 384 inb_S1x512_S1x128_0_384 _ _ z b (by omega)).trans ((canon_miss 256 inb_S1x512_S1x128_0_256 _ _ z b (by omega)).trans ((canon_hit 128 inb_S1x512_S1x128_0_128 _ _ z b ⟨b.val - 128, by omega⟩ (by show b.val = 128 + (b.val - 128); omega)).trans ((gk1 m c t _ z ⟨b.val - 128, by omega⟩ b (by show b.val = 128 + (b.val - 128); omega)).trans (Ideal.add_congr (ldrow _ 128 inb_S1x512_S1x128_0_128 z b ⟨b.val - 128, by omega⟩ (by show b.val = 128 + (b.val - 128); omega)) rfl))))
  exact (canon_miss 384 inb_S1x512_S1x128_0_384 _ _ z b (by omega)).trans ((canon_miss 256 inb_S1x512_S1x128_0_256 _ _ z b (by omega)).trans ((canon_miss 128 inb_S1x512_S1x128_0_128 _ _ z b (by omega)).trans ((canon_hit 0 inb_S1x512_S1x128_0_0 _ _ z b ⟨b.val - 0, by omega⟩ (by show b.val = 0 + (b.val - 0); omega)).trans ((gk0 m c t _ z ⟨b.val - 0, by omega⟩ b (by show b.val = 0 + (b.val - 0); omega)).trans (Ideal.add_congr (ldrow _ 0 inb_S1x512_S1x128_0_0 z b ⟨b.val - 0, by omega⟩ (by show b.val = 0 + (b.val - 0); omega)) rfl)))))

theorem at15 (c : Dev nD) (z : Fin 1) (b : Fin 512) : ∀ (k : ℕ) (h : k < cfg0.N), (outsAt0 m c k h).2.2.2.2 (ix2 z b) = acc (dhr (PP m c) (R (DK m c)) 512 b.val) (k + 1)
  | 0, h => (out15A m c ⟨0, h⟩ rfl z b).trans (acc_succ _ 0).symm
  | k + 1, h => by
    have hN : k + 1 < 16 := lt_of_lt_of_eq h N_0
    exact (out15B m c ⟨k + 1, h⟩ (by show ¬(k + 1) % 16 = 0; omega) z b).trans ((Ideal.add_congr (at15 c z b k (by omega)) rfl).trans (acc_succ _ (k + 1)).symm)

theorem final11 (c : Dev nD) : (dats m 0 c).arrAt 11 cfg0.N = fun i : S8192x1024.Idx => dx (X0 m c) (E0 m c) (G0 m c) (dh (DP m c) (W0 m c)) (i 0).val (i 1).val := by
  refine (dats m 0 c).arrAt_eq_of_covers 11 _ (by decide +kernel) fun t hf y => ?_
  blk_simp
  rw [after0_11]
  refine (congrArg _ (eq_ix2 (n0 := 512) (n1 := 1024) y)).trans ((out11 m c t (y 0) (y 1)).trans ?_)
  have e := idx_val t
  simp only [e]
  simp [Nat.mul_comm]

theorem final12 (c : Dev nD) : (dats m 0 c).arrAt 12 cfg0.N = fun i : S1x1024.Idx => ∑ n : Fin 8192, dgr (X0 m c) (dh (DP m c) (W0 m c)) (i 1).val n.val := by
  refine (dats m 0 c).arrAt_eq_of_covers 12 _ (by decide +kernel) fun t hf y => ?_
  have h3 := (flush0_12 t).mp hf
  have hN : t.val < 16 := lt_of_lt_of_eq t.isLt N_0
  blk_simp
  rw [after0_12]
  refine (congrArg _ (eq_ix2 (n0 := 1) (n1 := 1024) y)).trans ((at12 m c (y 0) (y 1) t.val t.isLt).trans ?_)
  rw [show t.val + 1 = 16 by omega, acc_all]
  have e := idx_val t
  simp only [e]
  simp

theorem final13 (c : Dev nD) : (dats m 0 c).arrAt 13 cfg0.N = fun i : S8192x3072.Idx => DP m c (i 0).val (i 1).val := by
  refine (dats m 0 c).arrAt_eq_of_covers 13 _ (by decide +kernel) fun t hf y => ?_
  blk_simp
  rw [after0_13]
  refine (congrArg _ (eq_ix2 (n0 := 512) (n1 := 3072) y)).trans ((out13 m c t (y 0) (y 1)).trans ?_)
  have e := idx_val t
  simp only [e]
  simp [Nat.mul_comm]

theorem final14 (c : Dev nD) : (dats m 0 c).arrAt 14 cfg0.N = fun i : S1x512.Idx => ∑ n : Fin 8192, dhr (PP m c) (sq8 (DQ m c)) 0 (i 1).val n.val := by
  refine (dats m 0 c).arrAt_eq_of_covers 14 _ (by decide +kernel) fun t hf y => ?_
  have h3 := (flush0_14 t).mp hf
  have hN : t.val < 16 := lt_of_lt_of_eq t.isLt N_0
  blk_simp
  rw [after0_14]
  refine (congrArg _ (eq_ix2 (n0 := 1) (n1 := 512) y)).trans ((at14 m c (y 0) (y 1) t.val t.isLt).trans ?_)
  rw [show t.val + 1 = 16 by omega, acc_all]
  have e := idx_val t
  simp only [e]
  simp

theorem final15 (c : Dev nD) : (dats m 0 c).arrAt 15 cfg0.N = fun i : S1x512.Idx => ∑ n : Fin 8192, dhr (PP m c) (R (DK m c)) 512 (i 1).val n.val := by
  refine (dats m 0 c).arrAt_eq_of_covers 15 _ (by decide +kernel) fun t hf y => ?_
  have h3 := (flush0_15 t).mp hf
  have hN : t.val < 16 := lt_of_lt_of_eq t.isLt N_0
  blk_simp
  rw [after0_15]
  refine (congrArg _ (eq_ix2 (n0 := 1) (n1 := 512) y)).trans ((at15 m c (y 0) (y 1) t.val t.isLt).trans ?_)
  rw [show t.val + 1 = 16 by omega, acc_all]
  have e := idx_val t
  simp only [e]
  simp

end Cert.InProjBwdIdeal.Calc

namespace Cert.InProjBwdRefIdeal.Calc

open Idealize.ShloMosaic Idealize.ShloMosaic.TcCoe Cert.Base Cert.Rms
open Cert.InProjBwdRefIdeal Cert.InProjBwdRefIdeal.Read
open Cert.InProjIdeal.Calc (hn pj)
open Cert.InProjBwdIdeal.Calc (rr dqk sq8 dp dh rx dx dgr dhr)

variable (X E : FVec Ideal S8192x1024 .f32) (G : FVec Ideal S1024 .f32) (W : FVec Ideal S1024x3072 .f32) (Q K : FVec Ideal S64 .f32)
  (DQ DK DV : FVec Ideal S8192x512 .f32) (DC : FVec Ideal S8192x3072 .bf16)

theorem ref16_at (a : Fin 8192) (b : Fin 3072) : val_main_v16 (F := Ideal) X G W (ix2 a b) = pj X G W a.val b.val := by
  pointwise [val_main_v16, val_main_v15, val_main_v14, val_main_v13, val_main_v12, val_main_v11, val_main_v7, val_main_v6, val_main_v5, val_main_v4, val_main_v3, val_main_v2, val_main_v1, val_main_v0, val_main_cst, val_main_cst_0, val_main_cst_1]
  simp only [R_ix, R1_ix, pj, hn]

theorem r16 (n k : ℕ) (ha : n < 8192) (hk : k < 3072) : R (val_main_v16 (F := Ideal) X G W) n k = pj X G W n k := by
  rw [R_of _ ha hk]
  exact ref16_at X G W ⟨n, ha⟩ ⟨k, hk⟩

/-- The gradient of a head's normalised row, the reference's way and the body's. -/
theorem head (p d : ℕ → EReal) (g : FVec Ideal S64 .f32) (k : ℕ) (hp : ∀ j, Re (p j)) (hd : ∀ j, Re (d j)) (hg : ∀ i, Re (g i)) :
    d k * R1 g (k % 64) * Ideal.rsqrt (Ideal.div (∑ x : Fin 64, p (k / 64 * 64 + x.val) * p (k / 64 * 64 + x.val)) (Ideal.ofBits .f32 1115684864#32) + Ideal.ofBits .f32 897988541#32)
      + p k * ∑ _x : Fin 1, Ideal.div ((∑ x : Fin 64, p (k / 64 * 64 + x.val) * (d (k / 64 * 64 + x.val) * R1 g x.val)) * (Ideal.ofBits .f32 3204448256#32 * Ideal.div (Ideal.rsqrt (Ideal.div (∑ x : Fin 64, p (k / 64 * 64 + x.val) * p (k / 64 * 64 + x.val)) (Ideal.ofBits .f32 1115684864#32) + Ideal.ofBits .f32 897988541#32)) (Ideal.div (∑ x : Fin 64, p (k / 64 * 64 + x.val) * p (k / 64 * 64 + x.val)) (Ideal.ofBits .f32 1115684864#32) + Ideal.ofBits .f32 897988541#32))) (Ideal.ofBits .f32 1115684864#32)
      + (∑ _x : Fin 1, Ideal.div ((∑ x : Fin 64, p (k / 64 * 64 + x.val) * (d (k / 64 * 64 + x.val) * R1 g x.val)) * (Ideal.ofBits .f32 3204448256#32 * Ideal.div (Ideal.rsqrt (Ideal.div (∑ x : Fin 64, p (k / 64 * 64 + x.val) * p (k / 64 * 64 + x.val)) (Ideal.ofBits .f32 1115684864#32) + Ideal.ofBits .f32 897988541#32)) (Ideal.div (∑ x : Fin 64, p (k / 64 * 64 + x.val) * p (k / 64 * 64 + x.val)) (Ideal.ofBits .f32 1115684864#32) + Ideal.ofBits .f32 897988541#32))) (Ideal.ofBits .f32 1115684864#32)) * p k
    = Ideal.rsqrt (Ideal.div (∑ x : Fin 64, p (k / 64 * 64 + x.val) * p (k / 64 * 64 + x.val)) (Ideal.ofBits .f32 1115684864#32) + Ideal.ofBits .f32 897988541#32) * (d k * R1 g (k % 64) - p k * Ideal.rsqrt (Ideal.div (∑ x : Fin 64, p (k / 64 * 64 + x.val) * p (k / 64 * 64 + x.val)) (Ideal.ofBits .f32 1115684864#32) + Ideal.ofBits .f32 897988541#32)
        * Ideal.div (∑ x : Fin 64, d (k / 64 * 64 + x.val) * R1 g x.val * (p (k / 64 * 64 + x.val) * Ideal.rsqrt (Ideal.div (∑ x : Fin 64, p (k / 64 * 64 + x.val) * p (k / 64 * 64 + x.val)) (Ideal.ofBits .f32 1115684864#32) + Ideal.ofBits .f32 897988541#32))) (Ideal.ofBits .f32 1115684864#32)) := by
  have h := norm_bwd (N := 64) (fun x => p (k / 64 * 64 + x.val)) (fun x => d (k / 64 * 64 + x.val) * R1 g x.val) (fun x => hp _) (fun x => (hd _).mul (re_R1 hg _)) 64 (by norm_num) _ c64 ⟨k % 64, Nat.mod_lt _ (by norm_num)⟩
  simp only [Nat.div_add_mod' k 64] at h
  simp only [Fin.sum_univ_one]
  exact h.symm

/-- The gradient of the input's normalised row. -/
theorem row (h : ℕ → EReal) (n k : ℕ) (hk : k < 1024) (hX : ∀ i, Re (X i)) (hG : ∀ i, Re (G i)) (hh : ∀ j, Re (h j)) :
    h k * R1 G k * Ideal.rsqrt (Ideal.div (∑ x : Fin 1024, R X n x.val * R X n x.val) (Ideal.ofBits .f32 1149239296#32) + Ideal.ofBits .f32 897988541#32)
      + R X n k * ∑ _x : Fin 1, Ideal.div ((∑ x : Fin 1024, R X n x.val * (h x.val * R1 G x.val)) * (Ideal.ofBits .f32 3204448256#32 * Ideal.div (Ideal.rsqrt (Ideal.div (∑ x : Fin 1024, R X n x.val * R X n x.val) (Ideal.ofBits .f32 1149239296#32) + Ideal.ofBits .f32 897988541#32)) (Ideal.div (∑ x : Fin 1024, R X n x.val * R X n x.val) (Ideal.ofBits .f32 1149239296#32) + Ideal.ofBits .f32 897988541#32))) (Ideal.ofBits .f32 1149239296#32)
      + (∑ _x : Fin 1, Ideal.div ((∑ x : Fin 1024, R X n x.val * (h x.val * R1 G x.val)) * (Ideal.ofBits .f32 3204448256#32 * Ideal.div (Ideal.rsqrt (Ideal.div (∑ x : Fin 1024, R X n x.val * R X n x.val) (Ideal.ofBits .f32 1149239296#32) + Ideal.ofBits .f32 897988541#32)) (Ideal.div (∑ x : Fin 1024, R X n x.val * R X n x.val) (Ideal.ofBits .f32 1149239296#32) + Ideal.ofBits .f32 897988541#32))) (Ideal.ofBits .f32 1149239296#32)) * R X n k
    = rx X n * (h k * R1 G k - R X n k * rx X n * Ideal.div (∑ x : Fin 1024, h x.val * R1 G x.val * (R X n x.val * rx X n)) (Ideal.ofBits .f32 1149239296#32)) := by
  have e := norm_bwd (N := 1024) (fun x => R X n x.val) (fun x => h x.val * R1 G x.val) (fun x => re_R hX _ _) (fun x => (hh _).mul (re_R1 hG _)) 1024 (by norm_num) _ c1024 ⟨k, hk⟩
  simp only [Fin.sum_univ_one, rx]
  exact e.symm

variable (hX : ∀ i, Re (X i)) (hG : ∀ i, Re (G i)) (hW : ∀ i, Re (W i)) (hQ : ∀ i, Re (Q i)) (hK : ∀ i, Re (K i))
  (hDQ : ∀ i, Re (DQ i)) (hDK : ∀ i, Re (DK i)) (hDV : ∀ i, Re (DV i)) (hDC : ∀ i, Re (DC i))

include hX hG hW in
theorem re_pj (n b : ℕ) : Re (pj X G W n b) :=
  Re.sum _ fun k => (((re_R hX _ _).mul (re_root (N := 1024) (fun x => R X n x.val) (fun x => re_R hX _ _) 1024 (by norm_num) _ c1024)).mul (re_R1 hG _)).mul (re_R hW _ _)

theorem re_rr (P : ℕ → ℕ → EReal) (hP : ∀ n k, Re (P n k)) (o n k : ℕ) : Re (rr P o n k) :=
  re_root (N := 64) (fun x => P n (o + (k / 64 * 64 + x.val))) (fun x => hP _ _) 64 (by norm_num) _ c64

theorem re_dqk (P D : ℕ → ℕ → EReal) (g : FVec Ideal S64 .f32) (hP : ∀ n k, Re (P n k)) (hD : ∀ n k, Re (D n k)) (hg : ∀ i, Re (g i)) (o n k : ℕ) : Re (dqk P D g o n k) := by
  have hr := re_rr P hP o n k
  rw [dqk, c64]
  exact hr.mul (((hD _ _).mul (re_R1 hg _)).sub (((hP _ _).mul hr).mul (Re.div (Re.sum _ fun x => ((hD _ _).mul (re_R1 hg _)).mul ((hP _ _).mul hr)) (by norm_num))))

include hDQ in
theorem re_sq8 (n k : ℕ) : Re (sq8 DQ n k) := (re_R hDQ n k).mul c8

include hX hG hW hQ hDQ in
theorem ref66_at (a : Fin 8192) (b : Fin 512) : val_main_v66 (F := Ideal) X G W Q DQ (ix2 a b) = dqk (pj X G W) (sq8 DQ) Q 0 a.val b.val := by
  have ha := a.isLt
  have hb := b.isLt
  have e1 : ∀ x : Fin 64, R (val_main_v16 (F := Ideal) X G W) a.val (b.val / 64 * 64 + x.val) = pj X G W a.val (b.val / 64 * 64 + x.val) :=
    fun x => r16 X G W _ _ ha (by have := x.isLt; omega)
  have e2 : R (val_main_v16 (F := Ideal) X G W) a.val b.val = pj X G W a.val b.val := r16 X G W _ _ ha (by omega)
  pointwise [val_main_v66, val_main_v65, val_main_v64, val_main_v63, val_main_v62, val_main_v61, val_main_v60, val_main_v59, val_main_v58, val_main_v57, val_main_v56, val_main_v55, val_main_v54, val_main_v53, val_main_v52, val_main_v50, val_main_v49, val_main_v46, val_main_v45, val_main_v44, val_main_v43, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v17, val_main_cst_2, val_main_cst_3, val_main_cst_4, val_main_cst_5, val_main_cst_6, val_main_cst_8, val_main_cst_11, val_main_cst_12, val_main_cst_13]
  simp only [R1_ix, R_ix, e1, e2]
  refine (head (fun j => pj X G W a.val j) (fun j => sq8 DQ a.val j) Q b.val (fun j => re_pj X G W hX hG hW _ _) (fun j => re_sq8 DQ hDQ _ _) hQ).trans ?_
  simp only [dqk, rr, Nat.zero_add]

include hX hG hW hK hDK in
theorem ref110_at (a : Fin 8192) (b : Fin 512) : val_main_v110 (F := Ideal) X G W K DK (ix2 a b) = dqk (pj X G W) (R DK) K 512 a.val b.val := by
  have ha := a.isLt
  have hb := b.isLt
  have e1 : ∀ x : Fin 64, R (val_main_v16 (F := Ideal) X G W) a.val (512 + (b.val / 64 * 64 + x.val)) = pj X G W a.val (512 + (b.val / 64 * 64 + x.val)) :=
    fun x => r16 X G W _ _ ha (by have := x.isLt; omega)
  have e2 : R (val_main_v16 (F := Ideal) X G W) a.val (512 + b.val) = pj X G W a.val (512 + b.val) := r16 X G W _ _ ha (by omega)
  pointwise [val_main_v110, val_main_v109, val_main_v108, val_main_v107, val_main_v106, val_main_v105, val_main_v104, val_main_v103, val_main_v102, val_main_v101, val_main_v100, val_main_v99, val_main_v98, val_main_v97, val_main_v96, val_main_v94, val_main_v93, val_main_v90, val_main_v89, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v18, val_main_cst_14, val_main_cst_15, val_main_cst_16, val_main_cst_17, val_main_cst_20, val_main_cst_21, val_main_cst_22]
  simp only [R1_ix, R_ix, e1, e2]
  refine (head (fun j => pj X G W a.val (512 + j)) (fun j => R DK a.val j) K b.val (fun j => re_pj X G W hX hG hW _ _) (fun j => re_R hDK _ _) hK).trans ?_
  simp only [dqk, rr]

include hX hG hW hQ hK hDQ hDK in
theorem ref113_at (a : Fin 8192) (b : Fin 3072) : val_main_v113 (F := Ideal) X G W Q K DQ DK DV DC (ix2 a b) = dp (pj X G W) Q K DQ DK DV DC a.val b.val := by
  have hb := b.isLt
  pointwise [val_main_v113, val_main_v112, val_main_v111]
  rw [dp]
  by_cases h1 : b.val < 512
  · rw [dif_pos h1, if_pos h1]
    exact ref66_at X G W Q DQ hX hG hW hQ hDQ a ⟨b.val, h1⟩
  · rw [dif_neg h1, if_neg h1]
    by_cases h2 : b.val < 1024
    · rw [dif_pos (show b.val - 512 < 512 by omega), if_pos h2]
      exact ref110_at X G W K DK hX hG hW hK hDK a ⟨b.val - 512, by omega⟩
    · rw [dif_neg (show ¬ b.val - 512 < 512 by omega), if_neg h2]
      by_cases h3 : b.val < 1536
      · rw [dif_pos (show b.val - 512 - 512 < 512 by omega), if_pos h3]
        refine (R_ix DV a _).trans ?_
        exact congrArg (R DV a.val) (show b.val - 512 - 512 = b.val - 1024 by omega)
      · rw [dif_neg (show ¬ b.val - 512 - 512 < 512 by omega), if_neg h3]
        refine (R_ix DC a _).trans ?_
        exact congrArg (R DC a.val) (show 1536 + (b.val - 512 - 512 - 512) = b.val by omega)

include hX hG hW hQ hK hDQ hDK in
theorem ref114_at (a : Fin 8192) (b : Fin 1024) : val_main_v114 (F := Ideal) X G W Q K DQ DK DV DC (ix2 a b) = dh (dp (pj X G W) Q K DQ DK DV DC) W a.val b.val := by
  pointwise [val_main_v114]
  exact Fin.sum_fin_congr fun k => Ideal.mul_congr (ref113_at X G W Q K DQ DK DV DC hX hG hW hQ hK hDQ hDK a k) (R_ix W b k)

include hX hG hW hQ hK hDQ hDK hDV hDC in
theorem re_dh (n k : ℕ) : Re (dh (dp (pj X G W) Q K DQ DK DV DC) W n k) := by
  refine Re.sum _ fun j => Re.mul ?_ (re_R hW _ _)
  rw [dp]
  split_ifs
  · exact re_dqk _ _ Q (re_pj X G W hX hG hW) (re_sq8 DQ hDQ) hQ _ _ _
  · exact re_dqk _ _ K (re_pj X G W hX hG hW) (re_R hDK) hK _ _ _
  · exact re_R hDV _ _
  · exact re_R hDC _ _

include hX hG hW hQ hK hDQ hDK hDV hDC in
theorem ref135_at (a : Fin 8192) (b : Fin 1024) : val_main_v135 (F := Ideal) X E G W Q K DQ DK DV DC (ix2 a b) = dx X E G (dh (dp (pj X G W) Q K DQ DK DV DC) W) a.val b.val := by
  pointwise [val_main_v135, val_main_v134, val_main_v133, val_main_v132, val_main_v131, val_main_v130, val_main_v129, val_main_v128, val_main_v127, val_main_v126, val_main_v125, val_main_v124, val_main_v123, val_main_v122, val_main_v121, val_main_v119, val_main_v118, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_25, val_main_cst_26, val_main_cst_27]
  simp only [ref114_at X G W Q K DQ DK DV DC hX hG hW hQ hK hDQ hDK]
  simp only [R1_ix, R_ix]
  exact congrArg (R E a.val b.val + ·) (row X G (fun j => dh (dp (pj X G W) Q K DQ DK DV DC) W a.val j) a.val b.val b.isLt hX hG (fun j => re_dh X G W Q K DQ DK DV DC hX hG hW hQ hK hDQ hDK hDV hDC _ _))

include hX hG hW hQ hK hDQ hDK in
theorem ref136_at (a : Fin 1) (b : Fin 1024) : val_main_v136 (F := Ideal) X G W Q K DQ DK DV DC (ix2 a b) = ∑ n : Fin 8192, dgr X (dh (dp (pj X G W) Q K DQ DK DV DC) W) b.val n.val := by
  pointwise [val_main_v136, val_main_v120, val_main_v117, val_main_v116, val_main_v115, val_main_v12, val_main_v11, val_main_v7, val_main_v6, val_main_v5, val_main_v4, val_main_v3, val_main_v2, val_main_v1, val_main_v0, val_main_cst, val_main_cst_0, val_main_cst_1, val_main_cst_23, val_main_cst_24]
  simp only [ref114_at X G W Q K DQ DK DV DC hX hG hW hQ hK hDQ hDK]
  simp only [R1_ix, R_ix, Fin.sum_univ_one]
  exact Fin.sum_fin_congr fun n => mul_comm _ _

theorem ref138_at (a : Fin 1) (b : Fin 512) : val_main_v138 (F := Ideal) X G W DQ (ix2 a b) = ∑ n : Fin 8192, dhr (pj X G W) (sq8 DQ) 0 b.val n.val := by
  have hb := b.isLt
  have e1 : ∀ (n : Fin 8192) (x : Fin 64), R (val_main_v16 (F := Ideal) X G W) n.val (b.val / 64 * 64 + x.val) = pj X G W n.val (b.val / 64 * 64 + x.val) :=
    fun n x => r16 X G W _ _ n.isLt (by have := x.isLt; omega)
  have e2 : ∀ n : Fin 8192, R (val_main_v16 (F := Ideal) X G W) n.val b.val = pj X G W n.val b.val := fun n => r16 X G W _ _ n.isLt (by omega)
  pointwise [val_main_v138, val_main_v51, val_main_v48, val_main_v47, val_main_v46, val_main_v45, val_main_v44, val_main_v43, val_main_v36, val_main_v35, val_main_v31, val_main_v30, val_main_v29, val_main_v28, val_main_v27, val_main_v26, val_main_v25, val_main_v24, val_main_v23, val_main_v17, val_main_cst_3, val_main_cst_4, val_main_cst_5, val_main_cst_8, val_main_cst_9, val_main_cst_10]
  simp only [R1_ix, R_ix, Fin.sum_univ_one, e1, e2]
  simp only [dhr, rr, sq8, Nat.zero_add]
  exact Fin.sum_fin_congr fun n => mul_comm _ _

theorem ref139_at (a : Fin 1) (b : Fin 512) : val_main_v139 (F := Ideal) X G W DK (ix2 a b) = ∑ n : Fin 8192, dhr (pj X G W) (R DK) 512 b.val n.val := by
  have hb := b.isLt
  have e1 : ∀ (n : Fin 8192) (x : Fin 64), R (val_main_v16 (F := Ideal) X G W) n.val (512 + (b.val / 64 * 64 + x.val)) = pj X G W n.val (512 + (b.val / 64 * 64 + x.val)) :=
    fun n x => r16 X G W _ _ n.isLt (by have := x.isLt; omega)
  have e2 : ∀ n : Fin 8192, R (val_main_v16 (F := Ideal) X G W) n.val (512 + b.val) = pj X G W n.val (512 + b.val) := fun n => r16 X G W _ _ n.isLt (by omega)
  pointwise [val_main_v139, val_main_v95, val_main_v92, val_main_v91, val_main_v90, val_main_v89, val_main_v84, val_main_v83, val_main_v79, val_main_v78, val_main_v77, val_main_v76, val_main_v75, val_main_v74, val_main_v73, val_main_v72, val_main_v71, val_main_v18, val_main_cst_14, val_main_cst_15, val_main_cst_16, val_main_cst_18, val_main_cst_19]
  simp only [R1_ix, R_ix, Fin.sum_univ_one, e1, e2]
  simp only [dhr, rr]
  exact Fin.sum_fin_congr fun n => mul_comm _ _

open Cert.Pre_finite_in_proj (fn) in
/-- What the finiteness of the arguments gives of each of them. -/
theorem fins [Cert.Pre_finite_in_proj.Facts] (h : (fn (F := Ideal) X E G W Q K DQ DK DV DC).1 = (fun _ => 1#1) ∧ (fn (F := Ideal) X E G W Q K DQ DK DV DC).2.1 = (fun _ => 1#1)
    ∧ (fn (F := Ideal) X E G W Q K DQ DK DV DC).2.2.1 = (fun _ => 1#1) ∧ (fn (F := Ideal) X E G W Q K DQ DK DV DC).2.2.2.1 = (fun _ => 1#1)
    ∧ (fn (F := Ideal) X E G W Q K DQ DK DV DC).2.2.2.2.1 = (fun _ => 1#1) ∧ (fn (F := Ideal) X E G W Q K DQ DK DV DC).2.2.2.2.2.1 = (fun _ => 1#1)
    ∧ (fn (F := Ideal) X E G W Q K DQ DK DV DC).2.2.2.2.2.2.1 = (fun _ => 1#1) ∧ (fn (F := Ideal) X E G W Q K DQ DK DV DC).2.2.2.2.2.2.2.1 = (fun _ => 1#1)
    ∧ (fn (F := Ideal) X E G W Q K DQ DK DV DC).2.2.2.2.2.2.2.2.1 = (fun _ => 1#1) ∧ (fn (F := Ideal) X E G W Q K DQ DK DV DC).2.2.2.2.2.2.2.2.2 = (fun _ => 1#1)) :
    (∀ i, Re (X i)) ∧ (∀ i, Re (G i)) ∧ (∀ i, Re (W i)) ∧ (∀ i, Re (Q i)) ∧ (∀ i, Re (K i)) ∧ (∀ i, Re (DQ i)) ∧ (∀ i, Re (DK i)) ∧ (∀ i, Re (DV i)) ∧ (∀ i, Re (DC i)) := by
  obtain ⟨h0, h1, h2, h3, h4, h5, h6, h7, h8, h9⟩ := h
  exact ⟨re_at _ X _ h0, re_at _ G _ h2, re_at _ W _ h3, re_at _ Q _ h4, re_at _ K _ h5, re_at _ DQ _ h6, re_at _ DK _ h7, re_at _ DV _ h8, re_at S8192x3072 (fun j => DC j) _ h9⟩

/-- The finiteness of all the arguments, as the claim states it. -/
def Ok [Cert.Pre_finite_in_proj.Facts] : Prop := (Cert.Pre_finite_in_proj.fn (F := Ideal) X E G W Q K DQ DK DV DC).1 = (fun _ => 1#1) ∧ (Cert.Pre_finite_in_proj.fn (F := Ideal) X E G W Q K DQ DK DV DC).2.1 = (fun _ => 1#1)
    ∧ (Cert.Pre_finite_in_proj.fn (F := Ideal) X E G W Q K DQ DK DV DC).2.2.1 = (fun _ => 1#1) ∧ (Cert.Pre_finite_in_proj.fn (F := Ideal) X E G W Q K DQ DK DV DC).2.2.2.1 = (fun _ => 1#1)
    ∧ (Cert.Pre_finite_in_proj.fn (F := Ideal) X E G W Q K DQ DK DV DC).2.2.2.2.1 = (fun _ => 1#1) ∧ (Cert.Pre_finite_in_proj.fn (F := Ideal) X E G W Q K DQ DK DV DC).2.2.2.2.2.1 = (fun _ => 1#1)
    ∧ (Cert.Pre_finite_in_proj.fn (F := Ideal) X E G W Q K DQ DK DV DC).2.2.2.2.2.2.1 = (fun _ => 1#1) ∧ (Cert.Pre_finite_in_proj.fn (F := Ideal) X E G W Q K DQ DK DV DC).2.2.2.2.2.2.2.1 = (fun _ => 1#1)
    ∧ (Cert.Pre_finite_in_proj.fn (F := Ideal) X E G W Q K DQ DK DV DC).2.2.2.2.2.2.2.2.1 = (fun _ => 1#1) ∧ (Cert.Pre_finite_in_proj.fn (F := Ideal) X E G W Q K DQ DK DV DC).2.2.2.2.2.2.2.2.2 = (fun _ => 1#1)

theorem ref135 [Cert.Pre_finite_in_proj.Facts] (h : Ok X E G W Q K DQ DK DV DC) : val_main_v135 (F := Ideal) X E G W Q K DQ DK DV DC = fun i : S8192x1024.Idx => dx X E G (dh (dp (pj X G W) Q K DQ DK DV DC) W) (i 0).val (i 1).val := by
  obtain ⟨hX, hG, hW, hQ, hK, hDQ, hDK, hDV, hDC⟩ := fins X E G W Q K DQ DK DV DC h
  funext i
  rw [eq_ix2 (n0 := 8192) (n1 := 1024) i]
  exact ref135_at X E G W Q K DQ DK DV DC hX hG hW hQ hK hDQ hDK hDV hDC (i 0) (i 1)

theorem ref136 [Cert.Pre_finite_in_proj.Facts] (h : Ok X E G W Q K DQ DK DV DC) : val_main_v136 (F := Ideal) X G W Q K DQ DK DV DC = fun i : S1x1024.Idx => ∑ n : Fin 8192, dgr X (dh (dp (pj X G W) Q K DQ DK DV DC) W) (i 1).val n.val := by
  obtain ⟨hX, hG, hW, hQ, hK, hDQ, hDK, hDV, hDC⟩ := fins X E G W Q K DQ DK DV DC h
  funext i
  rw [eq_ix2 (n0 := 1) (n1 := 1024) i]
  exact ref136_at X G W Q K DQ DK DV DC hX hG hW hQ hK hDQ hDK (i 0) (i 1)

theorem ref137 [Cert.Pre_finite_in_proj.Facts] (h : Ok X E G W Q K DQ DK DV DC) : val_main_v137 (F := Ideal) X G W Q K DQ DK DV DC = fun i : S8192x3072.Idx => dp (pj X G W) Q K DQ DK DV DC (i 0).val (i 1).val := by
  obtain ⟨hX, hG, hW, hQ, hK, hDQ, hDK, hDV, hDC⟩ := fins X E G W Q K DQ DK DV DC h
  funext i
  rw [eq_ix2 (n0 := 8192) (n1 := 3072) i]
  refine Eq.trans ?_ (ref113_at X G W Q K DQ DK DV DC hX hG hW hQ hK hDQ hDK (i 0) (i 1))
  pointwise [val_main_v137]

theorem ref138 [Cert.Pre_finite_in_proj.Facts] (h : Ok X E G W Q K DQ DK DV DC) : val_main_v138 (F := Ideal) X G W DQ = fun i : S1x512.Idx => ∑ n : Fin 8192, dhr (pj X G W) (sq8 DQ) 0 (i 1).val n.val := by
  funext i
  rw [eq_ix2 (n0 := 1) (n1 := 512) i]
  exact ref138_at X G W DQ (i 0) (i 1)

theorem ref139 [Cert.Pre_finite_in_proj.Facts] (h : Ok X E G W Q K DQ DK DV DC) : val_main_v139 (F := Ideal) X G W DK = fun i : S1x512.Idx => ∑ n : Fin 8192, dhr (pj X G W) (R DK) 512 (i 1).val n.val := by
  funext i
  rw [eq_ix2 (n0 := 1) (n1 := 512) i]
  exact ref139_at X G W DK (i 0) (i 1)
end Cert.InProjBwdRefIdeal.Calc
end
-- ==== Proof.FbRuns.lean ====
module

public import proofs.«01_k».proof.Proof.Gen.FfnBwdIdeal.Frame
public import proofs.«01_k».proof.Proof.Gen.FfnBwdIdeal.Skeleton
public import proofs.«01_k».proof.Proof.Gen.FfnBwdIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
/-! What the runs of the feed-forward backward kernel share: its branch conditions over the grid, which windows
    a point leaves alone, and the staging buffers of a point. -/

@[expose] public section

set_option maxRecDepth 16384

noncomputable section

namespace Cert.FfnBwdIdeal.Own

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 64 = 0)

abbrev cond0_1 (i : grid0.Coords) : Prop := k0_cond2 i = 1#1
theorem hcond0_1 : ∀ t : Fin cfg0.N, cond0_1 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

abbrev cond0_2 (i : grid0.Coords) : Prop := k0_cond3 i = 1#1
theorem hcond0_2 : ∀ t : Fin cfg0.N, cond0_2 (grid0.coords t) ↔ t.val % 4 = 3 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem idleAt0_8_A : ∀ t : Fin cfg0.N, cond0_0 (grid0.coords t) → cond0_1 (grid0.coords t) → ¬cond0_2 (grid0.coords t) → cfg0.idle 8 (grid0.coords t) = true := by decide +kernel
theorem noFlush0_8_A : ∀ t : Fin cfg0.N, cond0_0 (grid0.coords t) → cond0_1 (grid0.coords t) → ¬cond0_2 (grid0.coords t) → (cfg0.win 8).flush t = false := by decide +kernel
theorem idleAt0_8_B : ∀ t : Fin cfg0.N, ¬cond0_0 (grid0.coords t) → ¬cond0_1 (grid0.coords t) → ¬cond0_2 (grid0.coords t) → cfg0.idle 8 (grid0.coords t) = true := by decide +kernel
theorem noFlush0_8_B : ∀ t : Fin cfg0.N, ¬cond0_0 (grid0.coords t) → ¬cond0_1 (grid0.coords t) → ¬cond0_2 (grid0.coords t) → (cfg0.win 8).flush t = false := by decide +kernel
theorem liveAt0_8_C : ∀ t : Fin cfg0.N, ¬cond0_0 (grid0.coords t) → ¬cond0_1 (grid0.coords t) → cond0_2 (grid0.coords t) → cfg0.idle 8 (grid0.coords t) = false := by decide +kernel
theorem idleAt0_8_D : ∀ t : Fin cfg0.N, ¬cond0_0 (grid0.coords t) → cond0_1 (grid0.coords t) → ¬cond0_2 (grid0.coords t) → cfg0.idle 8 (grid0.coords t) = true := by decide +kernel
theorem noFlush0_8_D : ∀ t : Fin cfg0.N, ¬cond0_0 (grid0.coords t) → cond0_1 (grid0.coords t) → ¬cond0_2 (grid0.coords t) → (cfg0.win 8).flush t = false := by decide +kernel
def freshTab0_9 : ℕ → Bool
  | 0 => true
  | n + 1 => (0x8000000000000000 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, cond0_0 (grid0.coords t) → cond0_1 (grid0.coords t) → ¬cond0_2 (grid0.coords t) → cfg0.idle 9 (grid0.coords t) = false := by decide +kernel
theorem idleAt0_9_B : ∀ t : Fin cfg0.N, ¬cond0_0 (grid0.coords t) → ¬cond0_1 (grid0.coords t) → ¬cond0_2 (grid0.coords t) → cfg0.idle 9 (grid0.coords t) = true := by decide +kernel
theorem noFlush0_9_B : ∀ t : Fin cfg0.N, ¬cond0_0 (grid0.coords t) → ¬cond0_1 (grid0.coords t) → ¬cond0_2 (grid0.coords t) → (cfg0.win 9).flush t = false := by decide +kernel
theorem liveAt0_9_C : ∀ t : Fin cfg0.N, ¬cond0_0 (grid0.coords t) → ¬cond0_1 (grid0.coords t) → cond0_2 (grid0.coords t) → cfg0.idle 9 (grid0.coords t) = false := by decide +kernel
theorem notFresh0_9_C : ∀ t : Fin cfg0.N, ¬cond0_0 (grid0.coords t) → ¬cond0_1 (grid0.coords t) → cond0_2 (grid0.coords t) → cfg0.fresh 9 t.val = false := by
  intro t; rw [fresh0_9_eq t]; revert t; decide +kernel
theorem idleAt0_9_D : ∀ t : Fin cfg0.N, ¬cond0_0 (grid0.coords t) → cond0_1 (grid0.coords t) → ¬cond0_2 (grid0.coords t) → cfg0.idle 9 (grid0.coords t) = true := by decide +kernel
theorem noFlush0_9_D : ∀ t : Fin cfg0.N, ¬cond0_0 (grid0.coords t) → cond0_1 (grid0.coords t) → ¬cond0_2 (grid0.coords t) → (cfg0.win 9).flush t = false := by decide +kernel
def freshTab0_10 : ℕ → Bool
  | 0 => true
  | n + 1 => (0x8888888888888888 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
theorem liveAt0_10_A : ∀ t : Fin cfg0.N, cond0_0 (grid0.coords t) → cond0_1 (grid0.coords t) → ¬cond0_2 (grid0.coords t) → cfg0.idle 10 (grid0.coords t) = false := by decide +kernel
theorem idleAt0_10_B : ∀ t : Fin cfg0.N, ¬cond0_0 (grid0.coords t) → ¬cond0_1 (grid0.coords t) → ¬cond0_2 (grid0.coords t) → cfg0.idle 10 (grid0.coords t) = true := by decide +kernel
theorem noFlush0_10_B : ∀ t : Fin cfg0.N, ¬cond0_0 (grid0.coords t) → ¬cond0_1 (grid0.coords t) → ¬cond0_2 (grid0.coords t) → (cfg0.win 10).flush t = false := by decide +kernel
theorem idleAt0_10_C : ∀ t : Fin cfg0.N, ¬cond0_0 (grid0.coords t) → ¬cond0_1 (grid0.coords t) → cond0_2 (grid0.coords t) → cfg0.idle 10 (grid0.coords t) = true := by decide +kernel
theorem doFlush0_10_C : ∀ t : Fin cfg0.N, ¬cond0_0 (grid0.coords t) → ¬cond0_1 (grid0.coords t) → cond0_2 (grid0.coords t) → (cfg0.win 10).flush t = true := by decide +kernel
theorem notFresh0_10_C : ∀ t : Fin cfg0.N, ¬cond0_0 (grid0.coords t) → ¬cond0_1 (grid0.coords t) → cond0_2 (grid0.coords t) → cfg0.fresh 10 t.val = false := by
  intro t; rw [fresh0_10_eq t]; revert t; decide +kernel
theorem liveAt0_10_D : ∀ t : Fin cfg0.N, ¬cond0_0 (grid0.coords t) → cond0_1 (grid0.coords t) → ¬cond0_2 (grid0.coords t) → cfg0.idle 10 (grid0.coords t) = false := by decide +kernel
def freshTab0_11 : ℕ → Bool
  | 0 => true
  | n + 1 => (0x8888888888888888 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
theorem liveAt0_11_A : ∀ t : Fin cfg0.N, cond0_0 (grid0.coords t) → cond0_1 (grid0.coords t) → ¬cond0_2 (grid0.coords t) → cfg0.idle 11 (grid0.coords t) = false := by decide +kernel
theorem idleAt0_11_B : ∀ t : Fin cfg0.N, ¬cond0_0 (grid0.coords t) → ¬cond0_1 (grid0.coords t) → ¬cond0_2 (grid0.coords t) → cfg0.idle 11 (grid0.coords t) = true := by decide +kernel
theorem noFlush0_11_B : ∀ t : Fin cfg0.N, ¬cond0_0 (grid0.coords t) → ¬cond0_1 (grid0.coords t) → ¬cond0_2 (grid0.coords t) → (cfg0.win 11).flush t = false := by decide +kernel
theorem notFresh0_11_B : ∀ t : Fin cfg0.N, ¬cond0_0 (grid0.coords t) → ¬cond0_1 (grid0.coords t) → ¬cond0_2 (grid0.coords t) → cfg0.fresh 11 t.val = false := by
  intro t; rw [fresh0_11_eq t]; revert t; decide +kernel
theorem idleAt0_11_C : ∀ t : Fin cfg0.N, ¬cond0_0 (grid0.coords t) → ¬cond0_1 (grid0.coords t) → cond0_2 (grid0.coords t) → cfg0.idle 11 (grid0.coords t) = true := by decide +kernel
theorem doFlush0_11_C : ∀ t : Fin cfg0.N, ¬cond0_0 (grid0.coords t) → ¬cond0_1 (grid0.coords t) → cond0_2 (grid0.coords t) → (cfg0.win 11).flush t = true := by decide +kernel
theorem notFresh0_11_C : ∀ t : Fin cfg0.N, ¬cond0_0 (grid0.coords t) → ¬cond0_1 (grid0.coords t) → cond0_2 (grid0.coords t) → cfg0.fresh 11 t.val = false := by
  intro t; rw [fresh0_11_eq t]; revert t; decide +kernel
theorem liveAt0_11_D : ∀ t : Fin cfg0.N, ¬cond0_0 (grid0.coords t) → cond0_1 (grid0.coords t) → ¬cond0_2 (grid0.coords t) → cfg0.idle 11 (grid0.coords t) = false := by decide +kernel

abbrev VO0_8 : View sig .tc .vmem S512x1024 .f32 := (Memref.whole cc0_stg8_0 : Memref sig .tc .vmem S512x1024 .f32).view
abbrev VO0_9 : View sig .tc .vmem S1x1024 .f32 := (Memref.whole cc0_stg9_0 : Memref sig .tc .vmem S1x1024 .f32).view
abbrev VO0_10 : View sig .tc .vmem S512x1024 .bf16 := (Memref.whole cc0_stg10_0 : Memref sig .tc .vmem S512x1024 .bf16).view
abbrev VO0_11 : View sig .tc .vmem S512x1024 .bf16 := (Memref.whole cc0_stg11_0 : Memref sig .tc .vmem S512x1024 .bf16).view
abbrev VO0_12 : View sig .tc .vmem S1x512x704 .bf16 := (Memref.whole cc0_stg12_0 : Memref sig .tc .vmem S1x512x704 .bf16).view
abbrev VO0_13 : View sig .tc .vmem S1x512x704 .bf16 := (Memref.whole cc0_stg13_0 : Memref sig .tc .vmem S1x512x704 .bf16).view
abbrev VO0_14 : View sig .tc .vmem S1x512x704 .bf16 := (Memref.whole cc0_stg14_0 : Memref sig .tc .vmem S1x512x704 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x704 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x704 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x1x1024x704 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1x1024x704 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x1x704x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x704 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x704 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x704 .bf16 := win0_14.stage (cfg0.slots t 14)
abbrev hs0_14 (t : Fin cfg0.N) : (ms0_14 t).IsWhole := hstage0_14 ((cfg0.slots t 14).cast nbuf0_14)
abbrev scM0_0 : Memref sig .tc .vmem S512x1024 .f32 := Memref.whole cc0_scratch0
abbrev VS0_0 : View sig .tc .vmem S512x1024 .f32 := scM0_0.view

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl
end Cert.FfnBwdIdeal.Own

end
-- ==== Proof.FbRunA.lean ====
module

public import proofs.«01_k».proof.Proof.FbRuns
/-! One run of the kernel body at the first point of all: the pieces that it stores into each result. -/

@[expose] public section

set_option maxRecDepth 16384

noncomputable section

namespace Cert.FfnBwdIdeal.Own

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S4x1x1024x704 .bf16) (harg7 : arg7.IsWhole) (arg8 : Memref sig .tc .vmem S4x1x1024x704 .bf16) (harg8 : arg8.IsWhole) (arg9 : Memref sig .tc .vmem S4x1x704x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S512x1024 .f32) (harg17 : arg17.IsWhole) (hc0 : cond0_0 i) (hc1 : cond0_1 i) (hc2 : ¬cond0_2 i)
    (x0 : Vec F S512x1024 .f32) (x1 : Vec F S512x1024 .f32) (x2 : Vec F S1x1024 .f32) (x3 : Vec F S1x512x704 .bf16) (x4 : Vec F S1x512x704 .bf16) (x5 : Vec F S4x1x1024x704 .bf16) (x6 : Vec F S4x1x1024x704 .bf16) (x7 : Vec F S4x1x704x1024 .bf16) :
    Σ' (L8 : List (View.Piece (Elt F) S512x1024 .f32)), Σ' (L9 : List (View.Piece (Elt F) S1x1024 .f32)), Σ' (L10 : List (View.Piece (Elt F) S512x1024 .bf16)), Σ' (L11 : List (View.Piece (Elt F) S512x1024 .bf16)), Σ' (L12 : List (View.Piece (Elt F) S1x512x704 .bf16)), Σ' (L13 : List (View.Piece (Elt F) S1x512x704 .bf16)), Σ' (L14 : List (View.Piece (Elt F) S1x512x704 .bf16)), { LS0 : List (View.Piece (Elt F) S512x1024 .f32) //
      ∀ (xi8 : Vec F S512x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, ?_, ?_, ?_, ?_, ?_, fun xi8 E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HS0
end Cert.FfnBwdIdeal.Own

end
-- ==== Proof.FbRunB.lean ====
module

public import proofs.«01_k».proof.Proof.FbRunA
/-! One run of the kernel body at a middle column block: the pieces that it stores into each result. -/

@[expose] public section

set_option maxRecDepth 16384

noncomputable section

namespace Cert.FfnBwdIdeal.Own

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S4x1x1024x704 .bf16) (harg7 : arg7.IsWhole) (arg8 : Memref sig .tc .vmem S4x1x1024x704 .bf16) (harg8 : arg8.IsWhole) (arg9 : Memref sig .tc .vmem S4x1x704x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S512x1024 .f32) (harg17 : arg17.IsWhole) (hc0 : ¬cond0_0 i) (hc1 : ¬cond0_1 i) (hc2 : ¬cond0_2 i)
    (x0 : Vec F S512x1024 .f32) (x1 : Vec F S512x1024 .f32) (x2 : Vec F S1x1024 .f32) (x3 : Vec F S1x512x704 .bf16) (x4 : Vec F S1x512x704 .bf16) (x5 : Vec F S4x1x1024x704 .bf16) (x6 : Vec F S4x1x1024x704 .bf16) (x7 : Vec F S4x1x704x1024 .bf16) (xo11 : Vec F S512x1024 .bf16) (xs0 : Vec F S512x1024 .f32) :
    Σ' (L8 : List (View.Piece (Elt F) S512x1024 .f32)), Σ' (L9 : List (View.Piece (Elt F) S1x1024 .f32)), Σ' (L10 : List (View.Piece (Elt F) S512x1024 .bf16)), Σ' (L11 : List (View.Piece (Elt F) S512x1024 .bf16)), Σ' (L12 : List (View.Piece (Elt F) S1x512x704 .bf16)), Σ' (L13 : List (View.Piece (Elt F) S1x512x704 .bf16)), Σ' (L14 : List (View.Piece (Elt F) S1x512x704 .bf16)), { LS0 : List (View.Piece (Elt F) S512x1024 .f32) //
      ∀ (xi8 : Vec F S512x1024 .f32) (xi9 : Vec F S1x1024 .f32) (xi10 : Vec F S512x1024 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xo11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xo11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], [], [], ?_, ?_, ?_, ?_, fun xi8 xi9 xi10 E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    iexists _; iexact HS0
end Cert.FfnBwdIdeal.Own

end
-- ==== Proof.FbRunC.lean ====
module

public import proofs.«01_k».proof.Proof.FbRunB
/-! One run of the kernel body at the last column block of a row block: the pieces that it stores into each result. -/

@[expose] public section

set_option maxRecDepth 16384

noncomputable section

namespace Cert.FfnBwdIdeal.Own

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S4x1x1024x704 .bf16) (harg7 : arg7.IsWhole) (arg8 : Memref sig .tc .vmem S4x1x1024x704 .bf16) (harg8 : arg8.IsWhole) (arg9 : Memref sig .tc .vmem S4x1x704x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S512x1024 .f32) (harg17 : arg17.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x512x704 .bf16) (x4 : Vec F S1x512x704 .bf16) (x5 : Vec F S4x1x1024x704 .bf16) (x6 : Vec F S4x1x1024x704 .bf16) (x7 : Vec F S4x1x704x1024 .bf16) (xo9 : Vec F S1x1024 .f32) (xo10 : Vec F S512x1024 .bf16) (xo11 : Vec F S512x1024 .bf16) (xs0 : Vec F S512x1024 .f32) :
    Σ' (L8 : List (View.Piece (Elt F) S512x1024 .f32)), Σ' (L9 : List (View.Piece (Elt F) S1x1024 .f32)), Σ' (L10 : List (View.Piece (Elt F) S512x1024 .bf16)), Σ' (L11 : List (View.Piece (Elt F) S512x1024 .bf16)), Σ' (L12 : List (View.Piece (Elt F) S1x512x704 .bf16)), Σ' (L13 : List (View.Piece (Elt F) S1x512x704 .bf16)), Σ' (L14 : List (View.Piece (Elt F) S1x512x704 .bf16)), { LS0 : List (View.Piece (Elt F) S512x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ owns (c : Thread nD τ) arg12 fullShare xo10 ∗ owns (c : Thread nD τ) arg13 fullShare xo11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xo10 ∗ owns (c : Thread nD τ) arg13 fullShare xo11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], ?_, ?_, ?_, ?_, fun E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11; obtain rfl := harg17.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    iexists _; iexact HS0
end Cert.FfnBwdIdeal.Own

end
-- ==== Proof.FbRunD.lean ====
module

public import proofs.«01_k».proof.Proof.FbRunC
/-! One run of the kernel body at the first column block of a later row block: the pieces that it stores into each result. -/

@[expose] public section

set_option maxRecDepth 16384

noncomputable section

namespace Cert.FfnBwdIdeal.Own

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option maxHeartbeats 1000000 in
noncomputable def kernelRun0_D (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S4x1x1024x704 .bf16) (harg7 : arg7.IsWhole) (arg8 : Memref sig .tc .vmem S4x1x1024x704 .bf16) (harg8 : arg8.IsWhole) (arg9 : Memref sig .tc .vmem S4x1x704x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S512x1024 .f32) (harg17 : arg17.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x512x704 .bf16) (x4 : Vec F S1x512x704 .bf16) (x5 : Vec F S4x1x1024x704 .bf16) (x6 : Vec F S4x1x1024x704 .bf16) (x7 : Vec F S4x1x704x1024 .bf16) :
    Σ' (L8 : List (View.Piece (Elt F) S512x1024 .f32)), Σ' (L9 : List (View.Piece (Elt F) S1x1024 .f32)), Σ' (L10 : List (View.Piece (Elt F) S512x1024 .bf16)), Σ' (L11 : List (View.Piece (Elt F) S512x1024 .bf16)), Σ' (L12 : List (View.Piece (Elt F) S1x512x704 .bf16)), Σ' (L13 : List (View.Piece (Elt F) S1x512x704 .bf16)), Σ' (L14 : List (View.Piece (Elt F) S1x512x704 .bf16)), { LS0 : List (View.Piece (Elt F) S512x1024 .f32) //
      ∀ (xi8 : Vec F S512x1024 .f32) (xi9 : Vec F S1x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, ?_, ?_, ?_, ?_, ?_, fun xi8 xi9 E K => ?run⟩
  case run =>
    simp only [cc0_ffn_bwd_eq_skeleton]; unfold cc0_ffn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact HS0
end Cert.FfnBwdIdeal.Own

end
-- ==== Proof.FbOuts.lean ====
module

public import proofs.«01_k».proof.Proof.FbRunD
/-! What each kind of grid point leaves in each result's buffer, read back from the pieces that its run stores. -/

@[expose] public section

set_option maxRecDepth 16384

noncomputable section

namespace Cert.FfnBwdIdeal.Own

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

section A

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S4x1x1024x704 .bf16) (harg7 : arg7.IsWhole) (arg8 : Memref sig .tc .vmem S4x1x1024x704 .bf16) (harg8 : arg8.IsWhole) (arg9 : Memref sig .tc .vmem S4x1x704x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S512x1024 .f32) (harg17 : arg17.IsWhole) (hc0 : cond0_0 i) (hc1 : cond0_1 i) (hc2 : ¬cond0_2 i)
    (x0 : Vec F S512x1024 .f32) (x1 : Vec F S512x1024 .f32) (x2 : Vec F S1x1024 .f32) (x3 : Vec F S1x512x704 .bf16) (x4 : Vec F S1x512x704 .bf16) (x5 : Vec F S4x1x1024x704 .bf16) (x6 : Vec F S4x1x1024x704 .bf16) (x7 : Vec F S4x1x704x1024 .bf16)

def out0_A_8 : Vec F S512x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).1)

theorem cover0_A_9 (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.1 S1x1024.size (by sl_kernel_rfl) y

def out0_A_9 : Vec F S1x1024 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.1)

theorem cover0_A_10 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.1 S512x1024.size (by sl_kernel_rfl) y

def out0_A_10 : Vec F S512x1024 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.1)

theorem cover0_A_11 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.1 S512x1024.size (by sl_kernel_rfl) y

def out0_A_11 : Vec F S512x1024 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.1)

theorem cover0_A_12 (y : S1x512x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.1 S1x256x704.size (by sl_kernel_rfl) y

def out0_A_12 : Vec F S1x512x704 .bf16 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.1)

theorem cover0_A_13 (y : S1x512x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.1 S1x256x704.size (by sl_kernel_rfl) y

def out0_A_13 : Vec F S1x512x704 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.1)

theorem cover0_A_14 (y : S1x512x704.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.1 S1x256x704.size (by sl_kernel_rfl) y

def out0_A_14 : Vec F S1x512x704 .bf16 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.1)

theorem scover0_A_0 (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.2.1 (by sl_whole_mem) y

def sout0_A_0 : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.2.1)

end A

section B

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S4x1x1024x704 .bf16) (harg7 : arg7.IsWhole) (arg8 : Memref sig .tc .vmem S4x1x1024x704 .bf16) (harg8 : arg8.IsWhole) (arg9 : Memref sig .tc .vmem S4x1x704x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S512x1024 .f32) (harg17 : arg17.IsWhole) (hc0 : ¬cond0_0 i) (hc1 : ¬cond0_1 i) (hc2 : ¬cond0_2 i)
    (x0 : Vec F S512x1024 .f32) (x1 : Vec F S512x1024 .f32) (x2 : Vec F S1x1024 .f32) (x3 : Vec F S1x512x704 .bf16) (x4 : Vec F S1x512x704 .bf16) (x5 : Vec F S4x1x1024x704 .bf16) (x6 : Vec F S4x1x1024x704 .bf16) (x7 : Vec F S4x1x704x1024 .bf16) (xo11 : Vec F S512x1024 .bf16) (xs0 : Vec F S512x1024 .f32)

def out0_B_8 : Vec F S512x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).1)

theorem cover0_B_12 (y : S1x512x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.1 S1x256x704.size (by sl_kernel_rfl) y

def out0_B_12 : Vec F S1x512x704 .bf16 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.1)

theorem cover0_B_13 (y : S1x512x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.1 S1x256x704.size (by sl_kernel_rfl) y

def out0_B_13 : Vec F S1x512x704 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.1)

theorem cover0_B_14 (y : S1x512x704.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.2.1 S1x256x704.size (by sl_kernel_rfl) y

def out0_B_14 : Vec F S1x512x704 .bf16 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.2.1)

theorem scover0_B_0 (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.2.2.1 S256x1024.size (by sl_kernel_rfl) y

def sout0_B_0 : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo11 xs0).2.2.2.2.2.2.2.1)

end B

section C

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S4x1x1024x704 .bf16) (harg7 : arg7.IsWhole) (arg8 : Memref sig .tc .vmem S4x1x1024x704 .bf16) (harg8 : arg8.IsWhole) (arg9 : Memref sig .tc .vmem S4x1x704x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S512x1024 .f32) (harg17 : arg17.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x512x704 .bf16) (x4 : Vec F S1x512x704 .bf16) (x5 : Vec F S4x1x1024x704 .bf16) (x6 : Vec F S4x1x1024x704 .bf16) (x7 : Vec F S4x1x704x1024 .bf16) (xo9 : Vec F S1x1024 .f32) (xo10 : Vec F S512x1024 .bf16) (xo11 : Vec F S512x1024 .bf16) (xs0 : Vec F S512x1024 .f32)

theorem cover0_C_8 (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).1 S512x1024.size (by sl_kernel_rfl) y

def out0_C_8 : Vec F S512x1024 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).1)

theorem cover0_C_9 (y : S1x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.1 S1x1024.size (by sl_kernel_rfl) y

def out0_C_9 : Vec F S1x1024 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.1)

theorem cover0_C_12 (y : S1x512x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.1 S1x256x704.size (by sl_kernel_rfl) y

def out0_C_12 : Vec F S1x512x704 .bf16 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.1)

theorem cover0_C_13 (y : S1x512x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.1 S1x256x704.size (by sl_kernel_rfl) y

def out0_C_13 : Vec F S1x512x704 .bf16 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.1)

theorem cover0_C_14 (y : S1x512x704.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.2.1 S1x256x704.size (by sl_kernel_rfl) y

def out0_C_14 : Vec F S1x512x704 .bf16 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.2.1)

theorem scover0_C_0 (y : S512x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.2.2.1 S256x1024.size (by sl_kernel_rfl) y

def sout0_C_0 : Vec F S512x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 xo9 xo10 xo11 xs0).2.2.2.2.2.2.2.1)

end C

section D

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S4x1x1024x704 .bf16) (harg7 : arg7.IsWhole) (arg8 : Memref sig .tc .vmem S4x1x1024x704 .bf16) (harg8 : arg8.IsWhole) (arg9 : Memref sig .tc .vmem S4x1x704x1024 .bf16) (harg9 : arg9.IsWhole) (arg10 : Memref sig .tc .vmem S512x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S512x1024 .f32) (harg17 : arg17.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x512x704 .bf16) (x4 : Vec F S1x512x704 .bf16) (x5 : Vec F S4x1x1024x704 .bf16) (x6 : Vec F S4x1x1024x704 .bf16) (x7 : Vec F S4x1x704x1024 .bf16)

def out0_D_8 : Vec F S512x1024 .f32 :=
  VO0_8.read (Elt F) (VO0_8.writes (Elt F) VO0_8.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).1)

theorem cover0_D_10 (y : S512x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.1 S512x1024.size (by sl_kernel_rfl) y

def out0_D_10 : Vec F S512x1024 .bf16 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.1)

theorem cover0_D_11 (y : S512x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.1 S512x1024.size (by sl_kernel_rfl) y

def out0_D_11 : Vec F S512x1024 .bf16 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.1)

theorem cover0_D_12 (y : S1x512x704.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.1 S1x256x704.size (by sl_kernel_rfl) y

def out0_D_12 : Vec F S1x512x704 .bf16 :=
  VO0_12.read (Elt F) (VO0_12.writes (Elt F) VO0_12.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.1)

theorem cover0_D_13 (y : S1x512x704.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.1 S1x256x704.size (by sl_kernel_rfl) y

def out0_D_13 : Vec F S1x512x704 .bf16 :=
  VO0_13.read (Elt F) (VO0_13.writes (Elt F) VO0_13.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.1)

theorem cover0_D_14 (y : S1x512x704.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.1 S1x256x704.size (by sl_kernel_rfl) y

def out0_D_14 : Vec F S1x512x704 .bf16 :=
  VO0_14.read (Elt F) (VO0_14.writes (Elt F) VO0_14.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.1)

theorem scover0_D_0 (y : S512x1024.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.2.1, y ∈ pc.1.set :=
  View.cover_of_wholeMem (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.2.1 (by sl_whole_mem) y

def sout0_D_0 : Vec F S512x1024 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7).2.2.2.2.2.2.2.1)

end D

abbrev OutT (F : FTy → Type) [FloatOps F] : Type := Vec F S512x1024 .f32 × Vec F S1x1024 .f32 × Vec F S512x1024 .bf16 × Vec F S512x1024 .bf16 × Vec F S1x512x704 .bf16 × Vec F S1x512x704 .bf16 × Vec F S1x512x704 .bf16 × Vec F S512x1024 .f32

def outs_A (c : Dev nD) (t : Fin cfg0.N) (h0 : t.val % 64 = 0) (h1 : t.val % 4 = 0) (h2 : ¬t.val % 4 = 3) : OutT F :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t))

def outs_B (c : Dev nD) (t : Fin cfg0.N) (h0 : ¬t.val % 64 = 0) (h1 : ¬t.val % 4 = 0) (h2 : ¬t.val % 4 = 3) (p : OutT F) : OutT F :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.2.2.2.1 p.2.2.2.2.2.2.2, p.2.1, p.2.2.1, p.2.2.2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.2.2.2.1 p.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.2.2.2.1 p.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.2.2.2.1 p.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) p.2.2.2.1 p.2.2.2.2.2.2.2)

def outs_C (c : Dev nD) (t : Fin cfg0.N) (h0 : ¬t.val % 64 = 0) (h1 : ¬t.val % 4 = 0) (h2 : t.val % 4 = 3) (p : OutT F) : OutT F :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.2.1 p.2.2.1 p.2.2.2.1 p.2.2.2.2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.2.1 p.2.2.1 p.2.2.2.1 p.2.2.2.2.2.2.2, p.2.2.1, p.2.2.2.1, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.2.1 p.2.2.1 p.2.2.2.1 p.2.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.2.1 p.2.2.1 p.2.2.2.1 p.2.2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.2.1 p.2.2.1 p.2.2.2.1 p.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) p.2.1 p.2.2.1 p.2.2.2.1 p.2.2.2.2.2.2.2)

def outs_D (c : Dev nD) (t : Fin cfg0.N) (h0 : ¬t.val % 64 = 0) (h1 : t.val % 4 = 0) (h2 : ¬t.val % 4 = 3) (p : OutT F) : OutT F :=
  (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), p.2.1, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), out0_D_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t))
end Cert.FfnBwdIdeal.Own

end
-- ==== Proof.FbFrame.lean ====
module

public import proofs.«01_k».proof.Proof.FbOuts
public import Idealize.ShloMosaic.Lib.Claim
/-! What the results' buffers and the sum kept between points hold after every point, and the run of the whole
    program: it ends, and its arguments are as they were. -/

@[expose] public section

set_option maxRecDepth 16384

noncomputable section

namespace Cert.FfnBwdIdeal.Own

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

def outsAt0 (c : Dev nD) : (n : ℕ) → n < cfg0.N → OutT F
  | 0, hn => outs_A m c ⟨0, hn⟩ (by simp) (by simp) (by simp)
  | n + 1, hn =>
    if h0 : (n + 1) % 64 = 0 then
      if h1 : (n + 1) % 4 = 0 then
        if h2 : (n + 1) % 4 = 3 then
          False.elim (by have hN : n + 1 < 64 := lt_of_lt_of_eq hn (show cfg0.N = 64 from N_0); omega)
        else
          outs_A m c ⟨n + 1, hn⟩ h0 h1 h2
      else
        False.elim (by have hN : n + 1 < 64 := lt_of_lt_of_eq hn (show cfg0.N = 64 from N_0); omega)
    else
      if h1 : (n + 1) % 4 = 0 then
        if h2 : (n + 1) % 4 = 3 then
          False.elim (by have hN : n + 1 < 64 := lt_of_lt_of_eq hn (show cfg0.N = 64 from N_0); omega)
        else
          outs_D m c ⟨n + 1, hn⟩ h0 h1 h2 (outsAt0 c n (Nat.lt_of_succ_lt hn))
      else
        if h2 : (n + 1) % 4 = 3 then
          outs_C m c ⟨n + 1, hn⟩ h0 h1 h2 (outsAt0 c n (Nat.lt_of_succ_lt hn))
        else
          outs_B m c ⟨n + 1, hn⟩ h0 h1 h2 (outsAt0 c n (Nat.lt_of_succ_lt hn))

theorem outsAt0_A (c : Dev nD) (t : Fin cfg0.N) (h0 : t.val % 64 = 0) (h1 : t.val % 4 = 0) (h2 : ¬t.val % 4 = 3) :
    outsAt0 m c t.val t.isLt = outs_A m c t h0 h1 h2 := by
  obtain ⟨n, hn⟩ := t
  cases n with
  | zero => exact rfl
  | succ n => exact (dif_pos h0).trans ((dif_pos h1).trans ((dif_neg h2).trans rfl))

theorem outsAt0_B (c : Dev nD) (t : Fin cfg0.N) (h0 : ¬t.val % 64 = 0) (h1 : ¬t.val % 4 = 0) (h2 : ¬t.val % 4 = 3) :
    outsAt0 m c t.val t.isLt = outs_B m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans rfl))

theorem outsAt0_C (c : Dev nD) (t : Fin cfg0.N) (h0 : ¬t.val % 64 = 0) (h1 : ¬t.val % 4 = 0) (h2 : t.val % 4 = 3) :
    outsAt0 m c t.val t.isLt = outs_C m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt0_D (c : Dev nD) (t : Fin cfg0.N) (h0 : ¬t.val % 64 = 0) (h1 : t.val % 4 = 0) (h2 : ¬t.val % 4 = 3) :
    outsAt0 m c t.val t.isLt = outs_D m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
    | ⟨14, _⟩ => (outsAt0 m c t.val t.isLt).2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]
theorem after0_14 (c : Dev nD) (t : Fin cfg0.N) : (dats m 0 c).after 14 t = (outsAt0 m c t.val t.isLt).2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 64 := lt_of_lt_of_eq t.isLt (show cfg0.N = 64 from N_0)
  rw [after0_9, after0_9]
  by_cases h0 : t.val % 64 = 0
  · by_cases h1 : t.val % 4 = 0
    · by_cases h2 : t.val % 4 = 3
      · exfalso; omega
      · rw [liveAt0_9_A t ((hcond0_0 t).mpr h0) ((hcond0_1 t).mpr h1) (fun h => h2 ((hcond0_2 t).mp h))] at hi
        exact absurd hi Bool.false_ne_true
    · exfalso; omega
  · by_cases h1 : t.val % 4 = 0
    · by_cases h2 : t.val % 4 = 3
      · exfalso; omega
      · rw [outsAt0_D m c t h0 h1 h2]; unfold outs_D
        dsimp only
    · by_cases h2 : t.val % 4 = 3
      · rw [liveAt0_9_C t (fun h => h0 ((hcond0_0 t).mp h)) (fun h => h1 ((hcond0_1 t).mp h)) ((hcond0_2 t).mpr h2)] at hi
        exact absurd hi Bool.false_ne_true
      · rw [outsAt0_B m c t h0 h1 h2]; unfold outs_B
        dsimp only

theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 64 := lt_of_lt_of_eq t.isLt (show cfg0.N = 64 from N_0)
  rw [after0_10, after0_10]
  by_cases h0 : t.val % 64 = 0
  · by_cases h1 : t.val % 4 = 0
    · by_cases h2 : t.val % 4 = 3
      · exfalso; omega
      · rw [liveAt0_10_A t ((hcond0_0 t).mpr h0) ((hcond0_1 t).mpr h1) (fun h => h2 ((hcond0_2 t).mp h))] at hi
        exact absurd hi Bool.false_ne_true
    · exfalso; omega
  · by_cases h1 : t.val % 4 = 0
    · by_cases h2 : t.val % 4 = 3
      · exfalso; omega
      · rw [liveAt0_10_D t (fun h => h0 ((hcond0_0 t).mp h)) ((hcond0_1 t).mpr h1) (fun h => h2 ((hcond0_2 t).mp h))] at hi
        exact absurd hi Bool.false_ne_true
    · by_cases h2 : t.val % 4 = 3
      · rw [outsAt0_C m c t h0 h1 h2]; unfold outs_C
        dsimp only
      · rw [outsAt0_B m c t h0 h1 h2]; unfold outs_B
        dsimp only

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 64 := lt_of_lt_of_eq t.isLt (show cfg0.N = 64 from N_0)
  rw [after0_11, after0_11]
  by_cases h0 : t.val % 64 = 0
  · by_cases h1 : t.val % 4 = 0
    · by_cases h2 : t.val % 4 = 3
      · exfalso; omega
      · rw [liveAt0_11_A t ((hcond0_0 t).mpr h0) ((hcond0_1 t).mpr h1) (fun h => h2 ((hcond0_2 t).mp h))] at hi
        exact absurd hi Bool.false_ne_true
    · exfalso; omega
  · by_cases h1 : t.val % 4 = 0
    · by_cases h2 : t.val % 4 = 3
      · exfalso; omega
      · rw [liveAt0_11_D t (fun h => h0 ((hcond0_0 t).mp h)) ((hcond0_1 t).mpr h1) (fun h => h2 ((hcond0_2 t).mp h))] at hi
        exact absurd hi Bool.false_ne_true
    · by_cases h2 : t.val % 4 = 3
      · rw [outsAt0_C m c t h0 h1 h2]; unfold outs_C
        dsimp only
      · rw [outsAt0_B m c t h0 h1 h2]; unfold outs_B
        dsimp only
theorem before0_11_B (c : Dev nD) (t : Fin cfg0.N) (h0 : ¬t.val % 64 = 0) (h1 : ¬t.val % 4 = 0) (h2 : ¬t.val % 4 = 3) (d) :
    (dats m 0 c).before 11 t d = (outsAt0 m c (t.val - 1) (Nat.lt_of_le_of_lt (Nat.sub_le _ _) t.isLt)).2.2.2.1 := by
  rw [Dat.before_out_traj _ 11 rfl (fun _ _ => rfl) (hcarry0_11 m c) t.val t rfl d,
    if_neg (by rw [notFresh0_11_B t (fun h => h0 ((hcond0_0 t).mp h)) (fun h => h1 ((hcond0_1 t).mp h)) (fun h => h2 ((hcond0_2 t).mp h))]; exact Bool.false_ne_true)]
  dsimp only [dats]
theorem before0_9_C (c : Dev nD) (t : Fin cfg0.N) (h0 : ¬t.val % 64 = 0) (h1 : ¬t.val % 4 = 0) (h2 : t.val % 4 = 3) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_C t (fun h => h0 ((hcond0_0 t).mp h)) (fun h => h1 ((hcond0_1 t).mp h)) ((hcond0_2 t).mpr h2)]; exact Bool.false_ne_true)]
  dsimp only [dats]
theorem before0_10_C (c : Dev nD) (t : Fin cfg0.N) (h0 : ¬t.val % 64 = 0) (h1 : ¬t.val % 4 = 0) (h2 : t.val % 4 = 3) (d) :
    (dats m 0 c).before 10 t d = (outsAt0 m c (t.val - 1) (Nat.lt_of_le_of_lt (Nat.sub_le _ _) t.isLt)).2.2.1 := by
  rw [Dat.before_out_traj _ 10 rfl (fun _ _ => rfl) (hcarry0_10 m c) t.val t rfl d,
    if_neg (by rw [notFresh0_10_C t (fun h => h0 ((hcond0_0 t).mp h)) (fun h => h1 ((hcond0_1 t).mp h)) ((hcond0_2 t).mpr h2)]; exact Bool.false_ne_true)]
  dsimp only [dats]
theorem before0_11_C (c : Dev nD) (t : Fin cfg0.N) (h0 : ¬t.val % 64 = 0) (h1 : ¬t.val % 4 = 0) (h2 : t.val % 4 = 3) (d) :
    (dats m 0 c).before 11 t d = (outsAt0 m c (t.val - 1) (Nat.lt_of_le_of_lt (Nat.sub_le _ _) t.isLt)).2.2.2.1 := by
  rw [Dat.before_out_traj _ 11 rfl (fun _ _ => rfl) (hcarry0_11 m c) t.val t rfl d,
    if_neg (by rw [notFresh0_11_C t (fun h => h0 ((hcond0_0 t).mp h)) (fun h => h1 ((hcond0_1 t).mp h)) ((hcond0_2 t).mpr h2)]; exact Bool.false_ne_true)]
  dsimp only [dats]

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem left_0 (c : Dev nD) (t : Fin cfg0.N) : (dats m 0 c).leavesExact 0 t = owns (c : Thread nD τ) (ms0_0 t) fullShare ((dats m 0 c).after 0 t) := by
  unfold Dat.leavesExact; rw [liveAt0_0 t]

theorem left_1 (c : Dev nD) (t : Fin cfg0.N) : (dats m 0 c).leavesExact 1 t = owns (c : Thread nD τ) (ms0_1 t) fullShare ((dats m 0 c).after 1 t) := by
  unfold Dat.leavesExact; rw [liveAt0_1 t]

theorem left_2 (c : Dev nD) (t : Fin cfg0.N) : (dats m 0 c).leavesExact 2 t = owns (c : Thread nD τ) (ms0_2 t) fullShare ((dats m 0 c).after 2 t) := by
  unfold Dat.leavesExact; rw [liveAt0_2 t]

theorem left_3 (c : Dev nD) (t : Fin cfg0.N) : (dats m 0 c).leavesExact 3 t = owns (c : Thread nD τ) (ms0_3 t) fullShare ((dats m 0 c).after 3 t) := by
  unfold Dat.leavesExact; rw [liveAt0_3 t]

theorem left_4 (c : Dev nD) (t : Fin cfg0.N) : (dats m 0 c).leavesExact 4 t = owns (c : Thread nD τ) (ms0_4 t) fullShare ((dats m 0 c).after 4 t) := by
  unfold Dat.leavesExact; rw [liveAt0_4 t]

theorem left_5 (c : Dev nD) (t : Fin cfg0.N) : (dats m 0 c).leavesExact 5 t = owns (c : Thread nD τ) (ms0_5 t) fullShare ((dats m 0 c).after 5 t) := by
  unfold Dat.leavesExact; rw [liveAt0_5 t]

theorem left_6 (c : Dev nD) (t : Fin cfg0.N) : (dats m 0 c).leavesExact 6 t = owns (c : Thread nD τ) (ms0_6 t) fullShare ((dats m 0 c).after 6 t) := by
  unfold Dat.leavesExact; rw [liveAt0_6 t]

theorem left_7 (c : Dev nD) (t : Fin cfg0.N) : (dats m 0 c).leavesExact 7 t = owns (c : Thread nD τ) (ms0_7 t) fullShare ((dats m 0 c).after 7 t) := by
  unfold Dat.leavesExact; rw [liveAt0_7 t]

theorem left_12 (c : Dev nD) (t : Fin cfg0.N) : (dats m 0 c).leavesExact 12 t = owns (c : Thread nD τ) (ms0_12 t) fullShare ((dats m 0 c).after 12 t) := by
  unfold Dat.leavesExact; rw [liveAt0_12 t]

theorem left_13 (c : Dev nD) (t : Fin cfg0.N) : (dats m 0 c).leavesExact 13 t = owns (c : Thread nD τ) (ms0_13 t) fullShare ((dats m 0 c).after 13 t) := by
  unfold Dat.leavesExact; rw [liveAt0_13 t]

theorem left_14 (c : Dev nD) (t : Fin cfg0.N) : (dats m 0 c).leavesExact 14 t = owns (c : Thread nD τ) (ms0_14 t) fullShare ((dats m 0 c).after 14 t) := by
  unfold Dat.leavesExact; rw [liveAt0_14 t]

set_option maxHeartbeats 4000000 in
theorem sound_A (c : Dev nD) (t : Fin cfg0.N) (h0 : t.val % 64 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [left_0 m c t, after0_0]
  rw [left_1 m c t, after0_1]
  rw [left_2 m c t, after0_2]
  rw [left_3 m c t, after0_3]
  rw [left_4 m c t, after0_4]
  rw [left_5 m c t, after0_5]
  rw [left_6 m c t, after0_6]
  rw [left_7 m c t, after0_7]
  rw [Dat.leavesExact_idle (dats m 0 c) 8 t (idleAt0_8_A t ((hcond0_0 t).mpr h0) ((hcond0_1 t).mpr h1) (fun h => h2 ((hcond0_2 t).mp h))) (noFlush0_8_A t ((hcond0_0 t).mpr h0) ((hcond0_1 t).mpr h1) (fun h => h2 ((hcond0_2 t).mp h)))]
  rw [show (dats m 0 c).leavesExact 9 t = owns (c : Thread nD τ) (ms0_9 t) fullShare ((dats m 0 c).after 9 t) from by unfold Dat.leavesExact; rw [liveAt0_9_A t ((hcond0_0 t).mpr h0) ((hcond0_1 t).mpr h1) (fun h => h2 ((hcond0_2 t).mp h))], after0_9]
  rw [show (dats m 0 c).leavesExact 10 t = owns (c : Thread nD τ) (ms0_10 t) fullShare ((dats m 0 c).after 10 t) from by unfold Dat.leavesExact; rw [liveAt0_10_A t ((hcond0_0 t).mpr h0) ((hcond0_1 t).mpr h1) (fun h => h2 ((hcond0_2 t).mp h))], after0_10]
  rw [show (dats m 0 c).leavesExact 11 t = owns (c : Thread nD τ) (ms0_11 t) fullShare ((dats m 0 c).after 11 t) from by unfold Dat.leavesExact; rw [liveAt0_11_A t ((hcond0_0 t).mpr h0) ((hcond0_1 t).mpr h1) (fun h => h2 ((hcond0_2 t).mp h))], after0_11]
  rw [left_12 m c t, after0_12]
  rw [left_13 m c t, after0_13]
  rw [left_14 m c t, after0_14]
  by_cases hz : t.val = 0
  · rw [PhiS_castSucc m c t, PhiS_zero m c _ _ hz, PhiA0_eq]
    rw [outsAt0_A m c t h0 h1 h2]; unfold outs_A
    unfold out0_A_9 out0_A_10 out0_A_11 out0_A_12 out0_A_13 out0_A_14 sout0_A_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2.2.2.2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, ⟨%e9, H9⟩, ⟨%e10, H10⟩, ⟨%e11, H11⟩, ⟨%e12, H12⟩, ⟨%e13, H13⟩, ⟨%e14, H14⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _)
  · exfalso; have hN : t.val < 64 := lt_of_lt_of_eq t.isLt (show cfg0.N = 64 from N_0); omega

set_option maxHeartbeats 4000000 in
theorem sound_D (c : Dev nD) (t : Fin cfg0.N) (h0 : ¬t.val % 64 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [left_0 m c t, after0_0]
  rw [left_1 m c t, after0_1]
  rw [left_2 m c t, after0_2]
  rw [left_3 m c t, after0_3]
  rw [left_4 m c t, after0_4]
  rw [left_5 m c t, after0_5]
  rw [left_6 m c t, after0_6]
  rw [left_7 m c t, after0_7]
  rw [Dat.leavesExact_idle (dats m 0 c) 8 t (idleAt0_8_D t (fun h => h0 ((hcond0_0 t).mp h)) ((hcond0_1 t).mpr h1) (fun h => h2 ((hcond0_2 t).mp h))) (noFlush0_8_D t (fun h => h0 ((hcond0_0 t).mp h)) ((hcond0_1 t).mpr h1) (fun h => h2 ((hcond0_2 t).mp h)))]
  rw [Dat.leavesExact_idle (dats m 0 c) 9 t (idleAt0_9_D t (fun h => h0 ((hcond0_0 t).mp h)) ((hcond0_1 t).mpr h1) (fun h => h2 ((hcond0_2 t).mp h))) (noFlush0_9_D t (fun h => h0 ((hcond0_0 t).mp h)) ((hcond0_1 t).mpr h1) (fun h => h2 ((hcond0_2 t).mp h)))]
  rw [show (dats m 0 c).leavesExact 10 t = owns (c : Thread nD τ) (ms0_10 t) fullShare ((dats m 0 c).after 10 t) from by unfold Dat.leavesExact; rw [liveAt0_10_D t (fun h => h0 ((hcond0_0 t).mp h)) ((hcond0_1 t).mpr h1) (fun h => h2 ((hcond0_2 t).mp h))], after0_10]
  rw [show (dats m 0 c).leavesExact 11 t = owns (c : Thread nD τ) (ms0_11 t) fullShare ((dats m 0 c).after 11 t) from by unfold Dat.leavesExact; rw [liveAt0_11_D t (fun h => h0 ((hcond0_0 t).mp h)) ((hcond0_1 t).mpr h1) (fun h => h2 ((hcond0_2 t).mp h))], after0_11]
  rw [left_12 m c t, after0_12]
  rw [left_13 m c t, after0_13]
  rw [left_14 m c t, after0_14]
  by_cases hz : t.val = 0
  · exfalso; have hN : t.val < 64 := lt_of_lt_of_eq t.isLt (show cfg0.N = 64 from N_0); omega
  · rw [PhiS_castSucc m c t, PhiS_pos m c _ _ hz]
    rw [outsAt0_D m c t h0 h1 h2]; unfold outs_D
    unfold out0_D_10 out0_D_11 out0_D_12 out0_D_13 out0_D_14 sout0_D_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_D c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t)).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    iintro ⟨H0, H1, H2, H3, H4, H5, H6, H7, H8, H9, ⟨%e10, H10⟩, ⟨%e11, H11⟩, ⟨%e12, H12⟩, ⟨%e13, H13⟩, ⟨%e14, H14⟩, ⟨%es0, HS0⟩⟩
    isplitl [HS0 Hg]
    · isplitl [HS0]
      · unfold owns; iexists _; isplitr
        swap; · iexact HS0
        ipureintro; exact View.read_writes_of_cover _ _ _ _ _ (scover0_D_0 c _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]
    · unfold owns; iexists _; isplitr
      swap; · iexact H10
      ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_D_13 c _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_D_14 c _ _ _ _ _ _ _ _ _ _ _ _ _ _ _ _ _ _ _ _ _ _ _ _ _ _ _ _ _ _ _ _ _ _ _ _ _ _ _ _ _ _ _ _)

set_option maxHeartbeats 4000000 in
theorem sound_C (c : Dev nD) (t : Fin cfg0.N) (h0 : ¬t.val % 64 = 0) (h1 : ¬t.val % 4 = 0) (h2 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [left_0 m c t, after0_0]
  rw [left_1 m c t, after0_1]
  rw [left_2 m c t, after0_2]
  rw [left_3 m c t, after0_3]
  rw [left_4 m c t, after0_4]
  rw [left_5 m c t, after0_5]
  rw [left_6 m c t, after0_6]
  rw [left_7 m c t, after0_7]
  rw [show (dats m 0 c).leavesExact 8 t = owns (c : Thread nD τ) (ms0_8 t) fullShare ((dats m 0 c).after 8 t) from by unfold Dat.leavesExact; rw [liveAt0_8_C t (fun h => h0 ((hcond0_0 t).mp h)) (fun h => h1 ((hcond0_1 t).mp h)) ((hcond0_2 t).mpr h2)], after0_8]
  rw [show (dats m 0 c).leavesExact 9 t = owns (c : Thread nD τ) (ms0_9 t) fullShare ((dats m 0 c).after 9 t) from by unfold Dat.leavesExact; rw [liveAt0_9_C t (fun h => h0 ((hcond0_0 t).mp h)) (fun h => h1 ((hcond0_1 t).mp h)) ((hcond0_2 t).mpr h2)], after0_9]
  rw [show (dats m 0 c).leavesExact 10 t = owns (c : Thread nD τ) (ms0_10 t) fullShare ((dats m 0 c).after 10 t) from by unfold Dat.leavesExact; rw [idleAt0_10_C t (fun h => h0 ((hcond0_0 t).mp h)) (fun h => h1 ((hcond0_1 t).mp h)) ((hcond0_2 t).mpr h2), doFlush0_10_C t (fun h => h0 ((hcond0_0 t).mp h)) (fun h => h1 ((hcond0_1 t).mp h)) ((hcond0_2 t).mpr h2)], after0_10]
  rw [show (dats m 0 c).leavesExact 11 t = owns (c : Thread nD τ) (ms0_11 t) fullShare ((dats m 0 c).after 11 t) from by unfold Dat.leavesExact; rw [idleAt0_11_C t (fun h => h0 ((hcond0_0 t).mp h)) (fun h => h1 ((hcond0_1 t).mp h)) ((hcond0_2 t).mpr h2), doFlush0_11_C t (fun h => h0 ((hcond0_0 t).mp h)) (fun h => h1 ((hcond0_1 t).mp h)) ((hcond0_2 t).mpr h2)], after0_11]
  rw [left_12 m c t, after0_12]
  rw [left_13 m c t, after0_13]
  rw [left_14 m c t, after0_14]
  by_cases hz : t.val = 0
  · exfalso; have hN : t.val < 64 := lt_of_lt_of_eq t.isLt (show cfg0.N = 64 from N_0); omega
  · rw [PhiS_castSucc m c t, PhiS_pos m c _ _ hz]
    rw [outsAt0_C m c t h0 h1 h2]; unfold outs_C
    simp only [before0_9_C m c t h0 h1 h2, before0_10_C m c t h0 h1 h2, before0_11_C m c t h0 h1 h2]
    unfold out0_C_8 out0_C_9 out0_C_12 out0_C_13 out0_C_14 sout0_C_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_C c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _ _ _ _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    iintro ⟨H0, H1, H2, H3, H4, H5, H6, H7, ⟨%e8, H8⟩, ⟨%e9, H9⟩, H10, H11, ⟨%e12, H12⟩, ⟨%e13, H13⟩, ⟨%e14, H14⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _)
    isplitl [H10]; · iexact H10
    isplitl [H11]; · iexact H11
    isplitl [H12]
    · unfold owns; iexists _; isplitr
      swap; · iexact H12
      ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _)

set_option maxHeartbeats 4000000 in
theorem sound_B (c : Dev nD) (t : Fin cfg0.N) (h0 : ¬t.val % 64 = 0) (h1 : ¬t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [left_0 m c t, after0_0]
  rw [left_1 m c t, after0_1]
  rw [left_2 m c t, after0_2]
  rw [left_3 m c t, after0_3]
  rw [left_4 m c t, after0_4]
  rw [left_5 m c t, after0_5]
  rw [left_6 m c t, after0_6]
  rw [left_7 m c t, after0_7]
  rw [Dat.leavesExact_idle (dats m 0 c) 8 t (idleAt0_8_B t (fun h => h0 ((hcond0_0 t).mp h)) (fun h => h1 ((hcond0_1 t).mp h)) (fun h => h2 ((hcond0_2 t).mp h))) (noFlush0_8_B t (fun h => h0 ((hcond0_0 t).mp h)) (fun h => h1 ((hcond0_1 t).mp h)) (fun h => h2 ((hcond0_2 t).mp h)))]
  rw [Dat.leavesExact_idle (dats m 0 c) 9 t (idleAt0_9_B t (fun h => h0 ((hcond0_0 t).mp h)) (fun h => h1 ((hcond0_1 t).mp h)) (fun h => h2 ((hcond0_2 t).mp h))) (noFlush0_9_B t (fun h => h0 ((hcond0_0 t).mp h)) (fun h => h1 ((hcond0_1 t).mp h)) (fun h => h2 ((hcond0_2 t).mp h)))]
  rw [Dat.leavesExact_idle (dats m 0 c) 10 t (idleAt0_10_B t (fun h => h0 ((hcond0_0 t).mp h)) (fun h => h1 ((hcond0_1 t).mp h)) (fun h => h2 ((hcond0_2 t).mp h))) (noFlush0_10_B t (fun h => h0 ((hcond0_0 t).mp h)) (fun h => h1 ((hcond0_1 t).mp h)) (fun h => h2 ((hcond0_2 t).mp h)))]
  rw [Dat.leavesExact_idle (dats m 0 c) 11 t (idleAt0_11_B t (fun h => h0 ((hcond0_0 t).mp h)) (fun h => h1 ((hcond0_1 t).mp h)) (fun h => h2 ((hcond0_2 t).mp h))) (noFlush0_11_B t (fun h => h0 ((hcond0_0 t).mp h)) (fun h => h1 ((hcond0_1 t).mp h)) (fun h => h2 ((hcond0_2 t).mp h)))]
  rw [left_12 m c t, after0_12]
  rw [left_13 m c t, after0_13]
  rw [left_14 m c t, after0_14]
  by_cases hz : t.val = 0
  · exfalso; have hN : t.val < 64 := lt_of_lt_of_eq t.isLt (show cfg0.N = 64 from N_0); omega
  · rw [PhiS_castSucc m c t, PhiS_pos m c _ _ hz]
    rw [outsAt0_B m c t h0 h1 h2]; unfold outs_B
    simp only [before0_11_B m c t h0 h1 h2]
    unfold out0_B_12 out0_B_13 out0_B_14 sout0_B_0; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) _ _).2.2.2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, H9, H10, H11, ⟨%e12, H12⟩, ⟨%e13, H13⟩, ⟨%e14, H14⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists d11; iexact H11
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  by_cases h0 : t.val % 64 = 0
  · by_cases h1 : t.val % 4 = 0
    · by_cases h2 : t.val % 4 = 3
      · exfalso; omega
      · exact sound_A m c t h0 h1 h2
    · exfalso; omega
  · by_cases h1 : t.val % 4 = 0
    · by_cases h2 : t.val % 4 = 3
      · exfalso; omega
      · exact sound_D m c t h0 h1 h2
    · by_cases h2 : t.val % 4 = 3
      · exact sound_C m c t h0 h1 h2
      · exact sound_B m c t h0 h1 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))
end Cert.FfnBwdIdeal.Own

end
-- ==== Proof.FbBits.lean ====
module

public import proofs.«01_k».proof.Proof.FbFrame
public import proofs.«01_k».proof.Proof.Gen.FfnBwd.Launch
public import Idealize.ShloMosaic.Lib.Tactic

/-! The program as it is printed and the program read at the ideal numbers are one text, so that the run proved of the
    one at every reading of the floats is the run of the other at the machine's. -/

@[expose] public section

set_option maxRecDepth 32768

noncomputable section

namespace Cert.FfnBwd.Own

open Idealize.ShloMosaic Idealize.ShloMosaic.TcCoe Idealize.SL.Sem

variable {F : FTy → Type} [FloatOps F]

/-- The two programs are one term. -/
theorem main_eq : Cert.FfnBwd.main (F := F) = Cert.FfnBwdIdeal.main (F := F) := by sl_kernel_rfl

/-- And so are the bodies that they call. -/
theorem defs_eq : Cert.FfnBwd.defs (F := F) = Cert.FfnBwdIdeal.defs (F := F) := by sl_kernel_rfl

/-- The program ends with its arguments as they were and every counter at zero. -/
theorem frame (m : (ℓ : Loc Cert.FfnBwd.nD Cert.FfnBwd.τ Cert.FfnBwd.sig) → Buf (Elt F) ℓ) (ρ : Dev Cert.FfnBwd.nD → PrngReg) :
    θ_run (Cert.FfnBwd.defs (F := F)) (onTc (τ := Cert.FfnBwd.τ) (Cert.FfnBwd.main (F := F))) ⟨m, fun _ => 0, ρ⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0) := by
  rw [main_eq, defs_eq]
  exact Cert.FfnBwdIdeal.Own.frame m ρ

end Cert.FfnBwd.Own

end
-- ==== Proof.FbValue.lean ====
module

public import proofs.«01_k».proof.Proof.FbFrame
public import Idealize.ShloMosaic.Lib.Pipeline.Value
/-! What every result's array holds after the run of `ffn_bwd`, by name. -/

@[expose] public section

set_option maxRecDepth 16384

noncomputable section

namespace Cert.FfnBwdIdeal.Own

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- What result window 8's array holds after the run. -/
theorem post8 (r : PUnit × MemSt nD τ sig (Elt F)) (h : Pipeline.FramePost cfgs (dats m) 0 (V m) r) (c : Dev nD) :
    r.2.mem ((c : Thread nD τ).loc main_v32_0) = (dats m 0 c).arrAt 8 cfg0.N :=
  (h c).1 8

/-- What result window 9's array holds after the run. -/
theorem post9 (r : PUnit × MemSt nD τ sig (Elt F)) (h : Pipeline.FramePost cfgs (dats m) 0 (V m) r) (c : Dev nD) :
    r.2.mem ((c : Thread nD τ).loc main_v32_1) = (dats m 0 c).arrAt 9 cfg0.N :=
  (h c).1 9

/-- What result window 10's array holds after the run. -/
theorem post10 (r : PUnit × MemSt nD τ sig (Elt F)) (h : Pipeline.FramePost cfgs (dats m) 0 (V m) r) (c : Dev nD) :
    r.2.mem ((c : Thread nD τ).loc main_v32_2) = (dats m 0 c).arrAt 10 cfg0.N :=
  (h c).1 10

/-- What result window 11's array holds after the run. -/
theorem post11 (r : PUnit × MemSt nD τ sig (Elt F)) (h : Pipeline.FramePost cfgs (dats m) 0 (V m) r) (c : Dev nD) :
    r.2.mem ((c : Thread nD τ).loc main_v32_3) = (dats m 0 c).arrAt 11 cfg0.N :=
  (h c).1 11

/-- What result window 12's array holds after the run. -/
theorem post12 (r : PUnit × MemSt nD τ sig (Elt F)) (h : Pipeline.FramePost cfgs (dats m) 0 (V m) r) (c : Dev nD) :
    r.2.mem ((c : Thread nD τ).loc main_v32_4) = (dats m 0 c).arrAt 12 cfg0.N :=
  (h c).1 12

/-- What result window 13's array holds after the run. -/
theorem post13 (r : PUnit × MemSt nD τ sig (Elt F)) (h : Pipeline.FramePost cfgs (dats m) 0 (V m) r) (c : Dev nD) :
    r.2.mem ((c : Thread nD τ).loc main_v32_5) = (dats m 0 c).arrAt 13 cfg0.N :=
  (h c).1 13

/-- What result window 14's array holds after the run. -/
theorem post14 (r : PUnit × MemSt nD τ sig (Elt F)) (h : Pipeline.FramePost cfgs (dats m) 0 (V m) r) (c : Dev nD) :
    r.2.mem ((c : Thread nD τ).loc main_v32_6) = (dats m 0 c).arrAt 14 cfg0.N :=
  (h c).1 14

/-- The argument `main_arg0` after the run. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The argument `main_arg1` after the run. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The argument `main_arg2` after the run. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The argument `main_arg3` after the run. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The argument `main_arg4` after the run. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The argument `main_arg5` after the run. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run, with what every result holds after it, and the arguments as they were. -/
theorem run_blocks : θ_run defs (onTc (τ := τ) (main (F := F))) ⟨m, fun _ => 0, ρ⟩ fun r => ∀ c : Dev nD,
      r.2.mem ((c : Thread nD τ).loc main_v32_0) = (dats m 0 c).arrAt 8 cfg0.N
      ∧ r.2.mem ((c : Thread nD τ).loc main_v32_1) = (dats m 0 c).arrAt 9 cfg0.N
      ∧ r.2.mem ((c : Thread nD τ).loc main_v32_2) = (dats m 0 c).arrAt 10 cfg0.N
      ∧ r.2.mem ((c : Thread nD τ).loc main_v32_3) = (dats m 0 c).arrAt 11 cfg0.N
      ∧ r.2.mem ((c : Thread nD τ).loc main_v32_4) = (dats m 0 c).arrAt 12 cfg0.N
      ∧ r.2.mem ((c : Thread nD τ).loc main_v32_5) = (dats m 0 c).arrAt 13 cfg0.N
      ∧ r.2.mem ((c : Thread nD τ).loc main_v32_6) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post8 m r h c,
      post9 m r h c,
      post10 m r h c,
      post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c⟩)
    (run_main m ρ)

end Cert.FfnBwdIdeal.Own

end
-- ==== Proof.FbKern.lean ====
module

public import proofs.«01_k».proof.Proof.FbValue
public import proofs.«01_k».proof.Proof.FfnF
public import proofs.«01_k».proof.Proof.InB
/-! What every result of `ffn_bwd` holds after the run, as sums over the arguments. -/

@[expose] public section

set_option maxRecDepth 16384

noncomputable section

namespace Cert.FfnBwdIdeal.Calc

open Idealize.ShloMosaic Idealize.ShloMosaic.TcCoe Idealize.SL.Sem
open Idealize.ShloMosaic.Pipeline (Dat)
open Cert.FfnBwdIdeal Cert.FfnBwdIdeal.Gen Cert.FfnBwdIdeal.Own Cert.Base
open Cert.FfnFwdIdeal.Calc (hn gt)
open Cert.InProjBwdIdeal.Calc (rx dx dgr acc acc_all acc_succ)

variable (m : (ℓ : Loc nD τ sig) → Buf (Elt Ideal) ℓ)

abbrev X0 (c : Dev nD) : FVec Ideal S8192x1024 .f32 := m ((c : Thread nD τ).loc main_arg0)
abbrev E0 (c : Dev nD) : FVec Ideal S8192x1024 .f32 := m ((c : Thread nD τ).loc main_arg1)
abbrev G0 (c : Dev nD) : FVec Ideal S1024 .f32 := m ((c : Thread nD τ).loc main_arg2)
abbrev WG0 (c : Dev nD) : FVec Ideal S1024x2816 .f32 := m ((c : Thread nD τ).loc main_arg3)
abbrev WU0 (c : Dev nD) : FVec Ideal S1024x2816 .f32 := m ((c : Thread nD τ).loc main_arg4)
abbrev WD0 (c : Dev nD) : FVec Ideal S2816x1024 .f32 := m ((c : Thread nD τ).loc main_arg5)

theorem idx_val : ∀ t : Fin cfg0.N, win0_0.index t = ![t.val / 4, 0] ∧ win0_1.index t = ![t.val / 4, 0] ∧ win0_2.index t = ![0, 0] ∧ win0_3.index t = ![t.val % 4, t.val / 4, 0] ∧ win0_4.index t = ![t.val % 4, t.val / 4, 0]
    ∧ win0_5.index t = ![0, 0, 0, 0] ∧ win0_6.index t = ![0, 0, 0, 0] ∧ win0_7.index t = ![0, 0, 0, 0] :=
  (by decide +kernel : ∀ t : Fin grid0.N, _)

theorem idx_out : ∀ t : Fin cfg0.N, win0_8.index t = ![t.val / 4, 0] ∧ win0_9.index t = ![0, 0] ∧ win0_10.index t = ![t.val / 4, 0] ∧ win0_11.index t = ![t.val / 4, 0]
    ∧ win0_12.index t = ![t.val % 4, t.val / 4, 0] ∧ win0_13.index t = ![t.val % 4, t.val / 4, 0] ∧ win0_14.index t = ![t.val % 4, t.val / 4, 0] :=
  (by decide +kernel : ∀ t : Fin grid0.N, _)

theorem off_val : ∀ t : Fin cfg0.N, k0_off1 (grid0.coords t) = ![t.val % 4, 0, 0, 0] ∧ k0_off2 (grid0.coords t) = ![t.val % 4, 0, 0, 0] :=
  (by decide +kernel : ∀ t : Fin grid0.N, _)

/-- The four shards of a weight's columns, and of a weight's rows. -/
abbrev CS (W : FVec Ideal S1024x2816 .f32) : FVec Ideal S4x1x1024x704 .bf16 :=
  broadcastInDim S4x1x1024x704 ![0, 2, 3] bcast_S4x1024x704_S4x1x1024x704_0_2_3 (transpose S4x1024x704 [1, 0, 2] (shapeCast S1024x4x704 (truncf .bf16 W bitsLt_bf16_f32) shapeCasts_S1024x2816_S1024x4x704) transposes_S1024x4x704_S4x1024x704_1_0_2)

abbrev RS (W : FVec Ideal S2816x1024 .f32) : FVec Ideal S4x1x704x1024 .bf16 :=
  shapeCast S4x1x704x1024 (truncf .bf16 W bitsLt_bf16_f32) shapeCasts_S2816x1024_S4x1x704x1024

theorem v21_eq (c : Dev nD) : V m c main_v21 = broadcastInDim S1x1024 ![1] bcast_S1024_S1x1024_1 (G0 m c) := by
  unfold V
  simp only [hostOps0, List.flatten_cons, List.flatten_nil, List.append_nil, List.cons_append, List.nil_append]
  after_results

theorem v16_eq (c : Dev nD) : V m c main_v16 = Cert.FfnFwdRefIdeal.Read.val_main_v37 (F := Ideal) (X0 m c) (G0 m c) (WG0 m c) := by
  unfold V
  simp only [hostOps0, List.flatten_cons, List.flatten_nil, List.append_nil, List.cons_append, List.nil_append]
  after_results
  rfl

theorem v20_eq (c : Dev nD) : V m c main_v20 = Cert.FfnFwdRefIdeal.Read.val_main_v40 (F := Ideal) (X0 m c) (G0 m c) (WU0 m c) := by
  unfold V
  simp only [hostOps0, List.flatten_cons, List.flatten_nil, List.append_nil, List.cons_append, List.nil_append]
  after_results
  rfl

theorem v25_eq (c : Dev nD) : V m c main_v25 = CS (WG0 m c) := by
  unfold V
  simp only [hostOps0, List.flatten_cons, List.flatten_nil, List.append_nil, List.cons_append, List.nil_append]
  after_results
  rfl

theorem v29_eq (c : Dev nD) : V m c main_v29 = CS (WU0 m c) := by
  unfold V
  simp only [hostOps0, List.flatten_cons, List.flatten_nil, List.append_nil, List.cons_append, List.nil_append]
  after_results
  rfl

theorem v31_eq (c : Dev nD) : V m c main_v31 = RS (WD0 m c) := by
  unfold V
  simp only [hostOps0, List.flatten_cons, List.flatten_nil, List.append_nil, List.cons_append, List.nil_append]
  after_results
  rfl

theorem cs_at (W : FVec Ideal S1024x2816 .f32) (j : Fin 4) (z : Fin 1) (a : Fin 1024) (b : Fin 704) : CS W (ix4 j z a b) = R W a.val (704 * j.val + b.val) := by
  rw [R_of W a.isLt (by omega)]
  pointwise [CS]
  exact congrArg (fun r => W (ix2 a r)) (Fin.ext (by show j.val * 704 + b.val = 704 * j.val + b.val; omega))

theorem rs_at (W : FVec Ideal S2816x1024 .f32) (j : Fin 4) (z : Fin 1) (a : Fin 704) (b : Fin 1024) : RS W (ix4 j z a b) = R W (704 * j.val + a.val) b.val := by
  rw [R_of W (by omega) b.isLt]
  pointwise [RS]
  exact congrArg (fun r => W (ix2 r b)) (Fin.ext (by show j.val * 704 + a.val = 704 * j.val + a.val; omega))

theorem tlt (t : Fin cfg0.N) : t.val < 64 := Nat.lt_of_lt_of_eq t.isLt N_0

theorem blk0 (c : Dev nD) (t : Fin cfg0.N) (a : Fin 512) (b : Fin 1024) : iblk m c 0 t (ix2 a b) = R (X0 m c) (512 * (t.val / 4) + a.val) b.val := by
  have ht := tlt t
  rw [R, dif_pos (by omega)]
  blk_ext [iblk, V, V_main_arg0, idx_val t]

theorem blk1 (c : Dev nD) (t : Fin cfg0.N) (a : Fin 512) (b : Fin 1024) : iblk m c 1 t (ix2 a b) = R (E0 m c) (512 * (t.val / 4) + a.val) b.val := by
  have ht := tlt t
  rw [R, dif_pos (by omega)]
  blk_ext [iblk, V, V_main_arg1, idx_val t]

theorem blk2 (c : Dev nD) (t : Fin cfg0.N) (a : Fin 1) (b : Fin 1024) : iblk m c 2 t (ix2 a b) = R1 (G0 m c) b.val := by
  refine Eq.trans ?_ ((show broadcastInDim S1x1024 ![1] bcast_S1024_S1x1024_1 (G0 m c) (ix2 a b) = _ by pointwise []).trans (R1_ix (G0 m c) b))
  rw [← v21_eq]
  blk_ext [iblk, idx_val t]

theorem blk3 (c : Dev nD) (t : Fin cfg0.N) (z : Fin 1) (a : Fin 512) (b : Fin 704) : iblk m c 3 t (ix3 z a b) = gt (X0 m c) (G0 m c) (WG0 m c) (512 * (t.val / 4) + a.val) (704 * (t.val % 4) + b.val) := by
  have ht := tlt t
  refine Eq.trans ?_ (Cert.FfnFwdRefIdeal.Calc.ref37 (X0 m c) (G0 m c) (WG0 m c) (⟨t.val % 4, by omega⟩ : Fin 4) (⟨512 * (t.val / 4) + a.val, by omega⟩ : Fin 8192) b)
  rw [← v16_eq]
  blk_ext [iblk, idx_val t]

theorem blk4 (c : Dev nD) (t : Fin cfg0.N) (z : Fin 1) (a : Fin 512) (b : Fin 704) : iblk m c 4 t (ix3 z a b) = gt (X0 m c) (G0 m c) (WU0 m c) (512 * (t.val / 4) + a.val) (704 * (t.val % 4) + b.val) := by
  have ht := tlt t
  refine Eq.trans ?_ (Cert.FfnFwdRefIdeal.Calc.ref40 (X0 m c) (G0 m c) (WU0 m c) (⟨t.val % 4, by omega⟩ : Fin 4) (⟨512 * (t.val / 4) + a.val, by omega⟩ : Fin 8192) b)
  rw [← v20_eq]
  blk_ext [iblk, idx_val t]

theorem blk5 (c : Dev nD) (t : Fin cfg0.N) (j : Fin 4) (z : Fin 1) (a : Fin 1024) (b : Fin 704) : iblk m c 5 t (ix4 j z a b) = R (WG0 m c) a.val (704 * j.val + b.val) := by
  refine Eq.trans ?_ (cs_at (WG0 m c) j z a b)
  rw [← v25_eq]
  blk_ext [iblk, idx_val t]

theorem blk6 (c : Dev nD) (t : Fin cfg0.N) (j : Fin 4) (z : Fin 1) (a : Fin 1024) (b : Fin 704) : iblk m c 6 t (ix4 j z a b) = R (WU0 m c) a.val (704 * j.val + b.val) := by
  refine Eq.trans ?_ (cs_at (WU0 m c) j z a b)
  rw [← v29_eq]
  blk_ext [iblk, idx_val t]

theorem blk7 (c : Dev nD) (t : Fin cfg0.N) (j : Fin 4) (z : Fin 1) (a : Fin 704) (b : Fin 1024) : iblk m c 7 t (ix4 j z a b) = R (WD0 m c) (704 * j.val + a.val) b.val := by
  refine Eq.trans ?_ (rs_at (WD0 m c) j z a b)
  rw [← v31_eq]
  blk_ext [iblk, idx_val t]

/-- A shard of a weight, loaded at the point's number within its block of rows. -/
theorem ldS (O : Vec Ideal S4x1x1024x704 .bf16) (off : Fin 4 → ℕ) (j : ℕ) (hj : j < 4) (he : off = ![j, 0, 0, 0]) (inb : ∀ a : Fin 4, off a + (![1, 1, 1024, 704] : Fin 4 → ℕ) a ≤ S4x1x1024x704.size a) (a : Fin 1024) (b : Fin 704) :
    View.ld O (Rect.unit (s := S4x1x1024x704) off ![1, 1, 1024, 704] inb) (ix4 (0 : Fin 1) (0 : Fin 1) a b) = O (ix4 (⟨j, hj⟩ : Fin 4) (0 : Fin 1) a b) := by
  subst he
  refine View.ld_unit_apply_of O _ _ inb _ _ fun x => ?_
  fin_cases x
  · show j = j + 0; rfl
  · rfl
  · show a.val = 0 + a.val; omega
  · show b.val = 0 + b.val; omega

theorem ldR (O : Vec Ideal S4x1x704x1024 .bf16) (off : Fin 4 → ℕ) (j : ℕ) (hj : j < 4) (he : off = ![j, 0, 0, 0]) (inb : ∀ a : Fin 4, off a + (![1, 1, 704, 1024] : Fin 4 → ℕ) a ≤ S4x1x704x1024.size a) (a : Fin 704) (b : Fin 1024) :
    View.ld O (Rect.unit (s := S4x1x704x1024) off ![1, 1, 704, 1024] inb) (ix4 (0 : Fin 1) (0 : Fin 1) a b) = O (ix4 (⟨j, hj⟩ : Fin 4) (0 : Fin 1) a b) := by
  subst he
  refine View.ld_unit_apply_of O _ _ inb _ _ fun x => ?_
  fin_cases x
  · show j = j + 0; rfl
  · rfl
  · show a.val = 0 + a.val; omega
  · show b.val = 0 + b.val; omega

abbrev wgl (c : Dev nD) (t : Fin cfg0.N) : Vec Ideal S1x1x1024x704 .bf16 := View.ld (iblk m c 5 t) (Rect.unit (s := S4x1x1024x704) (k0_off2 (grid0.coords t)) ![1, 1, 1024, 704] (k0_off2_inb (grid0.coords t)))
abbrev wul (c : Dev nD) (t : Fin cfg0.N) : Vec Ideal S1x1x1024x704 .bf16 := View.ld (iblk m c 6 t) (Rect.unit (s := S4x1x1024x704) (k0_off2 (grid0.coords t)) ![1, 1, 1024, 704] (k0_off2_inb (grid0.coords t)))
abbrev wdl (c : Dev nD) (t : Fin cfg0.N) : Vec Ideal S1x1x704x1024 .bf16 := View.ld (iblk m c 7 t) (Rect.unit (s := S4x1x704x1024) (k0_off1 (grid0.coords t)) ![1, 1, 704, 1024] (k0_off1_inb (grid0.coords t)))

theorem wg_at (c : Dev nD) (t : Fin cfg0.N) (a : Fin 1024) (b : Fin 704) : wgl m c t (ix4 (0 : Fin 1) (0 : Fin 1) a b) = R (WG0 m c) a.val (704 * (t.val % 4) + b.val) :=
  (ldS _ _ _ (by omega) (off_val t).2 _ a b).trans (blk5 m c t _ _ a b)
theorem wu_at (c : Dev nD) (t : Fin cfg0.N) (a : Fin 1024) (b : Fin 704) : wul m c t (ix4 (0 : Fin 1) (0 : Fin 1) a b) = R (WU0 m c) a.val (704 * (t.val % 4) + b.val) :=
  (ldS _ _ _ (by omega) (off_val t).2 _ a b).trans (blk6 m c t _ _ a b)
theorem wd_at (c : Dev nD) (t : Fin cfg0.N) (a : Fin 704) (b : Fin 1024) : wdl m c t (ix4 (0 : Fin 1) (0 : Fin 1) a b) = R (WD0 m c) (704 * (t.val % 4) + a.val) b.val :=
  (ldR _ _ _ (by omega) (off_val t).1 _ a b).trans (blk7 m c t _ _ a b)

/-- The logistic function of a gate, as the body writes it. -/
def sg (g : EReal) : EReal := Ideal.div (Ideal.ofBits .f32 1065353216#32) (Ideal.ofBits .f32 1065353216#32 + Ideal.exp (Ideal.ofBits .f32 0#32 - g))
/-- The gradients at a gate and at an up value, from the one at their gated product, and that product. -/
def dgv (g u d : EReal) : EReal := d * u * (sg g * (Ideal.ofBits .f32 1065353216#32 + g * (Ideal.ofBits .f32 1065353216#32 - sg g)))
def duv (g d : EReal) : EReal := d * (g * sg g)
def acv (g u : EReal) : EReal := g * sg g * u

section pays
variable (g u : Vec Ideal S1x256x704 .bf16) (gv uv dv : FVec Ideal S256x704 .f32) (y : Vec Ideal S256x1024 .bf16) (wd : Vec Ideal S1x1x704x1024 .bf16) (wg wu : Vec Ideal S1x1x1024x704 .bf16)
  (dg du : FVec Ideal S256x704 .bf16) (ac : Vec Ideal S256x1024 .f32) (z : Fin 1) (a : Fin 256) (f : Fin 704) (b : Fin 1024)

theorem p11 : k0_pay11 (F := Ideal) g (ix2 a f) = g (ix3 0 a f) := by pointwise [k0_pay11]
theorem p12 : k0_pay12 (F := Ideal) g = k0_pay11 g := rfl
theorem p14 : k0_pay14 (F := Ideal) g = k0_pay11 g := rfl
theorem p15 : k0_pay15 (F := Ideal) g = k0_pay11 g := rfl
theorem p13 : k0_pay13 (F := Ideal) y wd (ix2 a f) = ∑ k : Fin 1024, @HMul.hMul EReal EReal EReal _ (y (ix2 a k)) (wd (ix4 0 0 f k)) := by pointwise [k0_pay13]
theorem p17 : k0_pay17 (F := Ideal) (k0_pay16 y) wd = k0_pay13 y wd := rfl
theorem p20 : k0_pay20 (F := Ideal) gv uv dv (ix2 a f) = dgv (gv (ix2 a f)) (uv (ix2 a f)) (dv (ix2 a f)) := by pointwise [k0_pay20, k0_pay18, dgv, sg]
theorem p21 : k0_pay21 (F := Ideal) gv dv (ix2 a f) = duv (gv (ix2 a f)) (dv (ix2 a f)) := by pointwise [k0_pay21, k0_pay19, k0_pay18, duv, sg]
theorem p22 : k0_pay22 (F := Ideal) gv uv (ix3 z a f) = acv (gv (ix2 a f)) (uv (ix2 a f)) := by pointwise [k0_pay22, k0_pay19, k0_pay18, acv, sg]
theorem p23 : k0_pay23 (F := Ideal) gv uv dv (ix3 z a f) = k0_pay20 gv uv dv (ix2 a f) := by pointwise [k0_pay23]
theorem p24 : k0_pay24 (F := Ideal) gv dv (ix3 z a f) = k0_pay21 gv dv (ix2 a f) := by pointwise [k0_pay24]
theorem p28 : k0_pay28 (F := Ideal) gv uv dv (k0_pay25 gv) (FloatOps.ofBits .f32 1065353216#32) = k0_pay20 gv uv dv := rfl
theorem p29 : k0_pay29 (F := Ideal) gv dv (k0_pay25 gv) (FloatOps.ofBits .f32 1065353216#32) = k0_pay21 gv dv := rfl
theorem p30 : k0_pay30 (F := Ideal) gv uv (k0_pay25 gv) (FloatOps.ofBits .f32 1065353216#32) = k0_pay22 gv uv := rfl
theorem p31 : k0_pay31 (F := Ideal) gv uv dv (k0_pay25 gv) (FloatOps.ofBits .f32 1065353216#32) = k0_pay23 gv uv dv := rfl
theorem p32 : k0_pay32 (F := Ideal) gv dv (k0_pay25 gv) (FloatOps.ofBits .f32 1065353216#32) = k0_pay24 gv dv := rfl
theorem p2 : k0_pay2 (F := Ideal) dg du ac wg wu (ix2 a b) = ac (ix2 a b) + ((∑ f : Fin 704, @HMul.hMul EReal EReal EReal _ (dg (ix2 a f)) (wg (ix4 0 0 b f))) + (∑ f : Fin 704, @HMul.hMul EReal EReal EReal _ (du (ix2 a f)) (wu (ix4 0 0 b f)))) := by pointwise [k0_pay2]
theorem p1 : k0_pay1 (F := Ideal) (k0_pay33 dg du ac wg wu) = k0_pay2 dg du ac wg wu := rfl
end pays

end Cert.FfnBwdIdeal.Calc

end
-- ==== Proof.FbOut.lean ====
module

public import proofs.«01_k».proof.Proof.FbKern
/-! What every point of `ffn_bwd` leaves in the results' buffers and in the kept sum, and the results' arrays. -/

@[expose] public section

set_option maxRecDepth 16384

noncomputable section

namespace Cert.FfnBwdIdeal.Calc

open Idealize.ShloMosaic Idealize.ShloMosaic.TcCoe Idealize.SL.Sem
open Idealize.ShloMosaic.Pipeline (Dat)
open Cert.FfnBwdIdeal Cert.FfnBwdIdeal.Gen Cert.FfnBwdIdeal.Own Cert.Base
open Cert.FfnFwdIdeal.Calc (hn gt)
open Cert.InProjBwdIdeal.Calc (rx dx dgr acc acc_all acc_succ)

variable (m : (ℓ : Loc nD τ sig) → Buf (Elt Ideal) ℓ)

/-- The gradient at the gated product: the one passed along times the down projection. -/
def da (E : FVec Ideal S8192x1024 .f32) (WD : FVec Ideal S2816x1024 .f32) (n f : ℕ) : EReal := ∑ k : Fin 1024, R E n k.val * R WD f k.val
/-- The gradients at the gate and up products, and the gated product. -/
def dgf (X E : FVec Ideal S8192x1024 .f32) (G : FVec Ideal S1024 .f32) (WG WU : FVec Ideal S1024x2816 .f32) (WD : FVec Ideal S2816x1024 .f32) (n f : ℕ) : EReal := dgv (gt X G WG n f) (gt X G WU n f) (da E WD n f)
def duf (X E : FVec Ideal S8192x1024 .f32) (G : FVec Ideal S1024 .f32) (WG : FVec Ideal S1024x2816 .f32) (WD : FVec Ideal S2816x1024 .f32) (n f : ℕ) : EReal := duv (gt X G WG n f) (da E WD n f)
def acf (X : FVec Ideal S8192x1024 .f32) (G : FVec Ideal S1024 .f32) (WG WU : FVec Ideal S1024x2816 .f32) (n f : ℕ) : EReal := acv (gt X G WG n f) (gt X G WU n f)

/-- What a shard of 704 columns adds to the gradient at the normalised row. -/
def sh (A B : ℕ → ℕ → EReal) (WG WU : FVec Ideal S1024x2816 .f32) (n b j : ℕ) : EReal :=
  (∑ f : Fin 704, A n (704 * j + f.val) * R WG b (704 * j + f.val)) + ∑ f : Fin 704, B n (704 * j + f.val) * R WU b (704 * j + f.val)

/-- The shards up to one, one after the other. -/
def PO (A B : ℕ → ℕ → EReal) (WG WU : FVec Ideal S1024x2816 .f32) (n b : ℕ) : ℕ → EReal
  | 0 => 0 + sh A B WG WU n b 0
  | j + 1 => PO A B WG WU n b j + sh A B WG WU n b (j + 1)

/-- The gradient at the normalised row. -/
def dhf (A B : ℕ → ℕ → EReal) (WG WU : FVec Ideal S1024x2816 .f32) (n b : ℕ) : EReal := (∑ f : Fin 2816, B n f.val * R WU b f.val) + ∑ f : Fin 2816, A n f.val * R WG b f.val

theorem PO_last (A B : ℕ → ℕ → EReal) (WG WU : FVec Ideal S1024x2816 .f32) (n b : ℕ) : PO A B WG WU n b 3 = dhf A B WG WU n b := by
  have e : ∀ (Q : ℕ → ℕ → EReal) (W : FVec Ideal S1024x2816 .f32), (∑ f : Fin 2816, Q n f.val * R W b f.val) = ∑ j : Fin 4, ∑ f : Fin 704, Q n (704 * j.val + f.val) * R W b (704 * j.val + f.val) := fun Q W => by
    rw [Fin.sum_univ_tiles 4 704 rfl]
    exact Fin.sum_fin_congr fun j => Fin.sum_fin_congr fun f => by show Q n (j.val * 704 + f.val) * R W b (j.val * 704 + f.val) = _; rw [Nat.mul_comm]
  rw [dhf, e, e, Fin.sum_univ_four, Fin.sum_univ_four]
  show 0 + sh A B WG WU n b 0 + sh A B WG WU n b 1 + sh A B WG WU n b 2 + sh A B WG WU n b 3 = _
  simp only [sh, Fin.val_zero, Fin.val_one, Fin.val_two, show (3 : Fin 4).val = 3 from rfl, zero_add]
  abel

section canons
variable {e : EltTy}

theorem canon_in {s : Shape} {off size : Fin s.rank → ℕ} (inb : ∀ a, off a + size a ≤ s.size a) (w : (Rect.unit off size inb).shape.Idx → Elt Ideal e) (L : List (View.Piece (Elt Ideal) s e)) (y : s.Idx)
    (x : (Rect.unit off size inb).shape.Idx) (hx : ∀ a, (y a).val = off a + (x a).val) : View.canon ((⟨Rect.unit off size inb, w⟩ : View.Piece (Elt Ideal) s e) :: L) y = w x := by
  have h : y = (Rect.unit off size inb).emb x := funext fun a => Fin.ext ((hx a).trans (by show _ = off a + 1 * (x a).val; rw [Nat.one_mul]))
  rw [h]
  exact View.canon_cons_emb _ w L x

theorem canon_off {s : Shape} {off size : Fin s.rank → ℕ} (inb : ∀ a, off a + size a ≤ s.size a) (w : (Rect.unit off size inb).shape.Idx → Elt Ideal e) (L : List (View.Piece (Elt Ideal) s e)) (y : s.Idx)
    (a : Fin s.rank) (ha : (y a).val < off a ∨ off a + size a ≤ (y a).val) : View.canon ((⟨Rect.unit off size inb, w⟩ : View.Piece (Elt Ideal) s e) :: L) y = View.canon L y :=
  View.canon_cons_of_not_mem _ L fun h => by have := (Rect.mem_set_unit (inb := inb)).mp h a; omega

/-- Two halves of rows, one stored after the other. -/
theorem two2 (inb0 : ∀ a : Fin 2, (![0, 0] : Fin 2 → ℕ) a + (![256, 1024] : Fin 2 → ℕ) a ≤ S512x1024.size a) (inb1 : ∀ a : Fin 2, (![256, 0] : Fin 2 → ℕ) a + (![256, 1024] : Fin 2 → ℕ) a ≤ S512x1024.size a)
    (w0 : (Rect.unit (s := S512x1024) ![0, 0] ![256, 1024] inb0).shape.Idx → Elt Ideal e) (w1 : (Rect.unit (s := S512x1024) ![256, 0] ![256, 1024] inb1).shape.Idx → Elt Ideal e)
    (L : List (View.Piece (Elt Ideal) S512x1024 e)) (H : ℕ → ℕ → Elt Ideal e) (h0 : ∀ (a : Fin 256) (b : Fin 1024), w0 (ix2 a b) = H (0 + a.val) b.val) (h1 : ∀ (a : Fin 256) (b : Fin 1024), w1 (ix2 a b) = H (256 + a.val) b.val) (n : Fin 512) (b : Fin 1024) :
    View.canon ((⟨Rect.unit (s := S512x1024) ![256, 0] ![256, 1024] inb1, w1⟩ : View.Piece (Elt Ideal) S512x1024 e) :: (⟨Rect.unit (s := S512x1024) ![0, 0] ![256, 1024] inb0, w0⟩ : View.Piece (Elt Ideal) S512x1024 e) :: L) (ix2 n b) = H n.val b.val := by
  by_cases h : 256 ≤ n.val
  · refine (canon_in inb1 w1 _ (ix2 n b) (ix2 (⟨n.val - 256, by omega⟩ : Fin 256) b) ?_).trans ((h1 _ _).trans ?_)
    · refine Fin.forall_fin_two.mpr ⟨?_, ?_⟩
      · show n.val = 256 + (n.val - 256); omega
      · show b.val = 0 + b.val; omega
    · show H (256 + (n.val - 256)) b.val = _
      rw [show 256 + (n.val - 256) = n.val by omega]
  · refine (canon_off inb1 w1 _ (ix2 n b) (0 : Fin 2) ?_).trans ?_
    · show n.val < 256 ∨ 256 + 256 ≤ n.val; omega
    · refine (canon_in inb0 w0 _ (ix2 n b) (ix2 (⟨n.val, by omega⟩ : Fin 256) b) ?_).trans ((h0 _ _).trans ?_)
      · refine Fin.forall_fin_two.mpr ⟨?_, ?_⟩
        · show n.val = 0 + n.val; omega
        · show b.val = 0 + b.val; omega
      · show H (0 + n.val) b.val = _
        rw [Nat.zero_add]

theorem two3 (inb0 : ∀ a : Fin 3, (![0, 0, 0] : Fin 3 → ℕ) a + (![1, 256, 704] : Fin 3 → ℕ) a ≤ S1x512x704.size a) (inb1 : ∀ a : Fin 3, (![0, 256, 0] : Fin 3 → ℕ) a + (![1, 256, 704] : Fin 3 → ℕ) a ≤ S1x512x704.size a)
    (w0 : (Rect.unit (s := S1x512x704) ![0, 0, 0] ![1, 256, 704] inb0).shape.Idx → Elt Ideal e) (w1 : (Rect.unit (s := S1x512x704) ![0, 256, 0] ![1, 256, 704] inb1).shape.Idx → Elt Ideal e)
    (L : List (View.Piece (Elt Ideal) S1x512x704 e)) (H : ℕ → ℕ → Elt Ideal e) (h0 : ∀ (a : Fin 256) (b : Fin 704), w0 (ix3 (0 : Fin 1) a b) = H (0 + a.val) b.val) (h1 : ∀ (a : Fin 256) (b : Fin 704), w1 (ix3 (0 : Fin 1) a b) = H (256 + a.val) b.val) (z : Fin 1) (n : Fin 512) (b : Fin 704) :
    View.canon ((⟨Rect.unit (s := S1x512x704) ![0, 256, 0] ![1, 256, 704] inb1, w1⟩ : View.Piece (Elt Ideal) S1x512x704 e) :: (⟨Rect.unit (s := S1x512x704) ![0, 0, 0] ![1, 256, 704] inb0, w0⟩ : View.Piece (Elt Ideal) S1x512x704 e) :: L) (ix3 z n b) = H n.val b.val := by
  have hz : z.val = 0 := by omega
  by_cases h : 256 ≤ n.val
  · refine (canon_in inb1 w1 _ (ix3 z n b) (ix3 (0 : Fin 1) (⟨n.val - 256, by omega⟩ : Fin 256) b) ?_).trans ((h1 _ _).trans ?_)
    · intro x
      fin_cases x
      · show z.val = 0 + 0; omega
      · show n.val = 256 + (n.val - 256); omega
      · show b.val = 0 + b.val; omega
    · show H (256 + (n.val - 256)) b.val = _
      rw [show 256 + (n.val - 256) = n.val by omega]
  · refine (canon_off inb1 w1 _ (ix3 z n b) (1 : Fin 3) ?_).trans ?_
    · show n.val < 256 ∨ 256 + 256 ≤ n.val; omega
    · refine (canon_in inb0 w0 _ (ix3 z n b) (ix3 (0 : Fin 1) (⟨n.val, by omega⟩ : Fin 256) b) ?_).trans ((h0 _ _).trans ?_)
      · intro x
        fin_cases x
        · show z.val = 0 + 0; omega
        · show n.val = 0 + n.val; omega
        · show b.val = 0 + b.val; omega
      · show H (0 + n.val) b.val = _
        rw [Nat.zero_add]

/-- A half of the rows read back of what was stored, -/
theorem covRows {κ : Kind} {sp : Space} (v : View sig κ sp S512x1024 e) (o : ℕ) (L : List (View.Piece (Elt Ideal) S512x1024 e))
    (inb : ∀ a : Fin 2, (![o, 0] : Fin 2 → ℕ) a + (![256, 1024] : Fin 2 → ℕ) a ≤ S512x1024.size a) (ho : o + 256 ≤ 512) (a : Fin 256) (b : Fin 1024) :
    v.readCov L (Rect.unit (s := S512x1024) ![o, 0] ![256, 1024] inb).toLoadRect (ix2 a b) = View.canon L (ix2 (⟨o + a.val, by omega⟩ : Fin 512) b) := by
  rw [View.readCov_eq_canon']
  refine congrArg _ (funext (Fin.forall_fin_two.mpr ⟨?_, ?_⟩)) <;> refine Fin.ext ?_
  · show o + 1 * a.val = o + a.val; omega
  · show 0 + 1 * b.val = b.val; omega

/-- all of them, -/
theorem covAll {κ : Kind} {sp : Space} (v : View sig κ sp S512x1024 e) (L : List (View.Piece (Elt Ideal) S512x1024 e))
    (inb : ∀ a : Fin 2, (![0, 0] : Fin 2 → ℕ) a + (![512, 1024] : Fin 2 → ℕ) a ≤ S512x1024.size a) (a : Fin 512) (b : Fin 1024) :
    v.readCov L (Rect.unit (s := S512x1024) ![0, 0] ![512, 1024] inb).toLoadRect (ix2 a b) = View.canon L (ix2 a b) := by
  rw [View.readCov_eq_canon']
  refine congrArg _ (funext (Fin.forall_fin_two.mpr ⟨?_, ?_⟩)) <;> refine Fin.ext ?_
  · show 0 + 1 * a.val = a.val; omega
  · show 0 + 1 * b.val = b.val; omega

/-- a half loaded of what a buffer holds, -/
theorem ldrows (O : Vec Ideal S512x1024 e) (o : ℕ) (inb : ∀ a : Fin 2, (![o, 0] : Fin 2 → ℕ) a + (![256, 1024] : Fin 2 → ℕ) a ≤ S512x1024.size a) (ho : o + 256 ≤ 512) (a : Fin 256) (k : Fin 1024) :
    View.ld O (Rect.unit (s := S512x1024) ![o, 0] ![256, 1024] inb) (ix2 a k) = O (ix2 (⟨o + a.val, by omega⟩ : Fin 512) k) := by
  refine View.ld_unit_apply_of O _ _ inb (ix2 a k) _ (Fin.forall_fin_two.mpr ⟨?_, ?_⟩)
  · show o + a.val = o + a.val; rfl
  · show k.val = 0 + k.val; omega

/-- and of one shard's block. -/
theorem ldhid (O : Vec Ideal S1x512x704 e) (o : ℕ) (inb : ∀ a : Fin 3, (![0, o, 0] : Fin 3 → ℕ) a + (![1, 256, 704] : Fin 3 → ℕ) a ≤ S1x512x704.size a) (ho : o + 256 ≤ 512) (a : Fin 256) (k : Fin 704) :
    View.ld O (Rect.unit (s := S1x512x704) ![0, o, 0] ![1, 256, 704] inb) (ix3 (0 : Fin 1) a k) = O (ix3 (0 : Fin 1) (⟨o + a.val, by omega⟩ : Fin 512) k) := by
  refine View.ld_unit_apply_of O _ _ inb (ix3 (0 : Fin 1) a k) _ fun x => ?_
  fin_cases x
  · rfl
  · show o + a.val = o + a.val; rfl
  · show k.val = 0 + k.val; omega

/-- All rows stored at once. -/
theorem fill (inb : ∀ a : Fin 2, (![0, 0] : Fin 2 → ℕ) a + (![512, 1024] : Fin 2 → ℕ) a ≤ S512x1024.size a)
    (w : (Rect.unit (s := S512x1024) ![0, 0] ![512, 1024] inb).shape.Idx → Elt Ideal e) (L : List (View.Piece (Elt Ideal) S512x1024 e)) (a : Fin 512) (b : Fin 1024) :
    View.canon ((⟨Rect.unit (s := S512x1024) ![0, 0] ![512, 1024] inb, w⟩ : View.Piece (Elt Ideal) S512x1024 e) :: L) (ix2 a b) = w (ix2 a b) := by
  refine canon_in inb w L (ix2 a b) (ix2 a b) (Fin.forall_fin_two.mpr ⟨?_, ?_⟩)
  · show a.val = 0 + a.val; omega
  · show b.val = 0 + b.val; omega
end canons

abbrev A0 (c : Dev nD) : ℕ → ℕ → EReal := dgf (X0 m c) (E0 m c) (G0 m c) (WG0 m c) (WU0 m c) (WD0 m c)
abbrev B0 (c : Dev nD) : ℕ → ℕ → EReal := duf (X0 m c) (E0 m c) (G0 m c) (WG0 m c) (WD0 m c)

/-! ### The block's normalised rows and the gradient's, from the first of its points on -/

theorem hA (c : Dev nD) (t : Fin cfg0.N) (h1 : t.val % 4 = 0) (a : Fin 512) (k : Fin 1024) : (outsAt0 m c t.val t.isLt).2.2.1 (ix2 a k) = hn (X0 m c) (G0 m c) (512 * (t.val / 4) + a.val) k.val := by
  have key : k0_pay8 (F := Ideal) (iblk m c 0 t) (iblk m c 2 t) (ix2 a k) = hn (X0 m c) (G0 m c) (512 * (t.val / 4) + a.val) k.val := by
    pointwise [k0_pay8]
    simp only [blk0, blk2, hn]
  by_cases h0 : t.val % 64 = 0
  · rw [outsAt0_A m c t h0 h1 (by omega)]
    unfold outs_A
    frame_out
    exact key
  · rw [outsAt0_D m c t h0 h1 (by omega)]
    unfold outs_D
    frame_out
    exact key

theorem yA (c : Dev nD) (t : Fin cfg0.N) (h1 : t.val % 4 = 0) (a : Fin 512) (k : Fin 1024) : (outsAt0 m c t.val t.isLt).2.2.2.1 (ix2 a k) = R (E0 m c) (512 * (t.val / 4) + a.val) k.val := by
  have key : k0_pay9 (F := Ideal) (iblk m c 1 t) (ix2 a k) = R (E0 m c) (512 * (t.val / 4) + a.val) k.val := (show _ = iblk m c 1 t (ix2 a k) by pointwise [k0_pay9]).trans (blk1 m c t a k)
  by_cases h0 : t.val % 64 = 0
  · rw [outsAt0_A m c t h0 h1 (by omega)]
    unfold outs_A
    frame_out
    exact key
  · rw [outsAt0_D m c t h0 h1 (by omega)]
    unfold outs_D
    frame_out
    exact key

theorem hB (c : Dev nD) (t : Fin cfg0.N) (h1 : ¬t.val % 4 = 0) : (outsAt0 m c t.val t.isLt).2.2.1 = (outsAt0 m c (t.val - 1) (Nat.lt_of_le_of_lt (Nat.sub_le _ _) t.isLt)).2.2.1
    ∧ (outsAt0 m c t.val t.isLt).2.2.2.1 = (outsAt0 m c (t.val - 1) (Nat.lt_of_le_of_lt (Nat.sub_le _ _) t.isLt)).2.2.2.1 := by
  by_cases h2 : t.val % 4 = 3
  · rw [outsAt0_C m c t (by omega) h1 h2]
    unfold outs_C
    constructor
    · dsimp only
    · dsimp only
  · rw [outsAt0_B m c t (by omega) h1 h2]
    unfold outs_B
    constructor
    · dsimp only
    · dsimp only

theorem hAt (c : Dev nD) : ∀ (n : ℕ) (hn' : n < cfg0.N) (a : Fin 512) (k : Fin 1024), (outsAt0 m c n hn').2.2.1 (ix2 a k) = hn (X0 m c) (G0 m c) (512 * (n / 4) + a.val) k.val
  | 0, h, a, k => hA m c ⟨0, h⟩ rfl a k
  | n + 1, h, a, k => by
    by_cases h1 : (n + 1) % 4 = 0
    · exact hA m c ⟨n + 1, h⟩ h1 a k
    · rw [(hB m c ⟨n + 1, h⟩ h1).1]
      refine (hAt c n (by omega) a k).trans ?_
      rw [show n / 4 = (n + 1) / 4 by omega]

theorem yAt (c : Dev nD) : ∀ (n : ℕ) (hn' : n < cfg0.N) (a : Fin 512) (k : Fin 1024), (outsAt0 m c n hn').2.2.2.1 (ix2 a k) = R (E0 m c) (512 * (n / 4) + a.val) k.val
  | 0, h, a, k => yA m c ⟨0, h⟩ rfl a k
  | n + 1, h, a, k => by
    by_cases h1 : (n + 1) % 4 = 0
    · exact yA m c ⟨n + 1, h⟩ h1 a k
    · rw [(hB m c ⟨n + 1, h⟩ h1).2]
      refine (yAt c n (by omega) a k).trans ?_
      rw [show n / 4 = (n + 1) / 4 by omega]

/-- The two halves of the gradient's rows at a point. -/
structure HY (c : Dev nD) (t : Fin cfg0.N) (y0 y1 : Vec Ideal S256x1024 .bf16) : Prop where
  e0 : ∀ (a : Fin 256) (k : Fin 1024), y0 (ix2 a k) = R (E0 m c) (512 * (t.val / 4) + (0 + a.val)) k.val
  e1 : ∀ (a : Fin 256) (k : Fin 1024), y1 (ix2 a k) = R (E0 m c) (512 * (t.val / 4) + (256 + a.val)) k.val

abbrev yl (c : Dev nD) (t : Fin cfg0.N) (r : Rect S512x1024) := View.ld (outsAt0 m c (t.val - 1) (Nat.lt_of_le_of_lt (Nat.sub_le _ _) t.isLt)).2.2.2.1 r
abbrev yc (c : Dev nD) (t : Fin cfg0.N) (r : Rect S512x1024) := (ms0_11 t).view.readCov [(⟨Rect.unit ![0, 0] ![512, 1024] inb_S512x1024_S512x1024_0_0, k0_pay9 (F := Ideal) (iblk m c 1 t)⟩ : View.Piece (Elt Ideal) S512x1024 .bf16)] r.toLoadRect

theorem HY_B (c : Dev nD) (t : Fin cfg0.N) (h1 : ¬t.val % 4 = 0) : HY m c t
    (yl m c t (Rect.unit (s := S512x1024) ![0, 0] ![256, 1024] inb_S512x1024_S256x1024_0_0))
    (yl m c t (Rect.unit (s := S512x1024) ![256, 0] ![256, 1024] inb_S512x1024_S256x1024_256_0)) := by
  refine ⟨fun a k => ?_, fun a k => ?_⟩
  · refine (ldrows _ 0 _ (by omega) a k).trans ((yAt m c _ _ _ k).trans ?_)
    rw [show (t.val - 1) / 4 = t.val / 4 by omega]
  · refine (ldrows _ 256 _ (by omega) a k).trans ((yAt m c _ _ _ k).trans ?_)
    rw [show (t.val - 1) / 4 = t.val / 4 by omega]

theorem HY_A (c : Dev nD) (t : Fin cfg0.N) : HY m c t
    (yc m c t (Rect.unit (s := S512x1024) ![0, 0] ![256, 1024] inb_S512x1024_S256x1024_0_0))
    (yc m c t (Rect.unit (s := S512x1024) ![256, 0] ![256, 1024] inb_S512x1024_S256x1024_256_0)) := by
  have key : ∀ (a : Fin 512) (k : Fin 1024), k0_pay9 (F := Ideal) (iblk m c 1 t) (ix2 a k) = R (E0 m c) (512 * (t.val / 4) + a.val) k.val := fun a k => (show _ = iblk m c 1 t (ix2 a k) by pointwise [k0_pay9]).trans (blk1 m c t a k)
  refine ⟨fun a k => ?_, fun a k => ?_⟩
  · exact (covRows _ 0 _ _ (by omega) a k).trans ((fill _ _ _ _ _).trans (key _ _))
  · exact (covRows _ 256 _ _ (by omega) a k).trans ((fill _ _ _ _ _).trans (key _ _))

section pt
variable (c : Dev nD) (t : Fin cfg0.N)
abbrev gl (r : Rect S1x512x704) := View.ld (iblk m c 3 t) r
abbrev ul (r : Rect S1x512x704) := View.ld (iblk m c 4 t) r

/-- A half's block of the three hidden values, and what it adds to the kept sum. -/
theorem d_at (y : Vec Ideal S256x1024 .bf16) (o : ℕ) (hy : ∀ (a : Fin 256) (k : Fin 1024), y (ix2 a k) = R (E0 m c) (512 * (t.val / 4) + (o + a.val)) k.val) (a : Fin 256) (f : Fin 704) :
    k0_pay13 (F := Ideal) y (wdl m c t) (ix2 a f) = da (E0 m c) (WD0 m c) (512 * (t.val / 4) + (o + a.val)) (704 * (t.val % 4) + f.val) := by
  rw [p13, da]
  exact Fin.sum_fin_congr fun k => Ideal.mul_congr (hy a k) (wd_at m c t f k)

theorem g_at (o : ℕ) (inb : ∀ a : Fin 3, (![0, o, 0] : Fin 3 → ℕ) a + (![1, 256, 704] : Fin 3 → ℕ) a ≤ S1x512x704.size a) (ho : o + 256 ≤ 512) (a : Fin 256) (f : Fin 704) :
    k0_pay11 (F := Ideal) (gl m c t (Rect.unit (s := S1x512x704) ![0, o, 0] ![1, 256, 704] inb)) (ix2 a f) = gt (X0 m c) (G0 m c) (WG0 m c) (512 * (t.val / 4) + (o + a.val)) (704 * (t.val % 4) + f.val) :=
  (p11 _ a f).trans ((ldhid _ o inb ho a f).trans (blk3 m c t _ _ f))

theorem u_at (o : ℕ) (inb : ∀ a : Fin 3, (![0, o, 0] : Fin 3 → ℕ) a + (![1, 256, 704] : Fin 3 → ℕ) a ≤ S1x512x704.size a) (ho : o + 256 ≤ 512) (a : Fin 256) (f : Fin 704) :
    k0_pay11 (F := Ideal) (ul m c t (Rect.unit (s := S1x512x704) ![0, o, 0] ![1, 256, 704] inb)) (ix2 a f) = gt (X0 m c) (G0 m c) (WU0 m c) (512 * (t.val / 4) + (o + a.val)) (704 * (t.val % 4) + f.val) :=
  (p11 _ a f).trans ((ldhid _ o inb ho a f).trans (blk4 m c t _ _ f))

variable (y : Vec Ideal S256x1024 .bf16) (o : ℕ) (inb : ∀ a : Fin 3, (![0, o, 0] : Fin 3 → ℕ) a + (![1, 256, 704] : Fin 3 → ℕ) a ≤ S1x512x704.size a) (ho : o + 256 ≤ 512)
  (hy : ∀ (a : Fin 256) (k : Fin 1024), y (ix2 a k) = R (E0 m c) (512 * (t.val / 4) + (o + a.val)) k.val)

abbrev DGP : FVec Ideal S256x704 .bf16 := k0_pay20 (F := Ideal) (k0_pay11 (gl m c t (Rect.unit (s := S1x512x704) ![0, o, 0] ![1, 256, 704] inb))) (k0_pay11 (ul m c t (Rect.unit (s := S1x512x704) ![0, o, 0] ![1, 256, 704] inb))) (k0_pay13 y (wdl m c t))
abbrev DUP : FVec Ideal S256x704 .bf16 := k0_pay21 (F := Ideal) (k0_pay11 (gl m c t (Rect.unit (s := S1x512x704) ![0, o, 0] ![1, 256, 704] inb))) (k0_pay13 y (wdl m c t))

include ho hy in
theorem dg_at (a : Fin 256) (f : Fin 704) : DGP m c t y o inb (ix2 a f) = A0 m c (512 * (t.val / 4) + (o + a.val)) (704 * (t.val % 4) + f.val) := by
  rw [DGP, p20, g_at m c t o inb ho, u_at m c t o inb ho, d_at m c t y o hy]; rfl

include ho hy in
theorem du_at (a : Fin 256) (f : Fin 704) : DUP m c t y o inb (ix2 a f) = B0 m c (512 * (t.val / 4) + (o + a.val)) (704 * (t.val % 4) + f.val) := by
  rw [DUP, p21, g_at m c t o inb ho, d_at m c t y o hy]; rfl

include ho in
theorem ac_at (a : Fin 256) (f : Fin 704) : k0_pay22 (F := Ideal) (k0_pay11 (gl m c t (Rect.unit (s := S1x512x704) ![0, o, 0] ![1, 256, 704] inb))) (k0_pay11 (ul m c t (Rect.unit (s := S1x512x704) ![0, o, 0] ![1, 256, 704] inb))) (ix3 (0 : Fin 1) a f)
    = acf (X0 m c) (G0 m c) (WG0 m c) (WU0 m c) (512 * (t.val / 4) + (o + a.val)) (704 * (t.val % 4) + f.val) := by
  rw [p22, g_at m c t o inb ho, u_at m c t o inb ho]; rfl

include ho hy in
theorem sum_at (q : Vec Ideal S256x1024 .f32) (P : ℕ → ℕ → EReal) (hq : ∀ (a : Fin 256) (b : Fin 1024), q (ix2 a b) = P (o + a.val) b.val) (a : Fin 256) (b : Fin 1024) :
    k0_pay2 (F := Ideal) (DGP m c t y o inb) (DUP m c t y o inb) q (wgl m c t) (wul m c t) (ix2 a b)
      = P (o + a.val) b.val + sh (A0 m c) (B0 m c) (WG0 m c) (WU0 m c) (512 * (t.val / 4) + (o + a.val)) b.val (t.val % 4) := by
  rw [p2]
  refine Ideal.add_congr (hq a b) (Ideal.add_congr ?_ ?_) <;> refine Fin.sum_fin_congr fun f => Ideal.mul_congr ?_ ?_
  · exact dg_at m c t y o inb ho hy a f
  · exact wg_at m c t b f
  · exact du_at m c t y o inb ho hy a f
  · exact wu_at m c t b f
end pt

end Cert.FfnBwdIdeal.Calc

end
-- ==== Proof.FbHid.lean ====
module

public import proofs.«01_k».proof.Proof.FbOut
/-! `ffn_bwd`'s hidden results at every point, the kept sum from point to point, and the results' arrays. -/

@[expose] public section

set_option maxRecDepth 16384

noncomputable section

namespace Cert.FfnBwdIdeal.Calc

open Idealize.ShloMosaic Idealize.ShloMosaic.TcCoe Idealize.SL.Sem
open Idealize.ShloMosaic.Pipeline (Dat)
open Cert.FfnBwdIdeal Cert.FfnBwdIdeal.Gen Cert.FfnBwdIdeal.Own Cert.Base
open Cert.FfnFwdIdeal.Calc (hn gt)
open Cert.InProjBwdIdeal.Calc (rx dx dgr acc acc_all acc_succ)

variable (m : (ℓ : Loc nD τ sig) → Buf (Elt Ideal) ℓ)

theorem out12A (c : Dev nD) (t : Fin cfg0.N) (h0 : t.val % 64 = 0) (h1 : t.val % 4 = 0) (z : Fin 1) (n : Fin 512) (f : Fin 704) : (outsAt0 m c t.val t.isLt).2.2.2.2.1 (ix3 z n f) = A0 m c (512 * (t.val / 4) + n.val) (704 * (t.val % 4) + f.val) := by
  rw [outsAt0_A m c t h0 h1 (by omega)]
  unfold outs_A
  frame_out
  refine two3 (e := .bf16) _ _ _ _ _ (fun n f => A0 m c (512 * (t.val / 4) + n) (704 * (t.val % 4) + f)) (fun a f => ?_) (fun a f => ?_) z n f
  · exact (p23 _ _ _ 0 a f).trans (dg_at m c t _ 0 _ (by omega) (HY_A m c t).e0 a f)
  · rw [p31]
    exact (p23 _ _ _ 0 a f).trans (dg_at m c t _ 256 _ (by omega) (HY_A m c t).e1 a f)

theorem out12B (c : Dev nD) (t : Fin cfg0.N) (h1 : ¬t.val % 4 = 0) (h2 : ¬t.val % 4 = 3) (z : Fin 1) (n : Fin 512) (f : Fin 704) : (outsAt0 m c t.val t.isLt).2.2.2.2.1 (ix3 z n f) = A0 m c (512 * (t.val / 4) + n.val) (704 * (t.val % 4) + f.val) := by
  rw [outsAt0_B m c t (by omega) h1 h2]
  unfold outs_B
  frame_out
  refine two3 (e := .bf16) _ _ _ _ _ (fun n f => A0 m c (512 * (t.val / 4) + n) (704 * (t.val % 4) + f)) (fun a f => ?_) (fun a f => ?_) z n f
  · exact (p23 _ _ _ 0 a f).trans (dg_at m c t _ 0 _ (by omega) (HY_B m c t h1).e0 a f)
  · rw [p31]
    exact (p23 _ _ _ 0 a f).trans (dg_at m c t _ 256 _ (by omega) (HY_B m c t h1).e1 a f)

theorem out12C (c : Dev nD) (t : Fin cfg0.N) (h2 : t.val % 4 = 3) (z : Fin 1) (n : Fin 512) (f : Fin 704) : (outsAt0 m c t.val t.isLt).2.2.2.2.1 (ix3 z n f) = A0 m c (512 * (t.val / 4) + n.val) (704 * (t.val % 4) + f.val) := by
  rw [outsAt0_C m c t (by omega) (by omega) h2]
  unfold outs_C
  frame_out
  refine two3 (e := .bf16) _ _ _ _ _ (fun n f => A0 m c (512 * (t.val / 4) + n) (704 * (t.val % 4) + f)) (fun a f => ?_) (fun a f => ?_) z n f
  · exact (p23 _ _ _ 0 a f).trans (dg_at m c t _ 0 _ (by omega) (HY_B m c t (by omega)).e0 a f)
  · rw [p31]
    exact (p23 _ _ _ 0 a f).trans (dg_at m c t _ 256 _ (by omega) (HY_B m c t (by omega)).e1 a f)

theorem out12D (c : Dev nD) (t : Fin cfg0.N) (h0 : ¬t.val % 64 = 0) (h1 : t.val % 4 = 0) (z : Fin 1) (n : Fin 512) (f : Fin 704) : (outsAt0 m c t.val t.isLt).2.2.2.2.1 (ix3 z n f) = A0 m c (512 * (t.val / 4) + n.val) (704 * (t.val % 4) + f.val) := by
  rw [outsAt0_D m c t h0 h1 (by omega)]
  unfold outs_D
  frame_out
  refine two3 (e := .bf16) _ _ _ _ _ (fun n f => A0 m c (512 * (t.val / 4) + n) (704 * (t.val % 4) + f)) (fun a f => ?_) (fun a f => ?_) z n f
  · exact (p23 _ _ _ 0 a f).trans (dg_at m c t _ 0 _ (by omega) (HY_A m c t).e0 a f)
  · rw [p31]
    exact (p23 _ _ _ 0 a f).trans (dg_at m c t _ 256 _ (by omega) (HY_A m c t).e1 a f)

theorem out12 (c : Dev nD) (t : Fin cfg0.N) (z : Fin 1) (n : Fin 512) (f : Fin 704) : (outsAt0 m c t.val t.isLt).2.2.2.2.1 (ix3 z n f) = A0 m c (512 * (t.val / 4) + n.val) (704 * (t.val % 4) + f.val) := by
  by_cases h1 : t.val % 4 = 0
  · by_cases h0 : t.val % 64 = 0
    · exact out12A m c t h0 h1 z n f
    · exact out12D m c t h0 h1 z n f
  · by_cases h2 : t.val % 4 = 3
    · exact out12C m c t h2 z n f
    · exact out12B m c t h1 h2 z n f

theorem final12 (c : Dev nD) : (dats m 0 c).arrAt 12 cfg0.N = fun i : S4x8192x704.Idx => A0 m c (i 1).val (704 * (i 0).val + (i 2).val) := by
  refine (dats m 0 c).arrAt_eq_of_covers 12 _ (by decide +kernel) fun t hf y => ?_
  blk_simp
  rw [after0_12]
  refine (congrArg _ (eq_ix3 (n0 := 1) (n1 := 512) (n2 := 704) y)).trans ((out12 m c t (y 0) (y 1) (y 2)).trans ?_)
  have e := idx_out t
  have hz : (y 0).val = 0 := by have : (y 0).val < 1 := (y 0).isLt; omega
  simp only [e]
  simp [hz, Nat.mul_comm]

theorem out13A (c : Dev nD) (t : Fin cfg0.N) (h0 : t.val % 64 = 0) (h1 : t.val % 4 = 0) (z : Fin 1) (n : Fin 512) (f : Fin 704) : (outsAt0 m c t.val t.isLt).2.2.2.2.2.1 (ix3 z n f) = B0 m c (512 * (t.val / 4) + n.val) (704 * (t.val % 4) + f.val) := by
  rw [outsAt0_A m c t h0 h1 (by omega)]
  unfold outs_A
  frame_out
  refine two3 (e := .bf16) _ _ _ _ _ (fun n f => B0 m c (512 * (t.val / 4) + n) (704 * (t.val % 4) + f)) (fun a f => ?_) (fun a f => ?_) z n f
  · exact (p24 _ _ 0 a f).trans (du_at m c t _ 0 _ (by omega) (HY_A m c t).e0 a f)
  · rw [p32]
    exact (p24 _ _ 0 a f).trans (du_at m c t _ 256 _ (by omega) (HY_A m c t).e1 a f)

theorem out13B (c : Dev nD) (t : Fin cfg0.N) (h1 : ¬t.val % 4 = 0) (h2 : ¬t.val % 4 = 3) (z : Fin 1) (n : Fin 512) (f : Fin 704) : (outsAt0 m c t.val t.isLt).2.2.2.2.2.1 (ix3 z n f) = B0 m c (512 * (t.val / 4) + n.val) (704 * (t.val % 4) + f.val) := by
  rw [outsAt0_B m c t (by omega) h1 h2]
  unfold outs_B
  frame_out
  refine two3 (e := .bf16) _ _ _ _ _ (fun n f => B0 m c (512 * (t.val / 4) + n) (704 * (t.val % 4) + f)) (fun a f => ?_) (fun a f => ?_) z n f
  · exact (p24 _ _ 0 a f).trans (du_at m c t _ 0 _ (by omega) (HY_B m c t h1).e0 a f)
  · rw [p32]
    exact (p24 _ _ 0 a f).trans (du_at m c t _ 256 _ (by omega) (HY_B m c t h1).e1 a f)

theorem out13C (c : Dev nD) (t : Fin cfg0.N) (h2 : t.val % 4 = 3) (z : Fin 1) (n : Fin 512) (f : Fin 704) : (outsAt0 m c t.val t.isLt).2.2.2.2.2.1 (ix3 z n f) = B0 m c (512 * (t.val / 4) + n.val) (704 * (t.val % 4) + f.val) := by
  rw [outsAt0_C m c t (by omega) (by omega) h2]
  unfold outs_C
  frame_out
  refine two3 (e := .bf16) _ _ _ _ _ (fun n f => B0 m c (512 * (t.val / 4) + n) (704 * (t.val % 4) + f)) (fun a f => ?_) (fun a f => ?_) z n f
  · exact (p24 _ _ 0 a f).trans (du_at m c t _ 0 _ (by omega) (HY_B m c t (by omega)).e0 a f)
  · rw [p32]
    exact (p24 _ _ 0 a f).trans (du_at m c t _ 256 _ (by omega) (HY_B m c t (by omega)).e1 a f)

theorem out13D (c : Dev nD) (t : Fin cfg0.N) (h0 : ¬t.val % 64 = 0) (h1 : t.val % 4 = 0) (z : Fin 1) (n : Fin 512) (f : Fin 704) : (outsAt0 m c t.val t.isLt).2.2.2.2.2.1 (ix3 z n f) = B0 m c (512 * (t.val / 4) + n.val) (704 * (t.val % 4) + f.val) := by
  rw [outsAt0_D m c t h0 h1 (by omega)]
  unfold outs_D
  frame_out
  refine two3 (e := .bf16) _ _ _ _ _ (fun n f => B0 m c (512 * (t.val / 4) + n) (704 * (t.val % 4) + f)) (fun a f => ?_) (fun a f => ?_) z n f
  · exact (p24 _ _ 0 a f).trans (du_at m c t _ 0 _ (by omega) (HY_A m c t).e0 a f)
  · rw [p32]
    exact (p24 _ _ 0 a f).trans (du_at m c t _ 256 _ (by omega) (HY_A m c t).e1 a f)

theorem out13 (c : Dev nD) (t : Fin cfg0.N) (z : Fin 1) (n : Fin 512) (f : Fin 704) : (outsAt0 m c t.val t.isLt).2.2.2.2.2.1 (ix3 z n f) = B0 m c (512 * (t.val / 4) + n.val) (704 * (t.val % 4) + f.val) := by
  by_cases h1 : t.val % 4 = 0
  · by_cases h0 : t.val % 64 = 0
    · exact out13A m c t h0 h1 z n f
    · exact out13D m c t h0 h1 z n f
  · by_cases h2 : t.val % 4 = 3
    · exact out13C m c t h2 z n f
    · exact out13B m c t h1 h2 z n f

theorem final13 (c : Dev nD) : (dats m 0 c).arrAt 13 cfg0.N = fun i : S4x8192x704.Idx => B0 m c (i 1).val (704 * (i 0).val + (i 2).val) := by
  refine (dats m 0 c).arrAt_eq_of_covers 13 _ (by decide +kernel) fun t hf y => ?_
  blk_simp
  rw [after0_13]
  refine (congrArg _ (eq_ix3 (n0 := 1) (n1 := 512) (n2 := 704) y)).trans ((out13 m c t (y 0) (y 1) (y 2)).trans ?_)
  have e := idx_out t
  have hz : (y 0).val = 0 := by have : (y 0).val < 1 := (y 0).isLt; omega
  simp only [e]
  simp [hz, Nat.mul_comm]

theorem out14A (c : Dev nD) (t : Fin cfg0.N) (h0 : t.val % 64 = 0) (h1 : t.val % 4 = 0) (z : Fin 1) (n : Fin 512) (f : Fin 704) : (outsAt0 m c t.val t.isLt).2.2.2.2.2.2.1 (ix3 z n f) = acf (X0 m c) (G0 m c) (WG0 m c) (WU0 m c) (512 * (t.val / 4) + n.val) (704 * (t.val % 4) + f.val) := by
  rw [outsAt0_A m c t h0 h1 (by omega)]
  unfold outs_A
  frame_out
  refine two3 (e := .bf16) _ _ _ _ _ (fun n f => acf (X0 m c) (G0 m c) (WG0 m c) (WU0 m c) (512 * (t.val / 4) + n) (704 * (t.val % 4) + f)) (fun a f => ?_) (fun a f => ?_) z n f
  · exact ac_at m c t 0 _ (by omega) a f
  · rw [p30]
    exact ac_at m c t 256 _ (by omega) a f

theorem out14B (c : Dev nD) (t : Fin cfg0.N) (h1 : ¬t.val % 4 = 0) (h2 : ¬t.val % 4 = 3) (z : Fin 1) (n : Fin 512) (f : Fin 704) : (outsAt0 m c t.val t.isLt).2.2.2.2.2.2.1 (ix3 z n f) = acf (X0 m c) (G0 m c) (WG0 m c) (WU0 m c) (512 * (t.val / 4) + n.val) (704 * (t.val % 4) + f.val) := by
  rw [outsAt0_B m c t (by omega) h1 h2]
  unfold outs_B
  frame_out
  refine two3 (e := .bf16) _ _ _ _ _ (fun n f => acf (X0 m c) (G0 m c) (WG0 m c) (WU0 m c) (512 * (t.val / 4) + n) (704 * (t.val % 4) + f)) (fun a f => ?_) (fun a f => ?_) z n f
  · exact ac_at m c t 0 _ (by omega) a f
  · rw [p30]
    exact ac_at m c t 256 _ (by omega) a f

theorem out14C (c : Dev nD) (t : Fin cfg0.N) (h2 : t.val % 4 = 3) (z : Fin 1) (n : Fin 512) (f : Fin 704) : (outsAt0 m c t.val t.isLt).2.2.2.2.2.2.1 (ix3 z n f) = acf (X0 m c) (G0 m c) (WG0 m c) (WU0 m c) (512 * (t.val / 4) + n.val) (704 * (t.val % 4) + f.val) := by
  rw [outsAt0_C m c t (by omega) (by omega) h2]
  unfold outs_C
  frame_out
  refine two3 (e := .bf16) _ _ _ _ _ (fun n f => acf (X0 m c) (G0 m c) (WG0 m c) (WU0 m c) (512 * (t.val / 4) + n) (704 * (t.val % 4) + f)) (fun a f => ?_) (fun a f => ?_) z n f
  · exact ac_at m c t 0 _ (by omega) a f
  · rw [p30]
    exact ac_at m c t 256 _ (by omega) a f

theorem out14D (c : Dev nD) (t : Fin cfg0.N) (h0 : ¬t.val % 64 = 0) (h1 : t.val % 4 = 0) (z : Fin 1) (n : Fin 512) (f : Fin 704) : (outsAt0 m c t.val t.isLt).2.2.2.2.2.2.1 (ix3 z n f) = acf (X0 m c) (G0 m c) (WG0 m c) (WU0 m c) (512 * (t.val / 4) + n.val) (704 * (t.val % 4) + f.val) := by
  rw [outsAt0_D m c t h0 h1 (by omega)]
  unfold outs_D
  frame_out
  refine two3 (e := .bf16) _ _ _ _ _ (fun n f => acf (X0 m c) (G0 m c) (WG0 m c) (WU0 m c) (512 * (t.val / 4) + n) (704 * (t.val % 4) + f)) (fun a f => ?_) (fun a f => ?_) z n f
  · exact ac_at m c t 0 _ (by omega) a f
  · rw [p30]
    exact ac_at m c t 256 _ (by omega) a f

theorem out14 (c : Dev nD) (t : Fin cfg0.N) (z : Fin 1) (n : Fin 512) (f : Fin 704) : (outsAt0 m c t.val t.isLt).2.2.2.2.2.2.1 (ix3 z n f) = acf (X0 m c) (G0 m c) (WG0 m c) (WU0 m c) (512 * (t.val / 4) + n.val) (704 * (t.val % 4) + f.val) := by
  by_cases h1 : t.val % 4 = 0
  · by_cases h0 : t.val % 64 = 0
    · exact out14A m c t h0 h1 z n f
    · exact out14D m c t h0 h1 z n f
  · by_cases h2 : t.val % 4 = 3
    · exact out14C m c t h2 z n f
    · exact out14B m c t h1 h2 z n f

theorem final14 (c : Dev nD) : (dats m 0 c).arrAt 14 cfg0.N = fun i : S4x8192x704.Idx => acf (X0 m c) (G0 m c) (WG0 m c) (WU0 m c) (i 1).val (704 * (i 0).val + (i 2).val) := by
  refine (dats m 0 c).arrAt_eq_of_covers 14 _ (by decide +kernel) fun t hf y => ?_
  blk_simp
  rw [after0_14]
  refine (congrArg _ (eq_ix3 (n0 := 1) (n1 := 512) (n2 := 704) y)).trans ((out14 m c t (y 0) (y 1) (y 2)).trans ?_)
  have e := idx_out t
  have hz : (y 0).val = 0 := by have : (y 0).val < 1 := (y 0).isLt; omega
  simp only [e]
  simp [hz, Nat.mul_comm]

end Cert.FfnBwdIdeal.Calc

end
-- ==== Proof.FbSum.lean ====
module

public import proofs.«01_k».proof.Proof.FbHid
/-! `ffn_bwd`'s kept sum from point to point, and what is stored of it at a block's last point. -/

@[expose] public section

set_option maxRecDepth 16384

noncomputable section

namespace Cert.FfnBwdIdeal.Calc

open Idealize.ShloMosaic Idealize.ShloMosaic.TcCoe Idealize.SL.Sem
open Idealize.ShloMosaic.Pipeline (Dat)
open Cert.FfnBwdIdeal Cert.FfnBwdIdeal.Gen Cert.FfnBwdIdeal.Own Cert.Base
open Cert.FfnFwdIdeal.Calc (hn gt)
open Cert.InProjBwdIdeal.Calc (rx dx dgr acc acc_all acc_succ)

variable (m : (ℓ : Loc nD τ sig) → Buf (Elt Ideal) ℓ)

/-- What the point before left, -/
abbrev prev (c : Dev nD) (t : Fin cfg0.N) := outsAt0 m c (t.val - 1) (Nat.lt_of_le_of_lt (Nat.sub_le _ _) t.isLt)
/-- a shard's part of a row of the block, -/
abbrev sA (c : Dev nD) (t : Fin cfg0.N) (n b : ℕ) : EReal := sh (A0 m c) (B0 m c) (WG0 m c) (WU0 m c) (512 * (t.val / 4) + n) b (t.val % 4)

theorem z10 (a : Fin 512) (b : Fin 1024) : k0_pay10 (F := Ideal) (ix2 a b) = 0 := by pointwise [k0_pay10]

/-- and the halves of the kept sum, read of the cleared buffer. -/
theorem zc0 {κ : Kind} {sp : Space} (v : View sig κ sp S512x1024 .f32) (inb : ∀ a : Fin 2, (![0, 0] : Fin 2 → ℕ) a + (![512, 1024] : Fin 2 → ℕ) a ≤ S512x1024.size a) (o : ℕ)
    (inb' : ∀ a : Fin 2, (![o, 0] : Fin 2 → ℕ) a + (![256, 1024] : Fin 2 → ℕ) a ≤ S512x1024.size a) (ho : o + 256 ≤ 512) (a : Fin 256) (b : Fin 1024) :
    v.readCov [(⟨Rect.unit (s := S512x1024) ![0, 0] ![512, 1024] inb, k0_pay10 (F := Ideal)⟩ : View.Piece (Elt Ideal) S512x1024 .f32)] (Rect.unit (s := S512x1024) ![o, 0] ![256, 1024] inb').toLoadRect (ix2 a b) = 0 :=
  (covRows v o _ inb' ho a b).trans ((fill inb _ _ _ b).trans (z10 _ b))

theorem zc1 {κ : Kind} {sp : Space} (v : View sig κ sp S512x1024 .f32) (inb : ∀ a : Fin 2, (![0, 0] : Fin 2 → ℕ) a + (![512, 1024] : Fin 2 → ℕ) a ≤ S512x1024.size a)
    (inb0 : ∀ a : Fin 2, (![0, 0] : Fin 2 → ℕ) a + (![256, 1024] : Fin 2 → ℕ) a ≤ S512x1024.size a) (w : (Rect.unit (s := S512x1024) ![0, 0] ![256, 1024] inb0).shape.Idx → Elt Ideal .f32)
    (inb' : ∀ a : Fin 2, (![256, 0] : Fin 2 → ℕ) a + (![256, 1024] : Fin 2 → ℕ) a ≤ S512x1024.size a) (a : Fin 256) (b : Fin 1024) :
    v.readCov [(⟨Rect.unit (s := S512x1024) ![0, 0] ![256, 1024] inb0, w⟩ : View.Piece (Elt Ideal) S512x1024 .f32), (⟨Rect.unit (s := S512x1024) ![0, 0] ![512, 1024] inb, k0_pay10 (F := Ideal)⟩ : View.Piece (Elt Ideal) S512x1024 .f32)] (Rect.unit (s := S512x1024) ![256, 0] ![256, 1024] inb').toLoadRect (ix2 a b) = 0 :=
  (covRows v 256 _ inb' (by omega) a b).trans ((canon_off inb0 w _ _ (0 : Fin 2) (Or.inr (by show 0 + 256 ≤ 256 + a.val; omega))).trans ((fill inb _ _ _ b).trans (z10 _ b)))

theorem scB (c : Dev nD) (t : Fin cfg0.N) (h1 : ¬t.val % 4 = 0) (h2 : ¬t.val % 4 = 3) (n : Fin 512) (b : Fin 1024) : (outsAt0 m c t.val t.isLt).2.2.2.2.2.2.2 (ix2 n b) = (prev m c t).2.2.2.2.2.2.2 (ix2 n b) + sA m c t n.val b.val := by
  obtain ⟨P, hq⟩ : ∃ P : ℕ → ℕ → EReal, ∀ (n : Fin 512) (b : Fin 1024), (prev m c t).2.2.2.2.2.2.2 (ix2 n b) = P n.val b.val := ⟨fun n b => R (prev m c t).2.2.2.2.2.2.2 n b, fun n b => R_ix _ n b⟩
  rw [hq n b]
  rw [outsAt0_B m c t (by omega) h1 h2]
  unfold outs_B
  frame_out
  simp only [read_unread_whole]
  refine two2 (e := .f32) _ _ _ _ _ (fun n b => P n b + sA m c t n b) (fun a b => ?_) (fun a b => ?_) n b
  · exact sum_at m c t _ 0 _ (by omega) (HY_B m c t h1).e0 _ P (fun a b => (ldrows _ 0 _ (by omega) a b).trans (hq _ b)) a b
  · rw [p28, p29]
    exact sum_at m c t _ 256 _ (by omega) (HY_B m c t h1).e1 _ P (fun a b => (ldrows _ 256 _ (by omega) a b).trans (hq _ b)) a b

theorem scC (c : Dev nD) (t : Fin cfg0.N) (h2 : t.val % 4 = 3) (n : Fin 512) (b : Fin 1024) : (outsAt0 m c t.val t.isLt).2.2.2.2.2.2.2 (ix2 n b) = (prev m c t).2.2.2.2.2.2.2 (ix2 n b) + sA m c t n.val b.val := by
  obtain ⟨P, hq⟩ : ∃ P : ℕ → ℕ → EReal, ∀ (n : Fin 512) (b : Fin 1024), (prev m c t).2.2.2.2.2.2.2 (ix2 n b) = P n.val b.val := ⟨fun n b => R (prev m c t).2.2.2.2.2.2.2 n b, fun n b => R_ix _ n b⟩
  rw [hq n b]
  rw [outsAt0_C m c t (by omega) (by omega) h2]
  unfold outs_C
  frame_out
  simp only [read_unread_whole]
  refine two2 (e := .f32) _ _ _ _ _ (fun n b => P n b + sA m c t n b) (fun a b => ?_) (fun a b => ?_) n b
  · exact sum_at m c t _ 0 _ (by omega) (HY_B m c t (by omega)).e0 _ P (fun a b => (ldrows _ 0 _ (by omega) a b).trans (hq _ b)) a b
  · rw [p28, p29]
    exact sum_at m c t _ 256 _ (by omega) (HY_B m c t (by omega)).e1 _ P (fun a b => (ldrows _ 256 _ (by omega) a b).trans (hq _ b)) a b

theorem scA (c : Dev nD) (t : Fin cfg0.N) (h0 : t.val % 64 = 0) (h1 : t.val % 4 = 0) (n : Fin 512) (b : Fin 1024) : (outsAt0 m c t.val t.isLt).2.2.2.2.2.2.2 (ix2 n b) = 0 + sA m c t n.val b.val := by
  rw [outsAt0_A m c t h0 h1 (by omega)]
  unfold outs_A
  frame_out
  refine two2 (e := .f32) _ _ _ _ _ (fun n b => 0 + sA m c t n b) (fun a b => ?_) (fun a b => ?_) n b
  · exact sum_at m c t _ 0 _ (by omega) (HY_A m c t).e0 _ (fun _ _ => 0) (fun a b => zc0 _ _ 0 _ (by omega) a b) a b
  · rw [p28, p29]
    refine sum_at m c t _ 256 _ (by omega) (HY_A m c t).e1 _ (fun _ _ => 0) (fun a b => ?_) a b
    exact zc1 _ _ _ _ _ a b

theorem scD (c : Dev nD) (t : Fin cfg0.N) (h0 : ¬t.val % 64 = 0) (h1 : t.val % 4 = 0) (n : Fin 512) (b : Fin 1024) : (outsAt0 m c t.val t.isLt).2.2.2.2.2.2.2 (ix2 n b) = 0 + sA m c t n.val b.val := by
  rw [outsAt0_D m c t h0 h1 (by omega)]
  unfold outs_D
  frame_out
  refine two2 (e := .f32) _ _ _ _ _ (fun n b => 0 + sA m c t n b) (fun a b => ?_) (fun a b => ?_) n b
  · exact sum_at m c t _ 0 _ (by omega) (HY_A m c t).e0 _ (fun _ _ => 0) (fun a b => zc0 _ _ 0 _ (by omega) a b) a b
  · rw [p28, p29]
    refine sum_at m c t _ 256 _ (by omega) (HY_A m c t).e1 _ (fun _ _ => 0) (fun a b => ?_) a b
    exact zc1 _ _ _ _ _ a b

abbrev pO (c : Dev nD) (t : ℕ) (n b : ℕ) : EReal := PO (A0 m c) (B0 m c) (WG0 m c) (WU0 m c) (512 * (t / 4) + n) b (t % 4)

theorem scZ (c : Dev nD) (t : Fin cfg0.N) (h1 : t.val % 4 = 0) (n : Fin 512) (b : Fin 1024) : (outsAt0 m c t.val t.isLt).2.2.2.2.2.2.2 (ix2 n b) = pO m c t.val n.val b.val := by
  have e : pO m c t.val n.val b.val = 0 + sA m c t n.val b.val := by rw [pO, sA, h1]; rfl
  rw [e]
  by_cases h0 : t.val % 64 = 0
  · exact scA m c t h0 h1 n b
  · exact scD m c t h0 h1 n b

theorem scS (c : Dev nD) (t : Fin cfg0.N) (h1 : ¬t.val % 4 = 0) (n : Fin 512) (b : Fin 1024) : (outsAt0 m c t.val t.isLt).2.2.2.2.2.2.2 (ix2 n b) = (prev m c t).2.2.2.2.2.2.2 (ix2 n b) + sA m c t n.val b.val := by
  by_cases h2 : t.val % 4 = 3
  · exact scC m c t h2 n b
  · exact scB m c t h1 h2 n b

theorem pO_succ (c : Dev nD) (n : ℕ) (hn' : n + 1 < cfg0.N) (h1 : ¬(n + 1) % 4 = 0) (a b : ℕ) : pO m c (n + 1) a b = pO m c n a b + sA m c ⟨n + 1, hn'⟩ a b := by
  rw [pO, pO, sA]
  show PO _ _ _ _ (512 * ((n + 1) / 4) + a) b ((n + 1) % 4) = PO _ _ _ _ (512 * (n / 4) + a) b (n % 4) + sh _ _ _ _ (512 * ((n + 1) / 4) + a) b ((n + 1) % 4)
  rw [show (n + 1) / 4 = n / 4 by omega, show (n + 1) % 4 = n % 4 + 1 by omega]
  rfl

/-- The kept sum at every point. -/
theorem scAt (c : Dev nD) : ∀ (n : ℕ) (h : n < cfg0.N) (a : Fin 512) (b : Fin 1024), (outsAt0 m c n h).2.2.2.2.2.2.2 (ix2 a b) = pO m c n a.val b.val
  | 0, h, a, b => scZ m c ⟨0, h⟩ rfl a b
  | n + 1, h, a, b => by
    by_cases h1 : (n + 1) % 4 = 0
    · exact scZ m c ⟨n + 1, h⟩ h1 a b
    · rw [scS m c ⟨n + 1, h⟩ h1 a b, pO_succ m c n h h1]
      exact Ideal.add_congr (scAt c n (by omega) a b) rfl

/-- The gradient at the normalised row, as the call's arguments give it. -/
abbrev DH (c : Dev nD) : ℕ → ℕ → EReal := dhf (A0 m c) (B0 m c) (WG0 m c) (WU0 m c)

/-- At a block's last point: what the two halves just stored hold. -/
theorem scL (c : Dev nD) (t : Fin cfg0.N) (h2 : t.val % 4 = 3) (a : Fin 512) (b : Fin 1024) : (outsAt0 m c t.val t.isLt).2.2.2.2.2.2.2 (ix2 a b) = DH m c (512 * (t.val / 4) + a.val) b.val := by
  rw [scAt m c t.val t.isLt a b, pO, h2]
  exact PO_last _ _ _ _ _ _

end Cert.FfnBwdIdeal.Calc

end
-- ==== Proof.FbFin.lean ====
module

public import proofs.«01_k».proof.Proof.FbSum
/-! The gradients of `ffn_bwd`'s rows and of its gain, and the arrays of its results on rows. -/

@[expose] public section

set_option maxRecDepth 16384

noncomputable section

namespace Cert.FfnBwdIdeal.Calc

open Idealize.ShloMosaic Idealize.ShloMosaic.TcCoe Idealize.SL.Sem
open Idealize.ShloMosaic.Pipeline (Dat)
open Cert.FfnBwdIdeal Cert.FfnBwdIdeal.Gen Cert.FfnBwdIdeal.Own Cert.Base
open Cert.FfnFwdIdeal.Calc (hn gt)
open Cert.InProjBwdIdeal.Calc (rx dx dgr acc acc_all acc_succ)

variable (m : (ℓ : Loc nD τ sig) → Buf (Elt Ideal) ℓ)

theorem pay5_at (c : Dev nD) (t : Fin cfg0.N) (q : Vec Ideal S512x1024 .f32) (hq : ∀ (a : Fin 512) (b : Fin 1024), q (ix2 a b) = DH m c (512 * (t.val / 4) + a.val) b.val) (a : Fin 512) (b : Fin 1024) :
    k0_pay5 (F := Ideal) (iblk m c 0 t) (iblk m c 2 t) q (iblk m c 1 t) (ix2 a b) = dx (X0 m c) (E0 m c) (G0 m c) (DH m c) (512 * (t.val / 4) + a.val) b.val := by
  pointwise [k0_pay5, k0_pay4, k0_pay3]
  simp only [blk0, blk1, blk2, hq, dx, rx]

theorem pay6_at (c : Dev nD) (t : Fin cfg0.N) (q : Vec Ideal S512x1024 .f32) (p : Vec Ideal S1x1024 .f32) (hq : ∀ (a : Fin 512) (b : Fin 1024), q (ix2 a b) = DH m c (512 * (t.val / 4) + a.val) b.val) (z : Fin 1) (b : Fin 1024) :
    k0_pay6 (F := Ideal) (iblk m c 0 t) q p (ix2 z b) = p (ix2 z b) + ∑ r : Fin 512, dgr (X0 m c) (DH m c) b.val (512 * (t.val / 4) + r.val) := by
  pointwise [k0_pay6, k0_pay4, k0_pay3]
  simp only [blk0, hq, dgr, rx]

theorem z7 (z : Fin 1) (b : Fin 1024) : k0_pay7 (F := Ideal) (ix2 z b) = 0 := by pointwise [k0_pay7]

theorem out8 (c : Dev nD) (t : Fin cfg0.N) (h2 : t.val % 4 = 3) (a : Fin 512) (b : Fin 1024) : (outsAt0 m c t.val t.isLt).1 (ix2 a b) = dx (X0 m c) (E0 m c) (G0 m c) (DH m c) (512 * (t.val / 4) + a.val) b.val := by
  rw [outsAt0_C m c t (by omega) (by omega) h2]
  unfold outs_C
  frame_out
  refine pay5_at m c t _ (fun a b => (covAll _ _ _ a b).trans (Eq.trans ?_ (scL m c t h2 a b))) a b
  symm
  rw [outsAt0_C m c t (by omega) (by omega) h2]
  unfold outs_C
  frame_out

theorem out9C (c : Dev nD) (t : Fin cfg0.N) (h2 : t.val % 4 = 3) (z : Fin 1) (b : Fin 1024) : (outsAt0 m c t.val t.isLt).2.1 (ix2 z b) = (prev m c t).2.1 (ix2 z b) + ∑ r : Fin 512, dgr (X0 m c) (DH m c) b.val (512 * (t.val / 4) + r.val) := by
  rw [outsAt0_C m c t (by omega) (by omega) h2]
  unfold outs_C
  frame_out
  refine pay6_at m c t _ _ (fun a b => (covAll _ _ _ a b).trans (Eq.trans ?_ (scL m c t h2 a b))) z b
  symm
  rw [outsAt0_C m c t (by omega) (by omega) h2]
  unfold outs_C
  frame_out

theorem out9A (c : Dev nD) (t : Fin cfg0.N) (h0 : t.val % 64 = 0) (z : Fin 1) (b : Fin 1024) : (outsAt0 m c t.val t.isLt).2.1 (ix2 z b) = 0 := by
  rw [outsAt0_A m c t h0 (by omega) (by omega)]
  unfold outs_A
  frame_out
  exact z7 z b

theorem out9B (c : Dev nD) (t : Fin cfg0.N) (h0 : ¬t.val % 64 = 0) (h2 : ¬t.val % 4 = 3) : (outsAt0 m c t.val t.isLt).2.1 = (prev m c t).2.1 := by
  by_cases h1 : t.val % 4 = 0
  · rw [outsAt0_D m c t h0 h1 (by omega)]
    unfold outs_D
    dsimp only
  · rw [outsAt0_B m c t h0 h1 h2]
    unfold outs_B
    dsimp only

/-- The gain's gradient at every point: the blocks whose last point has been. -/
theorem at9 (c : Dev nD) (z : Fin 1) (b : Fin 1024) : ∀ (n : ℕ) (h : n < cfg0.N), (outsAt0 m c n h).2.1 (ix2 z b) = acc (dgr (X0 m c) (DH m c) b.val) ((n + 1) / 4)
  | 0, h => (out9A m c ⟨0, h⟩ rfl z b).trans (by rw [acc]; rfl)
  | n + 1, h => by
    have hN : n + 1 < 64 := lt_of_lt_of_eq h N_0
    by_cases h2 : (n + 1) % 4 = 3
    · refine (out9C m c ⟨n + 1, h⟩ h2 z b).trans ?_
      rw [show (n + 1 + 1) / 4 = (n + 1) / 4 + 1 by omega, acc_succ]
      exact Ideal.add_congr (at9 c z b n (by omega)) rfl
    · rw [out9B m c ⟨n + 1, h⟩ (by show ¬(n + 1) % 64 = 0; omega) h2, show (n + 1 + 1) / 4 = (n + 1) / 4 by omega]
      exact at9 c z b n (by omega)

theorem final8 (c : Dev nD) : (dats m 0 c).arrAt 8 cfg0.N = fun i : S8192x1024.Idx => dx (X0 m c) (E0 m c) (G0 m c) (DH m c) (i 0).val (i 1).val := by
  refine (dats m 0 c).arrAt_eq_of_covers 8 _ (by decide +kernel) fun t hf y => ?_
  have h3 := (flush0_8 t).mp hf
  blk_simp
  rw [after0_8]
  refine (congrArg _ (eq_ix2 (n0 := 512) (n1 := 1024) y)).trans ((out8 m c t h3 (y 0) (y 1)).trans ?_)
  have e := idx_out t
  simp only [e]
  simp [Nat.mul_comm]

theorem final9 (c : Dev nD) : (dats m 0 c).arrAt 9 cfg0.N = fun i : S1x1024.Idx => ∑ n : Fin 8192, dgr (X0 m c) (DH m c) (i 1).val n.val := by
  refine (dats m 0 c).arrAt_eq_of_covers 9 _ (by decide +kernel) fun t hf y => ?_
  have h3 := (flush0_9 t).mp hf
  have hN : t.val < 64 := lt_of_lt_of_eq t.isLt N_0
  blk_simp
  rw [after0_9]
  refine (congrArg _ (eq_ix2 (n0 := 1) (n1 := 1024) y)).trans ((at9 m c (y 0) (y 1) t.val t.isLt).trans ?_)
  rw [show (t.val + 1) / 4 = 16 by omega, acc_all]
  have e := idx_out t
  simp only [e]
  simp

theorem final10 (c : Dev nD) : (dats m 0 c).arrAt 10 cfg0.N = fun i : S8192x1024.Idx => hn (X0 m c) (G0 m c) (i 0).val (i 1).val := by
  refine (dats m 0 c).arrAt_eq_of_covers 10 _ (by decide +kernel) fun t hf y => ?_
  blk_simp
  rw [after0_10]
  refine (congrArg _ (eq_ix2 (n0 := 512) (n1 := 1024) y)).trans ((hAt m c t.val t.isLt (y 0) (y 1)).trans ?_)
  have e := idx_out t
  simp only [e]
  simp [Nat.mul_comm]

theorem final11 (c : Dev nD) : (dats m 0 c).arrAt 11 cfg0.N = fun i : S8192x1024.Idx => R (E0 m c) (i 0).val (i 1).val := by
  refine (dats m 0 c).arrAt_eq_of_covers 11 _ (by decide +kernel) fun t hf y => ?_
  blk_simp
  rw [after0_11]
  refine (congrArg _ (eq_ix2 (n0 := 512) (n1 := 1024) y)).trans ((yAt m c t.val t.isLt (y 0) (y 1)).trans ?_)
  have e := idx_out t
  simp only [e]
  simp [Nat.mul_comm]

end Cert.FfnBwdIdeal.Calc

end
-- ==== Proof.FfnB.lean ====
module

public import proofs.«01_k».proof.Proof.FbBits
public import proofs.«01_k».proof.Proof.FbFin
public import proofs.«01_k».proof.Proof.Gen.FfnBwdRefIdeal.Read
public import proofs.«01_k».proof.Proof.Gen.Pre_finite_ffn
/-! `ffn_bwd`'s reference: its results as the same sums and products as the body's. -/

@[expose] public section

set_option maxRecDepth 16384

noncomputable section

namespace Cert.FfnBwdRefIdeal.Calc

open Idealize.ShloMosaic Idealize.ShloMosaic.TcCoe Cert.Base Cert.Rms
open Cert.FfnBwdRefIdeal Cert.FfnBwdRefIdeal.Read
open Cert.FfnFwdIdeal.Calc (hn gt)
open Cert.FfnBwdIdeal.Calc (sg dgv duv acv da dgf duf acf dhf)
open Cert.InProjBwdIdeal.Calc (rx dx dgr)
open Cert.InProjBwdRefIdeal.Calc (row)

variable (X E : FVec Ideal S8192x1024 .f32) (G : FVec Ideal S1024 .f32) (WG WU : FVec Ideal S1024x2816 .f32) (WD : FVec Ideal S2816x1024 .f32)

theorem ref15_at (a : Fin 8192) (b : Fin 1024) : val_main_v15 (F := Ideal) X G (ix2 a b) = hn X G a.val b.val := by
  pointwise [val_main_v15, val_main_v14, val_main_v13, val_main_v12, val_main_v11, val_main_v7, val_main_v0, val_main_cst, val_main_v1, val_main_v2, val_main_cst_0, val_main_v3, val_main_v4, val_main_cst_1, val_main_v5, val_main_v6, val_main_cst_2, val_main_cst_3, val_main_cst_4, val_main_cst_5, val_main_cst_6, val_main_cst_7]
  simp only [R_ix, R1_ix, hn]

theorem ref16_at (a : Fin 8192) (f : Fin 2816) : val_main_v16 (F := Ideal) X G WG (ix2 a f) = gt X G WG a.val f.val := by
  pointwise [val_main_v16]
  exact Fin.sum_fin_congr fun k => Ideal.mul_congr (ref15_at X G a k) (R_ix WG k f)

theorem ref17_at (a : Fin 8192) (f : Fin 2816) : val_main_v17 (F := Ideal) X G WU (ix2 a f) = gt X G WU a.val f.val := by
  pointwise [val_main_v17]
  exact Fin.sum_fin_congr fun k => Ideal.mul_congr (ref15_at X G a k) (R_ix WU k f)

theorem ref18_at (a : Fin 8192) (f : Fin 2816) : val_main_v18_2 (F := Ideal) X G WG (ix2 a f) = sg (gt X G WG a.val f.val) := by
  pointwise [val_main_v18_2, val_main_call0_v4, val_main_call0_cst_0, val_main_call0_v3, val_main_call0_v2, val_main_call0_cst, val_main_call0_v1, val_main_call0_v0]
  rw [ref16_at, sg, Ideal.ofBits_zero_f32, zero_sub, Cert.FfnFwdRefIdeal.Calc.cone]

theorem ref21_at (a : Fin 8192) (f : Fin 2816) : val_main_v21 (F := Ideal) E WD (ix2 a f) = da E WD a.val f.val := by
  pointwise [val_main_v21]
  exact Fin.sum_fin_congr fun k => Ideal.mul_congr (R_ix E a k) (R_ix WD f k)

theorem ref19_at (a : Fin 8192) (f : Fin 2816) : val_main_v19 (F := Ideal) X G WG WU (ix2 a f) = acf X G WG WU a.val f.val := by
  pointwise [val_main_v19, val_main_v18_0]
  rw [ref16_at, ref17_at, ref18_at]
  rfl

theorem ref22_at (a : Fin 8192) (f : Fin 2816) : val_main_v22 (F := Ideal) X E G WG WD (ix2 a f) = duf X E G WG WD a.val f.val := by
  pointwise [val_main_v22, val_main_v18_0]
  rw [ref16_at, ref18_at, ref21_at]
  exact mul_comm _ _

/-- The logistic of a number is a number. -/
theorem re_sg (g : EReal) (h : Re g) : Re (sg g) := by
  obtain ⟨r, rfl⟩ := h
  have e : Ideal.ofBits .f32 1065353216#32 + Ideal.exp (Ideal.ofBits .f32 0#32 - (r : EReal)) = ((1 + Real.exp (0 - r) : ℝ) : EReal) := by
    rw [Cert.FfnFwdRefIdeal.Calc.cone, Ideal.ofBits_zero_f32, ← EReal.coe_zero, ← EReal.coe_sub, EReal.coe_add, EReal.coe_one]
    rfl
  rw [sg, e]
  refine Re.div ⟨1, ?_⟩ (ne_of_gt (by have := Real.exp_pos (0 - r); linarith))
  rw [Cert.FfnFwdRefIdeal.Calc.cone, EReal.coe_one]

/-- The gradient at a gate value, the reference's way and the body's. -/
theorem gate (g u d : EReal) (hg : Re g) (hu : Re u) (hd : Re d) : d * u * sg g + g * (d * u) * (sg g * (Ideal.ofBits .f32 1065353216#32 - sg g)) = dgv g u d := by
  rw [dgv]
  obtain ⟨s, hs⟩ := re_sg g hg
  rw [hs, Cert.FfnFwdRefIdeal.Calc.cone, ← EReal.coe_one]
  obtain ⟨g, rfl⟩ := hg
  obtain ⟨u, rfl⟩ := hu
  obtain ⟨d, rfl⟩ := hd
  simp only [← EReal.coe_mul, ← EReal.coe_sub, ← EReal.coe_add]
  congr 1
  ring

variable (hX : ∀ i, Re (X i)) (hE : ∀ i, Re (E i)) (hG : ∀ i, Re (G i)) (hWG : ∀ i, Re (WG i)) (hWU : ∀ i, Re (WU i)) (hWD : ∀ i, Re (WD i))

theorem re_gt (W : FVec Ideal S1024x2816 .f32) (hX : ∀ i, Re (X i)) (hG : ∀ i, Re (G i)) (hW : ∀ i, Re (W i)) (n b : ℕ) : Re (gt X G W n b) :=
  Re.sum _ fun k => (((re_R hX _ _).mul (re_root (N := 1024) (fun x => R X n x.val) (fun x => re_R hX _ _) 1024 (by norm_num) _ c1024)).mul (re_R1 hG _)).mul (re_R hW _ _)

include hE hWD in
theorem re_da (n f : ℕ) : Re (da E WD n f) := Re.sum _ fun k => (re_R hE _ _).mul (re_R hWD _ _)

theorem cone : Re (Ideal.ofBits .f32 1065353216#32) := ⟨1, by rw [Cert.FfnFwdRefIdeal.Calc.cone, EReal.coe_one]⟩

include hX hE hG hWG hWU hWD in
theorem re_dgf (n f : ℕ) : Re (dgf X E G WG WU WD n f) := by
  have hg := re_gt X G WG hX hG hWG n f
  have hs := re_sg _ hg
  exact ((re_da E WD hE hWD n f).mul (re_gt X G WU hX hG hWU n f)).mul (hs.mul (cone.add (hg.mul (cone.sub hs))))

include hX hE hG hWG hWD in
theorem re_duf (n f : ℕ) : Re (duf X E G WG WD n f) := by
  have hg := re_gt X G WG hX hG hWG n f
  exact (re_da E WD hE hWD n f).mul (hg.mul (re_sg _ hg))

abbrev DHR : ℕ → ℕ → EReal := dhf (dgf X E G WG WU WD) (duf X E G WG WD) WG WU

include hX hE hG hWG hWU hWD in
theorem re_dhf (n b : ℕ) : Re (DHR X E G WG WU WD n b) :=
  (Re.sum _ fun f => (re_duf X E G WG WD hX hE hG hWG hWD n _).mul (re_R hWU _ _)).add (Re.sum _ fun f => (re_dgf X E G WG WU WD hX hE hG hWG hWU hWD n _).mul (re_R hWG _ _))

include hX hE hG hWG hWU hWD in
theorem ref24_at (a : Fin 8192) (f : Fin 2816) : val_main_v24 (F := Ideal) X E G WG WU WD (ix2 a f) = dgf X E G WG WU WD a.val f.val := by
  pointwise [val_main_v24, val_main_call1_v2, val_main_call1_v1, val_main_call1_v0, val_main_v23, val_main_v18_1, val_main_call0_v7, val_main_call0_v6, val_main_call0_cst_1]
  rw [ref16_at, ref17_at, ref18_at, ref21_at]
  have e := gate _ _ _ (re_gt X G WG hX hG hWG a.val f.val) (re_gt X G WU hX hG hWU a.val f.val) (re_da E WD hE hWD a.val f.val)
  rw [Cert.FfnFwdRefIdeal.Calc.cone] at e
  exact e

include hX hE hG hWG hWU hWD in
theorem ref27_at (a : Fin 8192) (b : Fin 1024) : val_main_v27 (F := Ideal) X E G WG WU WD (ix2 a b) = DHR X E G WG WU WD a.val b.val := by
  pointwise [val_main_v27, val_main_v26, val_main_v25]
  refine Ideal.add_congr ?_ ?_ <;> refine Fin.sum_fin_congr fun f => Ideal.mul_congr ?_ ?_
  · exact ref22_at X E G WG WD a f
  · exact R_ix WU b f
  · exact ref24_at X E G WG WU WD hX hE hG hWG hWU hWD a f
  · exact R_ix WG b f

include hX hE hG hWG hWU hWD in
theorem ref48_at (a : Fin 8192) (b : Fin 1024) : val_main_v48 (F := Ideal) X E G WG WU WD (ix2 a b) = dx X E G (DHR X E G WG WU WD) a.val b.val := by
  pointwise [val_main_v48, val_main_v47, val_main_v46, val_main_v45, val_main_v44, val_main_v43, val_main_v42, val_main_v41, val_main_v40, val_main_v39, val_main_v38, val_main_v37, val_main_v36, val_main_v35, val_main_v34, val_main_v32, val_main_v31, val_main_v13, val_main_v10, val_main_v9, val_main_v8, val_main_v7, val_main_v0, val_main_cst, val_main_v1, val_main_v2, val_main_cst_0, val_main_v3, val_main_v4, val_main_cst_1, val_main_v5, val_main_v6, val_main_cst_2, val_main_cst_3, val_main_cst_4, val_main_cst_5, val_main_cst_6, val_main_cst_7]
  simp only [ref27_at X E G WG WU WD hX hE hG hWG hWU hWD]
  simp only [R1_ix, R_ix]
  exact congrArg (R E a.val b.val + ·) (row X G (fun j => DHR X E G WG WU WD a.val j) a.val b.val b.isLt hX hG (fun j => re_dhf X E G WG WU WD hX hE hG hWG hWU hWD _ _))

include hX hE hG hWG hWU hWD in
theorem ref49_at (a : Fin 1) (b : Fin 1024) : val_main_v49 (F := Ideal) X E G WG WU WD (ix2 a b) = ∑ n : Fin 8192, dgr X (DHR X E G WG WU WD) b.val n.val := by
  pointwise [val_main_v49, val_main_v33, val_main_v30, val_main_v29, val_main_v28, val_main_v12, val_main_v11, val_main_v7, val_main_v0, val_main_cst, val_main_v1, val_main_v2, val_main_cst_0, val_main_v3, val_main_v4, val_main_cst_1, val_main_v5, val_main_v6, val_main_cst_2, val_main_cst_3, val_main_cst_4, val_main_cst_5, val_main_cst_6, val_main_cst_7]
  simp only [ref27_at X E G WG WU WD hX hE hG hWG hWU hWD]
  simp only [R1_ix, R_ix, Fin.sum_univ_one]
  exact Fin.sum_fin_congr fun n => mul_comm _ _

include hX hE hG hWG hWU hWD in
theorem ref54_at (j : Fin 4) (a : Fin 8192) (f : Fin 704) : val_main_v54 (F := Ideal) X E G WG WU WD (ix3 j a f) = dgf X E G WG WU WD a.val (704 * j.val + f.val) := by
  pointwise [val_main_v54, val_main_v53, val_main_v52]
  refine (ref24_at X E G WG WU WD hX hE hG hWG hWU hWD a _).trans (congrArg (dgf X E G WG WU WD a.val) ?_)
  show _ = 704 * j.val + f.val
  have := f.isLt; have := a.isLt; have := j.isLt
  simp
  omega

theorem ref57_at (j : Fin 4) (a : Fin 8192) (f : Fin 704) : val_main_v57 (F := Ideal) X E G WG WD (ix3 j a f) = duf X E G WG WD a.val (704 * j.val + f.val) := by
  pointwise [val_main_v57, val_main_v56, val_main_v55]
  refine (ref22_at X E G WG WD a _).trans (congrArg (duf X E G WG WD a.val) ?_)
  show _ = 704 * j.val + f.val
  have := f.isLt; have := a.isLt; have := j.isLt
  simp
  omega

theorem ref60_at (j : Fin 4) (a : Fin 8192) (f : Fin 704) : val_main_v60 (F := Ideal) X G WG WU (ix3 j a f) = acf X G WG WU a.val (704 * j.val + f.val) := by
  pointwise [val_main_v60, val_main_v59, val_main_v58]
  refine (ref19_at X G WG WU a _).trans (congrArg (acf X G WG WU a.val) ?_)
  show _ = 704 * j.val + f.val
  have := f.isLt; have := a.isLt; have := j.isLt
  simp
  omega

theorem ref50 : val_main_v50 (F := Ideal) X G = fun i : S8192x1024.Idx => hn X G (i 0).val (i 1).val := by
  funext i
  rw [eq_ix2 (n0 := 8192) (n1 := 1024) i]
  refine Eq.trans ?_ (ref15_at X G (i 0) (i 1))
  pointwise [val_main_v50]

theorem ref51 : val_main_v51 (F := Ideal) E = fun i : S8192x1024.Idx => R E (i 0).val (i 1).val := by
  funext i
  rw [eq_ix2 (n0 := 8192) (n1 := 1024) i]
  refine Eq.trans ?_ (R_ix E (i 0) (i 1))
  pointwise [val_main_v51]

theorem ref57 : val_main_v57 (F := Ideal) X E G WG WD = fun i : S4x8192x704.Idx => duf X E G WG WD (i 1).val (704 * (i 0).val + (i 2).val) := by
  funext i
  rw [eq_ix3 (n0 := 4) (n1 := 8192) (n2 := 704) i]
  exact ref57_at X E G WG WD (i 0) (i 1) (i 2)

theorem ref60 : val_main_v60 (F := Ideal) X G WG WU = fun i : S4x8192x704.Idx => acf X G WG WU (i 1).val (704 * (i 0).val + (i 2).val) := by
  funext i
  rw [eq_ix3 (n0 := 4) (n1 := 8192) (n2 := 704) i]
  exact ref60_at X G WG WU (i 0) (i 1) (i 2)

/-- The finiteness of all the arguments, as the claim states it. -/
def Ok [Cert.Pre_finite_ffn.Facts] : Prop := (Cert.Pre_finite_ffn.fn (F := Ideal) X E G WG WU WD).1 = (fun _ => 1#1) ∧ (Cert.Pre_finite_ffn.fn (F := Ideal) X E G WG WU WD).2.1 = (fun _ => 1#1)
    ∧ (Cert.Pre_finite_ffn.fn (F := Ideal) X E G WG WU WD).2.2.1 = (fun _ => 1#1) ∧ (Cert.Pre_finite_ffn.fn (F := Ideal) X E G WG WU WD).2.2.2.1 = (fun _ => 1#1)
    ∧ (Cert.Pre_finite_ffn.fn (F := Ideal) X E G WG WU WD).2.2.2.2.1 = (fun _ => 1#1) ∧ (Cert.Pre_finite_ffn.fn (F := Ideal) X E G WG WU WD).2.2.2.2.2 = (fun _ => 1#1)

/-- What it gives of each of them. -/
theorem fins [Cert.Pre_finite_ffn.Facts] (h : Ok X E G WG WU WD) :
    (∀ i, Re (X i)) ∧ (∀ i, Re (E i)) ∧ (∀ i, Re (G i)) ∧ (∀ i, Re (WG i)) ∧ (∀ i, Re (WU i)) ∧ (∀ i, Re (WD i)) := by
  obtain ⟨h0, h1, h2, h3, h4, h5⟩ := h
  exact ⟨re_at _ X _ h0, re_at _ E _ h1, re_at _ G _ h2, re_at _ WG _ h3, re_at _ WU _ h4, re_at _ WD _ h5⟩

theorem ref48 [Cert.Pre_finite_ffn.Facts] (h : Ok X E G WG WU WD) : val_main_v48 (F := Ideal) X E G WG WU WD = fun i : S8192x1024.Idx => dx X E G (DHR X E G WG WU WD) (i 0).val (i 1).val := by
  obtain ⟨hX, hE, hG, hWG, hWU, hWD⟩ := fins X E G WG WU WD h
  funext i
  rw [eq_ix2 (n0 := 8192) (n1 := 1024) i]
  exact ref48_at X E G WG WU WD hX hE hG hWG hWU hWD (i 0) (i 1)

theorem ref49 [Cert.Pre_finite_ffn.Facts] (h : Ok X E G WG WU WD) : val_main_v49 (F := Ideal) X E G WG WU WD = fun i : S1x1024.Idx => ∑ n : Fin 8192, dgr X (DHR X E G WG WU WD) (i 1).val n.val := by
  obtain ⟨hX, hE, hG, hWG, hWU, hWD⟩ := fins X E G WG WU WD h
  funext i
  rw [eq_ix2 (n0 := 1) (n1 := 1024) i]
  exact ref49_at X E G WG WU WD hX hE hG hWG hWU hWD (i 0) (i 1)

theorem ref54 [Cert.Pre_finite_ffn.Facts] (h : Ok X E G WG WU WD) : val_main_v54 (F := Ideal) X E G WG WU WD = fun i : S4x8192x704.Idx => dgf X E G WG WU WD (i 1).val (704 * (i 0).val + (i 2).val) := by
  obtain ⟨hX, hE, hG, hWG, hWU, hWD⟩ := fins X E G WG WU WD h
  funext i
  rw [eq_ix3 (n0 := 4) (n1 := 8192) (n2 := 704) i]
  exact ref54_at X E G WG WU WD hX hE hG hWG hWU hWD (i 0) (i 1) (i 2)

end Cert.FfnBwdRefIdeal.Calc

end
-- ==== Proof.Adam.lean ====
/- AdamW on one device's weights, one weight's arrays at a time: every result is one function of the four values at its place. -/
module

public import proofs.«01_k».proof.Proof.Gen.AdamwInIdeal.Value
public import proofs.«01_k».proof.Proof.Gen.AdamwInRefIdeal.Read
public import proofs.«01_k».proof.Proof.Gen.AdamwOutIdeal.Value
public import proofs.«01_k».proof.Proof.Gen.AdamwOutRefIdeal.Read
public import proofs.«01_k».proof.Proof.Gen.AdamwGateIdeal.Value
public import proofs.«01_k».proof.Proof.Gen.AdamwGateRefIdeal.Read
public import proofs.«01_k».proof.Proof.Gen.AdamwDownIdeal.Value
public import proofs.«01_k».proof.Proof.Gen.AdamwDownRefIdeal.Read
public import proofs.«01_k».proof.Proof.Gen.AdamwSmallIdeal.Value
public import proofs.«01_k».proof.Proof.Gen.AdamwSmallRefIdeal.Read
public import proofs.«01_k».proof.Proof.Base

@[expose] public section

set_option maxRecDepth 16384

noncomputable section

namespace Cert.Adam

open Idealize.ShloMosaic

/-- The first moment after the step, from the gradient and the moment before. -/
def nm (g m : Ideal .f32) : Ideal .f32 := FloatOps.addf (FloatOps.mulf (Scalar.ofBits .f32 0x3F666666#32) m) (FloatOps.mulf (Scalar.ofBits .f32 0x3DCCCCCD#32) g)

/-- The second moment after the step. -/
def nv (g v : Ideal .f32) : Ideal .f32 := FloatOps.addf (FloatOps.mulf (Scalar.ofBits .f32 0x3F7FBE77#32) v) (FloatOps.mulf (Scalar.ofBits .f32 0x3A83126F#32) (FloatOps.mulf g g))

/-- The weight's change, from the weight, the gradient and both moments before. -/
def delta (w g m v : Ideal .f32) : Ideal .f32 :=
  FloatOps.mulf (Scalar.ofBits .f32 0xBA83126F#32) (FloatOps.addf (FloatOps.divf (FloatOps.divf (nm g m) (Scalar.ofBits .f32 0x3F26BD02#32)) (FloatOps.addf (FloatOps.sqrt (FloatOps.divf (nv g v) (Scalar.ofBits .f32 0x3C231ACC#32))) (Scalar.ofBits .f32 0x322BCC77#32))) (FloatOps.mulf (Scalar.ofBits .f32 0x3C23D70A#32) w))

end Cert.Adam

namespace Cert.AdamwInIdeal.Calc

open Idealize.ShloMosaic Idealize.ShloMosaic.TcCoe Idealize.SL.Sem Cert.Adam
open Cert.AdamwInIdeal Cert.AdamwInIdeal.Gen Cert.AdamwInIdeal.Value

variable (m : (ℓ : Loc nD τ sig) → Buf (Elt Ideal) ℓ)

theorem id0 (y : S512x768.Idx) : r0_0.idx (ix7_0 y) = y := funext fun a => match a with
  | ⟨0, _⟩ => Fin.ext (by show 0 + 1 * (y 0).val = (y 0).val; omega)
  | ⟨1, _⟩ => Fin.ext (by show 0 + 1 * (y 1).val = (y 1).val; omega)

/-- A weight's two layers one behind the other. -/
abbrev vw (X : FVec Ideal S2x1024x768 .f32) : FVec Ideal S2048x768 .f32 := shapeCast S2048x768 X shapeCasts_S2x1024x768_S2048x768

abbrev W (c : Dev nD) := vw (m ((c : Thread nD τ).loc main_arg0))
abbrev G (c : Dev nD) := vw (m ((c : Thread nD τ).loc main_arg1))
abbrev M (c : Dev nD) := vw (m ((c : Thread nD τ).loc main_arg2))
abbrev U (c : Dev nD) := vw (m ((c : Thread nD τ).loc main_arg3))

theorem e0 (c : Dev nD) : V m c main_v0 = W m c := by
  unfold V
  simp only [hostOps0, List.flatten_cons, List.flatten_nil, List.append_nil, List.cons_append, List.nil_append]
  after_results
  try rfl

theorem e1 (c : Dev nD) : V m c main_v1 = G m c := by
  unfold V
  simp only [hostOps0, List.flatten_cons, List.flatten_nil, List.append_nil, List.cons_append, List.nil_append]
  after_results
  try rfl

theorem e2 (c : Dev nD) : V m c main_v2 = M m c := by
  unfold V
  simp only [hostOps0, List.flatten_cons, List.flatten_nil, List.append_nil, List.cons_append, List.nil_append]
  after_results
  try rfl

theorem e3 (c : Dev nD) : V m c main_v3 = U m c := by
  unfold V
  simp only [hostOps0, List.flatten_cons, List.flatten_nil, List.append_nil, List.cons_append, List.nil_append]
  after_results
  try rfl

theorem final4 (c : Dev nD) : (dats m 0 c).arrAt 4 cfg0.N = fun i : S2048x768.Idx => delta (W m c i) (G m c i) (M m c i) (U m c i) := by
  refine (dats m 0 c).arrAt_eq_of_covers 4 _ (by decide +kernel) fun t hf y => ?_
  rw [← e0, ← e1, ← e2, ← e3]
  blk_simp
  rw [after0_4]
  refine (canon4_eq (View.ld (iblk m c 2 t) r0_0) (View.ld (iblk m c 1 t) r0_0) (View.ld (iblk m c 3 t) r0_0) (View.ld (iblk m c 0 t) r0_0) y).trans ?_
  show delta (V m c main_v0 ((win0_4.blk t).view.emb (r0_0.idx (ix7_0 y)))) (V m c main_v1 ((win0_4.blk t).view.emb (r0_0.idx (ix7_0 y)))) (V m c main_v2 ((win0_4.blk t).view.emb (r0_0.idx (ix7_0 y)))) (V m c main_v3 ((win0_4.blk t).view.emb (r0_0.idx (ix7_0 y)))) = _
  rw [id0]

theorem final5 (c : Dev nD) : (dats m 0 c).arrAt 5 cfg0.N = fun i : S2048x768.Idx => nm (G m c i) (M m c i) := by
  refine (dats m 0 c).arrAt_eq_of_covers 5 _ (by decide +kernel) fun t hf y => ?_
  rw [← e1, ← e2]
  blk_simp
  rw [after0_5]
  refine (canon5_eq (View.ld (iblk m c 2 t) r0_0) (View.ld (iblk m c 1 t) r0_0) y).trans ?_
  show nm (V m c main_v1 ((win0_5.blk t).view.emb (r0_0.idx (ix7_0 y)))) (V m c main_v2 ((win0_5.blk t).view.emb (r0_0.idx (ix7_0 y)))) = _
  rw [id0]

theorem final6 (c : Dev nD) : (dats m 0 c).arrAt 6 cfg0.N = fun i : S2048x768.Idx => nv (G m c i) (U m c i) := by
  refine (dats m 0 c).arrAt_eq_of_covers 6 _ (by decide +kernel) fun t hf y => ?_
  rw [← e1, ← e3]
  blk_simp
  rw [after0_6]
  refine (canon6_eq (View.ld (iblk m c 3 t) r0_0) (View.ld (iblk m c 1 t) r0_0) y).trans ?_
  show nv (V m c main_v1 ((win0_6.blk t).view.emb (r0_0.idx (ix7_0 y)))) (V m c main_v3 ((win0_6.blk t).view.emb (r0_0.idx (ix7_0 y)))) = _
  rw [id0]

theorem final7 (c : Dev nD) : (dats m 0 c).arrAt 7 cfg0.N = fun i : S2048x768.Idx => G m c i := by
  refine (dats m 0 c).arrAt_eq_of_covers 7 _ (by decide +kernel) fun t hf y => ?_
  rw [← e1]
  blk_simp
  rw [after0_7]
  refine (canon7_eq (View.ld (iblk m c 1 t) r0_0) y).trans ?_
  show (V m c main_v1 ((win0_7.blk t).view.emb (r0_0.idx (ix7_0 y)))) = _
  rw [id0]

end Cert.AdamwInIdeal.Calc

namespace Cert.AdamwInRefIdeal.Calc

open Idealize.ShloMosaic Idealize.ShloMosaic.TcCoe Idealize.SL.Sem Cert.Adam
open Cert.AdamwInRefIdeal Cert.AdamwInRefIdeal.Gen Cert.AdamwInRefIdeal.Read
open Cert.AdamwInIdeal.Calc (vw)

variable (w g m v : FVec Ideal S2x1024x768 .f32)

theorem ref24 : val_main_v24 (F := Ideal) w g m v = fun i => delta (vw w i) (vw g i) (vw m i) (vw v i) := rfl
theorem ref25 : val_main_v25 (F := Ideal) g m = fun i => nm (vw g i) (vw m i) := rfl
theorem ref26 : val_main_v26 (F := Ideal) g v = fun i => nv (vw g i) (vw v i) := rfl

end Cert.AdamwInRefIdeal.Calc

namespace Cert.AdamwOutIdeal.Calc

open Idealize.ShloMosaic Idealize.ShloMosaic.TcCoe Idealize.SL.Sem Cert.Adam
open Cert.AdamwOutIdeal Cert.AdamwOutIdeal.Gen Cert.AdamwOutIdeal.Value

variable (m : (ℓ : Loc nD τ sig) → Buf (Elt Ideal) ℓ)

theorem id0 (y : S512x1024.Idx) : r0_0.idx (ix7_0 y) = y := funext fun a => match a with
  | ⟨0, _⟩ => Fin.ext (by show 0 + 1 * (y 0).val = (y 0).val; omega)
  | ⟨1, _⟩ => Fin.ext (by show 0 + 1 * (y 1).val = (y 1).val; omega)

/-- A weight's two layers one behind the other. -/
abbrev vw (X : FVec Ideal S2x256x1024 .f32) : FVec Ideal S512x1024 .f32 := shapeCast S512x1024 X shapeCasts_S2x256x1024_S512x1024

abbrev W (c : Dev nD) := vw (m ((c : Thread nD τ).loc main_arg0))
abbrev G (c : Dev nD) := vw (m ((c : Thread nD τ).loc main_arg1))
abbrev M (c : Dev nD) := vw (m ((c : Thread nD τ).loc main_arg2))
abbrev U (c : Dev nD) := vw (m ((c : Thread nD τ).loc main_arg3))

theorem e0 (c : Dev nD) : V m c main_v0 = W m c := by
  unfold V
  simp only [hostOps0, List.flatten_cons, List.flatten_nil, List.append_nil, List.cons_append, List.nil_append]
  after_results
  try rfl

theorem e1 (c : Dev nD) : V m c main_v1 = G m c := by
  unfold V
  simp only [hostOps0, List.flatten_cons, List.flatten_nil, List.append_nil, List.cons_append, List.nil_append]
  after_results
  try rfl

theorem e2 (c : Dev nD) : V m c main_v2 = M m c := by
  unfold V
  simp only [hostOps0, List.flatten_cons, List.flatten_nil, List.append_nil, List.cons_append, List.nil_append]
  after_results
  try rfl

theorem e3 (c : Dev nD) : V m c main_v3 = U m c := by
  unfold V
  simp only [hostOps0, List.flatten_cons, List.flatten_nil, List.append_nil, List.cons_append, List.nil_append]
  after_results
  try rfl

theorem final4 (c : Dev nD) : (dats m 0 c).arrAt 4 cfg0.N = fun i : S512x1024.Idx => delta (W m c i) (G m c i) (M m c i) (U m c i) := by
  refine (dats m 0 c).arrAt_eq_of_covers 4 _ (by decide +kernel) fun t hf y => ?_
  rw [← e0, ← e1, ← e2, ← e3]
  blk_simp
  rw [after0_4]
  refine (canon4_eq (View.ld (iblk m c 2 t) r0_0) (View.ld (iblk m c 1 t) r0_0) (View.ld (iblk m c 3 t) r0_0) (View.ld (iblk m c 0 t) r0_0) y).trans ?_
  show delta (V m c main_v0 ((win0_4.blk t).view.emb (r0_0.idx (ix7_0 y)))) (V m c main_v1 ((win0_4.blk t).view.emb (r0_0.idx (ix7_0 y)))) (V m c main_v2 ((win0_4.blk t).view.emb (r0_0.idx (ix7_0 y)))) (V m c main_v3 ((win0_4.blk t).view.emb (r0_0.idx (ix7_0 y)))) = _
  rw [id0]

theorem final5 (c : Dev nD) : (dats m 0 c).arrAt 5 cfg0.N = fun i : S512x1024.Idx => nm (G m c i) (M m c i) := by
  refine (dats m 0 c).arrAt_eq_of_covers 5 _ (by decide +kernel) fun t hf y => ?_
  rw [← e1, ← e2]
  blk_simp
  rw [after0_5]
  refine (canon5_eq (View.ld (iblk m c 2 t) r0_0) (View.ld (iblk m c 1 t) r0_0) y).trans ?_
  show nm (V m c main_v1 ((win0_5.blk t).view.emb (r0_0.idx (ix7_0 y)))) (V m c main_v2 ((win0_5.blk t).view.emb (r0_0.idx (ix7_0 y)))) = _
  rw [id0]

theorem final6 (c : Dev nD) : (dats m 0 c).arrAt 6 cfg0.N = fun i : S512x1024.Idx => nv (G m c i) (U m c i) := by
  refine (dats m 0 c).arrAt_eq_of_covers 6 _ (by decide +kernel) fun t hf y => ?_
  rw [← e1, ← e3]
  blk_simp
  rw [after0_6]
  refine (canon6_eq (View.ld (iblk m c 3 t) r0_0) (View.ld (iblk m c 1 t) r0_0) y).trans ?_
  show nv (V m c main_v1 ((win0_6.blk t).view.emb (r0_0.idx (ix7_0 y)))) (V m c main_v3 ((win0_6.blk t).view.emb (r0_0.idx (ix7_0 y)))) = _
  rw [id0]

theorem final7 (c : Dev nD) : (dats m 0 c).arrAt 7 cfg0.N = fun i : S512x1024.Idx => G m c i := by
  refine (dats m 0 c).arrAt_eq_of_covers 7 _ (by decide +kernel) fun t hf y => ?_
  rw [← e1]
  blk_simp
  rw [after0_7]
  refine (canon7_eq (View.ld (iblk m c 1 t) r0_0) y).trans ?_
  show (V m c main_v1 ((win0_7.blk t).view.emb (r0_0.idx (ix7_0 y)))) = _
  rw [id0]

end Cert.AdamwOutIdeal.Calc

namespace Cert.AdamwOutRefIdeal.Calc

open Idealize.ShloMosaic Idealize.ShloMosaic.TcCoe Idealize.SL.Sem Cert.Adam
open Cert.AdamwOutRefIdeal Cert.AdamwOutRefIdeal.Gen Cert.AdamwOutRefIdeal.Read
open Cert.AdamwOutIdeal.Calc (vw)

variable (w g m v : FVec Ideal S2x256x1024 .f32)

theorem ref24 : val_main_v24 (F := Ideal) w g m v = fun i => delta (vw w i) (vw g i) (vw m i) (vw v i) := rfl
theorem ref25 : val_main_v25 (F := Ideal) g m = fun i => nm (vw g i) (vw m i) := rfl
theorem ref26 : val_main_v26 (F := Ideal) g v = fun i => nv (vw g i) (vw v i) := rfl

end Cert.AdamwOutRefIdeal.Calc

namespace Cert.AdamwGateIdeal.Calc

open Idealize.ShloMosaic Idealize.ShloMosaic.TcCoe Idealize.SL.Sem Cert.Adam
open Cert.AdamwGateIdeal Cert.AdamwGateIdeal.Gen Cert.AdamwGateIdeal.Value

variable (m : (ℓ : Loc nD τ sig) → Buf (Elt Ideal) ℓ)

theorem id0 (y : S512x704.Idx) : r0_0.idx (ix7_0 y) = y := funext fun a => match a with
  | ⟨0, _⟩ => Fin.ext (by show 0 + 1 * (y 0).val = (y 0).val; omega)
  | ⟨1, _⟩ => Fin.ext (by show 0 + 1 * (y 1).val = (y 1).val; omega)

/-- A weight's two layers one behind the other. -/
abbrev vw (X : FVec Ideal S2x1024x704 .f32) : FVec Ideal S2048x704 .f32 := shapeCast S2048x704 X shapeCasts_S2x1024x704_S2048x704

abbrev W (c : Dev nD) := vw (m ((c : Thread nD τ).loc main_arg0))
abbrev G (c : Dev nD) := vw (m ((c : Thread nD τ).loc main_arg1))
abbrev M (c : Dev nD) := vw (m ((c : Thread nD τ).loc main_arg2))
abbrev U (c : Dev nD) := vw (m ((c : Thread nD τ).loc main_arg3))

theorem e0 (c : Dev nD) : V m c main_v0 = W m c := by
  unfold V
  simp only [hostOps0, List.flatten_cons, List.flatten_nil, List.append_nil, List.cons_append, List.nil_append]
  after_results
  try rfl

theorem e1 (c : Dev nD) : V m c main_v1 = G m c := by
  unfold V
  simp only [hostOps0, List.flatten_cons, List.flatten_nil, List.append_nil, List.cons_append, List.nil_append]
  after_results
  try rfl

theorem e2 (c : Dev nD) : V m c main_v2 = M m c := by
  unfold V
  simp only [hostOps0, List.flatten_cons, List.flatten_nil, List.append_nil, List.cons_append, List.nil_append]
  after_results
  try rfl

theorem e3 (c : Dev nD) : V m c main_v3 = U m c := by
  unfold V
  simp only [hostOps0, List.flatten_cons, List.flatten_nil, List.append_nil, List.cons_append, List.nil_append]
  after_results
  try rfl

theorem final4 (c : Dev nD) : (dats m 0 c).arrAt 4 cfg0.N = fun i : S2048x704.Idx => delta (W m c i) (G m c i) (M m c i) (U m c i) := by
  refine (dats m 0 c).arrAt_eq_of_covers 4 _ (by decide +kernel) fun t hf y => ?_
  rw [← e0, ← e1, ← e2, ← e3]
  blk_simp
  rw [after0_4]
  refine (canon4_eq (View.ld (iblk m c 2 t) r0_0) (View.ld (iblk m c 1 t) r0_0) (View.ld (iblk m c 3 t) r0_0) (View.ld (iblk m c 0 t) r0_0) y).trans ?_
  show delta (V m c main_v0 ((win0_4.blk t).view.emb (r0_0.idx (ix7_0 y)))) (V m c main_v1 ((win0_4.blk t).view.emb (r0_0.idx (ix7_0 y)))) (V m c main_v2 ((win0_4.blk t).view.emb (r0_0.idx (ix7_0 y)))) (V m c main_v3 ((win0_4.blk t).view.emb (r0_0.idx (ix7_0 y)))) = _
  rw [id0]

theorem final5 (c : Dev nD) : (dats m 0 c).arrAt 5 cfg0.N = fun i : S2048x704.Idx => nm (G m c i) (M m c i) := by
  refine (dats m 0 c).arrAt_eq_of_covers 5 _ (by decide +kernel) fun t hf y => ?_
  rw [← e1, ← e2]
  blk_simp
  rw [after0_5]
  refine (canon5_eq (View.ld (iblk m c 2 t) r0_0) (View.ld (iblk m c 1 t) r0_0) y).trans ?_
  show nm (V m c main_v1 ((win0_5.blk t).view.emb (r0_0.idx (ix7_0 y)))) (V m c main_v2 ((win0_5.blk t).view.emb (r0_0.idx (ix7_0 y)))) = _
  rw [id0]

theorem final6 (c : Dev nD) : (dats m 0 c).arrAt 6 cfg0.N = fun i : S2048x704.Idx => nv (G m c i) (U m c i) := by
  refine (dats m 0 c).arrAt_eq_of_covers 6 _ (by decide +kernel) fun t hf y => ?_
  rw [← e1, ← e3]
  blk_simp
  rw [after0_6]
  refine (canon6_eq (View.ld (iblk m c 3 t) r0_0) (View.ld (iblk m c 1 t) r0_0) y).trans ?_
  show nv (V m c main_v1 ((win0_6.blk t).view.emb (r0_0.idx (ix7_0 y)))) (V m c main_v3 ((win0_6.blk t).view.emb (r0_0.idx (ix7_0 y)))) = _
  rw [id0]

theorem final7 (c : Dev nD) : (dats m 0 c).arrAt 7 cfg0.N = fun i : S2048x704.Idx => G m c i := by
  refine (dats m 0 c).arrAt_eq_of_covers 7 _ (by decide +kernel) fun t hf y => ?_
  rw [← e1]
  blk_simp
  rw [after0_7]
  refine (canon7_eq (View.ld (iblk m c 1 t) r0_0) y).trans ?_
  show (V m c main_v1 ((win0_7.blk t).view.emb (r0_0.idx (ix7_0 y)))) = _
  rw [id0]

end Cert.AdamwGateIdeal.Calc

namespace Cert.AdamwGateRefIdeal.Calc

open Idealize.ShloMosaic Idealize.ShloMosaic.TcCoe Idealize.SL.Sem Cert.Adam
open Cert.AdamwGateRefIdeal Cert.AdamwGateRefIdeal.Gen Cert.AdamwGateRefIdeal.Read
open Cert.AdamwGateIdeal.Calc (vw)

variable (w g m v : FVec Ideal S2x1024x704 .f32)

theorem ref24 : val_main_v24 (F := Ideal) w g m v = fun i => delta (vw w i) (vw g i) (vw m i) (vw v i) := rfl
theorem ref25 : val_main_v25 (F := Ideal) g m = fun i => nm (vw g i) (vw m i) := rfl
theorem ref26 : val_main_v26 (F := Ideal) g v = fun i => nv (vw g i) (vw v i) := rfl

end Cert.AdamwGateRefIdeal.Calc

namespace Cert.AdamwDownIdeal.Calc

open Idealize.ShloMosaic Idealize.ShloMosaic.TcCoe Idealize.SL.Sem Cert.Adam
open Cert.AdamwDownIdeal Cert.AdamwDownIdeal.Gen Cert.AdamwDownIdeal.Value

variable (m : (ℓ : Loc nD τ sig) → Buf (Elt Ideal) ℓ)

theorem id0 (y : S352x1024.Idx) : r0_0.idx (ix7_0 y) = y := funext fun a => match a with
  | ⟨0, _⟩ => Fin.ext (by show 0 + 1 * (y 0).val = (y 0).val; omega)
  | ⟨1, _⟩ => Fin.ext (by show 0 + 1 * (y 1).val = (y 1).val; omega)

/-- A weight's two layers one behind the other. -/
abbrev vw (X : FVec Ideal S2x704x1024 .f32) : FVec Ideal S1408x1024 .f32 := shapeCast S1408x1024 X shapeCasts_S2x704x1024_S1408x1024

abbrev W (c : Dev nD) := vw (m ((c : Thread nD τ).loc main_arg0))
abbrev G (c : Dev nD) := vw (m ((c : Thread nD τ).loc main_arg1))
abbrev M (c : Dev nD) := vw (m ((c : Thread nD τ).loc main_arg2))
abbrev U (c : Dev nD) := vw (m ((c : Thread nD τ).loc main_arg3))

theorem e0 (c : Dev nD) : V m c main_v0 = W m c := by
  unfold V
  simp only [hostOps0, List.flatten_cons, List.flatten_nil, List.append_nil, List.cons_append, List.nil_append]
  after_results
  try rfl

theorem e1 (c : Dev nD) : V m c main_v1 = G m c := by
  unfold V
  simp only [hostOps0, List.flatten_cons, List.flatten_nil, List.append_nil, List.cons_append, List.nil_append]
  after_results
  try rfl

theorem e2 (c : Dev nD) : V m c main_v2 = M m c := by
  unfold V
  simp only [hostOps0, List.flatten_cons, List.flatten_nil, List.append_nil, List.cons_append, List.nil_append]
  after_results
  try rfl

theorem e3 (c : Dev nD) : V m c main_v3 = U m c := by
  unfold V
  simp only [hostOps0, List.flatten_cons, List.flatten_nil, List.append_nil, List.cons_append, List.nil_append]
  after_results
  try rfl

theorem final4 (c : Dev nD) : (dats m 0 c).arrAt 4 cfg0.N = fun i : S1408x1024.Idx => delta (W m c i) (G m c i) (M m c i) (U m c i) := by
  refine (dats m 0 c).arrAt_eq_of_covers 4 _ (by decide +kernel) fun t hf y => ?_
  rw [← e0, ← e1, ← e2, ← e3]
  blk_simp
  rw [after0_4]
  refine (canon4_eq (View.ld (iblk m c 2 t) r0_0) (View.ld (iblk m c 1 t) r0_0) (View.ld (iblk m c 3 t) r0_0) (View.ld (iblk m c 0 t) r0_0) y).trans ?_
  show delta (V m c main_v0 ((win0_4.blk t).view.emb (r0_0.idx (ix7_0 y)))) (V m c main_v1 ((win0_4.blk t).view.emb (r0_0.idx (ix7_0 y)))) (V m c main_v2 ((win0_4.blk t).view.emb (r0_0.idx (ix7_0 y)))) (V m c main_v3 ((win0_4.blk t).view.emb (r0_0.idx (ix7_0 y)))) = _
  rw [id0]

theorem final5 (c : Dev nD) : (dats m 0 c).arrAt 5 cfg0.N = fun i : S1408x1024.Idx => nm (G m c i) (M m c i) := by
  refine (dats m 0 c).arrAt_eq_of_covers 5 _ (by decide +kernel) fun t hf y => ?_
  rw [← e1, ← e2]
  blk_simp
  rw [after0_5]
  refine (canon5_eq (View.ld (iblk m c 2 t) r0_0) (View.ld (iblk m c 1 t) r0_0) y).trans ?_
  show nm (V m c main_v1 ((win0_5.blk t).view.emb (r0_0.idx (ix7_0 y)))) (V m c main_v2 ((win0_5.blk t).view.emb (r0_0.idx (ix7_0 y)))) = _
  rw [id0]

theorem final6 (c : Dev nD) : (dats m 0 c).arrAt 6 cfg0.N = fun i : S1408x1024.Idx => nv (G m c i) (U m c i) := by
  refine (dats m 0 c).arrAt_eq_of_covers 6 _ (by decide +kernel) fun t hf y => ?_
  rw [← e1, ← e3]
  blk_simp
  rw [after0_6]
  refine (canon6_eq (View.ld (iblk m c 3 t) r0_0) (View.ld (iblk m c 1 t) r0_0) y).trans ?_
  show nv (V m c main_v1 ((win0_6.blk t).view.emb (r0_0.idx (ix7_0 y)))) (V m c main_v3 ((win0_6.blk t).view.emb (r0_0.idx (ix7_0 y)))) = _
  rw [id0]

theorem final7 (c : Dev nD) : (dats m 0 c).arrAt 7 cfg0.N = fun i : S1408x1024.Idx => G m c i := by
  refine (dats m 0 c).arrAt_eq_of_covers 7 _ (by decide +kernel) fun t hf y => ?_
  rw [← e1]
  blk_simp
  rw [after0_7]
  refine (canon7_eq (View.ld (iblk m c 1 t) r0_0) y).trans ?_
  show (V m c main_v1 ((win0_7.blk t).view.emb (r0_0.idx (ix7_0 y)))) = _
  rw [id0]

end Cert.AdamwDownIdeal.Calc

namespace Cert.AdamwDownRefIdeal.Calc

open Idealize.ShloMosaic Idealize.ShloMosaic.TcCoe Idealize.SL.Sem Cert.Adam
open Cert.AdamwDownRefIdeal Cert.AdamwDownRefIdeal.Gen Cert.AdamwDownRefIdeal.Read
open Cert.AdamwDownIdeal.Calc (vw)

variable (w g m v : FVec Ideal S2x704x1024 .f32)

theorem ref24 : val_main_v24 (F := Ideal) w g m v = fun i => delta (vw w i) (vw g i) (vw m i) (vw v i) := rfl
theorem ref25 : val_main_v25 (F := Ideal) g m = fun i => nm (vw g i) (vw m i) := rfl
theorem ref26 : val_main_v26 (F := Ideal) g v = fun i => nv (vw g i) (vw v i) := rfl

end Cert.AdamwDownRefIdeal.Calc

namespace Cert.AdamwSmallRefIdeal.Calc

open Idealize.ShloMosaic Cert.AdamwSmallRefIdeal.Read Cert.AdamwSmallIdeal

variable (w g m v : FVec Ideal S24x1024 .f32)

theorem ref23 : val_main_v23 (F := Ideal) w g m v = Value.G4 (F := Ideal) w g m v := rfl
theorem ref4 : val_main_v4 (F := Ideal) g m = Value.G5 (F := Ideal) w g m v := rfl
theorem ref10 : val_main_v10 (F := Ideal) g v = Value.G6 (F := Ideal) w g m v := rfl

end Cert.AdamwSmallRefIdeal.Calc

end
-- ==== Proof.Sums.lean ====
/- The sum of the small gradients over the devices, and the gains' sums over the heads. -/
module

public import proofs.«01_k».proof.Proof.Gen.SumSmallIdeal.Value
public import proofs.«01_k».proof.Proof.Gen.SumSmallRefIdeal.Read
public import proofs.«01_k».proof.Proof.Base

@[expose] public section

set_option maxRecDepth 16384

noncomputable section

namespace Cert.Sums

open Idealize.ShloMosaic Idealize.ShloMosaic.TcCoe Idealize.SL.Sem
open Cert.SumSmallIdeal Cert.SumSmallIdeal.Gen

variable (m : (ℓ : Loc nD τ sig) → Buf (Elt Ideal) ℓ)

abbrev X (c : Dev nD) : FVec Ideal S8x24x1024 .f32 := m ((c : Thread nD τ).loc main_arg0)

/-- One entry's sum over the devices, its row and column given as numbers. -/
def S (x : FVec Ideal S8x24x1024 .f32) (n k : ℕ) : EReal := if h : n < 24 ∧ k < 1024 then ∑ d : Fin 8, x (ix3 d (⟨n, h.1⟩ : Fin 24) (⟨k, h.2⟩ : Fin 1024)) else 0

theorem S_ix (x : FVec Ideal S8x24x1024 .f32) (n : Fin 24) (k : Fin 1024) : ∑ d : Fin 8, x (ix3 d n k) = S x n.val k.val := by
  rw [S, dif_pos ⟨n.isLt, k.isLt⟩]

/-- The gains' sums over every other head. -/
def H (x : FVec Ideal S8x24x1024 .f32) (n k : ℕ) : EReal := S x n k + S x n (128 + k) + S x n (256 + k) + S x n (384 + k)

/-- All heads, from the even and the odd ones. -/
theorem heads (x : FVec Ideal S8x24x1024 .f32) (n k : ℕ) (hk : k < 128) :
    H x n k + H x n ((k + 128 - 64) % 128) = if k < 64 then ∑ h : Fin 8, S x n (h.val * 64 + k) else ∑ h : Fin 8, S x n (h.val * 64 + (k - 64)) := by
  split_ifs with h
  · obtain e : (k + 128 - 64) % 128 = 64 + k := by omega
    rw [e, Fin.sum_univ_eight, H, H]
    simp only [← Nat.add_assoc]
    simp
    ac_rfl
  · obtain ⟨l, rfl⟩ : ∃ l, k = 64 + l := ⟨k - 64, by omega⟩
    obtain e : (64 + l + 128 - 64) % 128 = l := by omega
    rw [e, Fin.sum_univ_eight, H, H, Nat.add_sub_cancel_left]
    simp only [← Nat.add_assoc]
    simp
    ac_rfl

theorem idx_val : ∀ t : Fin cfg0.N, win0_0.index t = ![0, 0, 0] ∧ win0_1.index t = ![0, 0] ∧ win0_2.index t = ![0, 0] ∧ win0_3.index t = ![0, 0] :=
  (by decide +kernel : ∀ t : Fin grid0.N, _)

theorem blk0 (c : Dev nD) (t : Fin cfg0.N) (d : Fin 8) (i : Fin 24) (j : Fin 1024) : iblk m c 0 t (ix3 d i j) = X m c (ix3 d i j) := by
  blk_ext [iblk, V, V_main_arg0, idx_val t]

theorem whole {κ : Kind} {sp : Space} (v : View sig κ sp S24x1024 .f32) (f : v.ty.Contents (Elt Ideal)) (inb : ∀ a : Fin 2, (![0, 0] : Fin 2 → ℕ) a + (![24, 1024] : Fin 2 → ℕ) a ≤ S24x1024.size a)
    (w : (Rect.unit (s := S24x1024) ![0, 0] ![24, 1024] inb).shape.Idx → Elt Ideal .f32) (a : Fin 24) (b : Fin 1024) :
    v.read (Elt Ideal) (v.writes (Elt Ideal) f [(⟨Rect.unit (s := S24x1024) ![0, 0] ![24, 1024] inb, w⟩ : View.Piece (Elt Ideal) S24x1024 .f32)]) (ix2 a b) = w (ix2 a b) := by
  refine View.read_writes_cons_unit_of_mem v f inb w [] (ix2 a b) (ix2 a b) rfl ?_
  refine Fin.forall_fin_two.mpr ⟨?_, ?_⟩
  · show a.val = 0 + a.val; omega
  · show b.val = 0 + b.val; omega

/-- A part of the rows and columns, read back after the whole was stored. -/
theorem back {κ : Kind} {sp : Space} (v : View sig κ sp S24x1024 .f32) (o p k : ℕ) (inb : ∀ a : Fin 2, (![0, 0] : Fin 2 → ℕ) a + (![24, 1024] : Fin 2 → ℕ) a ≤ S24x1024.size a)
    (inb' : ∀ a : Fin 2, (![o, p] : Fin 2 → ℕ) a + (![8, k] : Fin 2 → ℕ) a ≤ S24x1024.size a)
    (w : (Rect.unit (s := S24x1024) ![0, 0] ![24, 1024] inb).shape.Idx → Elt Ideal .f32) (a : Fin 8) (b : Fin k) :
    v.readCov [(⟨Rect.unit (s := S24x1024) ![0, 0] ![24, 1024] inb, w⟩ : View.Piece (Elt Ideal) S24x1024 .f32)] (Rect.unit (s := S24x1024) ![o, p] ![8, k] inb').toLoadRect (ix2 a b)
      = w (ix2 (⟨o + a.val, by have h : o + 8 ≤ 24 := inb' 0; omega⟩ : Fin 24) (⟨p + b.val, by have h : p + k ≤ 1024 := inb' 1; omega⟩ : Fin 1024)) := by
  rw [View.readCov_eq_canon', ← whole v v.junk inb w, View.read_writes_junk_apply_eq_canon]
  refine congrArg _ (funext (Fin.forall_fin_two.mpr ⟨?_, ?_⟩)) <;> refine Fin.ext ?_
  · show o + 1 * a.val = o + a.val; omega
  · show p + 1 * b.val = p + b.val; omega

theorem staged (c : Dev nD) (t : Fin cfg0.N) : (ms0_0 t).view.read (Elt Ideal) ((hs0_0 t).unread (iblk m c 0 t)) = X m c := by
  refine ((hs0_0 t).read_unread _).trans (funext fun y => ?_)
  obtain ⟨d, i, j, rfl⟩ : ∃ (d : Fin 8) (i : Fin 24) (j : Fin 1024), y = ix3 d i j := ⟨y 0, y 1, y 2, eq_ix3 y⟩
  exact blk0 m c t d i j

theorem total (x : FVec Ideal S8x24x1024 .f32) (i : Fin 24) (j : Fin 1024) :
    k0_pay3 (F := Ideal) (View.ld x (Rect.unit (s := S8x24x1024) ![0, 0, 0] ![1, 24, 1024] inb_S8x24x1024_S1x24x1024_0_0_0)) (View.ld x (Rect.unit (s := S8x24x1024) ![1, 0, 0] ![1, 24, 1024] inb_S8x24x1024_S1x24x1024_1_0_0)) (View.ld x (Rect.unit (s := S8x24x1024) ![2, 0, 0] ![1, 24, 1024] inb_S8x24x1024_S1x24x1024_2_0_0)) (View.ld x (Rect.unit (s := S8x24x1024) ![3, 0, 0] ![1, 24, 1024] inb_S8x24x1024_S1x24x1024_3_0_0)) (View.ld x (Rect.unit (s := S8x24x1024) ![4, 0, 0] ![1, 24, 1024] inb_S8x24x1024_S1x24x1024_4_0_0)) (View.ld x (Rect.unit (s := S8x24x1024) ![5, 0, 0] ![1, 24, 1024] inb_S8x24x1024_S1x24x1024_5_0_0)) (View.ld x (Rect.unit (s := S8x24x1024) ![6, 0, 0] ![1, 24, 1024] inb_S8x24x1024_S1x24x1024_6_0_0)) (View.ld x (Rect.unit (s := S8x24x1024) ![7, 0, 0] ![1, 24, 1024] inb_S8x24x1024_S1x24x1024_7_0_0)) (ix2 i j) = S x i.val j.val := by
  rw [← S_ix, Fin.sum_univ_eight]
  pointwise [k0_pay3]

theorem out1 (c : Dev nD) (t : Fin cfg0.N) (i : Fin 24) (j : Fin 1024) : (outsAt0 m c t).1 (ix2 i j) = S (X m c) i.val j.val := by
  dsimp only [outsAt0]
  frame_out
  exact (total _ i j).trans (congrArg (fun x => S x i.val j.val) (staged m c t))

theorem out2 (c : Dev nD) (t : Fin cfg0.N) (i : Fin 8) (j : Fin 128) : (outsAt0 m c t).2.1 (ix2 i j) = H (X m c) (8 + i.val) j.val + H (X m c) (8 + i.val) ((j.val + 128 - 64) % 128) := by
  dsimp only [outsAt0]
  frame_out
  pointwise [k0_pay1, k0_pay4]
  refine Ideal.add_congr (Ideal.add_congr (Ideal.add_congr (Ideal.add_congr ?_ ?_) ?_) ?_) (Ideal.add_congr (Ideal.add_congr (Ideal.add_congr ?_ ?_) ?_) ?_) <;>
    refine (back _ _ _ _ _ _ _ _ _).trans ((total _ _ _).trans ((congrArg (fun x => S x _ _) (staged m c t)).trans ?_)) <;> simp

theorem out3 (c : Dev nD) (t : Fin cfg0.N) (i : Fin 8) (j : Fin 128) : (outsAt0 m c t).2.2 (ix2 i j) = ∑ k : Fin 1024, S (X m c) i.val k.val := by
  dsimp only [outsAt0]
  frame_out
  pointwise [k0_pay2]
  refine Fin.sum_fin_congr fun k => (back _ _ _ _ _ _ _ _ _).trans ((total _ _ _).trans ((congrArg (fun x => S x _ _) (staged m c t)).trans ?_))
  simp

theorem final1 (c : Dev nD) : (dats m 0 c).arrAt 1 cfg0.N = fun i : S24x1024.Idx => S (X m c) (i 0).val (i 1).val := by
  refine (dats m 0 c).arrAt_eq_of_covers 1 _ (by decide +kernel) fun t hf y => ?_
  blk_simp
  rw [after0_1]
  refine (congrArg _ (eq_ix2 (n0 := 24) (n1 := 1024) y)).trans ((out1 m c t (y 0) (y 1)).trans ?_)
  simp only [idx_val t]
  simp

theorem final2 (c : Dev nD) : (dats m 0 c).arrAt 2 cfg0.N = fun i : S8x128.Idx => H (X m c) (8 + (i 0).val) (i 1).val + H (X m c) (8 + (i 0).val) (((i 1).val + 128 - 64) % 128) := by
  refine (dats m 0 c).arrAt_eq_of_covers 2 _ (by decide +kernel) fun t hf y => ?_
  blk_simp
  rw [after0_2]
  refine (congrArg _ (eq_ix2 (n0 := 8) (n1 := 128) y)).trans ((out2 m c t (y 0) (y 1)).trans ?_)
  simp only [idx_val t]
  simp

theorem final3 (c : Dev nD) : (dats m 0 c).arrAt 3 cfg0.N = fun i : S8x128.Idx => ∑ k : Fin 1024, S (X m c) (i 0).val k.val := by
  refine (dats m 0 c).arrAt_eq_of_covers 3 _ (by decide +kernel) fun t hf y => ?_
  blk_simp
  rw [after0_3]
  refine (congrArg _ (eq_ix2 (n0 := 8) (n1 := 128) y)).trans ((out3 m c t (y 0) (y 1)).trans ?_)
  simp only [idx_val t]
  simp

end Cert.Sums

namespace Cert.Sums.Ref

open Idealize.ShloMosaic Cert.SumSmallRefIdeal Cert.SumSmallRefIdeal.Read

theorem v0 (x : FVec Ideal S8x24x1024 .f32) : val_main_v0 (F := Ideal) x = fun i : S24x1024.Idx => S x (i 0).val (i 1).val := by
  funext y
  obtain ⟨i, j, rfl⟩ : ∃ (i : Fin 24) (j : Fin 1024), y = ix2 i j := ⟨y 0, y 1, eq_ix2 y⟩
  rw [← val_main_v0_eq]
  pointwise []
  exact S_ix x i j

theorem v7 (x : FVec Ideal S8x24x1024 .f32) : val_main_v7 (F := Ideal) x = fun i : S8x128.Idx => H x (8 + (i 0).val) (i 1).val + H x (8 + (i 0).val) (((i 1).val + 128 - 64) % 128) := by
  funext y
  obtain ⟨i, j, rfl⟩ : ∃ (i : Fin 8) (j : Fin 128), y = ix2 i j := ⟨y 0, y 1, eq_ix2 y⟩
  rw [← val_main_v7_eq]
  refine Eq.trans ?_ (heads x (8 + i.val) j.val j.isLt).symm
  pointwise []
  split_ifs with h <;> exact Fin.sum_fin_congr fun k => S_ix x _ _

theorem v8 (x : FVec Ideal S8x24x1024 .f32) : val_main_v8 (F := Ideal) x = fun i : S8x128.Idx => ∑ k : Fin 1024, S x (i 0).val k.val := by
  funext y
  obtain ⟨i, j, rfl⟩ : ∃ (i : Fin 8) (j : Fin 128), y = ix2 i j := ⟨y 0, y 1, eq_ix2 y⟩
  rw [← val_main_v8_eq]
  pointwise []
  exact Fin.sum_fin_congr fun k => S_ix x _ _

end Cert.Sums.Ref
end
-- ==== Proof.lean ====
module

public import proofs.«01_k».proof.Proof.Ref
public import proofs.«01_k».proof.Proof.Gen.Kernel.Frame
public import proofs.«01_k».proof.Proof.GateUp
public import proofs.«01_k».proof.Proof.Gen.WgradGateUp.Frame
public import proofs.«01_k».proof.Proof.Down
public import proofs.«01_k».proof.Proof.Gen.WgradDown.Frame
public import proofs.«01_k».proof.Proof.OutB
public import proofs.«01_k».proof.Proof.Gen.OutProjBwd.Frame
public import proofs.«01_k».proof.Proof.WOut
public import proofs.«01_k».proof.Proof.Gen.WgradOut.Frame
public import proofs.«01_k».proof.Proof.WIn
public import proofs.«01_k».proof.Proof.Gen.WgradIn.Frame
public import proofs.«01_k».proof.Proof.InP
public import proofs.«01_k».proof.Proof.Gen.InProj.Frame
public import proofs.«01_k».proof.Proof.OutP
public import proofs.«01_k».proof.Proof.Gen.OutProj.Frame
public import proofs.«01_k».proof.Proof.FfnF
public import proofs.«01_k».proof.Proof.Gen.FfnFwd.Frame
public import proofs.«01_k».proof.Proof.InB
public import proofs.«01_k».proof.Proof.Gen.InProjBwd.Frame
public import proofs.«01_k».proof.Proof.FfnB
public import proofs.«01_k».proof.Proof.Gen.FfnBwd
public import proofs.«01_k».proof.Proof.Gen.FfnBwdIdeal
public import proofs.«01_k».proof.Proof.Adam
public import proofs.«01_k».proof.Proof.Gen.AdamwIn.Frame
public import proofs.«01_k».proof.Proof.Gen.AdamwOut.Frame
public import proofs.«01_k».proof.Proof.Gen.AdamwGate.Frame
public import proofs.«01_k».proof.Proof.Gen.AdamwDown.Frame
public import proofs.«01_k».proof.Proof.Gen.AdamwSmall.Frame
public import proofs.«01_k».proof.Proof.Sums
public import proofs.«01_k».proof.Proof.Gen.SumSmall.Frame
public import proofs.«01_k».proof.Proof.Gen.Pre_finite_in_proj
public import proofs.«01_k».proof.Proof.Gen.Pre_finite_ffn
public import proofs.«01_k».proof.Proof.Gen.On_conv_columns
public import proofs.«01_k».proof.Defs
public import Idealize.ShloMosaic.Adequacy
public import Idealize.ShloMosaic.Init

@[expose] public section

set_option maxRecDepth 16384

noncomputable section

-- The claims about the programs also say that every semaphore counter ends at zero; the proof shows that too.

namespace Cert.Proof

open Idealize.ShloMosaic Idealize.ShloMosaic.TcCoe Idealize.SL.Sem

theorem mask_ge (v : ℕ) (hv : v < 3072) (h : IntOp.cmpi CmpIPredicate.sge (BitVec.ofNat 32 v) 1536#32 = 1#1) : 1536 ≤ v := by
  by_contra hn
  have e : ∀ v : Fin 1536, IntOp.cmpi CmpIPredicate.sge (BitVec.ofNat 32 v.val) 1536#32 ≠ 1#1 := by decide +kernel
  exact e ⟨v, by omega⟩ h

/-- Both programs' gradients of the projection at a column of B, C or u, and both gradients of the taps. -/
theorem algebraic_conv : Cert.algebraic_KernelIdeal_ReferenceIdeal_on_conv_columns := by
  intro m g m' g' _ hag
  refine ⟨fun c => fun i : (⟨2, ![8192, 3072]⟩ : Shape).Idx => KernelIdeal.Conv.GP (KernelIdeal.Conv.X0 m c) (KernelIdeal.Conv.W0 m c) (KernelIdeal.Conv.D0 m c) (i 0).val ((i 1).val - 1536),
    fun c => fun i : (⟨2, ![8, 512]⟩ : Shape).Idx => KernelIdeal.Conv.GW (KernelIdeal.Conv.X0 m c) (KernelIdeal.Conv.D0 m c) (i 0).val (i 1).val, ?_, ?_⟩
  · refine (θ_run KernelIdeal.defs _ _).mono (fun r h c => ?_) (KernelIdeal.Value.run_blocks m g)
    obtain ⟨h9, h10, h0, h1, h2⟩ := h c
    refine ⟨fun i hi => ?_, fun i _ => ?_, h0, h1, h2⟩
    · exact (congrFun (h9.trans (KernelIdeal.Conv.final9 m c)) i).trans (if_pos (mask_ge _ (i 1).isLt hi))
    · exact congrFun (h10.trans (KernelIdeal.Conv.final10 m c)) i
  · refine (θ_run ReferenceIdeal.defs _ _).mono (fun r h c => ?_) (ReferenceIdeal.Value.run m' g')
    obtain ⟨h9, h10, h0, h1, h2⟩ := h c
    obtain ⟨a0, a1, a2⟩ := hag c
    refine ⟨fun i hi => ?_, fun i _ => ?_, h0, h1, h2⟩
    · rw [h9, ReferenceIdeal.Read.val_main_v72_eq, a0, a1, a2]
      have hi' : 1536 ≤ (i 1).val := mask_ge _ (i 1).isLt hi
      refine (congrArg (ReferenceIdeal.Read.val_main_v72 (F := Ideal) _ _ _) (eq_ix2 (n0 := 8192) (n1 := 3072) i)).trans ?_
      exact ReferenceIdeal.Conv.ref_9 _ _ _ (i 0) (i 1) hi'
    · rw [h10, ReferenceIdeal.Read.val_main_v73_eq, a0, a2]
      refine (congrArg (ReferenceIdeal.Read.val_main_v73 (F := Ideal) _ _) (eq_ix2 (n0 := 8) (n1 := 512) i)).trans ?_
      exact ReferenceIdeal.Conv.ref_10 _ _ (i 0) (i 1)

/-- The gradients of the gate and up projections. -/
theorem algebraic_WgradGateUp : Cert.algebraic_WgradGateUpIdeal_WgradGateUpRefIdeal := by
  intro m g m' g' _ hag
  refine ⟨fun c => fun i : (⟨3, ![4, 1024, 704]⟩ : Shape).Idx => Cert.Base.T (m (c.tc.loc WgradGateUpIdeal.main_arg0)) (m (c.tc.loc WgradGateUpIdeal.main_arg1)) (i 1).val (704 * (i 0).val + (i 2).val),
    fun c => fun i : (⟨3, ![4, 1024, 704]⟩ : Shape).Idx => Cert.Base.T (m (c.tc.loc WgradGateUpIdeal.main_arg0)) (m (c.tc.loc WgradGateUpIdeal.main_arg2)) (i 1).val (704 * (i 0).val + (i 2).val), ?_, ?_⟩
  · refine (θ_run WgradGateUpIdeal.defs _ _).mono (fun r h c => ?_) (WgradGateUpIdeal.Value.run_blocks m g)
    obtain ⟨r0, r1, k0, k1, k2⟩ := h c
    exact ⟨r0.trans (WgradGateUpIdeal.Calc.final3 m c), r1.trans (WgradGateUpIdeal.Calc.final4 m c), k0, k1, k2⟩
  · refine (θ_run WgradGateUpRefIdeal.defs _ _).mono (fun r h c => ?_) (WgradGateUpRefIdeal.Value.run m' g')
    obtain ⟨r0, r1, k0, k1, k2⟩ := h c
    obtain ⟨a0, a1, a2⟩ := hag c
    refine ⟨?_, ?_, k0, k1, k2⟩
    · rw [r0, WgradGateUpRefIdeal.Read.val_main_v8_eq, a0, a1]
      exact funext fun i => (congrArg (WgradGateUpRefIdeal.Read.val_main_v8 (F := Ideal) _ _) (eq_ix3 (n0 := 4) (n1 := 1024) (n2 := 704) i)).trans (WgradGateUpRefIdeal.Calc.ref8 _ _ (i 0) (i 1) (i 2))
    · rw [r1, WgradGateUpRefIdeal.Read.val_main_v10_eq, a0, a2]
      exact funext fun i => (congrArg (WgradGateUpRefIdeal.Read.val_main_v10 (F := Ideal) _ _) (eq_ix3 (n0 := 4) (n1 := 1024) (n2 := 704) i)).trans (WgradGateUpRefIdeal.Calc.ref10 _ _ (i 0) (i 1) (i 2))

/-- The gradient of the down projection. -/
theorem algebraic_WgradDown : Cert.algebraic_WgradDownIdeal_WgradDownRefIdeal := by
  intro m g m' g' _ hag
  refine ⟨fun c => fun i : (⟨3, ![4, 704, 1024]⟩ : Shape).Idx => Cert.Base.T (m (c.tc.loc WgradDownIdeal.main_arg0)) (m (c.tc.loc WgradDownIdeal.main_arg1)) (704 * (i 0).val + (i 1).val) (i 2).val, ?_, ?_⟩
  · refine (θ_run WgradDownIdeal.defs _ _).mono (fun r h c => ?_) (WgradDownIdeal.Value.run_blocks m g)
    obtain ⟨r0, k0, k1⟩ := h c
    exact ⟨r0.trans (WgradDownIdeal.Calc.final m c), k0, k1⟩
  · refine (θ_run WgradDownRefIdeal.defs _ _).mono (fun r h c => ?_) (WgradDownRefIdeal.Value.run m' g')
    obtain ⟨r0, k0, k1⟩ := h c
    obtain ⟨a0, a1⟩ := hag c
    refine ⟨?_, k0, k1⟩
    · rw [r0, WgradDownRefIdeal.Read.val_main_v4_eq, a0, a1]
      exact funext fun i => (congrArg (WgradDownRefIdeal.Read.val_main_v4 (F := Ideal) _ _) (eq_ix3 (n0 := 4) (n1 := 704) (n2 := 1024) i)).trans (WgradDownRefIdeal.Calc.ref _ _ (i 0) (i 1) (i 2))

/-- The gradient of the two halves below the output projection, and the gradient above it as it is. -/
theorem algebraic_OutProjBwd : Cert.algebraic_OutProjBwdIdeal_OutProjBwdRefIdeal := by
  intro m g m' g' _ hag
  refine ⟨fun c => fun i : (⟨2, ![8192, 512]⟩ : Shape).Idx => OutProjBwdIdeal.Calc.P (m (c.tc.loc OutProjBwdIdeal.main_arg0)) (m (c.tc.loc OutProjBwdIdeal.main_arg1)) (i 0).val (i 1).val,
    fun c => fun i : (⟨2, ![8192, 512]⟩ : Shape).Idx => OutProjBwdIdeal.Calc.P (m (c.tc.loc OutProjBwdIdeal.main_arg0)) (m (c.tc.loc OutProjBwdIdeal.main_arg1)) (i 0).val (512 + (i 1).val),
    fun c => fun i : (⟨2, ![8192, 1024]⟩ : Shape).Idx => Cert.Base.R (m (c.tc.loc OutProjBwdIdeal.main_arg0)) (i 0).val (i 1).val, ?_, ?_⟩
  · refine (θ_run OutProjBwdIdeal.defs _ _).mono (fun r h c => ?_) (OutProjBwdIdeal.Value.run_blocks m g)
    obtain ⟨r0, r1, r2, k0, k1⟩ := h c
    exact ⟨r0.trans (OutProjBwdIdeal.Calc.final2 m c), r1.trans (OutProjBwdIdeal.Calc.final3 m c), r2.trans (OutProjBwdIdeal.Calc.final4 m c), k0, k1⟩
  · refine (θ_run OutProjBwdRefIdeal.defs _ _).mono (fun r h c => ?_) (OutProjBwdRefIdeal.Value.run m' g')
    obtain ⟨r0, r1, r2, k0, k1⟩ := h c
    obtain ⟨a0, a1⟩ := hag c
    refine ⟨?_, ?_, ?_, k0, k1⟩
    · rw [r0, OutProjBwdRefIdeal.Read.val_main_v6_eq, a0, a1]
      exact funext fun i => (congrArg (OutProjBwdRefIdeal.Read.val_main_v6 (F := Ideal) _ _) (eq_ix2 (n0 := 8192) (n1 := 512) i)).trans (OutProjBwdRefIdeal.Calc.ref6 _ _ (i 0) (i 1))
    · rw [r1, OutProjBwdRefIdeal.Read.val_main_v5_eq, a0, a1]
      exact funext fun i => (congrArg (OutProjBwdRefIdeal.Read.val_main_v5 (F := Ideal) _ _) (eq_ix2 (n0 := 8192) (n1 := 512) i)).trans (OutProjBwdRefIdeal.Calc.ref5 _ _ (i 0) (i 1))
    · rw [r2, OutProjBwdRefIdeal.Read.val_main_v7_eq, a0]
      exact funext fun i => (congrArg (OutProjBwdRefIdeal.Read.val_main_v7 (F := Ideal) _) (eq_ix2 (n0 := 8192) (n1 := 1024) i)).trans (OutProjBwdRefIdeal.Calc.ref7 _ (i 0) (i 1))

/-- The gradient of the output projection. -/
theorem algebraic_WgradOut : Cert.algebraic_WgradOutIdeal_WgradOutRefIdeal := by
  intro m g m' g' _ hag
  refine ⟨fun c => fun i : (⟨3, ![4, 256, 1024]⟩ : Shape).Idx => WgradOutIdeal.Calc.G (m (c.tc.loc WgradOutIdeal.main_arg0)) (m (c.tc.loc WgradOutIdeal.main_arg1)) (m (c.tc.loc WgradOutIdeal.main_arg2)) (i 0).val (i 1).val (i 2).val, ?_, ?_⟩
  · refine (θ_run WgradOutIdeal.defs _ _).mono (fun r h c => ?_) (WgradOutIdeal.Value.run_blocks m g)
    obtain ⟨r0, k0, k1, k2⟩ := h c
    exact ⟨r0.trans (WgradOutIdeal.Calc.final m c), k0, k1, k2⟩
  · refine (θ_run WgradOutRefIdeal.defs _ _).mono (fun r h c => ?_) (WgradOutRefIdeal.Value.run m' g')
    obtain ⟨r0, k0, k1, k2⟩ := h c
    obtain ⟨a0, a1, a2⟩ := hag c
    refine ⟨?_, k0, k1, k2⟩
    · rw [r0, WgradOutRefIdeal.Read.val_main_v5_eq, a0, a1, a2]
      exact funext fun i => (congrArg (WgradOutRefIdeal.Read.val_main_v5 (F := Ideal) _ _ _) (eq_ix3 (n0 := 4) (n1 := 256) (n2 := 1024) i)).trans (WgradOutRefIdeal.Calc.ref _ _ _ (i 0) (i 1) (i 2))

/-- The gradient of the input projection. -/
theorem algebraic_WgradIn : Cert.algebraic_WgradInIdeal_WgradInRefIdeal := by
  intro m g m' g' _ hag
  refine ⟨fun c => fun i : (⟨3, ![4, 1024, 768]⟩ : Shape).Idx => Cert.Base.T (m (c.tc.loc WgradInIdeal.main_arg0)) (m (c.tc.loc WgradInIdeal.main_arg1)) (i 1).val (768 * (i 0).val + (i 2).val), ?_, ?_⟩
  · refine (θ_run WgradInIdeal.defs _ _).mono (fun r h c => ?_) (WgradInIdeal.Value.run_blocks m g)
    obtain ⟨r0, k0, k1⟩ := h c
    exact ⟨r0.trans (WgradInIdeal.Calc.final m c), k0, k1⟩
  · refine (θ_run WgradInRefIdeal.defs _ _).mono (fun r h c => ?_) (WgradInRefIdeal.Value.run m' g')
    obtain ⟨r0, k0, k1⟩ := h c
    obtain ⟨a0, a1⟩ := hag c
    refine ⟨?_, k0, k1⟩
    · rw [r0, WgradInRefIdeal.Read.val_main_v5_eq, a0, a1]
      exact funext fun i => (congrArg (WgradInRefIdeal.Read.val_main_v5 (F := Ideal) _ _) (eq_ix3 (n0 := 4) (n1 := 1024) (n2 := 768) i)).trans (WgradInRefIdeal.Calc.ref _ _ (i 0) (i 1) (i 2))

/-- The normalised stream, the input projection of it, and the normalised queries, keys and the values cut from it. -/
theorem algebraic_InProj : Cert.algebraic_InProjIdeal_InProjRefIdeal := by
  intro m g m' g' _ hag
  refine ⟨fun c => fun i : (⟨2, ![8192, 1024]⟩ : Shape).Idx => InProjIdeal.Calc.hn (m (c.tc.loc InProjIdeal.main_arg0)) (m (c.tc.loc InProjIdeal.main_arg1)) (i 0).val (i 1).val,
    fun c => fun i : (⟨2, ![8192, 3072]⟩ : Shape).Idx => InProjIdeal.Calc.pj (m (c.tc.loc InProjIdeal.main_arg0)) (m (c.tc.loc InProjIdeal.main_arg1)) (m (c.tc.loc InProjIdeal.main_arg2)) (i 0).val (i 1).val,
    fun c => fun i : (⟨2, ![8192, 512]⟩ : Shape).Idx => InProjIdeal.Calc.qk (InProjIdeal.Calc.pj (m (c.tc.loc InProjIdeal.main_arg0)) (m (c.tc.loc InProjIdeal.main_arg1)) (m (c.tc.loc InProjIdeal.main_arg2))) (m (c.tc.loc InProjIdeal.main_arg3)) 0 (i 0).val (i 1).val * Ideal.ofBits .f32 1040187392#32,
    fun c => fun i : (⟨2, ![8192, 512]⟩ : Shape).Idx => InProjIdeal.Calc.qk (InProjIdeal.Calc.pj (m (c.tc.loc InProjIdeal.main_arg0)) (m (c.tc.loc InProjIdeal.main_arg1)) (m (c.tc.loc InProjIdeal.main_arg2))) (m (c.tc.loc InProjIdeal.main_arg4)) 512 (i 0).val (i 1).val,
    fun c => fun i : (⟨2, ![8192, 512]⟩ : Shape).Idx => InProjIdeal.Calc.pj (m (c.tc.loc InProjIdeal.main_arg0)) (m (c.tc.loc InProjIdeal.main_arg1)) (m (c.tc.loc InProjIdeal.main_arg2)) (i 0).val (1024 + (i 1).val), ?_, ?_⟩
  · refine (θ_run InProjIdeal.defs _ _).mono (fun r h c => ?_) (InProjIdeal.Value.run_blocks m g)
    obtain ⟨r0, r1, r2, r3, r4, k0, k1, k2, k3, k4⟩ := h c
    exact ⟨r0.trans (InProjIdeal.Calc.final5 m c), r1.trans (InProjIdeal.Calc.final6 m c), r2.trans (InProjIdeal.Calc.final7 m c), r3.trans (InProjIdeal.Calc.final8 m c), r4.trans (InProjIdeal.Calc.final9 m c), k0, k1, k2, k3, k4⟩
  · refine (θ_run InProjRefIdeal.defs _ _).mono (fun r h c => ?_) (InProjRefIdeal.Value.run m' g')
    obtain ⟨r0, r1, r2, r3, r4, k0, k1, k2, k3, k4⟩ := h c
    obtain ⟨a0, a1, a2, a3, a4⟩ := hag c
    refine ⟨?_, ?_, ?_, ?_, ?_, k0, k1, k2, k3, k4⟩
    · rw [r0, InProjRefIdeal.Read.val_main_v48_eq, a0, a1]
      exact InProjRefIdeal.Calc.ref48 _ _
    · rw [r1, InProjRefIdeal.Read.val_main_v13_eq, a0, a1, a2]
      exact InProjRefIdeal.Calc.ref13 _ _ _
    · rw [r2, InProjRefIdeal.Read.val_main_v51_eq, a0, a1, a2, a3]
      exact InProjRefIdeal.Calc.ref51 _ _ _ _
    · rw [r3, InProjRefIdeal.Read.val_main_v52_eq, a0, a1, a2, a4]
      exact InProjRefIdeal.Calc.ref52 _ _ _ _
    · rw [r4, InProjRefIdeal.Read.val_main_v53_eq, a0, a1, a2]
      exact InProjRefIdeal.Calc.ref53 _ _ _

/-- The residual stream after the output projection, and the convolved half. -/
theorem algebraic_OutProj : Cert.algebraic_OutProjIdeal_OutProjRefIdeal := by
  intro m g m' g' _ hag
  refine ⟨fun c => fun i : (⟨2, ![8192, 1024]⟩ : Shape).Idx => OutProjIdeal.Calc.Y (m (c.tc.loc OutProjIdeal.main_arg0)) (m (c.tc.loc OutProjIdeal.main_arg1)) (m (c.tc.loc OutProjIdeal.main_arg2)) (m (c.tc.loc OutProjIdeal.main_arg3)) (m (c.tc.loc OutProjIdeal.main_arg4)) (i 0).val (i 1).val,
    fun c => fun i : (⟨2, ![8192, 512]⟩ : Shape).Idx => OutProjIdeal.Calc.cv (m (c.tc.loc OutProjIdeal.main_arg2)) (m (c.tc.loc OutProjIdeal.main_arg3)) (i 0).val (i 1).val, ?_, ?_⟩
  · refine (θ_run OutProjIdeal.defs _ _).mono (fun r h c => ?_) (OutProjIdeal.Value.run_blocks m g)
    obtain ⟨r0, r1, k0, k1, k2, k3, k4⟩ := h c
    exact ⟨r0.trans (OutProjIdeal.Calc.final9 m c), r1.trans (OutProjIdeal.Calc.final10 m c), k0, k1, k2, k3, k4⟩
  · refine (θ_run OutProjRefIdeal.defs _ _).mono (fun r h c => ?_) (OutProjRefIdeal.Value.run m' g')
    obtain ⟨r0, r1, k0, k1, k2, k3, k4⟩ := h c
    obtain ⟨a0, a1, a2, a3, a4⟩ := hag c
    refine ⟨?_, ?_, k0, k1, k2, k3, k4⟩
    · rw [r0, OutProjRefIdeal.Read.val_main_v32_eq, a0, a1, a2, a3, a4]
      exact funext fun i => (congrArg (OutProjRefIdeal.Read.val_main_v32 (F := Ideal) _ _ _ _ _) (eq_ix2 (n0 := 8192) (n1 := 1024) i)).trans (OutProjRefIdeal.Calc.ref32 _ _ _ _ _ (i 0) (i 1))
    · rw [r1, OutProjRefIdeal.Read.val_main_v33_eq, a2, a3]
      exact funext fun i => (congrArg (OutProjRefIdeal.Read.val_main_v33 (F := Ideal) _ _) (eq_ix2 (n0 := 8192) (n1 := 512) i)).trans (OutProjRefIdeal.Calc.ref33 _ _ (i 0) (i 1))

/-- The residual stream after the gated block, the gate and up products, the gradient of the loss there, and the loss by columns. -/
theorem algebraic_FfnFwd : Cert.algebraic_FfnFwdIdeal_FfnFwdRefIdeal := by
  intro m g m' g' _ hag
  refine ⟨fun c => fun i : (⟨2, ![8192, 1024]⟩ : Shape).Idx => FfnFwdIdeal.Calc.Y (m (c.tc.loc FfnFwdIdeal.main_arg0)) (m (c.tc.loc FfnFwdIdeal.main_arg1)) (m (c.tc.loc FfnFwdIdeal.main_arg2)) (m (c.tc.loc FfnFwdIdeal.main_arg3)) (m (c.tc.loc FfnFwdIdeal.main_arg4)) (i 0).val (i 1).val,
    fun c => fun i : (⟨3, ![4, 8192, 704]⟩ : Shape).Idx => FfnFwdIdeal.Calc.gt (m (c.tc.loc FfnFwdIdeal.main_arg0)) (m (c.tc.loc FfnFwdIdeal.main_arg1)) (m (c.tc.loc FfnFwdIdeal.main_arg2)) (i 1).val (704 * (i 0).val + (i 2).val),
    fun c => fun i : (⟨3, ![4, 8192, 704]⟩ : Shape).Idx => FfnFwdIdeal.Calc.gt (m (c.tc.loc FfnFwdIdeal.main_arg0)) (m (c.tc.loc FfnFwdIdeal.main_arg1)) (m (c.tc.loc FfnFwdIdeal.main_arg3)) (i 1).val (704 * (i 0).val + (i 2).val),
    fun c => fun i : (⟨2, ![8192, 1024]⟩ : Shape).Idx => Ideal.div (FfnFwdIdeal.Calc.Y (m (c.tc.loc FfnFwdIdeal.main_arg0)) (m (c.tc.loc FfnFwdIdeal.main_arg1)) (m (c.tc.loc FfnFwdIdeal.main_arg2)) (m (c.tc.loc FfnFwdIdeal.main_arg3)) (m (c.tc.loc FfnFwdIdeal.main_arg4)) (i 0).val (i 1).val - Cert.Base.R (m (c.tc.loc FfnFwdIdeal.main_arg5)) (i 0).val (i 1).val) (Ideal.ofBits .f32 0x44800000#32),
    fun c => fun i : (⟨2, ![1, 1024]⟩ : Shape).Idx => FfnFwdIdeal.Calc.ls (m (c.tc.loc FfnFwdIdeal.main_arg0)) (m (c.tc.loc FfnFwdIdeal.main_arg1)) (m (c.tc.loc FfnFwdIdeal.main_arg2)) (m (c.tc.loc FfnFwdIdeal.main_arg3)) (m (c.tc.loc FfnFwdIdeal.main_arg4)) (m (c.tc.loc FfnFwdIdeal.main_arg5)) (i 1).val, ?_, ?_⟩
  · refine (θ_run FfnFwdIdeal.defs _ _).mono (fun r h c => ?_) (FfnFwdIdeal.Value.run_blocks m g)
    obtain ⟨r0, r1, r2, r3, r4, k0, k1, k2, k3, k4, k5⟩ := h c
    exact ⟨r0.trans (FfnFwdIdeal.Calc.final6 m c), r1.trans (FfnFwdIdeal.Calc.final7 m c), r2.trans (FfnFwdIdeal.Calc.final8 m c), r3.trans (FfnFwdIdeal.Calc.final9 m c), r4.trans (FfnFwdIdeal.Calc.final10 m c), k0, k1, k2, k3, k4, k5⟩
  · refine (θ_run FfnFwdRefIdeal.defs _ _).mono (fun r h c => ?_) (FfnFwdRefIdeal.Value.run m' g')
    obtain ⟨r0, r1, r2, r3, r4, k0, k1, k2, k3, k4, k5⟩ := h c
    obtain ⟨a0, a1, a2, a3, a4, a5⟩ := hag c
    refine ⟨?_, ?_, ?_, ?_, ?_, k0, k1, k2, k3, k4, k5⟩
    · rw [r0, FfnFwdRefIdeal.Read.val_main_v18_eq, a0, a1, a2, a3, a4]
      exact funext fun i => (congrArg (FfnFwdRefIdeal.Read.val_main_v18 (F := Ideal) _ _ _ _ _) (eq_ix2 (n0 := 8192) (n1 := 1024) i)).trans (FfnFwdRefIdeal.Calc.ref18 _ _ _ _ _ (i 0) (i 1))
    · rw [r1, FfnFwdRefIdeal.Read.val_main_v37_eq, a0, a1, a2]
      exact funext fun i => (congrArg (FfnFwdRefIdeal.Read.val_main_v37 (F := Ideal) _ _ _) (eq_ix3 (n0 := 4) (n1 := 8192) (n2 := 704) i)).trans (FfnFwdRefIdeal.Calc.ref37 _ _ _ (i 0) (i 1) (i 2))
    · rw [r2, FfnFwdRefIdeal.Read.val_main_v40_eq, a0, a1, a3]
      exact funext fun i => (congrArg (FfnFwdRefIdeal.Read.val_main_v40 (F := Ideal) _ _ _) (eq_ix3 (n0 := 4) (n1 := 8192) (n2 := 704) i)).trans (FfnFwdRefIdeal.Calc.ref40 _ _ _ (i 0) (i 1) (i 2))
    · rw [r3, FfnFwdRefIdeal.Read.val_main_v34_eq, a0, a1, a2, a3, a4, a5]
      exact funext fun i => (congrArg (FfnFwdRefIdeal.Read.val_main_v34 (F := Ideal) _ _ _ _ _ _) (eq_ix2 (n0 := 8192) (n1 := 1024) i)).trans (FfnFwdRefIdeal.Calc.ref34 _ _ _ _ _ _ (i 0) (i 1))
    · rw [r4, FfnFwdRefIdeal.Read.val_main_v48_eq, a0, a1, a2, a3, a4, a5]
      exact funext fun i => (congrArg (FfnFwdRefIdeal.Read.val_main_v48 (F := Ideal) _ _ _ _ _ _) (eq_ix2 (n0 := 1) (n1 := 1024) i)).trans (FfnFwdRefIdeal.Calc.ref48 _ _ _ _ _ _ (i 0) (i 1))

/-- The gradient at the stream, the parts of the gains, and the gradient at the projection. -/
theorem algebraic_InProjBwd : Cert.algebraic_InProjBwdIdeal_InProjBwdRefIdeal_pre_finite_in_proj := by
  intro m g m' g' hpre hag
  refine ⟨fun c => fun i : (⟨2, ![8192, 1024]⟩ : Shape).Idx => InProjBwdIdeal.Calc.dx (m (c.tc.loc InProjBwdIdeal.main_arg0)) (m (c.tc.loc InProjBwdIdeal.main_arg1)) (m (c.tc.loc InProjBwdIdeal.main_arg2)) (InProjBwdIdeal.Calc.dh (InProjBwdIdeal.Calc.dp (InProjIdeal.Calc.pj (m (c.tc.loc InProjBwdIdeal.main_arg0)) (m (c.tc.loc InProjBwdIdeal.main_arg2)) (m (c.tc.loc InProjBwdIdeal.main_arg3))) (m (c.tc.loc InProjBwdIdeal.main_arg4)) (m (c.tc.loc InProjBwdIdeal.main_arg5)) (m (c.tc.loc InProjBwdIdeal.main_arg6)) (m (c.tc.loc InProjBwdIdeal.main_arg7)) (m (c.tc.loc InProjBwdIdeal.main_arg8)) (m (c.tc.loc InProjBwdIdeal.main_arg9))) (m (c.tc.loc InProjBwdIdeal.main_arg3))) (i 0).val (i 1).val,
    fun c => fun i : (⟨2, ![1, 1024]⟩ : Shape).Idx => (∑ n : Fin 8192, InProjBwdIdeal.Calc.dgr (m (c.tc.loc InProjBwdIdeal.main_arg0)) (InProjBwdIdeal.Calc.dh (InProjBwdIdeal.Calc.dp (InProjIdeal.Calc.pj (m (c.tc.loc InProjBwdIdeal.main_arg0)) (m (c.tc.loc InProjBwdIdeal.main_arg2)) (m (c.tc.loc InProjBwdIdeal.main_arg3))) (m (c.tc.loc InProjBwdIdeal.main_arg4)) (m (c.tc.loc InProjBwdIdeal.main_arg5)) (m (c.tc.loc InProjBwdIdeal.main_arg6)) (m (c.tc.loc InProjBwdIdeal.main_arg7)) (m (c.tc.loc InProjBwdIdeal.main_arg8)) (m (c.tc.loc InProjBwdIdeal.main_arg9))) (m (c.tc.loc InProjBwdIdeal.main_arg3))) (i 1).val n.val : EReal),
    fun c => fun i : (⟨2, ![8192, 3072]⟩ : Shape).Idx => (InProjBwdIdeal.Calc.dp (InProjIdeal.Calc.pj (m (c.tc.loc InProjBwdIdeal.main_arg0)) (m (c.tc.loc InProjBwdIdeal.main_arg2)) (m (c.tc.loc InProjBwdIdeal.main_arg3))) (m (c.tc.loc InProjBwdIdeal.main_arg4)) (m (c.tc.loc InProjBwdIdeal.main_arg5)) (m (c.tc.loc InProjBwdIdeal.main_arg6)) (m (c.tc.loc InProjBwdIdeal.main_arg7)) (m (c.tc.loc InProjBwdIdeal.main_arg8)) (m (c.tc.loc InProjBwdIdeal.main_arg9))) (i 0).val (i 1).val,
    fun c => fun i : (⟨2, ![1, 512]⟩ : Shape).Idx => (∑ n : Fin 8192, InProjBwdIdeal.Calc.dhr (InProjIdeal.Calc.pj (m (c.tc.loc InProjBwdIdeal.main_arg0)) (m (c.tc.loc InProjBwdIdeal.main_arg2)) (m (c.tc.loc InProjBwdIdeal.main_arg3))) (InProjBwdIdeal.Calc.sq8 (m (c.tc.loc InProjBwdIdeal.main_arg6))) 0 (i 1).val n.val : EReal),
    fun c => fun i : (⟨2, ![1, 512]⟩ : Shape).Idx => (∑ n : Fin 8192, InProjBwdIdeal.Calc.dhr (InProjIdeal.Calc.pj (m (c.tc.loc InProjBwdIdeal.main_arg0)) (m (c.tc.loc InProjBwdIdeal.main_arg2)) (m (c.tc.loc InProjBwdIdeal.main_arg3))) (Cert.Base.R (m (c.tc.loc InProjBwdIdeal.main_arg7))) 512 (i 1).val n.val : EReal), ?_, ?_⟩
  · refine (θ_run InProjBwdIdeal.defs _ _).mono (fun r h c => ?_) (InProjBwdIdeal.Value.run_blocks m g)
    obtain ⟨r0, r1, r2, r3, r4, k0, k1, k2, k3, k4, k5, k6, k7, k8, k9⟩ := h c
    exact ⟨r0.trans (InProjBwdIdeal.Calc.final11 m c), r1.trans (InProjBwdIdeal.Calc.final12 m c), r2.trans (InProjBwdIdeal.Calc.final13 m c), r3.trans (InProjBwdIdeal.Calc.final14 m c), r4.trans (InProjBwdIdeal.Calc.final15 m c), k0, k1, k2, k3, k4, k5, k6, k7, k8, k9⟩
  · refine (θ_run InProjBwdRefIdeal.defs _ _).mono (fun r h c => ?_) (InProjBwdRefIdeal.Value.run m' g')
    obtain ⟨r0, r1, r2, r3, r4, k0, k1, k2, k3, k4, k5, k6, k7, k8, k9⟩ := h c
    obtain ⟨a0, a1, a2, a3, a4, a5, a6, a7, a8, a9⟩ := hag c
    refine ⟨?_, ?_, ?_, ?_, ?_, k0, k1, k2, k3, k4, k5, k6, k7, k8, k9⟩
    · refine (r0.trans (InProjBwdRefIdeal.Read.val_main_v135_eq (F := Ideal) (StableHlo.launchContents m' c))).trans ?_
      change InProjBwdRefIdeal.Read.val_main_v135 (F := Ideal) (m' (c.tc.loc InProjBwdRefIdeal.main_arg0)) (m' (c.tc.loc InProjBwdRefIdeal.main_arg1)) (m' (c.tc.loc InProjBwdRefIdeal.main_arg2)) (m' (c.tc.loc InProjBwdRefIdeal.main_arg3)) (m' (c.tc.loc InProjBwdRefIdeal.main_arg4)) (m' (c.tc.loc InProjBwdRefIdeal.main_arg5)) (m' (c.tc.loc InProjBwdRefIdeal.main_arg6)) (m' (c.tc.loc InProjBwdRefIdeal.main_arg7)) (m' (c.tc.loc InProjBwdRefIdeal.main_arg8)) (m' (c.tc.loc InProjBwdRefIdeal.main_arg9)) = _
      rw [a0, a1, a2, a3, a4, a5, a6, a7, a8, a9]
      exact InProjBwdRefIdeal.Calc.ref135 _ _ _ _ _ _ _ _ _ _ (hpre c)
    · refine (r1.trans (InProjBwdRefIdeal.Read.val_main_v136_eq (F := Ideal) (StableHlo.launchContents m' c))).trans ?_
      change InProjBwdRefIdeal.Read.val_main_v136 (F := Ideal) (m' (c.tc.loc InProjBwdRefIdeal.main_arg0)) (m' (c.tc.loc InProjBwdRefIdeal.main_arg2)) (m' (c.tc.loc InProjBwdRefIdeal.main_arg3)) (m' (c.tc.loc InProjBwdRefIdeal.main_arg4)) (m' (c.tc.loc InProjBwdRefIdeal.main_arg5)) (m' (c.tc.loc InProjBwdRefIdeal.main_arg6)) (m' (c.tc.loc InProjBwdRefIdeal.main_arg7)) (m' (c.tc.loc InProjBwdRefIdeal.main_arg8)) (m' (c.tc.loc InProjBwdRefIdeal.main_arg9)) = _
      rw [a0, a2, a3, a4, a5, a6, a7, a8, a9]
      exact InProjBwdRefIdeal.Calc.ref136 _ _ _ _ _ _ _ _ _ _ (hpre c)
    · refine (r2.trans (InProjBwdRefIdeal.Read.val_main_v137_eq (F := Ideal) (StableHlo.launchContents m' c))).trans ?_
      change InProjBwdRefIdeal.Read.val_main_v137 (F := Ideal) (m' (c.tc.loc InProjBwdRefIdeal.main_arg0)) (m' (c.tc.loc InProjBwdRefIdeal.main_arg2)) (m' (c.tc.loc InProjBwdRefIdeal.main_arg3)) (m' (c.tc.loc InProjBwdRefIdeal.main_arg4)) (m' (c.tc.loc InProjBwdRefIdeal.main_arg5)) (m' (c.tc.loc InProjBwdRefIdeal.main_arg6)) (m' (c.tc.loc InProjBwdRefIdeal.main_arg7)) (m' (c.tc.loc InProjBwdRefIdeal.main_arg8)) (m' (c.tc.loc InProjBwdRefIdeal.main_arg9)) = _
      rw [a0, a2, a3, a4, a5, a6, a7, a8, a9]
      exact InProjBwdRefIdeal.Calc.ref137 _ _ _ _ _ _ _ _ _ _ (hpre c)
    · refine (r3.trans (InProjBwdRefIdeal.Read.val_main_v138_eq (F := Ideal) (StableHlo.launchContents m' c))).trans ?_
      change InProjBwdRefIdeal.Read.val_main_v138 (F := Ideal) (m' (c.tc.loc InProjBwdRefIdeal.main_arg0)) (m' (c.tc.loc InProjBwdRefIdeal.main_arg2)) (m' (c.tc.loc InProjBwdRefIdeal.main_arg3)) (m' (c.tc.loc InProjBwdRefIdeal.main_arg6)) = _
      rw [a0, a2, a3, a6]
      exact InProjBwdRefIdeal.Calc.ref138 _ _ _ _ _ _ _ _ _ _ (hpre c)
    · refine (r4.trans (InProjBwdRefIdeal.Read.val_main_v139_eq (F := Ideal) (StableHlo.launchContents m' c))).trans ?_
      change InProjBwdRefIdeal.Read.val_main_v139 (F := Ideal) (m' (c.tc.loc InProjBwdRefIdeal.main_arg0)) (m' (c.tc.loc InProjBwdRefIdeal.main_arg2)) (m' (c.tc.loc InProjBwdRefIdeal.main_arg3)) (m' (c.tc.loc InProjBwdRefIdeal.main_arg7)) = _
      rw [a0, a2, a3, a7]
      exact InProjBwdRefIdeal.Calc.ref139 _ _ _ _ _ _ _ _ _ _ (hpre c)

set_option maxHeartbeats 1000000 in
/-- The gradient at the stream, the gain's, the normalised stream and the gradient passed along, and the gradients at the gate and up products and the gated product, by shards. -/
theorem algebraic_FfnBwd : Cert.algebraic_FfnBwdIdeal_FfnBwdRefIdeal_pre_finite_ffn := by
  intro m g m' g' hpre hag
  refine ⟨fun c => fun i : (⟨2, ![8192, 1024]⟩ : Shape).Idx => InProjBwdIdeal.Calc.dx (m (c.tc.loc FfnBwdIdeal.main_arg0)) (m (c.tc.loc FfnBwdIdeal.main_arg1)) (m (c.tc.loc FfnBwdIdeal.main_arg2)) (FfnBwdIdeal.Calc.dhf (FfnBwdIdeal.Calc.dgf (m (c.tc.loc FfnBwdIdeal.main_arg0)) (m (c.tc.loc FfnBwdIdeal.main_arg1)) (m (c.tc.loc FfnBwdIdeal.main_arg2)) (m (c.tc.loc FfnBwdIdeal.main_arg3)) (m (c.tc.loc FfnBwdIdeal.main_arg4)) (m (c.tc.loc FfnBwdIdeal.main_arg5))) (FfnBwdIdeal.Calc.duf (m (c.tc.loc FfnBwdIdeal.main_arg0)) (m (c.tc.loc FfnBwdIdeal.main_arg1)) (m (c.tc.loc FfnBwdIdeal.main_arg2)) (m (c.tc.loc FfnBwdIdeal.main_arg3)) (m (c.tc.loc FfnBwdIdeal.main_arg5))) (m (c.tc.loc FfnBwdIdeal.main_arg3)) (m (c.tc.loc FfnBwdIdeal.main_arg4))) (i 0).val (i 1).val,
    fun c => fun i : (⟨2, ![1, 1024]⟩ : Shape).Idx => (∑ n : Fin 8192, InProjBwdIdeal.Calc.dgr (m (c.tc.loc FfnBwdIdeal.main_arg0)) (FfnBwdIdeal.Calc.dhf (FfnBwdIdeal.Calc.dgf (m (c.tc.loc FfnBwdIdeal.main_arg0)) (m (c.tc.loc FfnBwdIdeal.main_arg1)) (m (c.tc.loc FfnBwdIdeal.main_arg2)) (m (c.tc.loc FfnBwdIdeal.main_arg3)) (m (c.tc.loc FfnBwdIdeal.main_arg4)) (m (c.tc.loc FfnBwdIdeal.main_arg5))) (FfnBwdIdeal.Calc.duf (m (c.tc.loc FfnBwdIdeal.main_arg0)) (m (c.tc.loc FfnBwdIdeal.main_arg1)) (m (c.tc.loc FfnBwdIdeal.main_arg2)) (m (c.tc.loc FfnBwdIdeal.main_arg3)) (m (c.tc.loc FfnBwdIdeal.main_arg5))) (m (c.tc.loc FfnBwdIdeal.main_arg3)) (m (c.tc.loc FfnBwdIdeal.main_arg4))) (i 1).val n.val : EReal),
    fun c => fun i : (⟨2, ![8192, 1024]⟩ : Shape).Idx => FfnFwdIdeal.Calc.hn (m (c.tc.loc FfnBwdIdeal.main_arg0)) (m (c.tc.loc FfnBwdIdeal.main_arg2)) (i 0).val (i 1).val,
    fun c => fun i : (⟨2, ![8192, 1024]⟩ : Shape).Idx => Cert.Base.R (m (c.tc.loc FfnBwdIdeal.main_arg1)) (i 0).val (i 1).val,
    fun c => fun i : (⟨3, ![4, 8192, 704]⟩ : Shape).Idx => (FfnBwdIdeal.Calc.dgf (m (c.tc.loc FfnBwdIdeal.main_arg0)) (m (c.tc.loc FfnBwdIdeal.main_arg1)) (m (c.tc.loc FfnBwdIdeal.main_arg2)) (m (c.tc.loc FfnBwdIdeal.main_arg3)) (m (c.tc.loc FfnBwdIdeal.main_arg4)) (m (c.tc.loc FfnBwdIdeal.main_arg5))) (i 1).val (704 * (i 0).val + (i 2).val),
    fun c => fun i : (⟨3, ![4, 8192, 704]⟩ : Shape).Idx => (FfnBwdIdeal.Calc.duf (m (c.tc.loc FfnBwdIdeal.main_arg0)) (m (c.tc.loc FfnBwdIdeal.main_arg1)) (m (c.tc.loc FfnBwdIdeal.main_arg2)) (m (c.tc.loc FfnBwdIdeal.main_arg3)) (m (c.tc.loc FfnBwdIdeal.main_arg5))) (i 1).val (704 * (i 0).val + (i 2).val),
    fun c => fun i : (⟨3, ![4, 8192, 704]⟩ : Shape).Idx => FfnBwdIdeal.Calc.acf (m (c.tc.loc FfnBwdIdeal.main_arg0)) (m (c.tc.loc FfnBwdIdeal.main_arg2)) (m (c.tc.loc FfnBwdIdeal.main_arg3)) (m (c.tc.loc FfnBwdIdeal.main_arg4)) (i 1).val (704 * (i 0).val + (i 2).val), ?_, ?_⟩
  · refine (θ_run FfnBwdIdeal.defs _ _).mono (fun r h c => ?_) (FfnBwdIdeal.Own.run_blocks m g)
    obtain ⟨r0, r1, r2, r3, r4, r5, r6, k0, k1, k2, k3, k4, k5⟩ := h c
    exact ⟨r0.trans (FfnBwdIdeal.Calc.final8 m c), r1.trans (FfnBwdIdeal.Calc.final9 m c), r2.trans (FfnBwdIdeal.Calc.final10 m c), r3.trans (FfnBwdIdeal.Calc.final11 m c), r4.trans (FfnBwdIdeal.Calc.final12 m c), r5.trans (FfnBwdIdeal.Calc.final13 m c), r6.trans (FfnBwdIdeal.Calc.final14 m c), k0, k1, k2, k3, k4, k5⟩
  · refine (θ_run FfnBwdRefIdeal.defs _ _).mono (fun r h c => ?_) (FfnBwdRefIdeal.Value.run m' g')
    obtain ⟨r0, r1, r2, r3, r4, r5, r6, k0, k1, k2, k3, k4, k5⟩ := h c
    obtain ⟨a0, a1, a2, a3, a4, a5⟩ := hag c
    refine ⟨?_, ?_, ?_, ?_, ?_, ?_, ?_, k0, k1, k2, k3, k4, k5⟩
    · refine (r0.trans (FfnBwdRefIdeal.Read.val_main_v48_eq (F := Ideal) m' c)).trans ?_
      change FfnBwdRefIdeal.Read.val_main_v48 (F := Ideal) (m' (c.tc.loc FfnBwdRefIdeal.main_arg0)) (m' (c.tc.loc FfnBwdRefIdeal.main_arg1)) (m' (c.tc.loc FfnBwdRefIdeal.main_arg2)) (m' (c.tc.loc FfnBwdRefIdeal.main_arg3)) (m' (c.tc.loc FfnBwdRefIdeal.main_arg4)) (m' (c.tc.loc FfnBwdRefIdeal.main_arg5)) = _
      rw [a0, a1, a2, a3, a4, a5]
      exact FfnBwdRefIdeal.Calc.ref48 _ _ _ _ _ _ (hpre c)
    · refine (r1.trans (FfnBwdRefIdeal.Read.val_main_v49_eq (F := Ideal) m' c)).trans ?_
      change FfnBwdRefIdeal.Read.val_main_v49 (F := Ideal) (m' (c.tc.loc FfnBwdRefIdeal.main_arg0)) (m' (c.tc.loc FfnBwdRefIdeal.main_arg1)) (m' (c.tc.loc FfnBwdRefIdeal.main_arg2)) (m' (c.tc.loc FfnBwdRefIdeal.main_arg3)) (m' (c.tc.loc FfnBwdRefIdeal.main_arg4)) (m' (c.tc.loc FfnBwdRefIdeal.main_arg5)) = _
      rw [a0, a1, a2, a3, a4, a5]
      exact FfnBwdRefIdeal.Calc.ref49 _ _ _ _ _ _ (hpre c)
    · refine (r2.trans (FfnBwdRefIdeal.Read.val_main_v50_eq (F := Ideal) _ _)).trans ?_
      change FfnBwdRefIdeal.Read.val_main_v50 (F := Ideal) (m' (c.tc.loc FfnBwdRefIdeal.main_arg0)) (m' (c.tc.loc FfnBwdRefIdeal.main_arg2)) = _
      rw [a0, a2]
      exact FfnBwdRefIdeal.Calc.ref50 _ _
    · refine (r3.trans (FfnBwdRefIdeal.Read.val_main_v51_eq (F := Ideal) _)).trans ?_
      change FfnBwdRefIdeal.Read.val_main_v51 (F := Ideal) (m' (c.tc.loc FfnBwdRefIdeal.main_arg1)) = _
      rw [a1]
      exact FfnBwdRefIdeal.Calc.ref51 _
    · refine (r4.trans (FfnBwdRefIdeal.Read.val_main_v54_eq (F := Ideal) m' c)).trans ?_
      change FfnBwdRefIdeal.Read.val_main_v54 (F := Ideal) (m' (c.tc.loc FfnBwdRefIdeal.main_arg0)) (m' (c.tc.loc FfnBwdRefIdeal.main_arg1)) (m' (c.tc.loc FfnBwdRefIdeal.main_arg2)) (m' (c.tc.loc FfnBwdRefIdeal.main_arg3)) (m' (c.tc.loc FfnBwdRefIdeal.main_arg4)) (m' (c.tc.loc FfnBwdRefIdeal.main_arg5)) = _
      rw [a0, a1, a2, a3, a4, a5]
      exact FfnBwdRefIdeal.Calc.ref54 _ _ _ _ _ _ (hpre c)
    · refine (r5.trans (FfnBwdRefIdeal.Read.val_main_v57_eq (F := Ideal) _ _ _ _ _)).trans ?_
      change FfnBwdRefIdeal.Read.val_main_v57 (F := Ideal) (m' (c.tc.loc FfnBwdRefIdeal.main_arg0)) (m' (c.tc.loc FfnBwdRefIdeal.main_arg1)) (m' (c.tc.loc FfnBwdRefIdeal.main_arg2)) (m' (c.tc.loc FfnBwdRefIdeal.main_arg3)) (m' (c.tc.loc FfnBwdRefIdeal.main_arg5)) = _
      rw [a0, a1, a2, a3, a5]
      exact FfnBwdRefIdeal.Calc.ref57 _ _ _ _ _
    · refine (r6.trans (FfnBwdRefIdeal.Read.val_main_v60_eq (F := Ideal) _ _ _ _)).trans ?_
      change FfnBwdRefIdeal.Read.val_main_v60 (F := Ideal) (m' (c.tc.loc FfnBwdRefIdeal.main_arg0)) (m' (c.tc.loc FfnBwdRefIdeal.main_arg2)) (m' (c.tc.loc FfnBwdRefIdeal.main_arg3)) (m' (c.tc.loc FfnBwdRefIdeal.main_arg4)) = _
      rw [a0, a2, a3, a4]
      exact FfnBwdRefIdeal.Calc.ref60 _ _ _ _

open AdamwInIdeal.Calc Cert.Adam in
/-- AdamW on the input projection. -/
theorem algebraic_AdamwIn : Cert.algebraic_AdamwInIdeal_AdamwInRefIdeal := by
  intro m g m' g' _ hag
  refine ⟨fun c i => delta (W m c i) (G m c i) (M m c i) (U m c i), fun c i => nm (G m c i) (M m c i), fun c i => nv (G m c i) (U m c i), fun c i => G m c i, ?_, ?_⟩
  · refine (θ_run AdamwInIdeal.defs _ _).mono (fun r h c => ?_) (AdamwInIdeal.Value.run_blocks m g)
    obtain ⟨r0, r1, r2, r3, k⟩ := h c
    exact ⟨r0.trans (final4 m c), r1.trans (final5 m c), r2.trans (final6 m c), r3.trans (final7 m c), k⟩
  · refine (θ_run AdamwInRefIdeal.defs _ _).mono (fun r h c => ?_) (AdamwInRefIdeal.Value.run m' g')
    obtain ⟨r0, r1, r2, r3, k⟩ := h c
    obtain ⟨a0, a1, a2, a3⟩ := hag c
    rw [a0, a1, a2, a3] at r0
    rw [a1, a2] at r1
    rw [a1, a3] at r2
    rw [a1] at r3
    exact ⟨r0.trans (AdamwInRefIdeal.Calc.ref24 _ _ _ _), r1.trans (AdamwInRefIdeal.Calc.ref25 _ _), r2.trans (AdamwInRefIdeal.Calc.ref26 _ _), r3, k⟩

open AdamwOutIdeal.Calc Cert.Adam in
/-- AdamW on the output projection. -/
theorem algebraic_AdamwOut : Cert.algebraic_AdamwOutIdeal_AdamwOutRefIdeal := by
  intro m g m' g' _ hag
  refine ⟨fun c i => delta (W m c i) (G m c i) (M m c i) (U m c i), fun c i => nm (G m c i) (M m c i), fun c i => nv (G m c i) (U m c i), fun c i => G m c i, ?_, ?_⟩
  · refine (θ_run AdamwOutIdeal.defs _ _).mono (fun r h c => ?_) (AdamwOutIdeal.Value.run_blocks m g)
    obtain ⟨r0, r1, r2, r3, k⟩ := h c
    exact ⟨r0.trans (final4 m c), r1.trans (final5 m c), r2.trans (final6 m c), r3.trans (final7 m c), k⟩
  · refine (θ_run AdamwOutRefIdeal.defs _ _).mono (fun r h c => ?_) (AdamwOutRefIdeal.Value.run m' g')
    obtain ⟨r0, r1, r2, r3, k⟩ := h c
    obtain ⟨a0, a1, a2, a3⟩ := hag c
    rw [a0, a1, a2, a3] at r0
    rw [a1, a2] at r1
    rw [a1, a3] at r2
    rw [a1] at r3
    exact ⟨r0.trans (AdamwOutRefIdeal.Calc.ref24 _ _ _ _), r1.trans (AdamwOutRefIdeal.Calc.ref25 _ _), r2.trans (AdamwOutRefIdeal.Calc.ref26 _ _), r3, k⟩

open AdamwGateIdeal.Calc Cert.Adam in
/-- AdamW on the gate projection, and on the up projection. -/
theorem algebraic_AdamwGate : Cert.algebraic_AdamwGateIdeal_AdamwGateRefIdeal := by
  intro m g m' g' _ hag
  refine ⟨fun c i => delta (W m c i) (G m c i) (M m c i) (U m c i), fun c i => nm (G m c i) (M m c i), fun c i => nv (G m c i) (U m c i), fun c i => G m c i, ?_, ?_⟩
  · refine (θ_run AdamwGateIdeal.defs _ _).mono (fun r h c => ?_) (AdamwGateIdeal.Value.run_blocks m g)
    obtain ⟨r0, r1, r2, r3, k⟩ := h c
    exact ⟨r0.trans (final4 m c), r1.trans (final5 m c), r2.trans (final6 m c), r3.trans (final7 m c), k⟩
  · refine (θ_run AdamwGateRefIdeal.defs _ _).mono (fun r h c => ?_) (AdamwGateRefIdeal.Value.run m' g')
    obtain ⟨r0, r1, r2, r3, k⟩ := h c
    obtain ⟨a0, a1, a2, a3⟩ := hag c
    rw [a0, a1, a2, a3] at r0
    rw [a1, a2] at r1
    rw [a1, a3] at r2
    rw [a1] at r3
    exact ⟨r0.trans (AdamwGateRefIdeal.Calc.ref24 _ _ _ _), r1.trans (AdamwGateRefIdeal.Calc.ref25 _ _), r2.trans (AdamwGateRefIdeal.Calc.ref26 _ _), r3, k⟩

open AdamwDownIdeal.Calc Cert.Adam in
/-- AdamW on the down projection. -/
theorem algebraic_AdamwDown : Cert.algebraic_AdamwDownIdeal_AdamwDownRefIdeal := by
  intro m g m' g' _ hag
  refine ⟨fun c i => delta (W m c i) (G m c i) (M m c i) (U m c i), fun c i => nm (G m c i) (M m c i), fun c i => nv (G m c i) (U m c i), fun c i => G m c i, ?_, ?_⟩
  · refine (θ_run AdamwDownIdeal.defs _ _).mono (fun r h c => ?_) (AdamwDownIdeal.Value.run_blocks m g)
    obtain ⟨r0, r1, r2, r3, k⟩ := h c
    exact ⟨r0.trans (final4 m c), r1.trans (final5 m c), r2.trans (final6 m c), r3.trans (final7 m c), k⟩
  · refine (θ_run AdamwDownRefIdeal.defs _ _).mono (fun r h c => ?_) (AdamwDownRefIdeal.Value.run m' g')
    obtain ⟨r0, r1, r2, r3, k⟩ := h c
    obtain ⟨a0, a1, a2, a3⟩ := hag c
    rw [a0, a1, a2, a3] at r0
    rw [a1, a2] at r1
    rw [a1, a3] at r2
    rw [a1] at r3
    exact ⟨r0.trans (AdamwDownRefIdeal.Calc.ref24 _ _ _ _), r1.trans (AdamwDownRefIdeal.Calc.ref25 _ _), r2.trans (AdamwDownRefIdeal.Calc.ref26 _ _), r3, k⟩

open AdamwSmallRefIdeal.Calc in
/-- AdamW on the small weights' packed rows. -/
theorem algebraic_AdamwSmall : Cert.algebraic_AdamwSmallIdeal_AdamwSmallRefIdeal := by
  intro m g m' g' _ hag
  refine ⟨fun c => AdamwSmallIdeal.Value.G4 (m (c.tc.loc AdamwSmallIdeal.main_arg0)) (m (c.tc.loc AdamwSmallIdeal.main_arg1)) (m (c.tc.loc AdamwSmallIdeal.main_arg2)) (m (c.tc.loc AdamwSmallIdeal.main_arg3)), fun c => AdamwSmallIdeal.Value.G5 (m (c.tc.loc AdamwSmallIdeal.main_arg0)) (m (c.tc.loc AdamwSmallIdeal.main_arg1)) (m (c.tc.loc AdamwSmallIdeal.main_arg2)) (m (c.tc.loc AdamwSmallIdeal.main_arg3)), fun c => AdamwSmallIdeal.Value.G6 (m (c.tc.loc AdamwSmallIdeal.main_arg0)) (m (c.tc.loc AdamwSmallIdeal.main_arg1)) (m (c.tc.loc AdamwSmallIdeal.main_arg2)) (m (c.tc.loc AdamwSmallIdeal.main_arg3)), (θ_run AdamwSmallIdeal.defs _ _).mono (fun r h c => ?_) (AdamwSmallIdeal.Value.run m g), ?_⟩
  · obtain ⟨r0, r1, r2, -, k⟩ := h c
    exact ⟨r0, r1, r2, k⟩
  · refine (θ_run AdamwSmallRefIdeal.defs _ _).mono (fun r h c => ?_) (AdamwSmallRefIdeal.Value.run m' g')
    obtain ⟨r0, r1, r2, k⟩ := h c
    obtain ⟨a0, a1, a2, a3⟩ := hag c
    rw [a0, a1, a2, a3] at r0
    rw [a1, a2] at r1
    rw [a1, a3] at r2
    exact ⟨r0.trans (ref23 _ _ _ _), r1.trans (ref4 _ _ _ _), r2.trans (ref10 _ _ _ _), k⟩

/-- The sum over the devices, the gains summed over the heads, and the row sums. -/
theorem algebraic_SumSmall : Cert.algebraic_SumSmallIdeal_SumSmallRefIdeal := by
  intro m g m' g' _ hag
  refine ⟨fun c => fun i => Sums.S (Sums.X m c) (i 0).val (i 1).val, fun c => fun i => (Sums.H (Sums.X m c) (8 + (i 0).val) (i 1).val + Sums.H (Sums.X m c) (8 + (i 0).val) (((i 1).val + 128 - 64) % 128) : EReal), fun c => fun i => (∑ k : Fin 1024, Sums.S (Sums.X m c) (i 0).val k.val : EReal), ?_, ?_⟩
  · refine (θ_run SumSmallIdeal.defs _ _).mono (fun r h c => ?_) (SumSmallIdeal.Value.run_blocks m g)
    obtain ⟨r0, r1, r2, k0⟩ := h c
    exact ⟨r0.trans (Sums.final1 m c), r1.trans (Sums.final2 m c), r2.trans (Sums.final3 m c), k0⟩
  · refine (θ_run SumSmallRefIdeal.defs _ _).mono (fun r h c => ?_) (SumSmallRefIdeal.Value.run m' g')
    obtain ⟨r0, r1, r2, k0⟩ := h c
    have a0 := hag c
    refine ⟨?_, ?_, ?_, k0⟩
    · rw [r0, SumSmallRefIdeal.Read.val_main_v0_eq, a0]; exact Sums.Ref.v0 _
    · rw [r1, SumSmallRefIdeal.Read.val_main_v7_eq, a0]; exact Sums.Ref.v7 _
    · rw [r2, SumSmallRefIdeal.Read.val_main_v8_eq, a0]; exact Sums.Ref.v8 _

theorem claim : Cert.Claim := ⟨Cert.Kernel.Gen.facts,
  KernelIdeal.Gen.facts,
  ReferenceIdeal.Gen.facts,
  WgradGateUp.Gen.facts,
  WgradGateUpIdeal.Gen.facts,
  WgradGateUpRefIdeal.Gen.facts,
  WgradDown.Gen.facts,
  WgradDownIdeal.Gen.facts,
  WgradDownRefIdeal.Gen.facts,
  OutProjBwd.Gen.facts,
  OutProjBwdIdeal.Gen.facts,
  OutProjBwdRefIdeal.Gen.facts,
  WgradOut.Gen.facts,
  WgradOutIdeal.Gen.facts,
  WgradOutRefIdeal.Gen.facts,
  WgradIn.Gen.facts,
  WgradInIdeal.Gen.facts,
  WgradInRefIdeal.Gen.facts,
  InProj.Gen.facts,
  InProjIdeal.Gen.facts,
  InProjRefIdeal.Gen.facts,
  OutProj.Gen.facts,
  OutProjIdeal.Gen.facts,
  OutProjRefIdeal.Gen.facts,
  FfnFwd.Gen.facts,
  FfnFwdIdeal.Gen.facts,
  FfnFwdRefIdeal.Gen.facts,
  InProjBwd.Gen.facts,
  InProjBwdIdeal.Gen.facts,
  InProjBwdRefIdeal.Gen.facts,
  FfnBwd.Gen.facts,
  FfnBwdIdeal.Gen.facts,
  FfnBwdRefIdeal.Gen.facts,
  AdamwIn.Gen.facts,
  AdamwInIdeal.Gen.facts,
  AdamwInRefIdeal.Gen.facts,
  AdamwOut.Gen.facts,
  AdamwOutIdeal.Gen.facts,
  AdamwOutRefIdeal.Gen.facts,
  AdamwGate.Gen.facts,
  AdamwGateIdeal.Gen.facts,
  AdamwGateRefIdeal.Gen.facts,
  AdamwDown.Gen.facts,
  AdamwDownIdeal.Gen.facts,
  AdamwDownRefIdeal.Gen.facts,
  AdamwSmall.Gen.facts,
  AdamwSmallIdeal.Gen.facts,
  AdamwSmallRefIdeal.Gen.facts,
  SumSmall.Gen.facts,
  SumSmallIdeal.Gen.facts,
  SumSmallRefIdeal.Gen.facts,
  Cert.Pre_finite_in_proj.Gen.facts,
  Cert.Pre_finite_ffn.Gen.facts,
  Cert.On_conv_columns.Gen.facts,
  fun m g _ => Cert.Kernel.Gen.frame m g,
  fun m g _ => KernelIdeal.Gen.frame m g,
  fun m g _ => (θ_run ReferenceIdeal.defs _ _).mono (fun r h => ⟨fun c => (h c).2.2, sem_eq_zero_of_no_sems (by decide) r.2⟩) (ReferenceIdeal.Value.run m g),
  fun m g _ => WgradGateUp.Gen.frame m g,
  fun m g _ => WgradGateUpIdeal.Gen.frame m g,
  fun m g _ => (θ_run WgradGateUpRefIdeal.defs _ _).mono (fun r h => ⟨fun c => (h c).2.2, sem_eq_zero_of_no_sems (by decide) r.2⟩) (WgradGateUpRefIdeal.Value.run m g),
  fun m g _ => WgradDown.Gen.frame m g,
  fun m g _ => WgradDownIdeal.Gen.frame m g,
  fun m g _ => (θ_run WgradDownRefIdeal.defs _ _).mono (fun r h => ⟨fun c => (h c).2, sem_eq_zero_of_no_sems (by decide) r.2⟩) (WgradDownRefIdeal.Value.run m g),
  fun m g _ => OutProjBwd.Gen.frame m g,
  fun m g _ => OutProjBwdIdeal.Gen.frame m g,
  fun m g _ => (θ_run OutProjBwdRefIdeal.defs _ _).mono (fun r h => ⟨fun c => (h c).2.2.2, sem_eq_zero_of_no_sems (by decide) r.2⟩) (OutProjBwdRefIdeal.Value.run m g),
  fun m g _ => WgradOut.Gen.frame m g,
  fun m g _ => WgradOutIdeal.Gen.frame m g,
  fun m g _ => (θ_run WgradOutRefIdeal.defs _ _).mono (fun r h => ⟨fun c => (h c).2, sem_eq_zero_of_no_sems (by decide) r.2⟩) (WgradOutRefIdeal.Value.run m g),
  fun m g _ => WgradIn.Gen.frame m g,
  fun m g _ => WgradInIdeal.Gen.frame m g,
  fun m g _ => (θ_run WgradInRefIdeal.defs _ _).mono (fun r h => ⟨fun c => (h c).2, sem_eq_zero_of_no_sems (by decide) r.2⟩) (WgradInRefIdeal.Value.run m g),
  fun m g _ => InProj.Gen.frame m g,
  fun m g _ => InProjIdeal.Gen.frame m g,
  fun m g _ => (θ_run InProjRefIdeal.defs _ _).mono (fun r h => ⟨fun c => (h c).2.2.2.2.2, sem_eq_zero_of_no_sems (by decide) r.2⟩) (InProjRefIdeal.Value.run m g),
  fun m g _ => OutProj.Gen.frame m g,
  fun m g _ => OutProjIdeal.Gen.frame m g,
  fun m g _ => (θ_run OutProjRefIdeal.defs _ _).mono (fun r h => ⟨fun c => (h c).2.2, sem_eq_zero_of_no_sems (by decide) r.2⟩) (OutProjRefIdeal.Value.run m g),
  fun m g _ => FfnFwd.Gen.frame m g,
  fun m g _ => FfnFwdIdeal.Gen.frame m g,
  fun m g _ => (θ_run FfnFwdRefIdeal.defs _ _).mono (fun r h => ⟨fun c => (h c).2.2.2.2.2, sem_eq_zero_of_no_sems (by decide) r.2⟩) (FfnFwdRefIdeal.Value.run m g),
  fun m g _ => InProjBwd.Gen.frame m g,
  fun m g _ => InProjBwdIdeal.Gen.frame m g,
  fun m g _ => InProjBwdIdeal.Gen.frame m g,
  fun m g _ => (θ_run InProjBwdRefIdeal.defs _ _).mono (fun r h => ⟨fun c => (h c).2.2.2.2.2, sem_eq_zero_of_no_sems (by decide) r.2⟩) (InProjBwdRefIdeal.Value.run m g),
  fun m g _ => (θ_run InProjBwdRefIdeal.defs _ _).mono (fun r h => ⟨fun c => (h c).2.2.2.2.2, sem_eq_zero_of_no_sems (by decide) r.2⟩) (InProjBwdRefIdeal.Value.run m g),
  fun m g _ => FfnBwd.Own.frame m g,
  fun m g _ => FfnBwdIdeal.Own.frame m g,
  fun m g _ => FfnBwdIdeal.Own.frame m g,
  fun m g _ => (θ_run FfnBwdRefIdeal.defs _ _).mono (fun r h => ⟨fun c => (h c).2.2.2.2.2.2.2, sem_eq_zero_of_no_sems (by decide) r.2⟩) (FfnBwdRefIdeal.Value.run m g),
  fun m g _ => (θ_run FfnBwdRefIdeal.defs _ _).mono (fun r h => ⟨fun c => (h c).2.2.2.2.2.2.2, sem_eq_zero_of_no_sems (by decide) r.2⟩) (FfnBwdRefIdeal.Value.run m g),
  fun m g _ => AdamwIn.Gen.frame m g,
  fun m g _ => AdamwInIdeal.Gen.frame m g,
  fun m g _ => (θ_run AdamwInRefIdeal.defs _ _).mono (fun r h => ⟨fun c => (h c).2.2.2.2, sem_eq_zero_of_no_sems (by decide) r.2⟩) (AdamwInRefIdeal.Value.run m g),
  fun m g _ => AdamwOut.Gen.frame m g,
  fun m g _ => AdamwOutIdeal.Gen.frame m g,
  fun m g _ => (θ_run AdamwOutRefIdeal.defs _ _).mono (fun r h => ⟨fun c => (h c).2.2.2.2, sem_eq_zero_of_no_sems (by decide) r.2⟩) (AdamwOutRefIdeal.Value.run m g),
  fun m g _ => AdamwGate.Gen.frame m g,
  fun m g _ => AdamwGateIdeal.Gen.frame m g,
  fun m g _ => (θ_run AdamwGateRefIdeal.defs _ _).mono (fun r h => ⟨fun c => (h c).2.2.2.2, sem_eq_zero_of_no_sems (by decide) r.2⟩) (AdamwGateRefIdeal.Value.run m g),
  fun m g _ => AdamwDown.Gen.frame m g,
  fun m g _ => AdamwDownIdeal.Gen.frame m g,
  fun m g _ => (θ_run AdamwDownRefIdeal.defs _ _).mono (fun r h => ⟨fun c => (h c).2.2.2.2, sem_eq_zero_of_no_sems (by decide) r.2⟩) (AdamwDownRefIdeal.Value.run m g),
  fun m g _ => AdamwSmall.Gen.frame m g,
  fun m g _ => AdamwSmallIdeal.Gen.frame m g,
  fun m g _ => (θ_run AdamwSmallRefIdeal.defs _ _).mono (fun r h => ⟨fun c => (h c).2.2.2, sem_eq_zero_of_no_sems (by decide) r.2⟩) (AdamwSmallRefIdeal.Value.run m g),
  fun m g _ => SumSmall.Gen.frame m g,
  fun m g _ => SumSmallIdeal.Gen.frame m g,
  fun m g _ => (θ_run SumSmallRefIdeal.defs _ _).mono (fun r h => ⟨fun c => (h c).2.2.2, sem_eq_zero_of_no_sems (by decide) r.2⟩) (SumSmallRefIdeal.Value.run m g),
  trivial,
  algebraic_conv,
  trivial,
  algebraic_WgradGateUp,
  trivial,
  algebraic_WgradDown,
  trivial,
  algebraic_OutProjBwd,
  trivial,
  algebraic_WgradOut,
  trivial,
  algebraic_WgradIn,
  trivial,
  algebraic_InProj,
  trivial,
  algebraic_OutProj,
  trivial,
  algebraic_FfnFwd,
  trivial,
  algebraic_InProjBwd,
  trivial,
  algebraic_FfnBwd,
  trivial,
  algebraic_AdamwIn,
  trivial,
  algebraic_AdamwOut,
  trivial,
  algebraic_AdamwGate,
  trivial,
  algebraic_AdamwDown,
  trivial,
  algebraic_AdamwSmall,
  trivial,
  algebraic_SumSmall⟩

end Cert.Proof

end
